-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gradients_finite [hPre_gradients_finite : Cert.Pre_gradients_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gradients_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gradients_finite [hPre_gradients_finite : Cert.Pre_gradients_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gradients_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_FfnDwo (m : (ℓ : Loc Cert.FfnDwo.nD Cert.FfnDwo.τ Cert.FfnDwo.sig) → Buf (Elt Bits) ℓ) : Prop :=
  True

def Pre_FfnDwoIdeal (m : (ℓ : Loc Cert.FfnDwoIdeal.nD Cert.FfnDwoIdeal.τ Cert.FfnDwoIdeal.sig) → Buf (Elt Ideal) ℓ) : Prop :=
  True

def Pre_FfnDwoRefIdeal (m : (ℓ : Loc Cert.FfnDwoRefIdeal.nD Cert.FfnDwoRefIdeal.τ Cert.FfnDwoRefIdeal.sig) → Buf (Elt Ideal) ℓ) : Prop :=
  True

def Pre_FfnDownBwd (m : (ℓ : Loc Cert.FfnDownBwd.nD Cert.FfnDownBwd.τ Cert.FfnDownBwd.sig) → Buf (Elt Bits) ℓ) : Prop :=
  True

def Pre_FfnDownBwdIdeal (m : (ℓ : Loc Cert.FfnDownBwdIdeal.nD Cert.FfnDownBwdIdeal.τ Cert.FfnDownBwdIdeal.sig) → Buf (Elt Ideal) ℓ) : Prop :=
  True

def Pre_FfnDownBwdIdeal_activations_finite [hPre_activations_finite : Cert.Pre_activations_finite.Facts] (m : (ℓ : Loc Cert.FfnDownBwdIdeal.nD Cert.FfnDownBwdIdeal.τ Cert.FfnDownBwdIdeal.sig) → Buf (Elt Ideal) ℓ) : Prop :=
  ∀ c : Dev Cert.FfnDownBwdIdeal.nD,
    (Cert.Pre_activations_finite.fn (F := Ideal) (m ((c.tc : Thread Cert.FfnDownBwdIdeal.nD Cert.FfnDownBwdIdeal.τ).loc Cert.FfnDownBwdIdeal.main_arg0)) (m ((c.tc : Thread Cert.FfnDownBwdIdeal.nD Cert.FfnDownBwdIdeal.τ).loc Cert.FfnDownBwdIdeal.main_arg1)) (m ((c.tc : Thread Cert.FfnDownBwdIdeal.nD Cert.FfnDownBwdIdeal.τ).loc Cert.FfnDownBwdIdeal.main_arg2)) (m ((c.tc : Thread Cert.FfnDownBwdIdeal.nD Cert.FfnDownBwdIdeal.τ).loc Cert.FfnDownBwdIdeal.main_arg3))) = (fun _ => 1#1)

def Pre_FfnDownBwdRefIdeal (m : (ℓ : Loc Cert.FfnDownBwdRefIdeal.nD Cert.FfnDownBwdRefIdeal.τ Cert.FfnDownBwdRefIdeal.sig) → Buf (Elt Ideal) ℓ) : Prop :=
  True

def Pre_FfnDownBwdRefIdeal_activations_finite [hPre_activations_finite : Cert.Pre_activations_finite.Facts] (m : (ℓ : Loc Cert.FfnDownBwdRefIdeal.nD Cert.FfnDownBwdRefIdeal.τ Cert.FfnDownBwdRefIdeal.sig) → Buf (Elt Ideal) ℓ) : Prop :=
  ∀ c : Dev Cert.FfnDownBwdRefIdeal.nD,
    (Cert.Pre_activations_finite.fn (F := Ideal) (m ((c.tc : Thread Cert.FfnDownBwdRefIdeal.nD Cert.FfnDownBwdRefIdeal.τ).loc Cert.FfnDownBwdRefIdeal.main_arg0)) (m ((c.tc : Thread Cert.FfnDownBwdRefIdeal.nD Cert.FfnDownBwdRefIdeal.τ).loc Cert.FfnDownBwdRefIdeal.main_arg1)) (m ((c.tc : Thread Cert.FfnDownBwdRefIdeal.nD Cert.FfnDownBwdRefIdeal.τ).loc Cert.FfnDownBwdRefIdeal.main_arg2)) (m ((c.tc : Thread Cert.FfnDownBwdRefIdeal.nD Cert.FfnDownBwdRefIdeal.τ).loc Cert.FfnDownBwdRefIdeal.main_arg3))) = (fun _ => 1#1)

def Pre_FfnDwi (m : (ℓ : Loc Cert.FfnDwi.nD Cert.FfnDwi.τ Cert.FfnDwi.sig) → Buf (Elt Bits) ℓ) : Prop :=
  True

def Pre_FfnDwiIdeal (m : (ℓ : Loc Cert.FfnDwiIdeal.nD Cert.FfnDwiIdeal.τ Cert.FfnDwiIdeal.sig) → Buf (Elt Ideal) ℓ) : Prop :=
  True

def Pre_FfnDwiRefIdeal (m : (ℓ : Loc Cert.FfnDwiRefIdeal.nD Cert.FfnDwiRefIdeal.τ Cert.FfnDwiRefIdeal.sig) → Buf (Elt Ideal) ℓ) : Prop :=
  True

def Pre_FfnDhm (m : (ℓ : Loc Cert.FfnDhm.nD Cert.FfnDhm.τ Cert.FfnDhm.sig) → Buf (Elt Bits) ℓ) : Prop :=
  True

def Pre_FfnDhmIdeal (m : (ℓ : Loc Cert.FfnDhmIdeal.nD Cert.FfnDhmIdeal.τ Cert.FfnDhmIdeal.sig) → Buf (Elt Ideal) ℓ) : Prop :=
  True

def Pre_FfnDhmRefIdeal (m : (ℓ : Loc Cert.FfnDhmRefIdeal.nD Cert.FfnDhmRefIdeal.τ Cert.FfnDhmRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_MixDwOut (m : (ℓ : Loc Cert.MixDwOut.nD Cert.MixDwOut.τ Cert.MixDwOut.sig) → Buf (Elt Bits) ℓ) : Prop :=
  True

def Pre_MixDwOutIdeal (m : (ℓ : Loc Cert.MixDwOutIdeal.nD Cert.MixDwOutIdeal.τ Cert.MixDwOutIdeal.sig) → Buf (Elt Ideal) ℓ) : Prop :=
  True

def Pre_MixDwOutRefIdeal (m : (ℓ : Loc Cert.MixDwOutRefIdeal.nD Cert.MixDwOutRefIdeal.τ Cert.MixDwOutRefIdeal.sig) → Buf (Elt Ideal) ℓ) : Prop :=
  True

def Pre_MixOutBwd (m : (ℓ : Loc Cert.MixOutBwd.nD Cert.MixOutBwd.τ Cert.MixOutBwd.sig) → Buf (Elt Bits) ℓ) : Prop :=
  True

def Pre_MixOutBwdIdeal (m : (ℓ : Loc Cert.MixOutBwdIdeal.nD Cert.MixOutBwdIdeal.τ Cert.MixOutBwdIdeal.sig) → Buf (Elt Ideal) ℓ) : Prop :=
  True

def Pre_MixOutBwdRefIdeal (m : (ℓ : Loc Cert.MixOutBwdRefIdeal.nD Cert.MixOutBwdRefIdeal.τ Cert.MixOutBwdRefIdeal.sig) → Buf (Elt Ideal) ℓ) : Prop :=
  True

def Pre_MixDwIn (m : (ℓ : Loc Cert.MixDwIn.nD Cert.MixDwIn.τ Cert.MixDwIn.sig) → Buf (Elt Bits) ℓ) : Prop :=
  True

def Pre_MixDwInIdeal (m : (ℓ : Loc Cert.MixDwInIdeal.nD Cert.MixDwInIdeal.τ Cert.MixDwInIdeal.sig) → Buf (Elt Ideal) ℓ) : Prop :=
  True

def Pre_MixDwInRefIdeal (m : (ℓ : Loc Cert.MixDwInRefIdeal.nD Cert.MixDwInRefIdeal.τ Cert.MixDwInRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MixProj (m : (ℓ : Loc Cert.MixProj.nD Cert.MixProj.τ Cert.MixProj.sig) → Buf (Elt Bits) ℓ) : Prop :=
  True

def Pre_MixProjIdeal (m : (ℓ : Loc Cert.MixProjIdeal.nD Cert.MixProjIdeal.τ Cert.MixProjIdeal.sig) → Buf (Elt Ideal) ℓ) : Prop :=
  True

def Pre_MixProjRefIdeal (m : (ℓ : Loc Cert.MixProjRefIdeal.nD Cert.MixProjRefIdeal.τ Cert.MixProjRefIdeal.sig) → Buf (Elt Ideal) ℓ) : Prop :=
  True

def Pre_MixProjBwd (m : (ℓ : Loc Cert.MixProjBwd.nD Cert.MixProjBwd.τ Cert.MixProjBwd.sig) → Buf (Elt Bits) ℓ) : Prop :=
  True

def Pre_MixProjBwdIdeal (m : (ℓ : Loc Cert.MixProjBwdIdeal.nD Cert.MixProjBwdIdeal.τ Cert.MixProjBwdIdeal.sig) → Buf (Elt Ideal) ℓ) : Prop :=
  True

def Pre_MixProjBwdRefIdeal (m : (ℓ : Loc Cert.MixProjBwdRefIdeal.nD Cert.MixProjBwdRefIdeal.τ Cert.MixProjBwdRefIdeal.sig) → Buf (Elt Ideal) ℓ) : Prop :=
  True

def Pre_QkNormBwd (m : (ℓ : Loc Cert.QkNormBwd.nD Cert.QkNormBwd.τ Cert.QkNormBwd.sig) → Buf (Elt Bits) ℓ) : Prop :=
  True

def Pre_QkNormBwdIdeal (m : (ℓ : Loc Cert.QkNormBwdIdeal.nD Cert.QkNormBwdIdeal.τ Cert.QkNormBwdIdeal.sig) → Buf (Elt Ideal) ℓ) : Prop :=
  True

def Pre_QkNormBwdRefIdeal (m : (ℓ : Loc Cert.QkNormBwdRefIdeal.nD Cert.QkNormBwdRefIdeal.τ Cert.QkNormBwdRefIdeal.sig) → Buf (Elt Ideal) ℓ) : Prop :=
  True

def Pre_AttnDelta (m : (ℓ : Loc Cert.AttnDelta.nD Cert.AttnDelta.τ Cert.AttnDelta.sig) → Buf (Elt Bits) ℓ) : Prop :=
  True

def Pre_AttnDeltaIdeal (m : (ℓ : Loc Cert.AttnDeltaIdeal.nD Cert.AttnDeltaIdeal.τ Cert.AttnDeltaIdeal.sig) → Buf (Elt Ideal) ℓ) : Prop :=
  True

def Pre_AttnDeltaRefIdeal (m : (ℓ : Loc Cert.AttnDeltaRefIdeal.nD Cert.AttnDeltaRefIdeal.τ Cert.AttnDeltaRefIdeal.sig) → Buf (Elt Ideal) ℓ) : Prop :=
  True

def Pre_Norm1Bwd (m : (ℓ : Loc Cert.Norm1Bwd.nD Cert.Norm1Bwd.τ Cert.Norm1Bwd.sig) → Buf (Elt Bits) ℓ) : Prop :=
  True

def Pre_Norm1BwdIdeal (m : (ℓ : Loc Cert.Norm1BwdIdeal.nD Cert.Norm1BwdIdeal.τ Cert.Norm1BwdIdeal.sig) → Buf (Elt Ideal) ℓ) : Prop :=
  True

def Pre_Norm1BwdRefIdeal (m : (ℓ : Loc Cert.Norm1BwdRefIdeal.nD Cert.Norm1BwdRefIdeal.τ Cert.Norm1BwdRefIdeal.sig) → Buf (Elt Ideal) ℓ) : Prop :=
  True

def Pre_Norm2Bwd (m : (ℓ : Loc Cert.Norm2Bwd.nD Cert.Norm2Bwd.τ Cert.Norm2Bwd.sig) → Buf (Elt Bits) ℓ) : Prop :=
  True

def Pre_Norm2BwdIdeal (m : (ℓ : Loc Cert.Norm2BwdIdeal.nD Cert.Norm2BwdIdeal.τ Cert.Norm2BwdIdeal.sig) → Buf (Elt Ideal) ℓ) : Prop :=
  True

def Pre_Norm2BwdRefIdeal (m : (ℓ : Loc Cert.Norm2BwdRefIdeal.nD Cert.Norm2BwdRefIdeal.τ Cert.Norm2BwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attention_finite [hPre_attention_finite : Cert.Pre_attention_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attention_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attention_finite [hPre_attention_finite : Cert.Pre_attention_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attention_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))) = (fun _ => 1#1)

def Pre_Norm3Bwd (m : (ℓ : Loc Cert.Norm3Bwd.nD Cert.Norm3Bwd.τ Cert.Norm3Bwd.sig) → Buf (Elt Bits) ℓ) : Prop :=
  True

def Pre_Norm3BwdIdeal (m : (ℓ : Loc Cert.Norm3BwdIdeal.nD Cert.Norm3BwdIdeal.τ Cert.Norm3BwdIdeal.sig) → Buf (Elt Ideal) ℓ) : Prop :=
  True

def Pre_Norm3BwdRefIdeal (m : (ℓ : Loc Cert.Norm3BwdRefIdeal.nD Cert.Norm3BwdRefIdeal.τ Cert.Norm3BwdRefIdeal.sig) → Buf (Elt Ideal) ℓ) : Prop :=
  True

def Pre_QkNormFwd (m : (ℓ : Loc Cert.QkNormFwd.nD Cert.QkNormFwd.τ Cert.QkNormFwd.sig) → Buf (Elt Bits) ℓ) : Prop :=
  True

def Pre_QkNormFwdIdeal (m : (ℓ : Loc Cert.QkNormFwdIdeal.nD Cert.QkNormFwdIdeal.τ Cert.QkNormFwdIdeal.sig) → Buf (Elt Ideal) ℓ) : Prop :=
  True

def Pre_QkNormFwdRefIdeal (m : (ℓ : Loc Cert.QkNormFwdRefIdeal.nD Cert.QkNormFwdRefIdeal.τ Cert.QkNormFwdRefIdeal.sig) → Buf (Elt Ideal) ℓ) : Prop :=
  True

def Pre_FinalLoss (m : (ℓ : Loc Cert.FinalLoss.nD Cert.FinalLoss.τ Cert.FinalLoss.sig) → Buf (Elt Bits) ℓ) : Prop :=
  True

def Pre_FinalLossIdeal (m : (ℓ : Loc Cert.FinalLossIdeal.nD Cert.FinalLossIdeal.τ Cert.FinalLossIdeal.sig) → Buf (Elt Ideal) ℓ) : Prop :=
  True

def Pre_FinalLossRefIdeal (m : (ℓ : Loc Cert.FinalLossRefIdeal.nD Cert.FinalLossRefIdeal.τ Cert.FinalLossRefIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdRefIdeal (m : (ℓ : Loc Cert.AdaBwdRefIdeal.nD Cert.AdaBwdRefIdeal.τ Cert.AdaBwdRefIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_AdamFfnIn (m : (ℓ : Loc Cert.AdamFfnIn.nD Cert.AdamFfnIn.τ Cert.AdamFfnIn.sig) → Buf (Elt Bits) ℓ) : Prop :=
  True

def Pre_AdamFfnInIdeal (m : (ℓ : Loc Cert.AdamFfnInIdeal.nD Cert.AdamFfnInIdeal.τ Cert.AdamFfnInIdeal.sig) → Buf (Elt Ideal) ℓ) : Prop :=
  True

def Pre_AdamFfnInRefIdeal (m : (ℓ : Loc Cert.AdamFfnInRefIdeal.nD Cert.AdamFfnInRefIdeal.τ Cert.AdamFfnInRefIdeal.sig) → Buf (Elt Ideal) ℓ) : Prop :=
  True

def Pre_AdamFfnOut (m : (ℓ : Loc Cert.AdamFfnOut.nD Cert.AdamFfnOut.τ Cert.AdamFfnOut.sig) → Buf (Elt Bits) ℓ) : Prop :=
  True

def Pre_AdamFfnOutIdeal (m : (ℓ : Loc Cert.AdamFfnOutIdeal.nD Cert.AdamFfnOutIdeal.τ Cert.AdamFfnOutIdeal.sig) → Buf (Elt Ideal) ℓ) : Prop :=
  True

def Pre_AdamFfnOutRefIdeal (m : (ℓ : Loc Cert.AdamFfnOutRefIdeal.nD Cert.AdamFfnOutRefIdeal.τ Cert.AdamFfnOutRefIdeal.sig) → Buf (Elt Ideal) ℓ) : Prop :=
  True

def Pre_AdamMixIn (m : (ℓ : Loc Cert.AdamMixIn.nD Cert.AdamMixIn.τ Cert.AdamMixIn.sig) → Buf (Elt Bits) ℓ) : Prop :=
  True

def Pre_AdamMixInIdeal (m : (ℓ : Loc Cert.AdamMixInIdeal.nD Cert.AdamMixInIdeal.τ Cert.AdamMixInIdeal.sig) → Buf (Elt Ideal) ℓ) : Prop :=
  True

def Pre_AdamMixInRefIdeal (m : (ℓ : Loc Cert.AdamMixInRefIdeal.nD Cert.AdamMixInRefIdeal.τ Cert.AdamMixInRefIdeal.sig) → Buf (Elt Ideal) ℓ) : Prop :=
  True

def Pre_AdamMixOut (m : (ℓ : Loc Cert.AdamMixOut.nD Cert.AdamMixOut.τ Cert.AdamMixOut.sig) → Buf (Elt Bits) ℓ) : Prop :=
  True

def Pre_AdamMixOutIdeal (m : (ℓ : Loc Cert.AdamMixOutIdeal.nD Cert.AdamMixOutIdeal.τ Cert.AdamMixOutIdeal.sig) → Buf (Elt Ideal) ℓ) : Prop :=
  True

def Pre_AdamMixOutRefIdeal (m : (ℓ : Loc Cert.AdamMixOutRefIdeal.nD Cert.AdamMixOutRefIdeal.τ Cert.AdamMixOutRefIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolRefIdeal (m : (ℓ : Loc Cert.AdamPoolRefIdeal.nD Cert.AdamPoolRefIdeal.τ Cert.AdamPoolRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_gradients_finite [hKernelIdeal : Cert.KernelIdeal.Facts] [hPre_gradients_finite : Cert.Pre_gradients_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gradients_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_gradients_finite [hReferenceIdeal : Cert.ReferenceIdeal.Facts] [hPre_gradients_finite : Cert.Pre_gradients_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gradients_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FfnDwo [hFfnDwo : Cert.FfnDwo.Facts] : Prop :=
  ∀ (m : (ℓ : Loc Cert.FfnDwo.nD Cert.FfnDwo.τ Cert.FfnDwo.sig) → Buf (Elt Bits) ℓ) (g : Dev Cert.FfnDwo.nD → PrngReg), Pre_FfnDwo m →
    θ_run (Cert.FfnDwo.defs (F := Bits)) (onTc (τ := Cert.FfnDwo.τ) (Cert.FfnDwo.main (F := Bits))) ⟨m, fun _ => 0, g⟩ (fun r => (∀ c : Dev Cert.FfnDwo.nD,
      r.2.mem ((c.tc : Thread Cert.FfnDwo.nD Cert.FfnDwo.τ).loc Cert.FfnDwo.main_arg0) = m ((c.tc : Thread Cert.FfnDwo.nD Cert.FfnDwo.τ).loc Cert.FfnDwo.main_arg0)
      ∧ r.2.mem ((c.tc : Thread Cert.FfnDwo.nD Cert.FfnDwo.τ).loc Cert.FfnDwo.main_arg1) = m ((c.tc : Thread Cert.FfnDwo.nD Cert.FfnDwo.τ).loc Cert.FfnDwo.main_arg1))
      ∧ r.2.sem = fun _ => 0)

def quiescent_FfnDwoIdeal [hFfnDwoIdeal : Cert.FfnDwoIdeal.Facts] : Prop :=
  ∀ (m : (ℓ : Loc Cert.FfnDwoIdeal.nD Cert.FfnDwoIdeal.τ Cert.FfnDwoIdeal.sig) → Buf (Elt Ideal) ℓ) (g : Dev Cert.FfnDwoIdeal.nD → PrngReg), Pre_FfnDwoIdeal m →
    θ_run (Cert.FfnDwoIdeal.defs (F := Ideal)) (onTc (τ := Cert.FfnDwoIdeal.τ) (Cert.FfnDwoIdeal.main (F := Ideal))) ⟨m, fun _ => 0, g⟩ (fun r => (∀ c : Dev Cert.FfnDwoIdeal.nD,
      r.2.mem ((c.tc : Thread Cert.FfnDwoIdeal.nD Cert.FfnDwoIdeal.τ).loc Cert.FfnDwoIdeal.main_arg0) = m ((c.tc : Thread Cert.FfnDwoIdeal.nD Cert.FfnDwoIdeal.τ).loc Cert.FfnDwoIdeal.main_arg0)
      ∧ r.2.mem ((c.tc : Thread Cert.FfnDwoIdeal.nD Cert.FfnDwoIdeal.τ).loc Cert.FfnDwoIdeal.main_arg1) = m ((c.tc : Thread Cert.FfnDwoIdeal.nD Cert.FfnDwoIdeal.τ).loc Cert.FfnDwoIdeal.main_arg1))
      ∧ r.2.sem = fun _ => 0)

def quiescent_FfnDwoRefIdeal [hFfnDwoRefIdeal : Cert.FfnDwoRefIdeal.Facts] : Prop :=
  ∀ (m : (ℓ : Loc Cert.FfnDwoRefIdeal.nD Cert.FfnDwoRefIdeal.τ Cert.FfnDwoRefIdeal.sig) → Buf (Elt Ideal) ℓ) (g : Dev Cert.FfnDwoRefIdeal.nD → PrngReg), Pre_FfnDwoRefIdeal m →
    θ_run (Cert.FfnDwoRefIdeal.defs (F := Ideal)) (onTc (τ := Cert.FfnDwoRefIdeal.τ) (Cert.FfnDwoRefIdeal.main (F := Ideal))) ⟨m, fun _ => 0, g⟩ (fun r => (∀ c : Dev Cert.FfnDwoRefIdeal.nD,
      r.2.mem ((c.tc : Thread Cert.FfnDwoRefIdeal.nD Cert.FfnDwoRefIdeal.τ).loc Cert.FfnDwoRefIdeal.main_arg0) = m ((c.tc : Thread Cert.FfnDwoRefIdeal.nD Cert.FfnDwoRefIdeal.τ).loc Cert.FfnDwoRefIdeal.main_arg0)
      ∧ r.2.mem ((c.tc : Thread Cert.FfnDwoRefIdeal.nD Cert.FfnDwoRefIdeal.τ).loc Cert.FfnDwoRefIdeal.main_arg1) = m ((c.tc : Thread Cert.FfnDwoRefIdeal.nD Cert.FfnDwoRefIdeal.τ).loc Cert.FfnDwoRefIdeal.main_arg1))
      ∧ r.2.sem = fun _ => 0)

def quiescent_FfnDownBwd [hFfnDownBwd : Cert.FfnDownBwd.Facts] : Prop :=
  ∀ (m : (ℓ : Loc Cert.FfnDownBwd.nD Cert.FfnDownBwd.τ Cert.FfnDownBwd.sig) → Buf (Elt Bits) ℓ) (g : Dev Cert.FfnDownBwd.nD → PrngReg), Pre_FfnDownBwd m →
    θ_run (Cert.FfnDownBwd.defs (F := Bits)) (onTc (τ := Cert.FfnDownBwd.τ) (Cert.FfnDownBwd.main (F := Bits))) ⟨m, fun _ => 0, g⟩ (fun r => (∀ c : Dev Cert.FfnDownBwd.nD,
      r.2.mem ((c.tc : Thread Cert.FfnDownBwd.nD Cert.FfnDownBwd.τ).loc Cert.FfnDownBwd.main_arg0) = m ((c.tc : Thread Cert.FfnDownBwd.nD Cert.FfnDownBwd.τ).loc Cert.FfnDownBwd.main_arg0)
      ∧ r.2.mem ((c.tc : Thread Cert.FfnDownBwd.nD Cert.FfnDownBwd.τ).loc Cert.FfnDownBwd.main_arg1) = m ((c.tc : Thread Cert.FfnDownBwd.nD Cert.FfnDownBwd.τ).loc Cert.FfnDownBwd.main_arg1)
      ∧ r.2.mem ((c.tc : Thread Cert.FfnDownBwd.nD Cert.FfnDownBwd.τ).loc Cert.FfnDownBwd.main_arg2) = m ((c.tc : Thread Cert.FfnDownBwd.nD Cert.FfnDownBwd.τ).loc Cert.FfnDownBwd.main_arg2)
      ∧ r.2.mem ((c.tc : Thread Cert.FfnDownBwd.nD Cert.FfnDownBwd.τ).loc Cert.FfnDownBwd.main_arg3) = m ((c.tc : Thread Cert.FfnDownBwd.nD Cert.FfnDownBwd.τ).loc Cert.FfnDownBwd.main_arg3))
      ∧ r.2.sem = fun _ => 0)

def quiescent_FfnDownBwdIdeal [hFfnDownBwdIdeal : Cert.FfnDownBwdIdeal.Facts] : Prop :=
  ∀ (m : (ℓ : Loc Cert.FfnDownBwdIdeal.nD Cert.FfnDownBwdIdeal.τ Cert.FfnDownBwdIdeal.sig) → Buf (Elt Ideal) ℓ) (g : Dev Cert.FfnDownBwdIdeal.nD → PrngReg), Pre_FfnDownBwdIdeal m →
    θ_run (Cert.FfnDownBwdIdeal.defs (F := Ideal)) (onTc (τ := Cert.FfnDownBwdIdeal.τ) (Cert.FfnDownBwdIdeal.main (F := Ideal))) ⟨m, fun _ => 0, g⟩ (fun r => (∀ c : Dev Cert.FfnDownBwdIdeal.nD,
      r.2.mem ((c.tc : Thread Cert.FfnDownBwdIdeal.nD Cert.FfnDownBwdIdeal.τ).loc Cert.FfnDownBwdIdeal.main_arg0) = m ((c.tc : Thread Cert.FfnDownBwdIdeal.nD Cert.FfnDownBwdIdeal.τ).loc Cert.FfnDownBwdIdeal.main_arg0)
      ∧ r.2.mem ((c.tc : Thread Cert.FfnDownBwdIdeal.nD Cert.FfnDownBwdIdeal.τ).loc Cert.FfnDownBwdIdeal.main_arg1) = m ((c.tc : Thread Cert.FfnDownBwdIdeal.nD Cert.FfnDownBwdIdeal.τ).loc Cert.FfnDownBwdIdeal.main_arg1)
      ∧ r.2.mem ((c.tc : Thread Cert.FfnDownBwdIdeal.nD Cert.FfnDownBwdIdeal.τ).loc Cert.FfnDownBwdIdeal.main_arg2) = m ((c.tc : Thread Cert.FfnDownBwdIdeal.nD Cert.FfnDownBwdIdeal.τ).loc Cert.FfnDownBwdIdeal.main_arg2)
      ∧ r.2.mem ((c.tc : Thread Cert.FfnDownBwdIdeal.nD Cert.FfnDownBwdIdeal.τ).loc Cert.FfnDownBwdIdeal.main_arg3) = m ((c.tc : Thread Cert.FfnDownBwdIdeal.nD Cert.FfnDownBwdIdeal.τ).loc Cert.FfnDownBwdIdeal.main_arg3))
      ∧ r.2.sem = fun _ => 0)

def quiescent_FfnDownBwdIdeal_pre_activations_finite [hFfnDownBwdIdeal : Cert.FfnDownBwdIdeal.Facts] [hPre_activations_finite : Cert.Pre_activations_finite.Facts] : Prop :=
  ∀ (m : (ℓ : Loc Cert.FfnDownBwdIdeal.nD Cert.FfnDownBwdIdeal.τ Cert.FfnDownBwdIdeal.sig) → Buf (Elt Ideal) ℓ) (g : Dev Cert.FfnDownBwdIdeal.nD → PrngReg), Pre_FfnDownBwdIdeal_activations_finite m →
    θ_run (Cert.FfnDownBwdIdeal.defs (F := Ideal)) (onTc (τ := Cert.FfnDownBwdIdeal.τ) (Cert.FfnDownBwdIdeal.main (F := Ideal))) ⟨m, fun _ => 0, g⟩ (fun r => (∀ c : Dev Cert.FfnDownBwdIdeal.nD,
      r.2.mem ((c.tc : Thread Cert.FfnDownBwdIdeal.nD Cert.FfnDownBwdIdeal.τ).loc Cert.FfnDownBwdIdeal.main_arg0) = m ((c.tc : Thread Cert.FfnDownBwdIdeal.nD Cert.FfnDownBwdIdeal.τ).loc Cert.FfnDownBwdIdeal.main_arg0)
      ∧ r.2.mem ((c.tc : Thread Cert.FfnDownBwdIdeal.nD Cert.FfnDownBwdIdeal.τ).loc Cert.FfnDownBwdIdeal.main_arg1) = m ((c.tc : Thread Cert.FfnDownBwdIdeal.nD Cert.FfnDownBwdIdeal.τ).loc Cert.FfnDownBwdIdeal.main_arg1)
      ∧ r.2.mem ((c.tc : Thread Cert.FfnDownBwdIdeal.nD Cert.FfnDownBwdIdeal.τ).loc Cert.FfnDownBwdIdeal.main_arg2) = m ((c.tc : Thread Cert.FfnDownBwdIdeal.nD Cert.FfnDownBwdIdeal.τ).loc Cert.FfnDownBwdIdeal.main_arg2)
      ∧ r.2.mem ((c.tc : Thread Cert.FfnDownBwdIdeal.nD Cert.FfnDownBwdIdeal.τ).loc Cert.FfnDownBwdIdeal.main_arg3) = m ((c.tc : Thread Cert.FfnDownBwdIdeal.nD Cert.FfnDownBwdIdeal.τ).loc Cert.FfnDownBwdIdeal.main_arg3))
      ∧ r.2.sem = fun _ => 0)

def quiescent_FfnDownBwdRefIdeal [hFfnDownBwdRefIdeal : Cert.FfnDownBwdRefIdeal.Facts] : Prop :=
  ∀ (m : (ℓ : Loc Cert.FfnDownBwdRefIdeal.nD Cert.FfnDownBwdRefIdeal.τ Cert.FfnDownBwdRefIdeal.sig) → Buf (Elt Ideal) ℓ) (g : Dev Cert.FfnDownBwdRefIdeal.nD → PrngReg), Pre_FfnDownBwdRefIdeal m →
    θ_run (Cert.FfnDownBwdRefIdeal.defs (F := Ideal)) (onTc (τ := Cert.FfnDownBwdRefIdeal.τ) (Cert.FfnDownBwdRefIdeal.main (F := Ideal))) ⟨m, fun _ => 0, g⟩ (fun r => (∀ c : Dev Cert.FfnDownBwdRefIdeal.nD,
      r.2.mem ((c.tc : Thread Cert.FfnDownBwdRefIdeal.nD Cert.FfnDownBwdRefIdeal.τ).loc Cert.FfnDownBwdRefIdeal.main_arg0) = m ((c.tc : Thread Cert.FfnDownBwdRefIdeal.nD Cert.FfnDownBwdRefIdeal.τ).loc Cert.FfnDownBwdRefIdeal.main_arg0)
      ∧ r.2.mem ((c.tc : Thread Cert.FfnDownBwdRefIdeal.nD Cert.FfnDownBwdRefIdeal.τ).loc Cert.FfnDownBwdRefIdeal.main_arg1) = m ((c.tc : Thread Cert.FfnDownBwdRefIdeal.nD Cert.FfnDownBwdRefIdeal.τ).loc Cert.FfnDownBwdRefIdeal.main_arg1)
      ∧ r.2.mem ((c.tc : Thread Cert.FfnDownBwdRefIdeal.nD Cert.FfnDownBwdRefIdeal.τ).loc Cert.FfnDownBwdRefIdeal.main_arg2) = m ((c.tc : Thread Cert.FfnDownBwdRefIdeal.nD Cert.FfnDownBwdRefIdeal.τ).loc Cert.FfnDownBwdRefIdeal.main_arg2)
      ∧ r.2.mem ((c.tc : Thread Cert.FfnDownBwdRefIdeal.nD Cert.FfnDownBwdRefIdeal.τ).loc Cert.FfnDownBwdRefIdeal.main_arg3) = m ((c.tc : Thread Cert.FfnDownBwdRefIdeal.nD Cert.FfnDownBwdRefIdeal.τ).loc Cert.FfnDownBwdRefIdeal.main_arg3))
      ∧ r.2.sem = fun _ => 0)

def quiescent_FfnDownBwdRefIdeal_pre_activations_finite [hFfnDownBwdRefIdeal : Cert.FfnDownBwdRefIdeal.Facts] [hPre_activations_finite : Cert.Pre_activations_finite.Facts] : Prop :=
  ∀ (m : (ℓ : Loc Cert.FfnDownBwdRefIdeal.nD Cert.FfnDownBwdRefIdeal.τ Cert.FfnDownBwdRefIdeal.sig) → Buf (Elt Ideal) ℓ) (g : Dev Cert.FfnDownBwdRefIdeal.nD → PrngReg), Pre_FfnDownBwdRefIdeal_activations_finite m →
    θ_run (Cert.FfnDownBwdRefIdeal.defs (F := Ideal)) (onTc (τ := Cert.FfnDownBwdRefIdeal.τ) (Cert.FfnDownBwdRefIdeal.main (F := Ideal))) ⟨m, fun _ => 0, g⟩ (fun r => (∀ c : Dev Cert.FfnDownBwdRefIdeal.nD,
      r.2.mem ((c.tc : Thread Cert.FfnDownBwdRefIdeal.nD Cert.FfnDownBwdRefIdeal.τ).loc Cert.FfnDownBwdRefIdeal.main_arg0) = m ((c.tc : Thread Cert.FfnDownBwdRefIdeal.nD Cert.FfnDownBwdRefIdeal.τ).loc Cert.FfnDownBwdRefIdeal.main_arg0)
      ∧ r.2.mem ((c.tc : Thread Cert.FfnDownBwdRefIdeal.nD Cert.FfnDownBwdRefIdeal.τ).loc Cert.FfnDownBwdRefIdeal.main_arg1) = m ((c.tc : Thread Cert.FfnDownBwdRefIdeal.nD Cert.FfnDownBwdRefIdeal.τ).loc Cert.FfnDownBwdRefIdeal.main_arg1)
      ∧ r.2.mem ((c.tc : Thread Cert.FfnDownBwdRefIdeal.nD Cert.FfnDownBwdRefIdeal.τ).loc Cert.FfnDownBwdRefIdeal.main_arg2) = m ((c.tc : Thread Cert.FfnDownBwdRefIdeal.nD Cert.FfnDownBwdRefIdeal.τ).loc Cert.FfnDownBwdRefIdeal.main_arg2)
      ∧ r.2.mem ((c.tc : Thread Cert.FfnDownBwdRefIdeal.nD Cert.FfnDownBwdRefIdeal.τ).loc Cert.FfnDownBwdRefIdeal.main_arg3) = m ((c.tc : Thread Cert.FfnDownBwdRefIdeal.nD Cert.FfnDownBwdRefIdeal.τ).loc Cert.FfnDownBwdRefIdeal.main_arg3))
      ∧ r.2.sem = fun _ => 0)

def quiescent_FfnDwi [hFfnDwi : Cert.FfnDwi.Facts] : Prop :=
  ∀ (m : (ℓ : Loc Cert.FfnDwi.nD Cert.FfnDwi.τ Cert.FfnDwi.sig) → Buf (Elt Bits) ℓ) (g : Dev Cert.FfnDwi.nD → PrngReg), Pre_FfnDwi m →
    θ_run (Cert.FfnDwi.defs (F := Bits)) (onTc (τ := Cert.FfnDwi.τ) (Cert.FfnDwi.main (F := Bits))) ⟨m, fun _ => 0, g⟩ (fun r => (∀ c : Dev Cert.FfnDwi.nD,
      r.2.mem ((c.tc : Thread Cert.FfnDwi.nD Cert.FfnDwi.τ).loc Cert.FfnDwi.main_arg0) = m ((c.tc : Thread Cert.FfnDwi.nD Cert.FfnDwi.τ).loc Cert.FfnDwi.main_arg0)
      ∧ r.2.mem ((c.tc : Thread Cert.FfnDwi.nD Cert.FfnDwi.τ).loc Cert.FfnDwi.main_arg1) = m ((c.tc : Thread Cert.FfnDwi.nD Cert.FfnDwi.τ).loc Cert.FfnDwi.main_arg1))
      ∧ r.2.sem = fun _ => 0)

def quiescent_FfnDwiIdeal [hFfnDwiIdeal : Cert.FfnDwiIdeal.Facts] : Prop :=
  ∀ (m : (ℓ : Loc Cert.FfnDwiIdeal.nD Cert.FfnDwiIdeal.τ Cert.FfnDwiIdeal.sig) → Buf (Elt Ideal) ℓ) (g : Dev Cert.FfnDwiIdeal.nD → PrngReg), Pre_FfnDwiIdeal m →
    θ_run (Cert.FfnDwiIdeal.defs (F := Ideal)) (onTc (τ := Cert.FfnDwiIdeal.τ) (Cert.FfnDwiIdeal.main (F := Ideal))) ⟨m, fun _ => 0, g⟩ (fun r => (∀ c : Dev Cert.FfnDwiIdeal.nD,
      r.2.mem ((c.tc : Thread Cert.FfnDwiIdeal.nD Cert.FfnDwiIdeal.τ).loc Cert.FfnDwiIdeal.main_arg0) = m ((c.tc : Thread Cert.FfnDwiIdeal.nD Cert.FfnDwiIdeal.τ).loc Cert.FfnDwiIdeal.main_arg0)
      ∧ r.2.mem ((c.tc : Thread Cert.FfnDwiIdeal.nD Cert.FfnDwiIdeal.τ).loc Cert.FfnDwiIdeal.main_arg1) = m ((c.tc : Thread Cert.FfnDwiIdeal.nD Cert.FfnDwiIdeal.τ).loc Cert.FfnDwiIdeal.main_arg1))
      ∧ r.2.sem = fun _ => 0)

def quiescent_FfnDwiRefIdeal [hFfnDwiRefIdeal : Cert.FfnDwiRefIdeal.Facts] : Prop :=
  ∀ (m : (ℓ : Loc Cert.FfnDwiRefIdeal.nD Cert.FfnDwiRefIdeal.τ Cert.FfnDwiRefIdeal.sig) → Buf (Elt Ideal) ℓ) (g : Dev Cert.FfnDwiRefIdeal.nD → PrngReg), Pre_FfnDwiRefIdeal m →
    θ_run (Cert.FfnDwiRefIdeal.defs (F := Ideal)) (onTc (τ := Cert.FfnDwiRefIdeal.τ) (Cert.FfnDwiRefIdeal.main (F := Ideal))) ⟨m, fun _ => 0, g⟩ (fun r => (∀ c : Dev Cert.FfnDwiRefIdeal.nD,
      r.2.mem ((c.tc : Thread Cert.FfnDwiRefIdeal.nD Cert.FfnDwiRefIdeal.τ).loc Cert.FfnDwiRefIdeal.main_arg0) = m ((c.tc : Thread Cert.FfnDwiRefIdeal.nD Cert.FfnDwiRefIdeal.τ).loc Cert.FfnDwiRefIdeal.main_arg0)
      ∧ r.2.mem ((c.tc : Thread Cert.FfnDwiRefIdeal.nD Cert.FfnDwiRefIdeal.τ).loc Cert.FfnDwiRefIdeal.main_arg1) = m ((c.tc : Thread Cert.FfnDwiRefIdeal.nD Cert.FfnDwiRefIdeal.τ).loc Cert.FfnDwiRefIdeal.main_arg1))
      ∧ r.2.sem = fun _ => 0)

def quiescent_FfnDhm [hFfnDhm : Cert.FfnDhm.Facts] : Prop :=
  ∀ (m : (ℓ : Loc Cert.FfnDhm.nD Cert.FfnDhm.τ Cert.FfnDhm.sig) → Buf (Elt Bits) ℓ) (g : Dev Cert.FfnDhm.nD → PrngReg), Pre_FfnDhm m →
    θ_run (Cert.FfnDhm.defs (F := Bits)) (onTc (τ := Cert.FfnDhm.τ) (Cert.FfnDhm.main (F := Bits))) ⟨m, fun _ => 0, g⟩ (fun r => (∀ c : Dev Cert.FfnDhm.nD,
      r.2.mem ((c.tc : Thread Cert.FfnDhm.nD Cert.FfnDhm.τ).loc Cert.FfnDhm.main_arg0) = m ((c.tc : Thread Cert.FfnDhm.nD Cert.FfnDhm.τ).loc Cert.FfnDhm.main_arg0)
      ∧ r.2.mem ((c.tc : Thread Cert.FfnDhm.nD Cert.FfnDhm.τ).loc Cert.FfnDhm.main_arg1) = m ((c.tc : Thread Cert.FfnDhm.nD Cert.FfnDhm.τ).loc Cert.FfnDhm.main_arg1))
      ∧ r.2.sem = fun _ => 0)

def quiescent_FfnDhmIdeal [hFfnDhmIdeal : Cert.FfnDhmIdeal.Facts] : Prop :=
  ∀ (m : (ℓ : Loc Cert.FfnDhmIdeal.nD Cert.FfnDhmIdeal.τ Cert.FfnDhmIdeal.sig) → Buf (Elt Ideal) ℓ) (g : Dev Cert.FfnDhmIdeal.nD → PrngReg), Pre_FfnDhmIdeal m →
    θ_run (Cert.FfnDhmIdeal.defs (F := Ideal)) (onTc (τ := Cert.FfnDhmIdeal.τ) (Cert.FfnDhmIdeal.main (F := Ideal))) ⟨m, fun _ => 0, g⟩ (fun r => (∀ c : Dev Cert.FfnDhmIdeal.nD,
      r.2.mem ((c.tc : Thread Cert.FfnDhmIdeal.nD Cert.FfnDhmIdeal.τ).loc Cert.FfnDhmIdeal.main_arg0) = m ((c.tc : Thread Cert.FfnDhmIdeal.nD Cert.FfnDhmIdeal.τ).loc Cert.FfnDhmIdeal.main_arg0)
      ∧ r.2.mem ((c.tc : Thread Cert.FfnDhmIdeal.nD Cert.FfnDhmIdeal.τ).loc Cert.FfnDhmIdeal.main_arg1) = m ((c.tc : Thread Cert.FfnDhmIdeal.nD Cert.FfnDhmIdeal.τ).loc Cert.FfnDhmIdeal.main_arg1))
      ∧ r.2.sem = fun _ => 0)

def quiescent_FfnDhmRefIdeal [hFfnDhmRefIdeal : Cert.FfnDhmRefIdeal.Facts] : Prop :=
  ∀ (m : (ℓ : Loc Cert.FfnDhmRefIdeal.nD Cert.FfnDhmRefIdeal.τ Cert.FfnDhmRefIdeal.sig) → Buf (Elt Ideal) ℓ) (g : Dev Cert.FfnDhmRefIdeal.nD → PrngReg), Pre_FfnDhmRefIdeal m →
    θ_run (Cert.FfnDhmRefIdeal.defs (F := Ideal)) (onTc (τ := Cert.FfnDhmRefIdeal.τ) (Cert.FfnDhmRefIdeal.main (F := Ideal))) ⟨m, fun _ => 0, g⟩ (fun r => (∀ c : Dev Cert.FfnDhmRefIdeal.nD,
      r.2.mem ((c.tc : Thread Cert.FfnDhmRefIdeal.nD Cert.FfnDhmRefIdeal.τ).loc Cert.FfnDhmRefIdeal.main_arg0) = m ((c.tc : Thread Cert.FfnDhmRefIdeal.nD Cert.FfnDhmRefIdeal.τ).loc Cert.FfnDhmRefIdeal.main_arg0)
      ∧ r.2.mem ((c.tc : Thread Cert.FfnDhmRefIdeal.nD Cert.FfnDhmRefIdeal.τ).loc Cert.FfnDhmRefIdeal.main_arg1) = m ((c.tc : Thread Cert.FfnDhmRefIdeal.nD Cert.FfnDhmRefIdeal.τ).loc Cert.FfnDhmRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_MixDwOut [hMixDwOut : Cert.MixDwOut.Facts] : Prop :=
  ∀ (m : (ℓ : Loc Cert.MixDwOut.nD Cert.MixDwOut.τ Cert.MixDwOut.sig) → Buf (Elt Bits) ℓ) (g : Dev Cert.MixDwOut.nD → PrngReg), Pre_MixDwOut m →
    θ_run (Cert.MixDwOut.defs (F := Bits)) (onTc (τ := Cert.MixDwOut.τ) (Cert.MixDwOut.main (F := Bits))) ⟨m, fun _ => 0, g⟩ (fun r => (∀ c : Dev Cert.MixDwOut.nD,
      r.2.mem ((c.tc : Thread Cert.MixDwOut.nD Cert.MixDwOut.τ).loc Cert.MixDwOut.main_arg0) = m ((c.tc : Thread Cert.MixDwOut.nD Cert.MixDwOut.τ).loc Cert.MixDwOut.main_arg0)
      ∧ r.2.mem ((c.tc : Thread Cert.MixDwOut.nD Cert.MixDwOut.τ).loc Cert.MixDwOut.main_arg1) = m ((c.tc : Thread Cert.MixDwOut.nD Cert.MixDwOut.τ).loc Cert.MixDwOut.main_arg1))
      ∧ r.2.sem = fun _ => 0)

def quiescent_MixDwOutIdeal [hMixDwOutIdeal : Cert.MixDwOutIdeal.Facts] : Prop :=
  ∀ (m : (ℓ : Loc Cert.MixDwOutIdeal.nD Cert.MixDwOutIdeal.τ Cert.MixDwOutIdeal.sig) → Buf (Elt Ideal) ℓ) (g : Dev Cert.MixDwOutIdeal.nD → PrngReg), Pre_MixDwOutIdeal m →
    θ_run (Cert.MixDwOutIdeal.defs (F := Ideal)) (onTc (τ := Cert.MixDwOutIdeal.τ) (Cert.MixDwOutIdeal.main (F := Ideal))) ⟨m, fun _ => 0, g⟩ (fun r => (∀ c : Dev Cert.MixDwOutIdeal.nD,
      r.2.mem ((c.tc : Thread Cert.MixDwOutIdeal.nD Cert.MixDwOutIdeal.τ).loc Cert.MixDwOutIdeal.main_arg0) = m ((c.tc : Thread Cert.MixDwOutIdeal.nD Cert.MixDwOutIdeal.τ).loc Cert.MixDwOutIdeal.main_arg0)
      ∧ r.2.mem ((c.tc : Thread Cert.MixDwOutIdeal.nD Cert.MixDwOutIdeal.τ).loc Cert.MixDwOutIdeal.main_arg1) = m ((c.tc : Thread Cert.MixDwOutIdeal.nD Cert.MixDwOutIdeal.τ).loc Cert.MixDwOutIdeal.main_arg1))
      ∧ r.2.sem = fun _ => 0)

def quiescent_MixDwOutRefIdeal [hMixDwOutRefIdeal : Cert.MixDwOutRefIdeal.Facts] : Prop :=
  ∀ (m : (ℓ : Loc Cert.MixDwOutRefIdeal.nD Cert.MixDwOutRefIdeal.τ Cert.MixDwOutRefIdeal.sig) → Buf (Elt Ideal) ℓ) (g : Dev Cert.MixDwOutRefIdeal.nD → PrngReg), Pre_MixDwOutRefIdeal m →
    θ_run (Cert.MixDwOutRefIdeal.defs (F := Ideal)) (onTc (τ := Cert.MixDwOutRefIdeal.τ) (Cert.MixDwOutRefIdeal.main (F := Ideal))) ⟨m, fun _ => 0, g⟩ (fun r => (∀ c : Dev Cert.MixDwOutRefIdeal.nD,
      r.2.mem ((c.tc : Thread Cert.MixDwOutRefIdeal.nD Cert.MixDwOutRefIdeal.τ).loc Cert.MixDwOutRefIdeal.main_arg0) = m ((c.tc : Thread Cert.MixDwOutRefIdeal.nD Cert.MixDwOutRefIdeal.τ).loc Cert.MixDwOutRefIdeal.main_arg0)
      ∧ r.2.mem ((c.tc : Thread Cert.MixDwOutRefIdeal.nD Cert.MixDwOutRefIdeal.τ).loc Cert.MixDwOutRefIdeal.main_arg1) = m ((c.tc : Thread Cert.MixDwOutRefIdeal.nD Cert.MixDwOutRefIdeal.τ).loc Cert.MixDwOutRefIdeal.main_arg1))
      ∧ r.2.sem = fun _ => 0)

def quiescent_MixOutBwd [hMixOutBwd : Cert.MixOutBwd.Facts] : Prop :=
  ∀ (m : (ℓ : Loc Cert.MixOutBwd.nD Cert.MixOutBwd.τ Cert.MixOutBwd.sig) → Buf (Elt Bits) ℓ) (g : Dev Cert.MixOutBwd.nD → PrngReg), Pre_MixOutBwd m →
    θ_run (Cert.MixOutBwd.defs (F := Bits)) (onTc (τ := Cert.MixOutBwd.τ) (Cert.MixOutBwd.main (F := Bits))) ⟨m, fun _ => 0, g⟩ (fun r => (∀ c : Dev Cert.MixOutBwd.nD,
      r.2.mem ((c.tc : Thread Cert.MixOutBwd.nD Cert.MixOutBwd.τ).loc Cert.MixOutBwd.main_arg0) = m ((c.tc : Thread Cert.MixOutBwd.nD Cert.MixOutBwd.τ).loc Cert.MixOutBwd.main_arg0)
      ∧ r.2.mem ((c.tc : Thread Cert.MixOutBwd.nD Cert.MixOutBwd.τ).loc Cert.MixOutBwd.main_arg1) = m ((c.tc : Thread Cert.MixOutBwd.nD Cert.MixOutBwd.τ).loc Cert.MixOutBwd.main_arg1))
      ∧ r.2.sem = fun _ => 0)

def quiescent_MixOutBwdIdeal [hMixOutBwdIdeal : Cert.MixOutBwdIdeal.Facts] : Prop :=
  ∀ (m : (ℓ : Loc Cert.MixOutBwdIdeal.nD Cert.MixOutBwdIdeal.τ Cert.MixOutBwdIdeal.sig) → Buf (Elt Ideal) ℓ) (g : Dev Cert.MixOutBwdIdeal.nD → PrngReg), Pre_MixOutBwdIdeal m →
    θ_run (Cert.MixOutBwdIdeal.defs (F := Ideal)) (onTc (τ := Cert.MixOutBwdIdeal.τ) (Cert.MixOutBwdIdeal.main (F := Ideal))) ⟨m, fun _ => 0, g⟩ (fun r => (∀ c : Dev Cert.MixOutBwdIdeal.nD,
      r.2.mem ((c.tc : Thread Cert.MixOutBwdIdeal.nD Cert.MixOutBwdIdeal.τ).loc Cert.MixOutBwdIdeal.main_arg0) = m ((c.tc : Thread Cert.MixOutBwdIdeal.nD Cert.MixOutBwdIdeal.τ).loc Cert.MixOutBwdIdeal.main_arg0)
      ∧ r.2.mem ((c.tc : Thread Cert.MixOutBwdIdeal.nD Cert.MixOutBwdIdeal.τ).loc Cert.MixOutBwdIdeal.main_arg1) = m ((c.tc : Thread Cert.MixOutBwdIdeal.nD Cert.MixOutBwdIdeal.τ).loc Cert.MixOutBwdIdeal.main_arg1))
      ∧ r.2.sem = fun _ => 0)

def quiescent_MixOutBwdRefIdeal [hMixOutBwdRefIdeal : Cert.MixOutBwdRefIdeal.Facts] : Prop :=
  ∀ (m : (ℓ : Loc Cert.MixOutBwdRefIdeal.nD Cert.MixOutBwdRefIdeal.τ Cert.MixOutBwdRefIdeal.sig) → Buf (Elt Ideal) ℓ) (g : Dev Cert.MixOutBwdRefIdeal.nD → PrngReg), Pre_MixOutBwdRefIdeal m →
    θ_run (Cert.MixOutBwdRefIdeal.defs (F := Ideal)) (onTc (τ := Cert.MixOutBwdRefIdeal.τ) (Cert.MixOutBwdRefIdeal.main (F := Ideal))) ⟨m, fun _ => 0, g⟩ (fun r => (∀ c : Dev Cert.MixOutBwdRefIdeal.nD,
      r.2.mem ((c.tc : Thread Cert.MixOutBwdRefIdeal.nD Cert.MixOutBwdRefIdeal.τ).loc Cert.MixOutBwdRefIdeal.main_arg0) = m ((c.tc : Thread Cert.MixOutBwdRefIdeal.nD Cert.MixOutBwdRefIdeal.τ).loc Cert.MixOutBwdRefIdeal.main_arg0)
      ∧ r.2.mem ((c.tc : Thread Cert.MixOutBwdRefIdeal.nD Cert.MixOutBwdRefIdeal.τ).loc Cert.MixOutBwdRefIdeal.main_arg1) = m ((c.tc : Thread Cert.MixOutBwdRefIdeal.nD Cert.MixOutBwdRefIdeal.τ).loc Cert.MixOutBwdRefIdeal.main_arg1))
      ∧ r.2.sem = fun _ => 0)

def quiescent_MixDwIn [hMixDwIn : Cert.MixDwIn.Facts] : Prop :=
  ∀ (m : (ℓ : Loc Cert.MixDwIn.nD Cert.MixDwIn.τ Cert.MixDwIn.sig) → Buf (Elt Bits) ℓ) (g : Dev Cert.MixDwIn.nD → PrngReg), Pre_MixDwIn m →
    θ_run (Cert.MixDwIn.defs (F := Bits)) (onTc (τ := Cert.MixDwIn.τ) (Cert.MixDwIn.main (F := Bits))) ⟨m, fun _ => 0, g⟩ (fun r => (∀ c : Dev Cert.MixDwIn.nD,
      r.2.mem ((c.tc : Thread Cert.MixDwIn.nD Cert.MixDwIn.τ).loc Cert.MixDwIn.main_arg0) = m ((c.tc : Thread Cert.MixDwIn.nD Cert.MixDwIn.τ).loc Cert.MixDwIn.main_arg0)
      ∧ r.2.mem ((c.tc : Thread Cert.MixDwIn.nD Cert.MixDwIn.τ).loc Cert.MixDwIn.main_arg1) = m ((c.tc : Thread Cert.MixDwIn.nD Cert.MixDwIn.τ).loc Cert.MixDwIn.main_arg1))
      ∧ r.2.sem = fun _ => 0)

def quiescent_MixDwInIdeal [hMixDwInIdeal : Cert.MixDwInIdeal.Facts] : Prop :=
  ∀ (m : (ℓ : Loc Cert.MixDwInIdeal.nD Cert.MixDwInIdeal.τ Cert.MixDwInIdeal.sig) → Buf (Elt Ideal) ℓ) (g : Dev Cert.MixDwInIdeal.nD → PrngReg), Pre_MixDwInIdeal m →
    θ_run (Cert.MixDwInIdeal.defs (F := Ideal)) (onTc (τ := Cert.MixDwInIdeal.τ) (Cert.MixDwInIdeal.main (F := Ideal))) ⟨m, fun _ => 0, g⟩ (fun r => (∀ c : Dev Cert.MixDwInIdeal.nD,
      r.2.mem ((c.tc : Thread Cert.MixDwInIdeal.nD Cert.MixDwInIdeal.τ).loc Cert.MixDwInIdeal.main_arg0) = m ((c.tc : Thread Cert.MixDwInIdeal.nD Cert.MixDwInIdeal.τ).loc Cert.MixDwInIdeal.main_arg0)
      ∧ r.2.mem ((c.tc : Thread Cert.MixDwInIdeal.nD Cert.MixDwInIdeal.τ).loc Cert.MixDwInIdeal.main_arg1) = m ((c.tc : Thread Cert.MixDwInIdeal.nD Cert.MixDwInIdeal.τ).loc Cert.MixDwInIdeal.main_arg1))
      ∧ r.2.sem = fun _ => 0)

def quiescent_MixDwInRefIdeal [hMixDwInRefIdeal : Cert.MixDwInRefIdeal.Facts] : Prop :=
  ∀ (m : (ℓ : Loc Cert.MixDwInRefIdeal.nD Cert.MixDwInRefIdeal.τ Cert.MixDwInRefIdeal.sig) → Buf (Elt Ideal) ℓ) (g : Dev Cert.MixDwInRefIdeal.nD → PrngReg), Pre_MixDwInRefIdeal m →
    θ_run (Cert.MixDwInRefIdeal.defs (F := Ideal)) (onTc (τ := Cert.MixDwInRefIdeal.τ) (Cert.MixDwInRefIdeal.main (F := Ideal))) ⟨m, fun _ => 0, g⟩ (fun r => (∀ c : Dev Cert.MixDwInRefIdeal.nD,
      r.2.mem ((c.tc : Thread Cert.MixDwInRefIdeal.nD Cert.MixDwInRefIdeal.τ).loc Cert.MixDwInRefIdeal.main_arg0) = m ((c.tc : Thread Cert.MixDwInRefIdeal.nD Cert.MixDwInRefIdeal.τ).loc Cert.MixDwInRefIdeal.main_arg0)
      ∧ r.2.mem ((c.tc : Thread Cert.MixDwInRefIdeal.nD Cert.MixDwInRefIdeal.τ).loc Cert.MixDwInRefIdeal.main_arg1) = m ((c.tc : Thread Cert.MixDwInRefIdeal.nD Cert.MixDwInRefIdeal.τ).loc Cert.MixDwInRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3))
      ∧ r.2.sem = fun _ => 0)

def quiescent_MixProj [hMixProj : Cert.MixProj.Facts] : Prop :=
  ∀ (m : (ℓ : Loc Cert.MixProj.nD Cert.MixProj.τ Cert.MixProj.sig) → Buf (Elt Bits) ℓ) (g : Dev Cert.MixProj.nD → PrngReg), Pre_MixProj m →
    θ_run (Cert.MixProj.defs (F := Bits)) (onTc (τ := Cert.MixProj.τ) (Cert.MixProj.main (F := Bits))) ⟨m, fun _ => 0, g⟩ (fun r => (∀ c : Dev Cert.MixProj.nD,
      r.2.mem ((c.tc : Thread Cert.MixProj.nD Cert.MixProj.τ).loc Cert.MixProj.main_arg0) = m ((c.tc : Thread Cert.MixProj.nD Cert.MixProj.τ).loc Cert.MixProj.main_arg0)
      ∧ r.2.mem ((c.tc : Thread Cert.MixProj.nD Cert.MixProj.τ).loc Cert.MixProj.main_arg1) = m ((c.tc : Thread Cert.MixProj.nD Cert.MixProj.τ).loc Cert.MixProj.main_arg1))
      ∧ r.2.sem = fun _ => 0)

def quiescent_MixProjIdeal [hMixProjIdeal : Cert.MixProjIdeal.Facts] : Prop :=
  ∀ (m : (ℓ : Loc Cert.MixProjIdeal.nD Cert.MixProjIdeal.τ Cert.MixProjIdeal.sig) → Buf (Elt Ideal) ℓ) (g : Dev Cert.MixProjIdeal.nD → PrngReg), Pre_MixProjIdeal m →
    θ_run (Cert.MixProjIdeal.defs (F := Ideal)) (onTc (τ := Cert.MixProjIdeal.τ) (Cert.MixProjIdeal.main (F := Ideal))) ⟨m, fun _ => 0, g⟩ (fun r => (∀ c : Dev Cert.MixProjIdeal.nD,
      r.2.mem ((c.tc : Thread Cert.MixProjIdeal.nD Cert.MixProjIdeal.τ).loc Cert.MixProjIdeal.main_arg0) = m ((c.tc : Thread Cert.MixProjIdeal.nD Cert.MixProjIdeal.τ).loc Cert.MixProjIdeal.main_arg0)
      ∧ r.2.mem ((c.tc : Thread Cert.MixProjIdeal.nD Cert.MixProjIdeal.τ).loc Cert.MixProjIdeal.main_arg1) = m ((c.tc : Thread Cert.MixProjIdeal.nD Cert.MixProjIdeal.τ).loc Cert.MixProjIdeal.main_arg1))
      ∧ r.2.sem = fun _ => 0)

def quiescent_MixProjRefIdeal [hMixProjRefIdeal : Cert.MixProjRefIdeal.Facts] : Prop :=
  ∀ (m : (ℓ : Loc Cert.MixProjRefIdeal.nD Cert.MixProjRefIdeal.τ Cert.MixProjRefIdeal.sig) → Buf (Elt Ideal) ℓ) (g : Dev Cert.MixProjRefIdeal.nD → PrngReg), Pre_MixProjRefIdeal m →
    θ_run (Cert.MixProjRefIdeal.defs (F := Ideal)) (onTc (τ := Cert.MixProjRefIdeal.τ) (Cert.MixProjRefIdeal.main (F := Ideal))) ⟨m, fun _ => 0, g⟩ (fun r => (∀ c : Dev Cert.MixProjRefIdeal.nD,
      r.2.mem ((c.tc : Thread Cert.MixProjRefIdeal.nD Cert.MixProjRefIdeal.τ).loc Cert.MixProjRefIdeal.main_arg0) = m ((c.tc : Thread Cert.MixProjRefIdeal.nD Cert.MixProjRefIdeal.τ).loc Cert.MixProjRefIdeal.main_arg0)
      ∧ r.2.mem ((c.tc : Thread Cert.MixProjRefIdeal.nD Cert.MixProjRefIdeal.τ).loc Cert.MixProjRefIdeal.main_arg1) = m ((c.tc : Thread Cert.MixProjRefIdeal.nD Cert.MixProjRefIdeal.τ).loc Cert.MixProjRefIdeal.main_arg1))
      ∧ r.2.sem = fun _ => 0)

def quiescent_MixProjBwd [hMixProjBwd : Cert.MixProjBwd.Facts] : Prop :=
  ∀ (m : (ℓ : Loc Cert.MixProjBwd.nD Cert.MixProjBwd.τ Cert.MixProjBwd.sig) → Buf (Elt Bits) ℓ) (g : Dev Cert.MixProjBwd.nD → PrngReg), Pre_MixProjBwd m →
    θ_run (Cert.MixProjBwd.defs (F := Bits)) (onTc (τ := Cert.MixProjBwd.τ) (Cert.MixProjBwd.main (F := Bits))) ⟨m, fun _ => 0, g⟩ (fun r => (∀ c : Dev Cert.MixProjBwd.nD,
      r.2.mem ((c.tc : Thread Cert.MixProjBwd.nD Cert.MixProjBwd.τ).loc Cert.MixProjBwd.main_arg0) = m ((c.tc : Thread Cert.MixProjBwd.nD Cert.MixProjBwd.τ).loc Cert.MixProjBwd.main_arg0)
      ∧ r.2.mem ((c.tc : Thread Cert.MixProjBwd.nD Cert.MixProjBwd.τ).loc Cert.MixProjBwd.main_arg1) = m ((c.tc : Thread Cert.MixProjBwd.nD Cert.MixProjBwd.τ).loc Cert.MixProjBwd.main_arg1))
      ∧ r.2.sem = fun _ => 0)

def quiescent_MixProjBwdIdeal [hMixProjBwdIdeal : Cert.MixProjBwdIdeal.Facts] : Prop :=
  ∀ (m : (ℓ : Loc Cert.MixProjBwdIdeal.nD Cert.MixProjBwdIdeal.τ Cert.MixProjBwdIdeal.sig) → Buf (Elt Ideal) ℓ) (g : Dev Cert.MixProjBwdIdeal.nD → PrngReg), Pre_MixProjBwdIdeal m →
    θ_run (Cert.MixProjBwdIdeal.defs (F := Ideal)) (onTc (τ := Cert.MixProjBwdIdeal.τ) (Cert.MixProjBwdIdeal.main (F := Ideal))) ⟨m, fun _ => 0, g⟩ (fun r => (∀ c : Dev Cert.MixProjBwdIdeal.nD,
      r.2.mem ((c.tc : Thread Cert.MixProjBwdIdeal.nD Cert.MixProjBwdIdeal.τ).loc Cert.MixProjBwdIdeal.main_arg0) = m ((c.tc : Thread Cert.MixProjBwdIdeal.nD Cert.MixProjBwdIdeal.τ).loc Cert.MixProjBwdIdeal.main_arg0)
      ∧ r.2.mem ((c.tc : Thread Cert.MixProjBwdIdeal.nD Cert.MixProjBwdIdeal.τ).loc Cert.MixProjBwdIdeal.main_arg1) = m ((c.tc : Thread Cert.MixProjBwdIdeal.nD Cert.MixProjBwdIdeal.τ).loc Cert.MixProjBwdIdeal.main_arg1))
      ∧ r.2.sem = fun _ => 0)

def quiescent_MixProjBwdRefIdeal [hMixProjBwdRefIdeal : Cert.MixProjBwdRefIdeal.Facts] : Prop :=
  ∀ (m : (ℓ : Loc Cert.MixProjBwdRefIdeal.nD Cert.MixProjBwdRefIdeal.τ Cert.MixProjBwdRefIdeal.sig) → Buf (Elt Ideal) ℓ) (g : Dev Cert.MixProjBwdRefIdeal.nD → PrngReg), Pre_MixProjBwdRefIdeal m →
    θ_run (Cert.MixProjBwdRefIdeal.defs (F := Ideal)) (onTc (τ := Cert.MixProjBwdRefIdeal.τ) (Cert.MixProjBwdRefIdeal.main (F := Ideal))) ⟨m, fun _ => 0, g⟩ (fun r => (∀ c : Dev Cert.MixProjBwdRefIdeal.nD,
      r.2.mem ((c.tc : Thread Cert.MixProjBwdRefIdeal.nD Cert.MixProjBwdRefIdeal.τ).loc Cert.MixProjBwdRefIdeal.main_arg0) = m ((c.tc : Thread Cert.MixProjBwdRefIdeal.nD Cert.MixProjBwdRefIdeal.τ).loc Cert.MixProjBwdRefIdeal.main_arg0)
      ∧ r.2.mem ((c.tc : Thread Cert.MixProjBwdRefIdeal.nD Cert.MixProjBwdRefIdeal.τ).loc Cert.MixProjBwdRefIdeal.main_arg1) = m ((c.tc : Thread Cert.MixProjBwdRefIdeal.nD Cert.MixProjBwdRefIdeal.τ).loc Cert.MixProjBwdRefIdeal.main_arg1))
      ∧ r.2.sem = fun _ => 0)

def quiescent_QkNormBwd [hQkNormBwd : Cert.QkNormBwd.Facts] : Prop :=
  ∀ (m : (ℓ : Loc Cert.QkNormBwd.nD Cert.QkNormBwd.τ Cert.QkNormBwd.sig) → Buf (Elt Bits) ℓ) (g : Dev Cert.QkNormBwd.nD → PrngReg), Pre_QkNormBwd m →
    θ_run (Cert.QkNormBwd.defs (F := Bits)) (onTc (τ := Cert.QkNormBwd.τ) (Cert.QkNormBwd.main (F := Bits))) ⟨m, fun _ => 0, g⟩ (fun r => (∀ c : Dev Cert.QkNormBwd.nD,
      r.2.mem ((c.tc : Thread Cert.QkNormBwd.nD Cert.QkNormBwd.τ).loc Cert.QkNormBwd.main_arg0) = m ((c.tc : Thread Cert.QkNormBwd.nD Cert.QkNormBwd.τ).loc Cert.QkNormBwd.main_arg0)
      ∧ r.2.mem ((c.tc : Thread Cert.QkNormBwd.nD Cert.QkNormBwd.τ).loc Cert.QkNormBwd.main_arg1) = m ((c.tc : Thread Cert.QkNormBwd.nD Cert.QkNormBwd.τ).loc Cert.QkNormBwd.main_arg1)
      ∧ r.2.mem ((c.tc : Thread Cert.QkNormBwd.nD Cert.QkNormBwd.τ).loc Cert.QkNormBwd.main_arg2) = m ((c.tc : Thread Cert.QkNormBwd.nD Cert.QkNormBwd.τ).loc Cert.QkNormBwd.main_arg2)
      ∧ r.2.mem ((c.tc : Thread Cert.QkNormBwd.nD Cert.QkNormBwd.τ).loc Cert.QkNormBwd.main_arg3) = m ((c.tc : Thread Cert.QkNormBwd.nD Cert.QkNormBwd.τ).loc Cert.QkNormBwd.main_arg3)
      ∧ r.2.mem ((c.tc : Thread Cert.QkNormBwd.nD Cert.QkNormBwd.τ).loc Cert.QkNormBwd.main_arg4) = m ((c.tc : Thread Cert.QkNormBwd.nD Cert.QkNormBwd.τ).loc Cert.QkNormBwd.main_arg4))
      ∧ r.2.sem = fun _ => 0)

def quiescent_QkNormBwdIdeal [hQkNormBwdIdeal : Cert.QkNormBwdIdeal.Facts] : Prop :=
  ∀ (m : (ℓ : Loc Cert.QkNormBwdIdeal.nD Cert.QkNormBwdIdeal.τ Cert.QkNormBwdIdeal.sig) → Buf (Elt Ideal) ℓ) (g : Dev Cert.QkNormBwdIdeal.nD → PrngReg), Pre_QkNormBwdIdeal m →
    θ_run (Cert.QkNormBwdIdeal.defs (F := Ideal)) (onTc (τ := Cert.QkNormBwdIdeal.τ) (Cert.QkNormBwdIdeal.main (F := Ideal))) ⟨m, fun _ => 0, g⟩ (fun r => (∀ c : Dev Cert.QkNormBwdIdeal.nD,
      r.2.mem ((c.tc : Thread Cert.QkNormBwdIdeal.nD Cert.QkNormBwdIdeal.τ).loc Cert.QkNormBwdIdeal.main_arg0) = m ((c.tc : Thread Cert.QkNormBwdIdeal.nD Cert.QkNormBwdIdeal.τ).loc Cert.QkNormBwdIdeal.main_arg0)
      ∧ r.2.mem ((c.tc : Thread Cert.QkNormBwdIdeal.nD Cert.QkNormBwdIdeal.τ).loc Cert.QkNormBwdIdeal.main_arg1) = m ((c.tc : Thread Cert.QkNormBwdIdeal.nD Cert.QkNormBwdIdeal.τ).loc Cert.QkNormBwdIdeal.main_arg1)
      ∧ r.2.mem ((c.tc : Thread Cert.QkNormBwdIdeal.nD Cert.QkNormBwdIdeal.τ).loc Cert.QkNormBwdIdeal.main_arg2) = m ((c.tc : Thread Cert.QkNormBwdIdeal.nD Cert.QkNormBwdIdeal.τ).loc Cert.QkNormBwdIdeal.main_arg2)
      ∧ r.2.mem ((c.tc : Thread Cert.QkNormBwdIdeal.nD Cert.QkNormBwdIdeal.τ).loc Cert.QkNormBwdIdeal.main_arg3) = m ((c.tc : Thread Cert.QkNormBwdIdeal.nD Cert.QkNormBwdIdeal.τ).loc Cert.QkNormBwdIdeal.main_arg3)
      ∧ r.2.mem ((c.tc : Thread Cert.QkNormBwdIdeal.nD Cert.QkNormBwdIdeal.τ).loc Cert.QkNormBwdIdeal.main_arg4) = m ((c.tc : Thread Cert.QkNormBwdIdeal.nD Cert.QkNormBwdIdeal.τ).loc Cert.QkNormBwdIdeal.main_arg4))
      ∧ r.2.sem = fun _ => 0)

def quiescent_QkNormBwdRefIdeal [hQkNormBwdRefIdeal : Cert.QkNormBwdRefIdeal.Facts] : Prop :=
  ∀ (m : (ℓ : Loc Cert.QkNormBwdRefIdeal.nD Cert.QkNormBwdRefIdeal.τ Cert.QkNormBwdRefIdeal.sig) → Buf (Elt Ideal) ℓ) (g : Dev Cert.QkNormBwdRefIdeal.nD → PrngReg), Pre_QkNormBwdRefIdeal m →
    θ_run (Cert.QkNormBwdRefIdeal.defs (F := Ideal)) (onTc (τ := Cert.QkNormBwdRefIdeal.τ) (Cert.QkNormBwdRefIdeal.main (F := Ideal))) ⟨m, fun _ => 0, g⟩ (fun r => (∀ c : Dev Cert.QkNormBwdRefIdeal.nD,
      r.2.mem ((c.tc : Thread Cert.QkNormBwdRefIdeal.nD Cert.QkNormBwdRefIdeal.τ).loc Cert.QkNormBwdRefIdeal.main_arg0) = m ((c.tc : Thread Cert.QkNormBwdRefIdeal.nD Cert.QkNormBwdRefIdeal.τ).loc Cert.QkNormBwdRefIdeal.main_arg0)
      ∧ r.2.mem ((c.tc : Thread Cert.QkNormBwdRefIdeal.nD Cert.QkNormBwdRefIdeal.τ).loc Cert.QkNormBwdRefIdeal.main_arg1) = m ((c.tc : Thread Cert.QkNormBwdRefIdeal.nD Cert.QkNormBwdRefIdeal.τ).loc Cert.QkNormBwdRefIdeal.main_arg1)
      ∧ r.2.mem ((c.tc : Thread Cert.QkNormBwdRefIdeal.nD Cert.QkNormBwdRefIdeal.τ).loc Cert.QkNormBwdRefIdeal.main_arg2) = m ((c.tc : Thread Cert.QkNormBwdRefIdeal.nD Cert.QkNormBwdRefIdeal.τ).loc Cert.QkNormBwdRefIdeal.main_arg2)
      ∧ r.2.mem ((c.tc : Thread Cert.QkNormBwdRefIdeal.nD Cert.QkNormBwdRefIdeal.τ).loc Cert.QkNormBwdRefIdeal.main_arg3) = m ((c.tc : Thread Cert.QkNormBwdRefIdeal.nD Cert.QkNormBwdRefIdeal.τ).loc Cert.QkNormBwdRefIdeal.main_arg3)
      ∧ r.2.mem ((c.tc : Thread Cert.QkNormBwdRefIdeal.nD Cert.QkNormBwdRefIdeal.τ).loc Cert.QkNormBwdRefIdeal.main_arg4) = m ((c.tc : Thread Cert.QkNormBwdRefIdeal.nD Cert.QkNormBwdRefIdeal.τ).loc Cert.QkNormBwdRefIdeal.main_arg4))
      ∧ r.2.sem = fun _ => 0)

def quiescent_AttnDelta [hAttnDelta : Cert.AttnDelta.Facts] : Prop :=
  ∀ (m : (ℓ : Loc Cert.AttnDelta.nD Cert.AttnDelta.τ Cert.AttnDelta.sig) → Buf (Elt Bits) ℓ) (g : Dev Cert.AttnDelta.nD → PrngReg), Pre_AttnDelta m →
    θ_run (Cert.AttnDelta.defs (F := Bits)) (onTc (τ := Cert.AttnDelta.τ) (Cert.AttnDelta.main (F := Bits))) ⟨m, fun _ => 0, g⟩ (fun r => (∀ c : Dev Cert.AttnDelta.nD,
      r.2.mem ((c.tc : Thread Cert.AttnDelta.nD Cert.AttnDelta.τ).loc Cert.AttnDelta.main_arg0) = m ((c.tc : Thread Cert.AttnDelta.nD Cert.AttnDelta.τ).loc Cert.AttnDelta.main_arg0)
      ∧ r.2.mem ((c.tc : Thread Cert.AttnDelta.nD Cert.AttnDelta.τ).loc Cert.AttnDelta.main_arg1) = m ((c.tc : Thread Cert.AttnDelta.nD Cert.AttnDelta.τ).loc Cert.AttnDelta.main_arg1))
      ∧ r.2.sem = fun _ => 0)

def quiescent_AttnDeltaIdeal [hAttnDeltaIdeal : Cert.AttnDeltaIdeal.Facts] : Prop :=
  ∀ (m : (ℓ : Loc Cert.AttnDeltaIdeal.nD Cert.AttnDeltaIdeal.τ Cert.AttnDeltaIdeal.sig) → Buf (Elt Ideal) ℓ) (g : Dev Cert.AttnDeltaIdeal.nD → PrngReg), Pre_AttnDeltaIdeal m →
    θ_run (Cert.AttnDeltaIdeal.defs (F := Ideal)) (onTc (τ := Cert.AttnDeltaIdeal.τ) (Cert.AttnDeltaIdeal.main (F := Ideal))) ⟨m, fun _ => 0, g⟩ (fun r => (∀ c : Dev Cert.AttnDeltaIdeal.nD,
      r.2.mem ((c.tc : Thread Cert.AttnDeltaIdeal.nD Cert.AttnDeltaIdeal.τ).loc Cert.AttnDeltaIdeal.main_arg0) = m ((c.tc : Thread Cert.AttnDeltaIdeal.nD Cert.AttnDeltaIdeal.τ).loc Cert.AttnDeltaIdeal.main_arg0)
      ∧ r.2.mem ((c.tc : Thread Cert.AttnDeltaIdeal.nD Cert.AttnDeltaIdeal.τ).loc Cert.AttnDeltaIdeal.main_arg1) = m ((c.tc : Thread Cert.AttnDeltaIdeal.nD Cert.AttnDeltaIdeal.τ).loc Cert.AttnDeltaIdeal.main_arg1))
      ∧ r.2.sem = fun _ => 0)

def quiescent_AttnDeltaRefIdeal [hAttnDeltaRefIdeal : Cert.AttnDeltaRefIdeal.Facts] : Prop :=
  ∀ (m : (ℓ : Loc Cert.AttnDeltaRefIdeal.nD Cert.AttnDeltaRefIdeal.τ Cert.AttnDeltaRefIdeal.sig) → Buf (Elt Ideal) ℓ) (g : Dev Cert.AttnDeltaRefIdeal.nD → PrngReg), Pre_AttnDeltaRefIdeal m →
    θ_run (Cert.AttnDeltaRefIdeal.defs (F := Ideal)) (onTc (τ := Cert.AttnDeltaRefIdeal.τ) (Cert.AttnDeltaRefIdeal.main (F := Ideal))) ⟨m, fun _ => 0, g⟩ (fun r => (∀ c : Dev Cert.AttnDeltaRefIdeal.nD,
      r.2.mem ((c.tc : Thread Cert.AttnDeltaRefIdeal.nD Cert.AttnDeltaRefIdeal.τ).loc Cert.AttnDeltaRefIdeal.main_arg0) = m ((c.tc : Thread Cert.AttnDeltaRefIdeal.nD Cert.AttnDeltaRefIdeal.τ).loc Cert.AttnDeltaRefIdeal.main_arg0)
      ∧ r.2.mem ((c.tc : Thread Cert.AttnDeltaRefIdeal.nD Cert.AttnDeltaRefIdeal.τ).loc Cert.AttnDeltaRefIdeal.main_arg1) = m ((c.tc : Thread Cert.AttnDeltaRefIdeal.nD Cert.AttnDeltaRefIdeal.τ).loc Cert.AttnDeltaRefIdeal.main_arg1))
      ∧ r.2.sem = fun _ => 0)

def quiescent_Norm1Bwd [hNorm1Bwd : Cert.Norm1Bwd.Facts] : Prop :=
  ∀ (m : (ℓ : Loc Cert.Norm1Bwd.nD Cert.Norm1Bwd.τ Cert.Norm1Bwd.sig) → Buf (Elt Bits) ℓ) (g : Dev Cert.Norm1Bwd.nD → PrngReg), Pre_Norm1Bwd m →
    θ_run (Cert.Norm1Bwd.defs (F := Bits)) (onTc (τ := Cert.Norm1Bwd.τ) (Cert.Norm1Bwd.main (F := Bits))) ⟨m, fun _ => 0, g⟩ (fun r => (∀ c : Dev Cert.Norm1Bwd.nD,
      r.2.mem ((c.tc : Thread Cert.Norm1Bwd.nD Cert.Norm1Bwd.τ).loc Cert.Norm1Bwd.main_arg0) = m ((c.tc : Thread Cert.Norm1Bwd.nD Cert.Norm1Bwd.τ).loc Cert.Norm1Bwd.main_arg0)
      ∧ r.2.mem ((c.tc : Thread Cert.Norm1Bwd.nD Cert.Norm1Bwd.τ).loc Cert.Norm1Bwd.main_arg1) = m ((c.tc : Thread Cert.Norm1Bwd.nD Cert.Norm1Bwd.τ).loc Cert.Norm1Bwd.main_arg1)
      ∧ r.2.mem ((c.tc : Thread Cert.Norm1Bwd.nD Cert.Norm1Bwd.τ).loc Cert.Norm1Bwd.main_arg2) = m ((c.tc : Thread Cert.Norm1Bwd.nD Cert.Norm1Bwd.τ).loc Cert.Norm1Bwd.main_arg2)
      ∧ r.2.mem ((c.tc : Thread Cert.Norm1Bwd.nD Cert.Norm1Bwd.τ).loc Cert.Norm1Bwd.main_arg3) = m ((c.tc : Thread Cert.Norm1Bwd.nD Cert.Norm1Bwd.τ).loc Cert.Norm1Bwd.main_arg3)
      ∧ r.2.mem ((c.tc : Thread Cert.Norm1Bwd.nD Cert.Norm1Bwd.τ).loc Cert.Norm1Bwd.main_arg4) = m ((c.tc : Thread Cert.Norm1Bwd.nD Cert.Norm1Bwd.τ).loc Cert.Norm1Bwd.main_arg4))
      ∧ r.2.sem = fun _ => 0)

def quiescent_Norm1BwdIdeal [hNorm1BwdIdeal : Cert.Norm1BwdIdeal.Facts] : Prop :=
  ∀ (m : (ℓ : Loc Cert.Norm1BwdIdeal.nD Cert.Norm1BwdIdeal.τ Cert.Norm1BwdIdeal.sig) → Buf (Elt Ideal) ℓ) (g : Dev Cert.Norm1BwdIdeal.nD → PrngReg), Pre_Norm1BwdIdeal m →
    θ_run (Cert.Norm1BwdIdeal.defs (F := Ideal)) (onTc (τ := Cert.Norm1BwdIdeal.τ) (Cert.Norm1BwdIdeal.main (F := Ideal))) ⟨m, fun _ => 0, g⟩ (fun r => (∀ c : Dev Cert.Norm1BwdIdeal.nD,
      r.2.mem ((c.tc : Thread Cert.Norm1BwdIdeal.nD Cert.Norm1BwdIdeal.τ).loc Cert.Norm1BwdIdeal.main_arg0) = m ((c.tc : Thread Cert.Norm1BwdIdeal.nD Cert.Norm1BwdIdeal.τ).loc Cert.Norm1BwdIdeal.main_arg0)
      ∧ r.2.mem ((c.tc : Thread Cert.Norm1BwdIdeal.nD Cert.Norm1BwdIdeal.τ).loc Cert.Norm1BwdIdeal.main_arg1) = m ((c.tc : Thread Cert.Norm1BwdIdeal.nD Cert.Norm1BwdIdeal.τ).loc Cert.Norm1BwdIdeal.main_arg1)
      ∧ r.2.mem ((c.tc : Thread Cert.Norm1BwdIdeal.nD Cert.Norm1BwdIdeal.τ).loc Cert.Norm1BwdIdeal.main_arg2) = m ((c.tc : Thread Cert.Norm1BwdIdeal.nD Cert.Norm1BwdIdeal.τ).loc Cert.Norm1BwdIdeal.main_arg2)
      ∧ r.2.mem ((c.tc : Thread Cert.Norm1BwdIdeal.nD Cert.Norm1BwdIdeal.τ).loc Cert.Norm1BwdIdeal.main_arg3) = m ((c.tc : Thread Cert.Norm1BwdIdeal.nD Cert.Norm1BwdIdeal.τ).loc Cert.Norm1BwdIdeal.main_arg3)
      ∧ r.2.mem ((c.tc : Thread Cert.Norm1BwdIdeal.nD Cert.Norm1BwdIdeal.τ).loc Cert.Norm1BwdIdeal.main_arg4) = m ((c.tc : Thread Cert.Norm1BwdIdeal.nD Cert.Norm1BwdIdeal.τ).loc Cert.Norm1BwdIdeal.main_arg4))
      ∧ r.2.sem = fun _ => 0)

def quiescent_Norm1BwdRefIdeal [hNorm1BwdRefIdeal : Cert.Norm1BwdRefIdeal.Facts] : Prop :=
  ∀ (m : (ℓ : Loc Cert.Norm1BwdRefIdeal.nD Cert.Norm1BwdRefIdeal.τ Cert.Norm1BwdRefIdeal.sig) → Buf (Elt Ideal) ℓ) (g : Dev Cert.Norm1BwdRefIdeal.nD → PrngReg), Pre_Norm1BwdRefIdeal m →
    θ_run (Cert.Norm1BwdRefIdeal.defs (F := Ideal)) (onTc (τ := Cert.Norm1BwdRefIdeal.τ) (Cert.Norm1BwdRefIdeal.main (F := Ideal))) ⟨m, fun _ => 0, g⟩ (fun r => (∀ c : Dev Cert.Norm1BwdRefIdeal.nD,
      r.2.mem ((c.tc : Thread Cert.Norm1BwdRefIdeal.nD Cert.Norm1BwdRefIdeal.τ).loc Cert.Norm1BwdRefIdeal.main_arg0) = m ((c.tc : Thread Cert.Norm1BwdRefIdeal.nD Cert.Norm1BwdRefIdeal.τ).loc Cert.Norm1BwdRefIdeal.main_arg0)
      ∧ r.2.mem ((c.tc : Thread Cert.Norm1BwdRefIdeal.nD Cert.Norm1BwdRefIdeal.τ).loc Cert.Norm1BwdRefIdeal.main_arg1) = m ((c.tc : Thread Cert.Norm1BwdRefIdeal.nD Cert.Norm1BwdRefIdeal.τ).loc Cert.Norm1BwdRefIdeal.main_arg1)
      ∧ r.2.mem ((c.tc : Thread Cert.Norm1BwdRefIdeal.nD Cert.Norm1BwdRefIdeal.τ).loc Cert.Norm1BwdRefIdeal.main_arg2) = m ((c.tc : Thread Cert.Norm1BwdRefIdeal.nD Cert.Norm1BwdRefIdeal.τ).loc Cert.Norm1BwdRefIdeal.main_arg2)
      ∧ r.2.mem ((c.tc : Thread Cert.Norm1BwdRefIdeal.nD Cert.Norm1BwdRefIdeal.τ).loc Cert.Norm1BwdRefIdeal.main_arg3) = m ((c.tc : Thread Cert.Norm1BwdRefIdeal.nD Cert.Norm1BwdRefIdeal.τ).loc Cert.Norm1BwdRefIdeal.main_arg3)
      ∧ r.2.mem ((c.tc : Thread Cert.Norm1BwdRefIdeal.nD Cert.Norm1BwdRefIdeal.τ).loc Cert.Norm1BwdRefIdeal.main_arg4) = m ((c.tc : Thread Cert.Norm1BwdRefIdeal.nD Cert.Norm1BwdRefIdeal.τ).loc Cert.Norm1BwdRefIdeal.main_arg4))
      ∧ r.2.sem = fun _ => 0)

def quiescent_Norm2Bwd [hNorm2Bwd : Cert.Norm2Bwd.Facts] : Prop :=
  ∀ (m : (ℓ : Loc Cert.Norm2Bwd.nD Cert.Norm2Bwd.τ Cert.Norm2Bwd.sig) → Buf (Elt Bits) ℓ) (g : Dev Cert.Norm2Bwd.nD → PrngReg), Pre_Norm2Bwd m →
    θ_run (Cert.Norm2Bwd.defs (F := Bits)) (onTc (τ := Cert.Norm2Bwd.τ) (Cert.Norm2Bwd.main (F := Bits))) ⟨m, fun _ => 0, g⟩ (fun r => (∀ c : Dev Cert.Norm2Bwd.nD,
      r.2.mem ((c.tc : Thread Cert.Norm2Bwd.nD Cert.Norm2Bwd.τ).loc Cert.Norm2Bwd.main_arg0) = m ((c.tc : Thread Cert.Norm2Bwd.nD Cert.Norm2Bwd.τ).loc Cert.Norm2Bwd.main_arg0)
      ∧ r.2.mem ((c.tc : Thread Cert.Norm2Bwd.nD Cert.Norm2Bwd.τ).loc Cert.Norm2Bwd.main_arg1) = m ((c.tc : Thread Cert.Norm2Bwd.nD Cert.Norm2Bwd.τ).loc Cert.Norm2Bwd.main_arg1)
      ∧ r.2.mem ((c.tc : Thread Cert.Norm2Bwd.nD Cert.Norm2Bwd.τ).loc Cert.Norm2Bwd.main_arg2) = m ((c.tc : Thread Cert.Norm2Bwd.nD Cert.Norm2Bwd.τ).loc Cert.Norm2Bwd.main_arg2)
      ∧ r.2.mem ((c.tc : Thread Cert.Norm2Bwd.nD Cert.Norm2Bwd.τ).loc Cert.Norm2Bwd.main_arg3) = m ((c.tc : Thread Cert.Norm2Bwd.nD Cert.Norm2Bwd.τ).loc Cert.Norm2Bwd.main_arg3)
      ∧ r.2.mem ((c.tc : Thread Cert.Norm2Bwd.nD Cert.Norm2Bwd.τ).loc Cert.Norm2Bwd.main_arg4) = m ((c.tc : Thread Cert.Norm2Bwd.nD Cert.Norm2Bwd.τ).loc Cert.Norm2Bwd.main_arg4)
      ∧ r.2.mem ((c.tc : Thread Cert.Norm2Bwd.nD Cert.Norm2Bwd.τ).loc Cert.Norm2Bwd.main_arg5) = m ((c.tc : Thread Cert.Norm2Bwd.nD Cert.Norm2Bwd.τ).loc Cert.Norm2Bwd.main_arg5)
      ∧ r.2.mem ((c.tc : Thread Cert.Norm2Bwd.nD Cert.Norm2Bwd.τ).loc Cert.Norm2Bwd.main_arg6) = m ((c.tc : Thread Cert.Norm2Bwd.nD Cert.Norm2Bwd.τ).loc Cert.Norm2Bwd.main_arg6))
      ∧ r.2.sem = fun _ => 0)

def quiescent_Norm2BwdIdeal [hNorm2BwdIdeal : Cert.Norm2BwdIdeal.Facts] : Prop :=
  ∀ (m : (ℓ : Loc Cert.Norm2BwdIdeal.nD Cert.Norm2BwdIdeal.τ Cert.Norm2BwdIdeal.sig) → Buf (Elt Ideal) ℓ) (g : Dev Cert.Norm2BwdIdeal.nD → PrngReg), Pre_Norm2BwdIdeal m →
    θ_run (Cert.Norm2BwdIdeal.defs (F := Ideal)) (onTc (τ := Cert.Norm2BwdIdeal.τ) (Cert.Norm2BwdIdeal.main (F := Ideal))) ⟨m, fun _ => 0, g⟩ (fun r => (∀ c : Dev Cert.Norm2BwdIdeal.nD,
      r.2.mem ((c.tc : Thread Cert.Norm2BwdIdeal.nD Cert.Norm2BwdIdeal.τ).loc Cert.Norm2BwdIdeal.main_arg0) = m ((c.tc : Thread Cert.Norm2BwdIdeal.nD Cert.Norm2BwdIdeal.τ).loc Cert.Norm2BwdIdeal.main_arg0)
      ∧ r.2.mem ((c.tc : Thread Cert.Norm2BwdIdeal.nD Cert.Norm2BwdIdeal.τ).loc Cert.Norm2BwdIdeal.main_arg1) = m ((c.tc : Thread Cert.Norm2BwdIdeal.nD Cert.Norm2BwdIdeal.τ).loc Cert.Norm2BwdIdeal.main_arg1)
      ∧ r.2.mem ((c.tc : Thread Cert.Norm2BwdIdeal.nD Cert.Norm2BwdIdeal.τ).loc Cert.Norm2BwdIdeal.main_arg2) = m ((c.tc : Thread Cert.Norm2BwdIdeal.nD Cert.Norm2BwdIdeal.τ).loc Cert.Norm2BwdIdeal.main_arg2)
      ∧ r.2.mem ((c.tc : Thread Cert.Norm2BwdIdeal.nD Cert.Norm2BwdIdeal.τ).loc Cert.Norm2BwdIdeal.main_arg3) = m ((c.tc : Thread Cert.Norm2BwdIdeal.nD Cert.Norm2BwdIdeal.τ).loc Cert.Norm2BwdIdeal.main_arg3)
      ∧ r.2.mem ((c.tc : Thread Cert.Norm2BwdIdeal.nD Cert.Norm2BwdIdeal.τ).loc Cert.Norm2BwdIdeal.main_arg4) = m ((c.tc : Thread Cert.Norm2BwdIdeal.nD Cert.Norm2BwdIdeal.τ).loc Cert.Norm2BwdIdeal.main_arg4)
      ∧ r.2.mem ((c.tc : Thread Cert.Norm2BwdIdeal.nD Cert.Norm2BwdIdeal.τ).loc Cert.Norm2BwdIdeal.main_arg5) = m ((c.tc : Thread Cert.Norm2BwdIdeal.nD Cert.Norm2BwdIdeal.τ).loc Cert.Norm2BwdIdeal.main_arg5)
      ∧ r.2.mem ((c.tc : Thread Cert.Norm2BwdIdeal.nD Cert.Norm2BwdIdeal.τ).loc Cert.Norm2BwdIdeal.main_arg6) = m ((c.tc : Thread Cert.Norm2BwdIdeal.nD Cert.Norm2BwdIdeal.τ).loc Cert.Norm2BwdIdeal.main_arg6))
      ∧ r.2.sem = fun _ => 0)

def quiescent_Norm2BwdRefIdeal [hNorm2BwdRefIdeal : Cert.Norm2BwdRefIdeal.Facts] : Prop :=
  ∀ (m : (ℓ : Loc Cert.Norm2BwdRefIdeal.nD Cert.Norm2BwdRefIdeal.τ Cert.Norm2BwdRefIdeal.sig) → Buf (Elt Ideal) ℓ) (g : Dev Cert.Norm2BwdRefIdeal.nD → PrngReg), Pre_Norm2BwdRefIdeal m →
    θ_run (Cert.Norm2BwdRefIdeal.defs (F := Ideal)) (onTc (τ := Cert.Norm2BwdRefIdeal.τ) (Cert.Norm2BwdRefIdeal.main (F := Ideal))) ⟨m, fun _ => 0, g⟩ (fun r => (∀ c : Dev Cert.Norm2BwdRefIdeal.nD,
      r.2.mem ((c.tc : Thread Cert.Norm2BwdRefIdeal.nD Cert.Norm2BwdRefIdeal.τ).loc Cert.Norm2BwdRefIdeal.main_arg0) = m ((c.tc : Thread Cert.Norm2BwdRefIdeal.nD Cert.Norm2BwdRefIdeal.τ).loc Cert.Norm2BwdRefIdeal.main_arg0)
      ∧ r.2.mem ((c.tc : Thread Cert.Norm2BwdRefIdeal.nD Cert.Norm2BwdRefIdeal.τ).loc Cert.Norm2BwdRefIdeal.main_arg1) = m ((c.tc : Thread Cert.Norm2BwdRefIdeal.nD Cert.Norm2BwdRefIdeal.τ).loc Cert.Norm2BwdRefIdeal.main_arg1)
      ∧ r.2.mem ((c.tc : Thread Cert.Norm2BwdRefIdeal.nD Cert.Norm2BwdRefIdeal.τ).loc Cert.Norm2BwdRefIdeal.main_arg2) = m ((c.tc : Thread Cert.Norm2BwdRefIdeal.nD Cert.Norm2BwdRefIdeal.τ).loc Cert.Norm2BwdRefIdeal.main_arg2)
      ∧ r.2.mem ((c.tc : Thread Cert.Norm2BwdRefIdeal.nD Cert.Norm2BwdRefIdeal.τ).loc Cert.Norm2BwdRefIdeal.main_arg3) = m ((c.tc : Thread Cert.Norm2BwdRefIdeal.nD Cert.Norm2BwdRefIdeal.τ).loc Cert.Norm2BwdRefIdeal.main_arg3)
      ∧ r.2.mem ((c.tc : Thread Cert.Norm2BwdRefIdeal.nD Cert.Norm2BwdRefIdeal.τ).loc Cert.Norm2BwdRefIdeal.main_arg4) = m ((c.tc : Thread Cert.Norm2BwdRefIdeal.nD Cert.Norm2BwdRefIdeal.τ).loc Cert.Norm2BwdRefIdeal.main_arg4)
      ∧ r.2.mem ((c.tc : Thread Cert.Norm2BwdRefIdeal.nD Cert.Norm2BwdRefIdeal.τ).loc Cert.Norm2BwdRefIdeal.main_arg5) = m ((c.tc : Thread Cert.Norm2BwdRefIdeal.nD Cert.Norm2BwdRefIdeal.τ).loc Cert.Norm2BwdRefIdeal.main_arg5)
      ∧ r.2.mem ((c.tc : Thread Cert.Norm2BwdRefIdeal.nD Cert.Norm2BwdRefIdeal.τ).loc Cert.Norm2BwdRefIdeal.main_arg6) = m ((c.tc : Thread Cert.Norm2BwdRefIdeal.nD Cert.Norm2BwdRefIdeal.τ).loc Cert.Norm2BwdRefIdeal.main_arg6))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2)
      ∧ r.2.mem ((c.tc : Thread Cert.NormFwd.nD Cert.NormFwd.τ).loc Cert.NormFwd.main_arg3) = m ((c.tc : Thread Cert.NormFwd.nD Cert.NormFwd.τ).loc Cert.NormFwd.main_arg3))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
      ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1)
      ∧ r.2.mem ((c.tc : Thread Cert.NormFwdRefIdeal.nD Cert.NormFwdRefIdeal.τ).loc Cert.NormFwdRefIdeal.main_arg2) = m ((c.tc : Thread Cert.NormFwdRefIdeal.nD Cert.NormFwdRefIdeal.τ).loc Cert.NormFwdRefIdeal.main_arg2)
      ∧ r.2.mem ((c.tc : Thread Cert.NormFwdRefIdeal.nD Cert.NormFwdRefIdeal.τ).loc Cert.NormFwdRefIdeal.main_arg3) = m ((c.tc : Thread Cert.NormFwdRefIdeal.nD Cert.NormFwdRefIdeal.τ).loc Cert.NormFwdRefIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdIdeal_pre_attention_finite [hAttnFwdIdeal : Cert.AttnFwdIdeal.Facts] [hPre_attention_finite : Cert.Pre_attention_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attention_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_AttnFwdRefIdeal_pre_attention_finite [hAttnFwdRefIdeal : Cert.AttnFwdRefIdeal.Facts] [hPre_attention_finite : Cert.Pre_attention_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attention_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_Norm3Bwd [hNorm3Bwd : Cert.Norm3Bwd.Facts] : Prop :=
  ∀ (m : (ℓ : Loc Cert.Norm3Bwd.nD Cert.Norm3Bwd.τ Cert.Norm3Bwd.sig) → Buf (Elt Bits) ℓ) (g : Dev Cert.Norm3Bwd.nD → PrngReg), Pre_Norm3Bwd m →
    θ_run (Cert.Norm3Bwd.defs (F := Bits)) (onTc (τ := Cert.Norm3Bwd.τ) (Cert.Norm3Bwd.main (F := Bits))) ⟨m, fun _ => 0, g⟩ (fun r => (∀ c : Dev Cert.Norm3Bwd.nD,
      r.2.mem ((c.tc : Thread Cert.Norm3Bwd.nD Cert.Norm3Bwd.τ).loc Cert.Norm3Bwd.main_arg0) = m ((c.tc : Thread Cert.Norm3Bwd.nD Cert.Norm3Bwd.τ).loc Cert.Norm3Bwd.main_arg0)
      ∧ r.2.mem ((c.tc : Thread Cert.Norm3Bwd.nD Cert.Norm3Bwd.τ).loc Cert.Norm3Bwd.main_arg1) = m ((c.tc : Thread Cert.Norm3Bwd.nD Cert.Norm3Bwd.τ).loc Cert.Norm3Bwd.main_arg1)
      ∧ r.2.mem ((c.tc : Thread Cert.Norm3Bwd.nD Cert.Norm3Bwd.τ).loc Cert.Norm3Bwd.main_arg2) = m ((c.tc : Thread Cert.Norm3Bwd.nD Cert.Norm3Bwd.τ).loc Cert.Norm3Bwd.main_arg2)
      ∧ r.2.mem ((c.tc : Thread Cert.Norm3Bwd.nD Cert.Norm3Bwd.τ).loc Cert.Norm3Bwd.main_arg3) = m ((c.tc : Thread Cert.Norm3Bwd.nD Cert.Norm3Bwd.τ).loc Cert.Norm3Bwd.main_arg3)
      ∧ r.2.mem ((c.tc : Thread Cert.Norm3Bwd.nD Cert.Norm3Bwd.τ).loc Cert.Norm3Bwd.main_arg4) = m ((c.tc : Thread Cert.Norm3Bwd.nD Cert.Norm3Bwd.τ).loc Cert.Norm3Bwd.main_arg4)
      ∧ r.2.mem ((c.tc : Thread Cert.Norm3Bwd.nD Cert.Norm3Bwd.τ).loc Cert.Norm3Bwd.main_arg5) = m ((c.tc : Thread Cert.Norm3Bwd.nD Cert.Norm3Bwd.τ).loc Cert.Norm3Bwd.main_arg5)
      ∧ r.2.mem ((c.tc : Thread Cert.Norm3Bwd.nD Cert.Norm3Bwd.τ).loc Cert.Norm3Bwd.main_arg6) = m ((c.tc : Thread Cert.Norm3Bwd.nD Cert.Norm3Bwd.τ).loc Cert.Norm3Bwd.main_arg6))
      ∧ r.2.sem = fun _ => 0)

def quiescent_Norm3BwdIdeal [hNorm3BwdIdeal : Cert.Norm3BwdIdeal.Facts] : Prop :=
  ∀ (m : (ℓ : Loc Cert.Norm3BwdIdeal.nD Cert.Norm3BwdIdeal.τ Cert.Norm3BwdIdeal.sig) → Buf (Elt Ideal) ℓ) (g : Dev Cert.Norm3BwdIdeal.nD → PrngReg), Pre_Norm3BwdIdeal m →
    θ_run (Cert.Norm3BwdIdeal.defs (F := Ideal)) (onTc (τ := Cert.Norm3BwdIdeal.τ) (Cert.Norm3BwdIdeal.main (F := Ideal))) ⟨m, fun _ => 0, g⟩ (fun r => (∀ c : Dev Cert.Norm3BwdIdeal.nD,
      r.2.mem ((c.tc : Thread Cert.Norm3BwdIdeal.nD Cert.Norm3BwdIdeal.τ).loc Cert.Norm3BwdIdeal.main_arg0) = m ((c.tc : Thread Cert.Norm3BwdIdeal.nD Cert.Norm3BwdIdeal.τ).loc Cert.Norm3BwdIdeal.main_arg0)
      ∧ r.2.mem ((c.tc : Thread Cert.Norm3BwdIdeal.nD Cert.Norm3BwdIdeal.τ).loc Cert.Norm3BwdIdeal.main_arg1) = m ((c.tc : Thread Cert.Norm3BwdIdeal.nD Cert.Norm3BwdIdeal.τ).loc Cert.Norm3BwdIdeal.main_arg1)
      ∧ r.2.mem ((c.tc : Thread Cert.Norm3BwdIdeal.nD Cert.Norm3BwdIdeal.τ).loc Cert.Norm3BwdIdeal.main_arg2) = m ((c.tc : Thread Cert.Norm3BwdIdeal.nD Cert.Norm3BwdIdeal.τ).loc Cert.Norm3BwdIdeal.main_arg2)
      ∧ r.2.mem ((c.tc : Thread Cert.Norm3BwdIdeal.nD Cert.Norm3BwdIdeal.τ).loc Cert.Norm3BwdIdeal.main_arg3) = m ((c.tc : Thread Cert.Norm3BwdIdeal.nD Cert.Norm3BwdIdeal.τ).loc Cert.Norm3BwdIdeal.main_arg3)
      ∧ r.2.mem ((c.tc : Thread Cert.Norm3BwdIdeal.nD Cert.Norm3BwdIdeal.τ).loc Cert.Norm3BwdIdeal.main_arg4) = m ((c.tc : Thread Cert.Norm3BwdIdeal.nD Cert.Norm3BwdIdeal.τ).loc Cert.Norm3BwdIdeal.main_arg4)
      ∧ r.2.mem ((c.tc : Thread Cert.Norm3BwdIdeal.nD Cert.Norm3BwdIdeal.τ).loc Cert.Norm3BwdIdeal.main_arg5) = m ((c.tc : Thread Cert.Norm3BwdIdeal.nD Cert.Norm3BwdIdeal.τ).loc Cert.Norm3BwdIdeal.main_arg5)
      ∧ r.2.mem ((c.tc : Thread Cert.Norm3BwdIdeal.nD Cert.Norm3BwdIdeal.τ).loc Cert.Norm3BwdIdeal.main_arg6) = m ((c.tc : Thread Cert.Norm3BwdIdeal.nD Cert.Norm3BwdIdeal.τ).loc Cert.Norm3BwdIdeal.main_arg6))
      ∧ r.2.sem = fun _ => 0)

def quiescent_Norm3BwdRefIdeal [hNorm3BwdRefIdeal : Cert.Norm3BwdRefIdeal.Facts] : Prop :=
  ∀ (m : (ℓ : Loc Cert.Norm3BwdRefIdeal.nD Cert.Norm3BwdRefIdeal.τ Cert.Norm3BwdRefIdeal.sig) → Buf (Elt Ideal) ℓ) (g : Dev Cert.Norm3BwdRefIdeal.nD → PrngReg), Pre_Norm3BwdRefIdeal m →
    θ_run (Cert.Norm3BwdRefIdeal.defs (F := Ideal)) (onTc (τ := Cert.Norm3BwdRefIdeal.τ) (Cert.Norm3BwdRefIdeal.main (F := Ideal))) ⟨m, fun _ => 0, g⟩ (fun r => (∀ c : Dev Cert.Norm3BwdRefIdeal.nD,
      r.2.mem ((c.tc : Thread Cert.Norm3BwdRefIdeal.nD Cert.Norm3BwdRefIdeal.τ).loc Cert.Norm3BwdRefIdeal.main_arg0) = m ((c.tc : Thread Cert.Norm3BwdRefIdeal.nD Cert.Norm3BwdRefIdeal.τ).loc Cert.Norm3BwdRefIdeal.main_arg0)
      ∧ r.2.mem ((c.tc : Thread Cert.Norm3BwdRefIdeal.nD Cert.Norm3BwdRefIdeal.τ).loc Cert.Norm3BwdRefIdeal.main_arg1) = m ((c.tc : Thread Cert.Norm3BwdRefIdeal.nD Cert.Norm3BwdRefIdeal.τ).loc Cert.Norm3BwdRefIdeal.main_arg1)
      ∧ r.2.mem ((c.tc : Thread Cert.Norm3BwdRefIdeal.nD Cert.Norm3BwdRefIdeal.τ).loc Cert.Norm3BwdRefIdeal.main_arg2) = m ((c.tc : Thread Cert.Norm3BwdRefIdeal.nD Cert.Norm3BwdRefIdeal.τ).loc Cert.Norm3BwdRefIdeal.main_arg2)
      ∧ r.2.mem ((c.tc : Thread Cert.Norm3BwdRefIdeal.nD Cert.Norm3BwdRefIdeal.τ).loc Cert.Norm3BwdRefIdeal.main_arg3) = m ((c.tc : Thread Cert.Norm3BwdRefIdeal.nD Cert.Norm3BwdRefIdeal.τ).loc Cert.Norm3BwdRefIdeal.main_arg3)
      ∧ r.2.mem ((c.tc : Thread Cert.Norm3BwdRefIdeal.nD Cert.Norm3BwdRefIdeal.τ).loc Cert.Norm3BwdRefIdeal.main_arg4) = m ((c.tc : Thread Cert.Norm3BwdRefIdeal.nD Cert.Norm3BwdRefIdeal.τ).loc Cert.Norm3BwdRefIdeal.main_arg4)
      ∧ r.2.mem ((c.tc : Thread Cert.Norm3BwdRefIdeal.nD Cert.Norm3BwdRefIdeal.τ).loc Cert.Norm3BwdRefIdeal.main_arg5) = m ((c.tc : Thread Cert.Norm3BwdRefIdeal.nD Cert.Norm3BwdRefIdeal.τ).loc Cert.Norm3BwdRefIdeal.main_arg5)
      ∧ r.2.mem ((c.tc : Thread Cert.Norm3BwdRefIdeal.nD Cert.Norm3BwdRefIdeal.τ).loc Cert.Norm3BwdRefIdeal.main_arg6) = m ((c.tc : Thread Cert.Norm3BwdRefIdeal.nD Cert.Norm3BwdRefIdeal.τ).loc Cert.Norm3BwdRefIdeal.main_arg6))
      ∧ r.2.sem = fun _ => 0)

def quiescent_QkNormFwd [hQkNormFwd : Cert.QkNormFwd.Facts] : Prop :=
  ∀ (m : (ℓ : Loc Cert.QkNormFwd.nD Cert.QkNormFwd.τ Cert.QkNormFwd.sig) → Buf (Elt Bits) ℓ) (g : Dev Cert.QkNormFwd.nD → PrngReg), Pre_QkNormFwd m →
    θ_run (Cert.QkNormFwd.defs (F := Bits)) (onTc (τ := Cert.QkNormFwd.τ) (Cert.QkNormFwd.main (F := Bits))) ⟨m, fun _ => 0, g⟩ (fun r => (∀ c : Dev Cert.QkNormFwd.nD,
      r.2.mem ((c.tc : Thread Cert.QkNormFwd.nD Cert.QkNormFwd.τ).loc Cert.QkNormFwd.main_arg0) = m ((c.tc : Thread Cert.QkNormFwd.nD Cert.QkNormFwd.τ).loc Cert.QkNormFwd.main_arg0)
      ∧ r.2.mem ((c.tc : Thread Cert.QkNormFwd.nD Cert.QkNormFwd.τ).loc Cert.QkNormFwd.main_arg1) = m ((c.tc : Thread Cert.QkNormFwd.nD Cert.QkNormFwd.τ).loc Cert.QkNormFwd.main_arg1)
      ∧ r.2.mem ((c.tc : Thread Cert.QkNormFwd.nD Cert.QkNormFwd.τ).loc Cert.QkNormFwd.main_arg2) = m ((c.tc : Thread Cert.QkNormFwd.nD Cert.QkNormFwd.τ).loc Cert.QkNormFwd.main_arg2))
      ∧ r.2.sem = fun _ => 0)

def quiescent_QkNormFwdIdeal [hQkNormFwdIdeal : Cert.QkNormFwdIdeal.Facts] : Prop :=
  ∀ (m : (ℓ : Loc Cert.QkNormFwdIdeal.nD Cert.QkNormFwdIdeal.τ Cert.QkNormFwdIdeal.sig) → Buf (Elt Ideal) ℓ) (g : Dev Cert.QkNormFwdIdeal.nD → PrngReg), Pre_QkNormFwdIdeal m →
    θ_run (Cert.QkNormFwdIdeal.defs (F := Ideal)) (onTc (τ := Cert.QkNormFwdIdeal.τ) (Cert.QkNormFwdIdeal.main (F := Ideal))) ⟨m, fun _ => 0, g⟩ (fun r => (∀ c : Dev Cert.QkNormFwdIdeal.nD,
      r.2.mem ((c.tc : Thread Cert.QkNormFwdIdeal.nD Cert.QkNormFwdIdeal.τ).loc Cert.QkNormFwdIdeal.main_arg0) = m ((c.tc : Thread Cert.QkNormFwdIdeal.nD Cert.QkNormFwdIdeal.τ).loc Cert.QkNormFwdIdeal.main_arg0)
      ∧ r.2.mem ((c.tc : Thread Cert.QkNormFwdIdeal.nD Cert.QkNormFwdIdeal.τ).loc Cert.QkNormFwdIdeal.main_arg1) = m ((c.tc : Thread Cert.QkNormFwdIdeal.nD Cert.QkNormFwdIdeal.τ).loc Cert.QkNormFwdIdeal.main_arg1)
      ∧ r.2.mem ((c.tc : Thread Cert.QkNormFwdIdeal.nD Cert.QkNormFwdIdeal.τ).loc Cert.QkNormFwdIdeal.main_arg2) = m ((c.tc : Thread Cert.QkNormFwdIdeal.nD Cert.QkNormFwdIdeal.τ).loc Cert.QkNormFwdIdeal.main_arg2))
      ∧ r.2.sem = fun _ => 0)

def quiescent_QkNormFwdRefIdeal [hQkNormFwdRefIdeal : Cert.QkNormFwdRefIdeal.Facts] : Prop :=
  ∀ (m : (ℓ : Loc Cert.QkNormFwdRefIdeal.nD Cert.QkNormFwdRefIdeal.τ Cert.QkNormFwdRefIdeal.sig) → Buf (Elt Ideal) ℓ) (g : Dev Cert.QkNormFwdRefIdeal.nD → PrngReg), Pre_QkNormFwdRefIdeal m →
    θ_run (Cert.QkNormFwdRefIdeal.defs (F := Ideal)) (onTc (τ := Cert.QkNormFwdRefIdeal.τ) (Cert.QkNormFwdRefIdeal.main (F := Ideal))) ⟨m, fun _ => 0, g⟩ (fun r => (∀ c : Dev Cert.QkNormFwdRefIdeal.nD,
      r.2.mem ((c.tc : Thread Cert.QkNormFwdRefIdeal.nD Cert.QkNormFwdRefIdeal.τ).loc Cert.QkNormFwdRefIdeal.main_arg0) = m ((c.tc : Thread Cert.QkNormFwdRefIdeal.nD Cert.QkNormFwdRefIdeal.τ).loc Cert.QkNormFwdRefIdeal.main_arg0)
      ∧ r.2.mem ((c.tc : Thread Cert.QkNormFwdRefIdeal.nD Cert.QkNormFwdRefIdeal.τ).loc Cert.QkNormFwdRefIdeal.main_arg1) = m ((c.tc : Thread Cert.QkNormFwdRefIdeal.nD Cert.QkNormFwdRefIdeal.τ).loc Cert.QkNormFwdRefIdeal.main_arg1)
      ∧ r.2.mem ((c.tc : Thread Cert.QkNormFwdRefIdeal.nD Cert.QkNormFwdRefIdeal.τ).loc Cert.QkNormFwdRefIdeal.main_arg2) = m ((c.tc : Thread Cert.QkNormFwdRefIdeal.nD Cert.QkNormFwdRefIdeal.τ).loc Cert.QkNormFwdRefIdeal.main_arg2))
      ∧ r.2.sem = fun _ => 0)

def quiescent_FinalLoss [hFinalLoss : Cert.FinalLoss.Facts] : Prop :=
  ∀ (m : (ℓ : Loc Cert.FinalLoss.nD Cert.FinalLoss.τ Cert.FinalLoss.sig) → Buf (Elt Bits) ℓ) (g : Dev Cert.FinalLoss.nD → PrngReg), Pre_FinalLoss m →
    θ_run (Cert.FinalLoss.defs (F := Bits)) (onTc (τ := Cert.FinalLoss.τ) (Cert.FinalLoss.main (F := Bits))) ⟨m, fun _ => 0, g⟩ (fun r => (∀ c : Dev Cert.FinalLoss.nD,
      r.2.mem ((c.tc : Thread Cert.FinalLoss.nD Cert.FinalLoss.τ).loc Cert.FinalLoss.main_arg0) = m ((c.tc : Thread Cert.FinalLoss.nD Cert.FinalLoss.τ).loc Cert.FinalLoss.main_arg0)
      ∧ r.2.mem ((c.tc : Thread Cert.FinalLoss.nD Cert.FinalLoss.τ).loc Cert.FinalLoss.main_arg1) = m ((c.tc : Thread Cert.FinalLoss.nD Cert.FinalLoss.τ).loc Cert.FinalLoss.main_arg1)
      ∧ r.2.mem ((c.tc : Thread Cert.FinalLoss.nD Cert.FinalLoss.τ).loc Cert.FinalLoss.main_arg2) = m ((c.tc : Thread Cert.FinalLoss.nD Cert.FinalLoss.τ).loc Cert.FinalLoss.main_arg2)
      ∧ r.2.mem ((c.tc : Thread Cert.FinalLoss.nD Cert.FinalLoss.τ).loc Cert.FinalLoss.main_arg3) = m ((c.tc : Thread Cert.FinalLoss.nD Cert.FinalLoss.τ).loc Cert.FinalLoss.main_arg3)
      ∧ r.2.mem ((c.tc : Thread Cert.FinalLoss.nD Cert.FinalLoss.τ).loc Cert.FinalLoss.main_arg4) = m ((c.tc : Thread Cert.FinalLoss.nD Cert.FinalLoss.τ).loc Cert.FinalLoss.main_arg4))
      ∧ r.2.sem = fun _ => 0)

def quiescent_FinalLossIdeal [hFinalLossIdeal : Cert.FinalLossIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg), Pre_FinalLossIdeal m →
    θ_run (Cert.FinalLossIdeal.defs (F := Ideal)) (onTc (τ := Cert.FinalLossIdeal.τ) (Cert.FinalLossIdeal.main (F := Ideal))) ⟨m, fun _ => 0, g⟩ (fun r => (∀ c : Dev Cert.FinalLossIdeal.nD,
      r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
      ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
      ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2)
      ∧ r.2.mem ((c.tc : Thread Cert.FinalLossIdeal.nD Cert.FinalLossIdeal.τ).loc Cert.FinalLossIdeal.main_arg3) = m ((c.tc : Thread Cert.FinalLossIdeal.nD Cert.FinalLossIdeal.τ).loc Cert.FinalLossIdeal.main_arg3)
      ∧ r.2.mem ((c.tc : Thread Cert.FinalLossIdeal.nD Cert.FinalLossIdeal.τ).loc Cert.FinalLossIdeal.main_arg4) = m ((c.tc : Thread Cert.FinalLossIdeal.nD Cert.FinalLossIdeal.τ).loc Cert.FinalLossIdeal.main_arg4))
      ∧ r.2.sem = fun _ => 0)

def quiescent_FinalLossRefIdeal [hFinalLossRefIdeal : Cert.FinalLossRefIdeal.Facts] : Prop :=
  ∀ (m : (ℓ : Loc Cert.FinalLossRefIdeal.nD Cert.FinalLossRefIdeal.τ Cert.FinalLossRefIdeal.sig) → Buf (Elt Ideal) ℓ) (g : Dev Cert.FinalLossRefIdeal.nD → PrngReg), Pre_FinalLossRefIdeal m →
    θ_run (Cert.FinalLossRefIdeal.defs (F := Ideal)) (onTc (τ := Cert.FinalLossRefIdeal.τ) (Cert.FinalLossRefIdeal.main (F := Ideal))) ⟨m, fun _ => 0, g⟩ (fun r => (∀ c : Dev Cert.FinalLossRefIdeal.nD,
      r.2.mem ((c.tc : Thread Cert.FinalLossRefIdeal.nD Cert.FinalLossRefIdeal.τ).loc Cert.FinalLossRefIdeal.main_arg0) = m ((c.tc : Thread Cert.FinalLossRefIdeal.nD Cert.FinalLossRefIdeal.τ).loc Cert.FinalLossRefIdeal.main_arg0)
      ∧ r.2.mem ((c.tc : Thread Cert.FinalLossRefIdeal.nD Cert.FinalLossRefIdeal.τ).loc Cert.FinalLossRefIdeal.main_arg1) = m ((c.tc : Thread Cert.FinalLossRefIdeal.nD Cert.FinalLossRefIdeal.τ).loc Cert.FinalLossRefIdeal.main_arg1)
      ∧ r.2.mem ((c.tc : Thread Cert.FinalLossRefIdeal.nD Cert.FinalLossRefIdeal.τ).loc Cert.FinalLossRefIdeal.main_arg2) = m ((c.tc : Thread Cert.FinalLossRefIdeal.nD Cert.FinalLossRefIdeal.τ).loc Cert.FinalLossRefIdeal.main_arg2)
      ∧ r.2.mem ((c.tc : Thread Cert.FinalLossRefIdeal.nD Cert.FinalLossRefIdeal.τ).loc Cert.FinalLossRefIdeal.main_arg3) = m ((c.tc : Thread Cert.FinalLossRefIdeal.nD Cert.FinalLossRefIdeal.τ).loc Cert.FinalLossRefIdeal.main_arg3)
      ∧ r.2.mem ((c.tc : Thread Cert.FinalLossRefIdeal.nD Cert.FinalLossRefIdeal.τ).loc Cert.FinalLossRefIdeal.main_arg4) = m ((c.tc : Thread Cert.FinalLossRefIdeal.nD Cert.FinalLossRefIdeal.τ).loc Cert.FinalLossRefIdeal.main_arg4))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ r.2.sem = fun _ => 0)

def quiescent_AdaBwdRefIdeal [hAdaBwdRefIdeal : Cert.AdaBwdRefIdeal.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1)
      ∧ r.2.mem ((c.tc : Thread Cert.AdaFwdRefIdeal.nD Cert.AdaFwdRefIdeal.τ).loc Cert.AdaFwdRefIdeal.main_arg2) = m ((c.tc : Thread Cert.AdaFwdRefIdeal.nD Cert.AdaFwdRefIdeal.τ).loc Cert.AdaFwdRefIdeal.main_arg2))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def quiescent_AdamFfnIn [hAdamFfnIn : Cert.AdamFfnIn.Facts] : Prop :=
  ∀ (m : (ℓ : Loc Cert.AdamFfnIn.nD Cert.AdamFfnIn.τ Cert.AdamFfnIn.sig) → Buf (Elt Bits) ℓ) (g : Dev Cert.AdamFfnIn.nD → PrngReg), Pre_AdamFfnIn m →
    θ_run (Cert.AdamFfnIn.defs (F := Bits)) (onTc (τ := Cert.AdamFfnIn.τ) (Cert.AdamFfnIn.main (F := Bits))) ⟨m, fun _ => 0, g⟩ (fun r => (∀ c : Dev Cert.AdamFfnIn.nD,
      r.2.mem ((c.tc : Thread Cert.AdamFfnIn.nD Cert.AdamFfnIn.τ).loc Cert.AdamFfnIn.main_arg0) = m ((c.tc : Thread Cert.AdamFfnIn.nD Cert.AdamFfnIn.τ).loc Cert.AdamFfnIn.main_arg0)
      ∧ r.2.mem ((c.tc : Thread Cert.AdamFfnIn.nD Cert.AdamFfnIn.τ).loc Cert.AdamFfnIn.main_arg1) = m ((c.tc : Thread Cert.AdamFfnIn.nD Cert.AdamFfnIn.τ).loc Cert.AdamFfnIn.main_arg1)
      ∧ r.2.mem ((c.tc : Thread Cert.AdamFfnIn.nD Cert.AdamFfnIn.τ).loc Cert.AdamFfnIn.main_arg2) = m ((c.tc : Thread Cert.AdamFfnIn.nD Cert.AdamFfnIn.τ).loc Cert.AdamFfnIn.main_arg2)
      ∧ r.2.mem ((c.tc : Thread Cert.AdamFfnIn.nD Cert.AdamFfnIn.τ).loc Cert.AdamFfnIn.main_arg3) = m ((c.tc : Thread Cert.AdamFfnIn.nD Cert.AdamFfnIn.τ).loc Cert.AdamFfnIn.main_arg3))
      ∧ r.2.sem = fun _ => 0)

def quiescent_AdamFfnInIdeal [hAdamFfnInIdeal : Cert.AdamFfnInIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg), Pre_AdamFfnInIdeal m →
    θ_run (Cert.AdamFfnInIdeal.defs (F := Ideal)) (onTc (τ := Cert.AdamFfnInIdeal.τ) (Cert.AdamFfnInIdeal.main (F := Ideal))) ⟨m, fun _ => 0, g⟩ (fun r => (∀ c : Dev Cert.AdamFfnInIdeal.nD,
      r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
      ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
      ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
      ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3))
      ∧ r.2.sem = fun _ => 0)

def quiescent_AdamFfnInRefIdeal [hAdamFfnInRefIdeal : Cert.AdamFfnInRefIdeal.Facts] : Prop :=
  ∀ (m : (ℓ : Loc Cert.AdamFfnInRefIdeal.nD Cert.AdamFfnInRefIdeal.τ Cert.AdamFfnInRefIdeal.sig) → Buf (Elt Ideal) ℓ) (g : Dev Cert.AdamFfnInRefIdeal.nD → PrngReg), Pre_AdamFfnInRefIdeal m →
    θ_run (Cert.AdamFfnInRefIdeal.defs (F := Ideal)) (onTc (τ := Cert.AdamFfnInRefIdeal.τ) (Cert.AdamFfnInRefIdeal.main (F := Ideal))) ⟨m, fun _ => 0, g⟩ (fun r => (∀ c : Dev Cert.AdamFfnInRefIdeal.nD,
      r.2.mem ((c.tc : Thread Cert.AdamFfnInRefIdeal.nD Cert.AdamFfnInRefIdeal.τ).loc Cert.AdamFfnInRefIdeal.main_arg0) = m ((c.tc : Thread Cert.AdamFfnInRefIdeal.nD Cert.AdamFfnInRefIdeal.τ).loc Cert.AdamFfnInRefIdeal.main_arg0)
      ∧ r.2.mem ((c.tc : Thread Cert.AdamFfnInRefIdeal.nD Cert.AdamFfnInRefIdeal.τ).loc Cert.AdamFfnInRefIdeal.main_arg1) = m ((c.tc : Thread Cert.AdamFfnInRefIdeal.nD Cert.AdamFfnInRefIdeal.τ).loc Cert.AdamFfnInRefIdeal.main_arg1)
      ∧ r.2.mem ((c.tc : Thread Cert.AdamFfnInRefIdeal.nD Cert.AdamFfnInRefIdeal.τ).loc Cert.AdamFfnInRefIdeal.main_arg2) = m ((c.tc : Thread Cert.AdamFfnInRefIdeal.nD Cert.AdamFfnInRefIdeal.τ).loc Cert.AdamFfnInRefIdeal.main_arg2)
      ∧ r.2.mem ((c.tc : Thread Cert.AdamFfnInRefIdeal.nD Cert.AdamFfnInRefIdeal.τ).loc Cert.AdamFfnInRefIdeal.main_arg3) = m ((c.tc : Thread Cert.AdamFfnInRefIdeal.nD Cert.AdamFfnInRefIdeal.τ).loc Cert.AdamFfnInRefIdeal.main_arg3))
      ∧ r.2.sem = fun _ => 0)

def quiescent_AdamFfnOut [hAdamFfnOut : Cert.AdamFfnOut.Facts] : Prop :=
  ∀ (m : (ℓ : Loc Cert.AdamFfnOut.nD Cert.AdamFfnOut.τ Cert.AdamFfnOut.sig) → Buf (Elt Bits) ℓ) (g : Dev Cert.AdamFfnOut.nD → PrngReg), Pre_AdamFfnOut m →
    θ_run (Cert.AdamFfnOut.defs (F := Bits)) (onTc (τ := Cert.AdamFfnOut.τ) (Cert.AdamFfnOut.main (F := Bits))) ⟨m, fun _ => 0, g⟩ (fun r => (∀ c : Dev Cert.AdamFfnOut.nD,
      r.2.mem ((c.tc : Thread Cert.AdamFfnOut.nD Cert.AdamFfnOut.τ).loc Cert.AdamFfnOut.main_arg0) = m ((c.tc : Thread Cert.AdamFfnOut.nD Cert.AdamFfnOut.τ).loc Cert.AdamFfnOut.main_arg0)
      ∧ r.2.mem ((c.tc : Thread Cert.AdamFfnOut.nD Cert.AdamFfnOut.τ).loc Cert.AdamFfnOut.main_arg1) = m ((c.tc : Thread Cert.AdamFfnOut.nD Cert.AdamFfnOut.τ).loc Cert.AdamFfnOut.main_arg1)
      ∧ r.2.mem ((c.tc : Thread Cert.AdamFfnOut.nD Cert.AdamFfnOut.τ).loc Cert.AdamFfnOut.main_arg2) = m ((c.tc : Thread Cert.AdamFfnOut.nD Cert.AdamFfnOut.τ).loc Cert.AdamFfnOut.main_arg2)
      ∧ r.2.mem ((c.tc : Thread Cert.AdamFfnOut.nD Cert.AdamFfnOut.τ).loc Cert.AdamFfnOut.main_arg3) = m ((c.tc : Thread Cert.AdamFfnOut.nD Cert.AdamFfnOut.τ).loc Cert.AdamFfnOut.main_arg3))
      ∧ r.2.sem = fun _ => 0)

def quiescent_AdamFfnOutIdeal [hAdamFfnOutIdeal : Cert.AdamFfnOutIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg), Pre_AdamFfnOutIdeal m →
    θ_run (Cert.AdamFfnOutIdeal.defs (F := Ideal)) (onTc (τ := Cert.AdamFfnOutIdeal.τ) (Cert.AdamFfnOutIdeal.main (F := Ideal))) ⟨m, fun _ => 0, g⟩ (fun r => (∀ c : Dev Cert.AdamFfnOutIdeal.nD,
      r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
      ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
      ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
      ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3))
      ∧ r.2.sem = fun _ => 0)

def quiescent_AdamFfnOutRefIdeal [hAdamFfnOutRefIdeal : Cert.AdamFfnOutRefIdeal.Facts] : Prop :=
  ∀ (m : (ℓ : Loc Cert.AdamFfnOutRefIdeal.nD Cert.AdamFfnOutRefIdeal.τ Cert.AdamFfnOutRefIdeal.sig) → Buf (Elt Ideal) ℓ) (g : Dev Cert.AdamFfnOutRefIdeal.nD → PrngReg), Pre_AdamFfnOutRefIdeal m →
    θ_run (Cert.AdamFfnOutRefIdeal.defs (F := Ideal)) (onTc (τ := Cert.AdamFfnOutRefIdeal.τ) (Cert.AdamFfnOutRefIdeal.main (F := Ideal))) ⟨m, fun _ => 0, g⟩ (fun r => (∀ c : Dev Cert.AdamFfnOutRefIdeal.nD,
      r.2.mem ((c.tc : Thread Cert.AdamFfnOutRefIdeal.nD Cert.AdamFfnOutRefIdeal.τ).loc Cert.AdamFfnOutRefIdeal.main_arg0) = m ((c.tc : Thread Cert.AdamFfnOutRefIdeal.nD Cert.AdamFfnOutRefIdeal.τ).loc Cert.AdamFfnOutRefIdeal.main_arg0)
      ∧ r.2.mem ((c.tc : Thread Cert.AdamFfnOutRefIdeal.nD Cert.AdamFfnOutRefIdeal.τ).loc Cert.AdamFfnOutRefIdeal.main_arg1) = m ((c.tc : Thread Cert.AdamFfnOutRefIdeal.nD Cert.AdamFfnOutRefIdeal.τ).loc Cert.AdamFfnOutRefIdeal.main_arg1)
      ∧ r.2.mem ((c.tc : Thread Cert.AdamFfnOutRefIdeal.nD Cert.AdamFfnOutRefIdeal.τ).loc Cert.AdamFfnOutRefIdeal.main_arg2) = m ((c.tc : Thread Cert.AdamFfnOutRefIdeal.nD Cert.AdamFfnOutRefIdeal.τ).loc Cert.AdamFfnOutRefIdeal.main_arg2)
      ∧ r.2.mem ((c.tc : Thread Cert.AdamFfnOutRefIdeal.nD Cert.AdamFfnOutRefIdeal.τ).loc Cert.AdamFfnOutRefIdeal.main_arg3) = m ((c.tc : Thread Cert.AdamFfnOutRefIdeal.nD Cert.AdamFfnOutRefIdeal.τ).loc Cert.AdamFfnOutRefIdeal.main_arg3))
      ∧ r.2.sem = fun _ => 0)

def quiescent_AdamMixIn [hAdamMixIn : Cert.AdamMixIn.Facts] : Prop :=
  ∀ (m : (ℓ : Loc Cert.AdamMixIn.nD Cert.AdamMixIn.τ Cert.AdamMixIn.sig) → Buf (Elt Bits) ℓ) (g : Dev Cert.AdamMixIn.nD → PrngReg), Pre_AdamMixIn m →
    θ_run (Cert.AdamMixIn.defs (F := Bits)) (onTc (τ := Cert.AdamMixIn.τ) (Cert.AdamMixIn.main (F := Bits))) ⟨m, fun _ => 0, g⟩ (fun r => (∀ c : Dev Cert.AdamMixIn.nD,
      r.2.mem ((c.tc : Thread Cert.AdamMixIn.nD Cert.AdamMixIn.τ).loc Cert.AdamMixIn.main_arg0) = m ((c.tc : Thread Cert.AdamMixIn.nD Cert.AdamMixIn.τ).loc Cert.AdamMixIn.main_arg0)
      ∧ r.2.mem ((c.tc : Thread Cert.AdamMixIn.nD Cert.AdamMixIn.τ).loc Cert.AdamMixIn.main_arg1) = m ((c.tc : Thread Cert.AdamMixIn.nD Cert.AdamMixIn.τ).loc Cert.AdamMixIn.main_arg1)
      ∧ r.2.mem ((c.tc : Thread Cert.AdamMixIn.nD Cert.AdamMixIn.τ).loc Cert.AdamMixIn.main_arg2) = m ((c.tc : Thread Cert.AdamMixIn.nD Cert.AdamMixIn.τ).loc Cert.AdamMixIn.main_arg2)
      ∧ r.2.mem ((c.tc : Thread Cert.AdamMixIn.nD Cert.AdamMixIn.τ).loc Cert.AdamMixIn.main_arg3) = m ((c.tc : Thread Cert.AdamMixIn.nD Cert.AdamMixIn.τ).loc Cert.AdamMixIn.main_arg3))
      ∧ r.2.sem = fun _ => 0)

def quiescent_AdamMixInIdeal [hAdamMixInIdeal : Cert.AdamMixInIdeal.Facts] : Prop :=
  ∀ (m : (ℓ : Loc Cert.AdamMixInIdeal.nD Cert.AdamMixInIdeal.τ Cert.AdamMixInIdeal.sig) → Buf (Elt Ideal) ℓ) (g : Dev Cert.AdamMixInIdeal.nD → PrngReg), Pre_AdamMixInIdeal m →
    θ_run (Cert.AdamMixInIdeal.defs (F := Ideal)) (onTc (τ := Cert.AdamMixInIdeal.τ) (Cert.AdamMixInIdeal.main (F := Ideal))) ⟨m, fun _ => 0, g⟩ (fun r => (∀ c : Dev Cert.AdamMixInIdeal.nD,
      r.2.mem ((c.tc : Thread Cert.AdamMixInIdeal.nD Cert.AdamMixInIdeal.τ).loc Cert.AdamMixInIdeal.main_arg0) = m ((c.tc : Thread Cert.AdamMixInIdeal.nD Cert.AdamMixInIdeal.τ).loc Cert.AdamMixInIdeal.main_arg0)
      ∧ r.2.mem ((c.tc : Thread Cert.AdamMixInIdeal.nD Cert.AdamMixInIdeal.τ).loc Cert.AdamMixInIdeal.main_arg1) = m ((c.tc : Thread Cert.AdamMixInIdeal.nD Cert.AdamMixInIdeal.τ).loc Cert.AdamMixInIdeal.main_arg1)
      ∧ r.2.mem ((c.tc : Thread Cert.AdamMixInIdeal.nD Cert.AdamMixInIdeal.τ).loc Cert.AdamMixInIdeal.main_arg2) = m ((c.tc : Thread Cert.AdamMixInIdeal.nD Cert.AdamMixInIdeal.τ).loc Cert.AdamMixInIdeal.main_arg2)
      ∧ r.2.mem ((c.tc : Thread Cert.AdamMixInIdeal.nD Cert.AdamMixInIdeal.τ).loc Cert.AdamMixInIdeal.main_arg3) = m ((c.tc : Thread Cert.AdamMixInIdeal.nD Cert.AdamMixInIdeal.τ).loc Cert.AdamMixInIdeal.main_arg3))
      ∧ r.2.sem = fun _ => 0)

def quiescent_AdamMixInRefIdeal [hAdamMixInRefIdeal : Cert.AdamMixInRefIdeal.Facts] : Prop :=
  ∀ (m : (ℓ : Loc Cert.AdamMixInRefIdeal.nD Cert.AdamMixInRefIdeal.τ Cert.AdamMixInRefIdeal.sig) → Buf (Elt Ideal) ℓ) (g : Dev Cert.AdamMixInRefIdeal.nD → PrngReg), Pre_AdamMixInRefIdeal m →
    θ_run (Cert.AdamMixInRefIdeal.defs (F := Ideal)) (onTc (τ := Cert.AdamMixInRefIdeal.τ) (Cert.AdamMixInRefIdeal.main (F := Ideal))) ⟨m, fun _ => 0, g⟩ (fun r => (∀ c : Dev Cert.AdamMixInRefIdeal.nD,
      r.2.mem ((c.tc : Thread Cert.AdamMixInRefIdeal.nD Cert.AdamMixInRefIdeal.τ).loc Cert.AdamMixInRefIdeal.main_arg0) = m ((c.tc : Thread Cert.AdamMixInRefIdeal.nD Cert.AdamMixInRefIdeal.τ).loc Cert.AdamMixInRefIdeal.main_arg0)
      ∧ r.2.mem ((c.tc : Thread Cert.AdamMixInRefIdeal.nD Cert.AdamMixInRefIdeal.τ).loc Cert.AdamMixInRefIdeal.main_arg1) = m ((c.tc : Thread Cert.AdamMixInRefIdeal.nD Cert.AdamMixInRefIdeal.τ).loc Cert.AdamMixInRefIdeal.main_arg1)
      ∧ r.2.mem ((c.tc : Thread Cert.AdamMixInRefIdeal.nD Cert.AdamMixInRefIdeal.τ).loc Cert.AdamMixInRefIdeal.main_arg2) = m ((c.tc : Thread Cert.AdamMixInRefIdeal.nD Cert.AdamMixInRefIdeal.τ).loc Cert.AdamMixInRefIdeal.main_arg2)
      ∧ r.2.mem ((c.tc : Thread Cert.AdamMixInRefIdeal.nD Cert.AdamMixInRefIdeal.τ).loc Cert.AdamMixInRefIdeal.main_arg3) = m ((c.tc : Thread Cert.AdamMixInRefIdeal.nD Cert.AdamMixInRefIdeal.τ).loc Cert.AdamMixInRefIdeal.main_arg3))
      ∧ r.2.sem = fun _ => 0)

def quiescent_AdamMixOut [hAdamMixOut : Cert.AdamMixOut.Facts] : Prop :=
  ∀ (m : (ℓ : Loc Cert.AdamMixOut.nD Cert.AdamMixOut.τ Cert.AdamMixOut.sig) → Buf (Elt Bits) ℓ) (g : Dev Cert.AdamMixOut.nD → PrngReg), Pre_AdamMixOut m →
    θ_run (Cert.AdamMixOut.defs (F := Bits)) (onTc (τ := Cert.AdamMixOut.τ) (Cert.AdamMixOut.main (F := Bits))) ⟨m, fun _ => 0, g⟩ (fun r => (∀ c : Dev Cert.AdamMixOut.nD,
      r.2.mem ((c.tc : Thread Cert.AdamMixOut.nD Cert.AdamMixOut.τ).loc Cert.AdamMixOut.main_arg0) = m ((c.tc : Thread Cert.AdamMixOut.nD Cert.AdamMixOut.τ).loc Cert.AdamMixOut.main_arg0)
      ∧ r.2.mem ((c.tc : Thread Cert.AdamMixOut.nD Cert.AdamMixOut.τ).loc Cert.AdamMixOut.main_arg1) = m ((c.tc : Thread Cert.AdamMixOut.nD Cert.AdamMixOut.τ).loc Cert.AdamMixOut.main_arg1)
      ∧ r.2.mem ((c.tc : Thread Cert.AdamMixOut.nD Cert.AdamMixOut.τ).loc Cert.AdamMixOut.main_arg2) = m ((c.tc : Thread Cert.AdamMixOut.nD Cert.AdamMixOut.τ).loc Cert.AdamMixOut.main_arg2)
      ∧ r.2.mem ((c.tc : Thread Cert.AdamMixOut.nD Cert.AdamMixOut.τ).loc Cert.AdamMixOut.main_arg3) = m ((c.tc : Thread Cert.AdamMixOut.nD Cert.AdamMixOut.τ).loc Cert.AdamMixOut.main_arg3))
      ∧ r.2.sem = fun _ => 0)

def quiescent_AdamMixOutIdeal [hAdamMixOutIdeal : Cert.AdamMixOutIdeal.Facts] : Prop :=
  ∀ (m : (ℓ : Loc Cert.AdamMixOutIdeal.nD Cert.AdamMixOutIdeal.τ Cert.AdamMixOutIdeal.sig) → Buf (Elt Ideal) ℓ) (g : Dev Cert.AdamMixOutIdeal.nD → PrngReg), Pre_AdamMixOutIdeal m →
    θ_run (Cert.AdamMixOutIdeal.defs (F := Ideal)) (onTc (τ := Cert.AdamMixOutIdeal.τ) (Cert.AdamMixOutIdeal.main (F := Ideal))) ⟨m, fun _ => 0, g⟩ (fun r => (∀ c : Dev Cert.AdamMixOutIdeal.nD,
      r.2.mem ((c.tc : Thread Cert.AdamMixOutIdeal.nD Cert.AdamMixOutIdeal.τ).loc Cert.AdamMixOutIdeal.main_arg0) = m ((c.tc : Thread Cert.AdamMixOutIdeal.nD Cert.AdamMixOutIdeal.τ).loc Cert.AdamMixOutIdeal.main_arg0)
      ∧ r.2.mem ((c.tc : Thread Cert.AdamMixOutIdeal.nD Cert.AdamMixOutIdeal.τ).loc Cert.AdamMixOutIdeal.main_arg1) = m ((c.tc : Thread Cert.AdamMixOutIdeal.nD Cert.AdamMixOutIdeal.τ).loc Cert.AdamMixOutIdeal.main_arg1)
      ∧ r.2.mem ((c.tc : Thread Cert.AdamMixOutIdeal.nD Cert.AdamMixOutIdeal.τ).loc Cert.AdamMixOutIdeal.main_arg2) = m ((c.tc : Thread Cert.AdamMixOutIdeal.nD Cert.AdamMixOutIdeal.τ).loc Cert.AdamMixOutIdeal.main_arg2)
      ∧ r.2.mem ((c.tc : Thread Cert.AdamMixOutIdeal.nD Cert.AdamMixOutIdeal.τ).loc Cert.AdamMixOutIdeal.main_arg3) = m ((c.tc : Thread Cert.AdamMixOutIdeal.nD Cert.AdamMixOutIdeal.τ).loc Cert.AdamMixOutIdeal.main_arg3))
      ∧ r.2.sem = fun _ => 0)

def quiescent_AdamMixOutRefIdeal [hAdamMixOutRefIdeal : Cert.AdamMixOutRefIdeal.Facts] : Prop :=
  ∀ (m : (ℓ : Loc Cert.AdamMixOutRefIdeal.nD Cert.AdamMixOutRefIdeal.τ Cert.AdamMixOutRefIdeal.sig) → Buf (Elt Ideal) ℓ) (g : Dev Cert.AdamMixOutRefIdeal.nD → PrngReg), Pre_AdamMixOutRefIdeal m →
    θ_run (Cert.AdamMixOutRefIdeal.defs (F := Ideal)) (onTc (τ := Cert.AdamMixOutRefIdeal.τ) (Cert.AdamMixOutRefIdeal.main (F := Ideal))) ⟨m, fun _ => 0, g⟩ (fun r => (∀ c : Dev Cert.AdamMixOutRefIdeal.nD,
      r.2.mem ((c.tc : Thread Cert.AdamMixOutRefIdeal.nD Cert.AdamMixOutRefIdeal.τ).loc Cert.AdamMixOutRefIdeal.main_arg0) = m ((c.tc : Thread Cert.AdamMixOutRefIdeal.nD Cert.AdamMixOutRefIdeal.τ).loc Cert.AdamMixOutRefIdeal.main_arg0)
      ∧ r.2.mem ((c.tc : Thread Cert.AdamMixOutRefIdeal.nD Cert.AdamMixOutRefIdeal.τ).loc Cert.AdamMixOutRefIdeal.main_arg1) = m ((c.tc : Thread Cert.AdamMixOutRefIdeal.nD Cert.AdamMixOutRefIdeal.τ).loc Cert.AdamMixOutRefIdeal.main_arg1)
      ∧ r.2.mem ((c.tc : Thread Cert.AdamMixOutRefIdeal.nD Cert.AdamMixOutRefIdeal.τ).loc Cert.AdamMixOutRefIdeal.main_arg2) = m ((c.tc : Thread Cert.AdamMixOutRefIdeal.nD Cert.AdamMixOutRefIdeal.τ).loc Cert.AdamMixOutRefIdeal.main_arg2)
      ∧ r.2.mem ((c.tc : Thread Cert.AdamMixOutRefIdeal.nD Cert.AdamMixOutRefIdeal.τ).loc Cert.AdamMixOutRefIdeal.main_arg3) = m ((c.tc : Thread Cert.AdamMixOutRefIdeal.nD Cert.AdamMixOutRefIdeal.τ).loc Cert.AdamMixOutRefIdeal.main_arg3))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ r.2.sem = fun _ => 0)

def quiescent_AdamPoolRefIdeal [hAdamPoolRefIdeal : Cert.AdamPoolRefIdeal.Facts] : Prop :=
  ∀ (m : (ℓ : Loc Cert.AdamPoolRefIdeal.nD Cert.AdamPoolRefIdeal.τ Cert.AdamPoolRefIdeal.sig) → Buf (Elt Ideal) ℓ) (g : Dev Cert.AdamPoolRefIdeal.nD → PrngReg), Pre_AdamPoolRefIdeal m →
    θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_Kernel_KernelIdeal : Prop :=
  True

def algebraic_KernelIdeal_ReferenceIdeal_pre_gradients_finite [hKernelIdeal : Cert.KernelIdeal.Facts] [hReferenceIdeal : Cert.ReferenceIdeal.Facts] [hPre_gradients_finite : Cert.Pre_gradients_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gradients_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v88_0)) (v1 : (c : Dev Cert.KernelIdeal.nD) → Buf (Elt Ideal) ((c.tc : Thread Cert.KernelIdeal.nD Cert.KernelIdeal.τ).loc Cert.KernelIdeal.main_v88_1)) (v2 : (c : Dev Cert.KernelIdeal.nD) → Buf (Elt Ideal) ((c.tc : Thread Cert.KernelIdeal.nD Cert.KernelIdeal.τ).loc Cert.KernelIdeal.main_v88_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88_0) = v0 c
          ∧ r.2.mem ((c.tc : Thread Cert.KernelIdeal.nD Cert.KernelIdeal.τ).loc Cert.KernelIdeal.main_v88_1) = v1 c
          ∧ r.2.mem ((c.tc : Thread Cert.KernelIdeal.nD Cert.KernelIdeal.τ).loc Cert.KernelIdeal.main_v88_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_v107) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FfnDwo_FfnDwoIdeal : Prop :=
  True

def algebraic_FfnDwoIdeal_FfnDwoRefIdeal [hFfnDwoIdeal : Cert.FfnDwoIdeal.Facts] [hFfnDwoRefIdeal : Cert.FfnDwoRefIdeal.Facts] : Prop :=
  ∀ (m : (ℓ : Loc Cert.FfnDwoIdeal.nD Cert.FfnDwoIdeal.τ Cert.FfnDwoIdeal.sig) → Buf (Elt Ideal) ℓ) (g : Dev Cert.FfnDwoIdeal.nD → PrngReg)
    (m' : (ℓ : Loc Cert.FfnDwoRefIdeal.nD Cert.FfnDwoRefIdeal.τ Cert.FfnDwoRefIdeal.sig) → Buf (Elt Ideal) ℓ) (g' : Dev Cert.FfnDwoRefIdeal.nD → PrngReg), Pre_FfnDwoIdeal m →
    (∀ c : Dev Cert.FfnDwoIdeal.nD,
      m' ((c.tc : Thread Cert.FfnDwoRefIdeal.nD Cert.FfnDwoRefIdeal.τ).loc Cert.FfnDwoRefIdeal.main_arg0) = m ((c.tc : Thread Cert.FfnDwoIdeal.nD Cert.FfnDwoIdeal.τ).loc Cert.FfnDwoIdeal.main_arg0)
      ∧ m' ((c.tc : Thread Cert.FfnDwoRefIdeal.nD Cert.FfnDwoRefIdeal.τ).loc Cert.FfnDwoRefIdeal.main_arg1) = m ((c.tc : Thread Cert.FfnDwoIdeal.nD Cert.FfnDwoIdeal.τ).loc Cert.FfnDwoIdeal.main_arg1)) →
    ∃ (v0 : (c : Dev Cert.FfnDwoIdeal.nD) → Buf (Elt Ideal) ((c.tc : Thread Cert.FfnDwoIdeal.nD Cert.FfnDwoIdeal.τ).loc Cert.FfnDwoIdeal.main_v0)),
      θ_run (Cert.FfnDwoIdeal.defs (F := Ideal)) (onTc (τ := Cert.FfnDwoIdeal.τ) (Cert.FfnDwoIdeal.main (F := Ideal))) ⟨m, fun _ => 0, g⟩ (fun r => ∀ c : Dev Cert.FfnDwoIdeal.nD,
          r.2.mem ((c.tc : Thread Cert.FfnDwoIdeal.nD Cert.FfnDwoIdeal.τ).loc Cert.FfnDwoIdeal.main_v0) = v0 c
          ∧ r.2.mem ((c.tc : Thread Cert.FfnDwoIdeal.nD Cert.FfnDwoIdeal.τ).loc Cert.FfnDwoIdeal.main_arg0) = m ((c.tc : Thread Cert.FfnDwoIdeal.nD Cert.FfnDwoIdeal.τ).loc Cert.FfnDwoIdeal.main_arg0)
          ∧ r.2.mem ((c.tc : Thread Cert.FfnDwoIdeal.nD Cert.FfnDwoIdeal.τ).loc Cert.FfnDwoIdeal.main_arg1) = m ((c.tc : Thread Cert.FfnDwoIdeal.nD Cert.FfnDwoIdeal.τ).loc Cert.FfnDwoIdeal.main_arg1))
      ∧ θ_run (Cert.FfnDwoRefIdeal.defs (F := Ideal)) (onTc (τ := Cert.FfnDwoRefIdeal.τ) (Cert.FfnDwoRefIdeal.main (F := Ideal))) ⟨m', fun _ => 0, g'⟩ (fun r => ∀ c : Dev Cert.FfnDwoRefIdeal.nD,
          r.2.mem ((c.tc : Thread Cert.FfnDwoRefIdeal.nD Cert.FfnDwoRefIdeal.τ).loc Cert.FfnDwoRefIdeal.main_v6) = v0 c
          ∧ r.2.mem ((c.tc : Thread Cert.FfnDwoRefIdeal.nD Cert.FfnDwoRefIdeal.τ).loc Cert.FfnDwoRefIdeal.main_arg0) = m' ((c.tc : Thread Cert.FfnDwoRefIdeal.nD Cert.FfnDwoRefIdeal.τ).loc Cert.FfnDwoRefIdeal.main_arg0)
          ∧ r.2.mem ((c.tc : Thread Cert.FfnDwoRefIdeal.nD Cert.FfnDwoRefIdeal.τ).loc Cert.FfnDwoRefIdeal.main_arg1) = m' ((c.tc : Thread Cert.FfnDwoRefIdeal.nD Cert.FfnDwoRefIdeal.τ).loc Cert.FfnDwoRefIdeal.main_arg1))

def preserves_FfnDownBwd_FfnDownBwdIdeal : Prop :=
  True

def algebraic_FfnDownBwdIdeal_FfnDownBwdRefIdeal_pre_activations_finite [hFfnDownBwdIdeal : Cert.FfnDownBwdIdeal.Facts] [hFfnDownBwdRefIdeal : Cert.FfnDownBwdRefIdeal.Facts] [hPre_activations_finite : Cert.Pre_activations_finite.Facts] : Prop :=
  ∀ (m : (ℓ : Loc Cert.FfnDownBwdIdeal.nD Cert.FfnDownBwdIdeal.τ Cert.FfnDownBwdIdeal.sig) → Buf (Elt Ideal) ℓ) (g : Dev Cert.FfnDownBwdIdeal.nD → PrngReg)
    (m' : (ℓ : Loc Cert.FfnDownBwdRefIdeal.nD Cert.FfnDownBwdRefIdeal.τ Cert.FfnDownBwdRefIdeal.sig) → Buf (Elt Ideal) ℓ) (g' : Dev Cert.FfnDownBwdRefIdeal.nD → PrngReg), Pre_FfnDownBwdIdeal_activations_finite m →
    (∀ c : Dev Cert.FfnDownBwdIdeal.nD,
      m' ((c.tc : Thread Cert.FfnDownBwdRefIdeal.nD Cert.FfnDownBwdRefIdeal.τ).loc Cert.FfnDownBwdRefIdeal.main_arg0) = m ((c.tc : Thread Cert.FfnDownBwdIdeal.nD Cert.FfnDownBwdIdeal.τ).loc Cert.FfnDownBwdIdeal.main_arg0)
      ∧ m' ((c.tc : Thread Cert.FfnDownBwdRefIdeal.nD Cert.FfnDownBwdRefIdeal.τ).loc Cert.FfnDownBwdRefIdeal.main_arg1) = m ((c.tc : Thread Cert.FfnDownBwdIdeal.nD Cert.FfnDownBwdIdeal.τ).loc Cert.FfnDownBwdIdeal.main_arg1)
      ∧ m' ((c.tc : Thread Cert.FfnDownBwdRefIdeal.nD Cert.FfnDownBwdRefIdeal.τ).loc Cert.FfnDownBwdRefIdeal.main_arg2) = m ((c.tc : Thread Cert.FfnDownBwdIdeal.nD Cert.FfnDownBwdIdeal.τ).loc Cert.FfnDownBwdIdeal.main_arg2)
      ∧ m' ((c.tc : Thread Cert.FfnDownBwdRefIdeal.nD Cert.FfnDownBwdRefIdeal.τ).loc Cert.FfnDownBwdRefIdeal.main_arg3) = m ((c.tc : Thread Cert.FfnDownBwdIdeal.nD Cert.FfnDownBwdIdeal.τ).loc Cert.FfnDownBwdIdeal.main_arg3)) →
    ∃ (v0 : (c : Dev Cert.FfnDownBwdIdeal.nD) → Buf (Elt Ideal) ((c.tc : Thread Cert.FfnDownBwdIdeal.nD Cert.FfnDownBwdIdeal.τ).loc Cert.FfnDownBwdIdeal.main_v0)),
      θ_run (Cert.FfnDownBwdIdeal.defs (F := Ideal)) (onTc (τ := Cert.FfnDownBwdIdeal.τ) (Cert.FfnDownBwdIdeal.main (F := Ideal))) ⟨m, fun _ => 0, g⟩ (fun r => ∀ c : Dev Cert.FfnDownBwdIdeal.nD,
          r.2.mem ((c.tc : Thread Cert.FfnDownBwdIdeal.nD Cert.FfnDownBwdIdeal.τ).loc Cert.FfnDownBwdIdeal.main_v0) = v0 c
          ∧ r.2.mem ((c.tc : Thread Cert.FfnDownBwdIdeal.nD Cert.FfnDownBwdIdeal.τ).loc Cert.FfnDownBwdIdeal.main_arg0) = m ((c.tc : Thread Cert.FfnDownBwdIdeal.nD Cert.FfnDownBwdIdeal.τ).loc Cert.FfnDownBwdIdeal.main_arg0)
          ∧ r.2.mem ((c.tc : Thread Cert.FfnDownBwdIdeal.nD Cert.FfnDownBwdIdeal.τ).loc Cert.FfnDownBwdIdeal.main_arg1) = m ((c.tc : Thread Cert.FfnDownBwdIdeal.nD Cert.FfnDownBwdIdeal.τ).loc Cert.FfnDownBwdIdeal.main_arg1)
          ∧ r.2.mem ((c.tc : Thread Cert.FfnDownBwdIdeal.nD Cert.FfnDownBwdIdeal.τ).loc Cert.FfnDownBwdIdeal.main_arg2) = m ((c.tc : Thread Cert.FfnDownBwdIdeal.nD Cert.FfnDownBwdIdeal.τ).loc Cert.FfnDownBwdIdeal.main_arg2)
          ∧ r.2.mem ((c.tc : Thread Cert.FfnDownBwdIdeal.nD Cert.FfnDownBwdIdeal.τ).loc Cert.FfnDownBwdIdeal.main_arg3) = m ((c.tc : Thread Cert.FfnDownBwdIdeal.nD Cert.FfnDownBwdIdeal.τ).loc Cert.FfnDownBwdIdeal.main_arg3))
      ∧ θ_run (Cert.FfnDownBwdRefIdeal.defs (F := Ideal)) (onTc (τ := Cert.FfnDownBwdRefIdeal.τ) (Cert.FfnDownBwdRefIdeal.main (F := Ideal))) ⟨m', fun _ => 0, g'⟩ (fun r => ∀ c : Dev Cert.FfnDownBwdRefIdeal.nD,
          r.2.mem ((c.tc : Thread Cert.FfnDownBwdRefIdeal.nD Cert.FfnDownBwdRefIdeal.τ).loc Cert.FfnDownBwdRefIdeal.main_v15) = v0 c
          ∧ r.2.mem ((c.tc : Thread Cert.FfnDownBwdRefIdeal.nD Cert.FfnDownBwdRefIdeal.τ).loc Cert.FfnDownBwdRefIdeal.main_arg0) = m' ((c.tc : Thread Cert.FfnDownBwdRefIdeal.nD Cert.FfnDownBwdRefIdeal.τ).loc Cert.FfnDownBwdRefIdeal.main_arg0)
          ∧ r.2.mem ((c.tc : Thread Cert.FfnDownBwdRefIdeal.nD Cert.FfnDownBwdRefIdeal.τ).loc Cert.FfnDownBwdRefIdeal.main_arg1) = m' ((c.tc : Thread Cert.FfnDownBwdRefIdeal.nD Cert.FfnDownBwdRefIdeal.τ).loc Cert.FfnDownBwdRefIdeal.main_arg1)
          ∧ r.2.mem ((c.tc : Thread Cert.FfnDownBwdRefIdeal.nD Cert.FfnDownBwdRefIdeal.τ).loc Cert.FfnDownBwdRefIdeal.main_arg2) = m' ((c.tc : Thread Cert.FfnDownBwdRefIdeal.nD Cert.FfnDownBwdRefIdeal.τ).loc Cert.FfnDownBwdRefIdeal.main_arg2)
          ∧ r.2.mem ((c.tc : Thread Cert.FfnDownBwdRefIdeal.nD Cert.FfnDownBwdRefIdeal.τ).loc Cert.FfnDownBwdRefIdeal.main_arg3) = m' ((c.tc : Thread Cert.FfnDownBwdRefIdeal.nD Cert.FfnDownBwdRefIdeal.τ).loc Cert.FfnDownBwdRefIdeal.main_arg3))

def preserves_FfnDwi_FfnDwiIdeal : Prop :=
  True

def algebraic_FfnDwiIdeal_FfnDwiRefIdeal [hFfnDwiIdeal : Cert.FfnDwiIdeal.Facts] [hFfnDwiRefIdeal : Cert.FfnDwiRefIdeal.Facts] : Prop :=
  ∀ (m : (ℓ : Loc Cert.FfnDwiIdeal.nD Cert.FfnDwiIdeal.τ Cert.FfnDwiIdeal.sig) → Buf (Elt Ideal) ℓ) (g : Dev Cert.FfnDwiIdeal.nD → PrngReg)
    (m' : (ℓ : Loc Cert.FfnDwiRefIdeal.nD Cert.FfnDwiRefIdeal.τ Cert.FfnDwiRefIdeal.sig) → Buf (Elt Ideal) ℓ) (g' : Dev Cert.FfnDwiRefIdeal.nD → PrngReg), Pre_FfnDwiIdeal m →
    (∀ c : Dev Cert.FfnDwiIdeal.nD,
      m' ((c.tc : Thread Cert.FfnDwiRefIdeal.nD Cert.FfnDwiRefIdeal.τ).loc Cert.FfnDwiRefIdeal.main_arg0) = m ((c.tc : Thread Cert.FfnDwiIdeal.nD Cert.FfnDwiIdeal.τ).loc Cert.FfnDwiIdeal.main_arg0)
      ∧ m' ((c.tc : Thread Cert.FfnDwiRefIdeal.nD Cert.FfnDwiRefIdeal.τ).loc Cert.FfnDwiRefIdeal.main_arg1) = m ((c.tc : Thread Cert.FfnDwiIdeal.nD Cert.FfnDwiIdeal.τ).loc Cert.FfnDwiIdeal.main_arg1)) →
    ∃ (v0 : (c : Dev Cert.FfnDwiIdeal.nD) → Buf (Elt Ideal) ((c.tc : Thread Cert.FfnDwiIdeal.nD Cert.FfnDwiIdeal.τ).loc Cert.FfnDwiIdeal.main_v0)),
      θ_run (Cert.FfnDwiIdeal.defs (F := Ideal)) (onTc (τ := Cert.FfnDwiIdeal.τ) (Cert.FfnDwiIdeal.main (F := Ideal))) ⟨m, fun _ => 0, g⟩ (fun r => ∀ c : Dev Cert.FfnDwiIdeal.nD,
          r.2.mem ((c.tc : Thread Cert.FfnDwiIdeal.nD Cert.FfnDwiIdeal.τ).loc Cert.FfnDwiIdeal.main_v0) = v0 c
          ∧ r.2.mem ((c.tc : Thread Cert.FfnDwiIdeal.nD Cert.FfnDwiIdeal.τ).loc Cert.FfnDwiIdeal.main_arg0) = m ((c.tc : Thread Cert.FfnDwiIdeal.nD Cert.FfnDwiIdeal.τ).loc Cert.FfnDwiIdeal.main_arg0)
          ∧ r.2.mem ((c.tc : Thread Cert.FfnDwiIdeal.nD Cert.FfnDwiIdeal.τ).loc Cert.FfnDwiIdeal.main_arg1) = m ((c.tc : Thread Cert.FfnDwiIdeal.nD Cert.FfnDwiIdeal.τ).loc Cert.FfnDwiIdeal.main_arg1))
      ∧ θ_run (Cert.FfnDwiRefIdeal.defs (F := Ideal)) (onTc (τ := Cert.FfnDwiRefIdeal.τ) (Cert.FfnDwiRefIdeal.main (F := Ideal))) ⟨m', fun _ => 0, g'⟩ (fun r => ∀ c : Dev Cert.FfnDwiRefIdeal.nD,
          r.2.mem ((c.tc : Thread Cert.FfnDwiRefIdeal.nD Cert.FfnDwiRefIdeal.τ).loc Cert.FfnDwiRefIdeal.main_v7) = v0 c
          ∧ r.2.mem ((c.tc : Thread Cert.FfnDwiRefIdeal.nD Cert.FfnDwiRefIdeal.τ).loc Cert.FfnDwiRefIdeal.main_arg0) = m' ((c.tc : Thread Cert.FfnDwiRefIdeal.nD Cert.FfnDwiRefIdeal.τ).loc Cert.FfnDwiRefIdeal.main_arg0)
          ∧ r.2.mem ((c.tc : Thread Cert.FfnDwiRefIdeal.nD Cert.FfnDwiRefIdeal.τ).loc Cert.FfnDwiRefIdeal.main_arg1) = m' ((c.tc : Thread Cert.FfnDwiRefIdeal.nD Cert.FfnDwiRefIdeal.τ).loc Cert.FfnDwiRefIdeal.main_arg1))

def preserves_FfnDhm_FfnDhmIdeal : Prop :=
  True

def algebraic_FfnDhmIdeal_FfnDhmRefIdeal [hFfnDhmIdeal : Cert.FfnDhmIdeal.Facts] [hFfnDhmRefIdeal : Cert.FfnDhmRefIdeal.Facts] : Prop :=
  ∀ (m : (ℓ : Loc Cert.FfnDhmIdeal.nD Cert.FfnDhmIdeal.τ Cert.FfnDhmIdeal.sig) → Buf (Elt Ideal) ℓ) (g : Dev Cert.FfnDhmIdeal.nD → PrngReg)
    (m' : (ℓ : Loc Cert.FfnDhmRefIdeal.nD Cert.FfnDhmRefIdeal.τ Cert.FfnDhmRefIdeal.sig) → Buf (Elt Ideal) ℓ) (g' : Dev Cert.FfnDhmRefIdeal.nD → PrngReg), Pre_FfnDhmIdeal m →
    (∀ c : Dev Cert.FfnDhmIdeal.nD,
      m' ((c.tc : Thread Cert.FfnDhmRefIdeal.nD Cert.FfnDhmRefIdeal.τ).loc Cert.FfnDhmRefIdeal.main_arg0) = m ((c.tc : Thread Cert.FfnDhmIdeal.nD Cert.FfnDhmIdeal.τ).loc Cert.FfnDhmIdeal.main_arg0)
      ∧ m' ((c.tc : Thread Cert.FfnDhmRefIdeal.nD Cert.FfnDhmRefIdeal.τ).loc Cert.FfnDhmRefIdeal.main_arg1) = m ((c.tc : Thread Cert.FfnDhmIdeal.nD Cert.FfnDhmIdeal.τ).loc Cert.FfnDhmIdeal.main_arg1)) →
    ∃ (v0 : (c : Dev Cert.FfnDhmIdeal.nD) → Buf (Elt Ideal) ((c.tc : Thread Cert.FfnDhmIdeal.nD Cert.FfnDhmIdeal.τ).loc Cert.FfnDhmIdeal.main_v0)),
      θ_run (Cert.FfnDhmIdeal.defs (F := Ideal)) (onTc (τ := Cert.FfnDhmIdeal.τ) (Cert.FfnDhmIdeal.main (F := Ideal))) ⟨m, fun _ => 0, g⟩ (fun r => ∀ c : Dev Cert.FfnDhmIdeal.nD,
          r.2.mem ((c.tc : Thread Cert.FfnDhmIdeal.nD Cert.FfnDhmIdeal.τ).loc Cert.FfnDhmIdeal.main_v0) = v0 c
          ∧ r.2.mem ((c.tc : Thread Cert.FfnDhmIdeal.nD Cert.FfnDhmIdeal.τ).loc Cert.FfnDhmIdeal.main_arg0) = m ((c.tc : Thread Cert.FfnDhmIdeal.nD Cert.FfnDhmIdeal.τ).loc Cert.FfnDhmIdeal.main_arg0)
          ∧ r.2.mem ((c.tc : Thread Cert.FfnDhmIdeal.nD Cert.FfnDhmIdeal.τ).loc Cert.FfnDhmIdeal.main_arg1) = m ((c.tc : Thread Cert.FfnDhmIdeal.nD Cert.FfnDhmIdeal.τ).loc Cert.FfnDhmIdeal.main_arg1))
      ∧ θ_run (Cert.FfnDhmRefIdeal.defs (F := Ideal)) (onTc (τ := Cert.FfnDhmRefIdeal.τ) (Cert.FfnDhmRefIdeal.main (F := Ideal))) ⟨m', fun _ => 0, g'⟩ (fun r => ∀ c : Dev Cert.FfnDhmRefIdeal.nD,
          r.2.mem ((c.tc : Thread Cert.FfnDhmRefIdeal.nD Cert.FfnDhmRefIdeal.τ).loc Cert.FfnDhmRefIdeal.main_v6) = v0 c
          ∧ r.2.mem ((c.tc : Thread Cert.FfnDhmRefIdeal.nD Cert.FfnDhmRefIdeal.τ).loc Cert.FfnDhmRefIdeal.main_arg0) = m' ((c.tc : Thread Cert.FfnDhmRefIdeal.nD Cert.FfnDhmRefIdeal.τ).loc Cert.FfnDhmRefIdeal.main_arg0)
          ∧ r.2.mem ((c.tc : Thread Cert.FfnDhmRefIdeal.nD Cert.FfnDhmRefIdeal.τ).loc Cert.FfnDhmRefIdeal.main_arg1) = m' ((c.tc : Thread Cert.FfnDhmRefIdeal.nD Cert.FfnDhmRefIdeal.τ).loc Cert.FfnDhmRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)) (v2 : (c : Dev Cert.FfnUpIdeal.nD) → Buf (Elt Ideal) ((c.tc : Thread Cert.FfnUpIdeal.nD Cert.FfnUpIdeal.τ).loc Cert.FfnUpIdeal.main_v0_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_v0_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v6) = v0 c
          ∧ r.2.mem ((c.tc : Thread Cert.FfnUpRefIdeal.nD Cert.FfnUpRefIdeal.τ).loc Cert.FfnUpRefIdeal.main_v7) = v1 c
          ∧ r.2.mem ((c.tc : Thread Cert.FfnUpRefIdeal.nD Cert.FfnUpRefIdeal.τ).loc Cert.FfnUpRefIdeal.main_v10) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v0_0)) (v1 : (c : Dev Cert.FfnDownIdeal.nD) → Buf (Elt Ideal) ((c.tc : Thread Cert.FfnDownIdeal.nD Cert.FfnDownIdeal.τ).loc Cert.FfnDownIdeal.main_v0_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0_0) = v0 c
          ∧ r.2.mem ((c.tc : Thread Cert.FfnDownIdeal.nD Cert.FfnDownIdeal.τ).loc Cert.FfnDownIdeal.main_v0_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v2) = v0 c
          ∧ r.2.mem ((c.tc : Thread Cert.FfnDownRefIdeal.nD Cert.FfnDownRefIdeal.τ).loc Cert.FfnDownRefIdeal.main_v7) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_MixDwOut_MixDwOutIdeal : Prop :=
  True

def algebraic_MixDwOutIdeal_MixDwOutRefIdeal [hMixDwOutIdeal : Cert.MixDwOutIdeal.Facts] [hMixDwOutRefIdeal : Cert.MixDwOutRefIdeal.Facts] : Prop :=
  ∀ (m : (ℓ : Loc Cert.MixDwOutIdeal.nD Cert.MixDwOutIdeal.τ Cert.MixDwOutIdeal.sig) → Buf (Elt Ideal) ℓ) (g : Dev Cert.MixDwOutIdeal.nD → PrngReg)
    (m' : (ℓ : Loc Cert.MixDwOutRefIdeal.nD Cert.MixDwOutRefIdeal.τ Cert.MixDwOutRefIdeal.sig) → Buf (Elt Ideal) ℓ) (g' : Dev Cert.MixDwOutRefIdeal.nD → PrngReg), Pre_MixDwOutIdeal m →
    (∀ c : Dev Cert.MixDwOutIdeal.nD,
      m' ((c.tc : Thread Cert.MixDwOutRefIdeal.nD Cert.MixDwOutRefIdeal.τ).loc Cert.MixDwOutRefIdeal.main_arg0) = m ((c.tc : Thread Cert.MixDwOutIdeal.nD Cert.MixDwOutIdeal.τ).loc Cert.MixDwOutIdeal.main_arg0)
      ∧ m' ((c.tc : Thread Cert.MixDwOutRefIdeal.nD Cert.MixDwOutRefIdeal.τ).loc Cert.MixDwOutRefIdeal.main_arg1) = m ((c.tc : Thread Cert.MixDwOutIdeal.nD Cert.MixDwOutIdeal.τ).loc Cert.MixDwOutIdeal.main_arg1)) →
    ∃ (v0 : (c : Dev Cert.MixDwOutIdeal.nD) → Buf (Elt Ideal) ((c.tc : Thread Cert.MixDwOutIdeal.nD Cert.MixDwOutIdeal.τ).loc Cert.MixDwOutIdeal.main_v0)),
      θ_run (Cert.MixDwOutIdeal.defs (F := Ideal)) (onTc (τ := Cert.MixDwOutIdeal.τ) (Cert.MixDwOutIdeal.main (F := Ideal))) ⟨m, fun _ => 0, g⟩ (fun r => ∀ c : Dev Cert.MixDwOutIdeal.nD,
          r.2.mem ((c.tc : Thread Cert.MixDwOutIdeal.nD Cert.MixDwOutIdeal.τ).loc Cert.MixDwOutIdeal.main_v0) = v0 c
          ∧ r.2.mem ((c.tc : Thread Cert.MixDwOutIdeal.nD Cert.MixDwOutIdeal.τ).loc Cert.MixDwOutIdeal.main_arg0) = m ((c.tc : Thread Cert.MixDwOutIdeal.nD Cert.MixDwOutIdeal.τ).loc Cert.MixDwOutIdeal.main_arg0)
          ∧ r.2.mem ((c.tc : Thread Cert.MixDwOutIdeal.nD Cert.MixDwOutIdeal.τ).loc Cert.MixDwOutIdeal.main_arg1) = m ((c.tc : Thread Cert.MixDwOutIdeal.nD Cert.MixDwOutIdeal.τ).loc Cert.MixDwOutIdeal.main_arg1))
      ∧ θ_run (Cert.MixDwOutRefIdeal.defs (F := Ideal)) (onTc (τ := Cert.MixDwOutRefIdeal.τ) (Cert.MixDwOutRefIdeal.main (F := Ideal))) ⟨m', fun _ => 0, g'⟩ (fun r => ∀ c : Dev Cert.MixDwOutRefIdeal.nD,
          r.2.mem ((c.tc : Thread Cert.MixDwOutRefIdeal.nD Cert.MixDwOutRefIdeal.τ).loc Cert.MixDwOutRefIdeal.main_v6) = v0 c
          ∧ r.2.mem ((c.tc : Thread Cert.MixDwOutRefIdeal.nD Cert.MixDwOutRefIdeal.τ).loc Cert.MixDwOutRefIdeal.main_arg0) = m' ((c.tc : Thread Cert.MixDwOutRefIdeal.nD Cert.MixDwOutRefIdeal.τ).loc Cert.MixDwOutRefIdeal.main_arg0)
          ∧ r.2.mem ((c.tc : Thread Cert.MixDwOutRefIdeal.nD Cert.MixDwOutRefIdeal.τ).loc Cert.MixDwOutRefIdeal.main_arg1) = m' ((c.tc : Thread Cert.MixDwOutRefIdeal.nD Cert.MixDwOutRefIdeal.τ).loc Cert.MixDwOutRefIdeal.main_arg1))

def preserves_MixOutBwd_MixOutBwdIdeal : Prop :=
  True

def algebraic_MixOutBwdIdeal_MixOutBwdRefIdeal [hMixOutBwdIdeal : Cert.MixOutBwdIdeal.Facts] [hMixOutBwdRefIdeal : Cert.MixOutBwdRefIdeal.Facts] : Prop :=
  ∀ (m : (ℓ : Loc Cert.MixOutBwdIdeal.nD Cert.MixOutBwdIdeal.τ Cert.MixOutBwdIdeal.sig) → Buf (Elt Ideal) ℓ) (g : Dev Cert.MixOutBwdIdeal.nD → PrngReg)
    (m' : (ℓ : Loc Cert.MixOutBwdRefIdeal.nD Cert.MixOutBwdRefIdeal.τ Cert.MixOutBwdRefIdeal.sig) → Buf (Elt Ideal) ℓ) (g' : Dev Cert.MixOutBwdRefIdeal.nD → PrngReg), Pre_MixOutBwdIdeal m →
    (∀ c : Dev Cert.MixOutBwdIdeal.nD,
      m' ((c.tc : Thread Cert.MixOutBwdRefIdeal.nD Cert.MixOutBwdRefIdeal.τ).loc Cert.MixOutBwdRefIdeal.main_arg0) = m ((c.tc : Thread Cert.MixOutBwdIdeal.nD Cert.MixOutBwdIdeal.τ).loc Cert.MixOutBwdIdeal.main_arg0)
      ∧ m' ((c.tc : Thread Cert.MixOutBwdRefIdeal.nD Cert.MixOutBwdRefIdeal.τ).loc Cert.MixOutBwdRefIdeal.main_arg1) = m ((c.tc : Thread Cert.MixOutBwdIdeal.nD Cert.MixOutBwdIdeal.τ).loc Cert.MixOutBwdIdeal.main_arg1)) →
    ∃ (v0 : (c : Dev Cert.MixOutBwdIdeal.nD) → Buf (Elt Ideal) ((c.tc : Thread Cert.MixOutBwdIdeal.nD Cert.MixOutBwdIdeal.τ).loc Cert.MixOutBwdIdeal.main_v0)),
      θ_run (Cert.MixOutBwdIdeal.defs (F := Ideal)) (onTc (τ := Cert.MixOutBwdIdeal.τ) (Cert.MixOutBwdIdeal.main (F := Ideal))) ⟨m, fun _ => 0, g⟩ (fun r => ∀ c : Dev Cert.MixOutBwdIdeal.nD,
          r.2.mem ((c.tc : Thread Cert.MixOutBwdIdeal.nD Cert.MixOutBwdIdeal.τ).loc Cert.MixOutBwdIdeal.main_v0) = v0 c
          ∧ r.2.mem ((c.tc : Thread Cert.MixOutBwdIdeal.nD Cert.MixOutBwdIdeal.τ).loc Cert.MixOutBwdIdeal.main_arg0) = m ((c.tc : Thread Cert.MixOutBwdIdeal.nD Cert.MixOutBwdIdeal.τ).loc Cert.MixOutBwdIdeal.main_arg0)
          ∧ r.2.mem ((c.tc : Thread Cert.MixOutBwdIdeal.nD Cert.MixOutBwdIdeal.τ).loc Cert.MixOutBwdIdeal.main_arg1) = m ((c.tc : Thread Cert.MixOutBwdIdeal.nD Cert.MixOutBwdIdeal.τ).loc Cert.MixOutBwdIdeal.main_arg1))
      ∧ θ_run (Cert.MixOutBwdRefIdeal.defs (F := Ideal)) (onTc (τ := Cert.MixOutBwdRefIdeal.τ) (Cert.MixOutBwdRefIdeal.main (F := Ideal))) ⟨m', fun _ => 0, g'⟩ (fun r => ∀ c : Dev Cert.MixOutBwdRefIdeal.nD,
          r.2.mem ((c.tc : Thread Cert.MixOutBwdRefIdeal.nD Cert.MixOutBwdRefIdeal.τ).loc Cert.MixOutBwdRefIdeal.main_v4) = v0 c
          ∧ r.2.mem ((c.tc : Thread Cert.MixOutBwdRefIdeal.nD Cert.MixOutBwdRefIdeal.τ).loc Cert.MixOutBwdRefIdeal.main_arg0) = m' ((c.tc : Thread Cert.MixOutBwdRefIdeal.nD Cert.MixOutBwdRefIdeal.τ).loc Cert.MixOutBwdRefIdeal.main_arg0)
          ∧ r.2.mem ((c.tc : Thread Cert.MixOutBwdRefIdeal.nD Cert.MixOutBwdRefIdeal.τ).loc Cert.MixOutBwdRefIdeal.main_arg1) = m' ((c.tc : Thread Cert.MixOutBwdRefIdeal.nD Cert.MixOutBwdRefIdeal.τ).loc Cert.MixOutBwdRefIdeal.main_arg1))

def preserves_MixDwIn_MixDwInIdeal : Prop :=
  True

def algebraic_MixDwInIdeal_MixDwInRefIdeal [hMixDwInIdeal : Cert.MixDwInIdeal.Facts] [hMixDwInRefIdeal : Cert.MixDwInRefIdeal.Facts] : Prop :=
  ∀ (m : (ℓ : Loc Cert.MixDwInIdeal.nD Cert.MixDwInIdeal.τ Cert.MixDwInIdeal.sig) → Buf (Elt Ideal) ℓ) (g : Dev Cert.MixDwInIdeal.nD → PrngReg)
    (m' : (ℓ : Loc Cert.MixDwInRefIdeal.nD Cert.MixDwInRefIdeal.τ Cert.MixDwInRefIdeal.sig) → Buf (Elt Ideal) ℓ) (g' : Dev Cert.MixDwInRefIdeal.nD → PrngReg), Pre_MixDwInIdeal m →
    (∀ c : Dev Cert.MixDwInIdeal.nD,
      m' ((c.tc : Thread Cert.MixDwInRefIdeal.nD Cert.MixDwInRefIdeal.τ).loc Cert.MixDwInRefIdeal.main_arg0) = m ((c.tc : Thread Cert.MixDwInIdeal.nD Cert.MixDwInIdeal.τ).loc Cert.MixDwInIdeal.main_arg0)
      ∧ m' ((c.tc : Thread Cert.MixDwInRefIdeal.nD Cert.MixDwInRefIdeal.τ).loc Cert.MixDwInRefIdeal.main_arg1) = m ((c.tc : Thread Cert.MixDwInIdeal.nD Cert.MixDwInIdeal.τ).loc Cert.MixDwInIdeal.main_arg1)) →
    ∃ (v0 : (c : Dev Cert.MixDwInIdeal.nD) → Buf (Elt Ideal) ((c.tc : Thread Cert.MixDwInIdeal.nD Cert.MixDwInIdeal.τ).loc Cert.MixDwInIdeal.main_v0)),
      θ_run (Cert.MixDwInIdeal.defs (F := Ideal)) (onTc (τ := Cert.MixDwInIdeal.τ) (Cert.MixDwInIdeal.main (F := Ideal))) ⟨m, fun _ => 0, g⟩ (fun r => ∀ c : Dev Cert.MixDwInIdeal.nD,
          r.2.mem ((c.tc : Thread Cert.MixDwInIdeal.nD Cert.MixDwInIdeal.τ).loc Cert.MixDwInIdeal.main_v0) = v0 c
          ∧ r.2.mem ((c.tc : Thread Cert.MixDwInIdeal.nD Cert.MixDwInIdeal.τ).loc Cert.MixDwInIdeal.main_arg0) = m ((c.tc : Thread Cert.MixDwInIdeal.nD Cert.MixDwInIdeal.τ).loc Cert.MixDwInIdeal.main_arg0)
          ∧ r.2.mem ((c.tc : Thread Cert.MixDwInIdeal.nD Cert.MixDwInIdeal.τ).loc Cert.MixDwInIdeal.main_arg1) = m ((c.tc : Thread Cert.MixDwInIdeal.nD Cert.MixDwInIdeal.τ).loc Cert.MixDwInIdeal.main_arg1))
      ∧ θ_run (Cert.MixDwInRefIdeal.defs (F := Ideal)) (onTc (τ := Cert.MixDwInRefIdeal.τ) (Cert.MixDwInRefIdeal.main (F := Ideal))) ⟨m', fun _ => 0, g'⟩ (fun r => ∀ c : Dev Cert.MixDwInRefIdeal.nD,
          r.2.mem ((c.tc : Thread Cert.MixDwInRefIdeal.nD Cert.MixDwInRefIdeal.τ).loc Cert.MixDwInRefIdeal.main_v8) = v0 c
          ∧ r.2.mem ((c.tc : Thread Cert.MixDwInRefIdeal.nD Cert.MixDwInRefIdeal.τ).loc Cert.MixDwInRefIdeal.main_arg0) = m' ((c.tc : Thread Cert.MixDwInRefIdeal.nD Cert.MixDwInRefIdeal.τ).loc Cert.MixDwInRefIdeal.main_arg0)
          ∧ r.2.mem ((c.tc : Thread Cert.MixDwInRefIdeal.nD Cert.MixDwInRefIdeal.τ).loc Cert.MixDwInRefIdeal.main_arg1) = m' ((c.tc : Thread Cert.MixDwInRefIdeal.nD Cert.MixDwInRefIdeal.τ).loc Cert.MixDwInRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v2_0)) (v1 : (c : Dev Cert.MixOutIdeal.nD) → Buf (Elt Ideal) ((c.tc : Thread Cert.MixOutIdeal.nD Cert.MixOutIdeal.τ).loc Cert.MixOutIdeal.main_v2_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2_0) = v0 c
          ∧ r.2.mem ((c.tc : Thread Cert.MixOutIdeal.nD Cert.MixOutIdeal.τ).loc Cert.MixOutIdeal.main_v2_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v2) = v0 c
          ∧ r.2.mem ((c.tc : Thread Cert.MixOutRefIdeal.nD Cert.MixOutRefIdeal.τ).loc Cert.MixOutRefIdeal.main_v5) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3))

def preserves_MixProj_MixProjIdeal : Prop :=
  True

def algebraic_MixProjIdeal_MixProjRefIdeal [hMixProjIdeal : Cert.MixProjIdeal.Facts] [hMixProjRefIdeal : Cert.MixProjRefIdeal.Facts] : Prop :=
  ∀ (m : (ℓ : Loc Cert.MixProjIdeal.nD Cert.MixProjIdeal.τ Cert.MixProjIdeal.sig) → Buf (Elt Ideal) ℓ) (g : Dev Cert.MixProjIdeal.nD → PrngReg)
    (m' : (ℓ : Loc Cert.MixProjRefIdeal.nD Cert.MixProjRefIdeal.τ Cert.MixProjRefIdeal.sig) → Buf (Elt Ideal) ℓ) (g' : Dev Cert.MixProjRefIdeal.nD → PrngReg), Pre_MixProjIdeal m →
    (∀ c : Dev Cert.MixProjIdeal.nD,
      m' ((c.tc : Thread Cert.MixProjRefIdeal.nD Cert.MixProjRefIdeal.τ).loc Cert.MixProjRefIdeal.main_arg0) = m ((c.tc : Thread Cert.MixProjIdeal.nD Cert.MixProjIdeal.τ).loc Cert.MixProjIdeal.main_arg0)
      ∧ m' ((c.tc : Thread Cert.MixProjRefIdeal.nD Cert.MixProjRefIdeal.τ).loc Cert.MixProjRefIdeal.main_arg1) = m ((c.tc : Thread Cert.MixProjIdeal.nD Cert.MixProjIdeal.τ).loc Cert.MixProjIdeal.main_arg1)) →
    ∃ (v0 : (c : Dev Cert.MixProjIdeal.nD) → Buf (Elt Ideal) ((c.tc : Thread Cert.MixProjIdeal.nD Cert.MixProjIdeal.τ).loc Cert.MixProjIdeal.main_v0)),
      θ_run (Cert.MixProjIdeal.defs (F := Ideal)) (onTc (τ := Cert.MixProjIdeal.τ) (Cert.MixProjIdeal.main (F := Ideal))) ⟨m, fun _ => 0, g⟩ (fun r => ∀ c : Dev Cert.MixProjIdeal.nD,
          r.2.mem ((c.tc : Thread Cert.MixProjIdeal.nD Cert.MixProjIdeal.τ).loc Cert.MixProjIdeal.main_v0) = v0 c
          ∧ r.2.mem ((c.tc : Thread Cert.MixProjIdeal.nD Cert.MixProjIdeal.τ).loc Cert.MixProjIdeal.main_arg0) = m ((c.tc : Thread Cert.MixProjIdeal.nD Cert.MixProjIdeal.τ).loc Cert.MixProjIdeal.main_arg0)
          ∧ r.2.mem ((c.tc : Thread Cert.MixProjIdeal.nD Cert.MixProjIdeal.τ).loc Cert.MixProjIdeal.main_arg1) = m ((c.tc : Thread Cert.MixProjIdeal.nD Cert.MixProjIdeal.τ).loc Cert.MixProjIdeal.main_arg1))
      ∧ θ_run (Cert.MixProjRefIdeal.defs (F := Ideal)) (onTc (τ := Cert.MixProjRefIdeal.τ) (Cert.MixProjRefIdeal.main (F := Ideal))) ⟨m', fun _ => 0, g'⟩ (fun r => ∀ c : Dev Cert.MixProjRefIdeal.nD,
          r.2.mem ((c.tc : Thread Cert.MixProjRefIdeal.nD Cert.MixProjRefIdeal.τ).loc Cert.MixProjRefIdeal.main_v3) = v0 c
          ∧ r.2.mem ((c.tc : Thread Cert.MixProjRefIdeal.nD Cert.MixProjRefIdeal.τ).loc Cert.MixProjRefIdeal.main_arg0) = m' ((c.tc : Thread Cert.MixProjRefIdeal.nD Cert.MixProjRefIdeal.τ).loc Cert.MixProjRefIdeal.main_arg0)
          ∧ r.2.mem ((c.tc : Thread Cert.MixProjRefIdeal.nD Cert.MixProjRefIdeal.τ).loc Cert.MixProjRefIdeal.main_arg1) = m' ((c.tc : Thread Cert.MixProjRefIdeal.nD Cert.MixProjRefIdeal.τ).loc Cert.MixProjRefIdeal.main_arg1))

def preserves_MixProjBwd_MixProjBwdIdeal : Prop :=
  True

def algebraic_MixProjBwdIdeal_MixProjBwdRefIdeal [hMixProjBwdIdeal : Cert.MixProjBwdIdeal.Facts] [hMixProjBwdRefIdeal : Cert.MixProjBwdRefIdeal.Facts] : Prop :=
  ∀ (m : (ℓ : Loc Cert.MixProjBwdIdeal.nD Cert.MixProjBwdIdeal.τ Cert.MixProjBwdIdeal.sig) → Buf (Elt Ideal) ℓ) (g : Dev Cert.MixProjBwdIdeal.nD → PrngReg)
    (m' : (ℓ : Loc Cert.MixProjBwdRefIdeal.nD Cert.MixProjBwdRefIdeal.τ Cert.MixProjBwdRefIdeal.sig) → Buf (Elt Ideal) ℓ) (g' : Dev Cert.MixProjBwdRefIdeal.nD → PrngReg), Pre_MixProjBwdIdeal m →
    (∀ c : Dev Cert.MixProjBwdIdeal.nD,
      m' ((c.tc : Thread Cert.MixProjBwdRefIdeal.nD Cert.MixProjBwdRefIdeal.τ).loc Cert.MixProjBwdRefIdeal.main_arg0) = m ((c.tc : Thread Cert.MixProjBwdIdeal.nD Cert.MixProjBwdIdeal.τ).loc Cert.MixProjBwdIdeal.main_arg0)
      ∧ m' ((c.tc : Thread Cert.MixProjBwdRefIdeal.nD Cert.MixProjBwdRefIdeal.τ).loc Cert.MixProjBwdRefIdeal.main_arg1) = m ((c.tc : Thread Cert.MixProjBwdIdeal.nD Cert.MixProjBwdIdeal.τ).loc Cert.MixProjBwdIdeal.main_arg1)) →
    ∃ (v0 : (c : Dev Cert.MixProjBwdIdeal.nD) → Buf (Elt Ideal) ((c.tc : Thread Cert.MixProjBwdIdeal.nD Cert.MixProjBwdIdeal.τ).loc Cert.MixProjBwdIdeal.main_v0)),
      θ_run (Cert.MixProjBwdIdeal.defs (F := Ideal)) (onTc (τ := Cert.MixProjBwdIdeal.τ) (Cert.MixProjBwdIdeal.main (F := Ideal))) ⟨m, fun _ => 0, g⟩ (fun r => ∀ c : Dev Cert.MixProjBwdIdeal.nD,
          r.2.mem ((c.tc : Thread Cert.MixProjBwdIdeal.nD Cert.MixProjBwdIdeal.τ).loc Cert.MixProjBwdIdeal.main_v0) = v0 c
          ∧ r.2.mem ((c.tc : Thread Cert.MixProjBwdIdeal.nD Cert.MixProjBwdIdeal.τ).loc Cert.MixProjBwdIdeal.main_arg0) = m ((c.tc : Thread Cert.MixProjBwdIdeal.nD Cert.MixProjBwdIdeal.τ).loc Cert.MixProjBwdIdeal.main_arg0)
          ∧ r.2.mem ((c.tc : Thread Cert.MixProjBwdIdeal.nD Cert.MixProjBwdIdeal.τ).loc Cert.MixProjBwdIdeal.main_arg1) = m ((c.tc : Thread Cert.MixProjBwdIdeal.nD Cert.MixProjBwdIdeal.τ).loc Cert.MixProjBwdIdeal.main_arg1))
      ∧ θ_run (Cert.MixProjBwdRefIdeal.defs (F := Ideal)) (onTc (τ := Cert.MixProjBwdRefIdeal.τ) (Cert.MixProjBwdRefIdeal.main (F := Ideal))) ⟨m', fun _ => 0, g'⟩ (fun r => ∀ c : Dev Cert.MixProjBwdRefIdeal.nD,
          r.2.mem ((c.tc : Thread Cert.MixProjBwdRefIdeal.nD Cert.MixProjBwdRefIdeal.τ).loc Cert.MixProjBwdRefIdeal.main_v5) = v0 c
          ∧ r.2.mem ((c.tc : Thread Cert.MixProjBwdRefIdeal.nD Cert.MixProjBwdRefIdeal.τ).loc Cert.MixProjBwdRefIdeal.main_arg0) = m' ((c.tc : Thread Cert.MixProjBwdRefIdeal.nD Cert.MixProjBwdRefIdeal.τ).loc Cert.MixProjBwdRefIdeal.main_arg0)
          ∧ r.2.mem ((c.tc : Thread Cert.MixProjBwdRefIdeal.nD Cert.MixProjBwdRefIdeal.τ).loc Cert.MixProjBwdRefIdeal.main_arg1) = m' ((c.tc : Thread Cert.MixProjBwdRefIdeal.nD Cert.MixProjBwdRefIdeal.τ).loc Cert.MixProjBwdRefIdeal.main_arg1))

def preserves_QkNormBwd_QkNormBwdIdeal : Prop :=
  True

def algebraic_QkNormBwdIdeal_QkNormBwdRefIdeal [hQkNormBwdIdeal : Cert.QkNormBwdIdeal.Facts] [hQkNormBwdRefIdeal : Cert.QkNormBwdRefIdeal.Facts] : Prop :=
  ∀ (m : (ℓ : Loc Cert.QkNormBwdIdeal.nD Cert.QkNormBwdIdeal.τ Cert.QkNormBwdIdeal.sig) → Buf (Elt Ideal) ℓ) (g : Dev Cert.QkNormBwdIdeal.nD → PrngReg)
    (m' : (ℓ : Loc Cert.QkNormBwdRefIdeal.nD Cert.QkNormBwdRefIdeal.τ Cert.QkNormBwdRefIdeal.sig) → Buf (Elt Ideal) ℓ) (g' : Dev Cert.QkNormBwdRefIdeal.nD → PrngReg), Pre_QkNormBwdIdeal m →
    (∀ c : Dev Cert.QkNormBwdIdeal.nD,
      m' ((c.tc : Thread Cert.QkNormBwdRefIdeal.nD Cert.QkNormBwdRefIdeal.τ).loc Cert.QkNormBwdRefIdeal.main_arg0) = m ((c.tc : Thread Cert.QkNormBwdIdeal.nD Cert.QkNormBwdIdeal.τ).loc Cert.QkNormBwdIdeal.main_arg0)
      ∧ m' ((c.tc : Thread Cert.QkNormBwdRefIdeal.nD Cert.QkNormBwdRefIdeal.τ).loc Cert.QkNormBwdRefIdeal.main_arg1) = m ((c.tc : Thread Cert.QkNormBwdIdeal.nD Cert.QkNormBwdIdeal.τ).loc Cert.QkNormBwdIdeal.main_arg1)
      ∧ m' ((c.tc : Thread Cert.QkNormBwdRefIdeal.nD Cert.QkNormBwdRefIdeal.τ).loc Cert.QkNormBwdRefIdeal.main_arg2) = m ((c.tc : Thread Cert.QkNormBwdIdeal.nD Cert.QkNormBwdIdeal.τ).loc Cert.QkNormBwdIdeal.main_arg2)
      ∧ m' ((c.tc : Thread Cert.QkNormBwdRefIdeal.nD Cert.QkNormBwdRefIdeal.τ).loc Cert.QkNormBwdRefIdeal.main_arg3) = m ((c.tc : Thread Cert.QkNormBwdIdeal.nD Cert.QkNormBwdIdeal.τ).loc Cert.QkNormBwdIdeal.main_arg3)
      ∧ m' ((c.tc : Thread Cert.QkNormBwdRefIdeal.nD Cert.QkNormBwdRefIdeal.τ).loc Cert.QkNormBwdRefIdeal.main_arg4) = m ((c.tc : Thread Cert.QkNormBwdIdeal.nD Cert.QkNormBwdIdeal.τ).loc Cert.QkNormBwdIdeal.main_arg4)) →
    ∃ (v0 : (c : Dev Cert.QkNormBwdIdeal.nD) → Buf (Elt Ideal) ((c.tc : Thread Cert.QkNormBwdIdeal.nD Cert.QkNormBwdIdeal.τ).loc Cert.QkNormBwdIdeal.main_v0_0)) (v1 : (c : Dev Cert.QkNormBwdIdeal.nD) → Buf (Elt Ideal) ((c.tc : Thread Cert.QkNormBwdIdeal.nD Cert.QkNormBwdIdeal.τ).loc Cert.QkNormBwdIdeal.main_v0_1)) (v2 : (c : Dev Cert.QkNormBwdIdeal.nD) → Buf (Elt Ideal) ((c.tc : Thread Cert.QkNormBwdIdeal.nD Cert.QkNormBwdIdeal.τ).loc Cert.QkNormBwdIdeal.main_v0_2)) (v3 : (c : Dev Cert.QkNormBwdIdeal.nD) → Buf (Elt Ideal) ((c.tc : Thread Cert.QkNormBwdIdeal.nD Cert.QkNormBwdIdeal.τ).loc Cert.QkNormBwdIdeal.main_v0_3)),
      θ_run (Cert.QkNormBwdIdeal.defs (F := Ideal)) (onTc (τ := Cert.QkNormBwdIdeal.τ) (Cert.QkNormBwdIdeal.main (F := Ideal))) ⟨m, fun _ => 0, g⟩ (fun r => ∀ c : Dev Cert.QkNormBwdIdeal.nD,
          r.2.mem ((c.tc : Thread Cert.QkNormBwdIdeal.nD Cert.QkNormBwdIdeal.τ).loc Cert.QkNormBwdIdeal.main_v0_0) = v0 c
          ∧ r.2.mem ((c.tc : Thread Cert.QkNormBwdIdeal.nD Cert.QkNormBwdIdeal.τ).loc Cert.QkNormBwdIdeal.main_v0_1) = v1 c
          ∧ r.2.mem ((c.tc : Thread Cert.QkNormBwdIdeal.nD Cert.QkNormBwdIdeal.τ).loc Cert.QkNormBwdIdeal.main_v0_2) = v2 c
          ∧ r.2.mem ((c.tc : Thread Cert.QkNormBwdIdeal.nD Cert.QkNormBwdIdeal.τ).loc Cert.QkNormBwdIdeal.main_v0_3) = v3 c
          ∧ r.2.mem ((c.tc : Thread Cert.QkNormBwdIdeal.nD Cert.QkNormBwdIdeal.τ).loc Cert.QkNormBwdIdeal.main_arg0) = m ((c.tc : Thread Cert.QkNormBwdIdeal.nD Cert.QkNormBwdIdeal.τ).loc Cert.QkNormBwdIdeal.main_arg0)
          ∧ r.2.mem ((c.tc : Thread Cert.QkNormBwdIdeal.nD Cert.QkNormBwdIdeal.τ).loc Cert.QkNormBwdIdeal.main_arg1) = m ((c.tc : Thread Cert.QkNormBwdIdeal.nD Cert.QkNormBwdIdeal.τ).loc Cert.QkNormBwdIdeal.main_arg1)
          ∧ r.2.mem ((c.tc : Thread Cert.QkNormBwdIdeal.nD Cert.QkNormBwdIdeal.τ).loc Cert.QkNormBwdIdeal.main_arg2) = m ((c.tc : Thread Cert.QkNormBwdIdeal.nD Cert.QkNormBwdIdeal.τ).loc Cert.QkNormBwdIdeal.main_arg2)
          ∧ r.2.mem ((c.tc : Thread Cert.QkNormBwdIdeal.nD Cert.QkNormBwdIdeal.τ).loc Cert.QkNormBwdIdeal.main_arg3) = m ((c.tc : Thread Cert.QkNormBwdIdeal.nD Cert.QkNormBwdIdeal.τ).loc Cert.QkNormBwdIdeal.main_arg3)
          ∧ r.2.mem ((c.tc : Thread Cert.QkNormBwdIdeal.nD Cert.QkNormBwdIdeal.τ).loc Cert.QkNormBwdIdeal.main_arg4) = m ((c.tc : Thread Cert.QkNormBwdIdeal.nD Cert.QkNormBwdIdeal.τ).loc Cert.QkNormBwdIdeal.main_arg4))
      ∧ θ_run (Cert.QkNormBwdRefIdeal.defs (F := Ideal)) (onTc (τ := Cert.QkNormBwdRefIdeal.τ) (Cert.QkNormBwdRefIdeal.main (F := Ideal))) ⟨m', fun _ => 0, g'⟩ (fun r => ∀ c : Dev Cert.QkNormBwdRefIdeal.nD,
          r.2.mem ((c.tc : Thread Cert.QkNormBwdRefIdeal.nD Cert.QkNormBwdRefIdeal.τ).loc Cert.QkNormBwdRefIdeal.main_v84) = v0 c
          ∧ r.2.mem ((c.tc : Thread Cert.QkNormBwdRefIdeal.nD Cert.QkNormBwdRefIdeal.τ).loc Cert.QkNormBwdRefIdeal.main_v85) = v1 c
          ∧ r.2.mem ((c.tc : Thread Cert.QkNormBwdRefIdeal.nD Cert.QkNormBwdRefIdeal.τ).loc Cert.QkNormBwdRefIdeal.main_v68) = v2 c
          ∧ r.2.mem ((c.tc : Thread Cert.QkNormBwdRefIdeal.nD Cert.QkNormBwdRefIdeal.τ).loc Cert.QkNormBwdRefIdeal.main_v45) = v3 c
          ∧ r.2.mem ((c.tc : Thread Cert.QkNormBwdRefIdeal.nD Cert.QkNormBwdRefIdeal.τ).loc Cert.QkNormBwdRefIdeal.main_arg0) = m' ((c.tc : Thread Cert.QkNormBwdRefIdeal.nD Cert.QkNormBwdRefIdeal.τ).loc Cert.QkNormBwdRefIdeal.main_arg0)
          ∧ r.2.mem ((c.tc : Thread Cert.QkNormBwdRefIdeal.nD Cert.QkNormBwdRefIdeal.τ).loc Cert.QkNormBwdRefIdeal.main_arg1) = m' ((c.tc : Thread Cert.QkNormBwdRefIdeal.nD Cert.QkNormBwdRefIdeal.τ).loc Cert.QkNormBwdRefIdeal.main_arg1)
          ∧ r.2.mem ((c.tc : Thread Cert.QkNormBwdRefIdeal.nD Cert.QkNormBwdRefIdeal.τ).loc Cert.QkNormBwdRefIdeal.main_arg2) = m' ((c.tc : Thread Cert.QkNormBwdRefIdeal.nD Cert.QkNormBwdRefIdeal.τ).loc Cert.QkNormBwdRefIdeal.main_arg2)
          ∧ r.2.mem ((c.tc : Thread Cert.QkNormBwdRefIdeal.nD Cert.QkNormBwdRefIdeal.τ).loc Cert.QkNormBwdRefIdeal.main_arg3) = m' ((c.tc : Thread Cert.QkNormBwdRefIdeal.nD Cert.QkNormBwdRefIdeal.τ).loc Cert.QkNormBwdRefIdeal.main_arg3)
          ∧ r.2.mem ((c.tc : Thread Cert.QkNormBwdRefIdeal.nD Cert.QkNormBwdRefIdeal.τ).loc Cert.QkNormBwdRefIdeal.main_arg4) = m' ((c.tc : Thread Cert.QkNormBwdRefIdeal.nD Cert.QkNormBwdRefIdeal.τ).loc Cert.QkNormBwdRefIdeal.main_arg4))

def preserves_AttnDelta_AttnDeltaIdeal : Prop :=
  True

def algebraic_AttnDeltaIdeal_AttnDeltaRefIdeal [hAttnDeltaIdeal : Cert.AttnDeltaIdeal.Facts] [hAttnDeltaRefIdeal : Cert.AttnDeltaRefIdeal.Facts] : Prop :=
  ∀ (m : (ℓ : Loc Cert.AttnDeltaIdeal.nD Cert.AttnDeltaIdeal.τ Cert.AttnDeltaIdeal.sig) → Buf (Elt Ideal) ℓ) (g : Dev Cert.AttnDeltaIdeal.nD → PrngReg)
    (m' : (ℓ : Loc Cert.AttnDeltaRefIdeal.nD Cert.AttnDeltaRefIdeal.τ Cert.AttnDeltaRefIdeal.sig) → Buf (Elt Ideal) ℓ) (g' : Dev Cert.AttnDeltaRefIdeal.nD → PrngReg), Pre_AttnDeltaIdeal m →
    (∀ c : Dev Cert.AttnDeltaIdeal.nD,
      m' ((c.tc : Thread Cert.AttnDeltaRefIdeal.nD Cert.AttnDeltaRefIdeal.τ).loc Cert.AttnDeltaRefIdeal.main_arg0) = m ((c.tc : Thread Cert.AttnDeltaIdeal.nD Cert.AttnDeltaIdeal.τ).loc Cert.AttnDeltaIdeal.main_arg0)
      ∧ m' ((c.tc : Thread Cert.AttnDeltaRefIdeal.nD Cert.AttnDeltaRefIdeal.τ).loc Cert.AttnDeltaRefIdeal.main_arg1) = m ((c.tc : Thread Cert.AttnDeltaIdeal.nD Cert.AttnDeltaIdeal.τ).loc Cert.AttnDeltaIdeal.main_arg1)) →
    ∃ (v0 : (c : Dev Cert.AttnDeltaIdeal.nD) → Buf (Elt Ideal) ((c.tc : Thread Cert.AttnDeltaIdeal.nD Cert.AttnDeltaIdeal.τ).loc Cert.AttnDeltaIdeal.main_v0)),
      θ_run (Cert.AttnDeltaIdeal.defs (F := Ideal)) (onTc (τ := Cert.AttnDeltaIdeal.τ) (Cert.AttnDeltaIdeal.main (F := Ideal))) ⟨m, fun _ => 0, g⟩ (fun r => ∀ c : Dev Cert.AttnDeltaIdeal.nD,
          r.2.mem ((c.tc : Thread Cert.AttnDeltaIdeal.nD Cert.AttnDeltaIdeal.τ).loc Cert.AttnDeltaIdeal.main_v0) = v0 c
          ∧ r.2.mem ((c.tc : Thread Cert.AttnDeltaIdeal.nD Cert.AttnDeltaIdeal.τ).loc Cert.AttnDeltaIdeal.main_arg0) = m ((c.tc : Thread Cert.AttnDeltaIdeal.nD Cert.AttnDeltaIdeal.τ).loc Cert.AttnDeltaIdeal.main_arg0)
          ∧ r.2.mem ((c.tc : Thread Cert.AttnDeltaIdeal.nD Cert.AttnDeltaIdeal.τ).loc Cert.AttnDeltaIdeal.main_arg1) = m ((c.tc : Thread Cert.AttnDeltaIdeal.nD Cert.AttnDeltaIdeal.τ).loc Cert.AttnDeltaIdeal.main_arg1))
      ∧ θ_run (Cert.AttnDeltaRefIdeal.defs (F := Ideal)) (onTc (τ := Cert.AttnDeltaRefIdeal.τ) (Cert.AttnDeltaRefIdeal.main (F := Ideal))) ⟨m', fun _ => 0, g'⟩ (fun r => ∀ c : Dev Cert.AttnDeltaRefIdeal.nD,
          r.2.mem ((c.tc : Thread Cert.AttnDeltaRefIdeal.nD Cert.AttnDeltaRefIdeal.τ).loc Cert.AttnDeltaRefIdeal.main_v7) = v0 c
          ∧ r.2.mem ((c.tc : Thread Cert.AttnDeltaRefIdeal.nD Cert.AttnDeltaRefIdeal.τ).loc Cert.AttnDeltaRefIdeal.main_arg0) = m' ((c.tc : Thread Cert.AttnDeltaRefIdeal.nD Cert.AttnDeltaRefIdeal.τ).loc Cert.AttnDeltaRefIdeal.main_arg0)
          ∧ r.2.mem ((c.tc : Thread Cert.AttnDeltaRefIdeal.nD Cert.AttnDeltaRefIdeal.τ).loc Cert.AttnDeltaRefIdeal.main_arg1) = m' ((c.tc : Thread Cert.AttnDeltaRefIdeal.nD Cert.AttnDeltaRefIdeal.τ).loc Cert.AttnDeltaRefIdeal.main_arg1))

def preserves_Norm1Bwd_Norm1BwdIdeal : Prop :=
  True

def algebraic_Norm1BwdIdeal_Norm1BwdRefIdeal [hNorm1BwdIdeal : Cert.Norm1BwdIdeal.Facts] [hNorm1BwdRefIdeal : Cert.Norm1BwdRefIdeal.Facts] : Prop :=
  ∀ (m : (ℓ : Loc Cert.Norm1BwdIdeal.nD Cert.Norm1BwdIdeal.τ Cert.Norm1BwdIdeal.sig) → Buf (Elt Ideal) ℓ) (g : Dev Cert.Norm1BwdIdeal.nD → PrngReg)
    (m' : (ℓ : Loc Cert.Norm1BwdRefIdeal.nD Cert.Norm1BwdRefIdeal.τ Cert.Norm1BwdRefIdeal.sig) → Buf (Elt Ideal) ℓ) (g' : Dev Cert.Norm1BwdRefIdeal.nD → PrngReg), Pre_Norm1BwdIdeal m →
    (∀ c : Dev Cert.Norm1BwdIdeal.nD,
      m' ((c.tc : Thread Cert.Norm1BwdRefIdeal.nD Cert.Norm1BwdRefIdeal.τ).loc Cert.Norm1BwdRefIdeal.main_arg0) = m ((c.tc : Thread Cert.Norm1BwdIdeal.nD Cert.Norm1BwdIdeal.τ).loc Cert.Norm1BwdIdeal.main_arg0)
      ∧ m' ((c.tc : Thread Cert.Norm1BwdRefIdeal.nD Cert.Norm1BwdRefIdeal.τ).loc Cert.Norm1BwdRefIdeal.main_arg1) = m ((c.tc : Thread Cert.Norm1BwdIdeal.nD Cert.Norm1BwdIdeal.τ).loc Cert.Norm1BwdIdeal.main_arg1)
      ∧ m' ((c.tc : Thread Cert.Norm1BwdRefIdeal.nD Cert.Norm1BwdRefIdeal.τ).loc Cert.Norm1BwdRefIdeal.main_arg2) = m ((c.tc : Thread Cert.Norm1BwdIdeal.nD Cert.Norm1BwdIdeal.τ).loc Cert.Norm1BwdIdeal.main_arg2)
      ∧ m' ((c.tc : Thread Cert.Norm1BwdRefIdeal.nD Cert.Norm1BwdRefIdeal.τ).loc Cert.Norm1BwdRefIdeal.main_arg3) = m ((c.tc : Thread Cert.Norm1BwdIdeal.nD Cert.Norm1BwdIdeal.τ).loc Cert.Norm1BwdIdeal.main_arg3)
      ∧ m' ((c.tc : Thread Cert.Norm1BwdRefIdeal.nD Cert.Norm1BwdRefIdeal.τ).loc Cert.Norm1BwdRefIdeal.main_arg4) = m ((c.tc : Thread Cert.Norm1BwdIdeal.nD Cert.Norm1BwdIdeal.τ).loc Cert.Norm1BwdIdeal.main_arg4)) →
    ∃ (v0 : (c : Dev Cert.Norm1BwdIdeal.nD) → Buf (Elt Ideal) ((c.tc : Thread Cert.Norm1BwdIdeal.nD Cert.Norm1BwdIdeal.τ).loc Cert.Norm1BwdIdeal.main_v0_0)) (v1 : (c : Dev Cert.Norm1BwdIdeal.nD) → Buf (Elt Ideal) ((c.tc : Thread Cert.Norm1BwdIdeal.nD Cert.Norm1BwdIdeal.τ).loc Cert.Norm1BwdIdeal.main_v0_1)) (v2 : (c : Dev Cert.Norm1BwdIdeal.nD) → Buf (Elt Ideal) ((c.tc : Thread Cert.Norm1BwdIdeal.nD Cert.Norm1BwdIdeal.τ).loc Cert.Norm1BwdIdeal.main_v0_2)) (v3 : (c : Dev Cert.Norm1BwdIdeal.nD) → Buf (Elt Ideal) ((c.tc : Thread Cert.Norm1BwdIdeal.nD Cert.Norm1BwdIdeal.τ).loc Cert.Norm1BwdIdeal.main_v0_3)),
      θ_run (Cert.Norm1BwdIdeal.defs (F := Ideal)) (onTc (τ := Cert.Norm1BwdIdeal.τ) (Cert.Norm1BwdIdeal.main (F := Ideal))) ⟨m, fun _ => 0, g⟩ (fun r => ∀ c : Dev Cert.Norm1BwdIdeal.nD,
          r.2.mem ((c.tc : Thread Cert.Norm1BwdIdeal.nD Cert.Norm1BwdIdeal.τ).loc Cert.Norm1BwdIdeal.main_v0_0) = v0 c
          ∧ r.2.mem ((c.tc : Thread Cert.Norm1BwdIdeal.nD Cert.Norm1BwdIdeal.τ).loc Cert.Norm1BwdIdeal.main_v0_1) = v1 c
          ∧ r.2.mem ((c.tc : Thread Cert.Norm1BwdIdeal.nD Cert.Norm1BwdIdeal.τ).loc Cert.Norm1BwdIdeal.main_v0_2) = v2 c
          ∧ r.2.mem ((c.tc : Thread Cert.Norm1BwdIdeal.nD Cert.Norm1BwdIdeal.τ).loc Cert.Norm1BwdIdeal.main_v0_3) = v3 c
          ∧ r.2.mem ((c.tc : Thread Cert.Norm1BwdIdeal.nD Cert.Norm1BwdIdeal.τ).loc Cert.Norm1BwdIdeal.main_arg0) = m ((c.tc : Thread Cert.Norm1BwdIdeal.nD Cert.Norm1BwdIdeal.τ).loc Cert.Norm1BwdIdeal.main_arg0)
          ∧ r.2.mem ((c.tc : Thread Cert.Norm1BwdIdeal.nD Cert.Norm1BwdIdeal.τ).loc Cert.Norm1BwdIdeal.main_arg1) = m ((c.tc : Thread Cert.Norm1BwdIdeal.nD Cert.Norm1BwdIdeal.τ).loc Cert.Norm1BwdIdeal.main_arg1)
          ∧ r.2.mem ((c.tc : Thread Cert.Norm1BwdIdeal.nD Cert.Norm1BwdIdeal.τ).loc Cert.Norm1BwdIdeal.main_arg2) = m ((c.tc : Thread Cert.Norm1BwdIdeal.nD Cert.Norm1BwdIdeal.τ).loc Cert.Norm1BwdIdeal.main_arg2)
          ∧ r.2.mem ((c.tc : Thread Cert.Norm1BwdIdeal.nD Cert.Norm1BwdIdeal.τ).loc Cert.Norm1BwdIdeal.main_arg3) = m ((c.tc : Thread Cert.Norm1BwdIdeal.nD Cert.Norm1BwdIdeal.τ).loc Cert.Norm1BwdIdeal.main_arg3)
          ∧ r.2.mem ((c.tc : Thread Cert.Norm1BwdIdeal.nD Cert.Norm1BwdIdeal.τ).loc Cert.Norm1BwdIdeal.main_arg4) = m ((c.tc : Thread Cert.Norm1BwdIdeal.nD Cert.Norm1BwdIdeal.τ).loc Cert.Norm1BwdIdeal.main_arg4))
      ∧ θ_run (Cert.Norm1BwdRefIdeal.defs (F := Ideal)) (onTc (τ := Cert.Norm1BwdRefIdeal.τ) (Cert.Norm1BwdRefIdeal.main (F := Ideal))) ⟨m', fun _ => 0, g'⟩ (fun r => ∀ c : Dev Cert.Norm1BwdRefIdeal.nD,
          r.2.mem ((c.tc : Thread Cert.Norm1BwdRefIdeal.nD Cert.Norm1BwdRefIdeal.τ).loc Cert.Norm1BwdRefIdeal.main_v49) = v0 c
          ∧ r.2.mem ((c.tc : Thread Cert.Norm1BwdRefIdeal.nD Cert.Norm1BwdRefIdeal.τ).loc Cert.Norm1BwdRefIdeal.main_v24) = v1 c
          ∧ r.2.mem ((c.tc : Thread Cert.Norm1BwdRefIdeal.nD Cert.Norm1BwdRefIdeal.τ).loc Cert.Norm1BwdRefIdeal.main_v27) = v2 c
          ∧ r.2.mem ((c.tc : Thread Cert.Norm1BwdRefIdeal.nD Cert.Norm1BwdRefIdeal.τ).loc Cert.Norm1BwdRefIdeal.main_v32) = v3 c
          ∧ r.2.mem ((c.tc : Thread Cert.Norm1BwdRefIdeal.nD Cert.Norm1BwdRefIdeal.τ).loc Cert.Norm1BwdRefIdeal.main_arg0) = m' ((c.tc : Thread Cert.Norm1BwdRefIdeal.nD Cert.Norm1BwdRefIdeal.τ).loc Cert.Norm1BwdRefIdeal.main_arg0)
          ∧ r.2.mem ((c.tc : Thread Cert.Norm1BwdRefIdeal.nD Cert.Norm1BwdRefIdeal.τ).loc Cert.Norm1BwdRefIdeal.main_arg1) = m' ((c.tc : Thread Cert.Norm1BwdRefIdeal.nD Cert.Norm1BwdRefIdeal.τ).loc Cert.Norm1BwdRefIdeal.main_arg1)
          ∧ r.2.mem ((c.tc : Thread Cert.Norm1BwdRefIdeal.nD Cert.Norm1BwdRefIdeal.τ).loc Cert.Norm1BwdRefIdeal.main_arg2) = m' ((c.tc : Thread Cert.Norm1BwdRefIdeal.nD Cert.Norm1BwdRefIdeal.τ).loc Cert.Norm1BwdRefIdeal.main_arg2)
          ∧ r.2.mem ((c.tc : Thread Cert.Norm1BwdRefIdeal.nD Cert.Norm1BwdRefIdeal.τ).loc Cert.Norm1BwdRefIdeal.main_arg3) = m' ((c.tc : Thread Cert.Norm1BwdRefIdeal.nD Cert.Norm1BwdRefIdeal.τ).loc Cert.Norm1BwdRefIdeal.main_arg3)
          ∧ r.2.mem ((c.tc : Thread Cert.Norm1BwdRefIdeal.nD Cert.Norm1BwdRefIdeal.τ).loc Cert.Norm1BwdRefIdeal.main_arg4) = m' ((c.tc : Thread Cert.Norm1BwdRefIdeal.nD Cert.Norm1BwdRefIdeal.τ).loc Cert.Norm1BwdRefIdeal.main_arg4))

def preserves_Norm2Bwd_Norm2BwdIdeal : Prop :=
  True

def algebraic_Norm2BwdIdeal_Norm2BwdRefIdeal [hNorm2BwdIdeal : Cert.Norm2BwdIdeal.Facts] [hNorm2BwdRefIdeal : Cert.Norm2BwdRefIdeal.Facts] : Prop :=
  ∀ (m : (ℓ : Loc Cert.Norm2BwdIdeal.nD Cert.Norm2BwdIdeal.τ Cert.Norm2BwdIdeal.sig) → Buf (Elt Ideal) ℓ) (g : Dev Cert.Norm2BwdIdeal.nD → PrngReg)
    (m' : (ℓ : Loc Cert.Norm2BwdRefIdeal.nD Cert.Norm2BwdRefIdeal.τ Cert.Norm2BwdRefIdeal.sig) → Buf (Elt Ideal) ℓ) (g' : Dev Cert.Norm2BwdRefIdeal.nD → PrngReg), Pre_Norm2BwdIdeal m →
    (∀ c : Dev Cert.Norm2BwdIdeal.nD,
      m' ((c.tc : Thread Cert.Norm2BwdRefIdeal.nD Cert.Norm2BwdRefIdeal.τ).loc Cert.Norm2BwdRefIdeal.main_arg0) = m ((c.tc : Thread Cert.Norm2BwdIdeal.nD Cert.Norm2BwdIdeal.τ).loc Cert.Norm2BwdIdeal.main_arg0)
      ∧ m' ((c.tc : Thread Cert.Norm2BwdRefIdeal.nD Cert.Norm2BwdRefIdeal.τ).loc Cert.Norm2BwdRefIdeal.main_arg1) = m ((c.tc : Thread Cert.Norm2BwdIdeal.nD Cert.Norm2BwdIdeal.τ).loc Cert.Norm2BwdIdeal.main_arg1)
      ∧ m' ((c.tc : Thread Cert.Norm2BwdRefIdeal.nD Cert.Norm2BwdRefIdeal.τ).loc Cert.Norm2BwdRefIdeal.main_arg2) = m ((c.tc : Thread Cert.Norm2BwdIdeal.nD Cert.Norm2BwdIdeal.τ).loc Cert.Norm2BwdIdeal.main_arg2)
      ∧ m' ((c.tc : Thread Cert.Norm2BwdRefIdeal.nD Cert.Norm2BwdRefIdeal.τ).loc Cert.Norm2BwdRefIdeal.main_arg3) = m ((c.tc : Thread Cert.Norm2BwdIdeal.nD Cert.Norm2BwdIdeal.τ).loc Cert.Norm2BwdIdeal.main_arg3)
      ∧ m' ((c.tc : Thread Cert.Norm2BwdRefIdeal.nD Cert.Norm2BwdRefIdeal.τ).loc Cert.Norm2BwdRefIdeal.main_arg4) = m ((c.tc : Thread Cert.Norm2BwdIdeal.nD Cert.Norm2BwdIdeal.τ).loc Cert.Norm2BwdIdeal.main_arg4)
      ∧ m' ((c.tc : Thread Cert.Norm2BwdRefIdeal.nD Cert.Norm2BwdRefIdeal.τ).loc Cert.Norm2BwdRefIdeal.main_arg5) = m ((c.tc : Thread Cert.Norm2BwdIdeal.nD Cert.Norm2BwdIdeal.τ).loc Cert.Norm2BwdIdeal.main_arg5)
      ∧ m' ((c.tc : Thread Cert.Norm2BwdRefIdeal.nD Cert.Norm2BwdRefIdeal.τ).loc Cert.Norm2BwdRefIdeal.main_arg6) = m ((c.tc : Thread Cert.Norm2BwdIdeal.nD Cert.Norm2BwdIdeal.τ).loc Cert.Norm2BwdIdeal.main_arg6)) →
    ∃ (v0 : (c : Dev Cert.Norm2BwdIdeal.nD) → Buf (Elt Ideal) ((c.tc : Thread Cert.Norm2BwdIdeal.nD Cert.Norm2BwdIdeal.τ).loc Cert.Norm2BwdIdeal.main_v0_0)) (v1 : (c : Dev Cert.Norm2BwdIdeal.nD) → Buf (Elt Ideal) ((c.tc : Thread Cert.Norm2BwdIdeal.nD Cert.Norm2BwdIdeal.τ).loc Cert.Norm2BwdIdeal.main_v0_1)) (v2 : (c : Dev Cert.Norm2BwdIdeal.nD) → Buf (Elt Ideal) ((c.tc : Thread Cert.Norm2BwdIdeal.nD Cert.Norm2BwdIdeal.τ).loc Cert.Norm2BwdIdeal.main_v0_2)) (v3 : (c : Dev Cert.Norm2BwdIdeal.nD) → Buf (Elt Ideal) ((c.tc : Thread Cert.Norm2BwdIdeal.nD Cert.Norm2BwdIdeal.τ).loc Cert.Norm2BwdIdeal.main_v0_3)) (v4 : (c : Dev Cert.Norm2BwdIdeal.nD) → Buf (Elt Ideal) ((c.tc : Thread Cert.Norm2BwdIdeal.nD Cert.Norm2BwdIdeal.τ).loc Cert.Norm2BwdIdeal.main_v0_4)) (v5 : (c : Dev Cert.Norm2BwdIdeal.nD) → Buf (Elt Ideal) ((c.tc : Thread Cert.Norm2BwdIdeal.nD Cert.Norm2BwdIdeal.τ).loc Cert.Norm2BwdIdeal.main_v0_5)),
      θ_run (Cert.Norm2BwdIdeal.defs (F := Ideal)) (onTc (τ := Cert.Norm2BwdIdeal.τ) (Cert.Norm2BwdIdeal.main (F := Ideal))) ⟨m, fun _ => 0, g⟩ (fun r => ∀ c : Dev Cert.Norm2BwdIdeal.nD,
          r.2.mem ((c.tc : Thread Cert.Norm2BwdIdeal.nD Cert.Norm2BwdIdeal.τ).loc Cert.Norm2BwdIdeal.main_v0_0) = v0 c
          ∧ r.2.mem ((c.tc : Thread Cert.Norm2BwdIdeal.nD Cert.Norm2BwdIdeal.τ).loc Cert.Norm2BwdIdeal.main_v0_1) = v1 c
          ∧ r.2.mem ((c.tc : Thread Cert.Norm2BwdIdeal.nD Cert.Norm2BwdIdeal.τ).loc Cert.Norm2BwdIdeal.main_v0_2) = v2 c
          ∧ r.2.mem ((c.tc : Thread Cert.Norm2BwdIdeal.nD Cert.Norm2BwdIdeal.τ).loc Cert.Norm2BwdIdeal.main_v0_3) = v3 c
          ∧ r.2.mem ((c.tc : Thread Cert.Norm2BwdIdeal.nD Cert.Norm2BwdIdeal.τ).loc Cert.Norm2BwdIdeal.main_v0_4) = v4 c
          ∧ r.2.mem ((c.tc : Thread Cert.Norm2BwdIdeal.nD Cert.Norm2BwdIdeal.τ).loc Cert.Norm2BwdIdeal.main_v0_5) = v5 c
          ∧ r.2.mem ((c.tc : Thread Cert.Norm2BwdIdeal.nD Cert.Norm2BwdIdeal.τ).loc Cert.Norm2BwdIdeal.main_arg0) = m ((c.tc : Thread Cert.Norm2BwdIdeal.nD Cert.Norm2BwdIdeal.τ).loc Cert.Norm2BwdIdeal.main_arg0)
          ∧ r.2.mem ((c.tc : Thread Cert.Norm2BwdIdeal.nD Cert.Norm2BwdIdeal.τ).loc Cert.Norm2BwdIdeal.main_arg1) = m ((c.tc : Thread Cert.Norm2BwdIdeal.nD Cert.Norm2BwdIdeal.τ).loc Cert.Norm2BwdIdeal.main_arg1)
          ∧ r.2.mem ((c.tc : Thread Cert.Norm2BwdIdeal.nD Cert.Norm2BwdIdeal.τ).loc Cert.Norm2BwdIdeal.main_arg2) = m ((c.tc : Thread Cert.Norm2BwdIdeal.nD Cert.Norm2BwdIdeal.τ).loc Cert.Norm2BwdIdeal.main_arg2)
          ∧ r.2.mem ((c.tc : Thread Cert.Norm2BwdIdeal.nD Cert.Norm2BwdIdeal.τ).loc Cert.Norm2BwdIdeal.main_arg3) = m ((c.tc : Thread Cert.Norm2BwdIdeal.nD Cert.Norm2BwdIdeal.τ).loc Cert.Norm2BwdIdeal.main_arg3)
          ∧ r.2.mem ((c.tc : Thread Cert.Norm2BwdIdeal.nD Cert.Norm2BwdIdeal.τ).loc Cert.Norm2BwdIdeal.main_arg4) = m ((c.tc : Thread Cert.Norm2BwdIdeal.nD Cert.Norm2BwdIdeal.τ).loc Cert.Norm2BwdIdeal.main_arg4)
          ∧ r.2.mem ((c.tc : Thread Cert.Norm2BwdIdeal.nD Cert.Norm2BwdIdeal.τ).loc Cert.Norm2BwdIdeal.main_arg5) = m ((c.tc : Thread Cert.Norm2BwdIdeal.nD Cert.Norm2BwdIdeal.τ).loc Cert.Norm2BwdIdeal.main_arg5)
          ∧ r.2.mem ((c.tc : Thread Cert.Norm2BwdIdeal.nD Cert.Norm2BwdIdeal.τ).loc Cert.Norm2BwdIdeal.main_arg6) = m ((c.tc : Thread Cert.Norm2BwdIdeal.nD Cert.Norm2BwdIdeal.τ).loc Cert.Norm2BwdIdeal.main_arg6))
      ∧ θ_run (Cert.Norm2BwdRefIdeal.defs (F := Ideal)) (onTc (τ := Cert.Norm2BwdRefIdeal.τ) (Cert.Norm2BwdRefIdeal.main (F := Ideal))) ⟨m', fun _ => 0, g'⟩ (fun r => ∀ c : Dev Cert.Norm2BwdRefIdeal.nD,
          r.2.mem ((c.tc : Thread Cert.Norm2BwdRefIdeal.nD Cert.Norm2BwdRefIdeal.τ).loc Cert.Norm2BwdRefIdeal.main_v49) = v0 c
          ∧ r.2.mem ((c.tc : Thread Cert.Norm2BwdRefIdeal.nD Cert.Norm2BwdRefIdeal.τ).loc Cert.Norm2BwdRefIdeal.main_v61) = v1 c
          ∧ r.2.mem ((c.tc : Thread Cert.Norm2BwdRefIdeal.nD Cert.Norm2BwdRefIdeal.τ).loc Cert.Norm2BwdRefIdeal.main_v24) = v2 c
          ∧ r.2.mem ((c.tc : Thread Cert.Norm2BwdRefIdeal.nD Cert.Norm2BwdRefIdeal.τ).loc Cert.Norm2BwdRefIdeal.main_v27) = v3 c
          ∧ r.2.mem ((c.tc : Thread Cert.Norm2BwdRefIdeal.nD Cert.Norm2BwdRefIdeal.τ).loc Cert.Norm2BwdRefIdeal.main_v32) = v4 c
          ∧ r.2.mem ((c.tc : Thread Cert.Norm2BwdRefIdeal.nD Cert.Norm2BwdRefIdeal.τ).loc Cert.Norm2BwdRefIdeal.main_v60) = v5 c
          ∧ r.2.mem ((c.tc : Thread Cert.Norm2BwdRefIdeal.nD Cert.Norm2BwdRefIdeal.τ).loc Cert.Norm2BwdRefIdeal.main_arg0) = m' ((c.tc : Thread Cert.Norm2BwdRefIdeal.nD Cert.Norm2BwdRefIdeal.τ).loc Cert.Norm2BwdRefIdeal.main_arg0)
          ∧ r.2.mem ((c.tc : Thread Cert.Norm2BwdRefIdeal.nD Cert.Norm2BwdRefIdeal.τ).loc Cert.Norm2BwdRefIdeal.main_arg1) = m' ((c.tc : Thread Cert.Norm2BwdRefIdeal.nD Cert.Norm2BwdRefIdeal.τ).loc Cert.Norm2BwdRefIdeal.main_arg1)
          ∧ r.2.mem ((c.tc : Thread Cert.Norm2BwdRefIdeal.nD Cert.Norm2BwdRefIdeal.τ).loc Cert.Norm2BwdRefIdeal.main_arg2) = m' ((c.tc : Thread Cert.Norm2BwdRefIdeal.nD Cert.Norm2BwdRefIdeal.τ).loc Cert.Norm2BwdRefIdeal.main_arg2)
          ∧ r.2.mem ((c.tc : Thread Cert.Norm2BwdRefIdeal.nD Cert.Norm2BwdRefIdeal.τ).loc Cert.Norm2BwdRefIdeal.main_arg3) = m' ((c.tc : Thread Cert.Norm2BwdRefIdeal.nD Cert.Norm2BwdRefIdeal.τ).loc Cert.Norm2BwdRefIdeal.main_arg3)
          ∧ r.2.mem ((c.tc : Thread Cert.Norm2BwdRefIdeal.nD Cert.Norm2BwdRefIdeal.τ).loc Cert.Norm2BwdRefIdeal.main_arg4) = m' ((c.tc : Thread Cert.Norm2BwdRefIdeal.nD Cert.Norm2BwdRefIdeal.τ).loc Cert.Norm2BwdRefIdeal.main_arg4)
          ∧ r.2.mem ((c.tc : Thread Cert.Norm2BwdRefIdeal.nD Cert.Norm2BwdRefIdeal.τ).loc Cert.Norm2BwdRefIdeal.main_arg5) = m' ((c.tc : Thread Cert.Norm2BwdRefIdeal.nD Cert.Norm2BwdRefIdeal.τ).loc Cert.Norm2BwdRefIdeal.main_arg5)
          ∧ r.2.mem ((c.tc : Thread Cert.Norm2BwdRefIdeal.nD Cert.Norm2BwdRefIdeal.τ).loc Cert.Norm2BwdRefIdeal.main_arg6) = m' ((c.tc : Thread Cert.Norm2BwdRefIdeal.nD Cert.Norm2BwdRefIdeal.τ).loc Cert.Norm2BwdRefIdeal.main_arg6))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)
      ∧ m' ((c.tc : Thread Cert.NormFwdRefIdeal.nD Cert.NormFwdRefIdeal.τ).loc Cert.NormFwdRefIdeal.main_arg2) = m ((c.tc : Thread Cert.NormFwdIdeal.nD Cert.NormFwdIdeal.τ).loc Cert.NormFwdIdeal.main_arg2)
      ∧ m' ((c.tc : Thread Cert.NormFwdRefIdeal.nD Cert.NormFwdRefIdeal.τ).loc Cert.NormFwdRefIdeal.main_arg3) = m ((c.tc : Thread Cert.NormFwdIdeal.nD Cert.NormFwdIdeal.τ).loc Cert.NormFwdIdeal.main_arg3)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
          ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v18) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1)
          ∧ r.2.mem ((c.tc : Thread Cert.NormFwdRefIdeal.nD Cert.NormFwdRefIdeal.τ).loc Cert.NormFwdRefIdeal.main_arg2) = m' ((c.tc : Thread Cert.NormFwdRefIdeal.nD Cert.NormFwdRefIdeal.τ).loc Cert.NormFwdRefIdeal.main_arg2)
          ∧ r.2.mem ((c.tc : Thread Cert.NormFwdRefIdeal.nD Cert.NormFwdRefIdeal.τ).loc Cert.NormFwdRefIdeal.main_arg3) = m' ((c.tc : Thread Cert.NormFwdRefIdeal.nD Cert.NormFwdRefIdeal.τ).loc Cert.NormFwdRefIdeal.main_arg3))

def preserves_AttnFwd_AttnFwdIdeal : Prop :=
  IdealRules.named_const.Statement Cert.AttnFwdIdeal.κ "mask" .f32 0xF149F2CA#32 ⊥
  ∧ IdealRules.named_const.Statement Cert.AttnFwdIdeal.κ "scale_log2e" .f32 0x3E0293EE#32 (((Real.sqrt 128)⁻¹ * (Real.log 2)⁻¹ : ℝ) : EReal)
  ∧ IdealRules.named_const.Statement Cert.AttnFwdIdeal.κ "log2e" .f32 0x3FB8AA3B#32 (((Real.log 2)⁻¹ : ℝ) : EReal)

def algebraic_AttnFwdIdeal_AttnFwdRefIdeal_pre_attention_finite [hAttnFwdIdeal : Cert.AttnFwdIdeal.Facts] [hAttnFwdRefIdeal : Cert.AttnFwdRefIdeal.Facts] [hPre_attention_finite : Cert.Pre_attention_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attention_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v2_0)) (v1 : (c : Dev Cert.AttnFwdIdeal.nD) → Buf (Elt Ideal) ((c.tc : Thread Cert.AttnFwdIdeal.nD Cert.AttnFwdIdeal.τ).loc Cert.AttnFwdIdeal.main_v2_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v2_0) = v0 c
          ∧ r.2.mem ((c.tc : Thread Cert.AttnFwdIdeal.nD Cert.AttnFwdIdeal.τ).loc Cert.AttnFwdIdeal.main_v2_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v36) = v0 c
          ∧ r.2.mem ((c.tc : Thread Cert.AttnFwdRefIdeal.nD Cert.AttnFwdRefIdeal.τ).loc Cert.AttnFwdRefIdeal.main_v53) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3))

def preserves_Norm3Bwd_Norm3BwdIdeal : Prop :=
  True

def algebraic_Norm3BwdIdeal_Norm3BwdRefIdeal [hNorm3BwdIdeal : Cert.Norm3BwdIdeal.Facts] [hNorm3BwdRefIdeal : Cert.Norm3BwdRefIdeal.Facts] : Prop :=
  ∀ (m : (ℓ : Loc Cert.Norm3BwdIdeal.nD Cert.Norm3BwdIdeal.τ Cert.Norm3BwdIdeal.sig) → Buf (Elt Ideal) ℓ) (g : Dev Cert.Norm3BwdIdeal.nD → PrngReg)
    (m' : (ℓ : Loc Cert.Norm3BwdRefIdeal.nD Cert.Norm3BwdRefIdeal.τ Cert.Norm3BwdRefIdeal.sig) → Buf (Elt Ideal) ℓ) (g' : Dev Cert.Norm3BwdRefIdeal.nD → PrngReg), Pre_Norm3BwdIdeal m →
    (∀ c : Dev Cert.Norm3BwdIdeal.nD,
      m' ((c.tc : Thread Cert.Norm3BwdRefIdeal.nD Cert.Norm3BwdRefIdeal.τ).loc Cert.Norm3BwdRefIdeal.main_arg0) = m ((c.tc : Thread Cert.Norm3BwdIdeal.nD Cert.Norm3BwdIdeal.τ).loc Cert.Norm3BwdIdeal.main_arg0)
      ∧ m' ((c.tc : Thread Cert.Norm3BwdRefIdeal.nD Cert.Norm3BwdRefIdeal.τ).loc Cert.Norm3BwdRefIdeal.main_arg1) = m ((c.tc : Thread Cert.Norm3BwdIdeal.nD Cert.Norm3BwdIdeal.τ).loc Cert.Norm3BwdIdeal.main_arg1)
      ∧ m' ((c.tc : Thread Cert.Norm3BwdRefIdeal.nD Cert.Norm3BwdRefIdeal.τ).loc Cert.Norm3BwdRefIdeal.main_arg2) = m ((c.tc : Thread Cert.Norm3BwdIdeal.nD Cert.Norm3BwdIdeal.τ).loc Cert.Norm3BwdIdeal.main_arg2)
      ∧ m' ((c.tc : Thread Cert.Norm3BwdRefIdeal.nD Cert.Norm3BwdRefIdeal.τ).loc Cert.Norm3BwdRefIdeal.main_arg3) = m ((c.tc : Thread Cert.Norm3BwdIdeal.nD Cert.Norm3BwdIdeal.τ).loc Cert.Norm3BwdIdeal.main_arg3)
      ∧ m' ((c.tc : Thread Cert.Norm3BwdRefIdeal.nD Cert.Norm3BwdRefIdeal.τ).loc Cert.Norm3BwdRefIdeal.main_arg4) = m ((c.tc : Thread Cert.Norm3BwdIdeal.nD Cert.Norm3BwdIdeal.τ).loc Cert.Norm3BwdIdeal.main_arg4)
      ∧ m' ((c.tc : Thread Cert.Norm3BwdRefIdeal.nD Cert.Norm3BwdRefIdeal.τ).loc Cert.Norm3BwdRefIdeal.main_arg5) = m ((c.tc : Thread Cert.Norm3BwdIdeal.nD Cert.Norm3BwdIdeal.τ).loc Cert.Norm3BwdIdeal.main_arg5)
      ∧ m' ((c.tc : Thread Cert.Norm3BwdRefIdeal.nD Cert.Norm3BwdRefIdeal.τ).loc Cert.Norm3BwdRefIdeal.main_arg6) = m ((c.tc : Thread Cert.Norm3BwdIdeal.nD Cert.Norm3BwdIdeal.τ).loc Cert.Norm3BwdIdeal.main_arg6)) →
    ∃ (v0 : (c : Dev Cert.Norm3BwdIdeal.nD) → Buf (Elt Ideal) ((c.tc : Thread Cert.Norm3BwdIdeal.nD Cert.Norm3BwdIdeal.τ).loc Cert.Norm3BwdIdeal.main_v0_0)) (v1 : (c : Dev Cert.Norm3BwdIdeal.nD) → Buf (Elt Ideal) ((c.tc : Thread Cert.Norm3BwdIdeal.nD Cert.Norm3BwdIdeal.τ).loc Cert.Norm3BwdIdeal.main_v0_1)) (v2 : (c : Dev Cert.Norm3BwdIdeal.nD) → Buf (Elt Ideal) ((c.tc : Thread Cert.Norm3BwdIdeal.nD Cert.Norm3BwdIdeal.τ).loc Cert.Norm3BwdIdeal.main_v0_2)) (v3 : (c : Dev Cert.Norm3BwdIdeal.nD) → Buf (Elt Ideal) ((c.tc : Thread Cert.Norm3BwdIdeal.nD Cert.Norm3BwdIdeal.τ).loc Cert.Norm3BwdIdeal.main_v0_3)) (v4 : (c : Dev Cert.Norm3BwdIdeal.nD) → Buf (Elt Ideal) ((c.tc : Thread Cert.Norm3BwdIdeal.nD Cert.Norm3BwdIdeal.τ).loc Cert.Norm3BwdIdeal.main_v0_4)) (v5 : (c : Dev Cert.Norm3BwdIdeal.nD) → Buf (Elt Ideal) ((c.tc : Thread Cert.Norm3BwdIdeal.nD Cert.Norm3BwdIdeal.τ).loc Cert.Norm3BwdIdeal.main_v0_5)),
      θ_run (Cert.Norm3BwdIdeal.defs (F := Ideal)) (onTc (τ := Cert.Norm3BwdIdeal.τ) (Cert.Norm3BwdIdeal.main (F := Ideal))) ⟨m, fun _ => 0, g⟩ (fun r => ∀ c : Dev Cert.Norm3BwdIdeal.nD,
          r.2.mem ((c.tc : Thread Cert.Norm3BwdIdeal.nD Cert.Norm3BwdIdeal.τ).loc Cert.Norm3BwdIdeal.main_v0_0) = v0 c
          ∧ r.2.mem ((c.tc : Thread Cert.Norm3BwdIdeal.nD Cert.Norm3BwdIdeal.τ).loc Cert.Norm3BwdIdeal.main_v0_1) = v1 c
          ∧ r.2.mem ((c.tc : Thread Cert.Norm3BwdIdeal.nD Cert.Norm3BwdIdeal.τ).loc Cert.Norm3BwdIdeal.main_v0_2) = v2 c
          ∧ r.2.mem ((c.tc : Thread Cert.Norm3BwdIdeal.nD Cert.Norm3BwdIdeal.τ).loc Cert.Norm3BwdIdeal.main_v0_3) = v3 c
          ∧ r.2.mem ((c.tc : Thread Cert.Norm3BwdIdeal.nD Cert.Norm3BwdIdeal.τ).loc Cert.Norm3BwdIdeal.main_v0_4) = v4 c
          ∧ r.2.mem ((c.tc : Thread Cert.Norm3BwdIdeal.nD Cert.Norm3BwdIdeal.τ).loc Cert.Norm3BwdIdeal.main_v0_5) = v5 c
          ∧ r.2.mem ((c.tc : Thread Cert.Norm3BwdIdeal.nD Cert.Norm3BwdIdeal.τ).loc Cert.Norm3BwdIdeal.main_arg0) = m ((c.tc : Thread Cert.Norm3BwdIdeal.nD Cert.Norm3BwdIdeal.τ).loc Cert.Norm3BwdIdeal.main_arg0)
          ∧ r.2.mem ((c.tc : Thread Cert.Norm3BwdIdeal.nD Cert.Norm3BwdIdeal.τ).loc Cert.Norm3BwdIdeal.main_arg1) = m ((c.tc : Thread Cert.Norm3BwdIdeal.nD Cert.Norm3BwdIdeal.τ).loc Cert.Norm3BwdIdeal.main_arg1)
          ∧ r.2.mem ((c.tc : Thread Cert.Norm3BwdIdeal.nD Cert.Norm3BwdIdeal.τ).loc Cert.Norm3BwdIdeal.main_arg2) = m ((c.tc : Thread Cert.Norm3BwdIdeal.nD Cert.Norm3BwdIdeal.τ).loc Cert.Norm3BwdIdeal.main_arg2)
          ∧ r.2.mem ((c.tc : Thread Cert.Norm3BwdIdeal.nD Cert.Norm3BwdIdeal.τ).loc Cert.Norm3BwdIdeal.main_arg3) = m ((c.tc : Thread Cert.Norm3BwdIdeal.nD Cert.Norm3BwdIdeal.τ).loc Cert.Norm3BwdIdeal.main_arg3)
          ∧ r.2.mem ((c.tc : Thread Cert.Norm3BwdIdeal.nD Cert.Norm3BwdIdeal.τ).loc Cert.Norm3BwdIdeal.main_arg4) = m ((c.tc : Thread Cert.Norm3BwdIdeal.nD Cert.Norm3BwdIdeal.τ).loc Cert.Norm3BwdIdeal.main_arg4)
          ∧ r.2.mem ((c.tc : Thread Cert.Norm3BwdIdeal.nD Cert.Norm3BwdIdeal.τ).loc Cert.Norm3BwdIdeal.main_arg5) = m ((c.tc : Thread Cert.Norm3BwdIdeal.nD Cert.Norm3BwdIdeal.τ).loc Cert.Norm3BwdIdeal.main_arg5)
          ∧ r.2.mem ((c.tc : Thread Cert.Norm3BwdIdeal.nD Cert.Norm3BwdIdeal.τ).loc Cert.Norm3BwdIdeal.main_arg6) = m ((c.tc : Thread Cert.Norm3BwdIdeal.nD Cert.Norm3BwdIdeal.τ).loc Cert.Norm3BwdIdeal.main_arg6))
      ∧ θ_run (Cert.Norm3BwdRefIdeal.defs (F := Ideal)) (onTc (τ := Cert.Norm3BwdRefIdeal.τ) (Cert.Norm3BwdRefIdeal.main (F := Ideal))) ⟨m', fun _ => 0, g'⟩ (fun r => ∀ c : Dev Cert.Norm3BwdRefIdeal.nD,
          r.2.mem ((c.tc : Thread Cert.Norm3BwdRefIdeal.nD Cert.Norm3BwdRefIdeal.τ).loc Cert.Norm3BwdRefIdeal.main_v49) = v0 c
          ∧ r.2.mem ((c.tc : Thread Cert.Norm3BwdRefIdeal.nD Cert.Norm3BwdRefIdeal.τ).loc Cert.Norm3BwdRefIdeal.main_v57) = v1 c
          ∧ r.2.mem ((c.tc : Thread Cert.Norm3BwdRefIdeal.nD Cert.Norm3BwdRefIdeal.τ).loc Cert.Norm3BwdRefIdeal.main_v24) = v2 c
          ∧ r.2.mem ((c.tc : Thread Cert.Norm3BwdRefIdeal.nD Cert.Norm3BwdRefIdeal.τ).loc Cert.Norm3BwdRefIdeal.main_v27) = v3 c
          ∧ r.2.mem ((c.tc : Thread Cert.Norm3BwdRefIdeal.nD Cert.Norm3BwdRefIdeal.τ).loc Cert.Norm3BwdRefIdeal.main_v32) = v4 c
          ∧ r.2.mem ((c.tc : Thread Cert.Norm3BwdRefIdeal.nD Cert.Norm3BwdRefIdeal.τ).loc Cert.Norm3BwdRefIdeal.main_v56) = v5 c
          ∧ r.2.mem ((c.tc : Thread Cert.Norm3BwdRefIdeal.nD Cert.Norm3BwdRefIdeal.τ).loc Cert.Norm3BwdRefIdeal.main_arg0) = m' ((c.tc : Thread Cert.Norm3BwdRefIdeal.nD Cert.Norm3BwdRefIdeal.τ).loc Cert.Norm3BwdRefIdeal.main_arg0)
          ∧ r.2.mem ((c.tc : Thread Cert.Norm3BwdRefIdeal.nD Cert.Norm3BwdRefIdeal.τ).loc Cert.Norm3BwdRefIdeal.main_arg1) = m' ((c.tc : Thread Cert.Norm3BwdRefIdeal.nD Cert.Norm3BwdRefIdeal.τ).loc Cert.Norm3BwdRefIdeal.main_arg1)
          ∧ r.2.mem ((c.tc : Thread Cert.Norm3BwdRefIdeal.nD Cert.Norm3BwdRefIdeal.τ).loc Cert.Norm3BwdRefIdeal.main_arg2) = m' ((c.tc : Thread Cert.Norm3BwdRefIdeal.nD Cert.Norm3BwdRefIdeal.τ).loc Cert.Norm3BwdRefIdeal.main_arg2)
          ∧ r.2.mem ((c.tc : Thread Cert.Norm3BwdRefIdeal.nD Cert.Norm3BwdRefIdeal.τ).loc Cert.Norm3BwdRefIdeal.main_arg3) = m' ((c.tc : Thread Cert.Norm3BwdRefIdeal.nD Cert.Norm3BwdRefIdeal.τ).loc Cert.Norm3BwdRefIdeal.main_arg3)
          ∧ r.2.mem ((c.tc : Thread Cert.Norm3BwdRefIdeal.nD Cert.Norm3BwdRefIdeal.τ).loc Cert.Norm3BwdRefIdeal.main_arg4) = m' ((c.tc : Thread Cert.Norm3BwdRefIdeal.nD Cert.Norm3BwdRefIdeal.τ).loc Cert.Norm3BwdRefIdeal.main_arg4)
          ∧ r.2.mem ((c.tc : Thread Cert.Norm3BwdRefIdeal.nD Cert.Norm3BwdRefIdeal.τ).loc Cert.Norm3BwdRefIdeal.main_arg5) = m' ((c.tc : Thread Cert.Norm3BwdRefIdeal.nD Cert.Norm3BwdRefIdeal.τ).loc Cert.Norm3BwdRefIdeal.main_arg5)
          ∧ r.2.mem ((c.tc : Thread Cert.Norm3BwdRefIdeal.nD Cert.Norm3BwdRefIdeal.τ).loc Cert.Norm3BwdRefIdeal.main_arg6) = m' ((c.tc : Thread Cert.Norm3BwdRefIdeal.nD Cert.Norm3BwdRefIdeal.τ).loc Cert.Norm3BwdRefIdeal.main_arg6))

def preserves_QkNormFwd_QkNormFwdIdeal : Prop :=
  True

def algebraic_QkNormFwdIdeal_QkNormFwdRefIdeal [hQkNormFwdIdeal : Cert.QkNormFwdIdeal.Facts] [hQkNormFwdRefIdeal : Cert.QkNormFwdRefIdeal.Facts] : Prop :=
  ∀ (m : (ℓ : Loc Cert.QkNormFwdIdeal.nD Cert.QkNormFwdIdeal.τ Cert.QkNormFwdIdeal.sig) → Buf (Elt Ideal) ℓ) (g : Dev Cert.QkNormFwdIdeal.nD → PrngReg)
    (m' : (ℓ : Loc Cert.QkNormFwdRefIdeal.nD Cert.QkNormFwdRefIdeal.τ Cert.QkNormFwdRefIdeal.sig) → Buf (Elt Ideal) ℓ) (g' : Dev Cert.QkNormFwdRefIdeal.nD → PrngReg), Pre_QkNormFwdIdeal m →
    (∀ c : Dev Cert.QkNormFwdIdeal.nD,
      m' ((c.tc : Thread Cert.QkNormFwdRefIdeal.nD Cert.QkNormFwdRefIdeal.τ).loc Cert.QkNormFwdRefIdeal.main_arg0) = m ((c.tc : Thread Cert.QkNormFwdIdeal.nD Cert.QkNormFwdIdeal.τ).loc Cert.QkNormFwdIdeal.main_arg0)
      ∧ m' ((c.tc : Thread Cert.QkNormFwdRefIdeal.nD Cert.QkNormFwdRefIdeal.τ).loc Cert.QkNormFwdRefIdeal.main_arg1) = m ((c.tc : Thread Cert.QkNormFwdIdeal.nD Cert.QkNormFwdIdeal.τ).loc Cert.QkNormFwdIdeal.main_arg1)
      ∧ m' ((c.tc : Thread Cert.QkNormFwdRefIdeal.nD Cert.QkNormFwdRefIdeal.τ).loc Cert.QkNormFwdRefIdeal.main_arg2) = m ((c.tc : Thread Cert.QkNormFwdIdeal.nD Cert.QkNormFwdIdeal.τ).loc Cert.QkNormFwdIdeal.main_arg2)) →
    ∃ (v0 : (c : Dev Cert.QkNormFwdIdeal.nD) → Buf (Elt Ideal) ((c.tc : Thread Cert.QkNormFwdIdeal.nD Cert.QkNormFwdIdeal.τ).loc Cert.QkNormFwdIdeal.main_v0_0)) (v1 : (c : Dev Cert.QkNormFwdIdeal.nD) → Buf (Elt Ideal) ((c.tc : Thread Cert.QkNormFwdIdeal.nD Cert.QkNormFwdIdeal.τ).loc Cert.QkNormFwdIdeal.main_v0_1)) (v2 : (c : Dev Cert.QkNormFwdIdeal.nD) → Buf (Elt Ideal) ((c.tc : Thread Cert.QkNormFwdIdeal.nD Cert.QkNormFwdIdeal.τ).loc Cert.QkNormFwdIdeal.main_v0_2)),
      θ_run (Cert.QkNormFwdIdeal.defs (F := Ideal)) (onTc (τ := Cert.QkNormFwdIdeal.τ) (Cert.QkNormFwdIdeal.main (F := Ideal))) ⟨m, fun _ => 0, g⟩ (fun r => ∀ c : Dev Cert.QkNormFwdIdeal.nD,
          r.2.mem ((c.tc : Thread Cert.QkNormFwdIdeal.nD Cert.QkNormFwdIdeal.τ).loc Cert.QkNormFwdIdeal.main_v0_0) = v0 c
          ∧ r.2.mem ((c.tc : Thread Cert.QkNormFwdIdeal.nD Cert.QkNormFwdIdeal.τ).loc Cert.QkNormFwdIdeal.main_v0_1) = v1 c
          ∧ r.2.mem ((c.tc : Thread Cert.QkNormFwdIdeal.nD Cert.QkNormFwdIdeal.τ).loc Cert.QkNormFwdIdeal.main_v0_2) = v2 c
          ∧ r.2.mem ((c.tc : Thread Cert.QkNormFwdIdeal.nD Cert.QkNormFwdIdeal.τ).loc Cert.QkNormFwdIdeal.main_arg0) = m ((c.tc : Thread Cert.QkNormFwdIdeal.nD Cert.QkNormFwdIdeal.τ).loc Cert.QkNormFwdIdeal.main_arg0)
          ∧ r.2.mem ((c.tc : Thread Cert.QkNormFwdIdeal.nD Cert.QkNormFwdIdeal.τ).loc Cert.QkNormFwdIdeal.main_arg1) = m ((c.tc : Thread Cert.QkNormFwdIdeal.nD Cert.QkNormFwdIdeal.τ).loc Cert.QkNormFwdIdeal.main_arg1)
          ∧ r.2.mem ((c.tc : Thread Cert.QkNormFwdIdeal.nD Cert.QkNormFwdIdeal.τ).loc Cert.QkNormFwdIdeal.main_arg2) = m ((c.tc : Thread Cert.QkNormFwdIdeal.nD Cert.QkNormFwdIdeal.τ).loc Cert.QkNormFwdIdeal.main_arg2))
      ∧ θ_run (Cert.QkNormFwdRefIdeal.defs (F := Ideal)) (onTc (τ := Cert.QkNormFwdRefIdeal.τ) (Cert.QkNormFwdRefIdeal.main (F := Ideal))) ⟨m', fun _ => 0, g'⟩ (fun r => ∀ c : Dev Cert.QkNormFwdRefIdeal.nD,
          r.2.mem ((c.tc : Thread Cert.QkNormFwdRefIdeal.nD Cert.QkNormFwdRefIdeal.τ).loc Cert.QkNormFwdRefIdeal.main_v32) = v0 c
          ∧ r.2.mem ((c.tc : Thread Cert.QkNormFwdRefIdeal.nD Cert.QkNormFwdRefIdeal.τ).loc Cert.QkNormFwdRefIdeal.main_v33) = v1 c
          ∧ r.2.mem ((c.tc : Thread Cert.QkNormFwdRefIdeal.nD Cert.QkNormFwdRefIdeal.τ).loc Cert.QkNormFwdRefIdeal.main_v35) = v2 c
          ∧ r.2.mem ((c.tc : Thread Cert.QkNormFwdRefIdeal.nD Cert.QkNormFwdRefIdeal.τ).loc Cert.QkNormFwdRefIdeal.main_arg0) = m' ((c.tc : Thread Cert.QkNormFwdRefIdeal.nD Cert.QkNormFwdRefIdeal.τ).loc Cert.QkNormFwdRefIdeal.main_arg0)
          ∧ r.2.mem ((c.tc : Thread Cert.QkNormFwdRefIdeal.nD Cert.QkNormFwdRefIdeal.τ).loc Cert.QkNormFwdRefIdeal.main_arg1) = m' ((c.tc : Thread Cert.QkNormFwdRefIdeal.nD Cert.QkNormFwdRefIdeal.τ).loc Cert.QkNormFwdRefIdeal.main_arg1)
          ∧ r.2.mem ((c.tc : Thread Cert.QkNormFwdRefIdeal.nD Cert.QkNormFwdRefIdeal.τ).loc Cert.QkNormFwdRefIdeal.main_arg2) = m' ((c.tc : Thread Cert.QkNormFwdRefIdeal.nD Cert.QkNormFwdRefIdeal.τ).loc Cert.QkNormFwdRefIdeal.main_arg2))

def preserves_FinalLoss_FinalLossIdeal : Prop :=
  True

def algebraic_FinalLossIdeal_FinalLossRefIdeal [hFinalLossIdeal : Cert.FinalLossIdeal.Facts] [hFinalLossRefIdeal : Cert.FinalLossRefIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg)
    (m' : (ℓ : Loc Cert.FinalLossRefIdeal.nD Cert.FinalLossRefIdeal.τ Cert.FinalLossRefIdeal.sig) → Buf (Elt Ideal) ℓ) (g' : Dev Cert.FinalLossRefIdeal.nD → PrngReg), Pre_FinalLossIdeal m →
    (∀ c : Dev Cert.FinalLossIdeal.nD,
      m' ((c.tc : Thread Cert.FinalLossRefIdeal.nD Cert.FinalLossRefIdeal.τ).loc Cert.FinalLossRefIdeal.main_arg0) = m ((c.tc : Thread Cert.FinalLossIdeal.nD Cert.FinalLossIdeal.τ).loc Cert.FinalLossIdeal.main_arg0)
      ∧ m' ((c.tc : Thread Cert.FinalLossRefIdeal.nD Cert.FinalLossRefIdeal.τ).loc Cert.FinalLossRefIdeal.main_arg1) = m ((c.tc : Thread Cert.FinalLossIdeal.nD Cert.FinalLossIdeal.τ).loc Cert.FinalLossIdeal.main_arg1)
      ∧ m' ((c.tc : Thread Cert.FinalLossRefIdeal.nD Cert.FinalLossRefIdeal.τ).loc Cert.FinalLossRefIdeal.main_arg2) = m ((c.tc : Thread Cert.FinalLossIdeal.nD Cert.FinalLossIdeal.τ).loc Cert.FinalLossIdeal.main_arg2)
      ∧ m' ((c.tc : Thread Cert.FinalLossRefIdeal.nD Cert.FinalLossRefIdeal.τ).loc Cert.FinalLossRefIdeal.main_arg3) = m ((c.tc : Thread Cert.FinalLossIdeal.nD Cert.FinalLossIdeal.τ).loc Cert.FinalLossIdeal.main_arg3)
      ∧ m' ((c.tc : Thread Cert.FinalLossRefIdeal.nD Cert.FinalLossRefIdeal.τ).loc Cert.FinalLossRefIdeal.main_arg4) = m ((c.tc : Thread Cert.FinalLossIdeal.nD Cert.FinalLossIdeal.τ).loc Cert.FinalLossIdeal.main_arg4)) →
    ∃ (v0 : (c : Dev Cert.FinalLossIdeal.nD) → Buf (Elt Ideal) ((c.tc : Thread Cert.FinalLossIdeal.nD Cert.FinalLossIdeal.τ).loc Cert.FinalLossIdeal.main_v0_0)) (v1 : (c : Dev Cert.FinalLossIdeal.nD) → Buf (Elt Ideal) ((c.tc : Thread Cert.FinalLossIdeal.nD Cert.FinalLossIdeal.τ).loc Cert.FinalLossIdeal.main_v0_1)) (v2 : (c : Dev Cert.FinalLossIdeal.nD) → Buf (Elt Ideal) ((c.tc : Thread Cert.FinalLossIdeal.nD Cert.FinalLossIdeal.τ).loc Cert.FinalLossIdeal.main_v0_2)) (v3 : (c : Dev Cert.FinalLossIdeal.nD) → Buf (Elt Ideal) ((c.tc : Thread Cert.FinalLossIdeal.nD Cert.FinalLossIdeal.τ).loc Cert.FinalLossIdeal.main_v0_3)) (v4 : (c : Dev Cert.FinalLossIdeal.nD) → Buf (Elt Ideal) ((c.tc : Thread Cert.FinalLossIdeal.nD Cert.FinalLossIdeal.τ).loc Cert.FinalLossIdeal.main_v0_4)),
      θ_run (Cert.FinalLossIdeal.defs (F := Ideal)) (onTc (τ := Cert.FinalLossIdeal.τ) (Cert.FinalLossIdeal.main (F := Ideal))) ⟨m, fun _ => 0, g⟩ (fun r => ∀ c : Dev Cert.FinalLossIdeal.nD,
          r.2.mem ((c.tc : Thread Cert.FinalLossIdeal.nD Cert.FinalLossIdeal.τ).loc Cert.FinalLossIdeal.main_v0_0) = v0 c
          ∧ r.2.mem ((c.tc : Thread Cert.FinalLossIdeal.nD Cert.FinalLossIdeal.τ).loc Cert.FinalLossIdeal.main_v0_1) = v1 c
          ∧ r.2.mem ((c.tc : Thread Cert.FinalLossIdeal.nD Cert.FinalLossIdeal.τ).loc Cert.FinalLossIdeal.main_v0_2) = v2 c
          ∧ r.2.mem ((c.tc : Thread Cert.FinalLossIdeal.nD Cert.FinalLossIdeal.τ).loc Cert.FinalLossIdeal.main_v0_3) = v3 c
          ∧ r.2.mem ((c.tc : Thread Cert.FinalLossIdeal.nD Cert.FinalLossIdeal.τ).loc Cert.FinalLossIdeal.main_v0_4) = v4 c
          ∧ r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
          ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
          ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2)
          ∧ r.2.mem ((c.tc : Thread Cert.FinalLossIdeal.nD Cert.FinalLossIdeal.τ).loc Cert.FinalLossIdeal.main_arg3) = m ((c.tc : Thread Cert.FinalLossIdeal.nD Cert.FinalLossIdeal.τ).loc Cert.FinalLossIdeal.main_arg3)
          ∧ r.2.mem ((c.tc : Thread Cert.FinalLossIdeal.nD Cert.FinalLossIdeal.τ).loc Cert.FinalLossIdeal.main_arg4) = m ((c.tc : Thread Cert.FinalLossIdeal.nD Cert.FinalLossIdeal.τ).loc Cert.FinalLossIdeal.main_arg4))
      ∧ θ_run (Cert.FinalLossRefIdeal.defs (F := Ideal)) (onTc (τ := Cert.FinalLossRefIdeal.τ) (Cert.FinalLossRefIdeal.main (F := Ideal))) ⟨m', fun _ => 0, g'⟩ (fun r => ∀ c : Dev Cert.FinalLossRefIdeal.nD,
          r.2.mem ((c.tc : Thread Cert.FinalLossRefIdeal.nD Cert.FinalLossRefIdeal.τ).loc Cert.FinalLossRefIdeal.main_v48) = v0 c
          ∧ r.2.mem ((c.tc : Thread Cert.FinalLossRefIdeal.nD Cert.FinalLossRefIdeal.τ).loc Cert.FinalLossRefIdeal.main_v60) = v1 c
          ∧ r.2.mem ((c.tc : Thread Cert.FinalLossRefIdeal.nD Cert.FinalLossRefIdeal.τ).loc Cert.FinalLossRefIdeal.main_v32) = v2 c
          ∧ r.2.mem ((c.tc : Thread Cert.FinalLossRefIdeal.nD Cert.FinalLossRefIdeal.τ).loc Cert.FinalLossRefIdeal.main_v61) = v3 c
          ∧ r.2.mem ((c.tc : Thread Cert.FinalLossRefIdeal.nD Cert.FinalLossRefIdeal.τ).loc Cert.FinalLossRefIdeal.main_v59) = v4 c
          ∧ r.2.mem ((c.tc : Thread Cert.FinalLossRefIdeal.nD Cert.FinalLossRefIdeal.τ).loc Cert.FinalLossRefIdeal.main_arg0) = m' ((c.tc : Thread Cert.FinalLossRefIdeal.nD Cert.FinalLossRefIdeal.τ).loc Cert.FinalLossRefIdeal.main_arg0)
          ∧ r.2.mem ((c.tc : Thread Cert.FinalLossRefIdeal.nD Cert.FinalLossRefIdeal.τ).loc Cert.FinalLossRefIdeal.main_arg1) = m' ((c.tc : Thread Cert.FinalLossRefIdeal.nD Cert.FinalLossRefIdeal.τ).loc Cert.FinalLossRefIdeal.main_arg1)
          ∧ r.2.mem ((c.tc : Thread Cert.FinalLossRefIdeal.nD Cert.FinalLossRefIdeal.τ).loc Cert.FinalLossRefIdeal.main_arg2) = m' ((c.tc : Thread Cert.FinalLossRefIdeal.nD Cert.FinalLossRefIdeal.τ).loc Cert.FinalLossRefIdeal.main_arg2)
          ∧ r.2.mem ((c.tc : Thread Cert.FinalLossRefIdeal.nD Cert.FinalLossRefIdeal.τ).loc Cert.FinalLossRefIdeal.main_arg3) = m' ((c.tc : Thread Cert.FinalLossRefIdeal.nD Cert.FinalLossRefIdeal.τ).loc Cert.FinalLossRefIdeal.main_arg3)
          ∧ r.2.mem ((c.tc : Thread Cert.FinalLossRefIdeal.nD Cert.FinalLossRefIdeal.τ).loc Cert.FinalLossRefIdeal.main_arg4) = m' ((c.tc : Thread Cert.FinalLossRefIdeal.nD Cert.FinalLossRefIdeal.τ).loc Cert.FinalLossRefIdeal.main_arg4))

def preserves_AdaBwd_AdaBwdIdeal : Prop :=
  True

def algebraic_AdaBwdIdeal_AdaBwdRefIdeal [hAdaBwdIdeal : Cert.AdaBwdIdeal.Facts] [hAdaBwdRefIdeal : Cert.AdaBwdRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdRefIdeal.nD Cert.AdaBwdRefIdeal.τ Cert.AdaBwdRefIdeal.sig) → Buf (Elt Ideal) ℓ) (g' : Dev Cert.AdaBwdRefIdeal.nD → PrngReg), Pre_AdaBwdIdeal m →
    (∀ c : Dev Cert.AdaBwdIdeal.nD,
      m' ((c.tc : Thread Cert.AdaBwdRefIdeal.nD Cert.AdaBwdRefIdeal.τ).loc Cert.AdaBwdRefIdeal.main_arg0) = m ((c.tc : Thread Cert.AdaBwdIdeal.nD Cert.AdaBwdIdeal.τ).loc Cert.AdaBwdIdeal.main_arg0)
      ∧ m' ((c.tc : Thread Cert.AdaBwdRefIdeal.nD Cert.AdaBwdRefIdeal.τ).loc Cert.AdaBwdRefIdeal.main_arg1) = m ((c.tc : Thread Cert.AdaBwdIdeal.nD Cert.AdaBwdIdeal.τ).loc Cert.AdaBwdIdeal.main_arg1)) →
    ∃ (v0 : (c : Dev Cert.AdaBwdIdeal.nD) → Buf (Elt Ideal) ((c.tc : Thread Cert.AdaBwdIdeal.nD Cert.AdaBwdIdeal.τ).loc Cert.AdaBwdIdeal.main_v0)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0) = v0 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v4) = v0 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)
      ∧ m' ((c.tc : Thread Cert.AdaFwdRefIdeal.nD Cert.AdaFwdRefIdeal.τ).loc Cert.AdaFwdRefIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v0)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v0) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v3) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1)
          ∧ r.2.mem ((c.tc : Thread Cert.AdaFwdRefIdeal.nD Cert.AdaFwdRefIdeal.τ).loc Cert.AdaFwdRefIdeal.main_arg2) = m' ((c.tc : Thread Cert.AdaFwdRefIdeal.nD Cert.AdaFwdRefIdeal.τ).loc Cert.AdaFwdRefIdeal.main_arg2))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)) (v3 : (c : Dev Cert.AdamWIdeal.nD) → Buf (Elt Ideal) ((c.tc : Thread Cert.AdamWIdeal.nD Cert.AdamWIdeal.τ).loc Cert.AdamWIdeal.main_v0_3)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_v0_3) = v3 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v0) = v0 c
          ∧ r.2.mem ((c.tc : Thread Cert.AdamWRefIdeal.nD Cert.AdamWRefIdeal.τ).loc Cert.AdamWRefIdeal.main_v24) = v1 c
          ∧ r.2.mem ((c.tc : Thread Cert.AdamWRefIdeal.nD Cert.AdamWRefIdeal.τ).loc Cert.AdamWRefIdeal.main_v5) = v2 c
          ∧ r.2.mem ((c.tc : Thread Cert.AdamWRefIdeal.nD Cert.AdamWRefIdeal.τ).loc Cert.AdamWRefIdeal.main_v11) = v3 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def preserves_AdamFfnIn_AdamFfnInIdeal : Prop :=
  True

def algebraic_AdamFfnInIdeal_AdamFfnInRefIdeal [hAdamFfnInIdeal : Cert.AdamFfnInIdeal.Facts] [hAdamFfnInRefIdeal : Cert.AdamFfnInRefIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg)
    (m' : (ℓ : Loc Cert.AdamFfnInRefIdeal.nD Cert.AdamFfnInRefIdeal.τ Cert.AdamFfnInRefIdeal.sig) → Buf (Elt Ideal) ℓ) (g' : Dev Cert.AdamFfnInRefIdeal.nD → PrngReg), Pre_AdamFfnInIdeal m →
    (∀ c : Dev Cert.AdamFfnInIdeal.nD,
      m' ((c.tc : Thread Cert.AdamFfnInRefIdeal.nD Cert.AdamFfnInRefIdeal.τ).loc Cert.AdamFfnInRefIdeal.main_arg0) = m ((c.tc : Thread Cert.AdamFfnInIdeal.nD Cert.AdamFfnInIdeal.τ).loc Cert.AdamFfnInIdeal.main_arg0)
      ∧ m' ((c.tc : Thread Cert.AdamFfnInRefIdeal.nD Cert.AdamFfnInRefIdeal.τ).loc Cert.AdamFfnInRefIdeal.main_arg1) = m ((c.tc : Thread Cert.AdamFfnInIdeal.nD Cert.AdamFfnInIdeal.τ).loc Cert.AdamFfnInIdeal.main_arg1)
      ∧ m' ((c.tc : Thread Cert.AdamFfnInRefIdeal.nD Cert.AdamFfnInRefIdeal.τ).loc Cert.AdamFfnInRefIdeal.main_arg2) = m ((c.tc : Thread Cert.AdamFfnInIdeal.nD Cert.AdamFfnInIdeal.τ).loc Cert.AdamFfnInIdeal.main_arg2)
      ∧ m' ((c.tc : Thread Cert.AdamFfnInRefIdeal.nD Cert.AdamFfnInRefIdeal.τ).loc Cert.AdamFfnInRefIdeal.main_arg3) = m ((c.tc : Thread Cert.AdamFfnInIdeal.nD Cert.AdamFfnInIdeal.τ).loc Cert.AdamFfnInIdeal.main_arg3)) →
    ∃ (v0 : (c : Dev Cert.AdamFfnInIdeal.nD) → Buf (Elt Ideal) ((c.tc : Thread Cert.AdamFfnInIdeal.nD Cert.AdamFfnInIdeal.τ).loc Cert.AdamFfnInIdeal.main_v0_0)) (v1 : (c : Dev Cert.AdamFfnInIdeal.nD) → Buf (Elt Ideal) ((c.tc : Thread Cert.AdamFfnInIdeal.nD Cert.AdamFfnInIdeal.τ).loc Cert.AdamFfnInIdeal.main_v0_1)) (v2 : (c : Dev Cert.AdamFfnInIdeal.nD) → Buf (Elt Ideal) ((c.tc : Thread Cert.AdamFfnInIdeal.nD Cert.AdamFfnInIdeal.τ).loc Cert.AdamFfnInIdeal.main_v0_2)) (v3 : (c : Dev Cert.AdamFfnInIdeal.nD) → Buf (Elt Ideal) ((c.tc : Thread Cert.AdamFfnInIdeal.nD Cert.AdamFfnInIdeal.τ).loc Cert.AdamFfnInIdeal.main_v0_3)),
      θ_run (Cert.AdamFfnInIdeal.defs (F := Ideal)) (onTc (τ := Cert.AdamFfnInIdeal.τ) (Cert.AdamFfnInIdeal.main (F := Ideal))) ⟨m, fun _ => 0, g⟩ (fun r => ∀ c : Dev Cert.AdamFfnInIdeal.nD,
          r.2.mem ((c.tc : Thread Cert.AdamFfnInIdeal.nD Cert.AdamFfnInIdeal.τ).loc Cert.AdamFfnInIdeal.main_v0_0) = v0 c
          ∧ r.2.mem ((c.tc : Thread Cert.AdamFfnInIdeal.nD Cert.AdamFfnInIdeal.τ).loc Cert.AdamFfnInIdeal.main_v0_1) = v1 c
          ∧ r.2.mem ((c.tc : Thread Cert.AdamFfnInIdeal.nD Cert.AdamFfnInIdeal.τ).loc Cert.AdamFfnInIdeal.main_v0_2) = v2 c
          ∧ r.2.mem ((c.tc : Thread Cert.AdamFfnInIdeal.nD Cert.AdamFfnInIdeal.τ).loc Cert.AdamFfnInIdeal.main_v0_3) = v3 c
          ∧ r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
          ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
          ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
          ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3))
      ∧ θ_run (Cert.AdamFfnInRefIdeal.defs (F := Ideal)) (onTc (τ := Cert.AdamFfnInRefIdeal.τ) (Cert.AdamFfnInRefIdeal.main (F := Ideal))) ⟨m', fun _ => 0, g'⟩ (fun r => ∀ c : Dev Cert.AdamFfnInRefIdeal.nD,
          r.2.mem ((c.tc : Thread Cert.AdamFfnInRefIdeal.nD Cert.AdamFfnInRefIdeal.τ).loc Cert.AdamFfnInRefIdeal.main_v1) = v0 c
          ∧ r.2.mem ((c.tc : Thread Cert.AdamFfnInRefIdeal.nD Cert.AdamFfnInRefIdeal.τ).loc Cert.AdamFfnInRefIdeal.main_v25) = v1 c
          ∧ r.2.mem ((c.tc : Thread Cert.AdamFfnInRefIdeal.nD Cert.AdamFfnInRefIdeal.τ).loc Cert.AdamFfnInRefIdeal.main_v6) = v2 c
          ∧ r.2.mem ((c.tc : Thread Cert.AdamFfnInRefIdeal.nD Cert.AdamFfnInRefIdeal.τ).loc Cert.AdamFfnInRefIdeal.main_v12) = v3 c
          ∧ r.2.mem ((c.tc : Thread Cert.AdamFfnInRefIdeal.nD Cert.AdamFfnInRefIdeal.τ).loc Cert.AdamFfnInRefIdeal.main_arg0) = m' ((c.tc : Thread Cert.AdamFfnInRefIdeal.nD Cert.AdamFfnInRefIdeal.τ).loc Cert.AdamFfnInRefIdeal.main_arg0)
          ∧ r.2.mem ((c.tc : Thread Cert.AdamFfnInRefIdeal.nD Cert.AdamFfnInRefIdeal.τ).loc Cert.AdamFfnInRefIdeal.main_arg1) = m' ((c.tc : Thread Cert.AdamFfnInRefIdeal.nD Cert.AdamFfnInRefIdeal.τ).loc Cert.AdamFfnInRefIdeal.main_arg1)
          ∧ r.2.mem ((c.tc : Thread Cert.AdamFfnInRefIdeal.nD Cert.AdamFfnInRefIdeal.τ).loc Cert.AdamFfnInRefIdeal.main_arg2) = m' ((c.tc : Thread Cert.AdamFfnInRefIdeal.nD Cert.AdamFfnInRefIdeal.τ).loc Cert.AdamFfnInRefIdeal.main_arg2)
          ∧ r.2.mem ((c.tc : Thread Cert.AdamFfnInRefIdeal.nD Cert.AdamFfnInRefIdeal.τ).loc Cert.AdamFfnInRefIdeal.main_arg3) = m' ((c.tc : Thread Cert.AdamFfnInRefIdeal.nD Cert.AdamFfnInRefIdeal.τ).loc Cert.AdamFfnInRefIdeal.main_arg3))

def preserves_AdamFfnOut_AdamFfnOutIdeal : Prop :=
  True

def algebraic_AdamFfnOutIdeal_AdamFfnOutRefIdeal [hAdamFfnOutIdeal : Cert.AdamFfnOutIdeal.Facts] [hAdamFfnOutRefIdeal : Cert.AdamFfnOutRefIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg)
    (m' : (ℓ : Loc Cert.AdamFfnOutRefIdeal.nD Cert.AdamFfnOutRefIdeal.τ Cert.AdamFfnOutRefIdeal.sig) → Buf (Elt Ideal) ℓ) (g' : Dev Cert.AdamFfnOutRefIdeal.nD → PrngReg), Pre_AdamFfnOutIdeal m →
    (∀ c : Dev Cert.AdamFfnOutIdeal.nD,
      m' ((c.tc : Thread Cert.AdamFfnOutRefIdeal.nD Cert.AdamFfnOutRefIdeal.τ).loc Cert.AdamFfnOutRefIdeal.main_arg0) = m ((c.tc : Thread Cert.AdamFfnOutIdeal.nD Cert.AdamFfnOutIdeal.τ).loc Cert.AdamFfnOutIdeal.main_arg0)
      ∧ m' ((c.tc : Thread Cert.AdamFfnOutRefIdeal.nD Cert.AdamFfnOutRefIdeal.τ).loc Cert.AdamFfnOutRefIdeal.main_arg1) = m ((c.tc : Thread Cert.AdamFfnOutIdeal.nD Cert.AdamFfnOutIdeal.τ).loc Cert.AdamFfnOutIdeal.main_arg1)
      ∧ m' ((c.tc : Thread Cert.AdamFfnOutRefIdeal.nD Cert.AdamFfnOutRefIdeal.τ).loc Cert.AdamFfnOutRefIdeal.main_arg2) = m ((c.tc : Thread Cert.AdamFfnOutIdeal.nD Cert.AdamFfnOutIdeal.τ).loc Cert.AdamFfnOutIdeal.main_arg2)
      ∧ m' ((c.tc : Thread Cert.AdamFfnOutRefIdeal.nD Cert.AdamFfnOutRefIdeal.τ).loc Cert.AdamFfnOutRefIdeal.main_arg3) = m ((c.tc : Thread Cert.AdamFfnOutIdeal.nD Cert.AdamFfnOutIdeal.τ).loc Cert.AdamFfnOutIdeal.main_arg3)) →
    ∃ (v0 : (c : Dev Cert.AdamFfnOutIdeal.nD) → Buf (Elt Ideal) ((c.tc : Thread Cert.AdamFfnOutIdeal.nD Cert.AdamFfnOutIdeal.τ).loc Cert.AdamFfnOutIdeal.main_v0_0)) (v1 : (c : Dev Cert.AdamFfnOutIdeal.nD) → Buf (Elt Ideal) ((c.tc : Thread Cert.AdamFfnOutIdeal.nD Cert.AdamFfnOutIdeal.τ).loc Cert.AdamFfnOutIdeal.main_v0_1)) (v2 : (c : Dev Cert.AdamFfnOutIdeal.nD) → Buf (Elt Ideal) ((c.tc : Thread Cert.AdamFfnOutIdeal.nD Cert.AdamFfnOutIdeal.τ).loc Cert.AdamFfnOutIdeal.main_v0_2)) (v3 : (c : Dev Cert.AdamFfnOutIdeal.nD) → Buf (Elt Ideal) ((c.tc : Thread Cert.AdamFfnOutIdeal.nD Cert.AdamFfnOutIdeal.τ).loc Cert.AdamFfnOutIdeal.main_v0_3)),
      θ_run (Cert.AdamFfnOutIdeal.defs (F := Ideal)) (onTc (τ := Cert.AdamFfnOutIdeal.τ) (Cert.AdamFfnOutIdeal.main (F := Ideal))) ⟨m, fun _ => 0, g⟩ (fun r => ∀ c : Dev Cert.AdamFfnOutIdeal.nD,
          r.2.mem ((c.tc : Thread Cert.AdamFfnOutIdeal.nD Cert.AdamFfnOutIdeal.τ).loc Cert.AdamFfnOutIdeal.main_v0_0) = v0 c
          ∧ r.2.mem ((c.tc : Thread Cert.AdamFfnOutIdeal.nD Cert.AdamFfnOutIdeal.τ).loc Cert.AdamFfnOutIdeal.main_v0_1) = v1 c
          ∧ r.2.mem ((c.tc : Thread Cert.AdamFfnOutIdeal.nD Cert.AdamFfnOutIdeal.τ).loc Cert.AdamFfnOutIdeal.main_v0_2) = v2 c
          ∧ r.2.mem ((c.tc : Thread Cert.AdamFfnOutIdeal.nD Cert.AdamFfnOutIdeal.τ).loc Cert.AdamFfnOutIdeal.main_v0_3) = v3 c
          ∧ r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
          ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
          ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
          ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3))
      ∧ θ_run (Cert.AdamFfnOutRefIdeal.defs (F := Ideal)) (onTc (τ := Cert.AdamFfnOutRefIdeal.τ) (Cert.AdamFfnOutRefIdeal.main (F := Ideal))) ⟨m', fun _ => 0, g'⟩ (fun r => ∀ c : Dev Cert.AdamFfnOutRefIdeal.nD,
          r.2.mem ((c.tc : Thread Cert.AdamFfnOutRefIdeal.nD Cert.AdamFfnOutRefIdeal.τ).loc Cert.AdamFfnOutRefIdeal.main_v1) = v0 c
          ∧ r.2.mem ((c.tc : Thread Cert.AdamFfnOutRefIdeal.nD Cert.AdamFfnOutRefIdeal.τ).loc Cert.AdamFfnOutRefIdeal.main_v25) = v1 c
          ∧ r.2.mem ((c.tc : Thread Cert.AdamFfnOutRefIdeal.nD Cert.AdamFfnOutRefIdeal.τ).loc Cert.AdamFfnOutRefIdeal.main_v6) = v2 c
          ∧ r.2.mem ((c.tc : Thread Cert.AdamFfnOutRefIdeal.nD Cert.AdamFfnOutRefIdeal.τ).loc Cert.AdamFfnOutRefIdeal.main_v12) = v3 c
          ∧ r.2.mem ((c.tc : Thread Cert.AdamFfnOutRefIdeal.nD Cert.AdamFfnOutRefIdeal.τ).loc Cert.AdamFfnOutRefIdeal.main_arg0) = m' ((c.tc : Thread Cert.AdamFfnOutRefIdeal.nD Cert.AdamFfnOutRefIdeal.τ).loc Cert.AdamFfnOutRefIdeal.main_arg0)
          ∧ r.2.mem ((c.tc : Thread Cert.AdamFfnOutRefIdeal.nD Cert.AdamFfnOutRefIdeal.τ).loc Cert.AdamFfnOutRefIdeal.main_arg1) = m' ((c.tc : Thread Cert.AdamFfnOutRefIdeal.nD Cert.AdamFfnOutRefIdeal.τ).loc Cert.AdamFfnOutRefIdeal.main_arg1)
          ∧ r.2.mem ((c.tc : Thread Cert.AdamFfnOutRefIdeal.nD Cert.AdamFfnOutRefIdeal.τ).loc Cert.AdamFfnOutRefIdeal.main_arg2) = m' ((c.tc : Thread Cert.AdamFfnOutRefIdeal.nD Cert.AdamFfnOutRefIdeal.τ).loc Cert.AdamFfnOutRefIdeal.main_arg2)
          ∧ r.2.mem ((c.tc : Thread Cert.AdamFfnOutRefIdeal.nD Cert.AdamFfnOutRefIdeal.τ).loc Cert.AdamFfnOutRefIdeal.main_arg3) = m' ((c.tc : Thread Cert.AdamFfnOutRefIdeal.nD Cert.AdamFfnOutRefIdeal.τ).loc Cert.AdamFfnOutRefIdeal.main_arg3))

def preserves_AdamMixIn_AdamMixInIdeal : Prop :=
  True

def algebraic_AdamMixInIdeal_AdamMixInRefIdeal [hAdamMixInIdeal : Cert.AdamMixInIdeal.Facts] [hAdamMixInRefIdeal : Cert.AdamMixInRefIdeal.Facts] : Prop :=
  ∀ (m : (ℓ : Loc Cert.AdamMixInIdeal.nD Cert.AdamMixInIdeal.τ Cert.AdamMixInIdeal.sig) → Buf (Elt Ideal) ℓ) (g : Dev Cert.AdamMixInIdeal.nD → PrngReg)
    (m' : (ℓ : Loc Cert.AdamMixInRefIdeal.nD Cert.AdamMixInRefIdeal.τ Cert.AdamMixInRefIdeal.sig) → Buf (Elt Ideal) ℓ) (g' : Dev Cert.AdamMixInRefIdeal.nD → PrngReg), Pre_AdamMixInIdeal m →
    (∀ c : Dev Cert.AdamMixInIdeal.nD,
      m' ((c.tc : Thread Cert.AdamMixInRefIdeal.nD Cert.AdamMixInRefIdeal.τ).loc Cert.AdamMixInRefIdeal.main_arg0) = m ((c.tc : Thread Cert.AdamMixInIdeal.nD Cert.AdamMixInIdeal.τ).loc Cert.AdamMixInIdeal.main_arg0)
      ∧ m' ((c.tc : Thread Cert.AdamMixInRefIdeal.nD Cert.AdamMixInRefIdeal.τ).loc Cert.AdamMixInRefIdeal.main_arg1) = m ((c.tc : Thread Cert.AdamMixInIdeal.nD Cert.AdamMixInIdeal.τ).loc Cert.AdamMixInIdeal.main_arg1)
      ∧ m' ((c.tc : Thread Cert.AdamMixInRefIdeal.nD Cert.AdamMixInRefIdeal.τ).loc Cert.AdamMixInRefIdeal.main_arg2) = m ((c.tc : Thread Cert.AdamMixInIdeal.nD Cert.AdamMixInIdeal.τ).loc Cert.AdamMixInIdeal.main_arg2)
      ∧ m' ((c.tc : Thread Cert.AdamMixInRefIdeal.nD Cert.AdamMixInRefIdeal.τ).loc Cert.AdamMixInRefIdeal.main_arg3) = m ((c.tc : Thread Cert.AdamMixInIdeal.nD Cert.AdamMixInIdeal.τ).loc Cert.AdamMixInIdeal.main_arg3)) →
    ∃ (v0 : (c : Dev Cert.AdamMixInIdeal.nD) → Buf (Elt Ideal) ((c.tc : Thread Cert.AdamMixInIdeal.nD Cert.AdamMixInIdeal.τ).loc Cert.AdamMixInIdeal.main_v0_0)) (v1 : (c : Dev Cert.AdamMixInIdeal.nD) → Buf (Elt Ideal) ((c.tc : Thread Cert.AdamMixInIdeal.nD Cert.AdamMixInIdeal.τ).loc Cert.AdamMixInIdeal.main_v0_1)) (v2 : (c : Dev Cert.AdamMixInIdeal.nD) → Buf (Elt Ideal) ((c.tc : Thread Cert.AdamMixInIdeal.nD Cert.AdamMixInIdeal.τ).loc Cert.AdamMixInIdeal.main_v0_2)) (v3 : (c : Dev Cert.AdamMixInIdeal.nD) → Buf (Elt Ideal) ((c.tc : Thread Cert.AdamMixInIdeal.nD Cert.AdamMixInIdeal.τ).loc Cert.AdamMixInIdeal.main_v0_3)),
      θ_run (Cert.AdamMixInIdeal.defs (F := Ideal)) (onTc (τ := Cert.AdamMixInIdeal.τ) (Cert.AdamMixInIdeal.main (F := Ideal))) ⟨m, fun _ => 0, g⟩ (fun r => ∀ c : Dev Cert.AdamMixInIdeal.nD,
          r.2.mem ((c.tc : Thread Cert.AdamMixInIdeal.nD Cert.AdamMixInIdeal.τ).loc Cert.AdamMixInIdeal.main_v0_0) = v0 c
          ∧ r.2.mem ((c.tc : Thread Cert.AdamMixInIdeal.nD Cert.AdamMixInIdeal.τ).loc Cert.AdamMixInIdeal.main_v0_1) = v1 c
          ∧ r.2.mem ((c.tc : Thread Cert.AdamMixInIdeal.nD Cert.AdamMixInIdeal.τ).loc Cert.AdamMixInIdeal.main_v0_2) = v2 c
          ∧ r.2.mem ((c.tc : Thread Cert.AdamMixInIdeal.nD Cert.AdamMixInIdeal.τ).loc Cert.AdamMixInIdeal.main_v0_3) = v3 c
          ∧ r.2.mem ((c.tc : Thread Cert.AdamMixInIdeal.nD Cert.AdamMixInIdeal.τ).loc Cert.AdamMixInIdeal.main_arg0) = m ((c.tc : Thread Cert.AdamMixInIdeal.nD Cert.AdamMixInIdeal.τ).loc Cert.AdamMixInIdeal.main_arg0)
          ∧ r.2.mem ((c.tc : Thread Cert.AdamMixInIdeal.nD Cert.AdamMixInIdeal.τ).loc Cert.AdamMixInIdeal.main_arg1) = m ((c.tc : Thread Cert.AdamMixInIdeal.nD Cert.AdamMixInIdeal.τ).loc Cert.AdamMixInIdeal.main_arg1)
          ∧ r.2.mem ((c.tc : Thread Cert.AdamMixInIdeal.nD Cert.AdamMixInIdeal.τ).loc Cert.AdamMixInIdeal.main_arg2) = m ((c.tc : Thread Cert.AdamMixInIdeal.nD Cert.AdamMixInIdeal.τ).loc Cert.AdamMixInIdeal.main_arg2)
          ∧ r.2.mem ((c.tc : Thread Cert.AdamMixInIdeal.nD Cert.AdamMixInIdeal.τ).loc Cert.AdamMixInIdeal.main_arg3) = m ((c.tc : Thread Cert.AdamMixInIdeal.nD Cert.AdamMixInIdeal.τ).loc Cert.AdamMixInIdeal.main_arg3))
      ∧ θ_run (Cert.AdamMixInRefIdeal.defs (F := Ideal)) (onTc (τ := Cert.AdamMixInRefIdeal.τ) (Cert.AdamMixInRefIdeal.main (F := Ideal))) ⟨m', fun _ => 0, g'⟩ (fun r => ∀ c : Dev Cert.AdamMixInRefIdeal.nD,
          r.2.mem ((c.tc : Thread Cert.AdamMixInRefIdeal.nD Cert.AdamMixInRefIdeal.τ).loc Cert.AdamMixInRefIdeal.main_v1) = v0 c
          ∧ r.2.mem ((c.tc : Thread Cert.AdamMixInRefIdeal.nD Cert.AdamMixInRefIdeal.τ).loc Cert.AdamMixInRefIdeal.main_v25) = v1 c
          ∧ r.2.mem ((c.tc : Thread Cert.AdamMixInRefIdeal.nD Cert.AdamMixInRefIdeal.τ).loc Cert.AdamMixInRefIdeal.main_v6) = v2 c
          ∧ r.2.mem ((c.tc : Thread Cert.AdamMixInRefIdeal.nD Cert.AdamMixInRefIdeal.τ).loc Cert.AdamMixInRefIdeal.main_v12) = v3 c
          ∧ r.2.mem ((c.tc : Thread Cert.AdamMixInRefIdeal.nD Cert.AdamMixInRefIdeal.τ).loc Cert.AdamMixInRefIdeal.main_arg0) = m' ((c.tc : Thread Cert.AdamMixInRefIdeal.nD Cert.AdamMixInRefIdeal.τ).loc Cert.AdamMixInRefIdeal.main_arg0)
          ∧ r.2.mem ((c.tc : Thread Cert.AdamMixInRefIdeal.nD Cert.AdamMixInRefIdeal.τ).loc Cert.AdamMixInRefIdeal.main_arg1) = m' ((c.tc : Thread Cert.AdamMixInRefIdeal.nD Cert.AdamMixInRefIdeal.τ).loc Cert.AdamMixInRefIdeal.main_arg1)
          ∧ r.2.mem ((c.tc : Thread Cert.AdamMixInRefIdeal.nD Cert.AdamMixInRefIdeal.τ).loc Cert.AdamMixInRefIdeal.main_arg2) = m' ((c.tc : Thread Cert.AdamMixInRefIdeal.nD Cert.AdamMixInRefIdeal.τ).loc Cert.AdamMixInRefIdeal.main_arg2)
          ∧ r.2.mem ((c.tc : Thread Cert.AdamMixInRefIdeal.nD Cert.AdamMixInRefIdeal.τ).loc Cert.AdamMixInRefIdeal.main_arg3) = m' ((c.tc : Thread Cert.AdamMixInRefIdeal.nD Cert.AdamMixInRefIdeal.τ).loc Cert.AdamMixInRefIdeal.main_arg3))

def preserves_AdamMixOut_AdamMixOutIdeal : Prop :=
  True

def algebraic_AdamMixOutIdeal_AdamMixOutRefIdeal [hAdamMixOutIdeal : Cert.AdamMixOutIdeal.Facts] [hAdamMixOutRefIdeal : Cert.AdamMixOutRefIdeal.Facts] : Prop :=
  ∀ (m : (ℓ : Loc Cert.AdamMixOutIdeal.nD Cert.AdamMixOutIdeal.τ Cert.AdamMixOutIdeal.sig) → Buf (Elt Ideal) ℓ) (g : Dev Cert.AdamMixOutIdeal.nD → PrngReg)
    (m' : (ℓ : Loc Cert.AdamMixOutRefIdeal.nD Cert.AdamMixOutRefIdeal.τ Cert.AdamMixOutRefIdeal.sig) → Buf (Elt Ideal) ℓ) (g' : Dev Cert.AdamMixOutRefIdeal.nD → PrngReg), Pre_AdamMixOutIdeal m →
    (∀ c : Dev Cert.AdamMixOutIdeal.nD,
      m' ((c.tc : Thread Cert.AdamMixOutRefIdeal.nD Cert.AdamMixOutRefIdeal.τ).loc Cert.AdamMixOutRefIdeal.main_arg0) = m ((c.tc : Thread Cert.AdamMixOutIdeal.nD Cert.AdamMixOutIdeal.τ).loc Cert.AdamMixOutIdeal.main_arg0)
      ∧ m' ((c.tc : Thread Cert.AdamMixOutRefIdeal.nD Cert.AdamMixOutRefIdeal.τ).loc Cert.AdamMixOutRefIdeal.main_arg1) = m ((c.tc : Thread Cert.AdamMixOutIdeal.nD Cert.AdamMixOutIdeal.τ).loc Cert.AdamMixOutIdeal.main_arg1)
      ∧ m' ((c.tc : Thread Cert.AdamMixOutRefIdeal.nD Cert.AdamMixOutRefIdeal.τ).loc Cert.AdamMixOutRefIdeal.main_arg2) = m ((c.tc : Thread Cert.AdamMixOutIdeal.nD Cert.AdamMixOutIdeal.τ).loc Cert.AdamMixOutIdeal.main_arg2)
      ∧ m' ((c.tc : Thread Cert.AdamMixOutRefIdeal.nD Cert.AdamMixOutRefIdeal.τ).loc Cert.AdamMixOutRefIdeal.main_arg3) = m ((c.tc : Thread Cert.AdamMixOutIdeal.nD Cert.AdamMixOutIdeal.τ).loc Cert.AdamMixOutIdeal.main_arg3)) →
    ∃ (v0 : (c : Dev Cert.AdamMixOutIdeal.nD) → Buf (Elt Ideal) ((c.tc : Thread Cert.AdamMixOutIdeal.nD Cert.AdamMixOutIdeal.τ).loc Cert.AdamMixOutIdeal.main_v0_0)) (v1 : (c : Dev Cert.AdamMixOutIdeal.nD) → Buf (Elt Ideal) ((c.tc : Thread Cert.AdamMixOutIdeal.nD Cert.AdamMixOutIdeal.τ).loc Cert.AdamMixOutIdeal.main_v0_1)) (v2 : (c : Dev Cert.AdamMixOutIdeal.nD) → Buf (Elt Ideal) ((c.tc : Thread Cert.AdamMixOutIdeal.nD Cert.AdamMixOutIdeal.τ).loc Cert.AdamMixOutIdeal.main_v0_2)) (v3 : (c : Dev Cert.AdamMixOutIdeal.nD) → Buf (Elt Ideal) ((c.tc : Thread Cert.AdamMixOutIdeal.nD Cert.AdamMixOutIdeal.τ).loc Cert.AdamMixOutIdeal.main_v0_3)),
      θ_run (Cert.AdamMixOutIdeal.defs (F := Ideal)) (onTc (τ := Cert.AdamMixOutIdeal.τ) (Cert.AdamMixOutIdeal.main (F := Ideal))) ⟨m, fun _ => 0, g⟩ (fun r => ∀ c : Dev Cert.AdamMixOutIdeal.nD,
          r.2.mem ((c.tc : Thread Cert.AdamMixOutIdeal.nD Cert.AdamMixOutIdeal.τ).loc Cert.AdamMixOutIdeal.main_v0_0) = v0 c
          ∧ r.2.mem ((c.tc : Thread Cert.AdamMixOutIdeal.nD Cert.AdamMixOutIdeal.τ).loc Cert.AdamMixOutIdeal.main_v0_1) = v1 c
          ∧ r.2.mem ((c.tc : Thread Cert.AdamMixOutIdeal.nD Cert.AdamMixOutIdeal.τ).loc Cert.AdamMixOutIdeal.main_v0_2) = v2 c
          ∧ r.2.mem ((c.tc : Thread Cert.AdamMixOutIdeal.nD Cert.AdamMixOutIdeal.τ).loc Cert.AdamMixOutIdeal.main_v0_3) = v3 c
          ∧ r.2.mem ((c.tc : Thread Cert.AdamMixOutIdeal.nD Cert.AdamMixOutIdeal.τ).loc Cert.AdamMixOutIdeal.main_arg0) = m ((c.tc : Thread Cert.AdamMixOutIdeal.nD Cert.AdamMixOutIdeal.τ).loc Cert.AdamMixOutIdeal.main_arg0)
          ∧ r.2.mem ((c.tc : Thread Cert.AdamMixOutIdeal.nD Cert.AdamMixOutIdeal.τ).loc Cert.AdamMixOutIdeal.main_arg1) = m ((c.tc : Thread Cert.AdamMixOutIdeal.nD Cert.AdamMixOutIdeal.τ).loc Cert.AdamMixOutIdeal.main_arg1)
          ∧ r.2.mem ((c.tc : Thread Cert.AdamMixOutIdeal.nD Cert.AdamMixOutIdeal.τ).loc Cert.AdamMixOutIdeal.main_arg2) = m ((c.tc : Thread Cert.AdamMixOutIdeal.nD Cert.AdamMixOutIdeal.τ).loc Cert.AdamMixOutIdeal.main_arg2)
          ∧ r.2.mem ((c.tc : Thread Cert.AdamMixOutIdeal.nD Cert.AdamMixOutIdeal.τ).loc Cert.AdamMixOutIdeal.main_arg3) = m ((c.tc : Thread Cert.AdamMixOutIdeal.nD Cert.AdamMixOutIdeal.τ).loc Cert.AdamMixOutIdeal.main_arg3))
      ∧ θ_run (Cert.AdamMixOutRefIdeal.defs (F := Ideal)) (onTc (τ := Cert.AdamMixOutRefIdeal.τ) (Cert.AdamMixOutRefIdeal.main (F := Ideal))) ⟨m', fun _ => 0, g'⟩ (fun r => ∀ c : Dev Cert.AdamMixOutRefIdeal.nD,
          r.2.mem ((c.tc : Thread Cert.AdamMixOutRefIdeal.nD Cert.AdamMixOutRefIdeal.τ).loc Cert.AdamMixOutRefIdeal.main_v1) = v0 c
          ∧ r.2.mem ((c.tc : Thread Cert.AdamMixOutRefIdeal.nD Cert.AdamMixOutRefIdeal.τ).loc Cert.AdamMixOutRefIdeal.main_v25) = v1 c
          ∧ r.2.mem ((c.tc : Thread Cert.AdamMixOutRefIdeal.nD Cert.AdamMixOutRefIdeal.τ).loc Cert.AdamMixOutRefIdeal.main_v6) = v2 c
          ∧ r.2.mem ((c.tc : Thread Cert.AdamMixOutRefIdeal.nD Cert.AdamMixOutRefIdeal.τ).loc Cert.AdamMixOutRefIdeal.main_v12) = v3 c
          ∧ r.2.mem ((c.tc : Thread Cert.AdamMixOutRefIdeal.nD Cert.AdamMixOutRefIdeal.τ).loc Cert.AdamMixOutRefIdeal.main_arg0) = m' ((c.tc : Thread Cert.AdamMixOutRefIdeal.nD Cert.AdamMixOutRefIdeal.τ).loc Cert.AdamMixOutRefIdeal.main_arg0)
          ∧ r.2.mem ((c.tc : Thread Cert.AdamMixOutRefIdeal.nD Cert.AdamMixOutRefIdeal.τ).loc Cert.AdamMixOutRefIdeal.main_arg1) = m' ((c.tc : Thread Cert.AdamMixOutRefIdeal.nD Cert.AdamMixOutRefIdeal.τ).loc Cert.AdamMixOutRefIdeal.main_arg1)
          ∧ r.2.mem ((c.tc : Thread Cert.AdamMixOutRefIdeal.nD Cert.AdamMixOutRefIdeal.τ).loc Cert.AdamMixOutRefIdeal.main_arg2) = m' ((c.tc : Thread Cert.AdamMixOutRefIdeal.nD Cert.AdamMixOutRefIdeal.τ).loc Cert.AdamMixOutRefIdeal.main_arg2)
          ∧ r.2.mem ((c.tc : Thread Cert.AdamMixOutRefIdeal.nD Cert.AdamMixOutRefIdeal.τ).loc Cert.AdamMixOutRefIdeal.main_arg3) = m' ((c.tc : Thread Cert.AdamMixOutRefIdeal.nD Cert.AdamMixOutRefIdeal.τ).loc Cert.AdamMixOutRefIdeal.main_arg3))

def preserves_AdamPool_AdamPoolIdeal : Prop :=
  True

def algebraic_AdamPoolIdeal_AdamPoolRefIdeal [hAdamPoolIdeal : Cert.AdamPoolIdeal.Facts] [hAdamPoolRefIdeal : Cert.AdamPoolRefIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolRefIdeal.nD Cert.AdamPoolRefIdeal.τ Cert.AdamPoolRefIdeal.sig) → Buf (Elt Ideal) ℓ) (g' : Dev Cert.AdamPoolRefIdeal.nD → PrngReg), Pre_AdamPoolIdeal m →
    (∀ c : Dev Cert.AdamPoolIdeal.nD,
      m' ((c.tc : Thread Cert.AdamPoolRefIdeal.nD Cert.AdamPoolRefIdeal.τ).loc Cert.AdamPoolRefIdeal.main_arg0) = m ((c.tc : Thread Cert.AdamPoolIdeal.nD Cert.AdamPoolIdeal.τ).loc Cert.AdamPoolIdeal.main_arg0)
      ∧ m' ((c.tc : Thread Cert.AdamPoolRefIdeal.nD Cert.AdamPoolRefIdeal.τ).loc Cert.AdamPoolRefIdeal.main_arg1) = m ((c.tc : Thread Cert.AdamPoolIdeal.nD Cert.AdamPoolIdeal.τ).loc Cert.AdamPoolIdeal.main_arg1)
      ∧ m' ((c.tc : Thread Cert.AdamPoolRefIdeal.nD Cert.AdamPoolRefIdeal.τ).loc Cert.AdamPoolRefIdeal.main_arg2) = m ((c.tc : Thread Cert.AdamPoolIdeal.nD Cert.AdamPoolIdeal.τ).loc Cert.AdamPoolIdeal.main_arg2)
      ∧ m' ((c.tc : Thread Cert.AdamPoolRefIdeal.nD Cert.AdamPoolRefIdeal.τ).loc Cert.AdamPoolRefIdeal.main_arg3) = m ((c.tc : Thread Cert.AdamPoolIdeal.nD Cert.AdamPoolIdeal.τ).loc Cert.AdamPoolIdeal.main_arg3)) →
    ∃ (v0 : (c : Dev Cert.AdamPoolIdeal.nD) → Buf (Elt Ideal) ((c.tc : Thread Cert.AdamPoolIdeal.nD Cert.AdamPoolIdeal.τ).loc Cert.AdamPoolIdeal.main_v0_0)) (v1 : (c : Dev Cert.AdamPoolIdeal.nD) → Buf (Elt Ideal) ((c.tc : Thread Cert.AdamPoolIdeal.nD Cert.AdamPoolIdeal.τ).loc Cert.AdamPoolIdeal.main_v0_1)) (v2 : (c : Dev Cert.AdamPoolIdeal.nD) → Buf (Elt Ideal) ((c.tc : Thread Cert.AdamPoolIdeal.nD Cert.AdamPoolIdeal.τ).loc Cert.AdamPoolIdeal.main_v0_2)) (v3 : (c : Dev Cert.AdamPoolIdeal.nD) → Buf (Elt Ideal) ((c.tc : Thread Cert.AdamPoolIdeal.nD Cert.AdamPoolIdeal.τ).loc Cert.AdamPoolIdeal.main_v0_3)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v0_0) = v0 c
          ∧ r.2.mem ((c.tc : Thread Cert.AdamPoolIdeal.nD Cert.AdamPoolIdeal.τ).loc Cert.AdamPoolIdeal.main_v0_1) = v1 c
          ∧ r.2.mem ((c.tc : Thread Cert.AdamPoolIdeal.nD Cert.AdamPoolIdeal.τ).loc Cert.AdamPoolIdeal.main_v0_2) = v2 c
          ∧ r.2.mem ((c.tc : Thread Cert.AdamPoolIdeal.nD Cert.AdamPoolIdeal.τ).loc Cert.AdamPoolIdeal.main_v0_3) = v3 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ θ_run (Cert.AdamPoolRefIdeal.defs (F := Ideal)) (onTc (τ := Cert.AdamPoolRefIdeal.τ) (Cert.AdamPoolRefIdeal.main (F := Ideal))) ⟨m', fun _ => 0, g'⟩ (fun r => ∀ c : Dev Cert.AdamPoolRefIdeal.nD,
          r.2.mem ((c.tc : Thread Cert.AdamPoolRefIdeal.nD Cert.AdamPoolRefIdeal.τ).loc Cert.AdamPoolRefIdeal.main_v1) = v0 c
          ∧ r.2.mem ((c.tc : Thread Cert.AdamPoolRefIdeal.nD Cert.AdamPoolRefIdeal.τ).loc Cert.AdamPoolRefIdeal.main_v25) = v1 c
          ∧ r.2.mem ((c.tc : Thread Cert.AdamPoolRefIdeal.nD Cert.AdamPoolRefIdeal.τ).loc Cert.AdamPoolRefIdeal.main_v6) = v2 c
          ∧ r.2.mem ((c.tc : Thread Cert.AdamPoolRefIdeal.nD Cert.AdamPoolRefIdeal.τ).loc Cert.AdamPoolRefIdeal.main_v12) = v3 c
          ∧ r.2.mem ((c.tc : Thread Cert.AdamPoolRefIdeal.nD Cert.AdamPoolRefIdeal.τ).loc Cert.AdamPoolRefIdeal.main_arg0) = m' ((c.tc : Thread Cert.AdamPoolRefIdeal.nD Cert.AdamPoolRefIdeal.τ).loc Cert.AdamPoolRefIdeal.main_arg0)
          ∧ r.2.mem ((c.tc : Thread Cert.AdamPoolRefIdeal.nD Cert.AdamPoolRefIdeal.τ).loc Cert.AdamPoolRefIdeal.main_arg1) = m' ((c.tc : Thread Cert.AdamPoolRefIdeal.nD Cert.AdamPoolRefIdeal.τ).loc Cert.AdamPoolRefIdeal.main_arg1)
          ∧ r.2.mem ((c.tc : Thread Cert.AdamPoolRefIdeal.nD Cert.AdamPoolRefIdeal.τ).loc Cert.AdamPoolRefIdeal.main_arg2) = m' ((c.tc : Thread Cert.AdamPoolRefIdeal.nD Cert.AdamPoolRefIdeal.τ).loc Cert.AdamPoolRefIdeal.main_arg2)
          ∧ r.2.mem ((c.tc : Thread Cert.AdamPoolRefIdeal.nD Cert.AdamPoolRefIdeal.τ).loc Cert.AdamPoolRefIdeal.main_arg3) = m' ((c.tc : Thread Cert.AdamPoolRefIdeal.nD Cert.AdamPoolRefIdeal.τ).loc Cert.AdamPoolRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hKernel : Cert.Kernel.Facts) (hKernelIdeal : Cert.KernelIdeal.Facts) (hReferenceIdeal : Cert.ReferenceIdeal.Facts) (hFfnDwo : Cert.FfnDwo.Facts) (hFfnDwoIdeal : Cert.FfnDwoIdeal.Facts) (hFfnDwoRefIdeal : Cert.FfnDwoRefIdeal.Facts) (hFfnDownBwd : Cert.FfnDownBwd.Facts) (hFfnDownBwdIdeal : Cert.FfnDownBwdIdeal.Facts) (hFfnDownBwdRefIdeal : Cert.FfnDownBwdRefIdeal.Facts) (hFfnDwi : Cert.FfnDwi.Facts) (hFfnDwiIdeal : Cert.FfnDwiIdeal.Facts) (hFfnDwiRefIdeal : Cert.FfnDwiRefIdeal.Facts) (hFfnDhm : Cert.FfnDhm.Facts) (hFfnDhmIdeal : Cert.FfnDhmIdeal.Facts) (hFfnDhmRefIdeal : Cert.FfnDhmRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hMixDwOut : Cert.MixDwOut.Facts) (hMixDwOutIdeal : Cert.MixDwOutIdeal.Facts) (hMixDwOutRefIdeal : Cert.MixDwOutRefIdeal.Facts) (hMixOutBwd : Cert.MixOutBwd.Facts) (hMixOutBwdIdeal : Cert.MixOutBwdIdeal.Facts) (hMixOutBwdRefIdeal : Cert.MixOutBwdRefIdeal.Facts) (hMixDwIn : Cert.MixDwIn.Facts) (hMixDwInIdeal : Cert.MixDwInIdeal.Facts) (hMixDwInRefIdeal : Cert.MixDwInRefIdeal.Facts) (hMixOut : Cert.MixOut.Facts) (hMixOutIdeal : Cert.MixOutIdeal.Facts) (hMixOutRefIdeal : Cert.MixOutRefIdeal.Facts) (hMixProj : Cert.MixProj.Facts) (hMixProjIdeal : Cert.MixProjIdeal.Facts) (hMixProjRefIdeal : Cert.MixProjRefIdeal.Facts) (hMixProjBwd : Cert.MixProjBwd.Facts) (hMixProjBwdIdeal : Cert.MixProjBwdIdeal.Facts) (hMixProjBwdRefIdeal : Cert.MixProjBwdRefIdeal.Facts) (hQkNormBwd : Cert.QkNormBwd.Facts) (hQkNormBwdIdeal : Cert.QkNormBwdIdeal.Facts) (hQkNormBwdRefIdeal : Cert.QkNormBwdRefIdeal.Facts) (hAttnDelta : Cert.AttnDelta.Facts) (hAttnDeltaIdeal : Cert.AttnDeltaIdeal.Facts) (hAttnDeltaRefIdeal : Cert.AttnDeltaRefIdeal.Facts) (hNorm1Bwd : Cert.Norm1Bwd.Facts) (hNorm1BwdIdeal : Cert.Norm1BwdIdeal.Facts) (hNorm1BwdRefIdeal : Cert.Norm1BwdRefIdeal.Facts) (hNorm2Bwd : Cert.Norm2Bwd.Facts) (hNorm2BwdIdeal : Cert.Norm2BwdIdeal.Facts) (hNorm2BwdRefIdeal : Cert.Norm2BwdRefIdeal.Facts) (hNormFwd : Cert.NormFwd.Facts) (hNormFwdIdeal : Cert.NormFwdIdeal.Facts) (hNormFwdRefIdeal : Cert.NormFwdRefIdeal.Facts) (hAttnFwd : Cert.AttnFwd.Facts) (hAttnFwdIdeal : Cert.AttnFwdIdeal.Facts) (hAttnFwdRefIdeal : Cert.AttnFwdRefIdeal.Facts) (hNorm3Bwd : Cert.Norm3Bwd.Facts) (hNorm3BwdIdeal : Cert.Norm3BwdIdeal.Facts) (hNorm3BwdRefIdeal : Cert.Norm3BwdRefIdeal.Facts) (hQkNormFwd : Cert.QkNormFwd.Facts) (hQkNormFwdIdeal : Cert.QkNormFwdIdeal.Facts) (hQkNormFwdRefIdeal : Cert.QkNormFwdRefIdeal.Facts) (hFinalLoss : Cert.FinalLoss.Facts) (hFinalLossIdeal : Cert.FinalLossIdeal.Facts) (hFinalLossRefIdeal : Cert.FinalLossRefIdeal.Facts) (hAdaBwd : Cert.AdaBwd.Facts) (hAdaBwdIdeal : Cert.AdaBwdIdeal.Facts) (hAdaBwdRefIdeal : Cert.AdaBwdRefIdeal.Facts) (hAdaFwd : Cert.AdaFwd.Facts) (hAdaFwdIdeal : Cert.AdaFwdIdeal.Facts) (hAdaFwdRefIdeal : Cert.AdaFwdRefIdeal.Facts) (hAdamW : Cert.AdamW.Facts) (hAdamWIdeal : Cert.AdamWIdeal.Facts) (hAdamWRefIdeal : Cert.AdamWRefIdeal.Facts) (hAdamFfnIn : Cert.AdamFfnIn.Facts) (hAdamFfnInIdeal : Cert.AdamFfnInIdeal.Facts) (hAdamFfnInRefIdeal : Cert.AdamFfnInRefIdeal.Facts) (hAdamFfnOut : Cert.AdamFfnOut.Facts) (hAdamFfnOutIdeal : Cert.AdamFfnOutIdeal.Facts) (hAdamFfnOutRefIdeal : Cert.AdamFfnOutRefIdeal.Facts) (hAdamMixIn : Cert.AdamMixIn.Facts) (hAdamMixInIdeal : Cert.AdamMixInIdeal.Facts) (hAdamMixInRefIdeal : Cert.AdamMixInRefIdeal.Facts) (hAdamMixOut : Cert.AdamMixOut.Facts) (hAdamMixOutIdeal : Cert.AdamMixOutIdeal.Facts) (hAdamMixOutRefIdeal : Cert.AdamMixOutRefIdeal.Facts) (hAdamPool : Cert.AdamPool.Facts) (hAdamPoolIdeal : Cert.AdamPoolIdeal.Facts) (hAdamPoolRefIdeal : Cert.AdamPoolRefIdeal.Facts) (hAdamSmall : Cert.AdamSmall.Facts) (hAdamSmallIdeal : Cert.AdamSmallIdeal.Facts) (hAdamSmallRefIdeal : Cert.AdamSmallRefIdeal.Facts) (hPre_gradients_finite : Cert.Pre_gradients_finite.Facts) (hPre_activations_finite : Cert.Pre_activations_finite.Facts) (hPre_attention_finite : Cert.Pre_attention_finite.Facts),
    quiescent_Kernel (hKernel := hKernel)
    ∧ quiescent_KernelIdeal (hKernelIdeal := hKernelIdeal)
    ∧ quiescent_KernelIdeal_pre_gradients_finite (hKernelIdeal := hKernelIdeal) (hPre_gradients_finite := hPre_gradients_finite)
    ∧ quiescent_ReferenceIdeal (hReferenceIdeal := hReferenceIdeal)
    ∧ quiescent_ReferenceIdeal_pre_gradients_finite (hReferenceIdeal := hReferenceIdeal) (hPre_gradients_finite := hPre_gradients_finite)
    ∧ quiescent_FfnDwo (hFfnDwo := hFfnDwo)
    ∧ quiescent_FfnDwoIdeal (hFfnDwoIdeal := hFfnDwoIdeal)
    ∧ quiescent_FfnDwoRefIdeal (hFfnDwoRefIdeal := hFfnDwoRefIdeal)
    ∧ quiescent_FfnDownBwd (hFfnDownBwd := hFfnDownBwd)
    ∧ quiescent_FfnDownBwdIdeal (hFfnDownBwdIdeal := hFfnDownBwdIdeal)
    ∧ quiescent_FfnDownBwdIdeal_pre_activations_finite (hFfnDownBwdIdeal := hFfnDownBwdIdeal) (hPre_activations_finite := hPre_activations_finite)
    ∧ quiescent_FfnDownBwdRefIdeal (hFfnDownBwdRefIdeal := hFfnDownBwdRefIdeal)
    ∧ quiescent_FfnDownBwdRefIdeal_pre_activations_finite (hFfnDownBwdRefIdeal := hFfnDownBwdRefIdeal) (hPre_activations_finite := hPre_activations_finite)
    ∧ quiescent_FfnDwi (hFfnDwi := hFfnDwi)
    ∧ quiescent_FfnDwiIdeal (hFfnDwiIdeal := hFfnDwiIdeal)
    ∧ quiescent_FfnDwiRefIdeal (hFfnDwiRefIdeal := hFfnDwiRefIdeal)
    ∧ quiescent_FfnDhm (hFfnDhm := hFfnDhm)
    ∧ quiescent_FfnDhmIdeal (hFfnDhmIdeal := hFfnDhmIdeal)
    ∧ quiescent_FfnDhmRefIdeal (hFfnDhmRefIdeal := hFfnDhmRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_MixDwOut (hMixDwOut := hMixDwOut)
    ∧ quiescent_MixDwOutIdeal (hMixDwOutIdeal := hMixDwOutIdeal)
    ∧ quiescent_MixDwOutRefIdeal (hMixDwOutRefIdeal := hMixDwOutRefIdeal)
    ∧ quiescent_MixOutBwd (hMixOutBwd := hMixOutBwd)
    ∧ quiescent_MixOutBwdIdeal (hMixOutBwdIdeal := hMixOutBwdIdeal)
    ∧ quiescent_MixOutBwdRefIdeal (hMixOutBwdRefIdeal := hMixOutBwdRefIdeal)
    ∧ quiescent_MixDwIn (hMixDwIn := hMixDwIn)
    ∧ quiescent_MixDwInIdeal (hMixDwInIdeal := hMixDwInIdeal)
    ∧ quiescent_MixDwInRefIdeal (hMixDwInRefIdeal := hMixDwInRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MixProj (hMixProj := hMixProj)
    ∧ quiescent_MixProjIdeal (hMixProjIdeal := hMixProjIdeal)
    ∧ quiescent_MixProjRefIdeal (hMixProjRefIdeal := hMixProjRefIdeal)
    ∧ quiescent_MixProjBwd (hMixProjBwd := hMixProjBwd)
    ∧ quiescent_MixProjBwdIdeal (hMixProjBwdIdeal := hMixProjBwdIdeal)
    ∧ quiescent_MixProjBwdRefIdeal (hMixProjBwdRefIdeal := hMixProjBwdRefIdeal)
    ∧ quiescent_QkNormBwd (hQkNormBwd := hQkNormBwd)
    ∧ quiescent_QkNormBwdIdeal (hQkNormBwdIdeal := hQkNormBwdIdeal)
    ∧ quiescent_QkNormBwdRefIdeal (hQkNormBwdRefIdeal := hQkNormBwdRefIdeal)
    ∧ quiescent_AttnDelta (hAttnDelta := hAttnDelta)
    ∧ quiescent_AttnDeltaIdeal (hAttnDeltaIdeal := hAttnDeltaIdeal)
    ∧ quiescent_AttnDeltaRefIdeal (hAttnDeltaRefIdeal := hAttnDeltaRefIdeal)
    ∧ quiescent_Norm1Bwd (hNorm1Bwd := hNorm1Bwd)
    ∧ quiescent_Norm1BwdIdeal (hNorm1BwdIdeal := hNorm1BwdIdeal)
    ∧ quiescent_Norm1BwdRefIdeal (hNorm1BwdRefIdeal := hNorm1BwdRefIdeal)
    ∧ quiescent_Norm2Bwd (hNorm2Bwd := hNorm2Bwd)
    ∧ quiescent_Norm2BwdIdeal (hNorm2BwdIdeal := hNorm2BwdIdeal)
    ∧ quiescent_Norm2BwdRefIdeal (hNorm2BwdRefIdeal := hNorm2BwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_AttnFwd (hAttnFwd := hAttnFwd)
    ∧ quiescent_AttnFwdIdeal (hAttnFwdIdeal := hAttnFwdIdeal)
    ∧ quiescent_AttnFwdIdeal_pre_attention_finite (hAttnFwdIdeal := hAttnFwdIdeal) (hPre_attention_finite := hPre_attention_finite)
    ∧ quiescent_AttnFwdRefIdeal (hAttnFwdRefIdeal := hAttnFwdRefIdeal)
    ∧ quiescent_AttnFwdRefIdeal_pre_attention_finite (hAttnFwdRefIdeal := hAttnFwdRefIdeal) (hPre_attention_finite := hPre_attention_finite)
    ∧ quiescent_Norm3Bwd (hNorm3Bwd := hNorm3Bwd)
    ∧ quiescent_Norm3BwdIdeal (hNorm3BwdIdeal := hNorm3BwdIdeal)
    ∧ quiescent_Norm3BwdRefIdeal (hNorm3BwdRefIdeal := hNorm3BwdRefIdeal)
    ∧ quiescent_QkNormFwd (hQkNormFwd := hQkNormFwd)
    ∧ quiescent_QkNormFwdIdeal (hQkNormFwdIdeal := hQkNormFwdIdeal)
    ∧ quiescent_QkNormFwdRefIdeal (hQkNormFwdRefIdeal := hQkNormFwdRefIdeal)
    ∧ quiescent_FinalLoss (hFinalLoss := hFinalLoss)
    ∧ quiescent_FinalLossIdeal (hFinalLossIdeal := hFinalLossIdeal)
    ∧ quiescent_FinalLossRefIdeal (hFinalLossRefIdeal := hFinalLossRefIdeal)
    ∧ quiescent_AdaBwd (hAdaBwd := hAdaBwd)
    ∧ quiescent_AdaBwdIdeal (hAdaBwdIdeal := hAdaBwdIdeal)
    ∧ quiescent_AdaBwdRefIdeal (hAdaBwdRefIdeal := hAdaBwdRefIdeal)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_AdamFfnIn (hAdamFfnIn := hAdamFfnIn)
    ∧ quiescent_AdamFfnInIdeal (hAdamFfnInIdeal := hAdamFfnInIdeal)
    ∧ quiescent_AdamFfnInRefIdeal (hAdamFfnInRefIdeal := hAdamFfnInRefIdeal)
    ∧ quiescent_AdamFfnOut (hAdamFfnOut := hAdamFfnOut)
    ∧ quiescent_AdamFfnOutIdeal (hAdamFfnOutIdeal := hAdamFfnOutIdeal)
    ∧ quiescent_AdamFfnOutRefIdeal (hAdamFfnOutRefIdeal := hAdamFfnOutRefIdeal)
    ∧ quiescent_AdamMixIn (hAdamMixIn := hAdamMixIn)
    ∧ quiescent_AdamMixInIdeal (hAdamMixInIdeal := hAdamMixInIdeal)
    ∧ quiescent_AdamMixInRefIdeal (hAdamMixInRefIdeal := hAdamMixInRefIdeal)
    ∧ quiescent_AdamMixOut (hAdamMixOut := hAdamMixOut)
    ∧ quiescent_AdamMixOutIdeal (hAdamMixOutIdeal := hAdamMixOutIdeal)
    ∧ quiescent_AdamMixOutRefIdeal (hAdamMixOutRefIdeal := hAdamMixOutRefIdeal)
    ∧ quiescent_AdamPool (hAdamPool := hAdamPool)
    ∧ quiescent_AdamPoolIdeal (hAdamPoolIdeal := hAdamPoolIdeal)
    ∧ quiescent_AdamPoolRefIdeal (hAdamPoolRefIdeal := hAdamPoolRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Kernel_KernelIdeal
    ∧ algebraic_KernelIdeal_ReferenceIdeal_pre_gradients_finite (hKernelIdeal := hKernelIdeal) (hReferenceIdeal := hReferenceIdeal) (hPre_gradients_finite := hPre_gradients_finite)
    ∧ preserves_FfnDwo_FfnDwoIdeal
    ∧ algebraic_FfnDwoIdeal_FfnDwoRefIdeal (hFfnDwoIdeal := hFfnDwoIdeal) (hFfnDwoRefIdeal := hFfnDwoRefIdeal)
    ∧ preserves_FfnDownBwd_FfnDownBwdIdeal
    ∧ algebraic_FfnDownBwdIdeal_FfnDownBwdRefIdeal_pre_activations_finite (hFfnDownBwdIdeal := hFfnDownBwdIdeal) (hFfnDownBwdRefIdeal := hFfnDownBwdRefIdeal) (hPre_activations_finite := hPre_activations_finite)
    ∧ preserves_FfnDwi_FfnDwiIdeal
    ∧ algebraic_FfnDwiIdeal_FfnDwiRefIdeal (hFfnDwiIdeal := hFfnDwiIdeal) (hFfnDwiRefIdeal := hFfnDwiRefIdeal)
    ∧ preserves_FfnDhm_FfnDhmIdeal
    ∧ algebraic_FfnDhmIdeal_FfnDhmRefIdeal (hFfnDhmIdeal := hFfnDhmIdeal) (hFfnDhmRefIdeal := hFfnDhmRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_MixDwOut_MixDwOutIdeal
    ∧ algebraic_MixDwOutIdeal_MixDwOutRefIdeal (hMixDwOutIdeal := hMixDwOutIdeal) (hMixDwOutRefIdeal := hMixDwOutRefIdeal)
    ∧ preserves_MixOutBwd_MixOutBwdIdeal
    ∧ algebraic_MixOutBwdIdeal_MixOutBwdRefIdeal (hMixOutBwdIdeal := hMixOutBwdIdeal) (hMixOutBwdRefIdeal := hMixOutBwdRefIdeal)
    ∧ preserves_MixDwIn_MixDwInIdeal
    ∧ algebraic_MixDwInIdeal_MixDwInRefIdeal (hMixDwInIdeal := hMixDwInIdeal) (hMixDwInRefIdeal := hMixDwInRefIdeal)
    ∧ preserves_MixOut_MixOutIdeal
    ∧ algebraic_MixOutIdeal_MixOutRefIdeal (hMixOutIdeal := hMixOutIdeal) (hMixOutRefIdeal := hMixOutRefIdeal)
    ∧ preserves_MixProj_MixProjIdeal
    ∧ algebraic_MixProjIdeal_MixProjRefIdeal (hMixProjIdeal := hMixProjIdeal) (hMixProjRefIdeal := hMixProjRefIdeal)
    ∧ preserves_MixProjBwd_MixProjBwdIdeal
    ∧ algebraic_MixProjBwdIdeal_MixProjBwdRefIdeal (hMixProjBwdIdeal := hMixProjBwdIdeal) (hMixProjBwdRefIdeal := hMixProjBwdRefIdeal)
    ∧ preserves_QkNormBwd_QkNormBwdIdeal
    ∧ algebraic_QkNormBwdIdeal_QkNormBwdRefIdeal (hQkNormBwdIdeal := hQkNormBwdIdeal) (hQkNormBwdRefIdeal := hQkNormBwdRefIdeal)
    ∧ preserves_AttnDelta_AttnDeltaIdeal
    ∧ algebraic_AttnDeltaIdeal_AttnDeltaRefIdeal (hAttnDeltaIdeal := hAttnDeltaIdeal) (hAttnDeltaRefIdeal := hAttnDeltaRefIdeal)
    ∧ preserves_Norm1Bwd_Norm1BwdIdeal
    ∧ algebraic_Norm1BwdIdeal_Norm1BwdRefIdeal (hNorm1BwdIdeal := hNorm1BwdIdeal) (hNorm1BwdRefIdeal := hNorm1BwdRefIdeal)
    ∧ preserves_Norm2Bwd_Norm2BwdIdeal
    ∧ algebraic_Norm2BwdIdeal_Norm2BwdRefIdeal (hNorm2BwdIdeal := hNorm2BwdIdeal) (hNorm2BwdRefIdeal := hNorm2BwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_AttnFwd_AttnFwdIdeal
    ∧ algebraic_AttnFwdIdeal_AttnFwdRefIdeal_pre_attention_finite (hAttnFwdIdeal := hAttnFwdIdeal) (hAttnFwdRefIdeal := hAttnFwdRefIdeal) (hPre_attention_finite := hPre_attention_finite)
    ∧ preserves_Norm3Bwd_Norm3BwdIdeal
    ∧ algebraic_Norm3BwdIdeal_Norm3BwdRefIdeal (hNorm3BwdIdeal := hNorm3BwdIdeal) (hNorm3BwdRefIdeal := hNorm3BwdRefIdeal)
    ∧ preserves_QkNormFwd_QkNormFwdIdeal
    ∧ algebraic_QkNormFwdIdeal_QkNormFwdRefIdeal (hQkNormFwdIdeal := hQkNormFwdIdeal) (hQkNormFwdRefIdeal := hQkNormFwdRefIdeal)
    ∧ preserves_FinalLoss_FinalLossIdeal
    ∧ algebraic_FinalLossIdeal_FinalLossRefIdeal (hFinalLossIdeal := hFinalLossIdeal) (hFinalLossRefIdeal := hFinalLossRefIdeal)
    ∧ preserves_AdaBwd_AdaBwdIdeal
    ∧ algebraic_AdaBwdIdeal_AdaBwdRefIdeal (hAdaBwdIdeal := hAdaBwdIdeal) (hAdaBwdRefIdeal := hAdaBwdRefIdeal)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_AdamW_AdamWIdeal
    ∧ algebraic_AdamWIdeal_AdamWRefIdeal (hAdamWIdeal := hAdamWIdeal) (hAdamWRefIdeal := hAdamWRefIdeal)
    ∧ preserves_AdamFfnIn_AdamFfnInIdeal
    ∧ algebraic_AdamFfnInIdeal_AdamFfnInRefIdeal (hAdamFfnInIdeal := hAdamFfnInIdeal) (hAdamFfnInRefIdeal := hAdamFfnInRefIdeal)
    ∧ preserves_AdamFfnOut_AdamFfnOutIdeal
    ∧ algebraic_AdamFfnOutIdeal_AdamFfnOutRefIdeal (hAdamFfnOutIdeal := hAdamFfnOutIdeal) (hAdamFfnOutRefIdeal := hAdamFfnOutRefIdeal)
    ∧ preserves_AdamMixIn_AdamMixInIdeal
    ∧ algebraic_AdamMixInIdeal_AdamMixInRefIdeal (hAdamMixInIdeal := hAdamMixInIdeal) (hAdamMixInRefIdeal := hAdamMixInRefIdeal)
    ∧ preserves_AdamMixOut_AdamMixOutIdeal
    ∧ algebraic_AdamMixOutIdeal_AdamMixOutRefIdeal (hAdamMixOutIdeal := hAdamMixOutIdeal) (hAdamMixOutRefIdeal := hAdamMixOutRefIdeal)
    ∧ preserves_AdamPool_AdamPoolIdeal
    ∧ algebraic_AdamPoolIdeal_AdamPoolRefIdeal (hAdamPoolIdeal := hAdamPoolIdeal) (hAdamPoolRefIdeal := hAdamPoolRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_activations_finite.lean ====
abbrev S4096x2048 : Shape := ⟨2, ![4096, 2048]⟩
abbrev S4x1376x2048 : Shape := ⟨3, ![4, 1376, 2048]⟩
abbrev S4x4096x1376 : Shape := ⟨3, ![4, 4096, 1376]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4x1376x2048 : S_.BroadcastsInDim S4x1376x2048 (![] : Fin 0 → Fin S4x1376x2048.rank)
  reducesTo_S4x1376x2048_S_d0_1_2 : S4x1376x2048.ReducesTo [0, 1, 2] S_
  bcast_S_S4x4096x1376 : S_.BroadcastsInDim S4x4096x1376 (![] : Fin 0 → Fin S4x4096x1376.rank)
  reducesTo_S4x4096x1376_S_d0_1_2 : S4x4096x1376.ReducesTo [0, 1, 2] S_

variable [Facts]

def fn {F : FTy → Type} [FloatOps F] (main_arg0 : FVec F S4096x2048 .bf16) (main_arg1 : FVec F S4x1376x2048 .bf16) (main_arg2 : FVec F S4x4096x1376 .bf16) (main_arg3 : FVec F S4x4096x1376 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4x1376x2048 .f32 := (extf .f32 · bitsLt_bf16_f32) main_arg1
  let main_v6 : FVec F S4x1376x2048 .f32 := Host.absf main_v5
  let main_cst_0 : FVec F S_ .f32 := constant S_ .f32 0x7F800000#32
  let main_v7 : FVec F S4x1376x2048 .f32 := broadcastInDim S4x1376x2048 ![] bcast_S_S4x1376x2048 main_cst_0
  let main_v8 : IVec S4x1376x2048 1 := cmpf .olt main_v6 main_v7
  let main_c_1 : IVec S_ 1 := constantI S_ 1 1#1
  let main_v9 : IVec S_ 1 := (fun x v => Host.reduce IntOp.andi x v reducesTo_S4x1376x2048_S_d0_1_2 h_S_) main_v8 main_c_1
  let main_v10 : IVec S_ 1 := andi main_v4 main_v9
  let main_v11 : FVec F S4x4096x1376 .f32 := (extf .f32 · bitsLt_bf16_f32) main_arg3
  let main_v12 : FVec F S4x4096x1376 .f32 := Host.absf main_v11
  let main_cst_2 : FVec F S_ .f32 := constant S_ .f32 0x7F800000#32
  let main_v13 : FVec F S4x4096x1376 .f32 := broadcastInDim S4x4096x1376 ![] bcast_S_S4x4096x1376 main_cst_2
  let main_v14 : IVec S4x4096x1376 1 := cmpf .olt main_v12 main_v13
  let main_c_3 : IVec S_ 1 := constantI S_ 1 1#1
  let main_v15 : IVec S_ 1 := (fun x v => Host.reduce IntOp.andi x v reducesTo_S4x4096x1376_S_d0_1_2 h_S_) main_v14 main_c_3
  let main_v16 : IVec S_ 1 := andi main_v10 main_v15
  main_v16
-- ==== Pre_attention_finite.lean ====
abbrev S4096x1024 : Shape := ⟨2, ![4096, 1024]⟩
abbrev S4096x128 : Shape := ⟨2, ![4096, 128]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_

variable [Facts]

def fn {F : FTy → Type} [FloatOps F] (main_arg0 : FVec F S4096x1024 .bf16) (main_arg1 : FVec F S4096x1024 .bf16) (main_arg2 : FVec F S4096x1024 .bf16) (main_arg3 : FVec F S4096x128 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v4 main_v9
  let main_v11 : FVec F S4096x128 .f32 := Host.absf main_arg3
  let main_cst_2 : FVec F S_ .f32 := constant S_ .f32 0x7F800000#32
  let main_v12 : FVec F S4096x128 .f32 := broadcastInDim S4096x128 ![] bcast_S_S4096x128 main_cst_2
  let main_v13 : IVec S4096x128 1 := cmpf .olt main_v11 main_v12
  let main_c_3 : IVec S_ 1 := constantI S_ 1 1#1
  let main_v14 : IVec S_ 1 := (fun x v => Host.reduce IntOp.andi x v reducesTo_S4096x128_S_d0_1 h_S_) main_v13 main_c_3
  let main_v15 : IVec S_ 1 := andi main_v10 main_v14
  main_v15
-- ==== Pre_gradients_finite.lean ====
abbrev S4096x4224 : Shape := ⟨2, ![4096, 4224]⟩
abbrev S4x256x256 : Shape := ⟨3, ![4, 256, 256]⟩
abbrev S1x1024 : Shape := ⟨2, ![1, 1024]⟩
abbrev S4096x2048 : Shape := ⟨2, ![4096, 2048]⟩
abbrev S_ : Shape := ⟨0, ![]⟩
abbrev S4096x1024 : Shape := ⟨2, ![4096, 1024]⟩

class Facts : Prop where
  bcast_S_S4x256x256 : S_.BroadcastsInDim S4x256x256 (![] : Fin 0 → Fin S4x256x256.rank)
  reducesTo_S4x256x256_S_d0_1_2 : S4x256x256.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  slices_S4096x2048_S4096x1024_0_1024 : S4096x2048.Slices ![0, 1024] S4096x1024
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x4224 .f32) (main_arg1 : FVec F S4x256x256 .f32) (main_arg2 : FVec F S1x1024 .f32) (main_arg3 : FVec F S4096x2048 .f32) : IVec S_ 1 :=
  let main_v0 : FVec F S4x256x256 .f32 := Host.absf main_arg1
  let main_cst : FVec F S_ .f32 := constant S_ .f32 0x7F800000#32
  let main_v1 : FVec F S4x256x256 .f32 := broadcastInDim S4x256x256 ![] bcast_S_S4x256x256 main_cst
  let main_v2 : IVec S4x256x256 1 := cmpf .olt main_v0 main_v1
  let main_c : IVec S_ 1 := constantI S_ 1 1#1
  let main_v3 : IVec S_ 1 := (fun x v => Host.reduce IntOp.andi x v reducesTo_S4x256x256_S_d0_1_2 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S4096x1024 .f32 := (extractStridedSlice S4096x1024 ![0, 1024] · slices_S4096x2048_S4096x1024_0_1024) main_arg3
  let main_v10 : FVec F S4096x1024 .f32 := Host.absf main_v9
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v8 main_v13
  main_v14
-- ==== Kernel.lean ====
abbrev S4096x4224 : Shape := ⟨2, ![4096, 4224]⟩
abbrev S4x256x256 : Shape := ⟨3, ![4, 256, 256]⟩
abbrev S1x1024 : Shape := ⟨2, ![1, 1024]⟩
abbrev S4096x2048 : Shape := ⟨2, ![4096, 2048]⟩
abbrev S4096x1024 : Shape := ⟨2, ![4096, 1024]⟩
abbrev S1x4096x1024 : Shape := ⟨3, ![1, 4096, 1024]⟩
abbrev S1x4096x4x256 : Shape := ⟨4, ![1, 4096, 4, 256]⟩
abbrev S4096 : Shape := ⟨1, ![4096]⟩
abbrev S1x4096x1x256 : Shape := ⟨4, ![1, 4096, 1, 256]⟩
abbrev S1x4096x256 : Shape := ⟨3, ![1, 4096, 256]⟩
abbrev S_ : Shape := ⟨0, ![]⟩
abbrev S1x1x256 : Shape := ⟨3, ![1, 1, 256]⟩
abbrev S1x4097x256 : Shape := ⟨3, ![1, 4097, 256]⟩
abbrev S1x4098x256 : Shape := ⟨3, ![1, 4098, 256]⟩
abbrev S1x4096x1 : Shape := ⟨3, ![1, 4096, 1]⟩
abbrev S1x3x256 : Shape := ⟨3, ![1, 3, 256]⟩
abbrev S1x4100x256 : Shape := ⟨3, ![1, 4100, 256]⟩
abbrev S1x7x256 : Shape := ⟨3, ![1, 7, 256]⟩
abbrev S1x4104x256 : Shape := ⟨3, ![1, 4104, 256]⟩
abbrev S1x15x256 : Shape := ⟨3, ![1, 15, 256]⟩
abbrev S1x4112x256 : Shape := ⟨3, ![1, 4112, 256]⟩
abbrev S256x256 : Shape := ⟨2, ![256, 256]⟩
abbrev S1x256x256 : Shape := ⟨3, ![1, 256, 256]⟩
abbrev S1x256 : Shape := ⟨2, ![1, 256]⟩
abbrev S512x256 : Shape := ⟨2, ![512, 256]⟩
abbrev S256 : Shape := ⟨1, ![256]⟩

abbrev nBuf : Space → Nat
  | .hbm => 119
  | .vmem => 16
  | .smem => 0
  | _ => 0

abbrev bufTy : (tb : Table) → Fin (tcTables nBuf tb) → BufTy
  | .hbm, ⟨0, _⟩ => ⟨S4096x4224, .f32⟩
  | .hbm, ⟨1, _⟩ => ⟨S4x256x256, .f32⟩
  | .hbm, ⟨2, _⟩ => ⟨S1x1024, .f32⟩
  | .hbm, ⟨3, _⟩ => ⟨S4096x2048, .f32⟩
  | .hbm, ⟨4, _⟩ => ⟨S4096x1024, .f32⟩
  | .hbm, ⟨5, _⟩ => ⟨S1x4096x1024, .f32⟩
  | .hbm, ⟨6, _⟩ => ⟨S1x4096x4x256, .f32⟩
  | .hbm, ⟨7, _⟩ => ⟨S4096, .i32⟩
  | .hbm, ⟨8, _⟩ => ⟨S1x4096x1x256, .f32⟩
  | .hbm, ⟨9, _⟩ => ⟨S1x4096x256, .f32⟩
  | .hbm, ⟨10, _⟩ => ⟨S_, .f32⟩
  | .hbm, ⟨11, _⟩ => ⟨S1x1x256, .f32⟩
  | .hbm, ⟨12, _⟩ => ⟨S_, .f32⟩
  | .hbm, ⟨13, _⟩ => ⟨S_, .f32⟩
  | .hbm, ⟨14, _⟩ => ⟨S1x4096x256, .f32⟩
  | .hbm, ⟨15, _⟩ => ⟨S1x4097x256, .f32⟩
  | .hbm, ⟨16, _⟩ => ⟨S_, .f32⟩
  | .hbm, ⟨17, _⟩ => ⟨S1x1x256, .f32⟩
  | .hbm, ⟨18, _⟩ => ⟨S1x4098x256, .f32⟩
  | .hbm, ⟨19, _⟩ => ⟨S1x4096x256, .f32⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .f32⟩
  | .hbm, ⟨27, _⟩ => ⟨S1x4096x1, .f32⟩
  | .hbm, ⟨28, _⟩ => ⟨S1x4096x256, .f32⟩
  | .hbm, ⟨29, _⟩ => ⟨S1x4096x256, .f32⟩
  | .hbm, ⟨30, _⟩ => ⟨S1x4096x256, .f32⟩
  | .hbm, ⟨31, _⟩ => ⟨S1x4096x256, .f32⟩
  | .hbm, ⟨32, _⟩ => ⟨S1x4096x256, .f32⟩
  | .hbm, ⟨33, _⟩ => ⟨S1x4096x1x256, .f32⟩
  | .hbm, ⟨34, _⟩ => ⟨S1x4096x256, .f32⟩
  | .hbm, ⟨35, _⟩ => ⟨S_, .f32⟩
  | .hbm, ⟨36, _⟩ => ⟨S1x1x256, .f32⟩
  | .hbm, ⟨37, _⟩ => ⟨S_, .f32⟩
  | .hbm, ⟨38, _⟩ => ⟨S_, .f32⟩
  | .hbm, ⟨39, _⟩ => ⟨S1x4096x256, .f32⟩
  | .hbm, ⟨40, _⟩ => ⟨S1x4097x256, .f32⟩
  | .hbm, ⟨41, _⟩ => ⟨S_, .f32⟩
  | .hbm, ⟨42, _⟩ => ⟨S1x3x256, .f32⟩
  | .hbm, ⟨43, _⟩ => ⟨S1x4100x256, .f32⟩
  | .hbm, ⟨44, _⟩ => ⟨S1x4096x256, .f32⟩
  | .hbm, ⟨45, _⟩ => ⟨S_, .i32⟩
  | .hbm, ⟨46, _⟩ => ⟨S4096, .i32⟩
  | .hbm, ⟨47, _⟩ => ⟨S4096, .i32⟩
  | .hbm, ⟨48, _⟩ => ⟨S_, .i32⟩
  | .hbm, ⟨49, _⟩ => ⟨S4096, .i32⟩
  | .hbm, ⟨50, _⟩ => ⟨S4096, .i32⟩
  | .hbm, ⟨51, _⟩ => ⟨S4096, .f32⟩
  | .hbm, ⟨52, _⟩ => ⟨S1x4096x1, .f32⟩
  | .hbm, ⟨53, _⟩ => ⟨S1x4096x256, .f32⟩
  | .hbm, ⟨54, _⟩ => ⟨S1x4096x256, .f32⟩
  | .hbm, ⟨55, _⟩ => ⟨S1x4096x256, .f32⟩
  | .hbm, ⟨56, _⟩ => ⟨S1x4096x256, .f32⟩
  | .hbm, ⟨57, _⟩ => ⟨S1x4096x256, .f32⟩
  | .hbm, ⟨58, _⟩ => ⟨S1x4096x1x256, .f32⟩
  | .hbm, ⟨59, _⟩ => ⟨S1x4096x256, .f32⟩
  | .hbm, ⟨60, _⟩ => ⟨S_, .f32⟩
  | .hbm, ⟨61, _⟩ => ⟨S1x1x256, .f32⟩
  | .hbm, ⟨62, _⟩ => ⟨S_, .f32⟩
  | .hbm, ⟨63, _⟩ => ⟨S_, .f32⟩
  | .hbm, ⟨64, _⟩ => ⟨S1x4096x256, .f32⟩
  | .hbm, ⟨65, _⟩ => ⟨S1x4097x256, .f32⟩
  | .hbm, ⟨66, _⟩ => ⟨S_, .f32⟩
  | .hbm, ⟨67, _⟩ => ⟨S1x7x256, .f32⟩
  | .hbm, ⟨68, _⟩ => ⟨S1x4104x256, .f32⟩
  | .hbm, ⟨69, _⟩ => ⟨S1x4096x256, .f32⟩
  | .hbm, ⟨70, _⟩ => ⟨S_, .i32⟩
  | .hbm, ⟨71, _⟩ => ⟨S4096, .i32⟩
  | .hbm, ⟨72, _⟩ => ⟨S4096, .i32⟩
  | .hbm, ⟨73, _⟩ => ⟨S_, .i32⟩
  | .hbm, ⟨74, _⟩ => ⟨S4096, .i32⟩
  | .hbm, ⟨75, _⟩ => ⟨S4096, .i32⟩
  | .hbm, ⟨76, _⟩ => ⟨S4096, .f32⟩
  | .hbm, ⟨77, _⟩ => ⟨S1x4096x1, .f32⟩
  | .hbm, ⟨78, _⟩ => ⟨S1x4096x256, .f32⟩
  | .hbm, ⟨79, _⟩ => ⟨S1x4096x256, .f32⟩
  | .hbm, ⟨80, _⟩ => ⟨S1x4096x256, .f32⟩
  | .hbm, ⟨81, _⟩ => ⟨S1x4096x256, .f32⟩
  | .hbm, ⟨82, _⟩ => ⟨S1x4096x256, .f32⟩
  | .hbm, ⟨83, _⟩ => ⟨S1x4096x1x256, .f32⟩
  | .hbm, ⟨84, _⟩ => ⟨S1x4096x256, .f32⟩
  | .hbm, ⟨85, _⟩ => ⟨S_, .f32⟩
  | .hbm, ⟨86, _⟩ => ⟨S1x1x256, .f32⟩
  | .hbm, ⟨87, _⟩ => ⟨S_, .f32⟩
  | .hbm, ⟨88, _⟩ => ⟨S_, .f32⟩
  | .hbm, ⟨89, _⟩ => ⟨S1x4096x256, .f32⟩
  | .hbm, ⟨90, _⟩ => ⟨S1x4097x256, .f32⟩
  | .hbm, ⟨91, _⟩ => ⟨S_, .f32⟩
  | .hbm, ⟨92, _⟩ => ⟨S1x15x256, .f32⟩
  | .hbm, ⟨93, _⟩ => ⟨S1x4112x256, .f32⟩
  | .hbm, ⟨94, _⟩ => ⟨S1x4096x256, .f32⟩
  | .hbm, ⟨95, _⟩ => ⟨S_, .i32⟩
  | .hbm, ⟨96, _⟩ => ⟨S4096, .i32⟩
  | .hbm, ⟨97, _⟩ => ⟨S4096, .i32⟩
  | .hbm, ⟨98, _⟩ => ⟨S_, .i32⟩
  | .hbm, ⟨99, _⟩ => ⟨S4096, .i32⟩
  | .hbm, ⟨100, _⟩ => ⟨S4096, .i32⟩
  | .hbm, ⟨101, _⟩ => ⟨S4096, .f32⟩
  | .hbm, ⟨102, _⟩ => ⟨S1x4096x1, .f32⟩
  | .hbm, ⟨103, _⟩ => ⟨S1x4096x256, .f32⟩
  | .hbm, ⟨104, _⟩ => ⟨S1x4096x256, .f32⟩
  | .hbm, ⟨105, _⟩ => ⟨S1x4096x256, .f32⟩
  | .hbm, ⟨106, _⟩ => ⟨S1x4096x256, .f32⟩
  | .hbm, ⟨107, _⟩ => ⟨S1x4096x256, .f32⟩
  | .hbm, ⟨108, _⟩ => ⟨S1x4096x1x256, .f32⟩
  | .hbm, ⟨109, _⟩ => ⟨S1x4096x1x256, .f32⟩
  | .hbm, ⟨110, _⟩ => ⟨S1x4096x1x256, .f32⟩
  | .hbm, ⟨111, _⟩ => ⟨S1x4096x1x256, .f32⟩
  | .hbm, ⟨112, _⟩ => ⟨S1x4096x4x256, .f32⟩
  | .hbm, ⟨113, _⟩ => ⟨S4096x1024, .f32⟩
  | .hbm, ⟨114, _⟩ => ⟨S4096x1024, .bf16⟩
  | .hbm, ⟨115, _⟩ => ⟨S4x256x256, .bf16⟩
  | .hbm, ⟨116, _⟩ => ⟨S4096x1024, .bf16⟩
  | .hbm, ⟨117, _⟩ => ⟨S4x256x256, .f32⟩
  | .hbm, ⟨118, _⟩ => ⟨S1x1024, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .bf16⟩
  | .local _ .vmem, ⟨5, _⟩ => ⟨S256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256, .f32⟩
  | .local _ .vmem, ⟨9, _⟩ => ⟨S1x256, .f32⟩
  | .local _ .vmem, ⟨10, _⟩ => ⟨S256x256, .bf16⟩
  | .local _ .vmem, ⟨11, _⟩ => ⟨S256x256, .bf16⟩
  | .local _ .vmem, ⟨12, _⟩ => ⟨S1x256x256, .f32⟩
  | .local _ .vmem, ⟨13, _⟩ => ⟨S1x256x256, .f32⟩
  | .local _ .vmem, ⟨14, _⟩ => ⟨S1x256, .f32⟩
  | .local _ .vmem, ⟨15, _⟩ => ⟨S1x256, .f32⟩
  | _, _ => ⟨S4096x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_call0_call0_cst : Ref sig .tc := ⟨.hbm, 12, rfl⟩
abbrev main_call0_call0_v0 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_call1_call0_cst : Ref sig .tc := ⟨.hbm, 37, rfl⟩
abbrev main_call1_call0_v0 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_call2_call0_cst : Ref sig .tc := ⟨.hbm, 62, rfl⟩
abbrev main_call2_call0_v0 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_10 : Ref sig .tc := ⟨.hbm, 85, rfl⟩
abbrev main_v63 : Ref sig .tc := ⟨.hbm, 86, rfl⟩
abbrev main_call3_call0_cst : Ref sig .tc := ⟨.hbm, 87, rfl⟩
abbrev main_call3_call0_v0 : Ref sig .tc := ⟨.hbm, 88, rfl⟩
abbrev main_v64 : Ref sig .tc := ⟨.hbm, 89, rfl⟩
abbrev main_v65 : Ref sig .tc := ⟨.hbm, 90, rfl⟩
abbrev main_cst_11 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_12 : Ref sig .tc := ⟨.hbm, 95, rfl⟩
abbrev main_v69 : Ref sig .tc := ⟨.hbm, 96, rfl⟩
abbrev main_v70 : Ref sig .tc := ⟨.hbm, 97, rfl⟩
abbrev main_c_13 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88_0 : Ref sig .tc := ⟨.hbm, 116, rfl⟩
abbrev main_v88_1 : Ref sig .tc := ⟨.hbm, 117, rfl⟩
abbrev main_v88_2 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32_24 : BitVec 32 := 0#32
  let v60 : BitVec 1 := Scalar.cmpi .eq arg1 c0_i32_24
  let v61 : BitVec 32 := Scalar.extui v60
  let c0_i32_25 : BitVec 32 := 0#32
  let v62 : BitVec 1 := Scalar.cmpi .ne v61 c0_i32_25
  v62

def k0_cond2 (i : grid0.Coords) : BitVec 1 :=
  let arg1 : BitVec 32 := BitVec.ofNat 32 (i 1).val
  let c0_i32_26 : BitVec 32 := 0#32
  let v63 : BitVec 1 := Scalar.cmpi .sgt arg1 c0_i32_26
  let v64 : BitVec 32 := Scalar.extui v63
  let c0_i32_27 : BitVec 32 := 0#32
  let v65 : BitVec 1 := Scalar.cmpi .ne v64 c0_i32_27
  v65

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c4_i32 : BitVec 32 := 4#32
  let v2 : BitVec 32 := Scalar.addi c4_i32 arg0
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S4096x4224 : Shape := ⟨2, ![4096, 4224]⟩
abbrev S4x256x256 : Shape := ⟨3, ![4, 256, 256]⟩
abbrev S1x1024 : Shape := ⟨2, ![1, 1024]⟩
abbrev S4096x2048 : Shape := ⟨2, ![4096, 2048]⟩
abbrev S4096x1024 : Shape := ⟨2, ![4096, 1024]⟩
abbrev S1x4096x1024 : Shape := ⟨3, ![1, 4096, 1024]⟩
abbrev S1x4096x4x256 : Shape := ⟨4, ![1, 4096, 4, 256]⟩
abbrev S4096 : Shape := ⟨1, ![4096]⟩
abbrev S1x4096x1x256 : Shape := ⟨4, ![1, 4096, 1, 256]⟩
abbrev S1x4096x256 : Shape := ⟨3, ![1, 4096, 256]⟩
abbrev S_ : Shape := ⟨0, ![]⟩
abbrev S1x1x256 : Shape := ⟨3, ![1, 1, 256]⟩
abbrev S1x4097x256 : Shape := ⟨3, ![1, 4097, 256]⟩
abbrev S1x4098x256 : Shape := ⟨3, ![1, 4098, 256]⟩
abbrev S1x4096x1 : Shape := ⟨3, ![1, 4096, 1]⟩
abbrev S1x3x256 : Shape := ⟨3, ![1, 3, 256]⟩
abbrev S1x4100x256 : Shape := ⟨3, ![1, 4100, 256]⟩
abbrev S1x7x256 : Shape := ⟨3, ![1, 7, 256]⟩
abbrev S1x4104x256 : Shape := ⟨3, ![1, 4104, 256]⟩
abbrev S1x15x256 : Shape := ⟨3, ![1, 15, 256]⟩
abbrev S1x4112x256 : Shape := ⟨3, ![1, 4112, 256]⟩
abbrev S4x256x1x4096 : Shape := ⟨4, ![4, 256, 1, 4096]⟩
abbrev S1x1x1024 : Shape := ⟨3, ![1, 1, 1024]⟩
abbrev S1024 : Shape := ⟨1, ![1024]⟩
abbrev S4x1x4096x256 : Shape := ⟨4, ![4, 1, 4096, 256]⟩

abbrev nBuf : Space → Nat
  | .hbm => 246
  | .vmem => 0
  | .smem => 0
  | _ => 0

abbrev hbmTy0_0 (i : Nat) : BufTy := match i % 128 with
  | 0 => ⟨S4096x4224, .f32⟩
  | 1 => ⟨S4x256x256, .f32⟩
  | 2 => ⟨S1x1024, .f32⟩
  | 3 => ⟨S4096x2048, .f32⟩
  | 4 => ⟨S4096x1024, .f32⟩
  | 5 => ⟨S1x4096x1024, .f32⟩
  | 6 => ⟨S4096x1024, .f32⟩
  | 7 => ⟨S1x4096x1024, .f32⟩
  | 8 => ⟨S1x4096x4x256, .f32⟩
  | 9 => ⟨S4096, .i32⟩
  | 10 => ⟨S1x4096x1x256, .f32⟩
  | 11 => ⟨S1x4096x256, .f32⟩
  | 12 => ⟨S_, .f32⟩
  | 13 => ⟨S1x1x256, .f32⟩
  | 14 => ⟨S_, .f32⟩
  | 15 => ⟨S_, .f32⟩
  | 16 => ⟨S1x4096x256, .f32⟩
  | 17 => ⟨S1x4097x256, .f32⟩
  | 18 => ⟨S_, .f32⟩
  | 19 => ⟨S1x1x256, .f32⟩
  | 20 => ⟨S_, .f32⟩
  | 21 => ⟨S1x1x256, .f32⟩
  | 22 => ⟨S1x4098x256, .f32⟩
  | 23 => ⟨S_, .f32⟩
  | 24 => ⟨S1x1x256, .f32⟩
  | 25 => ⟨S1x4096x256, .f32⟩
  | 26 => ⟨S_, .i32⟩
  | 27 => ⟨S4096, .i32⟩
  | 28 => ⟨S4096, .i32⟩
  | 29 => ⟨S_, .i32⟩
  | 30 => ⟨S4096, .i32⟩
  | 31 => ⟨S4096, .i32⟩
  | 32 => ⟨S4096, .f32⟩
  | 33 => ⟨S1x4096x1, .f32⟩
  | 34 => ⟨S1x4096x256, .f32⟩
  | 35 => ⟨S1x4096x256, .f32⟩
  | 36 => ⟨S1x4096x256, .f32⟩
  | 37 => ⟨S1x4096x256, .f32⟩
  | 38 => ⟨S1x4096x256, .f32⟩
  | 39 => ⟨S1x4096x1x256, .f32⟩
  | 40 => ⟨S1x4096x256, .f32⟩
  | 41 => ⟨S_, .f32⟩
  | 42 => ⟨S1x1x256, .f32⟩
  | 43 => ⟨S_, .f32⟩
  | 44 => ⟨S_, .f32⟩
  | 45 => ⟨S1x4096x256, .f32⟩
  | 46 => ⟨S1x4097x256, .f32⟩
  | 47 => ⟨S_, .f32⟩
  | 48 => ⟨S1x1x256, .f32⟩
  | 49 => ⟨S_, .f32⟩
  | 50 => ⟨S1x3x256, .f32⟩
  | 51 => ⟨S1x4100x256, .f32⟩
  | 52 => ⟨S_, .f32⟩
  | 53 => ⟨S1x3x256, .f32⟩
  | 54 => ⟨S1x4096x256, .f32⟩
  | 55 => ⟨S_, .i32⟩
  | 56 => ⟨S4096, .i32⟩
  | 57 => ⟨S4096, .i32⟩
  | 58 => ⟨S_, .i32⟩
  | 59 => ⟨S4096, .i32⟩
  | 60 => ⟨S4096, .i32⟩
  | 61 => ⟨S4096, .f32⟩
  | 62 => ⟨S1x4096x1, .f32⟩
  | 63 => ⟨S1x4096x256, .f32⟩
  | 64 => ⟨S1x4096x256, .f32⟩
  | 65 => ⟨S1x4096x256, .f32⟩
  | 66 => ⟨S1x4096x256, .f32⟩
  | 67 => ⟨S1x4096x256, .f32⟩
  | 68 => ⟨S1x4096x1x256, .f32⟩
  | 69 => ⟨S1x4096x256, .f32⟩
  | 70 => ⟨S_, .f32⟩
  | 71 => ⟨S1x1x256, .f32⟩
  | 72 => ⟨S_, .f32⟩
  | 73 => ⟨S_, .f32⟩
  | 74 => ⟨S1x4096x256, .f32⟩
  | 75 => ⟨S1x4097x256, .f32⟩
  | 76 => ⟨S_, .f32⟩
  | 77 => ⟨S1x1x256, .f32⟩
  | 78 => ⟨S_, .f32⟩
  | 79 => ⟨S1x7x256, .f32⟩
  | 80 => ⟨S1x4104x256, .f32⟩
  | 81 => ⟨S_, .f32⟩
  | 82 => ⟨S1x7x256, .f32⟩
  | 83 => ⟨S1x4096x256, .f32⟩
  | 84 => ⟨S_, .i32⟩
  | 85 => ⟨S4096, .i32⟩
  | 86 => ⟨S4096, .i32⟩
  | 87 => ⟨S_, .i32⟩
  | 88 => ⟨S4096, .i32⟩
  | 89 => ⟨S4096, .i32⟩
  | 90 => ⟨S4096, .f32⟩
  | 91 => ⟨S1x4096x1, .f32⟩
  | 92 => ⟨S1x4096x256, .f32⟩
  | 93 => ⟨S1x4096x256, .f32⟩
  | 94 => ⟨S1x4096x256, .f32⟩
  | 95 => ⟨S1x4096x256, .f32⟩
  | 96 => ⟨S1x4096x256, .f32⟩
  | 97 => ⟨S1x4096x1x256, .f32⟩
  | 98 => ⟨S1x4096x256, .f32⟩
  | 99 => ⟨S_, .f32⟩
  | 100 => ⟨S1x1x256, .f32⟩
  | 101 => ⟨S_, .f32⟩
  | 102 => ⟨S_, .f32⟩
  | 103 => ⟨S1x4096x256, .f32⟩
  | 104 => ⟨S1x4097x256, .f32⟩
  | 105 => ⟨S_, .f32⟩
  | 106 => ⟨S1x1x256, .f32⟩
  | 107 => ⟨S_, .f32⟩
  | 108 => ⟨S1x15x256, .f32⟩
  | 109 => ⟨S1x4112x256, .f32⟩
  | 110 => ⟨S_, .f32⟩
  | 111 => ⟨S1x15x256, .f32⟩
  | 112 => ⟨S1x4096x256, .f32⟩
  | 113 => ⟨S_, .i32⟩
  | 114 => ⟨S4096, .i32⟩
  | 115 => ⟨S4096, .i32⟩
  | 116 => ⟨S_, .i32⟩
  | 117 => ⟨S4096, .i32⟩
  | 118 => ⟨S4096, .i32⟩
  | 119 => ⟨S4096, .f32⟩
  | 120 => ⟨S1x4096x1, .f32⟩
  | 121 => ⟨S1x4096x256, .f32⟩
  | 122 => ⟨S1x4096x256, .f32⟩
  | 123 => ⟨S1x4096x256, .f32⟩
  | 124 => ⟨S1x4096x256, .f32⟩
  | 125 => ⟨S1x4096x256, .f32⟩
  | 126 => ⟨S1x4096x1x256, .f32⟩
  | 127 => ⟨S1x4096x1x256, .f32⟩
  | _ => ⟨S4096x4224, .f32⟩

abbrev hbmTy0_1 (i : Nat) : BufTy := match i % 128 with
  | 0 => ⟨S1x4096x1x256, .f32⟩
  | 1 => ⟨S1x4096x1x256, .f32⟩
  | 2 => ⟨S1x4096x4x256, .f32⟩
  | 3 => ⟨S4x256x1x4096, .f32⟩
  | 4 => ⟨S1x4096x4x256, .f32⟩
  | 5 => ⟨S1x4096x1024, .f32⟩
  | 6 => ⟨S1x1x1024, .f32⟩
  | 7 => ⟨S1x4096x1024, .f32⟩
  | 8 => ⟨S1x4096x1024, .f32⟩
  | 9 => ⟨S1x4096x1024, .f32⟩
  | 10 => ⟨S_, .f32⟩
  | 11 => ⟨S1x1024, .f32⟩
  | 12 => ⟨S1x1x1024, .f32⟩
  | 13 => ⟨S1x4096x1024, .f32⟩
  | 14 => ⟨S1x4096x1024, .f32⟩
  | 15 => ⟨S_, .f32⟩
  | 16 => ⟨S1024, .f32⟩
  | 17 => ⟨S1x1024, .f32⟩
  | 18 => ⟨S1x4096x4x256, .f32⟩
  | 19 => ⟨S4x256x1x4096, .f32⟩
  | 20 => ⟨S4x1x4096x256, .f32⟩
  | 21 => ⟨S1x4096x4x256, .f32⟩
  | 22 => ⟨S4x256x256, .f32⟩
  | 23 => ⟨S4x256x256, .f32⟩
  | 24 => ⟨S1x4096x1x256, .f32⟩
  | 25 => ⟨S1x4096x256, .f32⟩
  | 26 => ⟨S1x4096x1x256, .f32⟩
  | 27 => ⟨S1x4096x256, .f32⟩
  | 28 => ⟨S1x4096x1x256, .f32⟩
  | 29 => ⟨S1x4096x256, .f32⟩
  | 30 => ⟨S1x4096x1x256, .f32⟩
  | 31 => ⟨S1x4096x256, .f32⟩
  | 32 => ⟨S1x4096x256, .f32⟩
  | 33 => ⟨S1x4096x256, .f32⟩
  | 34 => ⟨S1x4096x256, .f32⟩
  | 35 => ⟨S1x4096x256, .f32⟩
  | 36 => ⟨S_, .f32⟩
  | 37 => ⟨S1x4097x256, .f32⟩
  | 38 => ⟨S_, .f32⟩
  | 39 => ⟨S1x4112x256, .f32⟩
  | 40 => ⟨S1x15x256, .f32⟩
  | 41 => ⟨S1x4097x256, .f32⟩
  | 42 => ⟨S1x4097x256, .f32⟩
  | 43 => ⟨S1x1x256, .f32⟩
  | 44 => ⟨S1x4096x256, .f32⟩
  | 45 => ⟨S_, .f32⟩
  | 46 => ⟨S_, .f32⟩
  | 47 => ⟨S1x4096x256, .f32⟩
  | 48 => ⟨S1x4096x256, .f32⟩
  | 49 => ⟨S1x4096x1x256, .f32⟩
  | 50 => ⟨S_, .f32⟩
  | 51 => ⟨S1x4096x4x256, .f32⟩
  | 52 => ⟨S1x4096x256, .f32⟩
  | 53 => ⟨S1x4096x256, .f32⟩
  | 54 => ⟨S1x4096x256, .f32⟩
  | 55 => ⟨S1x4096x256, .f32⟩
  | 56 => ⟨S_, .f32⟩
  | 57 => ⟨S1x4097x256, .f32⟩
  | 58 => ⟨S_, .f32⟩
  | 59 => ⟨S1x4104x256, .f32⟩
  | 60 => ⟨S1x7x256, .f32⟩
  | 61 => ⟨S1x4097x256, .f32⟩
  | 62 => ⟨S1x4097x256, .f32⟩
  | 63 => ⟨S1x1x256, .f32⟩
  | 64 => ⟨S1x4096x256, .f32⟩
  | 65 => ⟨S_, .f32⟩
  | 66 => ⟨S_, .f32⟩
  | 67 => ⟨S1x4096x256, .f32⟩
  | 68 => ⟨S1x4096x256, .f32⟩
  | 69 => ⟨S1x4096x1x256, .f32⟩
  | 70 => ⟨S_, .f32⟩
  | 71 => ⟨S1x4096x4x256, .f32⟩
  | 72 => ⟨S1x4096x4x256, .f32⟩
  | 73 => ⟨S1x4096x256, .f32⟩
  | 74 => ⟨S1x4096x256, .f32⟩
  | 75 => ⟨S1x4096x256, .f32⟩
  | 76 => ⟨S1x4096x256, .f32⟩
  | 77 => ⟨S_, .f32⟩
  | 78 => ⟨S1x4097x256, .f32⟩
  | 79 => ⟨S_, .f32⟩
  | 80 => ⟨S1x4100x256, .f32⟩
  | 81 => ⟨S1x3x256, .f32⟩
  | 82 => ⟨S1x4097x256, .f32⟩
  | 83 => ⟨S1x4097x256, .f32⟩
  | 84 => ⟨S1x1x256, .f32⟩
  | 85 => ⟨S1x4096x256, .f32⟩
  | 86 => ⟨S_, .f32⟩
  | 87 => ⟨S_, .f32⟩
  | 88 => ⟨S1x4096x256, .f32⟩
  | 89 => ⟨S1x4096x256, .f32⟩
  | 90 => ⟨S1x4096x1x256, .f32⟩
  | 91 => ⟨S_, .f32⟩
  | 92 => ⟨S1x4096x4x256, .f32⟩
  | 93 => ⟨S1x4096x4x256, .f32⟩
  | 94 => ⟨S1x4096x256, .f32⟩
  | 95 => ⟨S1x4096x256, .f32⟩
  | 96 => ⟨S1x4096x256, .f32⟩
  | 97 => ⟨S1x4096x256, .f32⟩
  | 98 => ⟨S_, .f32⟩
  | 99 => ⟨S1x4097x256, .f32⟩
  | 100 => ⟨S_, .f32⟩
  | 101 => ⟨S1x4098x256, .f32⟩
  | 102 => ⟨S1x1x256, .f32⟩
  | 103 => ⟨S1x4097x256, .f32⟩
  | 104 => ⟨S1x4097x256, .f32⟩
  | 105 => ⟨S1x1x256, .f32⟩
  | 106 => ⟨S1x4096x256, .f32⟩
  | 107 => ⟨S_, .f32⟩
  | 108 => ⟨S_, .f32⟩
  | 109 => ⟨S1x4096x256, .f32⟩
  | 110 => ⟨S1x4096x256, .f32⟩
  | 111 => ⟨S1x4096x1x256, .f32⟩
  | 112 => ⟨S_, .f32⟩
  | 113 => ⟨S1x4096x4x256, .f32⟩
  | 114 => ⟨S1x4096x4x256, .f32⟩
  | 115 => ⟨S1x4096x1024, .f32⟩
  | 116 => ⟨S4096x1024, .f32⟩
  | 117 => ⟨S4096x1024, .bf16⟩
  | _ => ⟨S4096x4224, .f32⟩

abbrev hbmTy (i : Nat) : BufTy := match i / 128 with
  | 0 => hbmTy0_0 i
  | 1 => hbmTy0_1 i
  | _ => ⟨S4096x4224, .f32⟩

abbrev bufTy : (tb : Table) → Fin (tcTables nBuf tb) → BufTy
  | .hbm, ⟨i, _⟩ => hbmTy i
  | _, _ => ⟨S4096x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_call0_call0_cst : Ref sig .tc := ⟨.hbm, 14, rfl⟩
abbrev main_call0_call0_v0 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_call1_call0_cst : Ref sig .tc := ⟨.hbm, 43, rfl⟩
abbrev main_call1_call0_v0 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_call2_call0_cst : Ref sig .tc := ⟨.hbm, 72, rfl⟩
abbrev main_call2_call0_v0 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_cst_12 : Ref sig .tc := ⟨.hbm, 78, rfl⟩
abbrev main_v54 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_v57 : Ref sig .tc := ⟨.hbm, 83, rfl⟩
abbrev main_c_14 : Ref sig .tc := ⟨.hbm, 84, rfl⟩
abbrev main_v58 : Ref sig .tc := ⟨.hbm, 85, rfl⟩
abbrev main_v59 : Ref sig .tc := ⟨.hbm, 86, rfl⟩
abbrev main_c_15 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_16 : Ref sig .tc := ⟨.hbm, 99, rfl⟩
abbrev main_v71 : Ref sig .tc := ⟨.hbm, 100, rfl⟩
abbrev main_call3_call0_cst : Ref sig .tc := ⟨.hbm, 101, rfl⟩
abbrev main_call3_call0_v0 : Ref sig .tc := ⟨.hbm, 102, rfl⟩
abbrev main_v72 : Ref sig .tc := ⟨.hbm, 103, rfl⟩
abbrev main_v73 : Ref sig .tc := ⟨.hbm, 104, rfl⟩
abbrev main_cst_17 : Ref sig .tc := ⟨.hbm, 105, rfl⟩
abbrev main_v74 : Ref sig .tc := ⟨.hbm, 106, rfl⟩
abbrev main_cst_18 : Ref sig .tc := ⟨.hbm, 107, rfl⟩
abbrev main_v75 : Ref sig .tc := ⟨.hbm, 108, rfl⟩
abbrev main_v76 : Ref sig .tc := ⟨.hbm, 109, rfl⟩
abbrev main_cst_19 : Ref sig .tc := ⟨.hbm, 110, rfl⟩
abbrev main_v77 : Ref sig .tc := ⟨.hbm, 111, rfl⟩
abbrev main_v78 : Ref sig .tc := ⟨.hbm, 112, rfl⟩
abbrev main_c_20 : Ref sig .tc := ⟨.hbm, 113, rfl⟩
abbrev main_v79 : Ref sig .tc := ⟨.hbm, 114, rfl⟩
abbrev main_v80 : Ref sig .tc := ⟨.hbm, 115, rfl⟩
abbrev main_c_21 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_22 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_23 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_cst_24 : Ref sig .tc := ⟨.hbm, 164, rfl⟩
abbrev main_v126 : Ref sig .tc := ⟨.hbm, 165, rfl⟩
abbrev main_cst_25 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_call4_call0_cst : Ref sig .tc := ⟨.hbm, 173, rfl⟩
abbrev main_call4_call0_v0 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_cst_26 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_cst_27 : Ref sig .tc := ⟨.hbm, 184, rfl⟩
abbrev main_v141 : Ref sig .tc := ⟨.hbm, 185, rfl⟩
abbrev main_cst_28 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_call5_call0_cst : Ref sig .tc := ⟨.hbm, 193, rfl⟩
abbrev main_call5_call0_v0 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_cst_29 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_cst_30 : Ref sig .tc := ⟨.hbm, 205, rfl⟩
abbrev main_v157 : Ref sig .tc := ⟨.hbm, 206, rfl⟩
abbrev main_cst_31 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_call6_call0_cst : Ref sig .tc := ⟨.hbm, 214, rfl⟩
abbrev main_call6_call0_v0 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_cst_32 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_cst_33 : Ref sig .tc := ⟨.hbm, 226, rfl⟩
abbrev main_v173 : Ref sig .tc := ⟨.hbm, 227, rfl⟩
abbrev main_cst_34 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_call7_call0_cst : Ref sig .tc := ⟨.hbm, 235, rfl⟩
abbrev main_call7_call0_v0 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_cst_35 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩

abbrev nD : Nat := 1
abbrev τ : Topo := Topo.v7x

variable {F : FTy → Type} [FloatOps F]
-- ==== FfnDwo.lean ====
abbrev S4x4096x1376 : Shape := ⟨3, ![4, 4096, 1376]⟩
abbrev S4096x2048 : Shape := ⟨2, ![4096, 2048]⟩
abbrev S4x1376x2048 : Shape := ⟨3, ![4, 1376, 2048]⟩
abbrev S1x4096x1376 : Shape := ⟨3, ![1, 4096, 1376]⟩
abbrev S4096x512 : Shape := ⟨2, ![4096, 512]⟩
abbrev S1x1376x512 : Shape := ⟨3, ![1, 1376, 512]⟩
abbrev S4096x1376 : Shape := ⟨2, ![4096, 1376]⟩
abbrev S1376x512 : Shape := ⟨2, ![1376, 512]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x1376, .bf16⟩
  | .hbm, ⟨1, _⟩ => ⟨S4096x2048, .bf16⟩
  | .hbm, ⟨2, _⟩ => ⟨S4x1376x2048, .bf16⟩
  | .local _ .vmem, ⟨0, _⟩ => ⟨S1x4096x1376, .bf16⟩
  | .local _ .vmem, ⟨1, _⟩ => ⟨S1x4096x1376, .bf16⟩
  | .local _ .vmem, ⟨2, _⟩ => ⟨S4096x512, .bf16⟩
  | .local _ .vmem, ⟨3, _⟩ => ⟨S4096x512, .bf16⟩
  | .local _ .vmem, ⟨4, _⟩ => ⟨S1x1376x512, .bf16⟩
  | .local _ .vmem, ⟨5, _⟩ => ⟨S1x1376x512, .bf16⟩
  | _, _ => ⟨S4x4096x1376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![4, 1, 4, 1, 1], ![false, false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg4.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg1.toNat, arg2.toNat]

abbrev stage0_0 : Fin 2 → Memref sig .tc .vmem S1x4096x1376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S1x1376x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== FfnDwoRefIdeal.lean ====
abbrev S4x4096x1376 : Shape := ⟨3, ![4, 4096, 1376]⟩
abbrev S4096x2048 : Shape := ⟨2, ![4096, 2048]⟩
abbrev S_ : Shape := ⟨0, ![]⟩
abbrev S4x1376x2048 : Shape := ⟨3, ![4, 1376, 2048]⟩
abbrev S2048x4x1376 : Shape := ⟨3, ![2048, 4, 1376]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x1376, .bf16⟩
  | .hbm, ⟨1, _⟩ => ⟨S4096x2048, .bf16⟩
  | .hbm, ⟨2, _⟩ => ⟨S4x4096x1376, .f32⟩
  | .hbm, ⟨3, _⟩ => ⟨S4096x2048, .f32⟩
  | .hbm, ⟨4, _⟩ => ⟨S_, .f32⟩
  | .hbm, ⟨5, _⟩ => ⟨S4x1376x2048, .f32⟩
  | .hbm, ⟨6, _⟩ => ⟨S4096x2048, .f32⟩
  | .hbm, ⟨7, _⟩ => ⟨S2048x4x1376, .f32⟩
  | .hbm, ⟨8, _⟩ => ⟨S4x1376x2048, .f32⟩
  | .hbm, ⟨9, _⟩ => ⟨S4x1376x2048, .bf16⟩
  | _, _ => ⟨S4x4096x1376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnDownBwd.lean ====
abbrev S4096x2048 : Shape := ⟨2, ![4096, 2048]⟩
abbrev S4x1376x2048 : Shape := ⟨3, ![4, 1376, 2048]⟩
abbrev S4x4096x1376 : Shape := ⟨3, ![4, 4096, 1376]⟩
abbrev S2x4x4096x1376 : Shape := ⟨4, ![2, 4, 4096, 1376]⟩
abbrev S512x2048 : Shape := ⟨2, ![512, 2048]⟩
abbrev S1x1376x2048 : Shape := ⟨3, ![1, 1376, 2048]⟩
abbrev S1x512x1376 : Shape := ⟨3, ![1, 512, 1376]⟩
abbrev S2x1x512x1376 : Shape := ⟨4, ![2, 1, 512, 1376]⟩
abbrev S1376x2048 : Shape := ⟨2, ![1376, 2048]⟩
abbrev S256x2048 : Shape := ⟨2, ![256, 2048]⟩
abbrev S256x1376 : Shape := ⟨2, ![256, 1376]⟩
abbrev S1x256x1376 : Shape := ⟨3, ![1, 256, 1376]⟩
abbrev S1x1x256x1376 : Shape := ⟨4, ![1, 1, 256, 1376]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4x1376x2048, .bf16⟩
  | .hbm, ⟨2, _⟩ => ⟨S4x4096x1376, .bf16⟩
  | .hbm, ⟨3, _⟩ => ⟨S4x4096x1376, .bf16⟩
  | .hbm, ⟨4, _⟩ => ⟨S2x4x4096x1376, .bf16⟩
  | .local _ .vmem, ⟨0, _⟩ => ⟨S512x2048, .bf16⟩
  | .local _ .vmem, ⟨1, _⟩ => ⟨S512x2048, .bf16⟩
  | .local _ .vmem, ⟨2, _⟩ => ⟨S1x1376x2048, .bf16⟩
  | .local _ .vmem, ⟨3, _⟩ => ⟨S1x1376x2048, .bf16⟩
  | .local _ .vmem, ⟨4, _⟩ => ⟨S1x512x1376, .bf16⟩
  | .local _ .vmem, ⟨5, _⟩ => ⟨S1x512x1376, .bf16⟩
  | .local _ .vmem, ⟨6, _⟩ => ⟨S1x512x1376, .bf16⟩
  | .local _ .vmem, ⟨7, _⟩ => ⟨S1x512x1376, .bf16⟩
  | .local _ .vmem, ⟨8, _⟩ => ⟨S2x1x512x1376, .bf16⟩
  | .local _ .vmem, ⟨9, _⟩ => ⟨S2x1x512x1376, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1376x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1376 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1376 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x512x1376 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnDownBwdRefIdeal.lean ====
abbrev S4096x2048 : Shape := ⟨2, ![4096, 2048]⟩
abbrev S4x1376x2048 : Shape := ⟨3, ![4, 1376, 2048]⟩
abbrev S4x4096x1376 : Shape := ⟨3, ![4, 4096, 1376]⟩
abbrev S_ : Shape := ⟨0, ![]⟩
abbrev S4096x4x1376 : Shape := ⟨3, ![4096, 4, 1376]⟩
abbrev S1x4x4096x1376 : Shape := ⟨4, ![1, 4, 4096, 1376]⟩
abbrev S2x4x4096x1376 : Shape := ⟨4, ![2, 4, 4096, 1376]⟩

abbrev nBuf : Space → Nat
  | .hbm => 35
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x1376x2048, .bf16⟩
  | .hbm, ⟨2, _⟩ => ⟨S4x4096x1376, .bf16⟩
  | .hbm, ⟨3, _⟩ => ⟨S4x4096x1376, .bf16⟩
  | .hbm, ⟨4, _⟩ => ⟨S4096x2048, .f32⟩
  | .hbm, ⟨5, _⟩ => ⟨S4x1376x2048, .f32⟩
  | .hbm, ⟨6, _⟩ => ⟨S4x4096x1376, .f32⟩
  | .hbm, ⟨7, _⟩ => ⟨S4x4096x1376, .f32⟩
  | .hbm, ⟨8, _⟩ => ⟨S4x4096x1376, .f32⟩
  | .hbm, ⟨9, _⟩ => ⟨S4x4096x1376, .f32⟩
  | .hbm, ⟨10, _⟩ => ⟨S_, .f32⟩
  | .hbm, ⟨11, _⟩ => ⟨S4x4096x1376, .f32⟩
  | .hbm, ⟨12, _⟩ => ⟨S4x4096x1376, .f32⟩
  | .hbm, ⟨13, _⟩ => ⟨S_, .f32⟩
  | .hbm, ⟨14, _⟩ => ⟨S4x4096x1376, .f32⟩
  | .hbm, ⟨15, _⟩ => ⟨S4x4096x1376, .f32⟩
  | .hbm, ⟨16, _⟩ => ⟨S_, .f32⟩
  | .hbm, ⟨17, _⟩ => ⟨S4x4096x1376, .f32⟩
  | .hbm, ⟨18, _⟩ => ⟨S4x4096x1376, .f32⟩
  | .hbm, ⟨19, _⟩ => ⟨S4x4096x1376, .f32⟩
  | .hbm, ⟨20, _⟩ => ⟨S4x4096x1376, .f32⟩
  | .hbm, ⟨21, _⟩ => ⟨S4x4096x1376, .f32⟩
  | .hbm, ⟨22, _⟩ => ⟨S4096x2048, .f32⟩
  | .hbm, ⟨23, _⟩ => ⟨S4096x4x1376, .f32⟩
  | .hbm, ⟨24, _⟩ => ⟨S4x4096x1376, .f32⟩
  | .hbm, ⟨25, _⟩ => ⟨S4x4096x1376, .f32⟩
  | .hbm, ⟨26, _⟩ => ⟨S4x4096x1376, .f32⟩
  | .hbm, ⟨27, _⟩ => ⟨S4x4096x1376, .f32⟩
  | .hbm, ⟨28, _⟩ => ⟨S4x4096x1376, .f32⟩
  | .hbm, ⟨29, _⟩ => ⟨S4x4096x1376, .f32⟩
  | .hbm, ⟨30, _⟩ => ⟨S4x4096x1376, .f32⟩
  | .hbm, ⟨31, _⟩ => ⟨S1x4x4096x1376, .f32⟩
  | .hbm, ⟨32, _⟩ => ⟨S1x4x4096x1376, .f32⟩
  | .hbm, ⟨33, _⟩ => ⟨S2x4x4096x1376, .f32⟩
  | .hbm, ⟨34, _⟩ => ⟨S2x4x4096x1376, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩

abbrev nD : Nat := 1
abbrev τ : Topo := Topo.v7x

variable {F : FTy → Type} [FloatOps F]
-- ==== FfnDwi.lean ====
abbrev S8x4096x1376 : Shape := ⟨3, ![8, 4096, 1376]⟩
abbrev S4096x2048 : Shape := ⟨2, ![4096, 2048]⟩
abbrev S8x1376x2048 : Shape := ⟨3, ![8, 1376, 2048]⟩
abbrev S1x4096x1376 : Shape := ⟨3, ![1, 4096, 1376]⟩
abbrev S4096x512 : Shape := ⟨2, ![4096, 512]⟩
abbrev S1x1376x512 : Shape := ⟨3, ![1, 1376, 512]⟩
abbrev S4096x1376 : Shape := ⟨2, ![4096, 1376]⟩
abbrev S1376x512 : Shape := ⟨2, ![1376, 512]⟩

abbrev nBuf : Space → Nat
  | .hbm => 3
  | .vmem => 6
  | .smem => 0
  | _ => 0

abbrev bufTy : (tb : Table) → Fin (tcTables nBuf tb) → BufTy
  | .hbm, ⟨0, _⟩ => ⟨S8x4096x1376, .bf16⟩
  | .hbm, ⟨1, _⟩ => ⟨S4096x2048, .bf16⟩
  | .hbm, ⟨2, _⟩ => ⟨S8x1376x2048, .bf16⟩
  | .local _ .vmem, ⟨0, _⟩ => ⟨S1x4096x1376, .bf16⟩
  | .local _ .vmem, ⟨1, _⟩ => ⟨S1x4096x1376, .bf16⟩
  | .local _ .vmem, ⟨2, _⟩ => ⟨S4096x512, .bf16⟩
  | .local _ .vmem, ⟨3, _⟩ => ⟨S4096x512, .bf16⟩
  | .local _ .vmem, ⟨4, _⟩ => ⟨S1x1376x512, .bf16⟩
  | .local _ .vmem, ⟨5, _⟩ => ⟨S1x1376x512, .bf16⟩
  | _, _ => ⟨S8x4096x1376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![8, 1, 4, 1, 1], ![false, false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg4.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg1.toNat, arg2.toNat]

abbrev stage0_0 : Fin 2 → Memref sig .tc .vmem S1x4096x1376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S1x1376x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== FfnDwiRefIdeal.lean ====
abbrev S8x4096x1376 : Shape := ⟨3, ![8, 4096, 1376]⟩
abbrev S4096x2048 : Shape := ⟨2, ![4096, 2048]⟩
abbrev S_ : Shape := ⟨0, ![]⟩
abbrev S8x1376x2048 : Shape := ⟨3, ![8, 1376, 2048]⟩
abbrev S8x1376x4096 : Shape := ⟨3, ![8, 1376, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8x4096x1376, .bf16⟩
  | .hbm, ⟨1, _⟩ => ⟨S4096x2048, .bf16⟩
  | .hbm, ⟨2, _⟩ => ⟨S8x4096x1376, .f32⟩
  | .hbm, ⟨3, _⟩ => ⟨S4096x2048, .f32⟩
  | .hbm, ⟨4, _⟩ => ⟨S_, .f32⟩
  | .hbm, ⟨5, _⟩ => ⟨S8x1376x2048, .f32⟩
  | .hbm, ⟨6, _⟩ => ⟨S8x1376x4096, .f32⟩
  | .hbm, ⟨7, _⟩ => ⟨S8x4096x1376, .f32⟩
  | .hbm, ⟨8, _⟩ => ⟨S8x1376x4096, .f32⟩
  | .hbm, ⟨9, _⟩ => ⟨S8x1376x2048, .f32⟩
  | .hbm, ⟨10, _⟩ => ⟨S8x1376x2048, .bf16⟩
  | _, _ => ⟨S8x4096x1376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FfnDhm.lean ====
abbrev S8x4096x1376 : Shape := ⟨3, ![8, 4096, 1376]⟩
abbrev S8x1376x2048 : Shape := ⟨3, ![8, 1376, 2048]⟩
abbrev S4096x2048 : Shape := ⟨2, ![4096, 2048]⟩
abbrev S8x512x1376 : Shape := ⟨3, ![8, 512, 1376]⟩
abbrev S8x1376x512 : Shape := ⟨3, ![8, 1376, 512]⟩
abbrev S512x512 : Shape := ⟨2, ![512, 512]⟩
abbrev S1x512x1376 : Shape := ⟨3, ![1, 512, 1376]⟩
abbrev S512x1376 : Shape := ⟨2, ![512, 1376]⟩
abbrev S1x1376x512 : Shape := ⟨3, ![1, 1376, 512]⟩
abbrev S1376x512 : Shape := ⟨2, ![1376, 512]⟩

abbrev nBuf : Space → Nat
  | .hbm => 3
  | .vmem => 6
  | .smem => 0
  | _ => 0

abbrev bufTy : (tb : Table) → Fin (tcTables nBuf tb) → BufTy
  | .hbm, ⟨0, _⟩ => ⟨S8x4096x1376, .bf16⟩
  | .hbm, ⟨1, _⟩ => ⟨S8x1376x2048, .bf16⟩
  | .hbm, ⟨2, _⟩ => ⟨S4096x2048, .f32⟩
  | .local _ .vmem, ⟨0, _⟩ => ⟨S8x512x1376, .bf16⟩
  | .local _ .vmem, ⟨1, _⟩ => ⟨S8x512x1376, .bf16⟩
  | .local _ .vmem, ⟨2, _⟩ => ⟨S8x1376x512, .bf16⟩
  | .local _ .vmem, ⟨3, _⟩ => ⟨S8x1376x512, .bf16⟩
  | .local _ .vmem, ⟨4, _⟩ => ⟨S512x512, .f32⟩
  | .local _ .vmem, ⟨5, _⟩ => ⟨S512x512, .f32⟩
  | _, _ => ⟨S8x4096x1376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8x512x1376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x1376x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnDhmRefIdeal.lean ====
abbrev S8x4096x1376 : Shape := ⟨3, ![8, 4096, 1376]⟩
abbrev S8x1376x2048 : Shape := ⟨3, ![8, 1376, 2048]⟩
abbrev S_ : Shape := ⟨0, ![]⟩
abbrev S4096x2048 : Shape := ⟨2, ![4096, 2048]⟩
abbrev S8x1376x4096 : Shape := ⟨3, ![8, 1376, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8x4096x1376, .bf16⟩
  | .hbm, ⟨1, _⟩ => ⟨S8x1376x2048, .bf16⟩
  | .hbm, ⟨2, _⟩ => ⟨S8x4096x1376, .f32⟩
  | .hbm, ⟨3, _⟩ => ⟨S8x1376x2048, .f32⟩
  | .hbm, ⟨4, _⟩ => ⟨S_, .f32⟩
  | .hbm, ⟨5, _⟩ => ⟨S4096x2048, .f32⟩
  | .hbm, ⟨6, _⟩ => ⟨S8x1376x4096, .f32⟩
  | .hbm, ⟨7, _⟩ => ⟨S8x4096x1376, .f32⟩
  | .hbm, ⟨8, _⟩ => ⟨S8x1376x4096, .f32⟩
  | .hbm, ⟨9, _⟩ => ⟨S4096x2048, .f32⟩
  | _, _ => ⟨S8x4096x1376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnUp.lean ====
abbrev S4096x2048 : Shape := ⟨2, ![4096, 2048]⟩
abbrev S8x1376x2048 : Shape := ⟨3, ![8, 1376, 2048]⟩
abbrev S4x4096x1376 : Shape := ⟨3, ![4, 4096, 1376]⟩
abbrev S512x2048 : Shape := ⟨2, ![512, 2048]⟩
abbrev S1x1376x2048 : Shape := ⟨3, ![1, 1376, 2048]⟩
abbrev S1x512x1376 : Shape := ⟨3, ![1, 512, 1376]⟩
abbrev S1376x2048 : Shape := ⟨2, ![1376, 2048]⟩
abbrev S256x2048 : Shape := ⟨2, ![256, 2048]⟩
abbrev S256x1376 : Shape := ⟨2, ![256, 1376]⟩
abbrev S1x256x1376 : Shape := ⟨3, ![1, 256, 1376]⟩

abbrev nBuf : Space → Nat
  | .hbm => 5
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S8x1376x2048, .bf16⟩
  | .hbm, ⟨2, _⟩ => ⟨S4x4096x1376, .bf16⟩
  | .hbm, ⟨3, _⟩ => ⟨S4x4096x1376, .bf16⟩
  | .hbm, ⟨4, _⟩ => ⟨S4x4096x1376, .bf16⟩
  | .local _ .vmem, ⟨0, _⟩ => ⟨S512x2048, .bf16⟩
  | .local _ .vmem, ⟨1, _⟩ => ⟨S512x2048, .bf16⟩
  | .local _ .vmem, ⟨2, _⟩ => ⟨S1x1376x2048, .bf16⟩
  | .local _ .vmem, ⟨3, _⟩ => ⟨S1x1376x2048, .bf16⟩
  | .local _ .vmem, ⟨4, _⟩ => ⟨S1x1376x2048, .bf16⟩
  | .local _ .vmem, ⟨5, _⟩ => ⟨S1x1376x2048, .bf16⟩
  | .local _ .vmem, ⟨6, _⟩ => ⟨S1x512x1376, .bf16⟩
  | .local _ .vmem, ⟨7, _⟩ => ⟨S1x512x1376, .bf16⟩
  | .local _ .vmem, ⟨8, _⟩ => ⟨S1x512x1376, .bf16⟩
  | .local _ .vmem, ⟨9, _⟩ => ⟨S1x512x1376, .bf16⟩
  | .local _ .vmem, ⟨10, _⟩ => ⟨S1x512x1376, .bf16⟩
  | .local _ .vmem, ⟨11, _⟩ => ⟨S1x512x1376, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1376x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1376x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1376 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1376 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1376 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S4096x2048 : Shape := ⟨2, ![4096, 2048]⟩
abbrev S8x1376x2048 : Shape := ⟨3, ![8, 1376, 2048]⟩
abbrev S8x1376x4096 : Shape := ⟨3, ![8, 1376, 4096]⟩
abbrev S8x4096x1376 : Shape := ⟨3, ![8, 4096, 1376]⟩
abbrev S4x4096x1376 : Shape := ⟨3, ![4, 4096, 1376]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x1376x2048, .bf16⟩
  | .hbm, ⟨2, _⟩ => ⟨S4096x2048, .f32⟩
  | .hbm, ⟨3, _⟩ => ⟨S8x1376x2048, .f32⟩
  | .hbm, ⟨4, _⟩ => ⟨S8x1376x4096, .f32⟩
  | .hbm, ⟨5, _⟩ => ⟨S8x4096x1376, .f32⟩
  | .hbm, ⟨6, _⟩ => ⟨S4x4096x1376, .f32⟩
  | .hbm, ⟨7, _⟩ => ⟨S4x4096x1376, .f32⟩
  | .hbm, ⟨8, _⟩ => ⟨S4x4096x1376, .bf16⟩
  | .hbm, ⟨9, _⟩ => ⟨S4x4096x1376, .bf16⟩
  | .hbm, ⟨10, _⟩ => ⟨S4x4096x1376, .f32⟩
  | .hbm, ⟨11, _⟩ => ⟨S4x4096x1376, .f32⟩
  | .hbm, ⟨12, _⟩ => ⟨S_, .f32⟩
  | .hbm, ⟨13, _⟩ => ⟨S4x4096x1376, .f32⟩
  | .hbm, ⟨14, _⟩ => ⟨S4x4096x1376, .f32⟩
  | .hbm, ⟨15, _⟩ => ⟨S_, .f32⟩
  | .hbm, ⟨16, _⟩ => ⟨S4x4096x1376, .f32⟩
  | .hbm, ⟨17, _⟩ => ⟨S4x4096x1376, .f32⟩
  | .hbm, ⟨18, _⟩ => ⟨S4x4096x1376, .f32⟩
  | .hbm, ⟨19, _⟩ => ⟨S4x4096x1376, .f32⟩
  | .hbm, ⟨20, _⟩ => ⟨S4x4096x1376, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== FfnDown.lean ====
abbrev S4x4096x1376 : Shape := ⟨3, ![4, 4096, 1376]⟩
abbrev S4x1376x2048 : Shape := ⟨3, ![4, 1376, 2048]⟩
abbrev S4096x2048 : Shape := ⟨2, ![4096, 2048]⟩
abbrev S1x2048 : Shape := ⟨2, ![1, 2048]⟩
abbrev S4x512x1376 : Shape := ⟨3, ![4, 512, 1376]⟩
abbrev S4x1376x1024 : Shape := ⟨3, ![4, 1376, 1024]⟩
abbrev S512x1024 : Shape := ⟨2, ![512, 1024]⟩
abbrev S1x1024 : Shape := ⟨2, ![1, 1024]⟩
abbrev S1x512x1376 : Shape := ⟨3, ![1, 512, 1376]⟩
abbrev S512x1376 : Shape := ⟨2, ![512, 1376]⟩
abbrev S1x1376x1024 : Shape := ⟨3, ![1, 1376, 1024]⟩
abbrev S1376x1024 : Shape := ⟨2, ![1376, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4x4096x1376, .bf16⟩
  | .hbm, ⟨1, _⟩ => ⟨S4x1376x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .f32⟩
  | .local _ .vmem, ⟨0, _⟩ => ⟨S4x512x1376, .bf16⟩
  | .local _ .vmem, ⟨1, _⟩ => ⟨S4x512x1376, .bf16⟩
  | .local _ .vmem, ⟨2, _⟩ => ⟨S4x1376x1024, .bf16⟩
  | .local _ .vmem, ⟨3, _⟩ => ⟨S4x1376x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S4x4096x1376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4x512x1376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x1376x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnDownRefIdeal.lean ====
abbrev S4x4096x1376 : Shape := ⟨3, ![4, 4096, 1376]⟩
abbrev S4x1376x2048 : Shape := ⟨3, ![4, 1376, 2048]⟩
abbrev S4096x2048 : Shape := ⟨2, ![4096, 2048]⟩
abbrev S1x2048 : Shape := ⟨2, ![1, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x1376, .bf16⟩
  | .hbm, ⟨1, _⟩ => ⟨S4x1376x2048, .bf16⟩
  | .hbm, ⟨2, _⟩ => ⟨S4096x2048, .f32⟩
  | .hbm, ⟨3, _⟩ => ⟨S1x2048, .f32⟩
  | .hbm, ⟨4, _⟩ => ⟨S4x4096x1376, .f32⟩
  | .hbm, ⟨5, _⟩ => ⟨S4x1376x2048, .f32⟩
  | .hbm, ⟨6, _⟩ => ⟨S4096x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S4096x2048, .f32⟩
  | .hbm, ⟨11, _⟩ => ⟨S4096x2048, .f32⟩
  | .hbm, ⟨12, _⟩ => ⟨S4096x2048, .f32⟩
  | _, _ => ⟨S4x4096x1376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== MixDwOut.lean ====
abbrev S4096x2048 : Shape := ⟨2, ![4096, 2048]⟩
abbrev S2048x2048 : Shape := ⟨2, ![2048, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 4, 2, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== MixDwOutRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixOutBwd.lean ====
abbrev S4096x2048 : Shape := ⟨2, ![4096, 2048]⟩
abbrev S2048x2048 : Shape := ⟨2, ![2048, 2048]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨5, ![1, 8, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg2.toNat, arg4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== MixOutBwdRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixDwIn.lean ====
abbrev S4096x4224 : Shape := ⟨2, ![4096, 4224]⟩
abbrev S4096x2048 : Shape := ⟨2, ![4096, 2048]⟩
abbrev S4224x2048 : Shape := ⟨2, ![4224, 2048]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4224, .bf16⟩
  | .hbm, ⟨1, _⟩ => ⟨S4096x2048, .bf16⟩
  | .hbm, ⟨2, _⟩ => ⟨S4224x2048, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | _, _ => ⟨S4096x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 3, 4, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== MixDwInRefIdeal.lean ====
abbrev S4096x4224 : Shape := ⟨2, ![4096, 4224]⟩
abbrev S4096x2048 : Shape := ⟨2, ![4096, 2048]⟩
abbrev S_ : Shape := ⟨0, ![]⟩
abbrev S4224x2048 : Shape := ⟨2, ![4224, 2048]⟩
abbrev S2048x4224 : Shape := ⟨2, ![2048, 4224]⟩

abbrev nBuf : Space → Nat
  | .hbm => 12
  | .vmem => 0
  | .smem => 0
  | _ => 0

abbrev bufTy : (tb : Table) → Fin (tcTables nBuf tb) → BufTy
  | .hbm, ⟨0, _⟩ => ⟨S4096x4224, .bf16⟩
  | .hbm, ⟨1, _⟩ => ⟨S4096x2048, .bf16⟩
  | .hbm, ⟨2, _⟩ => ⟨S4096x4224, .f32⟩
  | .hbm, ⟨3, _⟩ => ⟨S4096x2048, .f32⟩
  | .hbm, ⟨4, _⟩ => ⟨S_, .f32⟩
  | .hbm, ⟨5, _⟩ => ⟨S4224x2048, .f32⟩
  | .hbm, ⟨6, _⟩ => ⟨S2048x4224, .f32⟩
  | .hbm, ⟨7, _⟩ => ⟨S4096x4224, .f32⟩
  | .hbm, ⟨8, _⟩ => ⟨S4224x2048, .f32⟩
  | .hbm, ⟨9, _⟩ => ⟨S2048x4224, .f32⟩
  | .hbm, ⟨10, _⟩ => ⟨S4224x2048, .f32⟩
  | .hbm, ⟨11, _⟩ => ⟨S4224x2048, .bf16⟩
  | _, _ => ⟨S4096x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MixOut.lean ====
abbrev S4096x2048 : Shape := ⟨2, ![4096, 2048]⟩
abbrev S2048x2048 : Shape := ⟨2, ![2048, 2048]⟩
abbrev S1x2048 : Shape := ⟨2, ![1, 2048]⟩
abbrev S1x4096x2048 : Shape := ⟨3, ![1, 4096, 2048]⟩
abbrev S1x2048x2048 : Shape := ⟨3, ![1, 2048, 2048]⟩
abbrev S1x512x2048 : Shape := ⟨3, ![1, 512, 2048]⟩
abbrev S1x2048x512 : Shape := ⟨3, ![1, 2048, 512]⟩
abbrev S512x512 : Shape := ⟨2, ![512, 512]⟩
abbrev S1x512 : Shape := ⟨2, ![1, 512]⟩
abbrev S512x2048 : Shape := ⟨2, ![512, 2048]⟩
abbrev S2048x512 : Shape := ⟨2, ![2048, 512]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S1x4096x2048, .bf16⟩
  | .hbm, ⟨5, _⟩ => ⟨S1x2048x2048, .bf16⟩
  | .hbm, ⟨6, _⟩ => ⟨S4096x2048, .f32⟩
  | .hbm, ⟨7, _⟩ => ⟨S4096x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MixOutRefIdeal.lean ====
abbrev S4096x2048 : Shape := ⟨2, ![4096, 2048]⟩
abbrev S2048x2048 : Shape := ⟨2, ![2048, 2048]⟩
abbrev S1x2048 : Shape := ⟨2, ![1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MixProj.lean ====
abbrev S4096x2048 : Shape := ⟨2, ![4096, 2048]⟩
abbrev S4224x2048 : Shape := ⟨2, ![4224, 2048]⟩
abbrev S4096x4224 : Shape := ⟨2, ![4096, 4224]⟩
abbrev S512x2048 : Shape := ⟨2, ![512, 2048]⟩
abbrev S1408x2048 : Shape := ⟨2, ![1408, 2048]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4224x2048, .bf16⟩
  | .hbm, ⟨2, _⟩ => ⟨S4096x4224, .f32⟩
  | .local _ .vmem, ⟨0, _⟩ => ⟨S512x2048, .bf16⟩
  | .local _ .vmem, ⟨1, _⟩ => ⟨S512x2048, .bf16⟩
  | .local _ .vmem, ⟨2, _⟩ => ⟨S1408x2048, .bf16⟩
  | .local _ .vmem, ⟨3, _⟩ => ⟨S1408x2048, .bf16⟩
  | .local _ .vmem, ⟨4, _⟩ => ⟨S512x1408, .f32⟩
  | .local _ .vmem, ⟨5, _⟩ => ⟨S512x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 8, 3, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg2.toNat, arg4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== MixProjRefIdeal.lean ====
abbrev S4096x2048 : Shape := ⟨2, ![4096, 2048]⟩
abbrev S4224x2048 : Shape := ⟨2, ![4224, 2048]⟩
abbrev S2048x4224 : Shape := ⟨2, ![2048, 4224]⟩
abbrev S4096x4224 : Shape := ⟨2, ![4096, 4224]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4224x2048, .bf16⟩
  | .hbm, ⟨2, _⟩ => ⟨S4096x2048, .f32⟩
  | .hbm, ⟨3, _⟩ => ⟨S4224x2048, .f32⟩
  | .hbm, ⟨4, _⟩ => ⟨S2048x4224, .f32⟩
  | .hbm, ⟨5, _⟩ => ⟨S4096x4224, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixProjBwd.lean ====
abbrev S4096x4224 : Shape := ⟨2, ![4096, 4224]⟩
abbrev S4224x2048 : Shape := ⟨2, ![4224, 2048]⟩
abbrev S4096x2048 : Shape := ⟨2, ![4096, 2048]⟩
abbrev S512x4224 : Shape := ⟨2, ![512, 4224]⟩
abbrev S4224x512 : Shape := ⟨2, ![4224, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4224, .bf16⟩
  | .hbm, ⟨1, _⟩ => ⟨S4224x2048, .bf16⟩
  | .hbm, ⟨2, _⟩ => ⟨S4096x2048, .f32⟩
  | .local _ .vmem, ⟨0, _⟩ => ⟨S512x4224, .bf16⟩
  | .local _ .vmem, ⟨1, _⟩ => ⟨S512x4224, .bf16⟩
  | .local _ .vmem, ⟨2, _⟩ => ⟨S4224x512, .bf16⟩
  | .local _ .vmem, ⟨3, _⟩ => ⟨S4224x512, .bf16⟩
  | .local _ .vmem, ⟨4, _⟩ => ⟨S512x512, .f32⟩
  | .local _ .vmem, ⟨5, _⟩ => ⟨S512x512, .f32⟩
  | _, _ => ⟨S4096x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 8, 4, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S512x4224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== MixProjBwdRefIdeal.lean ====
abbrev S4096x4224 : Shape := ⟨2, ![4096, 4224]⟩
abbrev S4224x2048 : Shape := ⟨2, ![4224, 2048]⟩
abbrev S_ : Shape := ⟨0, ![]⟩
abbrev S4096x2048 : Shape := ⟨2, ![4096, 2048]⟩
abbrev S2048x4224 : Shape := ⟨2, ![2048, 4224]⟩

abbrev nBuf : Space → Nat
  | .hbm => 9
  | .vmem => 0
  | .smem => 0
  | _ => 0

abbrev bufTy : (tb : Table) → Fin (tcTables nBuf tb) → BufTy
  | .hbm, ⟨0, _⟩ => ⟨S4096x4224, .bf16⟩
  | .hbm, ⟨1, _⟩ => ⟨S4224x2048, .bf16⟩
  | .hbm, ⟨2, _⟩ => ⟨S4096x4224, .f32⟩
  | .hbm, ⟨3, _⟩ => ⟨S4224x2048, .f32⟩
  | .hbm, ⟨4, _⟩ => ⟨S_, .f32⟩
  | .hbm, ⟨5, _⟩ => ⟨S4096x2048, .f32⟩
  | .hbm, ⟨6, _⟩ => ⟨S2048x4224, .f32⟩
  | .hbm, ⟨7, _⟩ => ⟨S4096x4224, .f32⟩
  | .hbm, ⟨8, _⟩ => ⟨S4096x2048, .f32⟩
  | _, _ => ⟨S4096x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== QkNormBwd.lean ====
abbrev S4096x4224 : Shape := ⟨2, ![4096, 4224]⟩
abbrev S4096x1024 : Shape := ⟨2, ![4096, 1024]⟩
abbrev S1x128 : Shape := ⟨2, ![1, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S128 : Shape := ⟨1, ![128]⟩

abbrev nBuf : Space → Nat
  | .hbm => 9
  | .vmem => 16
  | .smem => 0
  | _ => 0

abbrev bufTy : (tb : Table) → Fin (tcTables nBuf tb) → BufTy
  | .hbm, ⟨0, _⟩ => ⟨S4096x4224, .f32⟩
  | .hbm, ⟨1, _⟩ => ⟨S4096x1024, .f32⟩
  | .hbm, ⟨2, _⟩ => ⟨S4096x1024, .f32⟩
  | .hbm, ⟨3, _⟩ => ⟨S1x128, .f32⟩
  | .hbm, ⟨4, _⟩ => ⟨S1x128, .f32⟩
  | .hbm, ⟨5, _⟩ => ⟨S4096x1024, .bf16⟩
  | .hbm, ⟨6, _⟩ => ⟨S4096x1024, .bf16⟩
  | .hbm, ⟨7, _⟩ => ⟨S1x128, .f32⟩
  | .hbm, ⟨8, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x128, .f32⟩
  | .local _ .vmem, ⟨9, _⟩ => ⟨S1x128, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S1x128, .f32⟩
  | .local _ .vmem, ⟨15, _⟩ => ⟨S1x128, .f32⟩
  | _, _ => ⟨S4096x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v462 : BitVec 1 := Scalar.cmpi .eq arg0 c0_i32
  let v463 : BitVec 32 := Scalar.extui v462
  let c0_i32_112 : BitVec 32 := 0#32
  let v464 : BitVec 1 := Scalar.cmpi .ne v463 c0_i32_112
  v464

def k0_cond2 (i : grid0.Coords) : BitVec 1 :=
  let arg0 : BitVec 32 := BitVec.ofNat 32 (i 0).val
  let c0_i32_113 : BitVec 32 := 0#32
  let v465 : BitVec 1 := Scalar.cmpi .sgt arg0 c0_i32_113
  let v466 : BitVec 32 := Scalar.extui v465
  let c0_i32_114 : BitVec 32 := 0#32
  let v467 : BitVec 1 := Scalar.cmpi .ne v466 c0_i32_114
  v467

def k0_cond3 (i : grid0.Coords) : BitVec 1 :=
  let arg0 : BitVec 32 := BitVec.ofNat 32 (i 0).val
  let c0_i32_115 : BitVec 32 := 0#32
  let v468 : BitVec 1 := Scalar.cmpi .eq arg0 c0_i32_115
  let v469 : BitVec 32 := Scalar.extui v468
  let c0_i32_116 : BitVec 32 := 0#32
  let v470 : BitVec 1 := Scalar.cmpi .ne v469 c0_i32_116
  v470

def k0_cond4 (i : grid0.Coords) : BitVec 1 :=
  let arg0 : BitVec 32 := BitVec.ofNat 32 (i 0).val
  let c0_i32_117 : BitVec 32 := 0#32
  let v471 : BitVec 1 := Scalar.cmpi .sgt arg0 c0_i32_117
  let v472 : BitVec 32 := Scalar.extui v471
  let c0_i32_118 : BitVec 32 := 0#32
  let v473 : BitVec 1 := Scalar.cmpi .ne v472 c0_i32_118
  v473

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== QkNormBwdRefIdeal.lean ====
abbrev S4096x4224 : Shape := ⟨2, ![4096, 4224]⟩
abbrev S4096x1024 : Shape := ⟨2, ![4096, 1024]⟩
abbrev S1x128 : Shape := ⟨2, ![1, 128]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩
abbrev S128 : Shape := ⟨1, ![128]⟩

abbrev nBuf : Space → Nat
  | .hbm => 109
  | .vmem => 0
  | .smem => 0
  | _ => 0

abbrev bufTy : (tb : Table) → Fin (tcTables nBuf tb) → BufTy
  | .hbm, ⟨0, _⟩ => ⟨S4096x4224, .f32⟩
  | .hbm, ⟨1, _⟩ => ⟨S4096x1024, .f32⟩
  | .hbm, ⟨2, _⟩ => ⟨S4096x1024, .f32⟩
  | .hbm, ⟨3, _⟩ => ⟨S1x128, .f32⟩
  | .hbm, ⟨4, _⟩ => ⟨S1x128, .f32⟩
  | .hbm, ⟨5, _⟩ => ⟨S4096x1024, .f32⟩
  | .hbm, ⟨6, _⟩ => ⟨S4096x1024, .f32⟩
  | .hbm, ⟨7, _⟩ => ⟨S4096x8x128, .f32⟩
  | .hbm, ⟨8, _⟩ => ⟨S4096x8x128, .f32⟩
  | .hbm, ⟨9, _⟩ => ⟨S_, .f32⟩
  | .hbm, ⟨10, _⟩ => ⟨S4096x8, .f32⟩
  | .hbm, ⟨11, _⟩ => ⟨S4096x8x1, .f32⟩
  | .hbm, ⟨12, _⟩ => ⟨S_, .f32⟩
  | .hbm, ⟨13, _⟩ => ⟨S4096x8x1, .f32⟩
  | .hbm, ⟨14, _⟩ => ⟨S4096x8x1, .f32⟩
  | .hbm, ⟨15, _⟩ => ⟨S_, .f32⟩
  | .hbm, ⟨16, _⟩ => ⟨S4096x8x1, .f32⟩
  | .hbm, ⟨17, _⟩ => ⟨S4096x8x1, .f32⟩
  | .hbm, ⟨18, _⟩ => ⟨S4096x8x1, .f32⟩
  | .hbm, ⟨19, _⟩ => ⟨S4096x8x1, .f32⟩
  | .hbm, ⟨20, _⟩ => ⟨S_, .f32⟩
  | .hbm, ⟨21, _⟩ => ⟨S4096x8x1, .f32⟩
  | .hbm, ⟨22, _⟩ => ⟨S4096x8x1, .f32⟩
  | .hbm, ⟨23, _⟩ => ⟨S4096x8x128, .f32⟩
  | .hbm, ⟨24, _⟩ => ⟨S4096x8x128, .f32⟩
  | .hbm, ⟨25, _⟩ => ⟨S1x1x128, .f32⟩
  | .hbm, ⟨26, _⟩ => ⟨S4096x8x128, .f32⟩
  | .hbm, ⟨27, _⟩ => ⟨S4096x8x128, .f32⟩
  | .hbm, ⟨28, _⟩ => ⟨S4096x1024, .f32⟩
  | .hbm, ⟨29, _⟩ => ⟨S4096x8x128, .f32⟩
  | .hbm, ⟨30, _⟩ => ⟨S4096x8x128, .f32⟩
  | .hbm, ⟨31, _⟩ => ⟨S_, .f32⟩
  | .hbm, ⟨32, _⟩ => ⟨S4096x8, .f32⟩
  | .hbm, ⟨33, _⟩ => ⟨S4096x8x1, .f32⟩
  | .hbm, ⟨34, _⟩ => ⟨S_, .f32⟩
  | .hbm, ⟨35, _⟩ => ⟨S4096x8x1, .f32⟩
  | .hbm, ⟨36, _⟩ => ⟨S4096x8x1, .f32⟩
  | .hbm, ⟨37, _⟩ => ⟨S_, .f32⟩
  | .hbm, ⟨38, _⟩ => ⟨S4096x8x1, .f32⟩
  | .hbm, ⟨39, _⟩ => ⟨S4096x8x1, .f32⟩
  | .hbm, ⟨40, _⟩ => ⟨S4096x8x1, .f32⟩
  | .hbm, ⟨41, _⟩ => ⟨S4096x8x1, .f32⟩
  | .hbm, ⟨42, _⟩ => ⟨S_, .f32⟩
  | .hbm, ⟨43, _⟩ => ⟨S4096x8x1, .f32⟩
  | .hbm, ⟨44, _⟩ => ⟨S4096x8x1, .f32⟩
  | .hbm, ⟨45, _⟩ => ⟨S4096x8x128, .f32⟩
  | .hbm, ⟨46, _⟩ => ⟨S4096x8x128, .f32⟩
  | .hbm, ⟨47, _⟩ => ⟨S1x1x128, .f32⟩
  | .hbm, ⟨48, _⟩ => ⟨S4096x8x128, .f32⟩
  | .hbm, ⟨49, _⟩ => ⟨S4096x8x128, .f32⟩
  | .hbm, ⟨50, _⟩ => ⟨S4096x1024, .f32⟩
  | .hbm, ⟨51, _⟩ => ⟨S4096x8x128, .f32⟩
  | .hbm, ⟨52, _⟩ => ⟨S4096x8x128, .f32⟩
  | .hbm, ⟨53, _⟩ => ⟨S_, .f32⟩
  | .hbm, ⟨54, _⟩ => ⟨S128, .f32⟩
  | .hbm, ⟨55, _⟩ => ⟨S1x1x128, .f32⟩
  | .hbm, ⟨56, _⟩ => ⟨S4096x8x128, .f32⟩
  | .hbm, ⟨57, _⟩ => ⟨S4096x8x128, .f32⟩
  | .hbm, ⟨58, _⟩ => ⟨S_, .f32⟩
  | .hbm, ⟨59, _⟩ => ⟨S128, .f32⟩
  | .hbm, ⟨60, _⟩ => ⟨S1x128, .f32⟩
  | .hbm, ⟨61, _⟩ => ⟨S4096x8x128, .f32⟩
  | .hbm, ⟨62, _⟩ => ⟨S_, .f32⟩
  | .hbm, ⟨63, _⟩ => ⟨S4096x8, .f32⟩
  | .hbm, ⟨64, _⟩ => ⟨S4096x8x1, .f32⟩
  | .hbm, ⟨65, _⟩ => ⟨S4096x8x128, .f32⟩
  | .hbm, ⟨66, _⟩ => ⟨S4096x8x128, .f32⟩
  | .hbm, ⟨67, _⟩ => ⟨S4096x8x1, .f32⟩
  | .hbm, ⟨68, _⟩ => ⟨S_, .f32⟩
  | .hbm, ⟨69, _⟩ => ⟨S4096x8x1, .f32⟩
  | .hbm, ⟨70, _⟩ => ⟨S4096x8x1, .f32⟩
  | .hbm, ⟨71, _⟩ => ⟨S_, .f32⟩
  | .hbm, ⟨72, _⟩ => ⟨S4096x8, .f32⟩
  | .hbm, ⟨73, _⟩ => ⟨S4096x8x128, .f32⟩
  | .hbm, ⟨74, _⟩ => ⟨S4096x8x128, .f32⟩
  | .hbm, ⟨75, _⟩ => ⟨S4096x8x128, .f32⟩
  | .hbm, ⟨76, _⟩ => ⟨S4096x8x128, .f32⟩
  | .hbm, ⟨77, _⟩ => ⟨S4096x8x128, .f32⟩
  | .hbm, ⟨78, _⟩ => ⟨S4096x1024, .f32⟩
  | .hbm, ⟨79, _⟩ => ⟨S4096x8x128, .f32⟩
  | .hbm, ⟨80, _⟩ => ⟨S4096x8x128, .f32⟩
  | .hbm, ⟨81, _⟩ => ⟨S_, .f32⟩
  | .hbm, ⟨82, _⟩ => ⟨S128, .f32⟩
  | .hbm, ⟨83, _⟩ => ⟨S1x1x128, .f32⟩
  | .hbm, ⟨84, _⟩ => ⟨S4096x8x128, .f32⟩
  | .hbm, ⟨85, _⟩ => ⟨S4096x8x128, .f32⟩
  | .hbm, ⟨86, _⟩ => ⟨S_, .f32⟩
  | .hbm, ⟨87, _⟩ => ⟨S128, .f32⟩
  | .hbm, ⟨88, _⟩ => ⟨S1x128, .f32⟩
  | .hbm, ⟨89, _⟩ => ⟨S4096x8x128, .f32⟩
  | .hbm, ⟨90, _⟩ => ⟨S_, .f32⟩
  | .hbm, ⟨91, _⟩ => ⟨S4096x8, .f32⟩
  | .hbm, ⟨92, _⟩ => ⟨S4096x8x1, .f32⟩
  | .hbm, ⟨93, _⟩ => ⟨S4096x8x128, .f32⟩
  | .hbm, ⟨94, _⟩ => ⟨S4096x8x128, .f32⟩
  | .hbm, ⟨95, _⟩ => ⟨S4096x8x1, .f32⟩
  | .hbm, ⟨96, _⟩ => ⟨S_, .f32⟩
  | .hbm, ⟨97, _⟩ => ⟨S4096x8x1, .f32⟩
  | .hbm, ⟨98, _⟩ => ⟨S4096x8x1, .f32⟩
  | .hbm, ⟨99, _⟩ => ⟨S_, .f32⟩
  | .hbm, ⟨100, _⟩ => ⟨S4096x8, .f32⟩
  | .hbm, ⟨101, _⟩ => ⟨S4096x8x128, .f32⟩
  | .hbm, ⟨102, _⟩ => ⟨S4096x8x128, .f32⟩
  | .hbm, ⟨103, _⟩ => ⟨S4096x8x128, .f32⟩
  | .hbm, ⟨104, _⟩ => ⟨S4096x8x128, .f32⟩
  | .hbm, ⟨105, _⟩ => ⟨S4096x8x128, .f32⟩
  | .hbm, ⟨106, _⟩ => ⟨S4096x1024, .f32⟩
  | .hbm, ⟨107, _⟩ => ⟨S4096x1024, .bf16⟩
  | .hbm, ⟨108, _⟩ => ⟨S4096x1024, .bf16⟩
  | _, _ => ⟨S4096x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_12 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_13 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_14 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_15 : Ref sig .tc := ⟨.hbm, 96, rfl⟩
abbrev main_v75 : Ref sig .tc := ⟨.hbm, 97, rfl⟩
abbrev main_v76 : Ref sig .tc := ⟨.hbm, 98, rfl⟩
abbrev main_cst_16 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩

abbrev nD : Nat := 1
abbrev τ : Topo := Topo.v7x

variable {F : FTy → Type} [FloatOps F]
-- ==== AttnDelta.lean ====
abbrev S4096x1024 : Shape := ⟨2, ![4096, 1024]⟩
abbrev S4096x2048 : Shape := ⟨2, ![4096, 2048]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AttnDeltaRefIdeal.lean ====
abbrev S4096x1024 : Shape := ⟨2, ![4096, 1024]⟩
abbrev S4096x2048 : Shape := ⟨2, ![4096, 2048]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x8x128, .f32⟩
  | .hbm, ⟨3, _⟩ => ⟨S4096x1024, .f32⟩
  | .hbm, ⟨4, _⟩ => ⟨S4096x8x128, .f32⟩
  | .hbm, ⟨5, _⟩ => ⟨S4096x8x128, .f32⟩
  | .hbm, ⟨6, _⟩ => ⟨S_, .f32⟩
  | .hbm, ⟨7, _⟩ => ⟨S4096x8, .f32⟩
  | .hbm, ⟨8, _⟩ => ⟨S4096x8x1, .f32⟩
  | .hbm, ⟨9, _⟩ => ⟨S4096x8x128, .f32⟩
  | .hbm, ⟨10, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Norm1Bwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_19 : BitVec 32 := 0#32
  let v45 : BitVec 1 := Scalar.cmpi .ne v44 c0_i32_19
  v45

def k0_cond2 (i : grid0.Coords) : BitVec 1 :=
  let arg0 : BitVec 32 := BitVec.ofNat 32 (i 0).val
  let c0_i32_20 : BitVec 32 := 0#32
  let v46 : BitVec 1 := Scalar.cmpi .sgt arg0 c0_i32_20
  let v47 : BitVec 32 := Scalar.extui v46
  let c0_i32_21 : BitVec 32 := 0#32
  let v48 : BitVec 1 := Scalar.cmpi .ne v47 c0_i32_21
  v48

def k0_cond3 (i : grid0.Coords) : BitVec 1 :=
  let arg0 : BitVec 32 := BitVec.ofNat 32 (i 0).val
  let c0_i32_22 : BitVec 32 := 0#32
  let v49 : BitVec 1 := Scalar.cmpi .eq arg0 c0_i32_22
  let v50 : BitVec 32 := Scalar.extui v49
  let c0_i32_23 : BitVec 32 := 0#32
  let v51 : BitVec 1 := Scalar.cmpi .ne v50 c0_i32_23
  v51

def k0_cond4 (i : grid0.Coords) : BitVec 1 :=
  let arg0 : BitVec 32 := BitVec.ofNat 32 (i 0).val
  let c0_i32_24 : BitVec 32 := 0#32
  let v52 : BitVec 1 := Scalar.cmpi .sgt arg0 c0_i32_24
  let v53 : BitVec 32 := Scalar.extui v52
  let c0_i32_25 : BitVec 32 := 0#32
  let v54 : BitVec 1 := Scalar.cmpi .ne v53 c0_i32_25
  v54

def k0_cond5 (i : grid0.Coords) : BitVec 1 :=
  let arg0 : BitVec 32 := BitVec.ofNat 32 (i 0).val
  let c0_i32_26 : BitVec 32 := 0#32
  let v55 : BitVec 1 := Scalar.cmpi .eq arg0 c0_i32_26
  let v56 : BitVec 32 := Scalar.extui v55
  let c0_i32_27 : BitVec 32 := 0#32
  let v57 : BitVec 1 := Scalar.cmpi .ne v56 c0_i32_27
  v57

def k0_cond6 (i : grid0.Coords) : BitVec 1 :=
  let arg0 : BitVec 32 := BitVec.ofNat 32 (i 0).val
  let c0_i32_28 : BitVec 32 := 0#32
  let v58 : BitVec 1 := Scalar.cmpi .sgt arg0 c0_i32_28
  let v59 : BitVec 32 := Scalar.extui v58
  let c0_i32_29 : BitVec 32 := 0#32
  let v60 : BitVec 1 := Scalar.cmpi .ne v59 c0_i32_29
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Norm1BwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 67
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S4096x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Norm2Bwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 13
  | .vmem => 19
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S4096x2048, .bf16⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v56 : BitVec 1 := Scalar.cmpi .eq arg0 c0_i32
  let v57 : BitVec 32 := Scalar.extui v56
  let c0_i32_28 : BitVec 32 := 0#32
  let v58 : BitVec 1 := Scalar.cmpi .ne v57 c0_i32_28
  v58

def k0_cond2 (i : grid0.Coords) : BitVec 1 :=
  let arg0 : BitVec 32 := BitVec.ofNat 32 (i 0).val
  let c0_i32_29 : BitVec 32 := 0#32
  let v59 : BitVec 1 := Scalar.cmpi .sgt arg0 c0_i32_29
  let v60 : BitVec 32 := Scalar.extui v59
  let c0_i32_30 : BitVec 32 := 0#32
  let v61 : BitVec 1 := Scalar.cmpi .ne v60 c0_i32_30
  v61

def k0_cond3 (i : grid0.Coords) : BitVec 1 :=
  let arg0 : BitVec 32 := BitVec.ofNat 32 (i 0).val
  let c0_i32_31 : BitVec 32 := 0#32
  let v62 : BitVec 1 := Scalar.cmpi .eq arg0 c0_i32_31
  let v63 : BitVec 32 := Scalar.extui v62
  let c0_i32_32 : BitVec 32 := 0#32
  let v64 : BitVec 1 := Scalar.cmpi .ne v63 c0_i32_32
  v64

def k0_cond4 (i : grid0.Coords) : BitVec 1 :=
  let arg0 : BitVec 32 := BitVec.ofNat 32 (i 0).val
  let c0_i32_33 : BitVec 32 := 0#32
  let v65 : BitVec 1 := Scalar.cmpi .sgt arg0 c0_i32_33
  let v66 : BitVec 32 := Scalar.extui v65
  let c0_i32_34 : BitVec 32 := 0#32
  let v67 : BitVec 1 := Scalar.cmpi .ne v66 c0_i32_34
  v67

def k0_cond5 (i : grid0.Coords) : BitVec 1 :=
  let arg0 : BitVec 32 := BitVec.ofNat 32 (i 0).val
  let c0_i32_35 : BitVec 32 := 0#32
  let v68 : BitVec 1 := Scalar.cmpi .eq arg0 c0_i32_35
  let v69 : BitVec 32 := Scalar.extui v68
  let c0_i32_36 : BitVec 32 := 0#32
  let v70 : BitVec 1 := Scalar.cmpi .ne v69 c0_i32_36
  v70

def k0_cond6 (i : grid0.Coords) : BitVec 1 :=
  let arg0 : BitVec 32 := BitVec.ofNat 32 (i 0).val
  let c0_i32_37 : BitVec 32 := 0#32
  let v71 : BitVec 1 := Scalar.cmpi .sgt arg0 c0_i32_37
  let v72 : BitVec 32 := Scalar.extui v71
  let c0_i32_38 : BitVec 32 := 0#32
  let v73 : BitVec 1 := Scalar.cmpi .ne v72 c0_i32_38
  v73

def k0_cond7 (i : grid0.Coords) : BitVec 1 :=
  let arg0 : BitVec 32 := BitVec.ofNat 32 (i 0).val
  let c0_i32_39 : BitVec 32 := 0#32
  let v74 : BitVec 1 := Scalar.cmpi .eq arg0 c0_i32_39
  let v75 : BitVec 32 := Scalar.extui v74
  let c0_i32_40 : BitVec 32 := 0#32
  let v76 : BitVec 1 := Scalar.cmpi .ne v75 c0_i32_40
  v76

def k0_cond8 (i : grid0.Coords) : BitVec 1 :=
  let arg0 : BitVec 32 := BitVec.ofNat 32 (i 0).val
  let c0_i32_41 : BitVec 32 := 0#32
  let v77 : BitVec 1 := Scalar.cmpi .sgt arg0 c0_i32_41
  let v78 : BitVec 32 := Scalar.extui v77
  let c0_i32_42 : BitVec 32 := 0#32
  let v79 : BitVec 1 := Scalar.cmpi .ne v78 c0_i32_42
  v79

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Norm2BwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 84
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S4096x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S_, .f32⟩
  | .hbm, ⟨70, _⟩ => ⟨S1x2048, .f32⟩
  | .hbm, ⟨71, _⟩ => ⟨S1x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S_, .f32⟩
  | .hbm, ⟨78, _⟩ => ⟨S2048, .f32⟩
  | .hbm, ⟨79, _⟩ => ⟨S1x2048, .f32⟩
  | .hbm, ⟨80, _⟩ => ⟨S_, .f32⟩
  | .hbm, ⟨81, _⟩ => ⟨S1x2048, .f32⟩
  | .hbm, ⟨82, _⟩ => ⟨S1x2048, .f32⟩
  | .hbm, ⟨83, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_cst_13 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]
-- ==== NormFwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormFwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== AttnFwd.lean ====
abbrev S4096x1024 : Shape := ⟨2, ![4096, 1024]⟩
abbrev S4096x128 : Shape := ⟨2, ![4096, 128]⟩
abbrev S4096x8 : Shape := ⟨2, ![4096, 8]⟩
abbrev S8x4096 : Shape := ⟨2, ![8, 4096]⟩
abbrev S512x256 : Shape := ⟨2, ![512, 256]⟩
abbrev S512x128 : Shape := ⟨2, ![512, 128]⟩
abbrev S8x512 : Shape := ⟨2, ![8, 512]⟩
abbrev S2x512x1 : Shape := ⟨3, ![2, 512, 1]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x512 : Shape := ⟨2, ![1, 512]⟩
abbrev S1x512x1 : Shape := ⟨3, ![1, 512, 1]⟩

abbrev nBuf : Space → Nat
  | .hbm => 8
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x128, .f32⟩
  | .hbm, ⟨4, _⟩ => ⟨S4096x8, .f32⟩
  | .hbm, ⟨5, _⟩ => ⟨S8x4096, .f32⟩
  | .hbm, ⟨6, _⟩ => ⟨S4096x1024, .f32⟩
  | .hbm, ⟨7, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x128, .f32⟩
  | .local _ .vmem, ⟨7, _⟩ => ⟨S512x128, .f32⟩
  | .local _ .vmem, ⟨8, _⟩ => ⟨S8x512, .f32⟩
  | .local _ .vmem, ⟨9, _⟩ => ⟨S8x512, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S2x512x1, .f32⟩
  | .local _ .vmem, ⟨15, _⟩ => ⟨S2x512x1, .f32⟩
  | .local _ .vmem, ⟨16, _⟩ => ⟨S512x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 36], ![false, false]⟩

def k0_cond3 (i : grid0.Coords) : BitVec 1 :=
  let arg1 : BitVec 32 := BitVec.ofNat 32 (i 1).val
  let c0_i32 : BitVec 32 := 0#32
  let c1_i32 : BitVec 32 := 1#32
  let v0 : BitVec 1 := Scalar.cmpi .sge arg1 c1_i32
  let v1 : BitVec 32 := Scalar.extui v0
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c10_i32 : BitVec 32 := 10#32
  let v9 : BitVec 1 := Scalar.cmpi .sge arg1 c10_i32
  let v10 : BitVec 32 := Scalar.extui v9
  let v11 : BitVec 32 := Scalar.addi v8 v10
  let c15_i32 : BitVec 32 := 15#32
  let v12 : BitVec 1 := Scalar.cmpi .sge arg1 c15_i32
  let v13 : BitVec 32 := Scalar.extui v12
  let v14 : BitVec 32 := Scalar.addi v11 v13
  let c21_i32 : BitVec 32 := 21#32
  let v15 : BitVec 1 := Scalar.cmpi .sge arg1 c21_i32
  let v16 : BitVec 32 := Scalar.extui v15
  let v17 : BitVec 32 := Scalar.addi v14 v16
  let c28_i32 : BitVec 32 := 28#32
  let v18 : BitVec 1 := Scalar.cmpi .sge arg1 c28_i32
  let v19 : BitVec 32 := Scalar.extui v18
  let v20 : BitVec 32 := Scalar.addi v17 v19
  let c1_i32_0 : BitVec 32 := 1#32
  let v21 : BitVec 32 := Scalar.addi v20 c1_i32_0
  let v22 : BitVec 32 := Scalar.muli v20 v21
  let c0_i32_1 : BitVec 32 := 0#32
  let v24 : BitVec 1 := Scalar.cmpi .sgt v22 c0_i32_1
  let v25 : BitVec 32 := Scalar.extui v24
  let c0_i32_2 : BitVec 32 := 0#32
  let v26 : BitVec 1 := Scalar.cmpi .slt v22 c0_i32_2
  let v27 : BitVec 32 := Scalar.extui v26
  let v28 : BitVec 32 := Scalar.subi v25 v27
  let c2_i32 : BitVec 32 := 2#32
  let c0_i32_3 : BitVec 32 := 0#32
  let v29 : BitVec 1 := Scalar.cmpi .sgt c2_i32 c0_i32_3
  let v30 : BitVec 32 := Scalar.extui v29
  let c0_i32_4 : BitVec 32 := 0#32
  let v31 : BitVec 1 := Scalar.cmpi .slt c2_i32 c0_i32_4
  let v32 : BitVec 32 := Scalar.extui v31
  let v33 : BitVec 32 := Scalar.subi v30 v32
  let v34 : BitVec 1 := Scalar.cmpi .ne v28 v33
  let v35 : BitVec 32 := Scalar.remsi v22 c2_i32
  let c0_i32_5 : BitVec 32 := 0#32
  let v36 : BitVec 1 := Scalar.cmpi .ne v35 c0_i32_5
  let v37 : BitVec 1 := Scalar.andi v34 v36
  let v23 : BitVec 32 := Scalar.divsi v22 c2_i32
  let c1_i32_6 : BitVec 32 := 1#32
  let v38 : BitVec 32 := Scalar.subi v23 c1_i32_6
  let v39 : BitVec 32 := Scalar.select v37 v38 v23
  let v40 : BitVec 32 := Scalar.subi arg1 v39
  let v47 : BitVec 1 := Scalar.cmpi .eq v40 v20
  let v48 : BitVec 32 := Scalar.extui v47
  let c0_i32_10 : BitVec 32 := 0#32
  let v49 : BitVec 1 := Scalar.cmpi .ne v48 c0_i32_10
  v49

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c10_i32 : BitVec 32 := 10#32
  let v9 : BitVec 1 := Scalar.cmpi .sge arg1 c10_i32
  let v10 : BitVec 32 := Scalar.extui v9
  let v11 : BitVec 32 := Scalar.addi v8 v10
  let c15_i32 : BitVec 32 := 15#32
  let v12 : BitVec 1 := Scalar.cmpi .sge arg1 c15_i32
  let v13 : BitVec 32 := Scalar.extui v12
  let v14 : BitVec 32 := Scalar.addi v11 v13
  let c21_i32 : BitVec 32 := 21#32
  let v15 : BitVec 1 := Scalar.cmpi .sge arg1 c21_i32
  let v16 : BitVec 32 := Scalar.extui v15
  let v17 : BitVec 32 := Scalar.addi v14 v16
  let c28_i32 : BitVec 32 := 28#32
  let v18 : BitVec 1 := Scalar.cmpi .sge arg1 c28_i32
  let v19 : BitVec 32 := Scalar.extui v18
  let v20 : BitVec 32 := Scalar.addi v17 v19
  let c1_i32_0 : BitVec 32 := 1#32
  let v21 : BitVec 32 := Scalar.addi v20 c1_i32_0
  let v22 : BitVec 32 := Scalar.muli v20 v21
  let c2_i32 : BitVec 32 := 2#32
  let v23 : BitVec 32 := Scalar.divsi v22 c2_i32
  let c0_i32_1 : BitVec 32 := 0#32
  let v24 : BitVec 1 := Scalar.cmpi .sgt v22 c0_i32_1
  let v25 : BitVec 32 := Scalar.extui v24
  let c0_i32_2 : BitVec 32 := 0#32
  let v26 : BitVec 1 := Scalar.cmpi .slt v22 c0_i32_2
  let v27 : BitVec 32 := Scalar.extui v26
  let v28 : BitVec 32 := Scalar.subi v25 v27
  let c0_i32_3 : BitVec 32 := 0#32
  let v29 : BitVec 1 := Scalar.cmpi .sgt c2_i32 c0_i32_3
  let v30 : BitVec 32 := Scalar.extui v29
  let c0_i32_4 : BitVec 32 := 0#32
  let v31 : BitVec 1 := Scalar.cmpi .slt c2_i32 c0_i32_4
  let v32 : BitVec 32 := Scalar.extui v31
  let v33 : BitVec 32 := Scalar.subi v30 v32
  let v34 : BitVec 1 := Scalar.cmpi .ne v28 v33
  let v35 : BitVec 32 := Scalar.remsi v22 c2_i32
  let c0_i32_5 : BitVec 32 := 0#32
  let v36 : BitVec 1 := Scalar.cmpi .ne v35 c0_i32_5
  let v37 : BitVec 1 := Scalar.andi v34 v36
  let c1_i32_6 : BitVec 32 := 1#32
  let v38 : BitVec 32 := Scalar.subi v23 c1_i32_6
  let v39 : BitVec 32 := Scalar.select v37 v38 v23
  let v40 : BitVec 32 := Scalar.subi arg1 v39
  let c0_i32_7 : BitVec 32 := 0#32
  ![v20.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c10_i32 : BitVec 32 := 10#32
  let v9 : BitVec 1 := Scalar.cmpi .sge arg1 c10_i32
  let v10 : BitVec 32 := Scalar.extui v9
  let v11 : BitVec 32 := Scalar.addi v8 v10
  let c15_i32 : BitVec 32 := 15#32
  let v12 : BitVec 1 := Scalar.cmpi .sge arg1 c15_i32
  let v13 : BitVec 32 := Scalar.extui v12
  let v14 : BitVec 32 := Scalar.addi v11 v13
  let c21_i32 : BitVec 32 := 21#32
  let v15 : BitVec 1 := Scalar.cmpi .sge arg1 c21_i32
  let v16 : BitVec 32 := Scalar.extui v15
  let v17 : BitVec 32 := Scalar.addi v14 v16
  let c28_i32 : BitVec 32 := 28#32
  let v18 : BitVec 1 := Scalar.cmpi .sge arg1 c28_i32
  let v19 : BitVec 32 := Scalar.extui v18
  let v20 : BitVec 32 := Scalar.addi v17 v19
  let c1_i32_0 : BitVec 32 := 1#32
  let v21 : BitVec 32 := Scalar.addi v20 c1_i32_0
  let v22 : BitVec 32 := Scalar.muli v20 v21
  let c2_i32 : BitVec 32 := 2#32
  let v23 : BitVec 32 := Scalar.divsi v22 c2_i32
  let c0_i32_1 : BitVec 32 := 0#32
  let v24 : BitVec 1 := Scalar.cmpi .sgt v22 c0_i32_1
  let v25 : BitVec 32 := Scalar.extui v24
  let c0_i32_2 : BitVec 32 := 0#32
  let v26 : BitVec 1 := Scalar.cmpi .slt v22 c0_i32_2
  let v27 : BitVec 32 := Scalar.extui v26
  let v28 : BitVec 32 := Scalar.subi v25 v27
  let c0_i32_3 : BitVec 32 := 0#32
  let v29 : BitVec 1 := Scalar.cmpi .sgt c2_i32 c0_i32_3
  let v30 : BitVec 32 := Scalar.extui v29
  let c0_i32_4 : BitVec 32 := 0#32
  let v31 : BitVec 1 := Scalar.cmpi .slt c2_i32 c0_i32_4
  let v32 : BitVec 32 := Scalar.extui v31
  let v33 : BitVec 32 := Scalar.subi v30 v32
  let v34 : BitVec 1 := Scalar.cmpi .ne v28 v33
  let v35 : BitVec 32 := Scalar.remsi v22 c2_i32
  let c0_i32_5 : BitVec 32 := 0#32
  let v36 : BitVec 1 := Scalar.cmpi .ne v35 c0_i32_5
  let v37 : BitVec 1 := Scalar.andi v34 v36
  let c1_i32_6 : BitVec 32 := 1#32
  let v38 : BitVec 32 := Scalar.subi v23 c1_i32_6
  let v39 : BitVec 32 := Scalar.select v37 v38 v23
  let v40 : BitVec 32 := Scalar.subi arg1 v39
  let c0_i32_7 : BitVec 32 := 0#32
  ![v40.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c10_i32 : BitVec 32 := 10#32
  let v9 : BitVec 1 := Scalar.cmpi .sge arg1 c10_i32
  let v10 : BitVec 32 := Scalar.extui v9
  let v11 : BitVec 32 := Scalar.addi v8 v10
  let c15_i32 : BitVec 32 := 15#32
  let v12 : BitVec 1 := Scalar.cmpi .sge arg1 c15_i32
  let v13 : BitVec 32 := Scalar.extui v12
  let v14 : BitVec 32 := Scalar.addi v11 v13
  let c21_i32 : BitVec 32 := 21#32
  let v15 : BitVec 1 := Scalar.cmpi .sge arg1 c21_i32
  let v16 : BitVec 32 := Scalar.extui v15
  let v17 : BitVec 32 := Scalar.addi v14 v16
  let c28_i32 : BitVec 32 := 28#32
  let v18 : BitVec 1 := Scalar.cmpi .sge arg1 c28_i32
  let v19 : BitVec 32 := Scalar.extui v18
  let v20 : BitVec 32 := Scalar.addi v17 v19
  let c1_i32_0 : BitVec 32 := 1#32
  let v21 : BitVec 32 := Scalar.addi v20 c1_i32_0
  let v22 : BitVec 32 := Scalar.muli v20 v21
  let c2_i32 : BitVec 32 := 2#32
  let v23 : BitVec 32 := Scalar.divsi v22 c2_i32
  let c0_i32_1 : BitVec 32 := 0#32
  let v24 : BitVec 1 := Scalar.cmpi .sgt v22 c0_i32_1
  let v25 : BitVec 32 := Scalar.extui v24
  let c0_i32_2 : BitVec 32 := 0#32
  let v26 : BitVec 1 := Scalar.cmpi .slt v22 c0_i32_2
  let v27 : BitVec 32 := Scalar.extui v26
  let v28 : BitVec 32 := Scalar.subi v25 v27
  let c0_i32_3 : BitVec 32 := 0#32
  let v29 : BitVec 1 := Scalar.cmpi .sgt c2_i32 c0_i32_3
  let v30 : BitVec 32 := Scalar.extui v29
  let c0_i32_4 : BitVec 32 := 0#32
  let v31 : BitVec 1 := Scalar.cmpi .slt c2_i32 c0_i32_4
  let v32 : BitVec 32 := Scalar.extui v31
  let v33 : BitVec 32 := Scalar.subi v30 v32
  let v34 : BitVec 1 := Scalar.cmpi .ne v28 v33
  let v35 : BitVec 32 := Scalar.remsi v22 c2_i32
  let c0_i32_5 : BitVec 32 := 0#32
  let v36 : BitVec 1 := Scalar.cmpi .ne v35 c0_i32_5
  let v37 : BitVec 1 := Scalar.andi v34 v36
  let c1_i32_6 : BitVec 32 := 1#32
  let v38 : BitVec 32 := Scalar.subi v23 c1_i32_6
  let v39 : BitVec 32 := Scalar.select v37 v38 v23
  let v40 : BitVec 32 := Scalar.subi arg1 v39
  let c0_i32_7 : BitVec 32 := 0#32
  ![v40.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c10_i32 : BitVec 32 := 10#32
  let v9 : BitVec 1 := Scalar.cmpi .sge arg1 c10_i32
  let v10 : BitVec 32 := Scalar.extui v9
  let v11 : BitVec 32 := Scalar.addi v8 v10
  let c15_i32 : BitVec 32 := 15#32
  let v12 : BitVec 1 := Scalar.cmpi .sge arg1 c15_i32
  let v13 : BitVec 32 := Scalar.extui v12
  let v14 : BitVec 32 := Scalar.addi v11 v13
  let c21_i32 : BitVec 32 := 21#32
  let v15 : BitVec 1 := Scalar.cmpi .sge arg1 c21_i32
  let v16 : BitVec 32 := Scalar.extui v15
  let v17 : BitVec 32 := Scalar.addi v14 v16
  let c28_i32 : BitVec 32 := 28#32
  let v18 : BitVec 1 := Scalar.cmpi .sge arg1 c28_i32
  let v19 : BitVec 32 := Scalar.extui v18
  let v20 : BitVec 32 := Scalar.addi v17 v19
  let c1_i32_0 : BitVec 32 := 1#32
  let v21 : BitVec 32 := Scalar.addi v20 c1_i32_0
  let v22 : BitVec 32 := Scalar.muli v20 v21
  let c2_i32 : BitVec 32 := 2#32
  let v23 : BitVec 32 := Scalar.divsi v22 c2_i32
  let c0_i32_1 : BitVec 32 := 0#32
  let v24 : BitVec 1 := Scalar.cmpi .sgt v22 c0_i32_1
  let v25 : BitVec 32 := Scalar.extui v24
  let c0_i32_2 : BitVec 32 := 0#32
  let v26 : BitVec 1 := Scalar.cmpi .slt v22 c0_i32_2
  let v27 : BitVec 32 := Scalar.extui v26
  let v28 : BitVec 32 := Scalar.subi v25 v27
  let c0_i32_3 : BitVec 32 := 0#32
  let v29 : BitVec 1 := Scalar.cmpi .sgt c2_i32 c0_i32_3
  let v30 : BitVec 32 := Scalar.extui v29
  let c0_i32_4 : BitVec 32 := 0#32
  let v31 : BitVec 1 := Scalar.cmpi .slt c2_i32 c0_i32_4
  let v32 : BitVec 32 := Scalar.extui v31
  let v33 : BitVec 32 := Scalar.subi v30 v32
  let v34 : BitVec 1 := Scalar.cmpi .ne v28 v33
  let v35 : BitVec 32 := Scalar.remsi v22 c2_i32
  let c0_i32_5 : BitVec 32 := 0#32
  let v36 : BitVec 1 := Scalar.cmpi .ne v35 c0_i32_5
  let v37 : BitVec 1 := Scalar.andi v34 v36
  let c1_i32_6 : BitVec 32 := 1#32
  let v38 : BitVec 32 := Scalar.subi v23 c1_i32_6
  let v39 : BitVec 32 := Scalar.select v37 v38 v23
  let v40 : BitVec 32 := Scalar.subi arg1 v39
  let c0_i32_7 : BitVec 32 := 0#32
  let c0_i32_8 : BitVec 32 := 0#32
  ![v20.toNat, c0_i32_7.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c10_i32 : BitVec 32 := 10#32
  let v9 : BitVec 1 := Scalar.cmpi .sge arg1 c10_i32
  let v10 : BitVec 32 := Scalar.extui v9
  let v11 : BitVec 32 := Scalar.addi v8 v10
  let c15_i32 : BitVec 32 := 15#32
  let v12 : BitVec 1 := Scalar.cmpi .sge arg1 c15_i32
  let v13 : BitVec 32 := Scalar.extui v12
  let v14 : BitVec 32 := Scalar.addi v11 v13
  let c21_i32 : BitVec 32 := 21#32
  let v15 : BitVec 1 := Scalar.cmpi .sge arg1 c21_i32
  let v16 : BitVec 32 := Scalar.extui v15
  let v17 : BitVec 32 := Scalar.addi v14 v16
  let c28_i32 : BitVec 32 := 28#32
  let v18 : BitVec 1 := Scalar.cmpi .sge arg1 c28_i32
  let v19 : BitVec 32 := Scalar.extui v18
  let v20 : BitVec 32 := Scalar.addi v17 v19
  let c1_i32_0 : BitVec 32 := 1#32
  let v21 : BitVec 32 := Scalar.addi v20 c1_i32_0
  let v22 : BitVec 32 := Scalar.muli v20 v21
  let c2_i32 : BitVec 32 := 2#32
  let v23 : BitVec 32 := Scalar.divsi v22 c2_i32
  let c0_i32_1 : BitVec 32 := 0#32
  let v24 : BitVec 1 := Scalar.cmpi .sgt v22 c0_i32_1
  let v25 : BitVec 32 := Scalar.extui v24
  let c0_i32_2 : BitVec 32 := 0#32
  let v26 : BitVec 1 := Scalar.cmpi .slt v22 c0_i32_2
  let v27 : BitVec 32 := Scalar.extui v26
  let v28 : BitVec 32 := Scalar.subi v25 v27
  let c0_i32_3 : BitVec 32 := 0#32
  let v29 : BitVec 1 := Scalar.cmpi .sgt c2_i32 c0_i32_3
  let v30 : BitVec 32 := Scalar.extui v29
  let c0_i32_4 : BitVec 32 := 0#32
  let v31 : BitVec 1 := Scalar.cmpi .slt c2_i32 c0_i32_4
  let v32 : BitVec 32 := Scalar.extui v31
  let v33 : BitVec 32 := Scalar.subi v30 v32
  let v34 : BitVec 1 := Scalar.cmpi .ne v28 v33
  let v35 : BitVec 32 := Scalar.remsi v22 c2_i32
  let c0_i32_5 : BitVec 32 := 0#32
  let v36 : BitVec 1 := Scalar.cmpi .ne v35 c0_i32_5
  let v37 : BitVec 1 := Scalar.andi v34 v36
  let c1_i32_6 : BitVec 32 := 1#32
  let v38 : BitVec 32 := Scalar.subi v23 c1_i32_6
  let v39 : BitVec 32 := Scalar.select v37 v38 v23
  let v40 : BitVec 32 := Scalar.subi arg1 v39
  let c0_i32_7 : BitVec 32 := 0#32
  let c0_i32_8 : BitVec 32 := 0#32
  ![c0_i32_7.toNat, v40.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c10_i32 : BitVec 32 := 10#32
  let v9 : BitVec 1 := Scalar.cmpi .sge arg1 c10_i32
  let v10 : BitVec 32 := Scalar.extui v9
  let v11 : BitVec 32 := Scalar.addi v8 v10
  let c15_i32 : BitVec 32 := 15#32
  let v12 : BitVec 1 := Scalar.cmpi .sge arg1 c15_i32
  let v13 : BitVec 32 := Scalar.extui v12
  let v14 : BitVec 32 := Scalar.addi v11 v13
  let c21_i32 : BitVec 32 := 21#32
  let v15 : BitVec 1 := Scalar.cmpi .sge arg1 c21_i32
  let v16 : BitVec 32 := Scalar.extui v15
  let v17 : BitVec 32 := Scalar.addi v14 v16
  let c28_i32 : BitVec 32 := 28#32
  let v18 : BitVec 1 := Scalar.cmpi .sge arg1 c28_i32
  let v19 : BitVec 32 := Scalar.extui v18
  let v20 : BitVec 32 := Scalar.addi v17 v19
  let c1_i32_0 : BitVec 32 := 1#32
  let v21 : BitVec 32 := Scalar.addi v20 c1_i32_0
  let v22 : BitVec 32 := Scalar.muli v20 v21
  let c2_i32 : BitVec 32 := 2#32
  let v23 : BitVec 32 := Scalar.divsi v22 c2_i32
  let c0_i32_1 : BitVec 32 := 0#32
  let v24 : BitVec 1 := Scalar.cmpi .sgt v22 c0_i32_1
  let v25 : BitVec 32 := Scalar.extui v24
  let c0_i32_2 : BitVec 32 := 0#32
  let v26 : BitVec 1 := Scalar.cmpi .slt v22 c0_i32_2
  let v27 : BitVec 32 := Scalar.extui v26
  let v28 : BitVec 32 := Scalar.subi v25 v27
  let c0_i32_3 : BitVec 32 := 0#32
  let v29 : BitVec 1 := Scalar.cmpi .sgt c2_i32 c0_i32_3
  let v30 : BitVec 32 := Scalar.extui v29
  let c0_i32_4 : BitVec 32 := 0#32
  let v31 : BitVec 1 := Scalar.cmpi .slt c2_i32 c0_i32_4
  let v32 : BitVec 32 := Scalar.extui v31
  let v33 : BitVec 32 := Scalar.subi v30 v32
  let v34 : BitVec 1 := Scalar.cmpi .ne v28 v33
  let v35 : BitVec 32 := Scalar.remsi v22 c2_i32
  let c0_i32_5 : BitVec 32 := 0#32
  let v36 : BitVec 1 := Scalar.cmpi .ne v35 c0_i32_5
  let v37 : BitVec 1 := Scalar.andi v34 v36
  let c1_i32_6 : BitVec 32 := 1#32
  let v38 : BitVec 32 := Scalar.subi v23 c1_i32_6
  let v39 : BitVec 32 := Scalar.select v37 v38 v23
  let v40 : BitVec 32 := Scalar.subi arg1 v39
  let c0_i32_7 : BitVec 32 := 0#32
  ![v20.toNat, arg0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c10_i32 : BitVec 32 := 10#32
  let v9 : BitVec 1 := Scalar.cmpi .sge arg1 c10_i32
  let v10 : BitVec 32 := Scalar.extui v9
  let v11 : BitVec 32 := Scalar.addi v8 v10
  let c15_i32 : BitVec 32 := 15#32
  let v12 : BitVec 1 := Scalar.cmpi .sge arg1 c15_i32
  let v13 : BitVec 32 := Scalar.extui v12
  let v14 : BitVec 32 := Scalar.addi v11 v13
  let c21_i32 : BitVec 32 := 21#32
  let v15 : BitVec 1 := Scalar.cmpi .sge arg1 c21_i32
  let v16 : BitVec 32 := Scalar.extui v15
  let v17 : BitVec 32 := Scalar.addi v14 v16
  let c28_i32 : BitVec 32 := 28#32
  let v18 : BitVec 1 := Scalar.cmpi .sge arg1 c28_i32
  let v19 : BitVec 32 := Scalar.extui v18
  let v20 : BitVec 32 := Scalar.addi v17 v19
  let c1_i32_0 : BitVec 32 := 1#32
  let v21 : BitVec 32 := Scalar.addi v20 c1_i32_0
  let v22 : BitVec 32 := Scalar.muli v20 v21
  let c2_i32 : BitVec 32 := 2#32
  let v23 : BitVec 32 := Scalar.divsi v22 c2_i32
  let c0_i32_1 : BitVec 32 := 0#32
  let v24 : BitVec 1 := Scalar.cmpi .sgt v22 c0_i32_1
  let v25 : BitVec 32 := Scalar.extui v24
  let c0_i32_2 : BitVec 32 := 0#32
  let v26 : BitVec 1 := Scalar.cmpi .slt v22 c0_i32_2
  let v27 : BitVec 32 := Scalar.extui v26
  let v28 : BitVec 32 := Scalar.subi v25 v27
  let c0_i32_3 : BitVec 32 := 0#32
  let v29 : BitVec 1 := Scalar.cmpi .sgt c2_i32 c0_i32_3
  let v30 : BitVec 32 := Scalar.extui v29
  let c0_i32_4 : BitVec 32 := 0#32
  let v31 : BitVec 1 := Scalar.cmpi .slt c2_i32 c0_i32_4
  let v32 : BitVec 32 := Scalar.extui v31
  let v33 : BitVec 32 := Scalar.subi v30 v32
  let v34 : BitVec 1 := Scalar.cmpi .ne v28 v33
  let v35 : BitVec 32 := Scalar.remsi v22 c2_i32
  let c0_i32_5 : BitVec 32 := 0#32
  let v36 : BitVec 1 := Scalar.cmpi .ne v35 c0_i32_5
  let v37 : BitVec 1 := Scalar.andi v34 v36
  let c1_i32_6 : BitVec 32 := 1#32
  let v38 : BitVec 32 := Scalar.subi v23 c1_i32_6
  let v39 : BitVec 32 := Scalar.select v37 v38 v23
  let v40 : BitVec 32 := Scalar.subi arg1 v39
  let c0_i32_7 : BitVec 32 := 0#32
  ![v20.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnFwdIdeal.lean ====
variable {F : FTy → Type} [FloatOps F] [Named F]
def κ : String → Option EReal := fun
  | "log2e" => some (((Real.log 2)⁻¹ : ℝ) : EReal)
  | "mask" => some ⊥
  | "scale_log2e" => some (((Real.sqrt 128)⁻¹ * (Real.log 2)⁻¹ : ℝ) : EReal)
  | _ => none
-- ==== AttnFwdRefIdeal.lean ====
abbrev S4096x1024 : Shape := ⟨2, ![4096, 1024]⟩
abbrev S4096x128 : Shape := ⟨2, ![4096, 128]⟩
abbrev S4096x8 : Shape := ⟨2, ![4096, 8]⟩
abbrev S4096x8x128 : Shape := ⟨3, ![4096, 8, 128]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x128x4096 : Shape := ⟨3, ![8, 128, 4096]⟩
abbrev S8x512x8 : Shape := ⟨3, ![8, 512, 8]⟩
abbrev S8x8 : Shape := ⟨2, ![8, 8]⟩
abbrev S8x1x8 : Shape := ⟨3, ![8, 1, 8]⟩
abbrev S4096x8x1 : Shape := ⟨3, ![4096, 8, 1]⟩

abbrev nBuf : Space → Nat
  | .hbm => 67
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x128, .f32⟩
  | .hbm, ⟨4, _⟩ => ⟨S4096x8, .f32⟩
  | .hbm, ⟨5, _⟩ => ⟨S4096x8x128, .bf16⟩
  | .hbm, ⟨6, _⟩ => ⟨S4096x8x128, .bf16⟩
  | .hbm, ⟨7, _⟩ => ⟨S8x4096x4096, .f32⟩
  | .hbm, ⟨8, _⟩ => ⟨S_, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S8x4096, .f32⟩
  | .hbm, ⟨13, _⟩ => ⟨S8x4096x1, .f32⟩
  | .hbm, ⟨14, _⟩ => ⟨S8x4096, .f32⟩
  | .hbm, ⟨15, _⟩ => ⟨S8x1x4096, .f32⟩
  | .hbm, ⟨16, _⟩ => ⟨S8x4096x4096, .f32⟩
  | .hbm, ⟨17, _⟩ => ⟨S8x4096x4096, .f32⟩
  | .hbm, ⟨18, _⟩ => ⟨S8x4096x4096, .f32⟩
  | .hbm, ⟨19, _⟩ => ⟨S8x4096x4096, .f32⟩
  | .hbm, ⟨20, _⟩ => ⟨S4096, .i32⟩
  | .hbm, ⟨21, _⟩ => ⟨S4096x1, .i32⟩
  | .hbm, ⟨22, _⟩ => ⟨S4096, .i32⟩
  | .hbm, ⟨23, _⟩ => ⟨S1x4096, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S_, .f32⟩
  | .hbm, ⟨28, _⟩ => ⟨S_, .f32⟩
  | .hbm, ⟨29, _⟩ => ⟨S8x4096x4096, .i1⟩
  | .hbm, ⟨30, _⟩ => ⟨S8x4096x4096, .f32⟩
  | .hbm, ⟨31, _⟩ => ⟨S8x4096x4096, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S8x4096x4096, .f32⟩
  | .hbm, ⟨36, _⟩ => ⟨S8x4096x4096, .f32⟩
  | .hbm, ⟨37, _⟩ => ⟨S8x4096x4096, .f32⟩
  | .hbm, ⟨38, _⟩ => ⟨S_, .f32⟩
  | .hbm, ⟨39, _⟩ => ⟨S8x4096, .f32⟩
  | .hbm, ⟨40, _⟩ => ⟨S8x4096x1, .f32⟩
  | .hbm, ⟨41, _⟩ => ⟨S8x4096x4096, .f32⟩
  | .hbm, ⟨42, _⟩ => ⟨S8x4096x4096, .f32⟩
  | .hbm, ⟨43, _⟩ => ⟨S8x4096x4096, .bf16⟩
  | .hbm, ⟨44, _⟩ => ⟨S4096x8x128, .bf16⟩
  | .hbm, ⟨45, _⟩ => ⟨S8x128x4096, .f32⟩
  | .hbm, ⟨46, _⟩ => ⟨S4096x8x128, .f32⟩
  | .hbm, ⟨47, _⟩ => ⟨S4096x1024, .f32⟩
  | .hbm, ⟨48, _⟩ => ⟨S8x512x8, .f32⟩
  | .hbm, ⟨49, _⟩ => ⟨S_, .f32⟩
  | .hbm, ⟨50, _⟩ => ⟨S8x8, .f32⟩
  | .hbm, ⟨51, _⟩ => ⟨S8x1x8, .f32⟩
  | .hbm, ⟨52, _⟩ => ⟨S8x512x8, .f32⟩
  | .hbm, ⟨53, _⟩ => ⟨S4096x8, .f32⟩
  | .hbm, ⟨54, _⟩ => ⟨S8x4096x1, .f32⟩
  | .hbm, ⟨55, _⟩ => ⟨S8x4096x1, .f32⟩
  | .hbm, ⟨56, _⟩ => ⟨S8x4096, .f32⟩
  | .hbm, ⟨57, _⟩ => ⟨S4096x8, .f32⟩
  | .hbm, ⟨58, _⟩ => ⟨S4096x8, .f32⟩
  | .hbm, ⟨59, _⟩ => ⟨S4096x8, .f32⟩
  | .hbm, ⟨60, _⟩ => ⟨S_, .f32⟩
  | .hbm, ⟨61, _⟩ => ⟨S_, .f32⟩
  | .hbm, ⟨62, _⟩ => ⟨S4096x8, .f32⟩
  | .hbm, ⟨63, _⟩ => ⟨S4096x8, .f32⟩
  | .hbm, ⟨64, _⟩ => ⟨S4096x8x1, .f32⟩
  | .hbm, ⟨65, _⟩ => ⟨S4096x8x128, .f32⟩
  | .hbm, ⟨66, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_4 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩

abbrev nD : Nat := 1
abbrev τ : Topo := Topo.v7x

variable {F : FTy → Type} [FloatOps F]
-- ==== Norm3Bwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 13
  | .vmem => 19
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S4096x2048, .bf16⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v56 : BitVec 1 := Scalar.cmpi .eq arg0 c0_i32
  let v57 : BitVec 32 := Scalar.extui v56
  let c0_i32_28 : BitVec 32 := 0#32
  let v58 : BitVec 1 := Scalar.cmpi .ne v57 c0_i32_28
  v58

def k0_cond2 (i : grid0.Coords) : BitVec 1 :=
  let arg0 : BitVec 32 := BitVec.ofNat 32 (i 0).val
  let c0_i32_29 : BitVec 32 := 0#32
  let v59 : BitVec 1 := Scalar.cmpi .sgt arg0 c0_i32_29
  let v60 : BitVec 32 := Scalar.extui v59
  let c0_i32_30 : BitVec 32 := 0#32
  let v61 : BitVec 1 := Scalar.cmpi .ne v60 c0_i32_30
  v61

def k0_cond3 (i : grid0.Coords) : BitVec 1 :=
  let arg0 : BitVec 32 := BitVec.ofNat 32 (i 0).val
  let c0_i32_31 : BitVec 32 := 0#32
  let v62 : BitVec 1 := Scalar.cmpi .eq arg0 c0_i32_31
  let v63 : BitVec 32 := Scalar.extui v62
  let c0_i32_32 : BitVec 32 := 0#32
  let v64 : BitVec 1 := Scalar.cmpi .ne v63 c0_i32_32
  v64

def k0_cond4 (i : grid0.Coords) : BitVec 1 :=
  let arg0 : BitVec 32 := BitVec.ofNat 32 (i 0).val
  let c0_i32_33 : BitVec 32 := 0#32
  let v65 : BitVec 1 := Scalar.cmpi .sgt arg0 c0_i32_33
  let v66 : BitVec 32 := Scalar.extui v65
  let c0_i32_34 : BitVec 32 := 0#32
  let v67 : BitVec 1 := Scalar.cmpi .ne v66 c0_i32_34
  v67

def k0_cond5 (i : grid0.Coords) : BitVec 1 :=
  let arg0 : BitVec 32 := BitVec.ofNat 32 (i 0).val
  let c0_i32_35 : BitVec 32 := 0#32
  let v68 : BitVec 1 := Scalar.cmpi .eq arg0 c0_i32_35
  let v69 : BitVec 32 := Scalar.extui v68
  let c0_i32_36 : BitVec 32 := 0#32
  let v70 : BitVec 1 := Scalar.cmpi .ne v69 c0_i32_36
  v70

def k0_cond6 (i : grid0.Coords) : BitVec 1 :=
  let arg0 : BitVec 32 := BitVec.ofNat 32 (i 0).val
  let c0_i32_37 : BitVec 32 := 0#32
  let v71 : BitVec 1 := Scalar.cmpi .sgt arg0 c0_i32_37
  let v72 : BitVec 32 := Scalar.extui v71
  let c0_i32_38 : BitVec 32 := 0#32
  let v73 : BitVec 1 := Scalar.cmpi .ne v72 c0_i32_38
  v73

def k0_cond7 (i : grid0.Coords) : BitVec 1 :=
  let arg0 : BitVec 32 := BitVec.ofNat 32 (i 0).val
  let c0_i32_39 : BitVec 32 := 0#32
  let v74 : BitVec 1 := Scalar.cmpi .eq arg0 c0_i32_39
  let v75 : BitVec 32 := Scalar.extui v74
  let c0_i32_40 : BitVec 32 := 0#32
  let v76 : BitVec 1 := Scalar.cmpi .ne v75 c0_i32_40
  v76

def k0_cond8 (i : grid0.Coords) : BitVec 1 :=
  let arg0 : BitVec 32 := BitVec.ofNat 32 (i 0).val
  let c0_i32_41 : BitVec 32 := 0#32
  let v77 : BitVec 1 := Scalar.cmpi .sgt arg0 c0_i32_41
  let v78 : BitVec 32 := Scalar.extui v77
  let c0_i32_42 : BitVec 32 := 0#32
  let v79 : BitVec 1 := Scalar.cmpi .ne v78 c0_i32_42
  v79

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Norm3BwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 78
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S4096x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S_, .f32⟩
  | .hbm, ⟨75, _⟩ => ⟨S2048, .f32⟩
  | .hbm, ⟨76, _⟩ => ⟨S1x2048, .f32⟩
  | .hbm, ⟨77, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== QkNormFwd.lean ====
abbrev S4096x4224 : Shape := ⟨2, ![4096, 4224]⟩
abbrev S1x128 : Shape := ⟨2, ![1, 128]⟩
abbrev S4096x1024 : Shape := ⟨2, ![4096, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 6
  | .vmem => 14
  | .smem => 0
  | _ => 0

abbrev bufTy : (tb : Table) → Fin (tcTables nBuf tb) → BufTy
  | .hbm, ⟨0, _⟩ => ⟨S4096x4224, .f32⟩
  | .hbm, ⟨1, _⟩ => ⟨S1x128, .f32⟩
  | .hbm, ⟨2, _⟩ => ⟨S1x128, .f32⟩
  | .hbm, ⟨3, _⟩ => ⟨S4096x1024, .bf16⟩
  | .hbm, ⟨4, _⟩ => ⟨S4096x1024, .bf16⟩
  | .hbm, ⟨5, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x128, .f32⟩
  | .local _ .vmem, ⟨7, _⟩ => ⟨S1x128, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | _, _ => ⟨S4096x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QkNormFwdRefIdeal.lean ====
abbrev S4096x4224 : Shape := ⟨2, ![4096, 4224]⟩
abbrev S1x128 : Shape := ⟨2, ![1, 128]⟩
abbrev S4096x1024 : Shape := ⟨2, ![4096, 1024]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩

abbrev nBuf : Space → Nat
  | .hbm => 45
  | .vmem => 0
  | .smem => 0
  | _ => 0

abbrev bufTy : (tb : Table) → Fin (tcTables nBuf tb) → BufTy
  | .hbm, ⟨0, _⟩ => ⟨S4096x4224, .f32⟩
  | .hbm, ⟨1, _⟩ => ⟨S1x128, .f32⟩
  | .hbm, ⟨2, _⟩ => ⟨S1x128, .f32⟩
  | .hbm, ⟨3, _⟩ => ⟨S4096x1024, .f32⟩
  | .hbm, ⟨4, _⟩ => ⟨S4096x8x128, .f32⟩
  | .hbm, ⟨5, _⟩ => ⟨S4096x8x128, .f32⟩
  | .hbm, ⟨6, _⟩ => ⟨S_, .f32⟩
  | .hbm, ⟨7, _⟩ => ⟨S4096x8, .f32⟩
  | .hbm, ⟨8, _⟩ => ⟨S4096x8x1, .f32⟩
  | .hbm, ⟨9, _⟩ => ⟨S_, .f32⟩
  | .hbm, ⟨10, _⟩ => ⟨S4096x8x1, .f32⟩
  | .hbm, ⟨11, _⟩ => ⟨S4096x8x1, .f32⟩
  | .hbm, ⟨12, _⟩ => ⟨S_, .f32⟩
  | .hbm, ⟨13, _⟩ => ⟨S4096x8x1, .f32⟩
  | .hbm, ⟨14, _⟩ => ⟨S4096x8x1, .f32⟩
  | .hbm, ⟨15, _⟩ => ⟨S4096x8x1, .f32⟩
  | .hbm, ⟨16, _⟩ => ⟨S4096x8x128, .f32⟩
  | .hbm, ⟨17, _⟩ => ⟨S4096x8x128, .f32⟩
  | .hbm, ⟨18, _⟩ => ⟨S1x1x128, .f32⟩
  | .hbm, ⟨19, _⟩ => ⟨S4096x8x128, .f32⟩
  | .hbm, ⟨20, _⟩ => ⟨S4096x8x128, .f32⟩
  | .hbm, ⟨21, _⟩ => ⟨S4096x1024, .f32⟩
  | .hbm, ⟨22, _⟩ => ⟨S4096x1024, .f32⟩
  | .hbm, ⟨23, _⟩ => ⟨S4096x8x128, .f32⟩
  | .hbm, ⟨24, _⟩ => ⟨S4096x8x128, .f32⟩
  | .hbm, ⟨25, _⟩ => ⟨S_, .f32⟩
  | .hbm, ⟨26, _⟩ => ⟨S4096x8, .f32⟩
  | .hbm, ⟨27, _⟩ => ⟨S4096x8x1, .f32⟩
  | .hbm, ⟨28, _⟩ => ⟨S_, .f32⟩
  | .hbm, ⟨29, _⟩ => ⟨S4096x8x1, .f32⟩
  | .hbm, ⟨30, _⟩ => ⟨S4096x8x1, .f32⟩
  | .hbm, ⟨31, _⟩ => ⟨S_, .f32⟩
  | .hbm, ⟨32, _⟩ => ⟨S4096x8x1, .f32⟩
  | .hbm, ⟨33, _⟩ => ⟨S4096x8x1, .f32⟩
  | .hbm, ⟨34, _⟩ => ⟨S4096x8x1, .f32⟩
  | .hbm, ⟨35, _⟩ => ⟨S4096x8x128, .f32⟩
  | .hbm, ⟨36, _⟩ => ⟨S4096x8x128, .f32⟩
  | .hbm, ⟨37, _⟩ => ⟨S1x1x128, .f32⟩
  | .hbm, ⟨38, _⟩ => ⟨S4096x8x128, .f32⟩
  | .hbm, ⟨39, _⟩ => ⟨S4096x8x128, .f32⟩
  | .hbm, ⟨40, _⟩ => ⟨S4096x1024, .f32⟩
  | .hbm, ⟨41, _⟩ => ⟨S4096x1024, .bf16⟩
  | .hbm, ⟨42, _⟩ => ⟨S4096x1024, .bf16⟩
  | .hbm, ⟨43, _⟩ => ⟨S4096x1024, .f32⟩
  | .hbm, ⟨44, _⟩ => ⟨S4096x1024, .bf16⟩
  | _, _ => ⟨S4096x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== FinalLoss.lean ====
abbrev S4096x2048 : Shape := ⟨2, ![4096, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 10
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .hbm, ⟨8, _⟩ => ⟨S1x128, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S1x128, .f32⟩
  | .local _ .vmem, ⟨14, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v58 : BitVec 1 := Scalar.cmpi .eq arg0 c0_i32
  let v59 : BitVec 32 := Scalar.extui v58
  let c0_i32_26 : BitVec 32 := 0#32
  let v60 : BitVec 1 := Scalar.cmpi .ne v59 c0_i32_26
  v60

def k0_cond2 (i : grid0.Coords) : BitVec 1 :=
  let arg0 : BitVec 32 := BitVec.ofNat 32 (i 0).val
  let c0_i32_27 : BitVec 32 := 0#32
  let v61 : BitVec 1 := Scalar.cmpi .sgt arg0 c0_i32_27
  let v62 : BitVec 32 := Scalar.extui v61
  let c0_i32_28 : BitVec 32 := 0#32
  let v63 : BitVec 1 := Scalar.cmpi .ne v62 c0_i32_28
  v63

def k0_cond3 (i : grid0.Coords) : BitVec 1 :=
  let arg0 : BitVec 32 := BitVec.ofNat 32 (i 0).val
  let c0_i32_29 : BitVec 32 := 0#32
  let v64 : BitVec 1 := Scalar.cmpi .eq arg0 c0_i32_29
  let v65 : BitVec 32 := Scalar.extui v64
  let c0_i32_30 : BitVec 32 := 0#32
  let v66 : BitVec 1 := Scalar.cmpi .ne v65 c0_i32_30
  v66

def k0_cond4 (i : grid0.Coords) : BitVec 1 :=
  let arg0 : BitVec 32 := BitVec.ofNat 32 (i 0).val
  let c0_i32_31 : BitVec 32 := 0#32
  let v67 : BitVec 1 := Scalar.cmpi .sgt arg0 c0_i32_31
  let v68 : BitVec 32 := Scalar.extui v67
  let c0_i32_32 : BitVec 32 := 0#32
  let v69 : BitVec 1 := Scalar.cmpi .ne v68 c0_i32_32
  v69

def k0_cond5 (i : grid0.Coords) : BitVec 1 :=
  let arg0 : BitVec 32 := BitVec.ofNat 32 (i 0).val
  let c0_i32_33 : BitVec 32 := 0#32
  let v70 : BitVec 1 := Scalar.cmpi .eq arg0 c0_i32_33
  let v71 : BitVec 32 := Scalar.extui v70
  let c0_i32_34 : BitVec 32 := 0#32
  let v72 : BitVec 1 := Scalar.cmpi .ne v71 c0_i32_34
  v72

def k0_cond6 (i : grid0.Coords) : BitVec 1 :=
  let arg0 : BitVec 32 := BitVec.ofNat 32 (i 0).val
  let c0_i32_35 : BitVec 32 := 0#32
  let v73 : BitVec 1 := Scalar.cmpi .sgt arg0 c0_i32_35
  let v74 : BitVec 32 := Scalar.extui v73
  let c0_i32_36 : BitVec 32 := 0#32
  let v75 : BitVec 1 := Scalar.cmpi .ne v74 c0_i32_36
  v75

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FinalLossRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096, .f32⟩
  | .hbm, ⟨28, _⟩ => ⟨S_, .f32⟩
  | .hbm, ⟨29, _⟩ => ⟨S4096, .f32⟩
  | .hbm, ⟨30, _⟩ => ⟨S4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x2048, .f32⟩
  | .hbm, ⟨57, _⟩ => ⟨S4096x2048, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S_, .f32⟩
  | .hbm, ⟨70, _⟩ => ⟨S1x2048, .f32⟩
  | .hbm, ⟨71, _⟩ => ⟨S1x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S_, .f32⟩
  | .hbm, ⟨78, _⟩ => ⟨S2048, .f32⟩
  | .hbm, ⟨79, _⟩ => ⟨S1x2048, .f32⟩
  | .hbm, ⟨80, _⟩ => ⟨S_, .f32⟩
  | .hbm, ⟨81, _⟩ => ⟨S1x2048, .f32⟩
  | .hbm, ⟨82, _⟩ => ⟨S1x2048, .f32⟩
  | .hbm, ⟨83, _⟩ => ⟨S4096x2048, .bf16⟩
  | .hbm, ⟨84, _⟩ => ⟨S1x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_cst_7 : Ref sig .tc := ⟨.hbm, 35, rfl⟩
abbrev main_cst_8 : Ref sig .tc := ⟨.hbm, 36, rfl⟩
abbrev main_v22 : Ref sig .tc := ⟨.hbm, 37, rfl⟩
abbrev main_v23 : Ref sig .tc := ⟨.hbm, 38, rfl⟩
abbrev main_cst_9 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_15 : Ref sig .tc := ⟨.hbm, 77, rfl⟩
abbrev main_v56 : Ref sig .tc := ⟨.hbm, 78, rfl⟩
abbrev main_v57 : Ref sig .tc := ⟨.hbm, 79, rfl⟩
abbrev main_cst_16 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== AdaBwd.lean ====
abbrev S8x2048 : Shape := ⟨2, ![8, 2048]⟩
abbrev S8x2304 : Shape := ⟨2, ![8, 2304]⟩
abbrev S2048x2304 : Shape := ⟨2, ![2048, 2304]⟩
abbrev S8x768 : Shape := ⟨2, ![8, 768]⟩
abbrev S2048x768 : Shape := ⟨2, ![2048, 768]⟩

abbrev nBuf : Space → Nat
  | .hbm => 3
  | .vmem => 5
  | .smem => 0
  | _ => 0

abbrev bufTy : (tb : Table) → Fin (tcTables nBuf tb) → BufTy
  | .hbm, ⟨0, _⟩ => ⟨S8x2048, .f32⟩
  | .hbm, ⟨1, _⟩ => ⟨S8x2304, .f32⟩
  | .hbm, ⟨2, _⟩ => ⟨S2048x2304, .f32⟩
  | .local _ .vmem, ⟨0, _⟩ => ⟨S8x2048, .f32⟩
  | .local _ .vmem, ⟨1, _⟩ => ⟨S8x768, .f32⟩
  | .local _ .vmem, ⟨2, _⟩ => ⟨S8x768, .f32⟩
  | .local _ .vmem, ⟨3, _⟩ => ⟨S2048x768, .f32⟩
  | .local _ .vmem, ⟨4, _⟩ => ⟨S2048x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AdaBwdRefIdeal.lean ====
abbrev S8x2048 : Shape := ⟨2, ![8, 2048]⟩
abbrev S8x2304 : Shape := ⟨2, ![8, 2304]⟩
abbrev S_ : Shape := ⟨0, ![]⟩
abbrev S2048x2304 : Shape := ⟨2, ![2048, 2304]⟩
abbrev S2304x2048 : Shape := ⟨2, ![2304, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x2304, .f32⟩
  | .hbm, ⟨2, _⟩ => ⟨S_, .f32⟩
  | .hbm, ⟨3, _⟩ => ⟨S2048x2304, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x2304, .f32⟩
  | .hbm, ⟨14, _⟩ => ⟨S2304x2048, .f32⟩
  | .hbm, ⟨15, _⟩ => ⟨S2048x2304, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== AdaFwd.lean ====
abbrev S8x2048 : Shape := ⟨2, ![8, 2048]⟩
abbrev S2048x2304 : Shape := ⟨2, ![2048, 2304]⟩
abbrev S1x2304 : Shape := ⟨2, ![1, 2304]⟩
abbrev S8x2304 : Shape := ⟨2, ![8, 2304]⟩
abbrev S2048x768 : Shape := ⟨2, ![2048, 768]⟩
abbrev S1x768 : Shape := ⟨2, ![1, 768]⟩
abbrev S8x768 : Shape := ⟨2, ![8, 768]⟩

abbrev nBuf : Space → Nat
  | .hbm => 4
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x2304, .f32⟩
  | .hbm, ⟨2, _⟩ => ⟨S1x2304, .f32⟩
  | .hbm, ⟨3, _⟩ => ⟨S8x2304, .f32⟩
  | .local _ .vmem, ⟨0, _⟩ => ⟨S8x2048, .f32⟩
  | .local _ .vmem, ⟨1, _⟩ => ⟨S2048x768, .f32⟩
  | .local _ .vmem, ⟨2, _⟩ => ⟨S2048x768, .f32⟩
  | .local _ .vmem, ⟨3, _⟩ => ⟨S1x768, .f32⟩
  | .local _ .vmem, ⟨4, _⟩ => ⟨S1x768, .f32⟩
  | .local _ .vmem, ⟨5, _⟩ => ⟨S8x768, .f32⟩
  | .local _ .vmem, ⟨6, _⟩ => ⟨S8x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaFwdRefIdeal.lean ====
abbrev S8x2048 : Shape := ⟨2, ![8, 2048]⟩
abbrev S2048x2304 : Shape := ⟨2, ![2048, 2304]⟩
abbrev S1x2304 : Shape := ⟨2, ![1, 2304]⟩
abbrev S_ : Shape := ⟨0, ![]⟩
abbrev S8x2304 : Shape := ⟨2, ![8, 2304]⟩

abbrev nBuf : Space → Nat
  | .hbm => 15
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x2304, .f32⟩
  | .hbm, ⟨2, _⟩ => ⟨S1x2304, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x2304, .f32⟩
  | .hbm, ⟨13, _⟩ => ⟨S8x2304, .f32⟩
  | .hbm, ⟨14, _⟩ => ⟨S8x2304, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== AdamW.lean ====
abbrev S1x2048x2304 : Shape := ⟨3, ![1, 2048, 2304]⟩
abbrev S2048x2304 : Shape := ⟨2, ![2048, 2304]⟩
abbrev S1x128x2304 : Shape := ⟨3, ![1, 128, 2304]⟩
abbrev S128x2304 : Shape := ⟨2, ![128, 2304]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x2304, .f32⟩
  | .hbm, ⟨1, _⟩ => ⟨S2048x2304, .f32⟩
  | .hbm, ⟨2, _⟩ => ⟨S2048x2304, .f32⟩
  | .hbm, ⟨3, _⟩ => ⟨S2048x2304, .f32⟩
  | .hbm, ⟨4, _⟩ => ⟨S2048x2304, .f32⟩
  | .hbm, ⟨5, _⟩ => ⟨S2048x2304, .f32⟩
  | .hbm, ⟨6, _⟩ => ⟨S2048x2304, .f32⟩
  | .hbm, ⟨7, _⟩ => ⟨S2048x2304, .f32⟩
  | .local _ .vmem, ⟨0, _⟩ => ⟨S1x128x2304, .f32⟩
  | .local _ .vmem, ⟨1, _⟩ => ⟨S1x128x2304, .f32⟩
  | .local _ .vmem, ⟨2, _⟩ => ⟨S128x2304, .f32⟩
  | .local _ .vmem, ⟨3, _⟩ => ⟨S128x2304, .f32⟩
  | .local _ .vmem, ⟨4, _⟩ => ⟨S128x2304, .f32⟩
  | .local _ .vmem, ⟨5, _⟩ => ⟨S128x2304, .f32⟩
  | .local _ .vmem, ⟨6, _⟩ => ⟨S128x2304, .f32⟩
  | .local _ .vmem, ⟨7, _⟩ => ⟨S128x2304, .f32⟩
  | .local _ .vmem, ⟨8, _⟩ => ⟨S128x2304, .f32⟩
  | .local _ .vmem, ⟨9, _⟩ => ⟨S128x2304, .f32⟩
  | .local _ .vmem, ⟨10, _⟩ => ⟨S128x2304, .f32⟩
  | .local _ .vmem, ⟨11, _⟩ => ⟨S128x2304, .f32⟩
  | .local _ .vmem, ⟨12, _⟩ => ⟨S128x2304, .f32⟩
  | .local _ .vmem, ⟨13, _⟩ => ⟨S128x2304, .f32⟩
  | .local _ .vmem, ⟨14, _⟩ => ⟨S128x2304, .f32⟩
  | .local _ .vmem, ⟨15, _⟩ => ⟨S128x2304, .f32⟩
  | _, _ => ⟨S1x2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x128x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamWRefIdeal.lean ====
abbrev S1x2048x2304 : Shape := ⟨3, ![1, 2048, 2304]⟩
abbrev S2048x2304 : Shape := ⟨2, ![2048, 2304]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x2048x2304, .f32⟩
  | .hbm, ⟨1, _⟩ => ⟨S2048x2304, .f32⟩
  | .hbm, ⟨2, _⟩ => ⟨S2048x2304, .f32⟩
  | .hbm, ⟨3, _⟩ => ⟨S2048x2304, .f32⟩
  | .hbm, ⟨4, _⟩ => ⟨S2048x2304, .f32⟩
  | .hbm, ⟨5, _⟩ => ⟨S_, .f32⟩
  | .hbm, ⟨6, _⟩ => ⟨S2048x2304, .f32⟩
  | .hbm, ⟨7, _⟩ => ⟨S2048x2304, .f32⟩
  | .hbm, ⟨8, _⟩ => ⟨S_, .f32⟩
  | .hbm, ⟨9, _⟩ => ⟨S2048x2304, .f32⟩
  | .hbm, ⟨10, _⟩ => ⟨S2048x2304, .f32⟩
  | .hbm, ⟨11, _⟩ => ⟨S2048x2304, .f32⟩
  | .hbm, ⟨12, _⟩ => ⟨S_, .f32⟩
  | .hbm, ⟨13, _⟩ => ⟨S2048x2304, .f32⟩
  | .hbm, ⟨14, _⟩ => ⟨S2048x2304, .f32⟩
  | .hbm, ⟨15, _⟩ => ⟨S2048x2304, .f32⟩
  | .hbm, ⟨16, _⟩ => ⟨S_, .f32⟩
  | .hbm, ⟨17, _⟩ => ⟨S2048x2304, .f32⟩
  | .hbm, ⟨18, _⟩ => ⟨S2048x2304, .f32⟩
  | .hbm, ⟨19, _⟩ => ⟨S2048x2304, .f32⟩
  | .hbm, ⟨20, _⟩ => ⟨S_, .f32⟩
  | .hbm, ⟨21, _⟩ => ⟨S2048x2304, .f32⟩
  | .hbm, ⟨22, _⟩ => ⟨S2048x2304, .f32⟩
  | .hbm, ⟨23, _⟩ => ⟨S_, .f32⟩
  | .hbm, ⟨24, _⟩ => ⟨S2048x2304, .f32⟩
  | .hbm, ⟨25, _⟩ => ⟨S2048x2304, .f32⟩
  | .hbm, ⟨26, _⟩ => ⟨S2048x2304, .f32⟩
  | .hbm, ⟨27, _⟩ => ⟨S_, .f32⟩
  | .hbm, ⟨28, _⟩ => ⟨S2048x2304, .f32⟩
  | .hbm, ⟨29, _⟩ => ⟨S2048x2304, .f32⟩
  | .hbm, ⟨30, _⟩ => ⟨S2048x2304, .f32⟩
  | .hbm, ⟨31, _⟩ => ⟨S_, .f32⟩
  | .hbm, ⟨32, _⟩ => ⟨S2048x2304, .f32⟩
  | .hbm, ⟨33, _⟩ => ⟨S2048x2304, .f32⟩
  | .hbm, ⟨34, _⟩ => ⟨S2048x2304, .f32⟩
  | .hbm, ⟨35, _⟩ => ⟨S_, .f32⟩
  | .hbm, ⟨36, _⟩ => ⟨S2048x2304, .f32⟩
  | .hbm, ⟨37, _⟩ => ⟨S2048x2304, .f32⟩
  | _, _ => ⟨S1x2048x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamFfnIn.lean ====
abbrev S4x1376x2048 : Shape := ⟨3, ![4, 1376, 2048]⟩
abbrev S1376x2048 : Shape := ⟨2, ![1376, 2048]⟩
abbrev S4x688x512 : Shape := ⟨3, ![4, 688, 512]⟩
abbrev S688x512 : Shape := ⟨2, ![688, 512]⟩
abbrev S1x688x512 : Shape := ⟨3, ![1, 688, 512]⟩

abbrev nBuf : Space → Nat
  | .hbm => 8
  | .vmem => 16
  | .smem => 0
  | _ => 0

abbrev bufTy : (tb : Table) → Fin (tcTables nBuf tb) → BufTy
  | .hbm, ⟨0, _⟩ => ⟨S4x1376x2048, .bf16⟩
  | .hbm, ⟨1, _⟩ => ⟨S1376x2048, .f32⟩
  | .hbm, ⟨2, _⟩ => ⟨S1376x2048, .f32⟩
  | .hbm, ⟨3, _⟩ => ⟨S1376x2048, .f32⟩
  | .hbm, ⟨4, _⟩ => ⟨S1376x2048, .f32⟩
  | .hbm, ⟨5, _⟩ => ⟨S1376x2048, .f32⟩
  | .hbm, ⟨6, _⟩ => ⟨S1376x2048, .f32⟩
  | .hbm, ⟨7, _⟩ => ⟨S1376x2048, .f32⟩
  | .local _ .vmem, ⟨0, _⟩ => ⟨S4x688x512, .bf16⟩
  | .local _ .vmem, ⟨1, _⟩ => ⟨S4x688x512, .bf16⟩
  | .local _ .vmem, ⟨2, _⟩ => ⟨S688x512, .f32⟩
  | .local _ .vmem, ⟨3, _⟩ => ⟨S688x512, .f32⟩
  | .local _ .vmem, ⟨4, _⟩ => ⟨S688x512, .f32⟩
  | .local _ .vmem, ⟨5, _⟩ => ⟨S688x512, .f32⟩
  | .local _ .vmem, ⟨6, _⟩ => ⟨S688x512, .f32⟩
  | .local _ .vmem, ⟨7, _⟩ => ⟨S688x512, .f32⟩
  | .local _ .vmem, ⟨8, _⟩ => ⟨S688x512, .f32⟩
  | .local _ .vmem, ⟨9, _⟩ => ⟨S688x512, .f32⟩
  | .local _ .vmem, ⟨10, _⟩ => ⟨S688x512, .f32⟩
  | .local _ .vmem, ⟨11, _⟩ => ⟨S688x512, .f32⟩
  | .local _ .vmem, ⟨12, _⟩ => ⟨S688x512, .f32⟩
  | .local _ .vmem, ⟨13, _⟩ => ⟨S688x512, .f32⟩
  | .local _ .vmem, ⟨14, _⟩ => ⟨S688x512, .f32⟩
  | .local _ .vmem, ⟨15, _⟩ => ⟨S688x512, .f32⟩
  | _, _ => ⟨S4x1376x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4x688x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S688x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S688x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S688x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S688x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S688x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S688x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S688x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamFfnInRefIdeal.lean ====
abbrev S4x1376x2048 : Shape := ⟨3, ![4, 1376, 2048]⟩
abbrev S1376x2048 : Shape := ⟨2, ![1376, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1376x2048, .bf16⟩
  | .hbm, ⟨1, _⟩ => ⟨S1376x2048, .f32⟩
  | .hbm, ⟨2, _⟩ => ⟨S1376x2048, .f32⟩
  | .hbm, ⟨3, _⟩ => ⟨S1376x2048, .f32⟩
  | .hbm, ⟨4, _⟩ => ⟨S4x1376x2048, .f32⟩
  | .hbm, ⟨5, _⟩ => ⟨S_, .f32⟩
  | .hbm, ⟨6, _⟩ => ⟨S1376x2048, .f32⟩
  | .hbm, ⟨7, _⟩ => ⟨S_, .f32⟩
  | .hbm, ⟨8, _⟩ => ⟨S1376x2048, .f32⟩
  | .hbm, ⟨9, _⟩ => ⟨S1376x2048, .f32⟩
  | .hbm, ⟨10, _⟩ => ⟨S_, .f32⟩
  | .hbm, ⟨11, _⟩ => ⟨S1376x2048, .f32⟩
  | .hbm, ⟨12, _⟩ => ⟨S1376x2048, .f32⟩
  | .hbm, ⟨13, _⟩ => ⟨S1376x2048, .f32⟩
  | .hbm, ⟨14, _⟩ => ⟨S_, .f32⟩
  | .hbm, ⟨15, _⟩ => ⟨S1376x2048, .f32⟩
  | .hbm, ⟨16, _⟩ => ⟨S1376x2048, .f32⟩
  | .hbm, ⟨17, _⟩ => ⟨S1376x2048, .f32⟩
  | .hbm, ⟨18, _⟩ => ⟨S_, .f32⟩
  | .hbm, ⟨19, _⟩ => ⟨S1376x2048, .f32⟩
  | .hbm, ⟨20, _⟩ => ⟨S1376x2048, .f32⟩
  | .hbm, ⟨21, _⟩ => ⟨S1376x2048, .f32⟩
  | .hbm, ⟨22, _⟩ => ⟨S_, .f32⟩
  | .hbm, ⟨23, _⟩ => ⟨S1376x2048, .f32⟩
  | .hbm, ⟨24, _⟩ => ⟨S1376x2048, .f32⟩
  | .hbm, ⟨25, _⟩ => ⟨S_, .f32⟩
  | .hbm, ⟨26, _⟩ => ⟨S1376x2048, .f32⟩
  | .hbm, ⟨27, _⟩ => ⟨S1376x2048, .f32⟩
  | .hbm, ⟨28, _⟩ => ⟨S1376x2048, .f32⟩
  | .hbm, ⟨29, _⟩ => ⟨S_, .f32⟩
  | .hbm, ⟨30, _⟩ => ⟨S1376x2048, .f32⟩
  | .hbm, ⟨31, _⟩ => ⟨S1376x2048, .f32⟩
  | .hbm, ⟨32, _⟩ => ⟨S1376x2048, .f32⟩
  | .hbm, ⟨33, _⟩ => ⟨S_, .f32⟩
  | .hbm, ⟨34, _⟩ => ⟨S1376x2048, .f32⟩
  | .hbm, ⟨35, _⟩ => ⟨S1376x2048, .f32⟩
  | .hbm, ⟨36, _⟩ => ⟨S1376x2048, .f32⟩
  | .hbm, ⟨37, _⟩ => ⟨S_, .f32⟩
  | .hbm, ⟨38, _⟩ => ⟨S1376x2048, .f32⟩
  | .hbm, ⟨39, _⟩ => ⟨S1376x2048, .f32⟩
  | _, _ => ⟨S4x1376x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamFfnOut.lean ====
abbrev S4x688x2048 : Shape := ⟨3, ![4, 688, 2048]⟩
abbrev S688x2048 : Shape := ⟨2, ![688, 2048]⟩
abbrev S4x16x2048 : Shape := ⟨3, ![4, 16, 2048]⟩
abbrev S16x2048 : Shape := ⟨2, ![16, 2048]⟩
abbrev S1x16x2048 : Shape := ⟨3, ![1, 16, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x688x2048, .bf16⟩
  | .hbm, ⟨1, _⟩ => ⟨S688x2048, .f32⟩
  | .hbm, ⟨2, _⟩ => ⟨S688x2048, .f32⟩
  | .hbm, ⟨3, _⟩ => ⟨S688x2048, .f32⟩
  | .hbm, ⟨4, _⟩ => ⟨S688x2048, .f32⟩
  | .hbm, ⟨5, _⟩ => ⟨S688x2048, .f32⟩
  | .hbm, ⟨6, _⟩ => ⟨S688x2048, .f32⟩
  | .hbm, ⟨7, _⟩ => ⟨S688x2048, .f32⟩
  | .local _ .vmem, ⟨0, _⟩ => ⟨S4x16x2048, .bf16⟩
  | .local _ .vmem, ⟨1, _⟩ => ⟨S4x16x2048, .bf16⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S16x2048, .f32⟩
  | .local _ .vmem, ⟨7, _⟩ => ⟨S16x2048, .f32⟩
  | .local _ .vmem, ⟨8, _⟩ => ⟨S16x2048, .f32⟩
  | .local _ .vmem, ⟨9, _⟩ => ⟨S16x2048, .f32⟩
  | .local _ .vmem, ⟨10, _⟩ => ⟨S16x2048, .f32⟩
  | .local _ .vmem, ⟨11, _⟩ => ⟨S16x2048, .f32⟩
  | .local _ .vmem, ⟨12, _⟩ => ⟨S16x2048, .f32⟩
  | .local _ .vmem, ⟨13, _⟩ => ⟨S16x2048, .f32⟩
  | .local _ .vmem, ⟨14, _⟩ => ⟨S16x2048, .f32⟩
  | .local _ .vmem, ⟨15, _⟩ => ⟨S16x2048, .f32⟩
  | _, _ => ⟨S4x688x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![43, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4x16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamFfnOutRefIdeal.lean ====
abbrev S4x688x2048 : Shape := ⟨3, ![4, 688, 2048]⟩
abbrev S688x2048 : Shape := ⟨2, ![688, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x688x2048, .bf16⟩
  | .hbm, ⟨1, _⟩ => ⟨S688x2048, .f32⟩
  | .hbm, ⟨2, _⟩ => ⟨S688x2048, .f32⟩
  | .hbm, ⟨3, _⟩ => ⟨S688x2048, .f32⟩
  | .hbm, ⟨4, _⟩ => ⟨S4x688x2048, .f32⟩
  | .hbm, ⟨5, _⟩ => ⟨S_, .f32⟩
  | .hbm, ⟨6, _⟩ => ⟨S688x2048, .f32⟩
  | .hbm, ⟨7, _⟩ => ⟨S_, .f32⟩
  | .hbm, ⟨8, _⟩ => ⟨S688x2048, .f32⟩
  | .hbm, ⟨9, _⟩ => ⟨S688x2048, .f32⟩
  | .hbm, ⟨10, _⟩ => ⟨S_, .f32⟩
  | .hbm, ⟨11, _⟩ => ⟨S688x2048, .f32⟩
  | .hbm, ⟨12, _⟩ => ⟨S688x2048, .f32⟩
  | .hbm, ⟨13, _⟩ => ⟨S688x2048, .f32⟩
  | .hbm, ⟨14, _⟩ => ⟨S_, .f32⟩
  | .hbm, ⟨15, _⟩ => ⟨S688x2048, .f32⟩
  | .hbm, ⟨16, _⟩ => ⟨S688x2048, .f32⟩
  | .hbm, ⟨17, _⟩ => ⟨S688x2048, .f32⟩
  | .hbm, ⟨18, _⟩ => ⟨S_, .f32⟩
  | .hbm, ⟨19, _⟩ => ⟨S688x2048, .f32⟩
  | .hbm, ⟨20, _⟩ => ⟨S688x2048, .f32⟩
  | .hbm, ⟨21, _⟩ => ⟨S688x2048, .f32⟩
  | .hbm, ⟨22, _⟩ => ⟨S_, .f32⟩
  | .hbm, ⟨23, _⟩ => ⟨S688x2048, .f32⟩
  | .hbm, ⟨24, _⟩ => ⟨S688x2048, .f32⟩
  | .hbm, ⟨25, _⟩ => ⟨S_, .f32⟩
  | .hbm, ⟨26, _⟩ => ⟨S688x2048, .f32⟩
  | .hbm, ⟨27, _⟩ => ⟨S688x2048, .f32⟩
  | .hbm, ⟨28, _⟩ => ⟨S688x2048, .f32⟩
  | .hbm, ⟨29, _⟩ => ⟨S_, .f32⟩
  | .hbm, ⟨30, _⟩ => ⟨S688x2048, .f32⟩
  | .hbm, ⟨31, _⟩ => ⟨S688x2048, .f32⟩
  | .hbm, ⟨32, _⟩ => ⟨S688x2048, .f32⟩
  | .hbm, ⟨33, _⟩ => ⟨S_, .f32⟩
  | .hbm, ⟨34, _⟩ => ⟨S688x2048, .f32⟩
  | .hbm, ⟨35, _⟩ => ⟨S688x2048, .f32⟩
  | .hbm, ⟨36, _⟩ => ⟨S688x2048, .f32⟩
  | .hbm, ⟨37, _⟩ => ⟨S_, .f32⟩
  | .hbm, ⟨38, _⟩ => ⟨S688x2048, .f32⟩
  | .hbm, ⟨39, _⟩ => ⟨S688x2048, .f32⟩
  | _, _ => ⟨S4x688x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamMixIn.lean ====
abbrev S4x513x2048 : Shape := ⟨3, ![4, 513, 2048]⟩
abbrev S513x2048 : Shape := ⟨2, ![513, 2048]⟩
abbrev S4x513x512 : Shape := ⟨3, ![4, 513, 512]⟩
abbrev S513x512 : Shape := ⟨2, ![513, 512]⟩
abbrev S1x513x512 : Shape := ⟨3, ![1, 513, 512]⟩

abbrev nBuf : Space → Nat
  | .hbm => 8
  | .vmem => 16
  | .smem => 0
  | _ => 0

abbrev bufTy : (tb : Table) → Fin (tcTables nBuf tb) → BufTy
  | .hbm, ⟨0, _⟩ => ⟨S4x513x2048, .bf16⟩
  | .hbm, ⟨1, _⟩ => ⟨S513x2048, .f32⟩
  | .hbm, ⟨2, _⟩ => ⟨S513x2048, .f32⟩
  | .hbm, ⟨3, _⟩ => ⟨S513x2048, .f32⟩
  | .hbm, ⟨4, _⟩ => ⟨S513x2048, .f32⟩
  | .hbm, ⟨5, _⟩ => ⟨S513x2048, .f32⟩
  | .hbm, ⟨6, _⟩ => ⟨S513x2048, .f32⟩
  | .hbm, ⟨7, _⟩ => ⟨S513x2048, .f32⟩
  | .local _ .vmem, ⟨0, _⟩ => ⟨S4x513x512, .bf16⟩
  | .local _ .vmem, ⟨1, _⟩ => ⟨S4x513x512, .bf16⟩
  | .local _ .vmem, ⟨2, _⟩ => ⟨S513x512, .f32⟩
  | .local _ .vmem, ⟨3, _⟩ => ⟨S513x512, .f32⟩
  | .local _ .vmem, ⟨4, _⟩ => ⟨S513x512, .f32⟩
  | .local _ .vmem, ⟨5, _⟩ => ⟨S513x512, .f32⟩
  | .local _ .vmem, ⟨6, _⟩ => ⟨S513x512, .f32⟩
  | .local _ .vmem, ⟨7, _⟩ => ⟨S513x512, .f32⟩
  | .local _ .vmem, ⟨8, _⟩ => ⟨S513x512, .f32⟩
  | .local _ .vmem, ⟨9, _⟩ => ⟨S513x512, .f32⟩
  | .local _ .vmem, ⟨10, _⟩ => ⟨S513x512, .f32⟩
  | .local _ .vmem, ⟨11, _⟩ => ⟨S513x512, .f32⟩
  | .local _ .vmem, ⟨12, _⟩ => ⟨S513x512, .f32⟩
  | .local _ .vmem, ⟨13, _⟩ => ⟨S513x512, .f32⟩
  | .local _ .vmem, ⟨14, _⟩ => ⟨S513x512, .f32⟩
  | .local _ .vmem, ⟨15, _⟩ => ⟨S513x512, .f32⟩
  | _, _ => ⟨S4x513x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4x513x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S513x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S513x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S513x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S513x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S513x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S513x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S513x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamMixInRefIdeal.lean ====
abbrev S4x513x2048 : Shape := ⟨3, ![4, 513, 2048]⟩
abbrev S513x2048 : Shape := ⟨2, ![513, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x513x2048, .bf16⟩
  | .hbm, ⟨1, _⟩ => ⟨S513x2048, .f32⟩
  | .hbm, ⟨2, _⟩ => ⟨S513x2048, .f32⟩
  | .hbm, ⟨3, _⟩ => ⟨S513x2048, .f32⟩
  | .hbm, ⟨4, _⟩ => ⟨S4x513x2048, .f32⟩
  | .hbm, ⟨5, _⟩ => ⟨S_, .f32⟩
  | .hbm, ⟨6, _⟩ => ⟨S513x2048, .f32⟩
  | .hbm, ⟨7, _⟩ => ⟨S_, .f32⟩
  | .hbm, ⟨8, _⟩ => ⟨S513x2048, .f32⟩
  | .hbm, ⟨9, _⟩ => ⟨S513x2048, .f32⟩
  | .hbm, ⟨10, _⟩ => ⟨S_, .f32⟩
  | .hbm, ⟨11, _⟩ => ⟨S513x2048, .f32⟩
  | .hbm, ⟨12, _⟩ => ⟨S513x2048, .f32⟩
  | .hbm, ⟨13, _⟩ => ⟨S513x2048, .f32⟩
  | .hbm, ⟨14, _⟩ => ⟨S_, .f32⟩
  | .hbm, ⟨15, _⟩ => ⟨S513x2048, .f32⟩
  | .hbm, ⟨16, _⟩ => ⟨S513x2048, .f32⟩
  | .hbm, ⟨17, _⟩ => ⟨S513x2048, .f32⟩
  | .hbm, ⟨18, _⟩ => ⟨S_, .f32⟩
  | .hbm, ⟨19, _⟩ => ⟨S513x2048, .f32⟩
  | .hbm, ⟨20, _⟩ => ⟨S513x2048, .f32⟩
  | .hbm, ⟨21, _⟩ => ⟨S513x2048, .f32⟩
  | .hbm, ⟨22, _⟩ => ⟨S_, .f32⟩
  | .hbm, ⟨23, _⟩ => ⟨S513x2048, .f32⟩
  | .hbm, ⟨24, _⟩ => ⟨S513x2048, .f32⟩
  | .hbm, ⟨25, _⟩ => ⟨S_, .f32⟩
  | .hbm, ⟨26, _⟩ => ⟨S513x2048, .f32⟩
  | .hbm, ⟨27, _⟩ => ⟨S513x2048, .f32⟩
  | .hbm, ⟨28, _⟩ => ⟨S513x2048, .f32⟩
  | .hbm, ⟨29, _⟩ => ⟨S_, .f32⟩
  | .hbm, ⟨30, _⟩ => ⟨S513x2048, .f32⟩
  | .hbm, ⟨31, _⟩ => ⟨S513x2048, .f32⟩
  | .hbm, ⟨32, _⟩ => ⟨S513x2048, .f32⟩
  | .hbm, ⟨33, _⟩ => ⟨S_, .f32⟩
  | .hbm, ⟨34, _⟩ => ⟨S513x2048, .f32⟩
  | .hbm, ⟨35, _⟩ => ⟨S513x2048, .f32⟩
  | .hbm, ⟨36, _⟩ => ⟨S513x2048, .f32⟩
  | .hbm, ⟨37, _⟩ => ⟨S_, .f32⟩
  | .hbm, ⟨38, _⟩ => ⟨S513x2048, .f32⟩
  | .hbm, ⟨39, _⟩ => ⟨S513x2048, .f32⟩
  | _, _ => ⟨S4x513x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamMixOut.lean ====
abbrev S4x256x2048 : Shape := ⟨3, ![4, 256, 2048]⟩
abbrev S256x2048 : Shape := ⟨2, ![256, 2048]⟩
abbrev S4x64x2048 : Shape := ⟨3, ![4, 64, 2048]⟩
abbrev S64x2048 : Shape := ⟨2, ![64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S4x64x2048, .bf16⟩
  | .local _ .vmem, ⟨1, _⟩ => ⟨S4x64x2048, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamMixOutRefIdeal.lean ====
abbrev S4x256x2048 : Shape := ⟨3, ![4, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S4x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamPool.lean ====
abbrev S4x128x256 : Shape := ⟨3, ![4, 128, 256]⟩
abbrev S128x256 : Shape := ⟨2, ![128, 256]⟩
abbrev S1x128x256 : Shape := ⟨3, ![1, 128, 256]⟩

abbrev nBuf : Space → Nat
  | .hbm => 8
  | .vmem => 8
  | .smem => 0
  | _ => 0

abbrev bufTy : (tb : Table) → Fin (tcTables nBuf tb) → BufTy
  | .hbm, ⟨0, _⟩ => ⟨S4x128x256, .bf16⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .local _ .vmem, ⟨0, _⟩ => ⟨S4x128x256, .bf16⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | _, _ => ⟨S4x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamPoolRefIdeal.lean ====
abbrev S4x128x256 : Shape := ⟨3, ![4, 128, 256]⟩
abbrev S128x256 : Shape := ⟨2, ![128, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x128x256, .bf16⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S4x128x256, .f32⟩
  | .hbm, ⟨5, _⟩ => ⟨S_, .f32⟩
  | .hbm, ⟨6, _⟩ => ⟨S128x256, .f32⟩
  | .hbm, ⟨7, _⟩ => ⟨S_, .f32⟩
  | .hbm, ⟨8, _⟩ => ⟨S128x256, .f32⟩
  | .hbm, ⟨9, _⟩ => ⟨S128x256, .f32⟩
  | .hbm, ⟨10, _⟩ => ⟨S_, .f32⟩
  | .hbm, ⟨11, _⟩ => ⟨S128x256, .f32⟩
  | .hbm, ⟨12, _⟩ => ⟨S128x256, .f32⟩
  | .hbm, ⟨13, _⟩ => ⟨S128x256, .f32⟩
  | .hbm, ⟨14, _⟩ => ⟨S_, .f32⟩
  | .hbm, ⟨15, _⟩ => ⟨S128x256, .f32⟩
  | .hbm, ⟨16, _⟩ => ⟨S128x256, .f32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S128x256, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S128x256, .f32⟩
  | .hbm, ⟨29, _⟩ => ⟨S_, .f32⟩
  | .hbm, ⟨30, _⟩ => ⟨S128x256, .f32⟩
  | .hbm, ⟨31, _⟩ => ⟨S128x256, .f32⟩
  | .hbm, ⟨32, _⟩ => ⟨S128x256, .f32⟩
  | .hbm, ⟨33, _⟩ => ⟨S_, .f32⟩
  | .hbm, ⟨34, _⟩ => ⟨S128x256, .f32⟩
  | .hbm, ⟨35, _⟩ => ⟨S128x256, .f32⟩
  | .hbm, ⟨36, _⟩ => ⟨S128x256, .f32⟩
  | .hbm, ⟨37, _⟩ => ⟨S_, .f32⟩
  | .hbm, ⟨38, _⟩ => ⟨S128x256, .f32⟩
  | .hbm, ⟨39, _⟩ => ⟨S128x256, .f32⟩
  | _, _ => ⟨S4x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSmall.lean ====
abbrev S8x8x3584 : Shape := ⟨3, ![8, 8, 3584]⟩
abbrev S8x3584 : Shape := ⟨2, ![8, 3584]⟩
abbrev S1x8x3584 : Shape := ⟨3, ![1, 8, 3584]⟩

abbrev nBuf : Space → Nat
  | .hbm => 8
  | .vmem => 8
  | .smem => 0
  | _ => 0

abbrev bufTy : (tb : Table) → Fin (tcTables nBuf tb) → BufTy
  | .hbm, ⟨0, _⟩ => ⟨S8x8x3584, .f32⟩
  | .hbm, ⟨1, _⟩ => ⟨S8x3584, .f32⟩
  | .hbm, ⟨2, _⟩ => ⟨S8x3584, .f32⟩
  | .hbm, ⟨3, _⟩ => ⟨S8x3584, .f32⟩
  | .hbm, ⟨4, _⟩ => ⟨S8x3584, .f32⟩
  | .hbm, ⟨5, _⟩ => ⟨S8x3584, .f32⟩
  | .hbm, ⟨6, _⟩ => ⟨S8x3584, .f32⟩
  | .hbm, ⟨7, _⟩ => ⟨S8x3584, .f32⟩
  | .local _ .vmem, ⟨0, _⟩ => ⟨S8x8x3584, .f32⟩
  | .local _ .vmem, ⟨1, _⟩ => ⟨S8x3584, .f32⟩
  | .local _ .vmem, ⟨2, _⟩ => ⟨S8x3584, .f32⟩
  | .local _ .vmem, ⟨3, _⟩ => ⟨S8x3584, .f32⟩
  | .local _ .vmem, ⟨4, _⟩ => ⟨S8x3584, .f32⟩
  | .local _ .vmem, ⟨5, _⟩ => ⟨S8x3584, .f32⟩
  | .local _ .vmem, ⟨6, _⟩ => ⟨S8x3584, .f32⟩
  | .local _ .vmem, ⟨7, _⟩ => ⟨S8x3584, .f32⟩
  | _, _ => ⟨S8x8x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x8x3584 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S8x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S8x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S8x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S8x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S8x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S8x3584 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S8x3584 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamSmallRefIdeal.lean ====
abbrev S8x8x3584 : Shape := ⟨3, ![8, 8, 3584]⟩
abbrev S8x3584 : Shape := ⟨2, ![8, 3584]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x3584, .f32⟩
  | .hbm, ⟨1, _⟩ => ⟨S8x3584, .f32⟩
  | .hbm, ⟨2, _⟩ => ⟨S8x3584, .f32⟩
  | .hbm, ⟨3, _⟩ => ⟨S8x3584, .f32⟩
  | .hbm, ⟨4, _⟩ => ⟨S_, .f32⟩
  | .hbm, ⟨5, _⟩ => ⟨S8x3584, .f32⟩
  | .hbm, ⟨6, _⟩ => ⟨S_, .f32⟩
  | .hbm, ⟨7, _⟩ => ⟨S8x3584, .f32⟩
  | .hbm, ⟨8, _⟩ => ⟨S8x3584, .f32⟩
  | .hbm, ⟨9, _⟩ => ⟨S_, .f32⟩
  | .hbm, ⟨10, _⟩ => ⟨S8x3584, .f32⟩
  | .hbm, ⟨11, _⟩ => ⟨S8x3584, .f32⟩
  | .hbm, ⟨12, _⟩ => ⟨S8x3584, .f32⟩
  | .hbm, ⟨13, _⟩ => ⟨S_, .f32⟩
  | .hbm, ⟨14, _⟩ => ⟨S8x3584, .f32⟩
  | .hbm, ⟨15, _⟩ => ⟨S8x3584, .f32⟩
  | .hbm, ⟨16, _⟩ => ⟨S8x3584, .f32⟩
  | .hbm, ⟨17, _⟩ => ⟨S_, .f32⟩
  | .hbm, ⟨18, _⟩ => ⟨S8x3584, .f32⟩
  | .hbm, ⟨19, _⟩ => ⟨S8x3584, .f32⟩
  | .hbm, ⟨20, _⟩ => ⟨S8x3584, .f32⟩
  | .hbm, ⟨21, _⟩ => ⟨S_, .f32⟩
  | .hbm, ⟨22, _⟩ => ⟨S8x3584, .f32⟩
  | .hbm, ⟨23, _⟩ => ⟨S8x3584, .f32⟩
  | .hbm, ⟨24, _⟩ => ⟨S_, .f32⟩
  | .hbm, ⟨25, _⟩ => ⟨S8x3584, .f32⟩
  | .hbm, ⟨26, _⟩ => ⟨S8x3584, .f32⟩
  | .hbm, ⟨27, _⟩ => ⟨S8x3584, .f32⟩
  | .hbm, ⟨28, _⟩ => ⟨S_, .f32⟩
  | .hbm, ⟨29, _⟩ => ⟨S8x3584, .f32⟩
  | .hbm, ⟨30, _⟩ => ⟨S8x3584, .f32⟩
  | .hbm, ⟨31, _⟩ => ⟨S8x3584, .f32⟩
  | .hbm, ⟨32, _⟩ => ⟨S_, .f32⟩
  | .hbm, ⟨33, _⟩ => ⟨S8x3584, .f32⟩
  | .hbm, ⟨34, _⟩ => ⟨S8x3584, .f32⟩
  | .hbm, ⟨35, _⟩ => ⟨S8x3584, .f32⟩
  | .hbm, ⟨36, _⟩ => ⟨S_, .f32⟩
  | .hbm, ⟨37, _⟩ => ⟨S8x3584, .f32⟩
  | .hbm, ⟨38, _⟩ => ⟨S8x3584, .f32⟩
  | _, _ => ⟨S8x8x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.PoolPoint.lean ====
/-
  What one grid point of the pool's backward kernel leaves in its three output blocks, as functions of the blocks it
  reads. A point with `i = 0` starts the two accumulators, every other point adds to them.
-/
module

public import proofs.«01_k».proof.Proof.Gen.KernelIdeal.Value

@[expose] public section

set_option maxRecDepth 16384

noncomputable section

namespace Cert.KernelIdeal.PoolValue

open Idealize.ShloMosaic Idealize.ShloMosaic.TcCoe Idealize.SL.Sem
open Cert.KernelIdeal Cert.KernelIdeal.Gen

variable {F : FTy → Type} [FloatOps F]

/-- The offsets of a two-axis store of a whole block are zero. -/
theorem hz2 : (![0, 0] : Fin 2 → Nat) = fun _ => 0 := funext fun a => by fin_cases a <;> rfl

/-- The offsets of a three-axis store of a whole block are zero. -/
theorem hz3 : (![0, 0, 0] : Fin 3 → Nat) = fun _ => 0 := funext fun a => by fin_cases a <;> rfl

/-- The block of the pool input's gradient a point leaves. -/
def duBlock (i : grid0.Coords) (x0 x1 : Vec F S256x256 .f32) (x3 : Vec F S1x256x256 .bf16) (x4 : Vec F S1x256 .f32) :
    Vec F S256x256 .bf16 :=
  k0_pay1 (BitVec.ofNat 32 (i 0).val) (k0_pay10 i x0 x4 x1 x3) (k0_pay11 i x0 x4 x1 x3) (k0_pay12 i x0 x4 x1 x3) 508#32

section Cases
variable (c : Dev nD) (i : grid0.Coords)
  (arg2 : Memref sig .tc .vmem S256x256 .f32) (harg2 : arg2.IsWhole) (arg3 : Memref sig .tc .vmem S256x256 .f32) (harg3 : arg3.IsWhole)
  (arg4 : Memref sig .tc .vmem S256x256 .bf16) (harg4 : arg4.IsWhole) (arg5 : Memref sig .tc .vmem S1x256x256 .bf16) (harg5 : arg5.IsWhole)
  (arg6 : Memref sig .tc .vmem S1x256 .f32) (harg6 : arg6.IsWhole) (arg7 : Memref sig .tc .vmem S256x256 .bf16) (harg7 : arg7.IsWhole)
  (arg8 : Memref sig .tc .vmem S1x256x256 .f32) (harg8 : arg8.IsWhole) (arg9 : Memref sig .tc .vmem S1x256 .f32) (harg9 : arg9.IsWhole)
  (x0 x1 : Vec F S256x256 .f32) (x2 : Vec F S256x256 .bf16) (x3 : Vec F S1x256x256 .bf16) (x4 : Vec F S1x256 .f32)
  (xo6 : Vec F S1x256x256 .f32) (xo7 : Vec F S1x256 .f32)

/-- The first point of a group leaves the input gradient's block. -/
theorem out_A_5 (hc0 : cond0_0 i) (hc1 : ¬cond0_1 i) :
    out0_A_5 c i arg2 harg2 arg3 harg3 arg4 harg4 arg5 harg5 arg6 harg6 arg7 harg7 arg8 harg8 arg9 harg9 hc0 hc1 x0 x1 x2 x3 x4
      = duBlock i x0 x1 x3 x4 := by
  unfold out0_A_5
  rw [View.read_writes_eq_canon _ _ _ (cover0_A_5 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_unit_zero hz2]
  simp only [View.readAt_eq_ld, harg2.read_unread, harg3.read_unread, harg4.read_unread, harg5.read_unread, harg6.read_unread,
    View.ld_unit_zero (S := S256x256) hz2, View.ld_unit_zero (S := S1x256) hz2, View.ld_unit_zero (S := S1x256x256) hz3]
  rfl

/-- The first point of a group starts the weight gradient. -/
theorem out_A_6 (hc0 : cond0_0 i) (hc1 : ¬cond0_1 i) :
    out0_A_6 c i arg2 harg2 arg3 harg3 arg4 harg4 arg5 harg5 arg6 harg6 arg7 harg7 arg8 harg8 arg9 harg9 hc0 hc1 x0 x1 x2 x3 x4
      = k0_pay5 (k0_pay9 i x0 x4 x1) x2 := by
  unfold out0_A_6
  rw [View.read_writes_eq_canon _ _ _ (cover0_A_6 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_unit_zero hz3]
  simp only [View.readAt_eq_ld, harg2.read_unread, harg3.read_unread, harg4.read_unread, harg5.read_unread, harg6.read_unread,
    harg8.read_unread, harg9.read_unread,
    View.ld_unit_zero (S := S256x256) hz2, View.ld_unit_zero (S := S1x256) hz2, View.ld_unit_zero (S := S1x256x256) hz3]

/-- The first point of a group starts the scale gradient. -/
theorem out_A_7 (hc0 : cond0_0 i) (hc1 : ¬cond0_1 i) :
    out0_A_7 c i arg2 harg2 arg3 harg3 arg4 harg4 arg5 harg5 arg6 harg6 arg7 harg7 arg8 harg8 arg9 harg9 hc0 hc1 x0 x1 x2 x3 x4
      = k0_pay3 x0 x2 x3 := by
  unfold out0_A_7
  rw [View.read_writes_eq_canon _ _ _ (cover0_A_7 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_unit_zero hz2]
  simp only [View.readAt_eq_ld, harg2.read_unread, harg3.read_unread, harg4.read_unread, harg5.read_unread, harg6.read_unread,
    harg8.read_unread, harg9.read_unread,
    View.ld_unit_zero (S := S256x256) hz2, View.ld_unit_zero (S := S1x256) hz2, View.ld_unit_zero (S := S1x256x256) hz3]

/-- A later point leaves the input gradient's block. -/
theorem out_B_5 (hc0 : ¬cond0_0 i) (hc1 : cond0_1 i) :
    out0_B_5 c i arg2 harg2 arg3 harg3 arg4 harg4 arg5 harg5 arg6 harg6 arg7 harg7 arg8 harg8 arg9 harg9 hc0 hc1 x0 x1 x2 x3 x4 xo6 xo7
      = duBlock i x0 x1 x3 x4 := by
  unfold out0_B_5
  rw [View.read_writes_eq_canon _ _ _ (cover0_B_5 c i arg2 harg2 arg3 harg3 arg4 harg4 arg5 harg5 arg6 harg6 arg7 harg7 arg8 harg8 arg9 harg9 hc0 hc1 x0 x1 x2 x3 x4 xo6 xo7)]
  unfold kernelRun0_B
  dsimp only
  sl_unfold_words
  rw [View.canon_unit_zero hz2]
  simp only [View.readAt_eq_ld, harg2.read_unread, harg3.read_unread, harg4.read_unread, harg5.read_unread, harg6.read_unread,
    harg8.read_unread, harg9.read_unread,
    View.ld_unit_zero (S := S256x256) hz2, View.ld_unit_zero (S := S1x256) hz2, View.ld_unit_zero (S := S1x256x256) hz3]
  rfl

/-- A later point adds its product to the weight gradient. -/
theorem out_B_6 (hc0 : ¬cond0_0 i) (hc1 : cond0_1 i) :
    out0_B_6 c i arg2 harg2 arg3 harg3 arg4 harg4 arg5 harg5 arg6 harg6 arg7 harg7 arg8 harg8 arg9 harg9 hc0 hc1 x0 x1 x2 x3 x4 xo6 xo7
      = k0_pay7 (k0_pay9 i x0 x4 x1) x2 xo6 := by
  unfold out0_B_6
  rw [View.read_writes_eq_canon _ _ _ (cover0_B_6 c i arg2 harg2 arg3 harg3 arg4 harg4 arg5 harg5 arg6 harg6 arg7 harg7 arg8 harg8 arg9 harg9 hc0 hc1 x0 x1 x2 x3 x4 xo6 xo7)]
  unfold kernelRun0_B
  dsimp only
  sl_unfold_words
  rw [View.canon_unit_zero hz3]
  simp only [View.readAt_eq_ld, harg2.read_unread, harg3.read_unread, harg4.read_unread, harg5.read_unread, harg6.read_unread,
    harg8.read_unread, harg9.read_unread,
    View.ld_unit_zero (S := S256x256) hz2, View.ld_unit_zero (S := S1x256) hz2, View.ld_unit_zero (S := S1x256x256) hz3]

/-- A later point adds its row sum to the scale gradient. -/
theorem out_B_7 (hc0 : ¬cond0_0 i) (hc1 : cond0_1 i) :
    out0_B_7 c i arg2 harg2 arg3 harg3 arg4 harg4 arg5 harg5 arg6 harg6 arg7 harg7 arg8 harg8 arg9 harg9 hc0 hc1 x0 x1 x2 x3 x4 xo6 xo7
      = k0_pay6 x0 x2 x3 xo7 := by
  unfold out0_B_7
  rw [View.read_writes_eq_canon _ _ _ (cover0_B_7 c i arg2 harg2 arg3 harg3 arg4 harg4 arg5 harg5 arg6 harg6 arg7 harg7 arg8 harg8 arg9 harg9 hc0 hc1 x0 x1 x2 x3 x4 xo6 xo7)]
  unfold kernelRun0_B
  dsimp only
  sl_unfold_words
  rw [View.canon_unit_zero hz2]
  simp only [View.readAt_eq_ld, harg2.read_unread, harg3.read_unread, harg4.read_unread, harg5.read_unread, harg6.read_unread,
    harg8.read_unread, harg9.read_unread,
    View.ld_unit_zero (S := S256x256) hz2, View.ld_unit_zero (S := S1x256) hz2, View.ld_unit_zero (S := S1x256x256) hz3]

end Cases

variable (m : (ℓ : Loc nD τ sig) → Buf (Elt F) ℓ)

/-- At the first point of a group the three blocks are that point's own. -/
theorem outsAt_first (c : Dev nD) (t : Fin cfg0.N) (h : t.val % 16 = 0) :
    outsAt0 m c t.val t.isLt = (duBlock (grid0.coords t) (iblk m c 0 t) (iblk m c 1 t) (iblk m c 3 t) (iblk m c 4 t),
      k0_pay5 (k0_pay9 (grid0.coords t) (iblk m c 0 t) (iblk m c 4 t) (iblk m c 1 t)) (iblk m c 2 t),
      k0_pay3 (iblk m c 0 t) (iblk m c 2 t) (iblk m c 3 t)) := by
  rw [outsAt0_A m c t h (by omega), out_A_5, out_A_6, out_A_7]

/-- At a later point the two accumulators go on from the point before. -/
theorem outsAt_later (c : Dev nD) (t : Fin cfg0.N) (h : ¬t.val % 16 = 0) :
    outsAt0 m c t.val t.isLt = (duBlock (grid0.coords t) (iblk m c 0 t) (iblk m c 1 t) (iblk m c 3 t) (iblk m c 4 t),
      k0_pay7 (k0_pay9 (grid0.coords t) (iblk m c 0 t) (iblk m c 4 t) (iblk m c 1 t)) (iblk m c 2 t)
        (outsAt0 m c (t.val - 1) (Nat.lt_of_le_of_lt (Nat.sub_le _ _) t.isLt)).2.1,
      k0_pay6 (iblk m c 0 t) (iblk m c 2 t) (iblk m c 3 t)
        (outsAt0 m c (t.val - 1) (Nat.lt_of_le_of_lt (Nat.sub_le _ _) t.isLt)).2.2) := by
  rw [outsAt0_B m c t h (by omega), out_B_5, out_B_6, out_B_7]

end Cert.KernelIdeal.PoolValue
-- ==== Proof.PoolPay.lean ====
/-
  The pool's backward kernel at one grid point over the extended reals: its payloads read at an index. The window sum
  taken by repeated rotation and addition is the sum over a window of consecutive rows, on the rows the kernel keeps.
-/
module

public import proofs.«01_k».proof.Proof.PoolPoint
public import Idealize.ShloMosaic.Lib.ValueIdx
public import Idealize.ShloMosaic.Lib.ValueIdxCore
public import Idealize.ShloMosaic.Lib.ValueLayout
public import Idealize.ShloMosaic.Lib.Affine
public import Idealize.ShloMosaic.Lib.KernelVsHost
public import Idealize.ShloMosaic.PureOps.Ideal.Laws

@[expose] public section

set_option maxRecDepth 16384

noncomputable section

namespace Cert.KernelIdeal.PoolValue

open Idealize.ShloMosaic Idealize.ShloMosaic.TcCoe Idealize.SL.Sem Idealize.ShloMosaic.ValueIdx Idealize.ShloMosaic.Affine
open Cert.KernelIdeal Cert.KernelIdeal.Gen
open scoped BigOperators

/-- The window of a group: 2, 4, 8 or 16 rows. -/
def win (g : ℕ) : ℕ := 2 ^ (g + 1)

/-- A row rotation by `512 - n` reads the row `n` further on, where that row is inside the block. -/
theorem roll_apply (v : FVec Ideal S512x256 .f32) (n : ℕ) (b : BitVec 32) (hb : b.toNat = 512 - n) (h : S512x256.Rotates 0 none)
    (hn0 : 0 < n) (r : ℕ) (c : Fin 256) (hr : r + n < 512) :
    dynamicRotate 0 b none v h (ix2 (⟨r, by omega⟩ : Fin 512) c) = v (ix2 (⟨r + n, hr⟩ : Fin 512) c) := by
  refine dynamicRotate_apply _ _ _ _ _ _ fun a => ?_
  match a with
  | ⟨0, _⟩ =>
    refine Eq.trans ?_ (if_pos rfl).symm
    show r + n = (r + 512 - b.toNat % 512) % 512
    rw [hb]
    omega
  | ⟨1, _⟩ => rfl

/-- One doubling step: a window of `n` rows added to itself `n` rows further on is a window of `2 n` rows. -/
theorem double (v : FVec Ideal S512x256 .f32) (f : ℕ → EReal) (n : ℕ) (b : BitVec 32) (hb : b.toNat = 512 - n)
    (h : S512x256.Rotates 0 none) (hn0 : 0 < n) (c : Fin 256)
    (hv : ∀ r (hr : r + n ≤ 512), v (ix2 (⟨r, by omega⟩ : Fin 512) c) = ∑ j ∈ Finset.range n, f (r + j))
    (r : ℕ) (hr : r + (n + n) ≤ 512) :
    addf v (dynamicRotate 0 b none v h) (ix2 (⟨r, by omega⟩ : Fin 512) c) = ∑ j ∈ Finset.range (n + n), f (r + j) := by
  rw [addf_apply, roll_apply v n b hb h hn0 r c (by omega), hv r (by omega), hv (r + n) (by omega), Finset.sum_range_add]
  simp only [Nat.add_assoc]

variable (i : grid0.Coords) (x0 x1 : Vec Ideal S256x256 .f32) (x2 : Vec Ideal S256x256 .bf16) (x3 : Vec Ideal S1x256x256 .bf16)
  (x4 : Vec Ideal S1x256 .f32)

theorem i0_lt : (i 0).val < 4 := (i 0).isLt
theorem i1_lt : (i 1).val < 16 := (i 1).isLt

/-- The row number the kernel computes for row `r` of its two blocks. -/
theorem pay8_apply (r : Fin 512) (k : Fin 256) : (k0_pay8 i (ix2 r k)).toNat = 256 * (i 1).val + r.val := by
  have h1 := i1_lt i
  have hr := r.isLt
  show (BitVec.ofNat 32 (i 1).val * 256#32 + BitVec.ofNat 32 (0 * 512 + r.val)).toNat = _
  rw [BitVec.toNat_add, BitVec.toNat_mul, BitVec.toNat_ofNat, BitVec.toNat_ofNat, BitVec.toNat_ofNat]
  simp only [Nat.zero_mul, Nat.zero_add]
  omega

/-- The scaled gradient rows of the two blocks, past the last row zero. -/
theorem pay9_apply (r : Fin 512) (k : Fin 256) : k0_pay9 i x0 x4 x1 (ix2 r k)
    = if 256 * (i 1).val + r.val < 4096 then
        (if h : r.val < 256 then x0 (ix2 ⟨r.val, h⟩ k) else x1 (ix2 ⟨r.val - 256, by omega⟩ k)) * x4 (ix2 0 k)
      else (0 : EReal) := by
  have h8 := pay8_apply i r k
  have h1 := i1_lt i
  have hr := r.isLt
  unfold k0_pay9
  dsimp only
  show (if (cmpi .slt (k0_pay8 i) (broadcast S512x256 4096#32) (ix2 r k)) = 1#1 then _ else Ideal.ofBits .f32 0x00000000#32) = _
  have hc : (cmpi .slt (k0_pay8 i) (broadcast S512x256 4096#32) (ix2 r k)) = 1#1 ↔ 256 * (i 1).val + r.val < 4096 := by
    show IntOp.cmpi .slt (k0_pay8 i (ix2 r k)) 4096#32 = 1#1 ↔ _
    rw [IntOp.cmpi_slt, BitVec.toInt_eq_toNat_of_lt (by rw [h8]; omega), h8, show (4096#32 : BitVec 32).toInt = 4096 from by decide]
    omega
  by_cases hlt : 256 * (i 1).val + r.val < 4096
  · rw [if_pos (hc.2 hlt), if_pos hlt, mulf_apply]
    congr 1
    · by_cases h : r.val < 256
      · rw [dif_pos h]
        exact concatenate_pair_apply_left (s₁ := S256x256) (s₂ := S256x256) 0 x0 x1 _ (ix2 r k) rfl (ix2 ⟨r.val, h⟩ k) (fun b => by match b with | ⟨0, _⟩ => rfl | ⟨1, _⟩ => rfl)
      · rw [dif_neg h]
        refine concatenate_pair_apply_right (s₁ := S256x256) (s₂ := S256x256) 0 x0 x1 _ (ix2 r k) rfl rfl (ix2 ⟨r.val - 256, by omega⟩ k) (fun b hb => ?_) ?_
        · match b with
          | ⟨0, _⟩ => exact absurd rfl hb
          | ⟨1, _⟩ => rfl
        · show r.val - 256 + 256 = r.val
          omega
    · exact broadcastTo_1b_ab_apply _ _ _ _
  · rw [if_neg (fun h => hlt (hc.1 h)), if_neg hlt, Ideal.ofBits_zero_f32]

/-- The pooled gradient: the scaled gradient rows against the weight's rows. -/
theorem pay10_apply (r : Fin 512) (k : Fin 256) : k0_pay10 i x0 x4 x1 x3 (ix2 r k)
    = ∑ d : Fin 256, k0_pay9 i x0 x4 x1 (ix2 r d) * x3 (ix3 0 k d) := by
  unfold k0_pay10
  rw [matmul, Ideal.matmul_constant_zero_apply,
    ← Equiv.sum_comp (contrEquiv1 dot_S512x256_S256x256_S512x256_1_1_0_0_n_n 256 rfl rfl).symm]
  refine Finset.sum_congr rfl fun d _ => ?_
  have hl : dot_S512x256_S256x256_S512x256_1_1_0_0_n_n.lhsIdx (ix2 r k)
      ((contrEquiv1 dot_S512x256_S256x256_S512x256_1_1_0_0_n_n 256 rfl rfl).symm d) = ix2 r d := by
    funext a
    match a with
    | ⟨0, _⟩ => rfl
    | ⟨1, _⟩ => exact Fin.ext (contrEquiv1_symm_val dot_S512x256_S256x256_S512x256_1_1_0_0_n_n 256 rfl rfl d)
  have hr : dot_S512x256_S256x256_S512x256_1_1_0_0_n_n.rhsIdx (ix2 r k)
      ((contrEquiv1 dot_S512x256_S256x256_S512x256_1_1_0_0_n_n 256 rfl rfl).symm d) = ix2 k d := by
    funext a
    match a with
    | ⟨0, _⟩ => rfl
    | ⟨1, _⟩ => exact Fin.ext (contrEquiv1_symm_val dot_S512x256_S256x256_S512x256_1_1_0_0_n_n 256 rfl rfl d)
  rw [hl, hr, shapeCast_1ab_ab_apply]
  rfl

/-- The smaller of two words below 2³¹, read signed. -/
theorem minsi_toInt (x y : BitVec 32) (hx : x.toNat < 2 ^ 31) (hy : y.toNat < 2 ^ 31) :
    (IntOp.minsi x y).toInt = ((min x.toNat y.toNat : ℕ) : ℤ) := by
  unfold IntOp.minsi
  have ex := BitVec.toInt_eq_toNat_of_lt (x := x) (by omega)
  have ey := BitVec.toInt_eq_toNat_of_lt (x := y) (by omega)
  split
  · next h => rw [BitVec.slt_iff_toInt_lt] at h; omega
  · next h => rw [BitVec.slt_iff_toInt_lt] at h; omega

/-- The number of rows a group's window covers at row `s`. -/
def count (g s : ℕ) : EReal := (((min (s + 1) (win g) : ℕ) : ℝ) : EReal)

/-- The pooled gradient over its row's count. -/
def quot (r : Fin 512) (k : Fin 256) : EReal :=
  Ideal.div (k0_pay10 i x0 x4 x1 x3 (ix2 r k)) (count (i 0).val (256 * (i 1).val + r.val))

/-- The same at a row number, zero past the two blocks. -/
def quotN (k : Fin 256) (r : ℕ) : EReal := if h : r < 512 then quot i x0 x1 x3 x4 ⟨r, h⟩ k else 0

/-- The word the kernel selects for the window is the group's window. -/
theorem winBits (n : ℕ) (hn : n < 4) : (Scalar.select (Scalar.cmpi .eq (BitVec.ofNat 32 n) 0#32) 2#32
    (Scalar.select (Scalar.cmpi .eq (BitVec.ofNat 32 n) 1#32) 4#32
      (Scalar.select (Scalar.cmpi .eq (BitVec.ofNat 32 n) 2#32) 8#32 16#32)) : BitVec 32).toNat = win n := by
  rcases (by omega : n = 0 ∨ n = 1 ∨ n = 2 ∨ n = 3) with h | h | h | h <;> subst h <;> rfl

/-- A group's window is at most sixteen rows. -/
theorem win_le (n : ℕ) (hn : n < 4) : win n ≤ 16 := by
  rcases (by omega : n = 0 ∨ n = 1 ∨ n = 2 ∨ n = 3) with h | h | h | h <;> subst h <;> decide

/-- The two-row window sums. -/
theorem pay11_apply (k : Fin 256) (r : ℕ) (hr : r + (1 + 1) ≤ 512) : k0_pay11 i x0 x4 x1 x3 (ix2 (⟨r, by omega⟩ : Fin 512) k)
    = ∑ j ∈ Finset.range (1 + 1), quotN i x0 x1 x3 x4 k (r + j) := by
  unfold k0_pay11
  dsimp only
  refine double _ (quotN i x0 x1 x3 x4 k) 1 511#32 rfl _ (by omega) k (fun s hs => ?_) r hr
  have h0 := i0_lt i
  have h1 := i1_lt i
  have h8 := pay8_apply i ⟨s, by omega⟩ k
  rw [Finset.sum_range_one, Nat.add_zero, quotN, dif_pos (by omega)]
  show Ideal.div (k0_pay10 i x0 x4 x1 x3 (ix2 _ k)) (((IntOp.minsi (k0_pay8 i (ix2 _ k) + 1#32) _).toInt : ℝ) : EReal) = _
  have hb := winBits (i 0).val h0
  have hw := win_le (i 0).val h0
  have ha : (k0_pay8 i (ix2 (⟨s, by omega⟩ : Fin 512) k) + 1#32).toNat = 256 * (i 1).val + s + 1 := by
    rw [BitVec.toNat_add, h8]
    show (256 * (i 1).val + s + 1) % 2 ^ 32 = _
    omega
  unfold quot count
  congr 1
  rw [minsi_toInt _ _ (by rw [ha]; omega) (by rw [broadcast_apply, hb]; omega), ha, broadcast_apply, hb]
  norm_cast

/-- The four-row window sums. -/
theorem pay12_apply (k : Fin 256) (r : ℕ) (hr : r + (2 + 2) ≤ 512) : k0_pay12 i x0 x4 x1 x3 (ix2 (⟨r, by omega⟩ : Fin 512) k)
    = ∑ j ∈ Finset.range (2 + 2), quotN i x0 x1 x3 x4 k (r + j) := by
  unfold k0_pay12
  dsimp only
  exact double _ (quotN i x0 x1 x3 x4 k) 2 510#32 rfl _ (by omega) k (fun s hs => pay11_apply i x0 x1 x3 x4 k s hs) r hr

/-- The input gradient's block: the window sum of the divided pooled gradients, less the pooled gradient. -/
theorem duBlock_apply (r : Fin 256) (k : Fin 256) : duBlock i x0 x1 x3 x4 (ix2 r k)
    = (∑ j ∈ Finset.range (win (i 0).val), quotN i x0 x1 x3 x4 k (r.val + j))
      - k0_pay10 i x0 x4 x1 x3 (ix2 (⟨r.val, by omega⟩ : Fin 512) k) := by
  have h0 := i0_lt i
  have hr := r.isLt
  have e8 : ∀ (s : ℕ) (hs : s + (4 + 4) ≤ 512),
      addf (k0_pay12 i x0 x4 x1 x3) (dynamicRotate 0 508#32 none (k0_pay12 i x0 x4 x1 x3) rotates_S512x256_d0) (ix2 (⟨s, by omega⟩ : Fin 512) k)
        = ∑ j ∈ Finset.range (4 + 4), quotN i x0 x1 x3 x4 k (s + j) := fun s hs =>
    double _ (quotN i x0 x1 x3 x4 k) 4 508#32 rfl _ (by omega) k (fun s hs => pay12_apply i x0 x1 x3 x4 k s hs) s hs
  have e16 := double _ (quotN i x0 x1 x3 x4 k) 8 504#32 rfl rotates_S512x256_d0 (by omega) k e8 r.val (by omega)
  unfold duBlock k0_pay1
  dsimp only
  have hs : ∀ (v : FVec Ideal S512x256 .f32), extractStridedSlice S256x256 ![0, 0] v slices_S512x256_o0_0_S256x256 (ix2 r k)
      = v (ix2 (⟨r.val, by omega⟩ : Fin 512) k) := fun v =>
    extractStridedSlice_apply _ v _ (ix2 r k) (ix2 (⟨r.val, by omega⟩ : Fin 512) k)
      (fun a => by match a with | ⟨0, _⟩ => exact (Nat.zero_add _).symm | ⟨1, _⟩ => exact (Nat.zero_add _).symm)
  show extractStridedSlice (s := S512x256) S256x256 ![0, 0] _ slices_S512x256_o0_0_S256x256 (ix2 r k)
    - (extractStridedSlice (s := S512x256) S256x256 ![0, 0] _ slices_S512x256_o0_0_S256x256 (ix2 r k) : EReal) = _
  rw [hs, hs]
  congr 1
  rcases (by omega : (i 0).val = 0 ∨ (i 0).val = 1 ∨ (i 0).val = 2 ∨ (i 0).val = 3) with h | h | h | h <;> rw [h]
  · exact pay11_apply i x0 x1 x3 x4 k r.val (by omega)
  · exact pay12_apply i x0 x1 x3 x4 k r.val (by omega)
  · exact e8 r.val (by omega)
  · exact e16

/-- A point's share of the weight gradient. -/
theorem pay4_apply (v : FVec Ideal S512x256 .f32) (a b : Fin 256) : k0_pay4 v x2 (ix2 a b)
    = ∑ r : Fin 256, x2 (ix2 r a) * v (ix2 (⟨r.val, by omega⟩ : Fin 512) b) := by
  unfold k0_pay4
  rw [matmul, Ideal.matmul_constant_zero_apply,
    ← Equiv.sum_comp (contrEquiv1 dot_S256x256_S256x256_S256x256_0_0_1_1_n_n 256 rfl rfl).symm]
  refine Finset.sum_congr rfl fun d _ => ?_
  have hl : dot_S256x256_S256x256_S256x256_0_0_1_1_n_n.lhsIdx (ix2 a b)
      ((contrEquiv1 dot_S256x256_S256x256_S256x256_0_0_1_1_n_n 256 rfl rfl).symm d) = ix2 d a := by
    funext e
    match e with
    | ⟨0, _⟩ => exact Fin.ext (contrEquiv1_symm_val dot_S256x256_S256x256_S256x256_0_0_1_1_n_n 256 rfl rfl d)
    | ⟨1, _⟩ => rfl
  have hr : dot_S256x256_S256x256_S256x256_0_0_1_1_n_n.rhsIdx (ix2 a b)
      ((contrEquiv1 dot_S256x256_S256x256_S256x256_0_0_1_1_n_n 256 rfl rfl).symm d) = ix2 d b := by
    funext e
    match e with
    | ⟨0, _⟩ => exact Fin.ext (contrEquiv1_symm_val dot_S256x256_S256x256_S256x256_0_0_1_1_n_n 256 rfl rfl d)
    | ⟨1, _⟩ => rfl
  rw [hl, hr, k0_pay2, shapeCast_self]
  congr 1
  exact extractStridedSlice_apply (s := S512x256) (t := S256x256) _ v slices_S512x256_o0_0_S256x256 (ix2 d b) (ix2 (⟨d.val, by omega⟩ : Fin 512) b)
    (fun a => by match a with | ⟨0, _⟩ => exact (Nat.zero_add _).symm | ⟨1, _⟩ => exact (Nat.zero_add _).symm)

/-- A point's share of the scale gradient. -/
theorem pay3_apply (b : Fin 256) : k0_pay3 x0 x2 x3 (ix2 0 b)
    = ∑ r : Fin 256, x0 (ix2 r b) * ∑ d : Fin 256, x2 (ix2 r d) * x3 (ix3 0 d b) := by
  unfold k0_pay3
  dsimp only
  rw [shapeCast_a_1a_apply]
  refine (Ideal.multiReduction_add_single _ _ reduces_S256x256_S256 (.inl rfl) rfl (ix1 b)).trans ?_
  refine Finset.sum_congr rfl fun (r : Fin 256) _ => ?_
  have hli : reduces_S256x256_S256.lift (ix1 b) r = ix2 r b := by
    funext e; match e with | ⟨0, _⟩ => rfl | ⟨1, _⟩ => rfl
  rw [hli, mulf_apply]
  congr 1
  rw [matmul, Ideal.matmul_constant_zero_apply,
    ← Equiv.sum_comp (contrEquiv1 dot_S256x256_S256x256_S256x256_1_0_0_1_n_n 256 rfl rfl).symm]
  refine Finset.sum_congr rfl fun d _ => ?_
  have hl : dot_S256x256_S256x256_S256x256_1_0_0_1_n_n.lhsIdx (ix2 r b)
      ((contrEquiv1 dot_S256x256_S256x256_S256x256_1_0_0_1_n_n 256 rfl rfl).symm d) = ix2 r d := by
    funext e
    match e with
    | ⟨0, _⟩ => rfl
    | ⟨1, _⟩ => exact Fin.ext (contrEquiv1_symm_val dot_S256x256_S256x256_S256x256_1_0_0_1_n_n 256 rfl rfl d)
  have hr : dot_S256x256_S256x256_S256x256_1_0_0_1_n_n.rhsIdx (ix2 r b)
      ((contrEquiv1 dot_S256x256_S256x256_S256x256_1_0_0_1_n_n 256 rfl rfl).symm d) = ix2 d b := by
    funext e
    match e with
    | ⟨0, _⟩ => exact Fin.ext (contrEquiv1_symm_val dot_S256x256_S256x256_S256x256_1_0_0_1_n_n 256 rfl rfl d)
    | ⟨1, _⟩ => rfl
  rw [hl, hr, k0_pay2, shapeCast_self, shapeCast_1ab_ab_apply]

/-- The weight gradient's start, read at an index. -/
theorem pay5_apply (v : FVec Ideal S512x256 .f32) (a b : Fin 256) : k0_pay5 v x2 (ix3 0 a b) = k0_pay4 v x2 (ix2 a b) := by
  unfold k0_pay5
  rw [shapeCast_ab_1ab_apply]

/-- The weight gradient's step, read at an index. -/
theorem pay7_apply (v : FVec Ideal S512x256 .f32) (o : Vec Ideal S1x256x256 .f32) (a b : Fin 256) :
    k0_pay7 v x2 o (ix3 0 a b) = o (ix3 0 a b) + k0_pay4 v x2 (ix2 a b) := by
  unfold k0_pay7
  rw [shapeCast_ab_1ab_apply, addf_apply, shapeCast_1ab_ab_apply]

/-- The scale gradient's step, read at an index. -/
theorem pay6_apply (o : Vec Ideal S1x256 .f32) (b : Fin 256) :
    k0_pay6 x0 x2 x3 o (ix2 0 b) = o (ix2 0 b) + k0_pay3 x0 x2 x3 (ix2 0 b) := by
  unfold k0_pay6
  rw [addf_apply, shapeCast_self]

end Cert.KernelIdeal.PoolValue
-- ==== Proof.PoolArray.lean ====
/-
  The three arrays the pool's backward kernel leaves, read at an index, as functions of the arrays it finds: the pool
  input's gradient, the group weights' gradient and the scale's gradient.
-/
module

public import proofs.«01_k».proof.Proof.PoolPay

@[expose] public section

set_option maxRecDepth 16384

noncomputable section

namespace Cert.KernelIdeal.PoolValue

open Idealize.ShloMosaic Idealize.ShloMosaic.TcCoe Idealize.SL.Sem Idealize.ShloMosaic.ValueIdx
open Cert.KernelIdeal Cert.KernelIdeal.Gen
open scoped BigOperators

/-! ## The three gradients as functions of whole arrays -/

section Spec
variable (ct : S4096x2048.Idx → EReal) (pool : S4096x1024.Idx → EReal) (pw : S4x256x256.Idx → EReal) (ps : S1x1024.Idx → EReal)

/-- The scaled incoming gradient at row `s`, group `g`, channel `k`; zero past the last row. -/
def scaled (g : Fin 4) (s : ℕ) (k : Fin 256) : EReal :=
  if h : s < 4096 then ct (ix2 ⟨s, h⟩ ⟨1024 + (256 * g.val + k.val), by omega⟩) * ps (ix2 0 ⟨256 * g.val + k.val, by omega⟩) else 0

/-- The pooled gradient at row `s`: the scaled gradient against the weight's rows. -/
def dpool (g : Fin 4) (s : ℕ) (c : Fin 256) : EReal := ∑ k : Fin 256, scaled ct ps g s k * pw (ix3 g c k)

/-- The pooled gradient over its row's count. -/
def dquot (g : Fin 4) (s : ℕ) (c : Fin 256) : EReal := Ideal.div (dpool ct pw ps g s c) (count g.val s)

/-- The pool input's gradient at row `s`: the windowed sum forward from `s`, less the pooled gradient. -/
def duAt (g : Fin 4) (s : ℕ) (c : Fin 256) : EReal :=
  (∑ j ∈ Finset.range (win g.val), dquot ct pw ps g (s + j) c) - dpool ct pw ps g s c

/-- One row's term of the weight gradient. -/
def dwTerm (g : Fin 4) (a b : Fin 256) (s : ℕ) : EReal :=
  (if h : s < 4096 then pool (ix2 ⟨s, h⟩ ⟨256 * g.val + a.val, by omega⟩) else 0) * scaled ct ps g s b

/-- One row's term of the scale gradient. -/
def dsTerm (g : Fin 4) (b : Fin 256) (s : ℕ) : EReal :=
  if h : s < 4096 then ct (ix2 ⟨s, h⟩ ⟨1024 + (256 * g.val + b.val), by omega⟩)
    * ∑ d : Fin 256, pool (ix2 ⟨s, h⟩ ⟨256 * g.val + d.val, by omega⟩) * pw (ix3 g d b) else 0

/-- The pool input's gradient as an array. -/
def duArr : S4096x1024.Idx → EReal := fun i =>
  duAt ct pw ps ⟨(i 1).val / 256, by have := idx2_lt1 i; omega⟩ (i 0).val ⟨(i 1).val % 256, Nat.mod_lt _ (by omega)⟩

/-- The weight gradient as an array. -/
def dwArr : S4x256x256.Idx → EReal := fun i => ∑ s ∈ Finset.range 4096, dwTerm ct pool ps (i 0) (i 1) (i 2) s

/-- The scale gradient as an array. -/
def dsArr : S1x1024.Idx → EReal := fun i =>
  ∑ s ∈ Finset.range 4096, dsTerm ct pool pw ⟨(i 1).val / 256, by have := idx2_lt1 i; omega⟩ ⟨(i 1).val % 256, Nat.mod_lt _ (by omega)⟩ s

end Spec

variable (m : (ℓ : Loc nD τ sig) → Buf (Elt Ideal) ℓ) (c : Dev nD)

/-- The incoming gradient the kernel finds. -/
abbrev ctOf : S4096x2048.Idx → EReal := V m c main_arg3
/-- The pooled inputs the kernel finds. -/
abbrev poolOf : S4096x1024.Idx → EReal := V m c main_v86
/-- The weights the kernel finds. -/
abbrev pwOf : S4x256x256.Idx → EReal := V m c main_v87
/-- The scale the kernel finds. -/
abbrev psOf : S1x1024.Idx → EReal := V m c main_arg2

/-! ## Where the blocks lie -/

/-- A point's two grid coordinates. -/
theorem coords (t : Fin cfg0.N) : ((grid0.coords t) 0).val = t.val / 16 ∧ ((grid0.coords t) 1).val = t.val % 16 :=
  (by decide +kernel : ∀ t : Fin grid0.N, ((grid0.coords t) 0).val = t.val / 16 ∧ ((grid0.coords t) 1).val = t.val % 16) t

theorem idx0 (t : Fin cfg0.N) : win0_0.index t 0 = t.val % 16 ∧ win0_0.index t 1 = 4 + t.val / 16 :=
  (by decide +kernel : ∀ t : Fin grid0.N, win0_0.index t 0 = t.val % 16 ∧ win0_0.index t 1 = 4 + t.val / 16) t
theorem idx1 (t : Fin cfg0.N) : win0_1.index t 0 = min (t.val % 16 + 1) 15 ∧ win0_1.index t 1 = 4 + t.val / 16 :=
  (by decide +kernel : ∀ t : Fin grid0.N, win0_1.index t 0 = min (t.val % 16 + 1) 15 ∧ win0_1.index t 1 = 4 + t.val / 16) t
theorem idx2 (t : Fin cfg0.N) : win0_2.index t 0 = t.val % 16 ∧ win0_2.index t 1 = t.val / 16 :=
  (by decide +kernel : ∀ t : Fin grid0.N, win0_2.index t 0 = t.val % 16 ∧ win0_2.index t 1 = t.val / 16) t
theorem idx3 (t : Fin cfg0.N) : win0_3.index t 0 = t.val / 16 ∧ win0_3.index t 1 = 0 ∧ win0_3.index t 2 = 0 :=
  (by decide +kernel : ∀ t : Fin grid0.N, win0_3.index t 0 = t.val / 16 ∧ win0_3.index t 1 = 0 ∧ win0_3.index t 2 = 0) t
theorem idx4 (t : Fin cfg0.N) : win0_4.index t 0 = 0 ∧ win0_4.index t 1 = t.val / 16 :=
  (by decide +kernel : ∀ t : Fin grid0.N, win0_4.index t 0 = 0 ∧ win0_4.index t 1 = t.val / 16) t
theorem idx5 (t : Fin cfg0.N) : win0_5.index t 0 = t.val % 16 ∧ win0_5.index t 1 = t.val / 16 :=
  (by decide +kernel : ∀ t : Fin grid0.N, win0_5.index t 0 = t.val % 16 ∧ win0_5.index t 1 = t.val / 16) t
theorem idx6 (t : Fin cfg0.N) : win0_6.index t 0 = t.val / 16 ∧ win0_6.index t 1 = 0 ∧ win0_6.index t 2 = 0 :=
  (by decide +kernel : ∀ t : Fin grid0.N, win0_6.index t 0 = t.val / 16 ∧ win0_6.index t 1 = 0 ∧ win0_6.index t 2 = 0) t
theorem idx7 (t : Fin cfg0.N) : win0_7.index t 0 = 0 ∧ win0_7.index t 1 = t.val / 16 :=
  (by decide +kernel : ∀ t : Fin grid0.N, win0_7.index t 0 = 0 ∧ win0_7.index t 1 = t.val / 16) t

theorem t_lt (t : Fin cfg0.N) : t.val < 64 := lt_of_lt_of_eq t.isLt N_0

/-- A point's group. -/
def grp (t : Fin cfg0.N) : Fin 4 := ⟨t.val / 16, by have := t_lt t; omega⟩

/-- The incoming gradient's block. -/
theorem iblk0_apply (t : Fin cfg0.N) (r k : Fin 256) : (iblk m c 0 t : S256x256.Idx → EReal) (ix2 r k)
    = ctOf m c (ix2 ⟨256 * (t.val % 16) + r.val, by omega⟩ ⟨1024 + (256 * (grp t).val + k.val), by have := (grp t).isLt; omega⟩) := by
  unfold iblk
  rw [View.read_apply]
  show V m c main_arg3 _ = _
  congr 1
  funext a
  apply Fin.ext
  match a with
  | ⟨0, _⟩ => show win0_0.index t 0 * 256 + 1 * r.val = _; rw [(idx0 t).1]; show _ = 256 * (t.val % 16) + r.val; omega
  | ⟨1, _⟩ => show win0_0.index t 1 * 256 + 1 * k.val = _; rw [(idx0 t).2]; show _ = 1024 + (256 * (t.val / 16) + k.val); omega

/-- The next block of the incoming gradient. -/
theorem iblk1_apply (t : Fin cfg0.N) (r k : Fin 256) : (iblk m c 1 t : S256x256.Idx → EReal) (ix2 r k)
    = ctOf m c (ix2 ⟨256 * min (t.val % 16 + 1) 15 + r.val, by omega⟩ ⟨1024 + (256 * (grp t).val + k.val), by have := (grp t).isLt; omega⟩) := by
  unfold iblk
  rw [View.read_apply]
  show V m c main_arg3 _ = _
  congr 1
  funext a
  apply Fin.ext
  match a with
  | ⟨0, _⟩ => show win0_1.index t 0 * 256 + 1 * r.val = _; rw [(idx1 t).1]; show _ = 256 * min (t.val % 16 + 1) 15 + r.val; omega
  | ⟨1, _⟩ => show win0_1.index t 1 * 256 + 1 * k.val = _; rw [(idx1 t).2]; show _ = 1024 + (256 * (t.val / 16) + k.val); omega

/-- The pooled inputs' block. -/
theorem iblk2_apply (t : Fin cfg0.N) (r k : Fin 256) : (iblk m c 2 t : S256x256.Idx → EReal) (ix2 r k)
    = poolOf m c (ix2 ⟨256 * (t.val % 16) + r.val, by omega⟩ ⟨256 * (grp t).val + k.val, by have := (grp t).isLt; omega⟩) := by
  unfold iblk
  rw [View.read_apply]
  show V m c main_v86 _ = _
  congr 1
  funext a
  apply Fin.ext
  match a with
  | ⟨0, _⟩ => show win0_2.index t 0 * 256 + 1 * r.val = _; rw [(idx2 t).1]; show _ = 256 * (t.val % 16) + r.val; omega
  | ⟨1, _⟩ => show win0_2.index t 1 * 256 + 1 * k.val = _; rw [(idx2 t).2]; show _ = 256 * (t.val / 16) + k.val; omega

/-- The group's weights. -/
theorem iblk3_apply (t : Fin cfg0.N) (r k : Fin 256) : (iblk m c 3 t : S1x256x256.Idx → EReal) (ix3 0 r k)
    = pwOf m c (ix3 (grp t) r k) := by
  unfold iblk
  rw [View.read_apply]
  show V m c main_v87 _ = _
  congr 1
  funext a
  apply Fin.ext
  match a with
  | ⟨0, _⟩ => show win0_3.index t 0 * 1 + 1 * 0 = _; rw [(idx3 t).1]; show _ = t.val / 16; omega
  | ⟨1, _⟩ => show win0_3.index t 1 * 256 + 1 * r.val = _; rw [(idx3 t).2.1]; show _ = r.val; omega
  | ⟨2, _⟩ => show win0_3.index t 2 * 256 + 1 * k.val = _; rw [(idx3 t).2.2]; show _ = k.val; omega

/-- The group's scale. -/
theorem iblk4_apply (t : Fin cfg0.N) (k : Fin 256) : (iblk m c 4 t : S1x256.Idx → EReal) (ix2 0 k)
    = psOf m c (ix2 0 ⟨256 * (grp t).val + k.val, by have := (grp t).isLt; omega⟩) := by
  unfold iblk
  rw [View.read_apply]
  show V m c main_arg2 _ = _
  congr 1
  funext a
  apply Fin.ext
  match a with
  | ⟨0, _⟩ => show win0_4.index t 0 * 1 + 1 * 0 = _; rw [(idx4 t).1]; rfl
  | ⟨1, _⟩ => show win0_4.index t 1 * 256 + 1 * k.val = _; rw [(idx4 t).2]; show _ = 256 * (t.val / 16) + k.val; omega

/-! ## A point's payloads over whole arrays -/

/-- The scaled rows of a point's two blocks are the array's rows, zero past the last. -/
theorem pay9_global (t : Fin cfg0.N) (r : Fin 512) (k : Fin 256) :
    k0_pay9 (F := Ideal) (grid0.coords t) (iblk m c 0 t) (iblk m c 4 t) (iblk m c 1 t) (ix2 r k)
      = scaled (ctOf m c) (psOf m c) (grp t) (256 * (t.val % 16) + r.val) k := by
  rw [pay9_apply, (coords t).2]
  unfold scaled
  have hr := r.isLt
  by_cases h : 256 * (t.val % 16) + r.val < 4096
  · rw [if_pos h, dif_pos h, iblk4_apply]
    congr 1
    by_cases h2 : r.val < 256
    · rw [dif_pos h2, iblk0_apply]
    · rw [dif_neg h2, iblk1_apply]
      congr 1
      funext a
      match a with
      | ⟨0, _⟩ => apply Fin.ext; show 256 * min (t.val % 16 + 1) 15 + (r.val - 256) = 256 * (t.val % 16) + r.val; omega
      | ⟨1, _⟩ => rfl
  · rw [if_neg h, dif_neg h]

/-- The pooled gradient of a point's rows. -/
theorem pay10_global (t : Fin cfg0.N) (r : Fin 512) (k : Fin 256) :
    k0_pay10 (F := Ideal) (grid0.coords t) (iblk m c 0 t) (iblk m c 4 t) (iblk m c 1 t) (iblk m c 3 t) (ix2 r k)
      = dpool (ctOf m c) (pwOf m c) (psOf m c) (grp t) (256 * (t.val % 16) + r.val) k := by
  rw [pay10_apply]
  exact Finset.sum_congr rfl fun d _ => by rw [pay9_global, iblk3_apply]

/-- The input gradient's block over whole arrays. -/
theorem duBlock_global (t : Fin cfg0.N) (r k : Fin 256) :
    duBlock (F := Ideal) (grid0.coords t) (iblk m c 0 t) (iblk m c 1 t) (iblk m c 3 t) (iblk m c 4 t) (ix2 r k)
      = duAt (ctOf m c) (pwOf m c) (psOf m c) (grp t) (256 * (t.val % 16) + r.val) k := by
  rw [duBlock_apply, pay10_global, (coords t).1]
  unfold duAt
  congr 1
  refine Finset.sum_congr rfl fun j hj => ?_
  have hj := Finset.mem_range.1 hj
  have hw : win (grp t).val ≤ 16 := win_le (grp t).val (grp t).isLt
  have hr := r.isLt
  have hlt : r.val + j < 512 := by omega
  rw [quotN, dif_pos hlt]
  unfold quot dquot
  rw [pay10_global, (coords t).1, (coords t).2]
  show Ideal.div (dpool _ _ _ _ (256 * (t.val % 16) + (r.val + j)) _) (count _ (256 * (t.val % 16) + (r.val + j))) = _
  rw [← Nat.add_assoc]
  rfl

/-- A point's share of the weight gradient over whole arrays. -/
theorem pay4_global (t : Fin cfg0.N) (a b : Fin 256) :
    k0_pay4 (F := Ideal) (k0_pay9 (grid0.coords t) (iblk m c 0 t) (iblk m c 4 t) (iblk m c 1 t)) (iblk m c 2 t) (ix2 a b)
      = ∑ r ∈ Finset.range 256, dwTerm (ctOf m c) (poolOf m c) (psOf m c) (grp t) a b (256 * (t.val % 16) + r) := by
  rw [pay4_apply, ← Fin.sum_univ_eq_sum_range (fun r => dwTerm (ctOf m c) (poolOf m c) (psOf m c) (grp t) a b (256 * (t.val % 16) + r))]
  refine Finset.sum_congr rfl fun r _ => ?_
  unfold dwTerm
  rw [pay9_global, iblk2_apply, dif_pos (by omega)]

/-- A point's share of the scale gradient over whole arrays. -/
theorem pay3_global (t : Fin cfg0.N) (b : Fin 256) :
    k0_pay3 (F := Ideal) (iblk m c 0 t) (iblk m c 2 t) (iblk m c 3 t) (ix2 0 b)
      = ∑ r ∈ Finset.range 256, dsTerm (ctOf m c) (poolOf m c) (pwOf m c) (grp t) b (256 * (t.val % 16) + r) := by
  rw [pay3_apply, ← Fin.sum_univ_eq_sum_range (fun r => dsTerm (ctOf m c) (poolOf m c) (pwOf m c) (grp t) b (256 * (t.val % 16) + r))]
  refine Finset.sum_congr rfl fun r _ => ?_
  have hb : 256 * (t.val % 16) + r.val < 4096 := by omega
  rw [dsTerm, dif_pos hb, iblk0_apply]
  refine congrArg _ (Finset.sum_congr rfl fun d _ => ?_)
  rw [iblk2_apply, iblk3_apply]

/-! ## The accumulators along a group -/

/-- After a point, the two accumulators hold the sums over the rows up to that point's last. -/
theorem acc (n : ℕ) : ∀ t : Fin cfg0.N, t.val % 16 = n →
    (∀ a b : Fin 256, (outsAt0 (F := Ideal) m c t.val t.isLt).2.1 (ix3 0 a b)
      = ∑ s ∈ Finset.range (256 * (n + 1)), dwTerm (ctOf m c) (poolOf m c) (psOf m c) (grp t) a b s)
    ∧ (∀ b : Fin 256, (outsAt0 (F := Ideal) m c t.val t.isLt).2.2 (ix2 0 b)
      = ∑ s ∈ Finset.range (256 * (n + 1)), dsTerm (ctOf m c) (poolOf m c) (pwOf m c) (grp t) b s) := by
  induction n with
  | zero =>
    intro t ht
    rw [outsAt_first m c t ht]
    refine ⟨fun a b => ?_, fun b => ?_⟩
    · show k0_pay5 _ _ _ = _
      rw [pay5_apply, pay4_global, ht]
      simp only [Nat.mul_zero, Nat.zero_add, Nat.mul_one]
    · show k0_pay3 _ _ _ _ = _
      rw [pay3_global, ht]
      simp only [Nat.mul_zero, Nat.zero_add, Nat.mul_one]
  | succ n ih =>
    intro t ht
    have hlt : t.val - 1 < cfg0.N := Nat.lt_of_le_of_lt (Nat.sub_le _ _) t.isLt
    have hp : (⟨t.val - 1, hlt⟩ : Fin cfg0.N).val % 16 = n := by show (t.val - 1) % 16 = n; omega
    have hg : grp (⟨t.val - 1, hlt⟩ : Fin cfg0.N) = grp t := Fin.ext (by show (t.val - 1) / 16 = t.val / 16; omega)
    obtain ⟨i6, i7⟩ := ih ⟨t.val - 1, hlt⟩ hp
    rw [hg] at i6 i7
    rw [outsAt_later m c t (by omega)]
    refine ⟨fun a b => ?_, fun b => ?_⟩
    · show k0_pay7 _ _ _ _ = _
      rw [pay7_apply, i6, pay4_global, ht, show 256 * (n + 1 + 1) = 256 * (n + 1) + 256 by omega, Finset.sum_range_add]
    · show k0_pay6 _ _ _ _ _ = _
      rw [pay6_apply, i7, pay3_global, ht, show 256 * (n + 1 + 1) = 256 * (n + 1) + 256 by omega, Finset.sum_range_add]

/-! ## The arrays at the end -/

/-- Every point leaves the input gradient's block. -/
theorem outsAt_du (t : Fin cfg0.N) : (outsAt0 (F := Ideal) m c t.val t.isLt).1
    = duBlock (grid0.coords t) (iblk m c 0 t) (iblk m c 1 t) (iblk m c 3 t) (iblk m c 4 t) := by
  by_cases h : t.val % 16 = 0
  · rw [outsAt_first m c t h]
  · rw [outsAt_later m c t h]

/-- Every point leaves the input gradient's block of the whole array. -/
theorem flushed5_eq (t : Fin cfg0.N) :
    (dats m 0 c).flushed 5 t = ((cfg0.win 5).blk t).view.read (Elt Ideal) (duArr (ctOf m c) (pwOf m c) (psOf m c)) := by
  rw [Cert.KernelIdeal.Value.flushed5, outsAt_du]
  funext j
  obtain ⟨r, k, rfl⟩ : ∃ (r k : Fin 256), j = ix2 r k := ⟨j 0, j 1, eq_ix2 j⟩
  show duBlock (F := Ideal) _ _ _ _ _ (ix2 r k) = duArr _ _ _ (((cfg0.win 5).blk t).view.emb (ix2 r k))
  rw [duBlock_global]
  have e : ((cfg0.win 5).blk t).view.emb (ix2 r k) = ix2 (⟨256 * (t.val % 16) + r.val, by omega⟩ : Fin 4096)
      (⟨256 * (grp t).val + k.val, by have := (grp t).isLt; omega⟩ : Fin 1024) := by
    funext a
    apply Fin.ext
    match a with
    | ⟨0, _⟩ => show win0_5.index t 0 * 256 + 1 * r.val = _; rw [(idx5 t).1]; show _ = 256 * (t.val % 16) + r.val; omega
    | ⟨1, _⟩ => show win0_5.index t 1 * 256 + 1 * k.val = _; rw [(idx5 t).2]; show _ = 256 * (t.val / 16) + k.val; omega
  rw [e]
  have hk := k.isLt
  show _ = duAt _ _ _ ⟨(256 * (grp t).val + k.val) / 256, _⟩ (256 * (t.val % 16) + r.val) ⟨(256 * (grp t).val + k.val) % 256, _⟩
  congr 1
  · exact Fin.ext (by show _ = (256 * (grp t).val + k.val) / 256; omega)
  · exact Fin.ext (by show _ = (256 * (grp t).val + k.val) % 256; omega)

/-- A group's last point leaves the weight gradient's block of the whole array. -/
theorem flushed6_eq (t : Fin cfg0.N) (ht : t.val % 16 = 15) :
    (dats m 0 c).flushed 6 t = ((cfg0.win 6).blk t).view.read (Elt Ideal) (dwArr (ctOf m c) (poolOf m c) (psOf m c)) := by
  rw [Cert.KernelIdeal.Value.flushed6]
  funext j
  obtain ⟨z, a, b, rfl⟩ : ∃ (z : Fin 1) (a b : Fin 256), j = ix3 z a b := ⟨j 0, j 1, j 2, eq_ix3 j⟩
  obtain rfl : z = 0 := Subsingleton.elim _ _
  show (outsAt0 m c t.val t.isLt).2.1 (ix3 0 a b) = dwArr _ _ _ (((cfg0.win 6).blk t).view.emb (ix3 0 a b))
  rw [(acc m c 15 t ht).1]
  have e : ((cfg0.win 6).blk t).view.emb (ix3 0 a b) = ix3 (grp t) a b := by
    funext d
    apply Fin.ext
    match d with
    | ⟨0, _⟩ => show win0_6.index t 0 * 1 + 1 * 0 = _; rw [(idx6 t).1]; show _ = t.val / 16; omega
    | ⟨1, _⟩ => show win0_6.index t 1 * 256 + 1 * a.val = _; rw [(idx6 t).2.1]; show _ = a.val; omega
    | ⟨2, _⟩ => show win0_6.index t 2 * 256 + 1 * b.val = _; rw [(idx6 t).2.2]; show _ = b.val; omega
  rw [e]
  rfl

/-- A group's last point leaves the scale gradient's block of the whole array. -/
theorem flushed7_eq (t : Fin cfg0.N) (ht : t.val % 16 = 15) :
    (dats m 0 c).flushed 7 t = ((cfg0.win 7).blk t).view.read (Elt Ideal) (dsArr (ctOf m c) (poolOf m c) (pwOf m c)) := by
  rw [Cert.KernelIdeal.Value.flushed7]
  funext j
  obtain ⟨z, b, rfl⟩ : ∃ (z : Fin 1) (b : Fin 256), j = ix2 z b := ⟨j 0, j 1, eq_ix2 j⟩
  obtain rfl : z = 0 := Subsingleton.elim _ _
  show (outsAt0 m c t.val t.isLt).2.2 (ix2 0 b) = dsArr _ _ _ (((cfg0.win 7).blk t).view.emb (ix2 0 b))
  rw [(acc m c 15 t ht).2]
  have e : ((cfg0.win 7).blk t).view.emb (ix2 0 b) = ix2 (0 : Fin 1) (⟨256 * (grp t).val + b.val, by have := (grp t).isLt; omega⟩ : Fin 1024) := by
    funext d
    apply Fin.ext
    match d with
    | ⟨0, _⟩ => show win0_7.index t 0 * 1 + 1 * 0 = _; rw [(idx7 t).1]; rfl
    | ⟨1, _⟩ => show win0_7.index t 1 * 256 + 1 * b.val = _; rw [(idx7 t).2]; show _ = 256 * (t.val / 16) + b.val; omega
  rw [e]
  have hb := b.isLt
  have hg : grp t = ⟨(256 * (grp t).val + b.val) / 256, by have := (grp t).isLt; omega⟩ := Fin.ext (by show _ = (256 * (grp t).val + b.val) / 256; omega)
  have hk : b = ⟨(256 * (grp t).val + b.val) % 256, by omega⟩ := Fin.ext (by show _ = (256 * (grp t).val + b.val) % 256; omega)
  show _ = ∑ s ∈ Finset.range 4096, dsTerm _ _ _ ⟨(256 * (grp t).val + b.val) / 256, _⟩ ⟨(256 * (grp t).val + b.val) % 256, _⟩ s
  rw [← hg, ← hk]

/-- A point with the given group and row block. -/
def pt (g : Fin 4) (i : Fin 16) : Fin cfg0.N := ⟨16 * g.val + i.val, lt_of_lt_of_eq (by omega) N_0.symm⟩

/-- The input gradient's blocks tile its array. -/
theorem cover5 (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  refine ⟨pt ⟨(i 1).val / 256, by omega⟩ ⟨(i 0).val / 256, by omega⟩, Cert.KernelIdeal.Gen.flush0_5 _, ?_⟩
  generalize ht : pt ⟨(i 1).val / 256, by omega⟩ ⟨(i 0).val / 256, by omega⟩ = t
  have hv : t.val = 16 * ((i 1).val / 256) + (i 0).val / 256 := by rw [← ht]; rfl
  show i ∈ ((View.whole main_v88_0).slice (win0_5.rect t)).set
  rw [View.set_slice_whole, Rect.mem_set_unit]
  intro a
  match a with
  | ⟨0, _⟩ => show win0_5.index t 0 * 256 ≤ (i 0).val ∧ (i 0).val < win0_5.index t 0 * 256 + 256; rw [(idx5 t).1]; omega
  | ⟨1, _⟩ => show win0_5.index t 1 * 256 ≤ (i 1).val ∧ (i 1).val < win0_5.index t 1 * 256 + 256; rw [(idx5 t).2]; omega

/-- The weight gradient's blocks tile its array. -/
theorem cover6 (i : S4x256x256.Idx) : ∃ t : Fin cfg0.N, (cfg0.win 6).flush t = true ∧ i ∈ ((cfg0.win 6).blk t).view.set := by
  have h0 : (i 0).val < 4 := (i 0).isLt
  have h1 : (i 1).val < 256 := (i 1).isLt
  have h2 : (i 2).val < 256 := (i 2).isLt
  refine ⟨pt ⟨(i 0).val, h0⟩ 15, (Cert.KernelIdeal.Gen.flush0_6 _).2 (by show (16 * (i 0).val + 15) % 16 = 15; omega), ?_⟩
  generalize ht : pt ⟨(i 0).val, h0⟩ 15 = t
  have hv : t.val = 16 * (i 0).val + 15 := by rw [← ht]; rfl
  show i ∈ ((View.whole main_v88_1).slice (win0_6.rect t)).set
  rw [View.set_slice_whole, Rect.mem_set_unit]
  intro a
  match a with
  | ⟨0, _⟩ => show win0_6.index t 0 * 1 ≤ (i 0).val ∧ (i 0).val < win0_6.index t 0 * 1 + 1; rw [(idx6 t).1]; omega
  | ⟨1, _⟩ => show win0_6.index t 1 * 256 ≤ (i 1).val ∧ (i 1).val < win0_6.index t 1 * 256 + 256; rw [(idx6 t).2.1]; omega
  | ⟨2, _⟩ => show win0_6.index t 2 * 256 ≤ (i 2).val ∧ (i 2).val < win0_6.index t 2 * 256 + 256; rw [(idx6 t).2.2]; omega

/-- The scale gradient's blocks tile its array. -/
theorem cover7 (i : S1x1024.Idx) : ∃ t : Fin cfg0.N, (cfg0.win 7).flush t = true ∧ i ∈ ((cfg0.win 7).blk t).view.set := by
  have h0 : (i 0).val < 1 := (i 0).isLt
  have h1 : (i 1).val < 1024 := (i 1).isLt
  refine ⟨pt ⟨(i 1).val / 256, by omega⟩ 15, (Cert.KernelIdeal.Gen.flush0_7 _).2 (by show (16 * ((i 1).val / 256) + 15) % 16 = 15; omega), ?_⟩
  generalize ht : pt ⟨(i 1).val / 256, by omega⟩ 15 = t
  have hv : t.val = 16 * ((i 1).val / 256) + 15 := by rw [← ht]; rfl
  show i ∈ ((View.whole main_v88_2).slice (win0_7.rect t)).set
  rw [View.set_slice_whole, Rect.mem_set_unit]
  intro a
  match a with
  | ⟨0, _⟩ => show win0_7.index t 0 * 1 ≤ (i 0).val ∧ (i 0).val < win0_7.index t 0 * 1 + 1; rw [(idx7 t).1]; omega
  | ⟨1, _⟩ => show win0_7.index t 1 * 256 ≤ (i 1).val ∧ (i 1).val < win0_7.index t 1 * 256 + 256; rw [(idx7 t).2]; omega

/-- The input gradient's array when the grid is done. -/
theorem final5 : (dats m 0 c).arrAt 5 cfg0.N = duArr (ctOf m c) (pwOf m c) (psOf m c) :=
  (dats m 0 c).arrAt_eq_of_cover 5 _ (fun t _ => flushed5_eq m c t) cover5

/-- The weight gradient's array when the grid is done. -/
theorem final6 : (dats m 0 c).arrAt 6 cfg0.N = dwArr (ctOf m c) (poolOf m c) (psOf m c) :=
  (dats m 0 c).arrAt_eq_of_cover 6 _ (fun t h => flushed6_eq m c t ((Cert.KernelIdeal.Gen.flush0_6 t).1 h)) cover6

/-- The scale gradient's array when the grid is done. -/
theorem final7 : (dats m 0 c).arrAt 7 cfg0.N = dsArr (ctOf m c) (poolOf m c) (pwOf m c) :=
  (dats m 0 c).arrAt_eq_of_cover 7 _ (fun t h => flushed7_eq m c t ((Cert.KernelIdeal.Gen.flush0_7 t).1 h)) cover7

end Cert.KernelIdeal.PoolValue
-- ==== Proof.PoolReference.lean ====
/-
  The reference program's three gradients, read at an index: the same functions of the arguments as the kernel leaves. The
  input's gradient is the one that needs an argument: the reference sums a difference to the end of the sequence, where the
  kernel sums a window, and the two agree where the terms are finite.
-/
module

public import proofs.«01_k».proof.Proof.PoolArray
public import proofs.«01_k».proof.Proof.Gen.ReferenceIdeal.Read
public import Idealize.ShloMosaic.Lib.KernelVsHost
public import Idealize.ShloMosaic.Lib.TwoAxisContraction

@[expose] public section

set_option maxRecDepth 16384

noncomputable section

namespace Cert.KernelIdeal.PoolValue

open Idealize.ShloMosaic Idealize.ShloMosaic.TcCoe Idealize.SL.Sem Idealize.ShloMosaic.ValueIdx
open Cert.ReferenceIdeal Cert.ReferenceIdeal.Read
open scoped BigOperators

/-! ## Sums -/

/-- A left fold of sums is the start plus the sum of the list. -/
theorem foldl_add_sum {ι : Type} (g : ι → EReal) : ∀ (l : List ι) (v : EReal), l.foldl (fun r n => r + g n) v = v + (l.map g).sum
  | [], v => by simp
  | a :: l, v => by
    rw [List.foldl_cons, foldl_add_sum g l, List.map_cons, List.sum_cons, add_assoc]

/-- An index of a block with one row and one layer is its middle coordinate. -/
def midEquiv (n : ℕ) : (⟨3, ![1, n, 1]⟩ : Shape).Idx ≃ Fin n where
  toFun i := i 1
  invFun k := ix3 0 k 0
  left_inv i := by
    funext a
    match a with
    | ⟨0, _⟩ => exact (Subsingleton.elim (α := Fin 1) _ _)
    | ⟨1, _⟩ => rfl
    | ⟨2, _⟩ => exact (Subsingleton.elim (α := Fin 1) _ _)
  right_inv k := rfl

/-- The sum to the end of the sequence, read at an index. -/
theorem suffix_apply (x : S1x4096x256.Idx → EReal) (v : S_.Idx → EReal) (hv : ∀ i, v i = 0)
    (h : S1x4096x256.ReduceWindows ![1, 4096, 1] ![1, 1, 1] ![0, 0, 0] ![0, 4095, 0] S1x4096x256) (hu : 0 < S_.numel)
    (s : Fin 4096) (c : Fin 256) :
    Host.reduceWindowAdd (F := Ideal) (φ := .f32) ![1, 4096, 1] ![1, 1, 1] ![0, 0, 0] ![0, 4095, 0] x v h hu (ix3 0 s c)
      = ∑ n : Fin 4096, if hn : s.val + n.val < 4096 then x (ix3 0 ⟨s.val + n.val, hn⟩ c) else 0 := by
  unfold Host.reduceWindowAdd
  rw [Ideal.hostReduceWindowAdd_def, hv]
  unfold Ideal.hostReduceWindowAdd Host.reduceWindow
  dsimp only
  rw [foldl_add_sum, zero_add, ← Fin.sum_univ_def]
  refine Fintype.sum_equiv ((Shape.rowMajor (⟨3, ![1, 4096, 1]⟩ : Shape)).symm.trans (midEquiv 4096)) _ _ fun q => ?_
  rw [Equiv.trans_apply]
  have e0 : (((Shape.rowMajor (⟨3, ![1, 4096, 1]⟩ : Shape)).symm q) (0 : Fin 3)).val = 0 := by
    have : (((Shape.rowMajor (⟨3, ![1, 4096, 1]⟩ : Shape)).symm q) (0 : Fin 3)).val < 1 := (((Shape.rowMajor (⟨3, ![1, 4096, 1]⟩ : Shape)).symm q) (0 : Fin 3)).isLt
    omega
  have e2 : (((Shape.rowMajor (⟨3, ![1, 4096, 1]⟩ : Shape)).symm q) (2 : Fin 3)).val = 0 := by
    have : (((Shape.rowMajor (⟨3, ![1, 4096, 1]⟩ : Shape)).symm q) (2 : Fin 3)).val < 1 := (((Shape.rowMajor (⟨3, ![1, 4096, 1]⟩ : Shape)).symm q) (2 : Fin 3)).isLt
    omega
  have e1 : (((Shape.rowMajor (⟨3, ![1, 4096, 1]⟩ : Shape)).symm q) (1 : Fin 3)).val
      = (midEquiv 4096 ((Shape.rowMajor (⟨3, ![1, 4096, 1]⟩ : Shape)).symm q)).val := rfl
  have hc := c.isLt
  by_cases hn : s.val + (midEquiv 4096 ((Shape.rowMajor (⟨3, ![1, 4096, 1]⟩ : Shape)).symm q)).val < 4096
  · rw [dif_pos hn, dif_pos]
    · congr 1
      funext a
      apply Fin.ext
      match a with
      | ⟨0, _⟩ => show 0 * 1 + (((Shape.rowMajor (⟨3, ![1, 4096, 1]⟩ : Shape)).symm q) (0 : Fin 3)).val - 0 = 0; omega
      | ⟨1, _⟩ => show s.val * 1 + (((Shape.rowMajor (⟨3, ![1, 4096, 1]⟩ : Shape)).symm q) (1 : Fin 3)).val - 0 = _; rw [e1]; show _ = s.val + _; omega
      | ⟨2, _⟩ => show c.val * 1 + (((Shape.rowMajor (⟨3, ![1, 4096, 1]⟩ : Shape)).symm q) (2 : Fin 3)).val - 0 = c.val; omega
    · intro a
      match a with
      | ⟨0, _⟩ => exact ⟨Nat.zero_le _, by show 0 * 1 + (((Shape.rowMajor (⟨3, ![1, 4096, 1]⟩ : Shape)).symm q) (0 : Fin 3)).val - 0 < 1; omega⟩
      | ⟨1, _⟩ => exact ⟨Nat.zero_le _, by show s.val * 1 + (((Shape.rowMajor (⟨3, ![1, 4096, 1]⟩ : Shape)).symm q) (1 : Fin 3)).val - 0 < 4096; omega⟩
      | ⟨2, _⟩ => exact ⟨Nat.zero_le _, by show c.val * 1 + (((Shape.rowMajor (⟨3, ![1, 4096, 1]⟩ : Shape)).symm q) (2 : Fin 3)).val - 0 < 256; omega⟩
  · rw [dif_neg hn, dif_neg]
    intro hin
    have h1 : s.val * 1 + (((Shape.rowMajor (⟨3, ![1, 4096, 1]⟩ : Shape)).symm q) (1 : Fin 3)).val - 0 < 4096 := (hin 1).2
    omega

/-- A sum of differences at distance `w` is its first `w` terms less the `w` past its end. -/
theorem telescope (f : ℕ → ℝ) (w N : ℕ) :
    ∑ n ∈ Finset.range N, (f n - f (n + w)) = ∑ n ∈ Finset.range w, f n - ∑ n ∈ Finset.range w, f (N + n) := by
  have h1 := Finset.sum_range_add f N w
  have h2 := Finset.sum_range_add f w N
  rw [Nat.add_comm w N, h1] at h2
  have h3 : ∑ n ∈ Finset.range N, f (w + n) = ∑ n ∈ Finset.range N, f (n + w) :=
    Finset.sum_congr rfl fun n _ => by rw [Nat.add_comm]
  rw [h3] at h2
  rw [Finset.sum_sub_distrib]
  linarith

/-- The coercion of a real sum. -/
theorem coe_sum (s : Finset ℕ) (f : ℕ → ℝ) : ((∑ n ∈ s, f n : ℝ) : EReal) = ∑ n ∈ s, (f n : EReal) :=
  map_sum (⟨⟨Real.toEReal, rfl⟩, EReal.coe_add⟩ : ℝ →+ EReal) f s

/-- The differences summed to the end are the window's sum, where the terms are finite and none lies past the end. -/
theorem suffix_window (G : ℕ → EReal) (f : ℕ → ℝ) (hf : ∀ n, G n = (f n : EReal)) (hz : ∀ n, 4096 ≤ n → f n = 0) (w : ℕ)
    (x : S1x4096x256.Idx → EReal) (v : S_.Idx → EReal) (hv : ∀ i, v i = 0)
    (h : S1x4096x256.ReduceWindows ![1, 4096, 1] ![1, 1, 1] ![0, 0, 0] ![0, 4095, 0] S1x4096x256) (hu : 0 < S_.numel)
    (c : Fin 256) (hx : ∀ u : Fin 4096, x (ix3 0 u c) = G u.val + -G (u.val + w)) (s : Fin 4096) :
    Host.reduceWindowAdd (F := Ideal) (φ := .f32) ![1, 4096, 1] ![1, 1, 1] ![0, 0, 0] ![0, 4095, 0] x v h hu (ix3 0 s c)
      = ∑ j ∈ Finset.range w, G (s.val + j) := by
  rw [suffix_apply x v hv]
  have e : ∀ n : ℕ, (if hn : s.val + n < 4096 then x (ix3 0 ⟨s.val + n, hn⟩ c) else 0) = ((f (s.val + n) - f (s.val + (n + w)) : ℝ) : EReal) := by
    intro n
    by_cases hn : s.val + n < 4096
    · rw [dif_pos hn, hx, hf, hf, EReal.coe_sub, sub_eq_add_neg, Nat.add_assoc]
    · rw [dif_neg hn, hz _ (by omega), hz _ (by omega), sub_zero]; rfl
  rw [Fin.sum_univ_eq_sum_range (fun n => if hn : s.val + n < 4096 then x (ix3 0 ⟨s.val + n, hn⟩ c) else 0) 4096]
  rw [Finset.sum_congr rfl fun n _ => e n, ← coe_sum, telescope (fun n => f (s.val + n)) w 4096]
  have hzero : ∑ n ∈ Finset.range w, f (s.val + (4096 + n)) = 0 := Finset.sum_eq_zero fun n _ => hz _ (by omega)
  rw [hzero, sub_zero, coe_sum]
  exact Finset.sum_congr rfl fun n _ => (hf _).symm

/-! ## The shared stages -/

section Stages
variable (x0 : S4096x4224.Idx → EReal) (x1 : S4x256x256.Idx → EReal) (x2 : S1x1024.Idx → EReal) (x3 : S4096x2048.Idx → EReal)

/-- The scaled incoming gradient by group. -/
theorem v109_apply (g : Fin 4) (k : Fin 256) (s : Fin 4096) :
    val_main_v109 (F := Ideal) x2 x3 (ix4 g k 0 s) = scaled x3 x2 g s.val k := by
  have hg := g.isLt
  have hk := k.isLt
  have hs := s.isLt
  rw [val_main_v109_apply, val_main_v108_apply, val_main_v105_apply, val_main_v104_apply, val_main_v98_apply, val_main_v3_apply, val_main_v2_apply]
  rw [scaled, dif_pos hs]
  show (_ : EReal) * _ = _
  congr 2
  · funext a
    apply Fin.ext
    match a with
    | ⟨0, _⟩ => show (((0 * 4096 + s.val) * 4 + g.val) * 256 + k.val) / 1024 % 4096 = s.val; omega
    | ⟨1, _⟩ => show 1024 + (((0 * 4096 + s.val) * 4 + g.val) * 256 + k.val) % 1024 = 1024 + (256 * g.val + k.val); omega
  · funext a
    apply Fin.ext
    match a with
    | ⟨0, _⟩ => rfl
    | ⟨1, _⟩ => show (((0 * 4096 + s.val) * 4 + g.val) * 256 + k.val) % 1024 = 256 * g.val + k.val; omega

/-- The pooled gradient. -/
theorem v111_apply (s : Fin 4096) (g : Fin 4) (c : Fin 256) :
    val_main_v111 (F := Ideal) x1 x2 x3 (ix4 0 s g c) = dpool x3 x1 x2 g s.val c := by
  rw [val_main_v111_apply, val_main_v110_apply]
  unfold dpool
  refine Finset.sum_congr rfl fun k _ => ?_
  rw [← v109_apply]
  congr 2
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl

/-- The pooled inputs, laid as one row per token. -/
def pooled : S4096x1024.Idx → EReal :=
  shapeCast S4096x1024 (val_main_v94 (F := Ideal) x0) (by decide +kernel)

/-- The laid-out pooled inputs read at an index. -/
theorem pooled_apply (s : Fin 4096) (g : Fin 4) (k : Fin 256) :
    pooled x0 (ix2 s ⟨256 * g.val + k.val, by omega⟩) = val_main_v94 (F := Ideal) x0 (ix4 0 s g k) := by
  unfold pooled
  generalize val_main_v94 (F := Ideal) x0 = y
  refine shapeCast_apply _ _ _ _ ?_
  rewrite [Shape.rowMajor_val_two, Shape.rowMajor_val_four]
  have hg := g.isLt
  have hk := k.isLt
  show ((0 * 4096 + s.val) * 4 + g.val) * 256 + k.val = s.val * 1024 + (256 * g.val + k.val)
  omega

/-- The weight gradient. -/
theorem ref_dw : val_main_v113 (F := Ideal) x0 x2 x3 = dwArr x3 (pooled x0) x2 := by
  funext i
  obtain ⟨g, a, b, rfl⟩ : ∃ (g : Fin 4) (a b : Fin 256), i = ix3 g a b := ⟨i 0, i 1, i 2, eq_ix3 i⟩
  rw [val_main_v113_apply]
  unfold val_main_v112
  refine (Ideal.dotGeneral_apply _ _ _ _ _ _).trans ?_
  rw [sum_contr2 dot_S4x256x1x4096_S1x4096x4x256_S4x256x256_23_01_1_3_0_2 1 4096 rfl rfl rfl, Fin.sum_univ_one]
  show _ = ∑ s ∈ Finset.range 4096, dwTerm x3 (pooled x0) x2 g a b s
  rw [← Fin.sum_univ_eq_sum_range (fun s => dwTerm x3 (pooled x0) x2 g a b s)]
  refine Finset.sum_congr rfl fun s _ => ?_
  have e0 := contrEquiv2_symm_val0 dot_S4x256x1x4096_S1x4096x4x256_S4x256x256_23_01_1_3_0_2 1 4096 rfl rfl rfl (0, s)
  have e1 := contrEquiv2_symm_val1 dot_S4x256x1x4096_S1x4096x4x256_S4x256x256_23_01_1_3_0_2 1 4096 rfl rfl rfl (0, s)
  have hl : dot_S4x256x1x4096_S1x4096x4x256_S4x256x256_23_01_1_3_0_2.lhsIdx (idx_main_v113 (ix3 g a b))
      ((contrEquiv2 dot_S4x256x1x4096_S1x4096x4x256_S4x256x256_23_01_1_3_0_2 1 4096 rfl rfl rfl).symm (0, s)) = ix4 g b 0 s := by
    funext d
    match d with
    | ⟨0, _⟩ => rfl
    | ⟨1, _⟩ => rfl
    | ⟨2, _⟩ => exact Fin.ext e0
    | ⟨3, _⟩ => exact Fin.ext e1
  have hr : dot_S4x256x1x4096_S1x4096x4x256_S4x256x256_23_01_1_3_0_2.rhsIdx (idx_main_v113 (ix3 g a b))
      ((contrEquiv2 dot_S4x256x1x4096_S1x4096x4x256_S4x256x256_23_01_1_3_0_2 1 4096 rfl rfl rfl).symm (0, s)) = ix4 0 s g a := by
    funext d
    match d with
    | ⟨0, _⟩ => exact Fin.ext e0
    | ⟨1, _⟩ => exact Fin.ext e1
    | ⟨2, _⟩ => rfl
    | ⟨3, _⟩ => rfl
  rw [hl, hr, v109_apply, dwTerm, dif_pos s.isLt, mul_comm]
  exact congrArg (· * _) (pooled_apply x0 s g a).symm

/-- The group product of a row's pooled inputs. -/
theorem v97_apply (s : Fin 4096) (j : Fin 1024) : val_main_v97 (F := Ideal) x0 x1 (ix3 0 s j)
    = ∑ d : Fin 256, pooled x0 (ix2 s ⟨256 * (j.val / 256) + d.val, by omega⟩) * x1 (ix3 ⟨j.val / 256, by omega⟩ d ⟨j.val % 256, by omega⟩) := by
  rw [val_main_v97_apply, val_main_v96_apply, val_main_v95_apply]
  refine Finset.sum_congr rfl fun d _ => ?_
  have hj := j.isLt
  have hs := s.isLt
  rw [pooled_apply x0 s ⟨j.val / 256, by omega⟩ d, mul_comm]
  congr 2
  · funext a
    apply Fin.ext
    match a with
    | ⟨0, _⟩ => rfl
    | ⟨1, _⟩ => show ((0 * 4096 + s.val) * 1024 + j.val) / 1024 % 4096 = s.val; omega
    | ⟨2, _⟩ => show ((0 * 4096 + s.val) * 1024 + j.val) / 256 % 4 = j.val / 256; omega
    | ⟨3, _⟩ => rfl
  · funext a
    apply Fin.ext
    match a with
    | ⟨0, _⟩ => show ((0 * 4096 + s.val) * 1024 + j.val) / 256 % 4 = j.val / 256; omega
    | ⟨1, _⟩ => rfl
    | ⟨2, _⟩ => show ((0 * 4096 + s.val) * 1024 + j.val) % 256 = j.val % 256; omega

/-- The scale gradient. -/
theorem ref_ds : val_main_v107 (F := Ideal) x0 x1 x3 = dsArr x3 (pooled x0) x1 := by
  funext i
  obtain ⟨z, j, rfl⟩ : ∃ (z : Fin 1) (j : Fin 1024), i = ix2 z j := ⟨i 0, i 1, eq_ix2 i⟩
  obtain rfl : z = 0 := Subsingleton.elim _ _
  have hj := j.isLt
  rw [val_main_v107_apply]
  unfold val_main_v106
  have e : ∀ y : S1x1x1024.Idx → EReal, (Ideal.hostReduceAdd Cert.ReferenceIdeal.Gen.reducesTo_S1x1x1024_S1024_d0_1 y (val_main_cst_23 (F := Ideal) (Shape.Idx.first Cert.ReferenceIdeal.Gen.h_S_)) (idx_main_v107 (ix2 0 j)) : EReal) = y (ix3 0 0 j) := by
    intro y
    unfold Ideal.hostReduceAdd
    rw [val_main_cst_23_apply]
    have hf : Finset.univ.filter (fun i : S1x1x1024.Idx => Cert.ReferenceIdeal.Gen.reducesTo_S1x1x1024_S1024_d0_1.drop i = idx_main_v107 (ix2 0 j)) = {ix3 0 0 j} := by
      ext i
      obtain ⟨a, b, k, rfl⟩ : ∃ (a b : Fin 1) (k : Fin 1024), i = ix3 a b k := ⟨i 0, i 1, i 2, eq_ix3 i⟩
      obtain rfl : a = 0 := Subsingleton.elim _ _
      obtain rfl : b = 0 := Subsingleton.elim _ _
      rw [Finset.mem_filter, Finset.mem_singleton]
      constructor
      · rintro ⟨_, h⟩
        have : k = j := Fin.ext (congrArg Fin.val (congrFun h 0))
        rw [this]
      · intro h
        have : k = j := congrFun h 2
        subst this
        refine ⟨Finset.mem_univ _, ?_⟩
        funext d
        match d with
        | ⟨0, _⟩ => rfl
    rw [hf, Finset.sum_singleton]
    exact (congrArg (· + _) Ideal.ofBits_zero_f32).trans (zero_add _)
  refine (e _).trans ?_
  rw [val_main_v103_apply, val_main_v102_apply, val_main_cst_22_apply]
  refine (congrArg (· + _) Ideal.ofBits_zero_f32).trans ((zero_add _).trans ?_)
  show _ = ∑ s ∈ Finset.range 4096, dsTerm x3 (pooled x0) x1 ⟨j.val / 256, _⟩ ⟨j.val % 256, _⟩ s
  rw [← Fin.sum_univ_eq_sum_range (fun s => dsTerm x3 (pooled x0) x1 ⟨j.val / 256, _⟩ ⟨j.val % 256, _⟩ s)]
  refine Finset.sum_congr rfl fun s _ => ?_
  have hi : idx_main_v102 (idx_main_v103 (ix3 0 0 j)) s = ix3 0 s j := by
    funext a
    apply Fin.ext
    match a with
    | ⟨0, _⟩ => rfl
    | ⟨1, _⟩ => rfl
    | ⟨2, _⟩ => show ((0 * 1 + 0) * 1024 + j.val) % 1024 = j.val; omega
  rw [hi, val_main_v101_apply, v97_apply, val_main_v3_apply, val_main_v2_apply, dsTerm, dif_pos s.isLt]
  show (_ : EReal) * _ = _
  rw [mul_comm]
  refine congrArg (· * _) (congrArg x3 ?_)
  funext a
  apply Fin.ext
  match a with
  | ⟨0, _⟩ => rfl
  | ⟨1, _⟩ => show 1024 + j.val = 1024 + (256 * (j.val / 256) + j.val % 256); omega

/-! ## The input gradient, group by group -/

/-- A sequence moved one row on, read past its first row. -/
theorem pad_one (x : S1x4096x256.Idx → EReal) (v : S_.Idx → EReal) (h : S1x4096x256.Pads ![0, 1, 0] ![0, 0, 0] ![0, 0, 0] S1x4097x256)
    (hu : 0 < S_.numel) (u : Fin 4096) (c : Fin 256) :
    pad S1x4097x256 ![0, 1, 0] ![0, 0, 0] ![0, 0, 0] x v h hu (ix3 0 ⟨1 + u.val, by omega⟩ c) = x (ix3 0 u c) := by
  refine pad_apply_of_inside _ _ _ x v h hu _ (ix3 0 u c) fun a => ?_
  match a with
  | ⟨0, _⟩ => rfl
  | ⟨1, _⟩ => show 1 + u.val = 1 + u.val * (0 + 1); omega
  | ⟨2, _⟩ => show c.val = 0 + c.val * (0 + 1); omega

/-- A sequence continued by `w` zeros, read at a row. -/
theorem pad_tail (n w : ℕ) (x : S1x4096x256.Idx → EReal) (v : S_.Idx → EReal) (hv : ∀ i, v i = 0)
    (h : S1x4096x256.Pads ![0, 0, 0] ![0, w, 0] ![0, 0, 0] (⟨3, ![1, n, 256]⟩ : Shape)) (hu : 0 < S_.numel) (q : Fin n) (c : Fin 256) :
    pad (⟨3, ![1, n, 256]⟩ : Shape) ![0, 0, 0] ![0, w, 0] ![0, 0, 0] x v h hu (ix3 0 q c)
      = if hq : q.val < 4096 then x (ix3 0 ⟨q.val, hq⟩ c) else 0 := by
  by_cases hq : q.val < 4096
  · rw [dif_pos hq]
    refine pad_apply_of_inside _ _ _ x v h hu _ (ix3 0 ⟨q.val, hq⟩ c) fun a => ?_
    match a with
    | ⟨0, _⟩ => rfl
    | ⟨1, _⟩ => show q.val = 0 + q.val * (0 + 1); omega
    | ⟨2, _⟩ => show c.val = 0 + c.val * (0 + 1); omega
  · rw [dif_neg hq, pad_apply_of_not_inside _ _ _ x v h hu _ (1 : Fin 3), hv]
    rintro ⟨_, _, h3⟩
    have : (q.val - 0) / (0 + 1) < 4096 := h3
    omega

/-- A group's array placed among the four. -/
theorem pad_group (lo hi : ℕ) (x : S1x4096x1x256.Idx → EReal) (v : S_.Idx → EReal) (hv : ∀ i, v i = 0)
    (h : S1x4096x1x256.Pads ![0, 0, lo, 0] ![0, 0, hi, 0] ![0, 0, 0, 0] S1x4096x4x256) (hu : 0 < S_.numel) (s : Fin 4096) (g : Fin 4) (c : Fin 256) :
    pad S1x4096x4x256 ![0, 0, lo, 0] ![0, 0, hi, 0] ![0, 0, 0, 0] x v h hu (ix4 0 s g c) = if g.val = lo then x (ix4 0 s 0 c) else 0 := by
  by_cases hg : g.val = lo
  · rw [if_pos hg]
    refine pad_apply_of_inside _ _ _ x v h hu _ (ix4 0 s 0 c) fun a => ?_
    match a with
    | ⟨0, _⟩ => rfl
    | ⟨1, _⟩ => show s.val = 0 + s.val * (0 + 1); omega
    | ⟨2, _⟩ => show g.val = lo + 0 * (0 + 1); omega
    | ⟨3, _⟩ => show c.val = 0 + c.val * (0 + 1); omega
  · rw [if_neg hg, pad_apply_of_not_inside _ _ _ x v h hu _ (2 : Fin 4), hv]
    rintro ⟨h1, _, h3⟩
    have h1 : lo ≤ g.val := h1
    have h3 : (g.val - lo) / (0 + 1) < 1 := h3
    omega

/-- A row's count as the reference forms it. -/
theorem ref_count (s : ℕ) (hs : s < 4096) (g w : ℕ) (hw : win g = w) (hle : w ≤ 16) :
    (((IntOp.minsi (BitVec.ofNat 32 s + 1#32) (BitVec.ofNat 32 w)).toInt : ℝ) : EReal) = count g s := by
  have ha : (BitVec.ofNat 32 s + 1#32).toNat = s + 1 := by
    rw [BitVec.toNat_add, BitVec.toNat_ofNat]
    show (s % 2 ^ 32 + 1) % 2 ^ 32 = s + 1
    omega
  have hb : (BitVec.ofNat 32 w).toNat = w := by
    rw [BitVec.toNat_ofNat]; omega
  unfold count
  rw [minsi_toInt _ _ (by rw [ha]; omega) (by rw [hb]; omega), ha, hb, hw]
  norm_cast

/-- The zero word is zero. -/
theorem zero_const : (FloatOps.ofBits .f32 0x00000000#32 : Ideal .f32) = (0 : EReal) := Ideal.ofBits_zero_f32

/-- Past the last row the scaled gradient, the pooled gradient and its quotient are zero. -/
theorem dquot_past (g : Fin 4) (s : ℕ) (hs : 4096 ≤ s) (c : Fin 256) : dquot x3 x1 x2 g s c = 0 := by
  unfold dquot dpool
  rw [Finset.sum_eq_zero fun k _ => by rw [scaled, dif_neg (by omega), zero_mul]]
  have hc : count g.val s ≠ 0 := by
    unfold count
    have : 0 < min (s + 1) (win g.val) := lt_min (by omega) (by unfold win; positivity)
    exact_mod_cast this.ne'
  unfold Ideal.div
  rw [if_neg hc, zero_mul]

/-- Group 3: the quotient, as an array. -/
theorem v124_apply (s : Fin 4096) (c : Fin 256) : val_main_v124 (F := Ideal) x1 x2 x3 (ix3 0 s c) = dquot x3 x1 x2 3 s.val c := by
  have hs := s.isLt
  have hc := c.isLt
  rw [val_main_v124_apply, val_main_v121_apply, val_main_v120_apply, val_main_v123_apply, val_main_v84_apply, val_main_v83_apply, val_main_v82_apply]
  show Ideal.div (val_main_v111 (F := Ideal) x1 x2 x3 _) _ = Ideal.div _ _
  congr 1
  · rw [← v111_apply]
    congr 1
    funext a
    apply Fin.ext
    match a with
    | ⟨0, _⟩ => rfl
    | ⟨1, _⟩ => show ((0 * 4096 + s.val) * 256 + c.val) / 256 % 4096 = s.val; omega
    | ⟨2, _⟩ => rfl
    | ⟨3, _⟩ => show ((0 * 4096 + s.val) * 256 + c.val) % 256 = c.val; omega
  · exact ref_count s.val hs 3 16 rfl (by decide)

/-- Group 3: the difference at distance 16. -/
theorem v132_at (u : Fin 4096) (c : Fin 256) : val_main_v132 (F := Ideal) x1 x2 x3 (ix3 0 u c)
    = dquot x3 x1 x2 3 u.val c + -dquot x3 x1 x2 3 (u.val + 16) c := by
  have hu := u.isLt
  have h1 : idx_main_v132 (ix3 0 u c) = ix3 0 (⟨1 + u.val, by omega⟩ : Fin 4097) c := by
    funext a; match a with | ⟨0, _⟩ => rfl | ⟨1, _⟩ => rfl | ⟨2, _⟩ => rfl
  have h2 : idx_main_v129 (ix3 0 (⟨1 + u.val, by omega⟩ : Fin 4097) c) = ix3 0 (⟨15 + (1 + u.val), by omega⟩ : Fin 4112) c := by
    funext a; match a with | ⟨0, _⟩ => rfl | ⟨1, _⟩ => rfl | ⟨2, _⟩ => rfl
  rw [val_main_v132_apply, h1, val_main_v130_apply, val_main_v129_apply, h2]
  show (_ : EReal) + _ = _
  congr 1
  · refine Eq.trans ?_ (v124_apply x1 x2 x3 u c)
    exact pad_one _ _ _ _ u c
  · unfold val_main_v127
    refine (pad_tail 4112 16 _ (val_main_cst_25 (F := Ideal)) (fun _ => zero_const) _ _ (⟨15 + (1 + u.val), by omega⟩ : Fin 4112) c).trans ?_
    by_cases hq : 15 + (1 + u.val) < 4096
    · rw [dif_pos hq, val_main_v125_apply, v124_apply]
      show -dquot x3 x1 x2 3 (15 + (1 + u.val)) c = _
      rw [show 15 + (1 + u.val) = u.val + 16 by omega]
    · rw [dif_neg hq, dquot_past _ _ _ _ _ (by omega), neg_zero]

/-- Group 2: the quotient, as an array. -/
theorem v139_apply (s : Fin 4096) (c : Fin 256) : val_main_v139 (F := Ideal) x1 x2 x3 (ix3 0 s c) = dquot x3 x1 x2 2 s.val c := by
  have hs := s.isLt
  have hc := c.isLt
  rw [val_main_v139_apply, val_main_v119_apply, val_main_v118_apply, val_main_v138_apply, val_main_v63_apply, val_main_v62_apply, val_main_v61_apply]
  show Ideal.div (val_main_v111 (F := Ideal) x1 x2 x3 _) _ = Ideal.div _ _
  congr 1
  · rw [← v111_apply]
    congr 1
    funext a
    apply Fin.ext
    match a with
    | ⟨0, _⟩ => rfl
    | ⟨1, _⟩ => show ((0 * 4096 + s.val) * 256 + c.val) / 256 % 4096 = s.val; omega
    | ⟨2, _⟩ => rfl
    | ⟨3, _⟩ => show ((0 * 4096 + s.val) * 256 + c.val) % 256 = c.val; omega
  · exact ref_count s.val hs 2 8 rfl (by decide)

/-- Group 2: the difference at distance 8. -/
theorem v147_at (u : Fin 4096) (c : Fin 256) : val_main_v147 (F := Ideal) x1 x2 x3 (ix3 0 u c)
    = dquot x3 x1 x2 2 u.val c + -dquot x3 x1 x2 2 (u.val + 8) c := by
  have hu := u.isLt
  have h1 : idx_main_v147 (ix3 0 u c) = ix3 0 (⟨1 + u.val, by omega⟩ : Fin 4097) c := by
    funext a; match a with | ⟨0, _⟩ => rfl | ⟨1, _⟩ => rfl | ⟨2, _⟩ => rfl
  have h2 : idx_main_v144 (ix3 0 (⟨1 + u.val, by omega⟩ : Fin 4097) c) = ix3 0 (⟨7 + (1 + u.val), by omega⟩ : Fin 4104) c := by
    funext a; match a with | ⟨0, _⟩ => rfl | ⟨1, _⟩ => rfl | ⟨2, _⟩ => rfl
  rw [val_main_v147_apply, h1, val_main_v145_apply, val_main_v144_apply, h2]
  show (_ : EReal) + _ = _
  congr 1
  · refine Eq.trans ?_ (v139_apply x1 x2 x3 u c)
    exact pad_one _ _ _ _ u c
  · unfold val_main_v142
    refine (pad_tail 4104 8 _ (val_main_cst_28 (F := Ideal)) (fun _ => zero_const) _ _ (⟨7 + (1 + u.val), by omega⟩ : Fin 4104) c).trans ?_
    by_cases hq : 7 + (1 + u.val) < 4096
    · rw [dif_pos hq, val_main_v140_apply, v139_apply]
      show -dquot x3 x1 x2 2 (7 + (1 + u.val)) c = _
      rw [show 7 + (1 + u.val) = u.val + 8 by omega]
    · rw [dif_neg hq, dquot_past _ _ _ _ _ (by omega), neg_zero]

/-- Group 1: the quotient, as an array. -/
theorem v155_apply (s : Fin 4096) (c : Fin 256) : val_main_v155 (F := Ideal) x1 x2 x3 (ix3 0 s c) = dquot x3 x1 x2 1 s.val c := by
  have hs := s.isLt
  have hc := c.isLt
  rw [val_main_v155_apply, val_main_v117_apply, val_main_v116_apply, val_main_v154_apply, val_main_v42_apply, val_main_v41_apply, val_main_v40_apply]
  show Ideal.div (val_main_v111 (F := Ideal) x1 x2 x3 _) _ = Ideal.div _ _
  congr 1
  · rw [← v111_apply]
    congr 1
    funext a
    apply Fin.ext
    match a with
    | ⟨0, _⟩ => rfl
    | ⟨1, _⟩ => show ((0 * 4096 + s.val) * 256 + c.val) / 256 % 4096 = s.val; omega
    | ⟨2, _⟩ => rfl
    | ⟨3, _⟩ => show ((0 * 4096 + s.val) * 256 + c.val) % 256 = c.val; omega
  · exact ref_count s.val hs 1 4 rfl (by decide)

/-- Group 1: the difference at distance 4. -/
theorem v163_at (u : Fin 4096) (c : Fin 256) : val_main_v163 (F := Ideal) x1 x2 x3 (ix3 0 u c)
    = dquot x3 x1 x2 1 u.val c + -dquot x3 x1 x2 1 (u.val + 4) c := by
  have hu := u.isLt
  have h1 : idx_main_v163 (ix3 0 u c) = ix3 0 (⟨1 + u.val, by omega⟩ : Fin 4097) c := by
    funext a; match a with | ⟨0, _⟩ => rfl | ⟨1, _⟩ => rfl | ⟨2, _⟩ => rfl
  have h2 : idx_main_v160 (ix3 0 (⟨1 + u.val, by omega⟩ : Fin 4097) c) = ix3 0 (⟨3 + (1 + u.val), by omega⟩ : Fin 4100) c := by
    funext a; match a with | ⟨0, _⟩ => rfl | ⟨1, _⟩ => rfl | ⟨2, _⟩ => rfl
  rw [val_main_v163_apply, h1, val_main_v161_apply, val_main_v160_apply, h2]
  show (_ : EReal) + _ = _
  congr 1
  · refine Eq.trans ?_ (v155_apply x1 x2 x3 u c)
    exact pad_one _ _ _ _ u c
  · unfold val_main_v158
    refine (pad_tail 4100 4 _ (val_main_cst_31 (F := Ideal)) (fun _ => zero_const) _ _ (⟨3 + (1 + u.val), by omega⟩ : Fin 4100) c).trans ?_
    by_cases hq : 3 + (1 + u.val) < 4096
    · rw [dif_pos hq, val_main_v156_apply, v155_apply]
      show -dquot x3 x1 x2 1 (3 + (1 + u.val)) c = _
      rw [show 3 + (1 + u.val) = u.val + 4 by omega]
    · rw [dif_neg hq, dquot_past _ _ _ _ _ (by omega), neg_zero]

/-- Group 0: the quotient, as an array. -/
theorem v171_apply (s : Fin 4096) (c : Fin 256) : val_main_v171 (F := Ideal) x1 x2 x3 (ix3 0 s c) = dquot x3 x1 x2 0 s.val c := by
  have hs := s.isLt
  have hc := c.isLt
  rw [val_main_v171_apply, val_main_v115_apply, val_main_v114_apply, val_main_v170_apply, val_main_v21_apply, val_main_v20_apply, val_main_v19_apply]
  show Ideal.div (val_main_v111 (F := Ideal) x1 x2 x3 _) _ = Ideal.div _ _
  congr 1
  · rw [← v111_apply]
    congr 1
    funext a
    apply Fin.ext
    match a with
    | ⟨0, _⟩ => rfl
    | ⟨1, _⟩ => show ((0 * 4096 + s.val) * 256 + c.val) / 256 % 4096 = s.val; omega
    | ⟨2, _⟩ => rfl
    | ⟨3, _⟩ => show ((0 * 4096 + s.val) * 256 + c.val) % 256 = c.val; omega
  · exact ref_count s.val hs 0 2 rfl (by decide)

/-- Group 0: the difference at distance 2. -/
theorem v179_at (u : Fin 4096) (c : Fin 256) : val_main_v179 (F := Ideal) x1 x2 x3 (ix3 0 u c)
    = dquot x3 x1 x2 0 u.val c + -dquot x3 x1 x2 0 (u.val + 2) c := by
  have hu := u.isLt
  have h1 : idx_main_v179 (ix3 0 u c) = ix3 0 (⟨1 + u.val, by omega⟩ : Fin 4097) c := by
    funext a; match a with | ⟨0, _⟩ => rfl | ⟨1, _⟩ => rfl | ⟨2, _⟩ => rfl
  have h2 : idx_main_v176 (ix3 0 (⟨1 + u.val, by omega⟩ : Fin 4097) c) = ix3 0 (⟨1 + (1 + u.val), by omega⟩ : Fin 4098) c := by
    funext a; match a with | ⟨0, _⟩ => rfl | ⟨1, _⟩ => rfl | ⟨2, _⟩ => rfl
  rw [val_main_v179_apply, h1, val_main_v177_apply, val_main_v176_apply, h2]
  show (_ : EReal) + _ = _
  congr 1
  · refine Eq.trans ?_ (v171_apply x1 x2 x3 u c)
    exact pad_one _ _ _ _ u c
  · unfold val_main_v174
    refine (pad_tail 4098 2 _ (val_main_cst_34 (F := Ideal)) (fun _ => zero_const) _ _ (⟨1 + (1 + u.val), by omega⟩ : Fin 4098) c).trans ?_
    by_cases hq : 1 + (1 + u.val) < 4096
    · rw [dif_pos hq, val_main_v172_apply, v171_apply]
      show -dquot x3 x1 x2 0 (1 + (1 + u.val)) c = _
      rw [show 1 + (1 + u.val) = u.val + 2 by omega]
    · rw [dif_neg hq, dquot_past _ _ _ _ _ (by omega), neg_zero]

/-- The differences summed to the end are the window's sum, where the quotients are finite. -/
theorem suffix_quot (hfin : ∀ (g : Fin 4) (s : ℕ) (c : Fin 256), ∃ r : ℝ, dquot x3 x1 x2 g s c = (r : EReal)) (g : Fin 4) (w : ℕ)
    (x : S1x4096x256.Idx → EReal) (v : S_.Idx → EReal) (hv : ∀ i, v i = 0)
    (h : S1x4096x256.ReduceWindows ![1, 4096, 1] ![1, 1, 1] ![0, 0, 0] ![0, 4095, 0] S1x4096x256) (hu : 0 < S_.numel)
    (c : Fin 256) (hx : ∀ u : Fin 4096, x (ix3 0 u c) = dquot x3 x1 x2 g u.val c + -dquot x3 x1 x2 g (u.val + w) c) (s : Fin 4096) :
    Host.reduceWindowAdd (F := Ideal) (φ := .f32) ![1, 4096, 1] ![1, 1, 1] ![0, 0, 0] ![0, 4095, 0] x v h hu (ix3 0 s c)
      = ∑ j ∈ Finset.range w, dquot x3 x1 x2 g (s.val + j) c := by
  choose f hf using fun n => hfin g n c
  refine suffix_window (fun n => dquot x3 x1 x2 g n c) f hf (fun n hn => ?_) w x v hv h hu c hx s
  have := hf n
  rw [dquot_past _ _ _ _ _ hn] at this
  exact_mod_cast this.symm

/-- Group 3: the input gradient. -/
theorem v135_at (hfin : ∀ (g : Fin 4) (s : ℕ) (c : Fin 256), ∃ r : ℝ, dquot x3 x1 x2 g s c = (r : EReal)) (s : Fin 4096) (c : Fin 256) :
    val_main_v135 (F := Ideal) x1 x2 x3 (ix4 0 s 0 c) = duAt x3 x1 x2 3 s.val c := by
  have hs := s.isLt
  have hc := c.isLt
  rw [val_main_v135_apply]
  have hi : idx_main_v135 (ix4 0 s 0 c) = ix3 0 s c := by
    funext a; match a with | ⟨0, _⟩ => rfl | ⟨1, _⟩ => rfl | ⟨2, _⟩ => rfl
  rw [hi, val_main_v134_apply, val_main_v122_apply, val_main_v121_apply, val_main_v120_apply]
  unfold val_main_v133
  rw [suffix_quot x1 x2 x3 hfin 3 16 _ (val_main_call4_call0_v0 (F := Ideal)) (fun _ => zero_const) _ _ c (fun u => v132_at x1 x2 x3 u c) s]
  unfold duAt
  rw [← v111_apply, sub_eq_add_neg, add_comm]
  show -(val_main_v111 (F := Ideal) x1 x2 x3 _ : EReal) + _ = _
  congr 3
  funext a
  apply Fin.ext
  match a with
  | ⟨0, _⟩ => rfl
  | ⟨1, _⟩ => show ((0 * 4096 + s.val) * 256 + c.val) / 256 % 4096 = s.val; omega
  | ⟨2, _⟩ => rfl
  | ⟨3, _⟩ => show ((0 * 4096 + s.val) * 256 + c.val) % 256 = c.val; omega

/-- Group 2: the input gradient. -/
theorem v150_at (hfin : ∀ (g : Fin 4) (s : ℕ) (c : Fin 256), ∃ r : ℝ, dquot x3 x1 x2 g s c = (r : EReal)) (s : Fin 4096) (c : Fin 256) :
    val_main_v150 (F := Ideal) x1 x2 x3 (ix4 0 s 0 c) = duAt x3 x1 x2 2 s.val c := by
  have hs := s.isLt
  have hc := c.isLt
  rw [val_main_v150_apply]
  have hi : idx_main_v150 (ix4 0 s 0 c) = ix3 0 s c := by
    funext a; match a with | ⟨0, _⟩ => rfl | ⟨1, _⟩ => rfl | ⟨2, _⟩ => rfl
  rw [hi, val_main_v149_apply, val_main_v137_apply, val_main_v119_apply, val_main_v118_apply]
  unfold val_main_v148
  rw [suffix_quot x1 x2 x3 hfin 2 8 _ (val_main_call5_call0_v0 (F := Ideal)) (fun _ => zero_const) _ _ c (fun u => v147_at x1 x2 x3 u c) s]
  unfold duAt
  rw [← v111_apply, sub_eq_add_neg, add_comm]
  show -(val_main_v111 (F := Ideal) x1 x2 x3 _ : EReal) + _ = _
  congr 3
  funext a
  apply Fin.ext
  match a with
  | ⟨0, _⟩ => rfl
  | ⟨1, _⟩ => show ((0 * 4096 + s.val) * 256 + c.val) / 256 % 4096 = s.val; omega
  | ⟨2, _⟩ => rfl
  | ⟨3, _⟩ => show ((0 * 4096 + s.val) * 256 + c.val) % 256 = c.val; omega

/-- Group 1: the input gradient. -/
theorem v166_at (hfin : ∀ (g : Fin 4) (s : ℕ) (c : Fin 256), ∃ r : ℝ, dquot x3 x1 x2 g s c = (r : EReal)) (s : Fin 4096) (c : Fin 256) :
    val_main_v166 (F := Ideal) x1 x2 x3 (ix4 0 s 0 c) = duAt x3 x1 x2 1 s.val c := by
  have hs := s.isLt
  have hc := c.isLt
  rw [val_main_v166_apply]
  have hi : idx_main_v166 (ix4 0 s 0 c) = ix3 0 s c := by
    funext a; match a with | ⟨0, _⟩ => rfl | ⟨1, _⟩ => rfl | ⟨2, _⟩ => rfl
  rw [hi, val_main_v165_apply, val_main_v153_apply, val_main_v117_apply, val_main_v116_apply]
  unfold val_main_v164
  rw [suffix_quot x1 x2 x3 hfin 1 4 _ (val_main_call6_call0_v0 (F := Ideal)) (fun _ => zero_const) _ _ c (fun u => v163_at x1 x2 x3 u c) s]
  unfold duAt
  rw [← v111_apply, sub_eq_add_neg, add_comm]
  show -(val_main_v111 (F := Ideal) x1 x2 x3 _ : EReal) + _ = _
  congr 3
  funext a
  apply Fin.ext
  match a with
  | ⟨0, _⟩ => rfl
  | ⟨1, _⟩ => show ((0 * 4096 + s.val) * 256 + c.val) / 256 % 4096 = s.val; omega
  | ⟨2, _⟩ => rfl
  | ⟨3, _⟩ => show ((0 * 4096 + s.val) * 256 + c.val) % 256 = c.val; omega

/-- Group 0: the input gradient. -/
theorem v182_at (hfin : ∀ (g : Fin 4) (s : ℕ) (c : Fin 256), ∃ r : ℝ, dquot x3 x1 x2 g s c = (r : EReal)) (s : Fin 4096) (c : Fin 256) :
    val_main_v182 (F := Ideal) x1 x2 x3 (ix4 0 s 0 c) = duAt x3 x1 x2 0 s.val c := by
  have hs := s.isLt
  have hc := c.isLt
  rw [val_main_v182_apply]
  have hi : idx_main_v182 (ix4 0 s 0 c) = ix3 0 s c := by
    funext a; match a with | ⟨0, _⟩ => rfl | ⟨1, _⟩ => rfl | ⟨2, _⟩ => rfl
  rw [hi, val_main_v181_apply, val_main_v169_apply, val_main_v115_apply, val_main_v114_apply]
  unfold val_main_v180
  rw [suffix_quot x1 x2 x3 hfin 0 2 _ (val_main_call7_call0_v0 (F := Ideal)) (fun _ => zero_const) _ _ c (fun u => v179_at x1 x2 x3 u c) s]
  unfold duAt
  rw [← v111_apply, sub_eq_add_neg, add_comm]
  show -(val_main_v111 (F := Ideal) x1 x2 x3 _ : EReal) + _ = _
  congr 3
  funext a
  apply Fin.ext
  match a with
  | ⟨0, _⟩ => rfl
  | ⟨1, _⟩ => show ((0 * 4096 + s.val) * 256 + c.val) / 256 % 4096 = s.val; omega
  | ⟨2, _⟩ => rfl
  | ⟨3, _⟩ => show ((0 * 4096 + s.val) * 256 + c.val) % 256 = c.val; omega

/-- The four groups placed side by side. -/
theorem v184_at (hfin : ∀ (g : Fin 4) (s : ℕ) (c : Fin 256), ∃ r : ℝ, dquot x3 x1 x2 g s c = (r : EReal)) (s : Fin 4096) (g : Fin 4) (c : Fin 256) :
    val_main_v184 (F := Ideal) x1 x2 x3 (ix4 0 s g c) = duAt x3 x1 x2 g s.val c := by
  rw [val_main_v184_apply, val_main_v168_apply, val_main_v152_apply]
  unfold val_main_v136 val_main_v151 val_main_v167 val_main_v183
  show (((pad S1x4096x4x256 _ _ _ _ _ _ _ _ : EReal) + pad S1x4096x4x256 _ _ _ _ _ _ _ _) + pad S1x4096x4x256 _ _ _ _ _ _ _ _) + pad S1x4096x4x256 _ _ _ _ _ _ _ _ = _
  rw [pad_group 3 0 _ (val_main_cst_26 (F := Ideal)) (fun _ => zero_const), pad_group 2 1 _ (val_main_cst_29 (F := Ideal)) (fun _ => zero_const), pad_group 1 2 _ (val_main_cst_32 (F := Ideal)) (fun _ => zero_const),
    pad_group 0 3 _ (val_main_cst_35 (F := Ideal)) (fun _ => zero_const), v135_at x1 x2 x3 hfin, v150_at x1 x2 x3 hfin, v166_at x1 x2 x3 hfin, v182_at x1 x2 x3 hfin]
  match g with
  | ⟨0, _⟩ => simp
  | ⟨1, _⟩ => simp
  | ⟨2, _⟩ => simp
  | ⟨3, _⟩ => simp

/-- The input gradient. -/
theorem ref_du (hfin : ∀ (g : Fin 4) (s : ℕ) (c : Fin 256), ∃ r : ℝ, dquot x3 x1 x2 g s c = (r : EReal)) :
    val_main_v187 (F := Ideal) x1 x2 x3 = duArr x3 x1 x2 := by
  funext i
  obtain ⟨s, j, rfl⟩ : ∃ (s : Fin 4096) (j : Fin 1024), i = ix2 s j := ⟨i 0, i 1, eq_ix2 i⟩
  have hs := s.isLt
  have hj := j.isLt
  rw [val_main_v187_apply, val_main_v186_apply, val_main_v185_apply]
  refine Eq.trans ?_ (v184_at x1 x2 x3 hfin s ⟨j.val / 256, by omega⟩ ⟨j.val % 256, by omega⟩)
  show val_main_v184 (F := Ideal) x1 x2 x3 _ = _
  congr 1
  funext a
  apply Fin.ext
  match a with
  | ⟨0, _⟩ => rfl
  | ⟨1, _⟩ => show ((0 * 4096 + (s.val * 1024 + j.val) / 1024 % 4096) * 1024 + (s.val * 1024 + j.val) % 1024) / 1024 % 4096 = s.val; omega
  | ⟨2, _⟩ => show ((0 * 4096 + (s.val * 1024 + j.val) / 1024 % 4096) * 1024 + (s.val * 1024 + j.val) % 1024) / 256 % 4 = j.val / 256; omega
  | ⟨3, _⟩ => show ((0 * 4096 + (s.val * 1024 + j.val) / 1024 % 4096) * 1024 + (s.val * 1024 + j.val) % 1024) % 256 = j.val % 256; omega

end Stages

end Cert.KernelIdeal.PoolValue
-- ==== Proof.PoolHost.lean ====
/-
  What the pool's backward kernel finds in the two arrays the host prepares for it: the pooled inputs, as the reference
  computes them, and the group weights.
-/
module

public import proofs.«01_k».proof.Proof.PoolPay
public import proofs.«01_k».proof.Proof.Gen.ReferenceIdeal.Read
public import Idealize.ShloMosaic.Lib.StableHlo.RunRead

@[expose] public section

set_option maxRecDepth 16384

noncomputable section

namespace Cert.KernelIdeal.PoolValue

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ)

/-- The weights as the kernel finds them. -/
theorem V_weights (c : Dev nD) : (V m c main_v87 : S4x256x256.Idx → EReal) = m ((c : Thread nD τ).loc main_arg1) := by
  show (StableHlo.after _ _ (Proc.devRef .tc main_v87)) = _
  unfold hostOps0 hostOps0_1 hostOps0_2 hostOps0_3 hostOps0_4 hostOps0_5 hostOps0_6 hostOps0_7 hostOps0_8
  simp only [List.flatten_cons, List.flatten_nil, List.append_nil, List.cons_append, List.nil_append]
  after_reads_simp
  rfl

/-- The scale as the kernel finds it. -/
theorem V_scale (c : Dev nD) : (V m c main_arg2 : S1x1024.Idx → EReal) = m ((c : Thread nD τ).loc main_arg2) := by
  show (StableHlo.after _ _ (Proc.devRef .tc main_arg2)) = _
  unfold hostOps0 hostOps0_1 hostOps0_2 hostOps0_3 hostOps0_4 hostOps0_5 hostOps0_6 hostOps0_7 hostOps0_8
  simp only [List.flatten_cons, List.flatten_nil, List.append_nil, List.cons_append, List.nil_append]
  after_reads_simp

/-- The incoming gradient as the kernel finds it. -/
theorem V_incoming (c : Dev nD) : (V m c main_arg3 : S4096x2048.Idx → EReal) = m ((c : Thread nD τ).loc main_arg3) := by
  show (StableHlo.after _ _ (Proc.devRef .tc main_arg3)) = _
  unfold hostOps0 hostOps0_1 hostOps0_2 hostOps0_3 hostOps0_4 hostOps0_5 hostOps0_6 hostOps0_7 hostOps0_8
  simp only [List.flatten_cons, List.flatten_nil, List.append_nil, List.cons_append, List.nil_append]
  after_reads_simp

/-- Four pieces laid along an axis, piece by piece. -/
theorem pieces_congr (A0 A1 A2 A3 B0 B1 B2 B3 : S1x4096x1x256.Idx → EReal) (h0 : A0 = B0) (h1 : A1 = B1) (h2 : A2 = B2) (h3 : A3 = B3) :
    concatenate S1x4096x4x256 2 [⟨S1x4096x1x256, A0⟩, ⟨S1x4096x1x256, A1⟩, ⟨S1x4096x1x256, A2⟩, ⟨S1x4096x1x256, A3⟩]
        concatenates_S1x4096x1x256_S1x4096x1x256_S1x4096x1x256_S1x4096x1x256_S1x4096x4x256_d2
      = concatenate S1x4096x4x256 2 [⟨S1x4096x1x256, B0⟩, ⟨S1x4096x1x256, B1⟩, ⟨S1x4096x1x256, B2⟩, ⟨S1x4096x1x256, B3⟩]
        concatenates_S1x4096x1x256_S1x4096x1x256_S1x4096x1x256_S1x4096x1x256_S1x4096x4x256_d2 := by
  subst h0; subst h1; subst h2; subst h3; rfl

set_option maxHeartbeats 4000000 in
/-- The pooled inputs as the kernel finds them. -/
theorem V_pooled (c : Dev nD) : (V m c main_v86 : S4096x1024.Idx → EReal)
    = shapeCast S4096x1024 (Cert.ReferenceIdeal.Read.val_main_v94 (F := Ideal) (m ((c : Thread nD τ).loc main_arg0)))
        shapeCasts_S1x4096x4x256_S4096x1024 := by
  show (StableHlo.after _ _ (Proc.devRef .tc main_v86)) = _
  unfold hostOps0 hostOps0_1 hostOps0_2 hostOps0_3 hostOps0_4 hostOps0_5 hostOps0_6 hostOps0_7 hostOps0_8
  simp only [List.flatten_cons, List.flatten_nil, List.append_nil, List.cons_append, List.nil_append]
  after_reads_simp
  refine congrArg (fun z => shapeCast S4096x1024 z shapeCasts_S1x4096x4x256_S4096x1024) (pieces_congr _ _ _ _ _ _ _ _ ?_ ?_ ?_ ?_)
  · show (StableHlo.after _ _ (Proc.devRef .tc main_v80)) = _
    after_reads_simp
    rfl
  · show (StableHlo.after _ _ (Proc.devRef .tc main_v81)) = _
    after_reads_simp
    rfl
  · show (StableHlo.after _ _ (Proc.devRef .tc main_v82)) = _
    after_reads_simp
    rfl
  · show (StableHlo.after _ _ (Proc.devRef .tc main_v83)) = _
    after_reads_simp
    rfl

end Cert.KernelIdeal.PoolValue
-- ==== Proof.PoolPre.lean ====
/-
  The precondition read back: finite weights, scale and incoming gradient are real numbers, and so is every quotient the
  windowed sums add.
-/
module

public import proofs.«01_k».proof.Defs
public import proofs.«01_k».proof.Proof.PoolReference
public import proofs.«01_k».proof.Proof.PoolHost
public import Idealize.ShloMosaic.Lib.ReduceAll

@[expose] public section

set_option maxRecDepth 16384

noncomputable section

/-- The shapes of the precondition's operations fit. -/
theorem Cert.Pre_gradients_finite.shapes_fit : Cert.Pre_gradients_finite.Facts where
  bcast_S_S4x256x256 := by decide
  reducesTo_S4x256x256_S_d0_1_2 := by decide
  h_S_ := by decide
  bcast_S_S1x1024 := by decide
  reducesTo_S1x1024_S_d0_1 := by decide
  slices_S4096x2048_S4096x1024_0_1024 := by decide
  bcast_S_S4096x1024 := by decide
  reducesTo_S4096x1024_S_d0_1 := by decide

namespace Cert.KernelIdeal.PoolValue

open Idealize.ShloMosaic Idealize.ShloMosaic.TcCoe Idealize.SL.Sem Idealize.ShloMosaic.ValueIdx Idealize.ShloMosaic.StableHlo
open Cert.KernelIdeal Cert.KernelIdeal.Gen
open scoped BigOperators

/-- A value that is a real number. -/
def IsReal (x : EReal) : Prop := ∃ r : ℝ, x = (r : EReal)

/-- Products of reals are real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- Sums of reals are real. -/
theorem IsReal.sum {ι : Type} (s : Finset ι) (f : ι → EReal) (hf : ∀ i, IsReal (f i)) : IsReal (∑ i ∈ s, f i) := by
  choose r hr using hf
  refine ⟨∑ i ∈ s, r i, ?_⟩
  rw [Finset.sum_congr rfl fun i _ => hr i]
  exact (map_sum (⟨⟨Real.toEReal, rfl⟩, EReal.coe_add⟩ : ℝ →+ EReal) r s).symm

/-- A value whose size is below infinity is real. -/
theorem isReal_of_lt (x : Ideal .f32)
    (h : FloatOps.cmpf .olt (FloatOps.hostAbsf x) (FloatOps.ofBits (F := Ideal) .f32 0x7F800000#32) = 1#1) : IsReal x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hlt : max (x : EReal) (-x) < ⊤ := by
    by_contra hn
    simp [hn] at h'
  rw [max_lt_iff] at hlt
  induction x using EReal.rec with
  | bot => simp at hlt
  | coe r => exact ⟨r, rfl⟩
  | top => simp at hlt

/-- One index. -/
instance : Subsingleton Cert.Pre_gradients_finite.S_.Idx := ⟨fun a b => funext fun k => k.elim0⟩

section Read
variable [Cert.Pre_gradients_finite.Facts]
variable (x0 : FVec Ideal S4096x4224 .f32) (x1 : FVec Ideal S4x256x256 .f32) (x2 : FVec Ideal S1x1024 .f32)
  (x3 : FVec Ideal S4096x2048 .f32)
  (h : Cert.Pre_gradients_finite.fn (F := Ideal) x0 x1 x2 x3 = fun _ => 1#1)
include h

/-- The three tests all passed. -/
theorem pre_split : (∀ i, IsReal (x1 i)) ∧ (∀ i, IsReal (x2 i))
    ∧ ∀ (s : Fin 4096) (k : Fin 1024), IsReal (x3 (ix2 s ⟨1024 + k.val, by omega⟩)) := by
  have h0 := congrFun h (fun k => k.elim0)
  unfold Cert.Pre_gradients_finite.fn at h0
  dsimp only at h0
  obtain ⟨h12, h3⟩ := IntOp.andi_eq_one.mp h0
  obtain ⟨h1, h2⟩ := IntOp.andi_eq_one.mp h12
  refine ⟨fun i => isReal_of_lt _ (Host.reduce_andi_all _ _ _ _ _ h1 i), fun i => isReal_of_lt _ (Host.reduce_andi_all _ _ _ _ _ h2 i),
    fun s k => ?_⟩
  have := isReal_of_lt _ (Host.reduce_andi_all _ _ _ _ _ h3 (ix2 s k))
  have e : extractStridedSlice Cert.Pre_gradients_finite.S4096x1024 ![0, 1024] x3
      Cert.Pre_gradients_finite.Facts.slices_S4096x2048_S4096x1024_0_1024 (ix2 s k) = x3 (ix2 s ⟨1024 + k.val, by omega⟩) := by
    refine extractStridedSlice_apply _ _ _ _ _ fun a => ?_
    match a with
    | ⟨0, _⟩ => show s.val = 0 + s.val; omega
    | ⟨1, _⟩ => rfl
  rw [← e]; exact this

/-- Every quotient the windowed sums add is real. -/
theorem quotients_real (g : Fin 4) (s : ℕ) (c : Fin 256) : ∃ r : ℝ, dquot x3 x1 x2 g s c = (r : EReal) := by
  obtain ⟨hw, hs, hc⟩ := pre_split x0 x1 x2 x3 h
  by_cases hlt : s < 4096
  · have hp : IsReal (dpool x3 x1 x2 g s c) := by
      unfold dpool
      refine IsReal.sum _ _ fun k => IsReal.mul ?_ (hw _)
      unfold scaled
      rw [dif_pos hlt]
      exact (hc ⟨s, hlt⟩ ⟨256 * g.val + k.val, by omega⟩).mul (hs _)
    obtain ⟨p, hp⟩ := hp
    unfold dquot
    rw [hp]
    have hn : (((min (s + 1) (win g.val) : ℕ) : ℝ)) ≠ 0 := by
      have : 0 < min (s + 1) (win g.val) := lt_min (Nat.succ_pos _) (Nat.pow_pos (by decide))
      exact_mod_cast this.ne'
    unfold count Ideal.div
    rw [if_neg (by exact_mod_cast hn), ← EReal.coe_inv]
    exact ⟨_, (EReal.coe_mul _ _).symm⟩
  · exact ⟨0, (dquot_past x1 x2 x3 g s (by omega) c).trans EReal.coe_zero.symm⟩

end Read

end Cert.KernelIdeal.PoolValue

end
-- ==== Proof.ValFfnDwo.lean ====
/- The down projection's weight gradient: each of the sixteen grid points multiplies the transposed hidden activations of one
   group with 512 columns of the incoming gradient, over all 4096 rows at once. Here the array the grid leaves is shown to
   be that product, and the reference to be the same. -/
module

public import proofs.«01_k».proof.Proof.Gen.FfnDwoIdeal.Value
public import proofs.«01_k».proof.Proof.Gen.FfnDwoRefIdeal.Read
public import Idealize.ShloMosaic.Lib.Pipeline.ValueKit

@[expose] public section

set_option maxRecDepth 16384

noncomputable section

namespace Cert.FfnDwoIdeal.Product

open Idealize.ShloMosaic Idealize.ShloMosaic.TcCoe Idealize.SL.Sem
open Cert.FfnDwoIdeal Cert.FfnDwoIdeal.Gen
open scoped BigOperators

/-- The product. -/
def prod (a : S4x4096x1376.Idx → EReal) (b : S4096x2048.Idx → EReal) : S4x1376x2048.Idx → EReal :=
  fun i => ∑ d : Fin 4096, a (ix3 (i 0 : Fin 4) d (i 1 : Fin 1376)) * b (ix2 d (i 2 : Fin 2048))

variable (m : (ℓ : Loc nD τ sig) → Buf (Elt Ideal) ℓ) (c : Dev nD)

/-- The first operand in memory. -/
abbrev lhsOf : S4x4096x1376.Idx → EReal := m ((c : Thread nD τ).loc main_arg0)
/-- The second operand in memory. -/
abbrev rhsOf : S4096x2048.Idx → EReal := m ((c : Thread nD τ).loc main_arg1)

/-- Which blocks a grid point reads and writes. -/
theorem idx : ∀ t : Fin cfg0.N, win0_0.index t = ![t.val / 4, 0, 0] ∧ win0_1.index t = ![0, t.val % 4] ∧ win0_2.index t = ![t.val / 4, 0, t.val % 4] :=
  (by decide +kernel : ∀ t : Fin grid0.N, _)

/-- The array when the grid is done is the product. -/
theorem final : (dats m 0 c).arrAt 2 cfg0.N = prod (lhsOf m c) (rhsOf m c) := by
  refine (dats m 0 c).arrAt_eq_of_covers 2 _ (by decide +kernel) fun t _ y => ?_
  blk_simp
  rw [after0_2]; frame_out
  pointwise [k0_pay1, prod]
  blk_point [iblk, V, idx t]

open Cert.FfnDwoRefIdeal.Read in
/-- The reference computes the same product. -/
theorem reference (a : S4x4096x1376.Idx → EReal) (b : S4096x2048.Idx → EReal) : val_main_v6 (F := Ideal) a b = prod a b := by
  funext i
  pointwise [val_main_v6, val_main_v5, val_main_v4, val_main_v3, val_main_v2, val_main_v1, val_main_v0, prod]
  exact Finset.sum_congr rfl fun d _ => mul_comm _ _

end Cert.FfnDwoIdeal.Product

end
-- ==== Proof.ValFfnDownBwd.lean ====
/- The gradient of the feed-forward layer's down projection and of its gate: each of the thirty-two grid points multiplies 512 rows of
   the incoming gradient with one group's weights, in two halves of 256 rows, and sends the product through the gate's derivative.
   Here the array the grid leaves is shown to hold both gradients, and the reference to be the same where its factors are finite. -/
module

public import proofs.«01_k».proof.Proof.Gen.FfnDownBwdIdeal.Value
public import proofs.«01_k».proof.Proof.Gen.FfnDownBwdRefIdeal.Read
public import proofs.«01_k».proof.Pre_activations_finite
public import proofs.«01_k».proof.Proof.PoolPre
public import Idealize.ShloMosaic.Lib.Pipeline.ValueKit
public import Idealize.ShloMosaic.Lib.ReduceAll
public import Idealize.ShloMosaic.Lib.KernelVsHost

@[expose] public section

set_option maxRecDepth 16384

noncomputable section

/-- The shapes of the precondition's operations fit. -/
theorem Cert.Pre_activations_finite.shapes_fit : Cert.Pre_activations_finite.Facts where
  bitsLt_bf16_f32 := by decide
  bcast_S_S4096x2048 := by decide
  reducesTo_S4096x2048_S_d0_1 := by decide
  h_S_ := by decide
  bcast_S_S4x1376x2048 := by decide
  reducesTo_S4x1376x2048_S_d0_1_2 := by decide
  bcast_S_S4x4096x1376 := by decide
  reducesTo_S4x4096x1376_S_d0_1_2 := by decide

namespace Cert.FfnDownBwdIdeal.Product

open Idealize.ShloMosaic Idealize.ShloMosaic.TcCoe Idealize.SL.Sem
open Cert.FfnDownBwdIdeal Cert.FfnDownBwdIdeal.Gen
open scoped BigOperators
open Cert.KernelIdeal.PoolValue (IsReal IsReal.mul IsReal.sum isReal_of_lt)

/-- The number one, as both programs write it. -/
abbrev one : EReal := Ideal.ofBits .f32 0x3F800000#32

/-- The logistic function, as both programs compute it. -/
def sigm (x : EReal) : EReal :=
  FloatOps.divf (F := Ideal) (φ := .f32) one
    (FloatOps.addf (F := Ideal) (φ := .f32) one
      (FloatOps.exp (F := Ideal) (φ := .f32) (FloatOps.subf (F := Ideal) (φ := .f32) (Ideal.ofBits .f32 0x00000000#32) x)))

/-- The gradient with respect to the gate's input. -/
def gateGrad (g a b : EReal) : EReal := g * b * (sigm a + a * sigm a * (one - sigm a))
/-- The gradient with respect to the linear input. -/
def linearGrad (g a : EReal) : EReal := g * (a * sigm a)
/-- One of the two gradients. -/
def entry (z : Fin 2) (g a b : EReal) : EReal := if z.val = 0 then gateGrad g a b else linearGrad g a

/-- The gradient with respect to the hidden activations. -/
def back (df : S4096x2048.Idx → EReal) (wo : S4x1376x2048.Idx → EReal) : S4x4096x1376.Idx → EReal :=
  fun i => ∑ d : Fin 2048, df (ix2 (i 1 : Fin 4096) d) * wo (ix3 (i 0 : Fin 4) (i 2 : Fin 1376) d)
/-- Both gradients, stacked. -/
def both (df : S4096x2048.Idx → EReal) (wo : S4x1376x2048.Idx → EReal) (a b : S4x4096x1376.Idx → EReal) : S2x4x4096x1376.Idx → EReal :=
  fun i => entry (i 0 : Fin 2) (back df wo (ix3 (i 1 : Fin 4) (i 2 : Fin 4096) (i 3 : Fin 1376)))
    (a (ix3 (i 1 : Fin 4) (i 2 : Fin 4096) (i 3 : Fin 1376))) (b (ix3 (i 1 : Fin 4) (i 2 : Fin 4096) (i 3 : Fin 1376)))

variable (m : (ℓ : Loc nD τ sig) → Buf (Elt Ideal) ℓ) (c : Dev nD)

/-- The incoming gradient in memory. -/
abbrev gradOf : S4096x2048.Idx → EReal := m ((c : Thread nD τ).loc main_arg0)
/-- The weights in memory. -/
abbrev wOf : S4x1376x2048.Idx → EReal := m ((c : Thread nD τ).loc main_arg1)
/-- The gate's input in memory. -/
abbrev aOf : S4x4096x1376.Idx → EReal := m ((c : Thread nD τ).loc main_arg2)
/-- The linear input in memory. -/
abbrev bOf : S4x4096x1376.Idx → EReal := m ((c : Thread nD τ).loc main_arg3)

/-- Which blocks a grid point reads and writes. -/
theorem idx : ∀ t : Fin cfg0.N, win0_0.index t = ![t.val % 8, 0] ∧ win0_1.index t = ![t.val / 8, 0, 0] ∧ win0_2.index t = ![t.val / 8, t.val % 8, 0]
    ∧ win0_3.index t = ![t.val / 8, t.val % 8, 0] ∧ win0_4.index t = ![0, t.val / 8, t.val % 8, 0] :=
  (by decide +kernel : ∀ t : Fin grid0.N, _)

/-- The array of both gradients when the grid is done. -/
theorem final : (dats m 0 c).arrAt 4 cfg0.N = both (gradOf m c) (wOf m c) (aOf m c) (bOf m c) := by
  refine (dats m 0 c).arrAt_eq_of_covers 4 _ (by decide +kernel) fun t _ y => ?_
  blk_simp
  rw [after0_4]; frame_out
  have hz : ((((View.whole main_v0).slice (win0_4.rect t)).emb y 0 : Fin 2) : ℕ) = (y 0 : ℕ) := by blk_simp [idx t]
  canon_tiles x h
  all_goals unfold both entry; first | rw [if_pos (by omega)] | rw [if_neg (by omega)]
  all_goals (open_payloads; pointwise [back, gateGrad, linearGrad, sigm, one]; blk_point [iblk, V, idx t])

/-- The constant one is one. -/
theorem one_eq : one = 1 := IdealRules.sign_bit.ideal_onePat .f32

/-- The logistic function at a real number. -/
theorem sigm_coe (r : ℝ) : sigm (r : EReal) = ((1 / (1 + Real.exp (-r)) : ℝ) : EReal) := by
  have hp : (1 + Real.exp (-r) : ℝ) ≠ 0 := by have := Real.exp_pos (-r); linarith
  show Ideal.div one (one + Ideal.exp (Ideal.ofBits .f32 0x00000000#32 - (r : EReal))) = _
  rw [one_eq, Ideal.ofBits_zero_f32, zero_sub, ← EReal.coe_neg, Ideal.exp_coe, ← EReal.coe_one, ← EReal.coe_add]
  unfold Ideal.div
  rw [if_neg (by exact_mod_cast hp), ← EReal.coe_inv, ← EReal.coe_mul, one_div, one_mul]

/-- The logistic function at plus infinity. -/
theorem sigm_top : sigm ⊤ = 1 := by
  show Ideal.div one (one + Ideal.exp (Ideal.ofBits .f32 0x00000000#32 - ⊤)) = _
  rw [one_eq, Ideal.ofBits_zero_f32, zero_sub, EReal.neg_top, Ideal.exp_bot, add_zero]
  unfold Ideal.div
  rw [if_neg one_ne_zero, ← EReal.coe_one, ← EReal.coe_inv, ← EReal.coe_mul]
  norm_num

/-- The logistic function at minus infinity. -/
theorem sigm_bot : sigm ⊥ = 0 := by
  show Ideal.div one (one + Ideal.exp (Ideal.ofBits .f32 0x00000000#32 - ⊥)) = _
  rw [one_eq, Ideal.ofBits_zero_f32, zero_sub, EReal.neg_bot, Ideal.exp_top, ← EReal.coe_one, EReal.coe_add_top]
  unfold Ideal.div
  rw [if_neg EReal.top_ne_zero, EReal.inv_top, mul_zero]

/-- The gate's derivative, factored as the kernel has it and spread out as the reference has it, of a real gradient. -/
theorem derivative (g : ℝ) (a : EReal) :
    (g : EReal) * (sigm a + a * sigm a * (one - sigm a)) = g * sigm a + a * g * (sigm a * (one - sigm a)) := by
  rw [one_eq]
  induction a using EReal.rec with
  | bot => rw [sigm_bot]; simp
  | top =>
    rw [sigm_top]
    have : (1 : EReal) - 1 = 0 := by rw [← EReal.coe_one, ← EReal.coe_sub]; simp
    rw [this]; simp
  | coe r =>
    rw [sigm_coe, ← EReal.coe_one]
    simp only [← EReal.coe_mul, ← EReal.coe_sub, ← EReal.coe_add]
    congr 1
    ring

section Reference
open Cert.FfnDownBwdRefIdeal.Read

variable (df : S4096x2048.Idx → EReal) (wo : S4x1376x2048.Idx → EReal) (a b : S4x4096x1376.Idx → EReal)

/-- The reference's gradient of the hidden activations. -/
theorem reference_back : val_main_v8 (F := Ideal) df wo = back df wo := by
  funext i
  rw [val_main_v8_apply, val_main_v7_apply]
  refine Finset.sum_congr rfl fun d _ => congrArg₂ (· * ·) (congrArg df ?_) (congrArg wo ?_)
  · funext x; match x with | ⟨0, _⟩ => rfl | ⟨1, _⟩ => rfl
  · funext x; match x with | ⟨0, _⟩ => rfl | ⟨1, _⟩ => rfl | ⟨2, _⟩ => rfl

/-- The reference's logistic function. -/
theorem reference_sigm (i : S4x4096x1376.Idx) : val_main_v4_2 (F := Ideal) a i = sigm (a i) := by
  rw [val_main_v4_2_apply, val_main_call0_v4_apply, val_main_call0_v3_apply, val_main_call0_v2_apply, val_main_call0_v1_apply,
    val_main_call0_v0_apply, ← Ideal.subf_zero_eq_hostNegf]
  rfl

/-- The reference's linear gradient. -/
theorem reference_linear (i : S4x4096x1376.Idx) : val_main_v9 (F := Ideal) df wo a i = linearGrad (back df wo i) (a i) := by
  have e : val_main_v9 (F := Ideal) df wo a i = a i * val_main_v4_2 (F := Ideal) a i * val_main_v8 (F := Ideal) df wo i := rfl
  rw [e, reference_sigm, reference_back]
  exact mul_comm (G := EReal) _ _

/-- The reference's one. -/
theorem reference_one (i : S4x4096x1376.Idx) : val_main_call0_v6 (F := Ideal) i = one := by
  rw [val_main_call0_v6_apply]; rfl

/-- The reference's gate gradient, where the factors are real. -/
theorem reference_gate (i : S4x4096x1376.Idx) (h : IsReal (back df wo i * b i)) :
    val_main_v11 (F := Ideal) df wo a b i = gateGrad (back df wo i) (a i) (b i) := by
  have e : val_main_v11 (F := Ideal) df wo a b i
      = val_main_v8 (F := Ideal) df wo i * b i * val_main_v4_2 (F := Ideal) a i
        + a i * (val_main_v8 (F := Ideal) df wo i * b i) * (val_main_v4_2 (F := Ideal) a i * (val_main_call0_v6 (F := Ideal) i - val_main_v4_2 (F := Ideal) a i)) := rfl
  rw [e, reference_sigm, reference_one, reference_back]
  obtain ⟨g, hg⟩ := h
  unfold gateGrad
  rw [hg]
  exact (derivative g (a i)).symm

/-- The reference holds both gradients, where the factors are real. -/
theorem reference (h : ∀ i, IsReal (back df wo i * b i)) : val_main_v15 (F := Ideal) df wo a b = both df wo a b := by
  funext i
  obtain ⟨z, g, r, k, rfl⟩ : ∃ (z : Fin 2) (g : Fin 4) (r : Fin 4096) (k : Fin 1376), i = ix4 z g r k := ⟨i 0, i 1, i 2, i 3, eq_ix4 i⟩
  show val_main_v14 (F := Ideal) df wo a b (ix4 z g r k) = entry z (back df wo (ix3 g r k)) (a (ix3 g r k)) (b (ix3 g r k))
  unfold val_main_v14 entry
  by_cases hz : z.val = 0
  · rw [if_pos hz]
    refine (concatenate_pair_apply_left (s₁ := Cert.FfnDownBwdRefIdeal.S1x4x4096x1376) (s₂ := Cert.FfnDownBwdRefIdeal.S1x4x4096x1376) 0 _ _ _ (ix4 z g r k) rfl (ix4 0 g r k) (fun x => by
      match x with | ⟨0, _⟩ => exact hz.symm | ⟨1, _⟩ => rfl | ⟨2, _⟩ => rfl | ⟨3, _⟩ => rfl)).trans ?_
    refine (val_main_v12_apply (F := Ideal) df wo a b (ix4 0 g r k)).trans ?_
    refine (congrArg (val_main_v11 (F := Ideal) df wo a b) ?_).trans (reference_gate df wo a b (ix3 g r k) (h _))
    funext x; match x with | ⟨0, _⟩ => rfl | ⟨1, _⟩ => rfl | ⟨2, _⟩ => rfl
  · rw [if_neg hz]
    refine (concatenate_pair_apply_right (s₁ := Cert.FfnDownBwdRefIdeal.S1x4x4096x1376) (s₂ := Cert.FfnDownBwdRefIdeal.S1x4x4096x1376) 0 _ _ _ (ix4 z g r k) rfl rfl (ix4 0 g r k) (fun x hx => by
      match x with | ⟨0, _⟩ => exact absurd rfl hx | ⟨1, _⟩ => rfl | ⟨2, _⟩ => rfl | ⟨3, _⟩ => rfl) (by show 0 + 1 = z.val; omega)).trans ?_
    refine (val_main_v13_apply (F := Ideal) df wo a (ix4 0 g r k)).trans ?_
    refine (congrArg (val_main_v9 (F := Ideal) df wo a) ?_).trans (reference_linear df wo a (ix3 g r k))
    funext x; match x with | ⟨0, _⟩ => rfl | ⟨1, _⟩ => rfl | ⟨2, _⟩ => rfl

/-- One index. -/
instance : Subsingleton Cert.Pre_activations_finite.S_.Idx := ⟨fun a b => funext fun k => k.elim0⟩

/-- The precondition makes the product a real number. -/
theorem factors_real [Cert.Pre_activations_finite.Facts] (h : Cert.Pre_activations_finite.fn (F := Ideal) df wo a b = fun _ => 1#1)
    (i : S4x4096x1376.Idx) : IsReal (back df wo i * b i) := by
  have h0 := congrFun h (fun k => k.elim0)
  unfold Cert.Pre_activations_finite.fn at h0
  dsimp only at h0
  obtain ⟨h12, h3⟩ := IntOp.andi_eq_one.mp h0
  obtain ⟨h1, h2⟩ := IntOp.andi_eq_one.mp h12
  exact (IsReal.sum _ _ fun d => (isReal_of_lt _ (Host.reduce_andi_all _ _ _ _ _ h1 _)).mul (isReal_of_lt _ (Host.reduce_andi_all _ _ _ _ _ h2 _))).mul
    (isReal_of_lt _ (Host.reduce_andi_all _ _ _ _ _ h3 i))

end Reference

end Cert.FfnDownBwdIdeal.Product

end
-- ==== Proof.ValFfnDwi.lean ====
/- The up projection's weight gradient: each of the thirty-two grid points multiplies the transposed gradient of one group
   with 512 columns of the normalised input, over all 4096 rows at once. Here the array the grid leaves is shown to be that
   product, and the reference to be the same. -/
module

public import proofs.«01_k».proof.Proof.Gen.FfnDwiIdeal.Value
public import proofs.«01_k».proof.Proof.Gen.FfnDwiRefIdeal.Read
public import Idealize.ShloMosaic.Lib.Pipeline.ValueKit

@[expose] public section

set_option maxRecDepth 16384

noncomputable section

namespace Cert.FfnDwiIdeal.Product

open Idealize.ShloMosaic Idealize.ShloMosaic.TcCoe Idealize.SL.Sem
open Cert.FfnDwiIdeal Cert.FfnDwiIdeal.Gen
open scoped BigOperators

/-- The product. -/
def prod (a : S8x4096x1376.Idx → EReal) (b : S4096x2048.Idx → EReal) : S8x1376x2048.Idx → EReal :=
  fun i => ∑ d : Fin 4096, a (ix3 (i 0 : Fin 8) d (i 1 : Fin 1376)) * b (ix2 d (i 2 : Fin 2048))

variable (m : (ℓ : Loc nD τ sig) → Buf (Elt Ideal) ℓ) (c : Dev nD)

/-- The first operand in memory. -/
abbrev lhsOf : S8x4096x1376.Idx → EReal := m ((c : Thread nD τ).loc main_arg0)
/-- The second operand in memory. -/
abbrev rhsOf : S4096x2048.Idx → EReal := m ((c : Thread nD τ).loc main_arg1)

/-- Which blocks a grid point reads and writes. -/
theorem idx : ∀ t : Fin cfg0.N, win0_0.index t = ![t.val / 4, 0, 0] ∧ win0_1.index t = ![0, t.val % 4] ∧ win0_2.index t = ![t.val / 4, 0, t.val % 4] :=
  (by decide +kernel : ∀ t : Fin grid0.N, _)

/-- The array when the grid is done is the product. -/
theorem final : (dats m 0 c).arrAt 2 cfg0.N = prod (lhsOf m c) (rhsOf m c) := by
  refine (dats m 0 c).arrAt_eq_of_covers 2 _ (by decide +kernel) fun t _ y => ?_
  blk_simp
  rw [after0_2]; frame_out
  pointwise [k0_pay1, prod]
  blk_point [iblk, V, idx t]

open Cert.FfnDwiRefIdeal.Read in
/-- The reference computes the same product. -/
theorem reference (a : S8x4096x1376.Idx → EReal) (b : S4096x2048.Idx → EReal) : val_main_v7 (F := Ideal) a b = prod a b := by
  funext i
  pointwise [val_main_v7, val_main_v6, val_main_v5, val_main_v4, val_main_v3, val_main_v2, val_main_v1, val_main_v0, prod]

end Cert.FfnDwiIdeal.Product

end
-- ==== Proof.ValFfnDhm.lean ====
/- The gradient of the feed-forward layer's normalised input: each of the thirty-two grid points multiplies 512 rows of the
   hidden gradient with 512 columns of the weights, group by group over the eight groups. Here the array the grid leaves is shown
   to be that product, and the reference to be the same. -/
module

public import proofs.«01_k».proof.Proof.Gen.FfnDhmIdeal.Value
public import proofs.«01_k».proof.Proof.Gen.FfnDhmRefIdeal.Read
public import Idealize.ShloMosaic.Lib.Pipeline.ValueKit

@[expose] public section

set_option maxRecDepth 16384

noncomputable section

namespace Cert.FfnDhmIdeal.Product

open Idealize.ShloMosaic Idealize.ShloMosaic.TcCoe Idealize.SL.Sem
open Cert.FfnDhmIdeal Cert.FfnDhmIdeal.Gen
open scoped BigOperators

/-- The product, summed over the groups. -/
def prod (a : S8x4096x1376.Idx → EReal) (b : S8x1376x2048.Idx → EReal) : S4096x2048.Idx → EReal :=
  fun i => ∑ g : Fin 8, ∑ d : Fin 1376, a (ix3 g (i 0 : Fin 4096) d) * b (ix3 g d (i 1 : Fin 2048))

variable (m : (ℓ : Loc nD τ sig) → Buf (Elt Ideal) ℓ) (c : Dev nD)

/-- The first operand in memory. -/
abbrev lhsOf : S8x4096x1376.Idx → EReal := m ((c : Thread nD τ).loc main_arg0)
/-- The second operand in memory. -/
abbrev rhsOf : S8x1376x2048.Idx → EReal := m ((c : Thread nD τ).loc main_arg1)

/-- Which blocks a grid point reads and writes. -/
theorem idx : ∀ t : Fin cfg0.N, win0_0.index t = ![0, t.val % 8, 0] ∧ win0_1.index t = ![0, 0, t.val / 8] ∧ win0_2.index t = ![t.val % 8, t.val / 8] :=
  (by decide +kernel : ∀ t : Fin grid0.N, _)

/-- The array when the grid is done is the product. -/
theorem final : (dats m 0 c).arrAt 2 cfg0.N = prod (lhsOf m c) (rhsOf m c) := by
  refine (dats m 0 c).arrAt_eq_of_covers 2 _ (by decide +kernel) fun t _ y => ?_
  blk_simp
  rw [after0_2]; frame_out
  pointwise [k0_pay1, k0_pay2, k0_pay3, prod, Fin.sum_univ_eight]
  blk_point [iblk, V, idx t]

open Cert.FfnDhmRefIdeal.Read in
/-- The reference computes the same product. -/
theorem reference (a : S8x4096x1376.Idx → EReal) (b : S8x1376x2048.Idx → EReal) : val_main_v6 (F := Ideal) a b = prod a b := by
  funext i
  pointwise [val_main_v6, val_main_v5, val_main_v4, val_main_v3, val_main_v2, val_main_cst, val_main_v1, val_main_v0, prod]

end Cert.FfnDhmIdeal.Product

end
-- ==== Proof.ValFfnUp.lean ====
/- The feed-forward layer's up projection: each of the thirty-two grid points multiplies 512 rows of the normalised input with the
   transposed weights of one group and of its gate's group, in two halves of 256 rows, and takes the gated product of the two.
   Here the three arrays the grid leaves are shown to be the two projections and the hidden activations, and the reference to
   be the same. -/
module

public import proofs.«01_k».proof.Proof.Gen.FfnUpIdeal.Value
public import proofs.«01_k».proof.Proof.Gen.FfnUpRefIdeal.Read
public import Idealize.ShloMosaic.Lib.Pipeline.ValueKit

@[expose] public section

set_option maxRecDepth 16384

noncomputable section

namespace Cert.FfnUpIdeal.Product

open Idealize.ShloMosaic Idealize.ShloMosaic.TcCoe Idealize.SL.Sem
open Cert.FfnUpIdeal Cert.FfnUpIdeal.Gen
open scoped BigOperators

/-- The logistic function, as both programs compute it. -/
def sigm (x : EReal) : EReal :=
  FloatOps.divf (F := Ideal) (φ := .f32) (Ideal.ofBits .f32 0x3F800000#32)
    (FloatOps.addf (F := Ideal) (φ := .f32) (Ideal.ofBits .f32 0x3F800000#32)
      (FloatOps.exp (F := Ideal) (φ := .f32) (FloatOps.subf (F := Ideal) (φ := .f32) (Ideal.ofBits .f32 0x00000000#32) x)))

/-- The projection onto the first four groups. -/
def gatePart (h : S4096x2048.Idx → EReal) (w : S8x1376x2048.Idx → EReal) : S4x4096x1376.Idx → EReal :=
  fun i => ∑ d : Fin 2048, h (ix2 (i 1 : Fin 4096) d) * w (ix3 ⟨(i 0).val, by have h0 : (i 0).val < 4 := (i 0).isLt; omega⟩ (i 2 : Fin 1376) d)
/-- The projection onto the last four groups. -/
def linearPart (h : S4096x2048.Idx → EReal) (w : S8x1376x2048.Idx → EReal) : S4x4096x1376.Idx → EReal :=
  fun i => ∑ d : Fin 2048, h (ix2 (i 1 : Fin 4096) d) * w (ix3 ⟨4 + (i 0).val, by have h0 : (i 0).val < 4 := (i 0).isLt; omega⟩ (i 2 : Fin 1376) d)
/-- The hidden activations. -/
def hidden (h : S4096x2048.Idx → EReal) (w : S8x1376x2048.Idx → EReal) : S4x4096x1376.Idx → EReal :=
  fun i => gatePart h w i * sigm (gatePart h w i) * linearPart h w i

variable (m : (ℓ : Loc nD τ sig) → Buf (Elt Ideal) ℓ) (c : Dev nD)

/-- The normalised input in memory. -/
abbrev inOf : S4096x2048.Idx → EReal := m ((c : Thread nD τ).loc main_arg0)
/-- The weights in memory. -/
abbrev wOf : S8x1376x2048.Idx → EReal := m ((c : Thread nD τ).loc main_arg1)

/-- Which blocks a grid point reads and writes. -/
theorem idx : ∀ t : Fin cfg0.N, win0_0.index t = ![t.val % 8, 0] ∧ win0_1.index t = ![t.val / 8, 0, 0] ∧ win0_2.index t = ![t.val / 8 + 4, 0, 0]
    ∧ win0_3.index t = ![t.val / 8, t.val % 8, 0] ∧ win0_4.index t = ![t.val / 8, t.val % 8, 0] ∧ win0_5.index t = ![t.val / 8, t.val % 8, 0] :=
  (by decide +kernel : ∀ t : Fin grid0.N, _)

/-- The array of the gate projection when the grid is done. -/
theorem final3 : (dats m 0 c).arrAt 3 cfg0.N = gatePart (inOf m c) (wOf m c) := by
  refine (dats m 0 c).arrAt_eq_of_covers 3 _ (by decide +kernel) fun t _ y => ?_
  blk_simp
  rw [after0_3]; frame_out
  canon_tiles x h
  all_goals (open_payloads; pointwise [gatePart]; blk_point [iblk, V, idx t])

/-- The array of the linear projection when the grid is done. -/
theorem final4 : (dats m 0 c).arrAt 4 cfg0.N = linearPart (inOf m c) (wOf m c) := by
  refine (dats m 0 c).arrAt_eq_of_covers 4 _ (by decide +kernel) fun t _ y => ?_
  blk_simp
  rw [after0_4]; frame_out
  canon_tiles x h
  all_goals (open_payloads; pointwise [linearPart]; blk_point [iblk, V, idx t])

/-- The array of the hidden activations when the grid is done. -/
theorem final5 : (dats m 0 c).arrAt 5 cfg0.N = hidden (inOf m c) (wOf m c) := by
  refine (dats m 0 c).arrAt_eq_of_covers 5 _ (by decide +kernel) fun t _ y => ?_
  blk_simp
  rw [after0_5]; frame_out
  canon_tiles x h
  all_goals (open_payloads; pointwise [hidden, gatePart, linearPart, sigm]; blk_point [iblk, V, idx t])

open Cert.FfnUpRefIdeal.Read in
/-- The reference's gate projection. -/
theorem reference_gate_out (h : S4096x2048.Idx → EReal) (w : S8x1376x2048.Idx → EReal) : val_main_v6 (F := Ideal) h w = gatePart h w := by
  funext i
  pointwise [val_main_v0, val_main_v1, val_main_v2, val_main_v3, val_main_v4, val_main_v5, val_main_v6, val_main_v7, val_main_v8, val_main_v9, val_main_v10, gatePart]
  exact Finset.sum_congr rfl fun d _ => mul_comm _ _

open Cert.FfnUpRefIdeal.Read in
/-- The reference's linear projection. -/
theorem reference_linear_out (h : S4096x2048.Idx → EReal) (w : S8x1376x2048.Idx → EReal) : val_main_v7 (F := Ideal) h w = linearPart h w := by
  funext i
  pointwise [val_main_v0, val_main_v1, val_main_v2, val_main_v3, val_main_v4, val_main_v5, val_main_v6, val_main_v7, val_main_v8, val_main_v9, val_main_v10, linearPart]
  exact Finset.sum_congr rfl fun d _ => mul_comm _ _

open Cert.FfnUpRefIdeal.Read in
/-- The reference's hidden activations. -/
theorem reference_hidden (h : S4096x2048.Idx → EReal) (w : S8x1376x2048.Idx → EReal) : val_main_v10 (F := Ideal) h w = hidden h w := by
  funext i
  pointwise [val_main_v0, val_main_v1, val_main_v2, val_main_v3, val_main_v4, val_main_v5, val_main_v6, val_main_v7, val_main_call0_v0, val_main_call0_v1, val_main_call0_cst, val_main_call0_v2, val_main_call0_v3, val_main_call0_cst_0, val_main_call0_v4, val_main_call0_v5, val_main_v8, val_main_v9, val_main_v10, hidden, gatePart, linearPart, sigm]
  simp only [mul_comm (w _), zero_sub]

end Cert.FfnUpIdeal.Product

end
-- ==== Proof.ValFfnDown.lean ====
/- The down projection with its residual: each of the sixteen grid points multiplies 512 rows of the hidden activations with 1024
   columns of the weights, group by group, and adds the gated half of it to the stream. Here the two arrays the grid leaves are
   shown to be the product and the stepped stream, and the reference to be the same. -/
module

public import proofs.«01_k».proof.Proof.Gen.FfnDownIdeal.Value
public import proofs.«01_k».proof.Proof.Gen.FfnDownRefIdeal.Read
public import Idealize.ShloMosaic.Lib.Pipeline.ValueKit

@[expose] public section

set_option maxRecDepth 16384

noncomputable section

namespace Cert.FfnDownIdeal.Product

open Idealize.ShloMosaic Idealize.ShloMosaic.TcCoe Idealize.SL.Sem
open Cert.FfnDownIdeal Cert.FfnDownIdeal.Gen
open scoped BigOperators

/-- The product, summed over the groups. -/
def prod (a : S4x4096x1376.Idx → EReal) (b : S4x1376x2048.Idx → EReal) : S4096x2048.Idx → EReal :=
  fun i => ∑ g : Fin 4, ∑ d : Fin 1376, a (ix3 g (i 0 : Fin 4096) d) * b (ix3 g d (i 1 : Fin 2048))

/-- The stream with half the gated product added. -/
def stepped (a : S4x4096x1376.Idx → EReal) (b : S4x1376x2048.Idx → EReal) (x : S4096x2048.Idx → EReal) (y : S1x2048.Idx → EReal) : S4096x2048.Idx → EReal :=
  fun i => x i + Ideal.ofBits .f32 0x3F000000#32 * y (ix2 0 (i 1 : Fin 2048)) * prod a b i

variable (m : (ℓ : Loc nD τ sig) → Buf (Elt Ideal) ℓ) (c : Dev nD)

/-- The first operand in memory. -/
abbrev lhsOf : S4x4096x1376.Idx → EReal := m ((c : Thread nD τ).loc main_arg0)
/-- The second operand in memory. -/
abbrev rhsOf : S4x1376x2048.Idx → EReal := m ((c : Thread nD τ).loc main_arg1)
/-- The stream in memory. -/
abbrev streamOf : S4096x2048.Idx → EReal := m ((c : Thread nD τ).loc main_arg2)
/-- The gate in memory. -/
abbrev gateOf : S1x2048.Idx → EReal := m ((c : Thread nD τ).loc main_arg3)

/-- Which blocks a grid point reads and writes. -/
theorem idx : ∀ t : Fin cfg0.N, win0_0.index t = ![0, t.val % 8, 0] ∧ win0_1.index t = ![0, 0, t.val / 8] ∧ win0_2.index t = ![t.val % 8, t.val / 8] ∧ win0_3.index t = ![0, t.val / 8] ∧ win0_4.index t = ![t.val % 8, t.val / 8] ∧ win0_5.index t = ![t.val % 8, t.val / 8] :=
  (by decide +kernel : ∀ t : Fin grid0.N, _)

/-- The array when the grid is done is the product. -/
theorem final : (dats m 0 c).arrAt 4 cfg0.N = prod (lhsOf m c) (rhsOf m c) := by
  refine (dats m 0 c).arrAt_eq_of_covers 4 _ (by decide +kernel) fun t _ y => ?_
  blk_simp
  rw [after0_4]; frame_out
  pointwise [k0_pay1, k0_pay2, prod, Fin.sum_univ_four]
  blk_point [iblk, V, idx t]

/-- The stream's array when the grid is done is the stepped stream. -/
theorem final_stream : (dats m 0 c).arrAt 5 cfg0.N = stepped (lhsOf m c) (rhsOf m c) (streamOf m c) (gateOf m c) := by
  refine (dats m 0 c).arrAt_eq_of_covers 5 _ (by decide +kernel) fun t _ y => ?_
  blk_simp
  rw [after0_5]; frame_out
  pointwise [k0_pay1, k0_pay2, stepped, prod, Fin.sum_univ_four]
  blk_point [iblk, V, idx t]

open Cert.FfnDownRefIdeal.Read in
/-- The reference computes the same product. -/
theorem reference (a : S4x4096x1376.Idx → EReal) (b : S4x1376x2048.Idx → EReal) : val_main_v2 (F := Ideal) a b = prod a b := by
  funext i
  pointwise [val_main_cst, val_main_v2, val_main_v1, val_main_v0, prod]

open Cert.FfnDownRefIdeal.Read in
/-- The reference's stream is the same. -/
theorem reference_stream (a : S4x4096x1376.Idx → EReal) (b : S4x1376x2048.Idx → EReal) (x : S4096x2048.Idx → EReal) (y : S1x2048.Idx → EReal) :
    val_main_v7 (F := Ideal) a b x y = stepped a b x y := by
  funext i
  pointwise [val_main_v7, val_main_v6, val_main_v5, val_main_v4, val_main_v3, val_main_cst, val_main_v2, val_main_v1, val_main_v0, stepped, prod]

end Cert.FfnDownIdeal.Product

end
-- ==== Proof.ValMixDwOut.lean ====
/- The output projection's weight gradient: each of the eight grid points multiplies 512 transposed columns of the mixer's
   output with 1024 columns of the incoming gradient, over all 4096 rows at once. Here the array the grid leaves is shown to
   be that product, and the reference to be the same. -/
module

public import proofs.«01_k».proof.Proof.Gen.MixDwOutIdeal.Value
public import proofs.«01_k».proof.Proof.Gen.MixDwOutRefIdeal.Read
public import Idealize.ShloMosaic.Lib.Pipeline.ValueKit

@[expose] public section

set_option maxRecDepth 16384

noncomputable section

namespace Cert.MixDwOutIdeal.Product

open Idealize.ShloMosaic Idealize.ShloMosaic.TcCoe Idealize.SL.Sem
open Cert.MixDwOutIdeal Cert.MixDwOutIdeal.Gen
open scoped BigOperators

/-- The product. -/
def prod (a : S4096x2048.Idx → EReal) (b : S4096x2048.Idx → EReal) : S2048x2048.Idx → EReal :=
  fun i => ∑ d : Fin 4096, a (ix2 d (i 0 : Fin 2048)) * b (ix2 d (i 1 : Fin 2048))

variable (m : (ℓ : Loc nD τ sig) → Buf (Elt Ideal) ℓ) (c : Dev nD)

/-- The first operand in memory. -/
abbrev lhsOf : S4096x2048.Idx → EReal := m ((c : Thread nD τ).loc main_arg0)
/-- The second operand in memory. -/
abbrev rhsOf : S4096x2048.Idx → EReal := m ((c : Thread nD τ).loc main_arg1)

/-- Which blocks a grid point reads and writes. -/
theorem idx : ∀ t : Fin cfg0.N, win0_0.index t = ![0, t.val / 2] ∧ win0_1.index t = ![0, t.val % 2] ∧ win0_2.index t = ![t.val / 2, t.val % 2] :=
  (by decide +kernel : ∀ t : Fin grid0.N, _)

/-- The array when the grid is done is the product. -/
theorem final : (dats m 0 c).arrAt 2 cfg0.N = prod (lhsOf m c) (rhsOf m c) := by
  refine (dats m 0 c).arrAt_eq_of_covers 2 _ (by decide +kernel) fun t _ y => ?_
  blk_simp
  rw [after0_2]; frame_out
  pointwise [k0_pay1, prod]
  blk_point [iblk, V, idx t]

open Cert.MixDwOutRefIdeal.Read in
/-- The reference computes the same product. -/
theorem reference (a : S4096x2048.Idx → EReal) (b : S4096x2048.Idx → EReal) : val_main_v6 (F := Ideal) a b = prod a b := by
  funext i
  pointwise [val_main_v6, val_main_v5, val_main_v4, val_main_v3, val_main_v2, val_main_v1, val_main_v0, prod]
  exact Finset.sum_congr rfl fun d _ => mul_comm _ _

end Cert.MixDwOutIdeal.Product

end
-- ==== Proof.ValMixOutBwd.lean ====
/- The gradient of the mixer's output: each of the eight grid points multiplies 512 rows of the incoming gradient with the
   transposed weights. Here the array the grid leaves is shown to be that product, and the reference to be the same. -/
module

public import proofs.«01_k».proof.Proof.Gen.MixOutBwdIdeal.Value
public import proofs.«01_k».proof.Proof.Gen.MixOutBwdRefIdeal.Read
public import Idealize.ShloMosaic.Lib.Pipeline.ValueKit

@[expose] public section

set_option maxRecDepth 16384

noncomputable section

namespace Cert.MixOutBwdIdeal.Product

open Idealize.ShloMosaic Idealize.ShloMosaic.TcCoe Idealize.SL.Sem
open Cert.MixOutBwdIdeal Cert.MixOutBwdIdeal.Gen
open scoped BigOperators

/-- The product. -/
def prod (a : S4096x2048.Idx → EReal) (b : S2048x2048.Idx → EReal) : S4096x2048.Idx → EReal :=
  fun i => ∑ d : Fin 2048, a (ix2 (i 0 : Fin 4096) d) * b (ix2 (i 1 : Fin 2048) d)

variable (m : (ℓ : Loc nD τ sig) → Buf (Elt Ideal) ℓ) (c : Dev nD)

/-- The first operand in memory. -/
abbrev lhsOf : S4096x2048.Idx → EReal := m ((c : Thread nD τ).loc main_arg0)
/-- The second operand in memory. -/
abbrev rhsOf : S2048x2048.Idx → EReal := m ((c : Thread nD τ).loc main_arg1)

/-- Which blocks a grid point reads and writes. -/
theorem idx : ∀ t : Fin cfg0.N, win0_0.index t = ![t.val, 0] ∧ win0_1.index t = ![0, 0] ∧ win0_2.index t = ![t.val, 0] :=
  (by decide +kernel : ∀ t : Fin grid0.N, _)

/-- The array when the grid is done is the product. -/
theorem final : (dats m 0 c).arrAt 2 cfg0.N = prod (lhsOf m c) (rhsOf m c) := by
  refine (dats m 0 c).arrAt_eq_of_covers 2 _ (by decide +kernel) fun t _ y => ?_
  blk_simp
  rw [after0_2]; frame_out
  pointwise [k0_pay1, prod]
  blk_point [iblk, V, idx t]

open Cert.MixOutBwdRefIdeal.Read in
/-- The reference computes the same product. -/
theorem reference (a : S4096x2048.Idx → EReal) (b : S2048x2048.Idx → EReal) : val_main_v4 (F := Ideal) a b = prod a b := by
  funext i
  pointwise [val_main_v4, val_main_v3, val_main_v2, val_main_v1, val_main_v0, prod]

end Cert.MixOutBwdIdeal.Product

end
-- ==== Proof.ValMixDwIn.lean ====
/- The input projection's weight gradient: each of the twelve grid points multiplies 1408 transposed columns of the
   projections' gradient with 512 columns of the normalised input, over all 4096 rows at once. Here the array the grid leaves
   is shown to be that product, and the reference to be the same. -/
module

public import proofs.«01_k».proof.Proof.Gen.MixDwInIdeal.Value
public import proofs.«01_k».proof.Proof.Gen.MixDwInRefIdeal.Read
public import Idealize.ShloMosaic.Lib.Pipeline.ValueKit

@[expose] public section

set_option maxRecDepth 16384

noncomputable section

namespace Cert.MixDwInIdeal.Product

open Idealize.ShloMosaic Idealize.ShloMosaic.TcCoe Idealize.SL.Sem
open Cert.MixDwInIdeal Cert.MixDwInIdeal.Gen
open scoped BigOperators

/-- The product. -/
def prod (a : S4096x4224.Idx → EReal) (b : S4096x2048.Idx → EReal) : S4224x2048.Idx → EReal :=
  fun i => ∑ d : Fin 4096, a (ix2 d (i 0 : Fin 4224)) * b (ix2 d (i 1 : Fin 2048))

variable (m : (ℓ : Loc nD τ sig) → Buf (Elt Ideal) ℓ) (c : Dev nD)

/-- The first operand in memory. -/
abbrev lhsOf : S4096x4224.Idx → EReal := m ((c : Thread nD τ).loc main_arg0)
/-- The second operand in memory. -/
abbrev rhsOf : S4096x2048.Idx → EReal := m ((c : Thread nD τ).loc main_arg1)

/-- Which blocks a grid point reads and writes. -/
theorem idx : ∀ t : Fin cfg0.N, win0_0.index t = ![0, t.val / 4] ∧ win0_1.index t = ![0, t.val % 4] ∧ win0_2.index t = ![t.val / 4, t.val % 4] :=
  (by decide +kernel : ∀ t : Fin grid0.N, _)

/-- The array when the grid is done is the product. -/
theorem final : (dats m 0 c).arrAt 2 cfg0.N = prod (lhsOf m c) (rhsOf m c) := by
  refine (dats m 0 c).arrAt_eq_of_covers 2 _ (by decide +kernel) fun t _ y => ?_
  blk_simp
  rw [after0_2]; frame_out
  pointwise [k0_pay1, prod]
  blk_point [iblk, V, idx t]

open Cert.MixDwInRefIdeal.Read in
/-- The reference computes the same product. -/
theorem reference (a : S4096x4224.Idx → EReal) (b : S4096x2048.Idx → EReal) : val_main_v8 (F := Ideal) a b = prod a b := by
  funext i
  pointwise [val_main_v8, val_main_v7, val_main_v6, val_main_v5, val_main_v1, val_main_v0, prod]

end Cert.MixDwInIdeal.Product

end
-- ==== Proof.ValMixOut.lean ====
/- The mixer's output projection with its residual: each of the thirty-two grid points multiplies 512 rows of the mixer's output
   with 512 columns of the weights and adds the gated product to the stream. Here the two arrays the grid leaves are shown to be
   the product and the stepped stream, and the reference to be the same. -/
module

public import proofs.«01_k».proof.Proof.Gen.MixOutIdeal.Value
public import proofs.«01_k».proof.Proof.Gen.MixOutRefIdeal.Read
public import Idealize.ShloMosaic.Lib.Pipeline.ValueKit

@[expose] public section

set_option maxRecDepth 16384

noncomputable section

namespace Cert.MixOutIdeal.Product

open Idealize.ShloMosaic Idealize.ShloMosaic.TcCoe Idealize.SL.Sem
open Cert.MixOutIdeal Cert.MixOutIdeal.Gen
open scoped BigOperators

/-- The product. -/
def prod (a : S4096x2048.Idx → EReal) (b : S2048x2048.Idx → EReal) : S4096x2048.Idx → EReal :=
  fun i => ∑ d : Fin 2048, a (ix2 (i 0 : Fin 4096) d) * b (ix2 d (i 1 : Fin 2048))

/-- The stream with the gated product added. -/
def stepped (a : S4096x2048.Idx → EReal) (b : S2048x2048.Idx → EReal) (x : S4096x2048.Idx → EReal) (y : S1x2048.Idx → EReal) : S4096x2048.Idx → EReal :=
  fun i => x i + y (ix2 0 (i 1 : Fin 2048)) * prod a b i

variable (m : (ℓ : Loc nD τ sig) → Buf (Elt Ideal) ℓ) (c : Dev nD)

/-- The first operand in memory. -/
abbrev lhsOf : S4096x2048.Idx → EReal := m ((c : Thread nD τ).loc main_arg0)
/-- The second operand in memory. -/
abbrev rhsOf : S2048x2048.Idx → EReal := m ((c : Thread nD τ).loc main_arg1)
/-- The stream in memory. -/
abbrev streamOf : S4096x2048.Idx → EReal := m ((c : Thread nD τ).loc main_arg2)
/-- The gate in memory. -/
abbrev gateOf : S1x2048.Idx → EReal := m ((c : Thread nD τ).loc main_arg3)

/-- Which blocks a grid point reads and writes. -/
theorem idx : ∀ t : Fin cfg0.N, win0_0.index t = ![0, t.val % 8, 0] ∧ win0_1.index t = ![0, 0, t.val / 8] ∧ win0_2.index t = ![t.val % 8, t.val / 8] ∧ win0_3.index t = ![0, t.val / 8] ∧ win0_4.index t = ![t.val % 8, t.val / 8] ∧ win0_5.index t = ![t.val % 8, t.val / 8] :=
  (by decide +kernel : ∀ t : Fin grid0.N, _)

/-- The array when the grid is done is the product. -/
theorem final : (dats m 0 c).arrAt 4 cfg0.N = prod (lhsOf m c) (rhsOf m c) := by
  refine (dats m 0 c).arrAt_eq_of_covers 4 _ (by decide +kernel) fun t _ y => ?_
  blk_simp
  rw [after0_4]; frame_out
  pointwise [k0_pay1, k0_pay2, prod]
  blk_point [iblk, V, idx t] <;> blk_simp [idx t]

/-- The stream's array when the grid is done is the stepped stream. -/
theorem final_stream : (dats m 0 c).arrAt 5 cfg0.N = stepped (lhsOf m c) (rhsOf m c) (streamOf m c) (gateOf m c) := by
  refine (dats m 0 c).arrAt_eq_of_covers 5 _ (by decide +kernel) fun t _ y => ?_
  blk_simp
  rw [after0_5]; frame_out
  pointwise [k0_pay1, k0_pay2, stepped, prod]
  blk_point [iblk, V, idx t] <;> blk_simp [idx t]

open Cert.MixOutRefIdeal.Read in
/-- The reference computes the same product. -/
theorem reference (a : S4096x2048.Idx → EReal) (b : S2048x2048.Idx → EReal) : val_main_v2 (F := Ideal) a b = prod a b := by
  funext i
  pointwise [val_main_v2, val_main_v1, val_main_v0, prod]

open Cert.MixOutRefIdeal.Read in
/-- The reference's stream is the same. -/
theorem reference_stream (a : S4096x2048.Idx → EReal) (b : S2048x2048.Idx → EReal) (x : S4096x2048.Idx → EReal) (y : S1x2048.Idx → EReal) :
    val_main_v5 (F := Ideal) a b x y = stepped a b x y := by
  funext i
  pointwise [val_main_v5, val_main_v4, val_main_v3, val_main_v2, val_main_v1, val_main_v0, stepped, prod]

end Cert.MixOutIdeal.Product

end
-- ==== Proof.ValMixProj.lean ====
/- The mixer's input projections: each of the twenty-four grid points multiplies 512 rows of the normalised input with 1408 of
   the transposed weights. Here the array the grid leaves is shown to be that product, and the reference to be the same. -/
module

public import proofs.«01_k».proof.Proof.Gen.MixProjIdeal.Value
public import proofs.«01_k».proof.Proof.Gen.MixProjRefIdeal.Read
public import Idealize.ShloMosaic.Lib.Pipeline.ValueKit

@[expose] public section

set_option maxRecDepth 16384

noncomputable section

namespace Cert.MixProjIdeal.Product

open Idealize.ShloMosaic Idealize.ShloMosaic.TcCoe Idealize.SL.Sem
open Cert.MixProjIdeal Cert.MixProjIdeal.Gen
open scoped BigOperators

/-- The product. -/
def prod (a : S4096x2048.Idx → EReal) (b : S4224x2048.Idx → EReal) : S4096x4224.Idx → EReal :=
  fun i => ∑ d : Fin 2048, a (ix2 (i 0 : Fin 4096) d) * b (ix2 (i 1 : Fin 4224) d)

variable (m : (ℓ : Loc nD τ sig) → Buf (Elt Ideal) ℓ) (c : Dev nD)

/-- The first operand in memory. -/
abbrev lhsOf : S4096x2048.Idx → EReal := m ((c : Thread nD τ).loc main_arg0)
/-- The second operand in memory. -/
abbrev rhsOf : S4224x2048.Idx → EReal := m ((c : Thread nD τ).loc main_arg1)

/-- Which blocks a grid point reads and writes. -/
theorem idx : ∀ t : Fin cfg0.N, win0_0.index t = ![t.val / 3, 0] ∧ win0_1.index t = ![t.val % 3, 0] ∧ win0_2.index t = ![t.val / 3, t.val % 3] :=
  (by decide +kernel : ∀ t : Fin grid0.N, _)

/-- The array when the grid is done is the product. -/
theorem final : (dats m 0 c).arrAt 2 cfg0.N = prod (lhsOf m c) (rhsOf m c) := by
  refine (dats m 0 c).arrAt_eq_of_covers 2 _ (by decide +kernel) fun t _ y => ?_
  blk_simp
  rw [after0_2]; frame_out
  pointwise [k0_pay1, prod]
  blk_point [iblk, V, idx t]

open Cert.MixProjRefIdeal.Read in
/-- The reference computes the same product. -/
theorem reference (a : S4096x2048.Idx → EReal) (b : S4224x2048.Idx → EReal) : val_main_v3 (F := Ideal) a b = prod a b := by
  funext i
  pointwise [val_main_v3, val_main_v2, val_main_v1, val_main_v0, prod]

end Cert.MixProjIdeal.Product

end
-- ==== Proof.ValMixProjBwd.lean ====
/- The gradient of the mixer's normalised input: each of the thirty-two grid points multiplies 512 rows of the projections'
   gradient with 512 columns of the weights. Here the array the grid leaves is shown to be that product, and the reference to
   be the same. -/
module

public import proofs.«01_k».proof.Proof.Gen.MixProjBwdIdeal.Value
public import proofs.«01_k».proof.Proof.Gen.MixProjBwdRefIdeal.Read
public import Idealize.ShloMosaic.Lib.Pipeline.ValueKit

@[expose] public section

set_option maxRecDepth 16384

noncomputable section

namespace Cert.MixProjBwdIdeal.Product

open Idealize.ShloMosaic Idealize.ShloMosaic.TcCoe Idealize.SL.Sem
open Cert.MixProjBwdIdeal Cert.MixProjBwdIdeal.Gen
open scoped BigOperators

/-- The product. -/
def prod (a : S4096x4224.Idx → EReal) (b : S4224x2048.Idx → EReal) : S4096x2048.Idx → EReal :=
  fun i => ∑ d : Fin 4224, a (ix2 (i 0 : Fin 4096) d) * b (ix2 d (i 1 : Fin 2048))

variable (m : (ℓ : Loc nD τ sig) → Buf (Elt Ideal) ℓ) (c : Dev nD)

/-- The first operand in memory. -/
abbrev lhsOf : S4096x4224.Idx → EReal := m ((c : Thread nD τ).loc main_arg0)
/-- The second operand in memory. -/
abbrev rhsOf : S4224x2048.Idx → EReal := m ((c : Thread nD τ).loc main_arg1)

/-- Which blocks a grid point reads and writes. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- The array when the grid is done is the product. -/
theorem final : (dats m 0 c).arrAt 2 cfg0.N = prod (lhsOf m c) (rhsOf m c) := by
  refine (dats m 0 c).arrAt_eq_of_covers 2 _ (by decide +kernel) fun t _ y => ?_
  blk_simp
  rw [after0_2]; frame_out
  pointwise [k0_pay1, prod]
  blk_point [iblk, V, idx t]

open Cert.MixProjBwdRefIdeal.Read in
/-- The reference computes the same product. -/
theorem reference (a : S4096x4224.Idx → EReal) (b : S4224x2048.Idx → EReal) : val_main_v5 (F := Ideal) a b = prod a b := by
  funext i
  pointwise [val_main_v5, val_main_v4, val_main_v3, val_main_v2, val_main_v1, val_main_v0, prod]

end Cert.MixProjBwdIdeal.Product

end
-- ==== Proof.RmsGrad.lean ====
/- The gradient of a normalisation by the root of the mean square, as two programs write it: the kernel takes the projection onto the
   normalised row out of the incoming gradient, the derivative of the formula adds three terms. Here the two are shown to be equal
   for every row of extended reals. -/
module

public import Idealize.ShloMosaic.PureOps.Ideal.Laws
public import Idealize.ShloMosaic.Lib.IdealHost

@[expose] public section

noncomputable section

namespace Cert.RmsGrad

open Idealize.ShloMosaic
open scoped BigOperators

/-- A positive real factor goes into a finite sum. -/
theorem mul_sum {ι : Type} (s : Finset ι) (a : ℝ) (ha : 0 ≤ a) (f : ι → EReal) : (a : EReal) * ∑ k ∈ s, f k = ∑ k ∈ s, (a : EReal) * f k := by
  classical
  induction s using Finset.induction_on with
  | empty => simp
  | insert x s hx ih =>
    rw [Finset.sum_insert hx, Finset.sum_insert hx, ← ih]
    exact EReal.left_distrib_of_nonneg_of_ne_top (by exact_mod_cast ha) (EReal.coe_ne_top a) _ _

/-- A real number times a sum of two with one of them real or the factor nonnegative: a nonnegative real factor. -/
theorem mul_add_coe (a : ℝ) (ha : 0 ≤ a) (x y : EReal) : (a : EReal) * (x + y) = a * x + a * y :=
  EReal.left_distrib_of_nonneg_of_ne_top (by exact_mod_cast ha) (EReal.coe_ne_top a) _ _

/-- Two nonnegative real multiples of a number are their sum's multiple. -/
theorem add_mul_coe (a b : ℝ) (ha : 0 ≤ a) (hb : 0 ≤ b) (x : EReal) : ((a + b : ℝ) : EReal) * x = a * x + b * x := by
  rw [EReal.coe_add]
  exact EReal.right_distrib_of_nonneg (by exact_mod_cast ha) (by exact_mod_cast hb)

/-- The constant 2048. -/
theorem ofBits_2048 : Ideal.ofBits .f32 0x45000000#32 = ((2048 : ℝ) : EReal) := by
  simp [Ideal.ofBits, Ideal.ieee, -EReal.coe_mul]; norm_num

/-- The constant 128. -/
theorem ofBits_128 : Ideal.ofBits .f32 0x43000000#32 = ((128 : ℝ) : EReal) := by
  simp [Ideal.ofBits, Ideal.ieee, -EReal.coe_mul]; norm_num

/-- The constant minus one half. -/
theorem ofBits_neg_half : Ideal.ofBits .f32 0xBF000000#32 = ((-(1 / 2) : ℝ) : EReal) := by
  simp [Ideal.ofBits, Ideal.ieee, -EReal.coe_mul]; norm_num

/-- The constant one half. -/
theorem ofBits_half : Ideal.ofBits .f32 0x3F000000#32 = ((1 / 2 : ℝ) : EReal) := by
  simp [Ideal.ofBits, Ideal.ieee, -EReal.coe_mul]; norm_num

/-- The small constant under the root is a positive real. -/
theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

/-- A square is not negative. -/
theorem mul_self_nonneg' (x : EReal) : 0 ≤ x * x := by
  induction x using EReal.rec with
  | bot => simp
  | top => simp
  | coe r => rw [← EReal.coe_mul]; exact_mod_cast mul_self_nonneg r

/-- A row's mean square is plus infinity, or every entry is real and the mean square is a nonnegative real. -/
theorem meanSq_cases {ι : Type} [Fintype ι] (x : ι → EReal) (N : ℝ) (hN : 0 < N) :
    Ideal.div (∑ k, x k * x k) (N : EReal) = ⊤ ∨ ∃ (y : ι → ℝ) (v : ℝ), (∀ k, x k = (y k : EReal)) ∧ 0 ≤ v ∧ Ideal.div (∑ k, x k * x k) (N : EReal) = (v : EReal) := by
  classical
  rw [Ideal.div_coe hN.ne']
  have hpos : (0 : EReal) < ((1 / N : ℝ) : EReal) := by exact_mod_cast one_div_pos.mpr hN
  by_cases h : ∀ k, x k ≠ ⊤ ∧ x k ≠ ⊥
  · right
    refine ⟨fun k => (x k).toReal, (∑ k, (x k).toReal * (x k).toReal) * (1 / N), fun k => (EReal.coe_toReal (h k).1 (h k).2).symm, ?_, ?_⟩
    · exact mul_nonneg (Finset.sum_nonneg fun k _ => mul_self_nonneg _) (one_div_pos.mpr hN).le
    · rw [EReal.coe_mul]
      congr 1
      have : ∀ k, x k * x k = (((x k).toReal * (x k).toReal : ℝ) : EReal) := fun k => by
        rw [EReal.coe_mul, EReal.coe_toReal (h k).1 (h k).2]
      simp only [this]
      exact (map_sum (⟨⟨Real.toEReal, rfl⟩, EReal.coe_add⟩ : ℝ →+ EReal) _ _).symm
  · left
    push Not at h
    obtain ⟨k, hk⟩ := h
    have hs : x k * x k = ⊤ := by
      by_cases ht : x k = ⊤
      · rw [ht]; simp
      · rw [hk ht]; simp
    have : ∑ k, x k * x k = ⊤ := by
      refine top_le_iff.mp (hs ▸ ?_)
      exact Finset.single_le_sum (f := fun k => x k * x k) (fun i _ => mul_self_nonneg' (x i)) (Finset.mem_univ k)
    rw [this]
    exact EReal.top_mul_of_pos hpos

/-- The two forms of the gradient of a normalised row agree. `d` is the gradient that reaches the normalised row. -/
theorem grad {ι : Type} [Fintype ι] (x d : ι → EReal) (j : ι) (N e : ℝ) (hN : 0 < N) (he : 0 < e) (m r : EReal)
    (hm : m = Ideal.div (∑ k, x k * x k) (N : EReal)) (hr : r = Ideal.rsqrt (m + e)) :
    r * (d j - x j * r * Ideal.div (∑ k, d k * (x k * r)) (N : EReal))
      = d j * r + x j * Ideal.div ((∑ k, x k * d k) * (((-(1 / 2) : ℝ) : EReal) * Ideal.div r (m + e))) (N : EReal)
          + Ideal.div ((∑ k, x k * d k) * (((-(1 / 2) : ℝ) : EReal) * Ideal.div r (m + e))) (N : EReal) * x j := by
  have hN' := hN.ne'
  simp only [Ideal.div_coe hN']
  rcases meanSq_cases x N hN with h | ⟨y, v, hy, hv, h⟩
  · rw [h] at hm
    have hz : r = 0 := by rw [hr, hm, EReal.top_add_coe]; rfl
    have hq : Ideal.div (0 : EReal) (⊤ : EReal) = 0 := by
      unfold Ideal.div; rw [if_neg EReal.top_ne_zero]; simp
    rw [hz, hm, EReal.top_add_coe, hq]
    simp
  · rw [h] at hm
    have hp : 0 < v + e := by linarith
    have hs : 0 < (Real.sqrt (v + e))⁻¹ := inv_pos.mpr (Real.sqrt_pos.mpr hp)
    set s : ℝ := (Real.sqrt (v + e))⁻¹ with hs_def
    have hr' : r = (s : EReal) := by
      rw [hr, hm, ← EReal.coe_add, Ideal.rsqrt_coe, if_neg (not_lt.mpr hp.le), if_neg hp.ne']
    have hss : s * s = 1 / (v + e) := by
      rw [hs_def, ← mul_inv, Real.mul_self_sqrt hp.le, one_div]
    rw [hr', hm, ← EReal.coe_add, Ideal.div_coe hp.ne']
    set S : EReal := ∑ k, x k * d k with hS
    have hsum : ∑ k, d k * (x k * (s : EReal)) = (s : EReal) * S := by
      rw [hS, mul_sum _ _ hs.le]
      exact Finset.sum_congr rfl fun k _ => by rw [← mul_assoc, mul_comm (d k * x k), mul_comm (d k)]
    rw [hsum, hy j]
    have hneg : ((-(y j * s * s * (1 / N)) : ℝ) : EReal) * S = -((y j : EReal) * s * (s * S * ((1 / N : ℝ) : EReal))) := by
      rw [EReal.coe_neg, EReal.neg_mul]
      congr 1
      push_cast
      ac_rfl
    have hterm : (y j : EReal) * (S * (((-(1 / 2) : ℝ) : EReal) * ((s : EReal) * ((1 / (v + e) : ℝ) : EReal))) * ((1 / N : ℝ) : EReal))
        = ((-(1 / 2) * (y j * s * s * s * (1 / N)) : ℝ) : EReal) * S := by
      rw [show (-(1 / 2) * (y j * s * s * s * (1 / N)) : ℝ) = y j * (-(1 / 2)) * s * (1 / (v + e)) * (1 / N) by rw [← hss]; ring]
      simp only [EReal.coe_mul]
      ac_rfl
    have htwo : ∀ z : EReal, z + z = ((1 + 1 : ℝ) : EReal) * z := fun z => by
      rw [add_mul_coe 1 1 zero_le_one zero_le_one, EReal.coe_one, one_mul]
    rw [sub_eq_add_neg, ← hneg, mul_add_coe s hs.le, mul_comm (d j), add_assoc, mul_comm _ (y j : EReal), hterm, htwo]
    congr 1
    rw [← mul_assoc, ← mul_assoc, ← EReal.coe_mul, ← EReal.coe_mul]
    congr 2
    ring

/-- The two forms agree with the programs' constants, for a mean over `C` entries. -/
theorem grad_const {ι : Type} [Fintype ι] (C : EReal) (N : ℝ) (hC : C = (N : EReal)) (hN : 0 < N) (x d : ι → EReal) (j : ι) (a b : EReal)
    (ha : a = x j) (hb : b = d j) (r : EReal)
    (hr : r = Ideal.rsqrt (Ideal.div (∑ k, x k * x k) C + Ideal.ofBits .f32 0x358637BD#32)) :
    b * r
        + a * ∑ _k : Fin 1, Ideal.div ((∑ k, x k * d k) * (Ideal.ofBits .f32 0xBF000000#32 * Ideal.div r
            (Ideal.div (∑ k, x k * x k) C + Ideal.ofBits .f32 0x358637BD#32))) C
        + (∑ _k : Fin 1, Ideal.div ((∑ k, x k * d k) * (Ideal.ofBits .f32 0xBF000000#32 * Ideal.div r
            (Ideal.div (∑ k, x k * x k) C + Ideal.ofBits .f32 0x358637BD#32))) C) * a
      = r * (b - a * r * Ideal.div (∑ k, d k * (x k * r)) C) := by
  obtain ⟨e, he, hE⟩ := ofBits_eps
  rw [hE, hC] at hr
  rw [ha, hb, hE, hC, ofBits_neg_half, grad x d j N e hN he _ r rfl hr, Fin.sum_univ_one]

/-- The same for a row of 2048 entries and a gradient `p` that comes past the normalisation. -/
theorem grad_past {ι : Type} [Fintype ι] (x d : ι → EReal) (j : ι) (p a b : EReal) (ha : a = x j) (hb : b = d j) (r : EReal)
    (hr : r = Ideal.rsqrt (Ideal.div (∑ k, x k * x k) (Ideal.ofBits .f32 0x45000000#32) + Ideal.ofBits .f32 0x358637BD#32)) :
    p + b * r
        + a * ∑ _k : Fin 1, Ideal.div ((∑ k, x k * d k) * (Ideal.ofBits .f32 0xBF000000#32 * Ideal.div r
            (Ideal.div (∑ k, x k * x k) (Ideal.ofBits .f32 0x45000000#32) + Ideal.ofBits .f32 0x358637BD#32))) (Ideal.ofBits .f32 0x45000000#32)
        + (∑ _k : Fin 1, Ideal.div ((∑ k, x k * d k) * (Ideal.ofBits .f32 0xBF000000#32 * Ideal.div r
            (Ideal.div (∑ k, x k * x k) (Ideal.ofBits .f32 0x45000000#32) + Ideal.ofBits .f32 0x358637BD#32))) (Ideal.ofBits .f32 0x45000000#32)) * a
      = p + r * (b - a * r * Ideal.div (∑ k, d k * (x k * r)) (Ideal.ofBits .f32 0x45000000#32)) := by
  rw [← grad_const _ 2048 ofBits_2048 (by norm_num) x d j a b ha hb r hr]
  simp only [add_assoc]

end Cert.RmsGrad

end
-- ==== Proof.ValQkNormBwd.lean ====
/- The gradient of the queries' and keys' normalisation: each of the sixteen grid points takes 256 rows of eight heads back through
   the normalisation of each head, and adds its rows and heads to the gradients of the two weights. Here the four arrays the grid
   leaves are shown to hold those gradients, and the reference, the derivative of the plain formula, to be the same. -/
module

public import proofs.«01_k».proof.Proof.Gen.QkNormBwdIdeal.Value
public import proofs.«01_k».proof.Proof.Gen.QkNormBwdRefIdeal.Read
public import proofs.«01_k».proof.Proof.RmsGrad
public import Idealize.ShloMosaic.Lib.Pipeline.ValueKit

@[expose] public section

set_option maxRecDepth 16384

noncomputable section

namespace Cert.QkNormBwdIdeal.Product

open Idealize.ShloMosaic Idealize.ShloMosaic.TcCoe Idealize.SL.Sem
open Cert.QkNormBwdIdeal Cert.QkNormBwdIdeal.Gen
open scoped BigOperators

/-! ## One head -/

/-- One over the root of a head's mean square, as both programs compute it. -/
def rstd (x : Fin 128 → EReal) : EReal :=
  Ideal.rsqrt (Ideal.div (∑ k : Fin 128, x k * x k) (Ideal.ofBits .f32 0x43000000#32) + Ideal.ofBits .f32 0x358637BD#32)

/-- A head's gradient taken back through its normalisation, at the entry where the row holds `a` and the weighted gradient `b`. -/
def headGrad (x d g : Fin 128 → EReal) (a b : EReal) : EReal :=
  rstd x * (b - a * rstd x * Ideal.div (∑ k : Fin 128, d k * g k * (x k * rstd x)) (Ideal.ofBits .f32 0x43000000#32))

/-- Lane `k` of head `h` among a row's 1024 columns. -/
abbrev lane (h : Fin 8) (k : Fin 128) : Fin 1024 := ⟨h.val * 128 + k.val, by omega⟩

/-- The head that column `j` belongs to. -/
abbrev headOf (j : Fin 1024) : Fin 8 := ⟨j.val / 128, by omega⟩

/-- Column `j`'s lane in its head. -/
abbrev laneOf (j : Fin 1024) : Fin 128 := ⟨j.val % 128, by omega⟩

/-! ## A block of 256 rows -/

section Block
variable (x d : S256x1024.Idx → EReal) (g : S1x128.Idx → EReal)

/-- What the kernel leaves for the queries' block. -/
abbrev queryPay : S256x1024.Idx → EReal :=
  k0_pay110 (F := Ideal) (k0_pay6 (F := Ideal) x d g) (k0_pay14 (F := Ideal) g (k0_pay8 (F := Ideal) x) (k0_pay9 (F := Ideal) d) (k0_pay10 (F := Ideal) x) (k0_pay11 (F := Ideal)))
    (k0_pay20 (F := Ideal) x d g) (k0_pay26 (F := Ideal) g (k0_pay22 (F := Ideal) x) (k0_pay23 (F := Ideal) d)) (k0_pay32 (F := Ideal) x d g) (k0_pay38 (F := Ideal) x d g)
    (k0_pay47 (F := Ideal) (k0_pay42 (F := Ideal) x) (k0_pay43 (F := Ideal) x) (k0_pay44 (F := Ideal) d g) (k0_pay45 (F := Ideal) x d g) (k0_pay46 (F := Ideal))) (k0_pay53 (F := Ideal) x d g)

/-- What the kernel leaves for the keys' block. -/
abbrev keyPay : S256x1024.Idx → EReal :=
  k0_pay111 (F := Ideal) (k0_pay60 (F := Ideal) (k0_pay57 (F := Ideal) x) (k0_pay58 (F := Ideal) x) (k0_pay59 (F := Ideal) d g)) (k0_pay66 (F := Ideal) x d g)
    (k0_pay74 (F := Ideal) g (k0_pay68 (F := Ideal) x) (k0_pay69 (F := Ideal) d) (k0_pay70 (F := Ideal) x) (k0_pay71 (F := Ideal))) (k0_pay80 (F := Ideal) x d g)
    (k0_pay87 (F := Ideal) g (k0_pay82 (F := Ideal) x) (k0_pay83 (F := Ideal) d) (k0_pay84 (F := Ideal) x)) (k0_pay93 (F := Ideal) x d g) (k0_pay100 (F := Ideal) x d g)
    (k0_pay104 (F := Ideal) x) (k0_pay106 (F := Ideal) d g) (k0_pay107 (F := Ideal) x d g)

/-- What the kernel adds to the queries' weight gradient. -/
abbrev queryTerm : S1x128.Idx → EReal :=
  k0_pay108 (F := Ideal) (k0_pay7 (F := Ideal) x d) (k0_pay15 (F := Ideal) (k0_pay8 (F := Ideal) x) (k0_pay9 (F := Ideal) d) (k0_pay10 (F := Ideal) x) (k0_pay11 (F := Ideal)))
    (k0_pay21 (F := Ideal) x d) (k0_pay27 (F := Ideal) (k0_pay22 (F := Ideal) x) (k0_pay23 (F := Ideal) d)) (k0_pay33 (F := Ideal) (k0_pay29 (F := Ideal) d) (k0_pay31 (F := Ideal) x))
    (k0_pay39 (F := Ideal) x d) (k0_pay48 (F := Ideal) (k0_pay41 (F := Ideal) d) (k0_pay43 (F := Ideal) x)) (k0_pay54 (F := Ideal) x d)

/-- What the kernel adds to the keys' weight gradient. -/
abbrev keyTerm : S1x128.Idx → EReal :=
  k0_pay109 (F := Ideal) (k0_pay61 (F := Ideal) (k0_pay56 (F := Ideal) d) (k0_pay58 (F := Ideal) x)) (k0_pay67 (F := Ideal) x d)
    (k0_pay75 (F := Ideal) (k0_pay68 (F := Ideal) x) (k0_pay69 (F := Ideal) d) (k0_pay70 (F := Ideal) x) (k0_pay71 (F := Ideal))) (k0_pay81 (F := Ideal) x d)
    (k0_pay88 (F := Ideal) (k0_pay82 (F := Ideal) x) (k0_pay83 (F := Ideal) d) (k0_pay84 (F := Ideal) x)) (k0_pay95 (F := Ideal) (k0_pay94 (F := Ideal) x d)) (k0_pay101 (F := Ideal) x d)
    (k0_pay103 (F := Ideal) d) (k0_pay105 (F := Ideal) x)

/-- The block's gradient head by head. -/
def blockGrad : S256x1024.Idx → EReal := fun y =>
  headGrad (fun k => x (ix2 (y 0 : Fin 256) (lane (headOf (y 1 : Fin 1024)) k))) (fun k => d (ix2 (y 0 : Fin 256) (lane (headOf (y 1 : Fin 1024)) k)))
    (fun k => g (ix2 (0 : Fin 1) k)) (x (ix2 (y 0 : Fin 256) (y 1 : Fin 1024))) (d y * g (ix2 (0 : Fin 1) (laneOf (y 1 : Fin 1024))))

/-- The block's part of the weight gradient: over its rows and heads. -/
def blockTerm : S1x128.Idx → EReal := fun y =>
  ∑ r : Fin 256, ∑ h : Fin 8, d (ix2 r (lane h (y 1 : Fin 128))) * (x (ix2 r (lane h (y 1 : Fin 128))) * rstd fun k => x (ix2 r (lane h k)))

/-- The queries' block holds the gradient. -/
theorem query_pay : queryPay x d g = blockGrad x d g := by
  funext y
  unfold queryPay
  open_payloads
  pointwise [blockGrad, headGrad, rstd]
  blk_point []

/-- The keys' block holds the gradient. -/
theorem key_pay : keyPay x d g = blockGrad x d g := by
  funext y
  unfold keyPay
  open_payloads
  pointwise [blockGrad, headGrad, rstd]
  blk_point []

/-- The queries' term is the block's part. -/
theorem query_term : queryTerm x d = blockTerm x d := by
  funext y
  unfold queryTerm blockTerm
  rw [Finset.sum_comm, Fin.sum_univ_eight]
  open_payloads
  pointwise [rstd]
  blk_point []

/-- The keys' term is the block's part. -/
theorem key_term : keyTerm x d = blockTerm x d := by
  funext y
  unfold keyTerm blockTerm
  rw [Finset.sum_comm, Fin.sum_univ_eight]
  open_payloads
  pointwise [rstd]
  blk_point []

end Block

/-! ## The arrays -/

section Arrays
variable (x d : S4096x1024.Idx → EReal) (g : S1x128.Idx → EReal)

/-- The rows' gradient head by head. -/
def rowsGrad : S4096x1024.Idx → EReal := fun i =>
  headGrad (fun k => x (ix2 (i 0 : Fin 4096) (lane (headOf (i 1 : Fin 1024)) k))) (fun k => d (ix2 (i 0 : Fin 4096) (lane (headOf (i 1 : Fin 1024)) k)))
    (fun k => g (ix2 (0 : Fin 1) k)) (x i) (d i * g (ix2 (0 : Fin 1) (laneOf (i 1 : Fin 1024))))

/-- The weights' gradient: over every row and head. -/
def weightGrad : S1x128.Idx → EReal := fun i =>
  ∑ r : Fin 4096, ∑ h : Fin 8, d (ix2 r (lane h (i 1 : Fin 128))) * (x (ix2 r (lane h (i 1 : Fin 128))) * rstd fun k => x (ix2 r (lane h k)))

end Arrays

/-- A query column among the projection's. -/
abbrev queryCol (k : Fin 1024) : Fin 4224 := ⟨k.val, by omega⟩

/-- A key column among the projection's. -/
abbrev keyCol (k : Fin 1024) : Fin 4224 := ⟨1024 + k.val, by omega⟩

/-- The queries among the projection's columns. -/
def queries (p : S4096x4224.Idx → EReal) : S4096x1024.Idx → EReal := fun i =>
  p (ix2 (i 0 : Fin 4096) (queryCol (i 1 : Fin 1024)))

/-- The keys among the projection's columns. -/
def keys (p : S4096x4224.Idx → EReal) : S4096x1024.Idx → EReal := fun i =>
  p (ix2 (i 0 : Fin 4096) (keyCol (i 1 : Fin 1024)))

/-! ## What the grid leaves -/

section Final
variable (m : (ℓ : Loc nD τ sig) → Buf (Elt Ideal) ℓ) (c : Dev nD)

/-- The projection in memory. -/
abbrev projOf : S4096x4224.Idx → EReal := m ((c : Thread nD τ).loc main_arg0)
/-- The gradient of the normalised queries in memory. -/
abbrev dqnOf : S4096x1024.Idx → EReal := m ((c : Thread nD τ).loc main_arg1)
/-- The gradient of the normalised keys in memory. -/
abbrev dknOf : S4096x1024.Idx → EReal := m ((c : Thread nD τ).loc main_arg2)
/-- The queries' weights in memory. -/
abbrev gqOf : S1x128.Idx → EReal := m ((c : Thread nD τ).loc main_arg3)
/-- The keys' weights in memory. -/
abbrev gkOf : S1x128.Idx → EReal := m ((c : Thread nD τ).loc main_arg4)

/-- Which blocks a grid point reads and writes. -/
theorem idx : ∀ t : Fin cfg0.N, win0_0.index t = ![t.val, 0] ∧ win0_1.index t = ![t.val, 1] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] ∧ win0_8.index t = ![0, 0] ∧ win0_9.index t = ![0, 0] :=
  (by decide +kernel : ∀ t : Fin grid0.N, _)

/-- The grid has sixteen points. -/
theorem point_lt (t : Fin cfg0.N) : t.val < 16 := lt_of_lt_of_eq t.isLt N_0

/-- Row `r` of a grid point's block, in the array. -/
abbrev rowOf (t : Fin cfg0.N) (r : Fin 256) : Fin 4096 := ⟨t.val * 256 + r.val, by have := point_lt t; omega⟩

/-- A grid point's rows of queries. -/
theorem read_queries (t : Fin cfg0.N) (y : S256x1024.Idx) : X0_0 m c t y = queries (projOf m c) (ix2 (rowOf t (y 0 : Fin 256)) (y 1 : Fin 1024)) := by
  unfold X0_0 Pipeline.Window.fill
  rw [dif_pos (moved0_0 t _)]
  pointwise [queries]
  blk_point [iblk, V, idx t]

/-- A grid point's rows of keys. -/
theorem read_keys (t : Fin cfg0.N) (y : S256x1024.Idx) : X0_1 m c t y = keys (projOf m c) (ix2 (rowOf t (y 0 : Fin 256)) (y 1 : Fin 1024)) := by
  unfold X0_1 Pipeline.Window.fill
  rw [dif_pos (moved0_1 t _)]
  pointwise [keys]
  blk_point [iblk, V, idx t]

/-- What a grid point leaves in the blocks of rows, whether it is the first or a later one. -/
theorem rows_at (t : Fin cfg0.N) : (outsAt0 m c t.val t.isLt).1 = blockGrad (X0_0 m c t) (iblk m c 2 t) (iblk m c 4 t)
    ∧ (outsAt0 m c t.val t.isLt).2.1 = blockGrad (X0_1 m c t) (iblk m c 3 t) (iblk m c 5 t) := by
  have ht := point_lt t
  rw [← query_pay, ← key_pay]
  by_cases h : t.val % 16 = 0
  · have h1 : ¬1 ≤ t.val := by omega
    rw [outsAt0_A m c t h h1 h h1]
    constructor <;> frame_out
  · have h1 : 1 ≤ t.val := by omega
    rw [outsAt0_B m c t h h1 h h1]
    constructor <;> frame_out

/-- The queries' rows when the grid is done. -/
theorem final_queries : (dats m 0 c).arrAt 6 cfg0.N = rowsGrad (queries (projOf m c)) (dqnOf m c) (gqOf m c) := by
  refine (dats m 0 c).arrAt_eq_of_covers 6 _ (by decide +kernel) fun t _ y => ?_
  have hz : ((((View.whole main_v0_0).slice (win0_6.rect t)).emb y 1 : Fin 1024) : ℕ) = (y 1 : ℕ) := by blk_simp [idx t]
  blk_simp
  rw [after0_6, (rows_at m c t).1]
  pointwise [blockGrad, rowsGrad, headGrad, rstd, read_queries, queries]
  blk_point [iblk, V, idx t]
  all_goals rw [hz]

/-- The keys' rows when the grid is done. -/
theorem final_keys : (dats m 0 c).arrAt 7 cfg0.N = rowsGrad (keys (projOf m c)) (dknOf m c) (gkOf m c) := by
  refine (dats m 0 c).arrAt_eq_of_covers 7 _ (by decide +kernel) fun t _ y => ?_
  have hz : ((((View.whole main_v0_1).slice (win0_7.rect t)).emb y 1 : Fin 1024) : ℕ) = (y 1 : ℕ) := by blk_simp [idx t]
  blk_simp
  rw [after0_7, (rows_at m c t).2]
  pointwise [blockGrad, rowsGrad, headGrad, rstd, read_keys, keys]
  blk_point [iblk, V, idx t]
  all_goals rw [hz]

/-- The queries' weight gradient when the grid is done. -/
theorem final_query_weight : (dats m 0 c).arrAt 8 cfg0.N = weightGrad (queries (projOf m c)) (dqnOf m c) := by
  refine (dats m 0 c).arrAt_eq_of_covers 8 _ (by decide +kernel) fun t hf y => ?_
  have hz : ((((View.whole main_v0_2).slice (win0_8.rect t)).emb y 1 : Fin 128) : ℕ) = (y 1 : ℕ) := by blk_simp [idx t]
  blk_simp
  rw [after0_8, Pipeline.eq_sum_fin_of_reset_step_apply_of_flush (fun n h => (outsAt0 m c n h).2.2.1) 16 (fun _ => 0)
    (fun t => blockTerm (X0_0 m c t) (iblk m c 2 t))
    (fun t h j => by
      have h1 : ¬1 ≤ t.val := by have := point_lt t; omega
      rw [outsAt0_A m c t h h1 h h1, ← query_term]; frame_out
      exact (zero_add _).symm)
    (fun t h j => by
      have h1 : 1 ≤ t.val := by omega
      rw [outsAt0_B m c t h h1 h h1, ← query_term]; frame_out
      pointwise [queryTerm, k0_pay112, k0_pay108])
    t ((flush0_8 t).mp hf) _, zero_add]
  pointwise [blockTerm, weightGrad, rstd, read_queries]
  refine Fin.sum_mul_add_congr fun s k hl => ?_
  blk_point [iblk, V, idx t, idx ⟨_, Pipeline.run_point_lt_of_flush t ((flush0_8 t).mp hf) s⟩]
  all_goals rw [hz]

/-- The keys' weight gradient when the grid is done. -/
theorem final_key_weight : (dats m 0 c).arrAt 9 cfg0.N = weightGrad (keys (projOf m c)) (dknOf m c) := by
  refine (dats m 0 c).arrAt_eq_of_covers 9 _ (by decide +kernel) fun t hf y => ?_
  have hz : ((((View.whole main_v0_3).slice (win0_9.rect t)).emb y 1 : Fin 128) : ℕ) = (y 1 : ℕ) := by blk_simp [idx t]
  blk_simp
  rw [after0_9, Pipeline.eq_sum_fin_of_reset_step_apply_of_flush (fun n h => (outsAt0 m c n h).2.2.2) 16 (fun _ => 0)
    (fun t => blockTerm (X0_1 m c t) (iblk m c 3 t))
    (fun t h j => by
      have h1 : ¬1 ≤ t.val := by have := point_lt t; omega
      rw [outsAt0_A m c t h h1 h h1, ← key_term]; frame_out
      exact (zero_add _).symm)
    (fun t h j => by
      have h1 : 1 ≤ t.val := by omega
      rw [outsAt0_B m c t h h1 h h1, ← key_term]; frame_out
      pointwise [keyTerm, k0_pay1])
    t ((flush0_9 t).mp hf) _, zero_add]
  pointwise [blockTerm, weightGrad, rstd, read_keys]
  refine Fin.sum_mul_add_congr fun s k hl => ?_
  blk_point [iblk, V, idx t, idx ⟨_, Pipeline.run_point_lt_of_flush t ((flush0_9 t).mp hf) s⟩]
  all_goals rw [hz]

end Final

/-! ## The reference -/

section Reference
open Cert.QkNormBwdRefIdeal.Read Cert.QkNormBwdRefIdeal.Gen
variable (p : S4096x4224.Idx → EReal) (d : S4096x1024.Idx → EReal) (g : S1x128.Idx → EReal)

/-- The host's sum over the two leading axes of three, as two sums. -/
theorem sum_front {a b n : ℕ} (h : (⟨3, ![a, b, n]⟩ : Shape).ReducesTo [0, 1] ⟨1, ![n]⟩) (v : (⟨3, ![a, b, n]⟩ : Shape).Idx → EReal)
    (init : EReal) (j : (⟨1, ![n]⟩ : Shape).Idx) :
    Ideal.hostReduceAdd h v init j = init + ∑ k0 : Fin a, ∑ k1 : Fin b, v (ix3 k0 k1 (j 0 : Fin n)) := by
  have hf : ∀ i, h.drop i = j ↔ ∃ k : Fin a × Fin b, ix3 k.1 k.2 (j 0 : Fin n) = i := by
    intro i
    constructor
    · intro e
      refine ⟨(i 0, i 1), ?_⟩
      funext q; apply Fin.ext
      match q with
      | ⟨0, _⟩ => rfl
      | ⟨1, _⟩ => rfl
      | ⟨2, _⟩ => exact (congrArg Fin.val (congrFun e 0)).symm
    · rintro ⟨k, rfl⟩
      funext q
      apply Fin.ext
      match q with
      | ⟨0, _⟩ => rfl
  unfold Ideal.hostReduceAdd
  rw [@Finset.sum_filter_eq_sum_of_fiber _ _ _ _ (Classical.decEq _) _ _ (fun i => h.drop i = j) _ (fun k : Fin a × Fin b => ix3 k.1 k.2 (j 0 : Fin n))
    (fun _ _ e => Prod.ext (congrFun e 0) (congrFun e 1)) hf v]
  simp only [Fintype.sum_prod_type]

/-- The reference's gradient of the queries' weights. -/
theorem reference_query_weight : val_main_v68 (F := Ideal) p d = weightGrad (queries p) d := by
  funext i
  pointwise [
    val_main_v0, val_main_v1, val_main_v2, val_main_v3, val_main_cst, val_main_v4, val_main_v5, val_main_cst_0, val_main_v6, val_main_v7,
    val_main_cst_1, val_main_v8, val_main_v9, val_main_v10, val_main_v11, val_main_cst_2, val_main_v12, val_main_v13, val_main_v14, val_main_v15,
    val_main_v16, val_main_v17, val_main_v18, val_main_v19, val_main_v20, val_main_v21, val_main_cst_3, val_main_v22, val_main_v23, val_main_cst_4,
    val_main_v24, val_main_v25, val_main_cst_5, val_main_v26, val_main_v27, val_main_v28, val_main_v29, val_main_cst_6, val_main_v30, val_main_v31,
    val_main_v32, val_main_v33, val_main_v34, val_main_v35, val_main_v36, val_main_v37, val_main_v38, val_main_v39, val_main_cst_7, val_main_v40,
    val_main_v41, val_main_v42, val_main_v43, val_main_cst_8, val_main_v44, val_main_v45, val_main_v46, val_main_cst_9, val_main_v47, val_main_v48,
    val_main_v49, val_main_v50, val_main_v51, val_main_cst_10, val_main_v52, val_main_v53, val_main_cst_11, val_main_v54, val_main_v55, val_main_v56,
    val_main_v57, val_main_v58, val_main_v59, val_main_v60, val_main_v61, val_main_v62, val_main_cst_12, val_main_v63, val_main_v64, val_main_v65,
    val_main_v66, val_main_cst_13, val_main_v67, val_main_v68, val_main_v69, val_main_cst_14, val_main_v70, val_main_v71, val_main_v72, val_main_v73,
    val_main_v74, val_main_cst_15, val_main_v75, val_main_v76, val_main_cst_16, val_main_v77, val_main_v78, val_main_v79, val_main_v80, val_main_v81,
    val_main_v82, val_main_v83, val_main_v84, val_main_v85, weightGrad, queries, rstd, sum_front]
  simp only [Fin.sum_univ_one]
  exact Finset.sum_congr rfl fun r _ => Finset.sum_congr rfl fun h _ => mul_comm _ _

/-- The reference's rows of queries. -/
theorem reference_queries : val_main_v84 (F := Ideal) p d g = rowsGrad (queries p) d g := by
  funext i
  pointwise [
    val_main_v0, val_main_v1, val_main_v2, val_main_v3, val_main_cst, val_main_v4, val_main_v5, val_main_cst_0, val_main_v6, val_main_v7,
    val_main_cst_1, val_main_v8, val_main_v9, val_main_v10, val_main_v11, val_main_cst_2, val_main_v12, val_main_v13, val_main_v14, val_main_v15,
    val_main_v16, val_main_v17, val_main_v18, val_main_v19, val_main_v20, val_main_v21, val_main_cst_3, val_main_v22, val_main_v23, val_main_cst_4,
    val_main_v24, val_main_v25, val_main_cst_5, val_main_v26, val_main_v27, val_main_v28, val_main_v29, val_main_cst_6, val_main_v30, val_main_v31,
    val_main_v32, val_main_v33, val_main_v34, val_main_v35, val_main_v36, val_main_v37, val_main_v38, val_main_v39, val_main_cst_7, val_main_v40,
    val_main_v41, val_main_v42, val_main_v43, val_main_cst_8, val_main_v44, val_main_v45, val_main_v46, val_main_cst_9, val_main_v47, val_main_v48,
    val_main_v49, val_main_v50, val_main_v51, val_main_cst_10, val_main_v52, val_main_v53, val_main_cst_11, val_main_v54, val_main_v55, val_main_v56,
    val_main_v57, val_main_v58, val_main_v59, val_main_v60, val_main_v61, val_main_v62, val_main_cst_12, val_main_v63, val_main_v64, val_main_v65,
    val_main_v66, val_main_cst_13, val_main_v67, val_main_v68, val_main_v69, val_main_cst_14, val_main_v70, val_main_v71, val_main_v72, val_main_v73,
    val_main_v74, val_main_cst_15, val_main_v75, val_main_v76, val_main_cst_16, val_main_v77, val_main_v78, val_main_v79, val_main_v80, val_main_v81,
    val_main_v82, val_main_v83, val_main_v84, val_main_v85, rowsGrad, headGrad, queries, rstd]
  refine RmsGrad.grad_const _ 128 RmsGrad.ofBits_128 (by norm_num) (fun k => queries p (ix2 (i 0 : Fin 4096) (lane (headOf (i 1 : Fin 1024)) k)))
    (fun k => d (ix2 (i 0 : Fin 4096) (lane (headOf (i 1 : Fin 1024)) k)) * g (ix2 (0 : Fin 1) k)) (laneOf (i 1 : Fin 1024)) _ _ ?_ ?_ _ rfl
  · pointwise [queries]
    blk_point []
  · pointwise [queries]
    blk_point []

/-- The reference's gradient of the keys' weights. -/
theorem reference_key_weight : val_main_v45 (F := Ideal) p d = weightGrad (keys p) d := by
  funext i
  pointwise [
    val_main_v0, val_main_v1, val_main_v2, val_main_v3, val_main_cst, val_main_v4, val_main_v5, val_main_cst_0, val_main_v6, val_main_v7,
    val_main_cst_1, val_main_v8, val_main_v9, val_main_v10, val_main_v11, val_main_cst_2, val_main_v12, val_main_v13, val_main_v14, val_main_v15,
    val_main_v16, val_main_v17, val_main_v18, val_main_v19, val_main_v20, val_main_v21, val_main_cst_3, val_main_v22, val_main_v23, val_main_cst_4,
    val_main_v24, val_main_v25, val_main_cst_5, val_main_v26, val_main_v27, val_main_v28, val_main_v29, val_main_cst_6, val_main_v30, val_main_v31,
    val_main_v32, val_main_v33, val_main_v34, val_main_v35, val_main_v36, val_main_v37, val_main_v38, val_main_v39, val_main_cst_7, val_main_v40,
    val_main_v41, val_main_v42, val_main_v43, val_main_cst_8, val_main_v44, val_main_v45, val_main_v46, val_main_cst_9, val_main_v47, val_main_v48,
    val_main_v49, val_main_v50, val_main_v51, val_main_cst_10, val_main_v52, val_main_v53, val_main_cst_11, val_main_v54, val_main_v55, val_main_v56,
    val_main_v57, val_main_v58, val_main_v59, val_main_v60, val_main_v61, val_main_v62, val_main_cst_12, val_main_v63, val_main_v64, val_main_v65,
    val_main_v66, val_main_cst_13, val_main_v67, val_main_v68, val_main_v69, val_main_cst_14, val_main_v70, val_main_v71, val_main_v72, val_main_v73,
    val_main_v74, val_main_cst_15, val_main_v75, val_main_v76, val_main_cst_16, val_main_v77, val_main_v78, val_main_v79, val_main_v80, val_main_v81,
    val_main_v82, val_main_v83, val_main_v84, val_main_v85, weightGrad, keys, rstd, sum_front]
  simp only [Fin.sum_univ_one]
  exact Finset.sum_congr rfl fun r _ => Finset.sum_congr rfl fun h _ => mul_comm _ _

/-- The reference's rows of keys. -/
theorem reference_keys : val_main_v85 (F := Ideal) p d g = rowsGrad (keys p) d g := by
  funext i
  pointwise [
    val_main_v0, val_main_v1, val_main_v2, val_main_v3, val_main_cst, val_main_v4, val_main_v5, val_main_cst_0, val_main_v6, val_main_v7,
    val_main_cst_1, val_main_v8, val_main_v9, val_main_v10, val_main_v11, val_main_cst_2, val_main_v12, val_main_v13, val_main_v14, val_main_v15,
    val_main_v16, val_main_v17, val_main_v18, val_main_v19, val_main_v20, val_main_v21, val_main_cst_3, val_main_v22, val_main_v23, val_main_cst_4,
    val_main_v24, val_main_v25, val_main_cst_5, val_main_v26, val_main_v27, val_main_v28, val_main_v29, val_main_cst_6, val_main_v30, val_main_v31,
    val_main_v32, val_main_v33, val_main_v34, val_main_v35, val_main_v36, val_main_v37, val_main_v38, val_main_v39, val_main_cst_7, val_main_v40,
    val_main_v41, val_main_v42, val_main_v43, val_main_cst_8, val_main_v44, val_main_v45, val_main_v46, val_main_cst_9, val_main_v47, val_main_v48,
    val_main_v49, val_main_v50, val_main_v51, val_main_cst_10, val_main_v52, val_main_v53, val_main_cst_11, val_main_v54, val_main_v55, val_main_v56,
    val_main_v57, val_main_v58, val_main_v59, val_main_v60, val_main_v61, val_main_v62, val_main_cst_12, val_main_v63, val_main_v64, val_main_v65,
    val_main_v66, val_main_cst_13, val_main_v67, val_main_v68, val_main_v69, val_main_cst_14, val_main_v70, val_main_v71, val_main_v72, val_main_v73,
    val_main_v74, val_main_cst_15, val_main_v75, val_main_v76, val_main_cst_16, val_main_v77, val_main_v78, val_main_v79, val_main_v80, val_main_v81,
    val_main_v82, val_main_v83, val_main_v84, val_main_v85, rowsGrad, headGrad, keys, rstd]
  refine RmsGrad.grad_const _ 128 RmsGrad.ofBits_128 (by norm_num) (fun k => keys p (ix2 (i 0 : Fin 4096) (lane (headOf (i 1 : Fin 1024)) k)))
    (fun k => d (ix2 (i 0 : Fin 4096) (lane (headOf (i 1 : Fin 1024)) k)) * g (ix2 (0 : Fin 1) k)) (laneOf (i 1 : Fin 1024)) _ _ ?_ ?_ _ rfl
  · pointwise [keys]
    blk_point []
  · pointwise [keys]
    blk_point []

end Reference

end Cert.QkNormBwdIdeal.Product

end
-- ==== Proof.ValAttnDelta.lean ====
/- The attention's row sums: each of the sixteen grid points takes 256 rows of the attention's output and of the incoming gradient,
   and writes for every head the sum of their products over the head's 128 lanes, repeated in all of them.
   Here the array the grid leaves is shown to hold these sums, and the reference to be the same. -/
module

public import proofs.«01_k».proof.Proof.Gen.AttnDeltaIdeal.Value
public import proofs.«01_k».proof.Proof.Gen.AttnDeltaRefIdeal.Read
public import Idealize.ShloMosaic.Lib.Pipeline.ValueKit

@[expose] public section

set_option maxRecDepth 16384

noncomputable section

namespace Cert.AttnDeltaIdeal.Product

open Idealize.ShloMosaic Idealize.ShloMosaic.TcCoe Idealize.SL.Sem
open Cert.AttnDeltaIdeal Cert.AttnDeltaIdeal.Gen
open scoped BigOperators

/-- Lane `k` of the head that column `j` belongs to. -/
abbrev lane {n : ℕ} (hn : 1024 ≤ n) (j : Fin 1024) (k : Fin 128) : Fin n := ⟨j.val / 128 * 128 + k.val, by omega⟩

/-- For each row and head the sum over the head's lanes, in every lane. -/
def delta (o : S4096x1024.Idx → EReal) (d : S4096x2048.Idx → EReal) : S4096x1024.Idx → EReal :=
  fun i => ∑ k : Fin 128, o (ix2 (i 0 : Fin 4096) (lane (by omega) (i 1 : Fin 1024) k)) * d (ix2 (i 0 : Fin 4096) (lane (by omega) (i 1 : Fin 1024) k))

variable (m : (ℓ : Loc nD τ sig) → Buf (Elt Ideal) ℓ) (c : Dev nD)

/-- The attention's output in memory. -/
abbrev outOf : S4096x1024.Idx → EReal := m ((c : Thread nD τ).loc main_arg0)
/-- The incoming gradient in memory. -/
abbrev gradOf : S4096x2048.Idx → EReal := m ((c : Thread nD τ).loc main_arg1)

/-- Which blocks a grid point reads and writes. -/
theorem idx : ∀ t : Fin cfg0.N, win0_0.index t = ![t.val, 0] ∧ win0_1.index t = ![t.val, 0] ∧ win0_2.index t = ![t.val, 0] :=
  (by decide +kernel : ∀ t : Fin grid0.N, _)

/-- The array of row sums when the grid is done. -/
theorem final : (dats m 0 c).arrAt 2 cfg0.N = delta (outOf m c) (gradOf m c) := by
  refine (dats m 0 c).arrAt_eq_of_covers 2 _ (by decide +kernel) fun t _ y => ?_
  blk_simp
  rw [after0_2]; frame_out
  have hz : ((((View.whole main_v0).slice (win0_2.rect t)).emb y 1 : Fin 1024) : ℕ) = (y 1 : ℕ) := by blk_simp [idx t]
  open_payloads
  pointwise [delta]
  blk_point [iblk, V, idx t] <;> (rw [hz]; omega)

section Reference
open Cert.AttnDeltaRefIdeal.Read

/-- The reference holds the row sums. -/
theorem reference (o : S4096x1024.Idx → EReal) (d : S4096x2048.Idx → EReal) : val_main_v7 (F := Ideal) o d = delta o d := by
  funext i
  pointwise [val_main_v0, val_main_v1, val_main_v2, val_main_v3, val_main_v4, val_main_cst, val_main_v5, val_main_v6, val_main_v7, delta]

end Reference

end Cert.AttnDeltaIdeal.Product

end
-- ==== Proof.ValNorm1Bwd.lean ====
/- The gradient of the first normalisation and of its conditioning: each of the sixteen grid points takes 256 rows back through the
   scale, the shift and the normalisation, and adds its rows to the gradients of the shift, the scale and the weights. Here the four
   arrays the grid leaves are shown to hold those gradients, and the reference, the derivative of the plain formula, to be the same. -/
module

public import proofs.«01_k».proof.Proof.Gen.Norm1BwdIdeal.Value
public import proofs.«01_k».proof.Proof.Gen.Norm1BwdRefIdeal.Read
public import proofs.«01_k».proof.Proof.RmsGrad
public import Idealize.ShloMosaic.Lib.Pipeline.ValueKit

@[expose] public section

set_option maxRecDepth 16384

noncomputable section

namespace Cert.Norm1BwdIdeal.Product

open Idealize.ShloMosaic Idealize.ShloMosaic.TcCoe Idealize.SL.Sem
open Cert.Norm1BwdIdeal Cert.Norm1BwdIdeal.Gen
open scoped BigOperators

section Spec
variable (x dh dres : S4096x2048.Idx → EReal) (g sc : S1x2048.Idx → EReal)

/-- One over the root of a row's mean square, as both programs compute it. -/
def rstd (r : Fin 4096) : EReal :=
  Ideal.rsqrt (Ideal.div (∑ k : Fin 2048, x (ix2 r k) * x (ix2 r k)) (Ideal.ofBits .f32 0x45000000#32) + Ideal.ofBits .f32 0x358637BD#32)

/-- The gradient that reaches the normalised row: through the scale and through the weights. -/
def reach (r : Fin 4096) (j : Fin 2048) : EReal := dh (ix2 r j) * (1 + sc (ix2 (0 : Fin 1) j)) * g (ix2 (0 : Fin 1) j)

/-- The rows' gradient added to the one that comes past the branch. -/
def rowsGrad : S4096x2048.Idx → EReal := fun i =>
  dres (ix2 (i 0 : Fin 4096) (i 1 : Fin 2048)) + rstd x (i 0 : Fin 4096) * (reach dh g sc (i 0 : Fin 4096) (i 1 : Fin 2048)
    - x (ix2 (i 0 : Fin 4096) (i 1 : Fin 2048)) * rstd x (i 0 : Fin 4096)
      * Ideal.div (∑ k : Fin 2048, reach dh g sc (i 0 : Fin 4096) k * (x (ix2 (i 0 : Fin 4096) k) * rstd x (i 0 : Fin 4096))) (Ideal.ofBits .f32 0x45000000#32))

/-- The shift's gradient. -/
def shiftGrad : S1x2048.Idx → EReal := fun i => ∑ r : Fin 4096, dh (ix2 r (i 1 : Fin 2048))

/-- The scale's gradient. -/
def scaleGrad : S1x2048.Idx → EReal := fun i =>
  ∑ r : Fin 4096, dh (ix2 r (i 1 : Fin 2048)) * (x (ix2 r (i 1 : Fin 2048)) * rstd x r * g (ix2 (0 : Fin 1) (i 1 : Fin 2048)))

/-- The weights' gradient. -/
def weightGrad : S1x2048.Idx → EReal := fun i =>
  ∑ r : Fin 4096, dh (ix2 r (i 1 : Fin 2048)) * (1 + sc (ix2 (0 : Fin 1) (i 1 : Fin 2048))) * (x (ix2 r (i 1 : Fin 2048)) * rstd x r)

end Spec

variable (m : (ℓ : Loc nD τ sig) → Buf (Elt Ideal) ℓ) (c : Dev nD)

/-- The stream in memory. -/
abbrev inOf : S4096x2048.Idx → EReal := m ((c : Thread nD τ).loc main_arg0)
/-- The incoming gradient in memory. -/
abbrev gradOf : S4096x2048.Idx → EReal := m ((c : Thread nD τ).loc main_arg1)
/-- The gradient that comes past the branch, in memory. -/
abbrev pastOf : S4096x2048.Idx → EReal := m ((c : Thread nD τ).loc main_arg2)
/-- The normalisation's weights in memory. -/
abbrev wOf : S1x2048.Idx → EReal := m ((c : Thread nD τ).loc main_arg3)
/-- The conditioning's scale in memory. -/
abbrev scaleOf : S1x2048.Idx → EReal := m ((c : Thread nD τ).loc main_arg4)

/-- Which blocks a grid point reads and writes. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0]
    ∧ win0_7.index t = ![0, 0] ∧ win0_8.index t = ![0, 0] :=
  (by decide +kernel : ∀ t : Fin grid0.N, _)

/-- The grid has sixteen points. -/
theorem point_lt (t : Fin cfg0.N) : t.val < 16 := lt_of_lt_of_eq t.isLt N_0

/-- What a grid point leaves in the block of rows, whether it is the first or a later one. -/
theorem rows_at (t : Fin cfg0.N) : (outsAt0 m c t.val t.isLt).1
    = k0_pay8 (F := Ideal) (iblk m c 0 t) (iblk m c 1 t) (iblk m c 2 t) (iblk m c 3 t) (iblk m c 4 t) := by
  have ht := point_lt t
  by_cases h : t.val % 16 = 0
  · have h1 : ¬1 ≤ t.val := by omega
    rw [outsAt0_A m c t h h1 h h1 h h1]; frame_out
  · have h1 : 1 ≤ t.val := by omega
    rw [outsAt0_B m c t h h1 h h1 h h1]; frame_out

/-- The array of rows when the grid is done. -/
theorem final_rows : (dats m 0 c).arrAt 5 cfg0.N = rowsGrad (inOf m c) (gradOf m c) (pastOf m c) (wOf m c) (scaleOf m c) := by
  refine (dats m 0 c).arrAt_eq_of_covers 5 _ (by decide +kernel) fun t _ y => ?_
  blk_simp
  rw [after0_5, rows_at]
  open_payloads
  pointwise [rowsGrad, reach, rstd]
  blk_point [iblk, V, idx t]

/-- The array of the shift's gradient when the grid is done. -/
theorem final_shift : (dats m 0 c).arrAt 6 cfg0.N = shiftGrad (gradOf m c) := by
  refine (dats m 0 c).arrAt_eq_of_covers 6 _ (by decide +kernel) fun t hf y => ?_
  blk_simp
  rw [after0_6, Pipeline.eq_sum_fin_of_reset_step_apply_of_flush (fun n h => (outsAt0 m c n h).2.1) 16 (fun _ => 0)
    (fun t => k0_pay9 (F := Ideal) (iblk m c 1 t))
    (fun t h j => by
      have h1 : ¬1 ≤ t.val := by have := point_lt t; omega
      rw [outsAt0_A m c t h h1 h h1 h h1]; frame_out
      exact (zero_add _).symm)
    (fun t h j => by
      have h1 : 1 ≤ t.val := by omega
      rw [outsAt0_B m c t h h1 h h1 h h1]; frame_out
      pointwise [k0_pay2])
    t ((flush0_6 t).mp hf) _, zero_add]
  open_payloads
  pointwise [shiftGrad]
  refine Fin.sum_mul_add_congr fun s k hl => ?_
  blk_point [iblk, V, idx t, idx ⟨_, Pipeline.run_point_lt_of_flush t ((flush0_6 t).mp hf) s⟩]

/-- The array of the scale's gradient when the grid is done. -/
theorem final_scale : (dats m 0 c).arrAt 7 cfg0.N = scaleGrad (inOf m c) (gradOf m c) (wOf m c) := by
  refine (dats m 0 c).arrAt_eq_of_covers 7 _ (by decide +kernel) fun t hf y => ?_
  blk_simp
  rw [after0_7, Pipeline.eq_sum_fin_of_reset_step_apply_of_flush (fun n h => (outsAt0 m c n h).2.2.1) 16 (fun _ => 0)
    (fun t => k0_pay10 (F := Ideal) (iblk m c 0 t) (iblk m c 1 t) (iblk m c 3 t))
    (fun t h j => by
      have h1 : ¬1 ≤ t.val := by have := point_lt t; omega
      rw [outsAt0_A m c t h h1 h h1 h h1]; frame_out
      exact (zero_add _).symm)
    (fun t h j => by
      have h1 : 1 ≤ t.val := by omega
      rw [outsAt0_B m c t h h1 h h1 h h1]; frame_out
      pointwise [k0_pay3])
    t ((flush0_7 t).mp hf) _, zero_add]
  open_payloads
  pointwise [scaleGrad, rstd]
  refine Fin.sum_mul_add_congr fun s k hl => ?_
  blk_point [iblk, V, idx t, idx ⟨_, Pipeline.run_point_lt_of_flush t ((flush0_7 t).mp hf) s⟩]

/-- The array of the weights' gradient when the grid is done. -/
theorem final_weight : (dats m 0 c).arrAt 8 cfg0.N = weightGrad (inOf m c) (gradOf m c) (scaleOf m c) := by
  refine (dats m 0 c).arrAt_eq_of_covers 8 _ (by decide +kernel) fun t hf y => ?_
  blk_simp
  rw [after0_8, Pipeline.eq_sum_fin_of_reset_step_apply_of_flush (fun n h => (outsAt0 m c n h).2.2.2) 16 (fun _ => 0)
    (fun t => k0_pay1 (F := Ideal) (k0_pay11 (F := Ideal) (iblk m c 0 t) (iblk m c 1 t) (iblk m c 4 t)))
    (fun t h j => by
      have h1 : ¬1 ≤ t.val := by have := point_lt t; omega
      rw [outsAt0_A m c t h h1 h h1 h h1]; frame_out
      exact (zero_add _).symm)
    (fun t h j => by
      have h1 : 1 ≤ t.val := by omega
      rw [outsAt0_B m c t h h1 h h1 h h1]; frame_out
      pointwise [k0_pay4])
    t ((flush0_8 t).mp hf) _, zero_add]
  open_payloads
  pointwise [weightGrad, rstd]
  refine Fin.sum_mul_add_congr fun s k hl => ?_
  blk_point [iblk, V, idx t, idx ⟨_, Pipeline.run_point_lt_of_flush t ((flush0_8 t).mp hf) s⟩]

section Reference
open Cert.Norm1BwdRefIdeal.Read
variable (x dh dres : S4096x2048.Idx → EReal) (g sc : S1x2048.Idx → EReal)

/-- The reference's shift gradient. -/
theorem reference_shift : val_main_v24 (F := Ideal) dh = shiftGrad dh := by
  funext i
  pointwise [
    val_main_cst, val_main_v0, val_main_v1, val_main_cst_0, val_main_v2, val_main_v3, val_main_cst_1, val_main_v4, val_main_v5, val_main_cst_2,
    val_main_v6, val_main_v7, val_main_v8, val_main_v9, val_main_cst_3, val_main_v10, val_main_v11, val_main_v12, val_main_v13, val_main_v14,
    val_main_v15, val_main_cst_4, val_main_v16, val_main_v17, val_main_v18, val_main_v19, val_main_v20, val_main_v21, val_main_v22,
    val_main_cst_5, val_main_v23, val_main_v24, val_main_v25, val_main_cst_6, val_main_v26, val_main_v27, val_main_v28, val_main_v29,
    val_main_v30, val_main_cst_7, val_main_v31, val_main_v32, val_main_v33, val_main_v34, val_main_v35, val_main_cst_8, val_main_v36,
    val_main_v37, val_main_v38, val_main_v39, val_main_v40, val_main_v41, val_main_cst_9, val_main_v42, val_main_v43, val_main_cst_10,
    val_main_v44, val_main_v45, val_main_v46, val_main_v47, val_main_v48, val_main_v49, shiftGrad]

/-- The reference's scale gradient. -/
theorem reference_scale : val_main_v27 (F := Ideal) x dh g = scaleGrad x dh g := by
  funext i
  pointwise [
    val_main_cst, val_main_v0, val_main_v1, val_main_cst_0, val_main_v2, val_main_v3, val_main_cst_1, val_main_v4, val_main_v5, val_main_cst_2,
    val_main_v6, val_main_v7, val_main_v8, val_main_v9, val_main_cst_3, val_main_v10, val_main_v11, val_main_v12, val_main_v13, val_main_v14,
    val_main_v15, val_main_cst_4, val_main_v16, val_main_v17, val_main_v18, val_main_v19, val_main_v20, val_main_v21, val_main_v22,
    val_main_cst_5, val_main_v23, val_main_v24, val_main_v25, val_main_cst_6, val_main_v26, val_main_v27, val_main_v28, val_main_v29,
    val_main_v30, val_main_cst_7, val_main_v31, val_main_v32, val_main_v33, val_main_v34, val_main_v35, val_main_cst_8, val_main_v36,
    val_main_v37, val_main_v38, val_main_v39, val_main_v40, val_main_v41, val_main_cst_9, val_main_v42, val_main_v43, val_main_cst_10,
    val_main_v44, val_main_v45, val_main_v46, val_main_v47, val_main_v48, val_main_v49, scaleGrad, rstd]
  exact Finset.sum_congr rfl fun r _ => mul_comm _ _

/-- The reference's weight gradient. -/
theorem reference_weight : val_main_v32 (F := Ideal) x dh sc = weightGrad x dh sc := by
  funext i
  pointwise [
    val_main_cst, val_main_v0, val_main_v1, val_main_cst_0, val_main_v2, val_main_v3, val_main_cst_1, val_main_v4, val_main_v5, val_main_cst_2,
    val_main_v6, val_main_v7, val_main_v8, val_main_v9, val_main_cst_3, val_main_v10, val_main_v11, val_main_v12, val_main_v13, val_main_v14,
    val_main_v15, val_main_cst_4, val_main_v16, val_main_v17, val_main_v18, val_main_v19, val_main_v20, val_main_v21, val_main_v22,
    val_main_cst_5, val_main_v23, val_main_v24, val_main_v25, val_main_cst_6, val_main_v26, val_main_v27, val_main_v28, val_main_v29,
    val_main_v30, val_main_cst_7, val_main_v31, val_main_v32, val_main_v33, val_main_v34, val_main_v35, val_main_cst_8, val_main_v36,
    val_main_v37, val_main_v38, val_main_v39, val_main_v40, val_main_v41, val_main_cst_9, val_main_v42, val_main_v43, val_main_cst_10,
    val_main_v44, val_main_v45, val_main_v46, val_main_v47, val_main_v48, val_main_v49, weightGrad, rstd]
  exact Finset.sum_congr rfl fun r _ => mul_comm _ _

/-- The reference's gradient of the rows. -/
theorem reference_rows : val_main_v49 (F := Ideal) x dh dres g sc = rowsGrad x dh dres g sc := by
  funext i
  pointwise [
    val_main_cst, val_main_v0, val_main_v1, val_main_cst_0, val_main_v2, val_main_v3, val_main_cst_1, val_main_v4, val_main_v5, val_main_cst_2,
    val_main_v6, val_main_v7, val_main_v8, val_main_v9, val_main_cst_3, val_main_v10, val_main_v11, val_main_v12, val_main_v13, val_main_v14,
    val_main_v15, val_main_cst_4, val_main_v16, val_main_v17, val_main_v18, val_main_v19, val_main_v20, val_main_v21, val_main_v22,
    val_main_cst_5, val_main_v23, val_main_v24, val_main_v25, val_main_cst_6, val_main_v26, val_main_v27, val_main_v28, val_main_v29,
    val_main_v30, val_main_cst_7, val_main_v31, val_main_v32, val_main_v33, val_main_v34, val_main_v35, val_main_cst_8, val_main_v36,
    val_main_v37, val_main_v38, val_main_v39, val_main_v40, val_main_v41, val_main_cst_9, val_main_v42, val_main_v43, val_main_cst_10,
    val_main_v44, val_main_v45, val_main_v46, val_main_v47, val_main_v48, val_main_v49, rowsGrad, reach, rstd]
  refine RmsGrad.grad_past (fun k : Fin 2048 => x (ix2 (i 0 : Fin 4096) k)) (fun k => reach dh g sc (i 0 : Fin 4096) k) (i 1 : Fin 2048) _ _ _ ?_ ?_ _ rfl
  · blk_point []
  · pointwise [reach]

end Reference

end Cert.Norm1BwdIdeal.Product

end
-- ==== Proof.ValNorm2Bwd.lean ====
/- The gradient of the mixer's normalisation and of its conditioning, with the branch below: each of the sixteen grid points takes 256
   rows back through the scale, the shift and the normalisation, sends half of the result, times the gate, to the branch below, and
   adds its rows to the gradients of the shift, the scale, the weights and the gate. Here the six arrays the grid leaves are shown to
   hold those gradients, and the reference to be the same; the first four are those of the first normalisation. -/
module

public import proofs.«01_k».proof.Proof.Gen.Norm2BwdIdeal.Value
public import proofs.«01_k».proof.Proof.Gen.Norm2BwdRefIdeal.Read
public import proofs.«01_k».proof.Proof.ValNorm1Bwd

@[expose] public section

set_option maxRecDepth 16384

noncomputable section

namespace Cert.Norm2BwdIdeal.Product

open Idealize.ShloMosaic Idealize.ShloMosaic.TcCoe Idealize.SL.Sem
open Cert.Norm2BwdIdeal Cert.Norm2BwdIdeal.Gen
open Cert.Norm1BwdIdeal.Product (rstd reach rowsGrad shiftGrad scaleGrad weightGrad)
open scoped BigOperators

/-- The gradient of the branch below: half of the gate times the rows' gradient. -/
def branchGrad (dx : S4096x2048.Idx → EReal) (gate : S1x2048.Idx → EReal) : S4096x2048.Idx → EReal :=
  fun i => Ideal.ofBits .f32 0x3F000000#32 * gate (ix2 (0 : Fin 1) (i 1 : Fin 2048)) * dx (ix2 (i 0 : Fin 4096) (i 1 : Fin 2048))

/-- The gate's gradient: half of the branch's output against the rows' gradient. -/
def gateGrad (dx f : S4096x2048.Idx → EReal) : S1x2048.Idx → EReal := fun i =>
  ∑ r : Fin 4096, Ideal.ofBits .f32 0x3F000000#32 * f (ix2 r (i 1 : Fin 2048)) * dx (ix2 r (i 1 : Fin 2048))

variable (m : (ℓ : Loc nD τ sig) → Buf (Elt Ideal) ℓ) (c : Dev nD)

/-- The stream in memory. -/
abbrev inOf : S4096x2048.Idx → EReal := m ((c : Thread nD τ).loc main_arg0)
/-- The incoming gradient in memory. -/
abbrev gradOf : S4096x2048.Idx → EReal := m ((c : Thread nD τ).loc main_arg1)
/-- The gradient that comes past the branch, in memory. -/
abbrev pastOf : S4096x2048.Idx → EReal := m ((c : Thread nD τ).loc main_arg2)
/-- The output of the branch below, in memory. -/
abbrev branchOf : S4096x2048.Idx → EReal := m ((c : Thread nD τ).loc main_arg3)
/-- The normalisation's weights in memory. -/
abbrev wOf : S1x2048.Idx → EReal := m ((c : Thread nD τ).loc main_arg4)
/-- The conditioning's scale in memory. -/
abbrev scaleOf : S1x2048.Idx → EReal := m ((c : Thread nD τ).loc main_arg5)
/-- The gate of the branch below, in memory. -/
abbrev gateOf : S1x2048.Idx → EReal := m ((c : Thread nD τ).loc main_arg6)
/-- The rows' gradient of the arguments in memory. -/
abbrev rowsOf : S4096x2048.Idx → EReal := rowsGrad (inOf m c) (gradOf m c) (pastOf m c) (wOf m c) (scaleOf m c)

/-- Which blocks a grid point reads and writes. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] ∧ win0_8.index t = ![t.val, 0] ∧ win0_9.index t = ![0, 0] ∧ win0_10.index t = ![0, 0]
    ∧ win0_11.index t = ![0, 0] ∧ win0_12.index t = ![0, 0] :=
  (by decide +kernel : ∀ t : Fin grid0.N, _)

/-- The grid has sixteen points. -/
theorem point_lt (t : Fin cfg0.N) : t.val < 16 := lt_of_lt_of_eq t.isLt N_0

/-- A grid point's block of the rows' gradient. -/
abbrev rowsBlk (t : Fin cfg0.N) : S256x2048.Idx → EReal :=
  k0_pay7 (F := Ideal) (iblk m c 0 t) (iblk m c 1 t) (iblk m c 2 t) (iblk m c 4 t) (iblk m c 5 t)

/-- What a grid point leaves in its two blocks of rows, whether it is the first or a later one. -/
theorem rows_at (t : Fin cfg0.N) : (outsAt0 m c t.val t.isLt).1 = rowsBlk m c t
    ∧ (outsAt0 m c t.val t.isLt).2.1 = k0_pay12 (F := Ideal) (iblk m c 6 t) (rowsBlk m c t) := by
  have ht := point_lt t
  by_cases h : t.val % 16 = 0
  · have h1 : ¬1 ≤ t.val := by omega
    rw [outsAt0_A m c t h h1 h h1 h h1 h h1]
    constructor <;> frame_out
  · have h1 : 1 ≤ t.val := by omega
    rw [outsAt0_B m c t h h1 h h1 h h1 h h1]
    constructor <;> frame_out

/-- The array of rows when the grid is done. -/
theorem final_rows : (dats m 0 c).arrAt 7 cfg0.N = rowsOf m c := by
  refine (dats m 0 c).arrAt_eq_of_covers 7 _ (by decide +kernel) fun t _ y => ?_
  blk_simp
  rw [after0_7, (rows_at m c t).1]
  unfold rowsBlk
  open_payloads
  pointwise [rowsGrad, reach, rstd]
  blk_point [iblk, V, idx t]

/-- The array of the branch's gradient when the grid is done. -/
theorem final_branch : (dats m 0 c).arrAt 8 cfg0.N = branchGrad (rowsOf m c) (gateOf m c) := by
  refine (dats m 0 c).arrAt_eq_of_covers 8 _ (by decide +kernel) fun t _ y => ?_
  blk_simp
  rw [after0_8, (rows_at m c t).2]
  unfold rowsBlk
  open_payloads
  pointwise [branchGrad, rowsGrad, reach, rstd]
  blk_point [iblk, V, idx t]

/-- The array of the shift's gradient when the grid is done. -/
theorem final_shift : (dats m 0 c).arrAt 9 cfg0.N = shiftGrad (gradOf m c) := by
  refine (dats m 0 c).arrAt_eq_of_covers 9 _ (by decide +kernel) fun t hf y => ?_
  blk_simp
  rw [after0_9, Pipeline.eq_sum_fin_of_reset_step_apply_of_flush (fun n h => (outsAt0 m c n h).2.2.1) 16 (fun _ => 0)
    (fun t => k0_pay8 (F := Ideal) (iblk m c 1 t))
    (fun t h j => by
      have h1 : ¬1 ≤ t.val := by have := point_lt t; omega
      rw [outsAt0_A m c t h h1 h h1 h h1 h h1]; frame_out
      exact (zero_add _).symm)
    (fun t h j => by
      have h1 : 1 ≤ t.val := by omega
      rw [outsAt0_B m c t h h1 h h1 h h1 h h1]; frame_out
      pointwise [k0_pay13])
    t ((flush0_9 t).mp hf) _, zero_add]
  open_payloads
  pointwise [shiftGrad]
  refine Fin.sum_mul_add_congr fun s k hl => ?_
  blk_point [iblk, V, idx t, idx ⟨_, Pipeline.run_point_lt_of_flush t ((flush0_9 t).mp hf) s⟩]

/-- The array of the scale's gradient when the grid is done. -/
theorem final_scale : (dats m 0 c).arrAt 10 cfg0.N = scaleGrad (inOf m c) (gradOf m c) (wOf m c) := by
  refine (dats m 0 c).arrAt_eq_of_covers 10 _ (by decide +kernel) fun t hf y => ?_
  blk_simp
  rw [after0_10, Pipeline.eq_sum_fin_of_reset_step_apply_of_flush (fun n h => (outsAt0 m c n h).2.2.2.1) 16 (fun _ => 0)
    (fun t => k0_pay9 (F := Ideal) (iblk m c 1 t) (k0_pay5 (F := Ideal) (iblk m c 0 t) (iblk m c 4 t)))
    (fun t h j => by
      have h1 : ¬1 ≤ t.val := by have := point_lt t; omega
      rw [outsAt0_A m c t h h1 h h1 h h1 h h1]; frame_out
      exact (zero_add _).symm)
    (fun t h j => by
      have h1 : 1 ≤ t.val := by omega
      rw [outsAt0_B m c t h h1 h h1 h h1 h h1]; frame_out
      pointwise [k0_pay14])
    t ((flush0_10 t).mp hf) _, zero_add]
  open_payloads
  pointwise [scaleGrad, rstd]
  refine Fin.sum_mul_add_congr fun s k hl => ?_
  blk_point [iblk, V, idx t, idx ⟨_, Pipeline.run_point_lt_of_flush t ((flush0_10 t).mp hf) s⟩]

/-- The array of the weights' gradient when the grid is done. -/
theorem final_weight : (dats m 0 c).arrAt 11 cfg0.N = weightGrad (inOf m c) (gradOf m c) (scaleOf m c) := by
  refine (dats m 0 c).arrAt_eq_of_covers 11 _ (by decide +kernel) fun t hf y => ?_
  blk_simp
  rw [after0_11, Pipeline.eq_sum_fin_of_reset_step_apply_of_flush (fun n h => (outsAt0 m c n h).2.2.2.2.1) 16 (fun _ => 0)
    (fun t => k0_pay10 (F := Ideal) (k0_pay4 (F := Ideal) (iblk m c 0 t)) (k0_pay6 (F := Ideal) (iblk m c 1 t) (iblk m c 5 t)))
    (fun t h j => by
      have h1 : ¬1 ≤ t.val := by have := point_lt t; omega
      rw [outsAt0_A m c t h h1 h h1 h h1 h h1]; frame_out
      exact (zero_add _).symm)
    (fun t h j => by
      have h1 : 1 ≤ t.val := by omega
      rw [outsAt0_B m c t h h1 h h1 h h1 h h1]; frame_out
      pointwise [k0_pay1])
    t ((flush0_11 t).mp hf) _, zero_add]
  open_payloads
  pointwise [weightGrad, rstd]
  refine Fin.sum_mul_add_congr fun s k hl => ?_
  blk_point [iblk, V, idx t, idx ⟨_, Pipeline.run_point_lt_of_flush t ((flush0_11 t).mp hf) s⟩]

/-- The array of the gate's gradient when the grid is done. -/
theorem final_gate : (dats m 0 c).arrAt 12 cfg0.N = gateGrad (rowsOf m c) (branchOf m c) := by
  refine (dats m 0 c).arrAt_eq_of_covers 12 _ (by decide +kernel) fun t hf y => ?_
  blk_simp
  rw [after0_12, Pipeline.eq_sum_fin_of_reset_step_apply_of_flush (fun n h => (outsAt0 m c n h).2.2.2.2.2) 16 (fun _ => 0)
    (fun t => k0_pay11 (F := Ideal) (iblk m c 3 t) (rowsBlk m c t))
    (fun t h j => by
      have h1 : ¬1 ≤ t.val := by have := point_lt t; omega
      rw [outsAt0_A m c t h h1 h h1 h h1 h h1]; frame_out
      exact (zero_add _).symm)
    (fun t h j => by
      have h1 : 1 ≤ t.val := by omega
      rw [outsAt0_B m c t h h1 h h1 h h1 h h1]; frame_out
      pointwise [k0_pay2])
    t ((flush0_12 t).mp hf) _, zero_add]
  unfold rowsBlk
  open_payloads
  pointwise [gateGrad, rowsGrad, reach, rstd]
  refine Fin.sum_mul_add_congr fun s k hl => ?_
  blk_point [iblk, V, idx t, idx ⟨_, Pipeline.run_point_lt_of_flush t ((flush0_12 t).mp hf) s⟩]

section Reference
open Cert.Norm2BwdRefIdeal.Read
variable (x dh dres f : S4096x2048.Idx → EReal) (g sc gate : S1x2048.Idx → EReal)

/-- The reference's shift gradient. -/
theorem reference_shift : val_main_v24 (F := Ideal) dh = shiftGrad dh :=
  Cert.Norm1BwdIdeal.Product.reference_shift dh

/-- The reference's scale gradient. -/
theorem reference_scale : val_main_v27 (F := Ideal) x dh g = scaleGrad x dh g :=
  Cert.Norm1BwdIdeal.Product.reference_scale x dh g

/-- The reference's weight gradient. -/
theorem reference_weight : val_main_v32 (F := Ideal) x dh sc = weightGrad x dh sc :=
  Cert.Norm1BwdIdeal.Product.reference_weight x dh sc

/-- The reference's gradient of the rows. -/
theorem reference_rows : val_main_v49 (F := Ideal) x dh dres g sc = rowsGrad x dh dres g sc :=
  Cert.Norm1BwdIdeal.Product.reference_rows x dh dres g sc

/-- The reference's gradient of the branch below. -/
theorem reference_branch : val_main_v61 (F := Ideal) x dh dres g sc gate = branchGrad (rowsGrad x dh dres g sc) gate := by
  unfold val_main_v61 val_main_v55
  rw [reference_rows]
  generalize rowsGrad x dh dres g sc = dx
  funext i
  pointwise [val_main_v54, val_main_v51, val_main_v50, val_main_cst_11, branchGrad]

/-- The reference's gradient of the gate. -/
theorem reference_gate : val_main_v60 (F := Ideal) x dh dres f g sc = gateGrad (rowsGrad x dh dres g sc) f := by
  unfold val_main_v60 val_main_v58 val_main_v57 val_main_v56
  rw [reference_rows]
  generalize rowsGrad x dh dres g sc = dx
  funext i
  pointwise [val_main_v59, val_main_cst_12, val_main_cst_13, gateGrad]
  rw [RmsGrad.ofBits_half, RmsGrad.mul_sum _ _ (by norm_num)]
  exact Finset.sum_congr rfl fun r _ => by rw [mul_comm (dx _), mul_assoc]

end Reference

end Cert.Norm2BwdIdeal.Product

end
-- ==== Proof.ValNormFwd.lean ====
/- The normalisation with the conditioning's scale and shift: each of the sixteen grid points normalises 256 rows of the stream.
   Here the array the grid leaves is shown to hold the normalised rows, and the reference to be the same. -/
module

public import proofs.«01_k».proof.Proof.Gen.NormFwdIdeal.Value
public import proofs.«01_k».proof.Proof.Gen.NormFwdRefIdeal.Read
public import Idealize.ShloMosaic.Lib.Pipeline.ValueKit

@[expose] public section

set_option maxRecDepth 16384

noncomputable section

namespace Cert.NormFwdIdeal.Product

open Idealize.ShloMosaic Idealize.ShloMosaic.TcCoe Idealize.SL.Sem
open Cert.NormFwdIdeal Cert.NormFwdIdeal.Gen
open scoped BigOperators

/-- One over the root of a row's mean square, as both programs compute it. -/
def rstd (x : S4096x2048.Idx → EReal) (r : Fin 4096) : EReal :=
  Ideal.rsqrt (Ideal.div (∑ k : Fin 2048, x (ix2 r k) * x (ix2 r k)) (Ideal.ofBits .f32 0x45000000#32) + Ideal.ofBits .f32 0x358637BD#32)

/-- The normalised rows, scaled and shifted. -/
def normed (x : S4096x2048.Idx → EReal) (g sc sh : S1x2048.Idx → EReal) : S4096x2048.Idx → EReal :=
  fun i => x (ix2 (i 0 : Fin 4096) (i 1 : Fin 2048)) * rstd x (i 0 : Fin 4096) * g (ix2 (0 : Fin 1) (i 1 : Fin 2048))
    * (1 + sc (ix2 (0 : Fin 1) (i 1 : Fin 2048))) + sh (ix2 (0 : Fin 1) (i 1 : Fin 2048))

variable (m : (ℓ : Loc nD τ sig) → Buf (Elt Ideal) ℓ) (c : Dev nD)

/-- The stream in memory. -/
abbrev inOf : S4096x2048.Idx → EReal := m ((c : Thread nD τ).loc main_arg0)
/-- The normalisation's weights in memory. -/
abbrev wOf : S1x2048.Idx → EReal := m ((c : Thread nD τ).loc main_arg1)
/-- The conditioning's scale in memory. -/
abbrev scaleOf : S1x2048.Idx → EReal := m ((c : Thread nD τ).loc main_arg2)
/-- The conditioning's shift in memory. -/
abbrev shiftOf : S1x2048.Idx → EReal := m ((c : Thread nD τ).loc main_arg3)

/-- Which blocks a grid point reads and writes. -/
theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- The array of normalised rows when the grid is done. -/
theorem final : (dats m 0 c).arrAt 4 cfg0.N = normed (inOf m c) (wOf m c) (scaleOf m c) (shiftOf m c) := by
  refine (dats m 0 c).arrAt_eq_of_covers 4 _ (by decide +kernel) fun t _ y => ?_
  blk_simp
  rw [after0_4]; frame_out
  open_payloads
  pointwise [normed, rstd]
  blk_point [iblk, V, idx t]

section Reference
open Cert.NormFwdRefIdeal.Read

/-- The reference holds the normalised rows. -/
theorem reference (x : S4096x2048.Idx → EReal) (g sc sh : S1x2048.Idx → EReal) : val_main_v18 (F := Ideal) x g sc sh = normed x g sc sh := by
  funext i
  pointwise [val_main_v0, val_main_v1, val_main_v2, val_main_v3, val_main_v4, val_main_v5, val_main_v6, val_main_v7, val_main_v8, val_main_v9,
    val_main_v10, val_main_v11, val_main_v12, val_main_v13, val_main_v14, val_main_v15, val_main_v16, val_main_v17, val_main_v18,
    val_main_cst, val_main_cst_0, val_main_cst_1, val_main_cst_2, normed, rstd]

end Reference

end Cert.NormFwdIdeal.Product

end
-- ==== Proof.AttnRow.lean ====
/- One row of causal attention taken block by block with a running maximum: the maximum, the sum of the weights and the weighted sum of the
   values that stand after some blocks are those of all the weights seen, scaled down by the maximum; and at the end the scale drops out. -/
module

public import Idealize.ShloMosaic.Lib.Pipeline.ValueKit

@[expose] public section

noncomputable section

namespace Cert.AttnRow

open Idealize.ShloMosaic
open scoped BigOperators

/-- A weight: two to the logit where the key counts, nothing where it does not. -/
def weight (ok : Prop) [Decidable ok] (t : ℝ) : ℝ := if ok then Real.rpow 2 t else 0

/-- A logit, with minus infinity where the key does not count. -/
def logit (ok : Prop) [Decidable ok] (t : ℝ) : EReal := if ok then (t : EReal) else ⊥

/-- A weight is not negative. -/
theorem weight_nonneg (ok : Prop) [Decidable ok] (t : ℝ) : 0 ≤ weight ok t := by
  unfold weight
  split
  · exact Real.rpow_nonneg (by norm_num) _
  · exact le_rfl

/-- The weight of a key that counts is positive. -/
theorem weight_pos {ok : Prop} [Decidable ok] (h : ok) (t : ℝ) : 0 < weight ok t := by
  unfold weight
  rw [if_pos h]
  exact Real.rpow_pos_of_pos (by norm_num) _

/-- A difference's power is a quotient of powers. -/
theorem rpow_sub (a b : ℝ) : Real.rpow 2 (a - b) = Real.rpow 2 (-b) * Real.rpow 2 a := by
  show (2 : ℝ) ^ (a - b) = (2 : ℝ) ^ (-b) * (2 : ℝ) ^ a
  rw [← Real.rpow_add (by norm_num)]
  congr 1
  ring

/-- Two to a logit less a real is the weight scaled down. -/
theorem exp2_logit (ok : Prop) [Decidable ok] (t M : ℝ) :
    Ideal.exp2 (logit ok t - (M : EReal)) = ((Real.rpow 2 (-M) * weight ok t : ℝ) : EReal) := by
  unfold logit weight
  split
  · rw [← EReal.coe_sub, Ideal.exp2_coe, rpow_sub]
  · rw [EReal.bot_sub, Ideal.exp2_bot, mul_zero, EReal.coe_zero]

/-- The exponential of a logit below a real `T`, by the weight of the logit moved by `b` and taken to the base two. -/
theorem exp_logit (ok : Prop) [Decidable ok] (u T b : ℝ) :
    Ideal.exp (logit ok u - (T : EReal)) = ((Real.exp (-T - b) * weight ok ((u + b) * (Real.log 2)⁻¹) : ℝ) : EReal) := by
  have h2 : Real.log 2 ≠ 0 := (Real.log_pos (by norm_num)).ne'
  unfold logit weight
  split
  · rw [← EReal.coe_sub, Ideal.exp_coe, show Real.rpow 2 ((u + b) * (Real.log 2)⁻¹) = Real.exp (Real.log 2 * ((u + b) * (Real.log 2)⁻¹)) from
      Real.rpow_def_of_pos (by norm_num) _, ← Real.exp_add]
    congr 2
    field_simp
    ring
  · rw [EReal.bot_sub, Ideal.exp_bot, mul_zero, EReal.coe_zero]

/-- The logarithm of a row's sum taken below `T`, with `T` and the gates put back and to the base two. -/
theorem natural_log {W : ℝ} (hW : 0 < W) (T γ B : ℝ) :
    Ideal.div (Ideal.log ((Real.exp (-T - (B - γ)) * W : ℝ) : EReal) + (T : EReal) - (γ : EReal) + (B : EReal)) ((Real.log 2 : ℝ) : EReal)
      = ((Real.log W * (Real.log 2)⁻¹ : ℝ) : EReal) := by
  have h2 : Real.log 2 ≠ 0 := (Real.log_pos (by norm_num)).ne'
  have hT := Real.exp_pos (-T - (B - γ))
  rw [Ideal.log_coe, if_neg (not_le.mpr (mul_pos hT hW)), Real.log_mul hT.ne' hW.ne', Real.log_exp, Ideal.div_coe h2, ← EReal.coe_add,
    ← EReal.coe_sub, ← EReal.coe_add, ← EReal.coe_mul]
  refine congrArg _ ?_
  ring

/-- A nonnegative real goes through a sum. -/
theorem coe_mul_sum {ι : Type} (s : Finset ι) {a : ℝ} (ha : 0 ≤ a) (f : ι → EReal) :
    (a : EReal) * ∑ k ∈ s, f k = ∑ k ∈ s, (a : EReal) * f k := by
  classical
  induction s using Finset.induction_on with
  | empty => simp
  | insert k s hk ih =>
    rw [Finset.sum_insert hk, Finset.sum_insert hk, ← ih]
    exact EReal.left_distrib_of_nonneg_of_ne_top (by exact_mod_cast ha) (EReal.coe_ne_top a) _ _

/-- A sum of reals, taken as extended ones. -/
theorem coe_sum {ι : Type} (s : Finset ι) (f : ι → ℝ) : ((∑ k ∈ s, f k : ℝ) : EReal) = ∑ k ∈ s, (f k : EReal) := by
  classical
  induction s using Finset.induction_on with
  | empty => simp
  | insert k s hk ih => rw [Finset.sum_insert hk, Finset.sum_insert hk, EReal.coe_add, ih]

/-- The largest of some logits, one of which counts, is real. -/
theorem max_real {ι : Type} [Fintype ι] (ok : ι → Prop) [DecidablePred ok] (t : ι → ℝ) (h : ∃ k, ok k) :
    ∃ M : ℝ, Finset.univ.fold max (⊥ : EReal) (fun k => logit (ok k) (t k)) = (M : EReal) := by
  obtain ⟨k, hk⟩ := h
  have lo : ⊥ < Finset.univ.fold max (⊥ : EReal) (fun k => logit (ok k) (t k)) := by
    rw [Finset.lt_fold_max]
    exact Or.inr ⟨k, Finset.mem_univ k, by unfold logit; rw [if_pos hk]; exact EReal.bot_lt_coe _⟩
  have hi : Finset.univ.fold max (⊥ : EReal) (fun k => logit (ok k) (t k)) < ⊤ := by
    rw [Finset.fold_max_lt]
    refine ⟨bot_lt_top, fun j _ => ?_⟩
    unfold logit
    split
    · exact EReal.coe_lt_top _
    · exact bot_lt_top
  exact ⟨_, (EReal.coe_toReal hi.ne lo.ne').symm⟩

/-- What stands after some blocks: a real maximum, and the weights' sum `W` and the weighted sum `X` scaled down by it. -/
def Holds {δ : Type} (m l : EReal) (a : δ → EReal) (W : ℝ) (X : δ → EReal) : Prop :=
  ∃ M : ℝ, m = (M : EReal) ∧ l = ((Real.rpow 2 (-M) * W : ℝ) : EReal) ∧ ∀ d, a d = ((Real.rpow 2 (-M) : ℝ) : EReal) * X d

section Step
variable {ι δ : Type} [Fintype ι] (ok : ι → Prop) [DecidablePred ok] (t : ι → ℝ) (v : ι → δ → EReal)

/-- The block's own sums under a maximum. -/
theorem block_sums (M : ℝ) :
    (∑ k, Ideal.exp2 (logit (ok k) (t k) - (M : EReal)) = ((Real.rpow 2 (-M) * ∑ k, weight (ok k) (t k) : ℝ) : EReal))
    ∧ ∀ d, ∑ k, Ideal.exp2 (logit (ok k) (t k) - (M : EReal)) * v k d
        = ((Real.rpow 2 (-M) : ℝ) : EReal) * ∑ k, (weight (ok k) (t k) : EReal) * v k d := by
  have hM : (0 : ℝ) ≤ Real.rpow 2 (-M) := Real.rpow_nonneg (by norm_num) _
  constructor
  · rw [Finset.mul_sum, coe_sum]
    exact Finset.sum_congr rfl fun k _ => exp2_logit _ _ _
  · intro d
    rw [coe_mul_sum _ hM]
    exact Finset.sum_congr rfl fun k _ => by rw [exp2_logit, EReal.coe_mul, mul_assoc]

/-- The first block. -/
theorem Holds.first (h : ∃ k, ok k) (m : EReal) (hm : m = max ⊥ (Finset.univ.fold max (⊥ : EReal) fun k => logit (ok k) (t k))) :
    Holds m (Ideal.exp2 (⊥ - m) * 0 + ∑ k, Ideal.exp2 (logit (ok k) (t k) - m))
      (fun d => Ideal.exp2 (⊥ - m) * 0 + ∑ k, Ideal.exp2 (logit (ok k) (t k) - m) * v k d)
      (∑ k, weight (ok k) (t k)) (fun d => ∑ k, (weight (ok k) (t k) : EReal) * v k d) := by
  obtain ⟨M, hM⟩ := max_real ok t h
  rw [hM, max_eq_right bot_le] at hm
  subst hm
  refine ⟨M, rfl, ?_, fun d => ?_⟩
  · rw [mul_zero, zero_add, (block_sums ok t v M).1]
  · dsimp only
    rw [mul_zero, zero_add, (block_sums ok t v M).2]

/-- One more block. -/
theorem Holds.next {m0 l0 : EReal} {a0 : δ → EReal} {W : ℝ} {X : δ → EReal} (H : Holds m0 l0 a0 W X) (hW : 0 ≤ W) (h : ∃ k, ok k)
    (m : EReal) (hm : m = max m0 (Finset.univ.fold max (⊥ : EReal) fun k => logit (ok k) (t k))) :
    Holds m (Ideal.exp2 (m0 - m) * l0 + ∑ k, Ideal.exp2 (logit (ok k) (t k) - m))
      (fun d => Ideal.exp2 (m0 - m) * a0 d + ∑ k, Ideal.exp2 (logit (ok k) (t k) - m) * v k d)
      (W + ∑ k, weight (ok k) (t k)) (fun d => X d + ∑ k, (weight (ok k) (t k) : EReal) * v k d) := by
  obtain ⟨M0, rfl, rfl, ha⟩ := H
  obtain ⟨S, hS⟩ := max_real ok t h
  rw [hS, ← EReal.coe_strictMono.monotone.map_max] at hm
  set M := max M0 S
  subst hm
  have hM : (0 : ℝ) ≤ Real.rpow 2 (-M) := Real.rpow_nonneg (by norm_num) _
  have key : Real.rpow 2 (M0 - M) * Real.rpow 2 (-M0) = Real.rpow 2 (-M) := by
    show (2 : ℝ) ^ (M0 - M) * (2 : ℝ) ^ (-M0) = (2 : ℝ) ^ (-M)
    rw [← Real.rpow_add (by norm_num)]
    congr 1
    ring
  refine ⟨M, rfl, ?_, fun d => ?_⟩
  · rw [(block_sums ok t v M).1, ← EReal.coe_sub, Ideal.exp2_coe, ← EReal.coe_mul, ← EReal.coe_add, ← mul_assoc, key, mul_add]
  · dsimp only
    rw [(block_sums ok t v M).2, ha d, ← EReal.coe_sub, Ideal.exp2_coe, ← mul_assoc, ← EReal.coe_mul, key,
      EReal.left_distrib_of_nonneg_of_ne_top (by exact_mod_cast hM) (EReal.coe_ne_top _)]

end Step

/-- At the end the quotient is the weighted mean: the scale drops out. -/
theorem Holds.mean {δ : Type} {m l : EReal} {a : δ → EReal} {W : ℝ} {X : δ → EReal} (H : Holds m l a W X) (hW : 0 < W) (d : δ) :
    Ideal.div (a d) l = ((1 / W : ℝ) : EReal) * X d := by
  obtain ⟨M, -, rfl, ha⟩ := H
  have hM : (0 : ℝ) < Real.rpow 2 (-M) := Real.rpow_pos_of_pos (by norm_num) _
  rw [Ideal.div_coe (mul_pos hM hW).ne', ha d, mul_comm, ← mul_assoc, ← EReal.coe_mul]
  congr 2
  field_simp

/-- At the end the maximum and the sum's logarithm make the logarithm of all the weights. -/
theorem Holds.logsum {δ : Type} {m l : EReal} {a : δ → EReal} {W : ℝ} {X : δ → EReal} (H : Holds m l a W X) (hW : 0 < W) :
    m + Ideal.log l * (((Real.log 2)⁻¹ : ℝ) : EReal) = ((Real.log W * (Real.log 2)⁻¹ : ℝ) : EReal) := by
  obtain ⟨M, rfl, rfl, -⟩ := H
  have hM : (0 : ℝ) < Real.rpow 2 (-M) := Real.rpow_pos_of_pos (by norm_num) _
  have hl : Real.log (Real.rpow 2 (-M)) = -M * Real.log 2 := Real.log_rpow (by norm_num) _
  have h2 : Real.log 2 ≠ 0 := (Real.log_pos (by norm_num)).ne'
  rw [Ideal.log_coe, if_neg (not_le.mpr (mul_pos hM hW)), ← EReal.coe_mul, ← EReal.coe_add, Real.log_mul hM.ne' hW.ne', hl]
  congr 1
  field_simp
  ring

end Cert.AttnRow
-- ==== Proof.AttnStep.lean ====
/- One step of causal attention: what a point of the grid leaves in the running maxima, the running sums and the running weighted sums of its
   two heads, at the first block of a row, at a block before the diagonal and at the diagonal. -/
module

public import proofs.«01_k».proof.Proof.Gen.AttnFwdIdeal.Value
public import proofs.«01_k».proof.Proof.AttnRow
public import Idealize.ShloMosaic.Lib.Pipeline.ValueKit
public import Idealize.ShloMosaic.Lib.Pipeline.ReadBack

@[expose] public section

set_option maxRecDepth 16384

noncomputable section

namespace Cert.AttnFwdIdeal.Product

open Idealize.ShloMosaic Idealize.ShloMosaic.TcCoe Idealize.SL.Sem
open Cert.AttnFwdIdeal Cert.AttnFwdIdeal.Gen
open scoped BigOperators

variable (m : (ℓ : Loc nD τ sig) → Buf (Elt Ideal) ℓ) (c : Dev nD)

/-- The queries. -/
abbrev qOf : S4096x1024.Idx → EReal := m ((c : Thread nD τ).loc main_arg0)
/-- The keys. -/
abbrev kOf : S4096x1024.Idx → EReal := m ((c : Thread nD τ).loc main_arg1)
/-- The values. -/
abbrev vOf : S4096x1024.Idx → EReal := m ((c : Thread nD τ).loc main_arg2)
/-- The gates. -/
abbrev fOf : S4096x128.Idx → EReal := m ((c : Thread nD τ).loc main_arg3)

/-- The row block of a point. -/
def rowB (t : ℕ) : ℕ := if t % 36 < 1 then 0 else if t % 36 < 3 then 1 else if t % 36 < 6 then 2 else if t % 36 < 10 then 3
  else if t % 36 < 15 then 4 else if t % 36 < 21 then 5 else if t % 36 < 28 then 6 else 7
/-- The column block of a point. -/
def colB (t : ℕ) : ℕ := t % 36 - rowB t * (rowB t + 1) / 2

/-- The blocks that a point of the grid reads. -/
theorem idx : ∀ t : Fin cfg0.N, win0_0.index t = ![rowB t.val, t.val / 36] ∧ win0_1.index t = ![colB t.val, t.val / 36]
    ∧ win0_2.index t = ![colB t.val, t.val / 36] ∧ win0_3.index t = ![rowB t.val, 0] ∧ win0_4.index t = ![0, colB t.val]
    ∧ win0_5.index t = ![rowB t.val, t.val / 36] ∧ win0_6.index t = ![rowB t.val, t.val / 36] :=
  (by decide +kernel : ∀ t : Fin grid0.N, _)

/-! ## One block of scores -/

section Block
variable (q k v : S512x256.Idx → EReal) (ft : S512x128.Idx → EReal) (fh : S8x512.Idx → EReal) (hp : BitVec 32)

/-- A column of a head among the pair's. -/
abbrev col (g : ℕ) (d : Fin 128) : Fin 256 := ⟨(128 * g + d.val) % 256, Nat.mod_lt _ (by norm_num)⟩

/-- The number of the pair's head, as the kernel counts it. -/
abbrev headWord (g : ℕ) : BitVec 32 := Scalar.addi (Scalar.muli hp 2#32) (BitVec.ofNat 32 g)

/-- A score of head `g` of the pair in base two, as the kernel computes it. -/
def raw (g : ℕ) (r c : Fin 512) : EReal :=
  (∑ d : Fin 128, q (ix2 r (col g d)) * k (ix2 c (col g d))) * Named.named (F := Ideal) κ (φ := .f32) "scale_log2e" 0x3E0293EE#32
    + (Finset.univ.fold max (Ideal.ofBits .f32 0xFF800000#32) (fun r' : Fin 512 => ∑ l : Fin 128,
          Scalar.select (IntOp.cmpi .eq (BitVec.ofNat 32 l.val) (headWord hp g)) (ft (ix2 r' l)) 0)
        - ∑ s : Fin 8, Scalar.select (IntOp.cmpi .eq (BitVec.ofNat 32 s.val) (headWord hp g)) (fh (ix2 s c)) 0)
      * Named.named (F := Ideal) κ (φ := .f32) "log2e" 0x3FB8AA3B#32

/-- A score of a block on the diagonal: the later keys masked. -/
def rawDiag (g : ℕ) (r c : Fin 512) : EReal :=
  raw q k ft fh hp g r c + Scalar.select (IntOp.cmpi .sge (BitVec.ofNat 32 r.val) (BitVec.ofNat 32 c.val)) 0
    (Named.named (F := Ideal) κ (φ := .f32) "mask" 0xF149F2CA#32)

variable (S : ℕ → Fin 512 → Fin 512 → EReal) (M0 L0 : S2x512x1.Idx → EReal) (A0 : S512x256.Idx → EReal)

/-- The running maximum after a block. -/
def newM : S2x512x1.Idx → EReal := fun y =>
  max (M0 (ix3 (y 0 : Fin 2) (y 1 : Fin 512) (0 : Fin 1)))
    (Finset.univ.fold max (Ideal.ofBits .f32 0xFF800000#32) fun c : Fin 512 => S (y 0).val (y 1 : Fin 512) c)

/-- The running sum after a block. -/
def newL : S2x512x1.Idx → EReal := fun y =>
  FloatOps.exp2 (F := Ideal) (φ := .f32) (M0 (ix3 (y 0 : Fin 2) (y 1 : Fin 512) (0 : Fin 1)) - newM S M0 y) * L0 (ix3 (y 0 : Fin 2) (y 1 : Fin 512) (0 : Fin 1))
    + ∑ c : Fin 512, FloatOps.exp2 (F := Ideal) (φ := .f32) (S (y 0).val (y 1 : Fin 512) c - newM S M0 y)

/-- The head of a column among the pair's. -/
abbrev headAt (j : Fin 256) : Fin 2 := ⟨j.val / 128, by omega⟩

/-- The running weighted sum after a block. -/
def newA : S512x256.Idx → EReal := fun y =>
  FloatOps.exp2 (F := Ideal) (φ := .f32) (M0 (ix3 (headAt (y 1)) (y 0 : Fin 512) (0 : Fin 1)) - newM S M0 (ix3 (headAt (y 1)) (y 0 : Fin 512) (0 : Fin 1)))
      * A0 (ix2 (y 0 : Fin 512) (y 1 : Fin 256))
    + ∑ c : Fin 512, FloatOps.exp2 (F := Ideal) (φ := .f32) (S (headAt (y 1)).val (y 0 : Fin 512) c - newM S M0 (ix3 (headAt (y 1)) (y 0 : Fin 512) (0 : Fin 1)))
        * v (ix2 c (y 1 : Fin 256))

end Block

/-- The pair of heads of a point, as the kernel's first coordinate. -/
abbrev pairWord (t : Fin cfg0.N) : BitVec 32 := BitVec.ofNat 32 (grid0.coords t 0).val

/-- The scores of a point's block. -/
abbrev scores (t : Fin cfg0.N) : ℕ → Fin 512 → Fin 512 → EReal :=
  raw (iblk m c 0 t) (iblk m c 1 t) (iblk m c 3 t) (iblk m c 4 t) (pairWord t)

/-- The scores of a point's block on the diagonal. -/
abbrev scoresDiag (t : Fin cfg0.N) : ℕ → Fin 512 → Fin 512 → EReal :=
  rawDiag (iblk m c 0 t) (iblk m c 1 t) (iblk m c 3 t) (iblk m c 4 t) (pairWord t)

/-- The points that begin a row of blocks. -/
abbrev Starts (t : Fin cfg0.N) : Prop := (t.val % 36 = 0 ∨ t.val % 36 = 1 ∨ t.val % 36 = 3 ∨ t.val % 36 = 6 ∨ t.val % 36 = 10 ∨ t.val % 36 = 15 ∨ t.val % 36 = 21 ∨ t.val % 36 = 28)
/-- The points on the diagonal. -/
abbrev OnDiag (t : Fin cfg0.N) : Prop := (t.val % 36 = 0 ∨ t.val % 36 = 2 ∨ t.val % 36 = 5 ∨ t.val % 36 = 9 ∨ t.val % 36 = 14 ∨ t.val % 36 = 20 ∨ t.val % 36 = 27 ∨ t.val % 36 = 35)

/-- Two stores that tile a buffer leave nothing of an earlier one. -/
theorem canon_two_over {Val : EltTy → Type} [∀ e, Nonempty (Val e)] {S : Shape} {e : EltTy} (r₁ r₂ : Rect S) (w₁ : r₁.shape.Idx → Val e)
    (w₂ : r₂.shape.Idx → Val e) (p : View.Piece Val S e) (y : S.Idx)
    (h : View.Piece.tiled [(⟨r₁, w₁⟩ : View.Piece Val S e), ⟨r₂, w₂⟩] r₁.size = true) :
    View.canon [⟨r₁, w₁⟩, ⟨r₂, w₂⟩, p] y = View.canon [(⟨r₁, w₁⟩ : View.Piece Val S e), ⟨r₂, w₂⟩] y := by
  obtain ⟨q, hq, hy⟩ := View.cover_of_tiled_head r₁ w₁ [⟨r₂, w₂⟩] h y
  by_cases h1 : y ∈ r₁.set
  · obtain ⟨x, rfl⟩ := r₁.exists_idx_of_mem h1
    exact (View.canon_cons_emb r₁ w₁ _ x).trans (View.canon_cons_emb r₁ w₁ _ x).symm
  · have h2 : y ∈ r₂.set := by
      rcases List.mem_cons.mp hq with rfl | hq
      · exact absurd hy h1
      · rcases List.mem_cons.mp hq with rfl | hq
        · exact hy
        · exact absurd hq List.not_mem_nil
    rw [View.canon_cons_of_not_mem ⟨r₁, w₁⟩ _ h1, View.canon_cons_of_not_mem ⟨r₁, w₁⟩ _ h1]
    obtain ⟨x, rfl⟩ := r₂.exists_idx_of_mem h2
    exact (View.canon_cons_emb r₂ w₂ _ x).trans (View.canon_cons_emb r₂ w₂ _ x).symm

open Classical in
/-- The running maximum before a point's block. -/
def maxBefore (t : Fin cfg0.N) : S2x512x1.Idx → EReal :=
  if Starts t then fun _ => Named.named (F := Ideal) κ (φ := .f32) "mask" 0xF149F2CA#32 else (outsAt0 m c (t.val - 1) (by omega)).2.2.1

open Classical in
/-- The running sum before a point's block. -/
def sumBefore (t : Fin cfg0.N) : S2x512x1.Idx → EReal := if Starts t then fun _ => 0 else (outsAt0 m c (t.val - 1) (by omega)).2.2.2.1

open Classical in
/-- The running weighted sum before a point's block. -/
def accBefore (t : Fin cfg0.N) : S512x256.Idx → EReal := if Starts t then fun _ => 0 else (outsAt0 m c (t.val - 1) (by omega)).2.2.2.2

open Classical in
/-- The scores of a point. -/
def scoresAt (t : Fin cfg0.N) : ℕ → Fin 512 → Fin 512 → EReal := if OnDiag t then scoresDiag m c t else scores m c t

set_option maxHeartbeats 4000000 in
/-- The running maximum a point leaves. -/
theorem max_after (t : Fin cfg0.N) : (outsAt0 m c t.val t.isLt).2.2.1 = newM (scoresAt m c t) (maxBefore m c t) := by
  unfold scoresAt maxBefore
  funext y
  by_cases h0 : Starts t <;> by_cases h1 : OnDiag t
  on_goal 1 => rw [outsAt0_A m c t h0 (not_not.mpr h1) h1]
  on_goal 2 => rw [outsAt0_B m c t h0 h1 h1]
  on_goal 3 => rw [outsAt0_C m c t h0 (not_not.mpr h1) h1]
  on_goal 4 => rw [outsAt0_D m c t h0 h1 h1]
  all_goals simp only [h0, h1, if_true, if_false]
  all_goals (frame_open; (try simp (disch := decide) only [↓ View.readCov_skip, ↓ View.readCov_cons_toLoadRect, ↓ View.readCov_fill]); frame_out)
  all_goals (try simp only [read_unread_whole])
  all_goals (try rw [canon_two_over _ _ _ _ _ _ rfl])
  all_goals canon_tiles x h
  all_goals (first | have hy : (y 0).val = 1 := by omega | have hy : (y 0).val = 0 := by omega)
  all_goals (open_payloads; pointwise [newM, rawDiag, raw]; rw [hy]; blk_point [] <;> try omega)

set_option maxHeartbeats 4000000 in
/-- The running sum a point leaves. -/
theorem sum_after (t : Fin cfg0.N) : (outsAt0 m c t.val t.isLt).2.2.2.1 = newL (scoresAt m c t) (maxBefore m c t) (sumBefore m c t) := by
  unfold scoresAt maxBefore sumBefore
  funext y
  by_cases h0 : Starts t <;> by_cases h1 : OnDiag t
  on_goal 1 => rw [outsAt0_A m c t h0 (not_not.mpr h1) h1]
  on_goal 2 => rw [outsAt0_B m c t h0 h1 h1]
  on_goal 3 => rw [outsAt0_C m c t h0 (not_not.mpr h1) h1]
  on_goal 4 => rw [outsAt0_D m c t h0 h1 h1]
  all_goals simp only [h0, h1, if_true, if_false]
  all_goals (frame_open; (try simp (disch := decide) only [↓ View.readCov_skip, ↓ View.readCov_cons_toLoadRect, ↓ View.readCov_fill]); frame_out)
  all_goals (try simp only [read_unread_whole])
  all_goals (try rw [canon_two_over _ _ _ _ _ _ rfl])
  all_goals canon_tiles x h
  all_goals (first | have hy : (y 0).val = 1 := by omega | have hy : (y 0).val = 0 := by omega)
  all_goals (open_payloads; pointwise [newM, newL, rawDiag, raw]; rw [hy]; blk_point [] <;> try omega)

set_option maxHeartbeats 4000000 in
/-- The running weighted sum a point leaves. -/
theorem acc_after (t : Fin cfg0.N) : (outsAt0 m c t.val t.isLt).2.2.2.2
    = newA (iblk m c 2 t) (scoresAt m c t) (maxBefore m c t) (accBefore m c t) := by
  unfold scoresAt maxBefore accBefore
  funext y
  by_cases h0 : Starts t <;> by_cases h1 : OnDiag t
  on_goal 1 => rw [outsAt0_A m c t h0 (not_not.mpr h1) h1]
  on_goal 2 => rw [outsAt0_B m c t h0 h1 h1]
  on_goal 3 => rw [outsAt0_C m c t h0 (not_not.mpr h1) h1]
  on_goal 4 => rw [outsAt0_D m c t h0 h1 h1]
  all_goals simp only [h0, h1, if_true, if_false]
  all_goals (frame_open; (try simp (disch := decide) only [↓ View.readCov_skip, ↓ View.readCov_cons_toLoadRect, ↓ View.readCov_fill]); frame_out)
  all_goals (try simp only [read_unread_whole])
  all_goals (try rw [canon_two_over _ _ _ _ _ _ rfl])
  all_goals canon_tiles x h
  all_goals (first | have hy : (y 1).val / 128 = 1 := by omega | have hy : (y 1).val / 128 = 0 := by omega)
  all_goals (open_payloads; pointwise [newM, newA, rawDiag, raw]; rw [hy]; blk_point [] <;> try omega)

end Cert.AttnFwdIdeal.Product

end
-- ==== Proof.AttnOut.lean ====
/- What causal attention writes at the end of a row of blocks: the weighted sum over the sum, and the logarithm of the sum. -/
module

public import proofs.«01_k».proof.Proof.AttnStep

@[expose] public section

set_option maxRecDepth 16384

noncomputable section

namespace Cert.AttnFwdIdeal.Product

open Idealize.ShloMosaic Idealize.ShloMosaic.TcCoe Idealize.SL.Sem
open Cert.AttnFwdIdeal Cert.AttnFwdIdeal.Gen
open scoped BigOperators

variable (m : (ℓ : Loc nD τ sig) → Buf (Elt Ideal) ℓ) (c : Dev nD)

set_option maxHeartbeats 4000000 in
/-- What a point on the diagonal writes: the weighted sum over the sum. -/
theorem out_after (t : Fin cfg0.N) (h1 : OnDiag t) : (outsAt0 m c t.val t.isLt).1 = fun y =>
    Ideal.div ((outsAt0 m c t.val t.isLt).2.2.2.2 y) ((outsAt0 m c t.val t.isLt).2.2.2.1 (ix3 (headAt (y 1)) (y 0 : Fin 512) (0 : Fin 1))) := by
  rw [sum_after, acc_after]
  unfold scoresAt maxBefore sumBefore accBefore
  funext y
  by_cases h0 : Starts t
  on_goal 1 => rw [outsAt0_A m c t h0 (not_not.mpr h1) h1]
  on_goal 2 => rw [outsAt0_C m c t h0 (not_not.mpr h1) h1]
  all_goals simp only [h0, h1, if_true, if_false]
  all_goals (frame_open; (try simp (disch := decide) only [↓ View.readCov_skip, ↓ View.readCov_cons_toLoadRect, ↓ View.readCov_fill]); frame_out)
  all_goals (try simp only [read_unread_whole])
  all_goals canon_tiles x h
  all_goals (first | have hy : (y 1).val / 128 = 1 := by omega | have hy : (y 1).val / 128 = 0 := by omega)
  all_goals (open_payloads; pointwise [newM, newL, newA, rawDiag, raw]; rw [hy]; blk_point [] <;> try omega)

set_option maxHeartbeats 4000000 in
/-- The other array a point on the diagonal writes: the logarithm of the weights' sum. -/
theorem lse_after (t : Fin cfg0.N) (h1 : OnDiag t) : (outsAt0 m c t.val t.isLt).2.1 = fun y =>
    (outsAt0 m c t.val t.isLt).2.2.1 (ix3 (headAt (y 1)) (y 0 : Fin 512) (0 : Fin 1))
    + Ideal.log ((outsAt0 m c t.val t.isLt).2.2.2.1 (ix3 (headAt (y 1)) (y 0 : Fin 512) (0 : Fin 1))) * Named.named (F := Ideal) κ (φ := .f32) "log2e" 0x3FB8AA3B#32 := by
  rw [sum_after, max_after]
  unfold scoresAt maxBefore sumBefore
  funext y
  by_cases h0 : Starts t
  on_goal 1 => rw [outsAt0_A m c t h0 (not_not.mpr h1) h1]
  on_goal 2 => rw [outsAt0_C m c t h0 (not_not.mpr h1) h1]
  all_goals simp only [h0, h1, if_true, if_false]
  all_goals (frame_open; (try simp (disch := decide) only [↓ View.readCov_skip, ↓ View.readCov_cons_toLoadRect, ↓ View.readCov_fill]); frame_out)
  all_goals (try simp only [read_unread_whole])
  all_goals canon_tiles x h
  all_goals (first | have hy : (y 1).val / 128 = 1 := by omega | have hy : (y 1).val / 128 = 0 := by omega)
  all_goals (open_payloads; pointwise [newM, newL, rawDiag, raw]; rw [hy]; blk_point [] <;> try omega)

end Cert.AttnFwdIdeal.Product

end
-- ==== Proof.ValAttnFwd.lean ====
/- Causal attention with a gate on every row and key: the kernel takes a row's keys block by block under a running maximum. Here the two
   arrays the grid leaves are shown to hold the weighted means and the logarithms of the weights' sums, and the reference, which takes a
   row's keys at once, to be the same. The queries, keys and gates have to be finite. -/
module

public import proofs.«01_k».proof.Proof.AttnOut
public import proofs.«01_k».proof.Proof.Gen.AttnFwdRefIdeal.Read

@[expose] public section

set_option maxRecDepth 16384

noncomputable section

namespace Cert.AttnFwdIdeal.Product

open Idealize.ShloMosaic Idealize.ShloMosaic.TcCoe Idealize.SL.Sem
open Cert.AttnFwdIdeal Cert.AttnFwdIdeal.Gen
open scoped BigOperators

/-! ## What both programs compute -/

section Spec
variable (q k v : S4096x1024.Idx → EReal) (f : S4096x128.Idx → EReal)

/-- A column of a head. -/
abbrev hcol (h : Fin 8) (d : Fin 128) : Fin 1024 := ⟨128 * h.val + d.val, by omega⟩

/-- The product of a query with a key. -/
def dot (h : Fin 8) (R j : Fin 4096) : ℝ := ∑ d : Fin 128, (q (ix2 R (hcol h d))).toReal * (k (ix2 j (hcol h d))).toReal

/-- A head's gate at a row. -/
def gateAt (h : Fin 8) (j : Fin 4096) : ℝ := (f (ix2 j (⟨h.val, by omega⟩ : Fin 128))).toReal

/-- The row `c` of block `J`. -/
abbrev rowAt (J : ℕ) (c : Fin 512) : Fin 4096 := ⟨(512 * J + c.val) % 4096, Nat.mod_lt _ (by norm_num)⟩

/-- A head's largest gate in a block of rows. -/
def gateTop (h : Fin 8) (J : ℕ) : ℝ :=
  (Finset.univ.fold max (⊥ : EReal) fun r : Fin 512 => f (ix2 (rowAt J r) (⟨h.val, by omega⟩ : Fin 128))).toReal

/-- A key's score for a query, to the base two. -/
def score (h : Fin 8) (R j : Fin 4096) : ℝ :=
  dot q k h R j * ((Real.sqrt 128)⁻¹ * (Real.log 2)⁻¹) + (gateTop f h (R.val / 512) - gateAt f h j) * (Real.log 2)⁻¹

/-- A key's weight for a query. -/
def wt (h : Fin 8) (R j : Fin 4096) : ℝ := AttnRow.weight (j.val ≤ R.val) (score q k f h R j)

/-- A query's weights together. -/
def total (h : Fin 8) (R : Fin 4096) : ℝ := ∑ j : Fin 4096, wt q k f h R j

/-- The head of a column. -/
abbrev headOf (x : Fin 1024) : Fin 8 := ⟨x.val / 128, by omega⟩

/-- The weighted means of the values. -/
def attended : S4096x1024.Idx → EReal := fun i =>
  ((1 / total q k f (headOf (i 1)) (i 0) : ℝ) : EReal) * ∑ j : Fin 4096, (wt q k f (headOf (i 1)) (i 0) j : EReal) * v (ix2 j (i 1 : Fin 1024))

/-- The logarithms of the weights' sums, to the base two. -/
def logTotal : S4096x1024.Idx → EReal := fun i =>
  ((Real.log (total q k f (headOf (i 1)) (i 0)) * (Real.log 2)⁻¹ : ℝ) : EReal)

end Spec

/-! ## The constants and the words -/

/-- The pattern of minus infinity. -/
theorem minus_inf : Ideal.ofBits .f32 0xFF800000#32 = ⊥ := by
  simp [Ideal.ofBits, Ideal.ieee]

/-- The mask is minus infinity. -/
theorem named_mask : Named.named (F := Ideal) κ (φ := .f32) "mask" 0xF149F2CA#32 = (⊥ : EReal) := rfl
/-- The logarithm of e to the base two. -/
theorem named_log2e : Named.named (F := Ideal) κ (φ := .f32) "log2e" 0x3FB8AA3B#32 = (((Real.log 2)⁻¹ : ℝ) : EReal) := rfl
/-- The scale of the scores, to the base two. -/
theorem named_scale : Named.named (F := Ideal) κ (φ := .f32) "scale_log2e" 0x3E0293EE#32
    = (((Real.sqrt 128)⁻¹ * (Real.log 2)⁻¹ : ℝ) : EReal) := rfl

/-- The word of a head. -/
theorem head_word (p g : ℕ) (hp : p < 4) (hg : g < 2) : headWord (BitVec.ofNat 32 p) g = BitVec.ofNat 32 (2 * p + g) := by
  interval_cases p <;> interval_cases g <;> rfl

/-- A comparison of small words selects where the numbers are equal. -/
theorem select_eq (a b : ℕ) (ha : a < 4096) (hb : b < 4096) (x y : EReal) :
    Scalar.select (IntOp.cmpi .eq (BitVec.ofNat 32 a) (BitVec.ofNat 32 b)) x y = if a = b then x else y := by
  have e : (BitVec.ofNat 32 a = BitVec.ofNat 32 b) ↔ a = b := by
    rw [← BitVec.toNat_inj, BitVec.toNat_ofNat, BitVec.toNat_ofNat, Nat.mod_eq_of_lt (by omega), Nat.mod_eq_of_lt (by omega)]
  by_cases h : a = b
  · simp [Scalar.select, IntOp.cmpi, h]
  · have e' : (BitVec.ofNat 32 a == BitVec.ofNat 32 b) = false := by rw [beq_eq_false_iff_ne, Ne, e]; exact h
    simp [Scalar.select, IntOp.cmpi, h, e']

/-- A comparison of small words selects where the numbers are in order. -/
theorem select_sge (a b : ℕ) (ha : a < 4096) (hb : b < 4096) (x y : EReal) :
    Scalar.select (IntOp.cmpi .sge (BitVec.ofNat 32 a) (BitVec.ofNat 32 b)) x y = if b ≤ a then x else y := by
  have e : BitVec.sle (BitVec.ofNat 32 b) (BitVec.ofNat 32 a) = decide (b ≤ a) := by
    rw [BitVec.sle_eq_decide, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    simp
  by_cases h : b ≤ a
  · simp [Scalar.select, IntOp.cmpi, h, e]
  · simp [Scalar.select, IntOp.cmpi, h, e]

variable (m : (ℓ : Loc nD τ sig) → Buf (Elt Ideal) ℓ) (c : Dev nD)

/-! ## The blocks a point reads -/

/-- A point's row block, column block and pair of heads. -/
theorem facts : ∀ t : Fin cfg0.N, rowB t.val < 8 ∧ colB t.val ≤ rowB t.val ∧ t.val / 36 < 4 ∧ pairWord t = BitVec.ofNat 32 (t.val / 36)
    ∧ (Starts t ↔ colB t.val = 0) ∧ (OnDiag t ↔ colB t.val = rowB t.val)
    ∧ (¬Starts t → rowB (t.val - 1) = rowB t.val ∧ colB (t.val - 1) + 1 = colB t.val ∧ (t.val - 1) / 36 = t.val / 36) :=
  (by decide +kernel : ∀ t : Fin grid0.N, _)

/-- The queries of a point. -/
theorem read_q (t : Fin cfg0.N) (r : Fin 512) (x : Fin 256) :
    iblk m c 0 t (ix2 r x) = qOf m c (ix2 (rowAt (rowB t.val) r) (⟨(256 * (t.val / 36) + x.val) % 1024, Nat.mod_lt _ (by norm_num)⟩ : Fin 1024)) := by
  obtain ⟨h1, -, h3, -⟩ := facts t
  blk_point [iblk, V, idx t]

/-- The keys of a point. -/
theorem read_k (t : Fin cfg0.N) (r : Fin 512) (x : Fin 256) :
    iblk m c 1 t (ix2 r x) = kOf m c (ix2 (rowAt (colB t.val) r) (⟨(256 * (t.val / 36) + x.val) % 1024, Nat.mod_lt _ (by norm_num)⟩ : Fin 1024)) := by
  obtain ⟨h1, h2, h3, -⟩ := facts t
  blk_point [iblk, V, idx t]

/-- The values of a point. -/
theorem read_v (t : Fin cfg0.N) (r : Fin 512) (x : Fin 256) :
    iblk m c 2 t (ix2 r x) = vOf m c (ix2 (rowAt (colB t.val) r) (⟨(256 * (t.val / 36) + x.val) % 1024, Nat.mod_lt _ (by norm_num)⟩ : Fin 1024)) := by
  obtain ⟨h1, h2, h3, -⟩ := facts t
  blk_point [iblk, V, idx t]

/-- The gates of a point's rows. -/
theorem read_f (t : Fin cfg0.N) (r : Fin 512) (x : Fin 128) : iblk m c 3 t (ix2 r x) = fOf m c (ix2 (rowAt (rowB t.val) r) x) := by
  obtain ⟨h1, h2, h3, -⟩ := facts t
  blk_point [iblk, V, idx t]

/-- The gates of a point's keys. -/
theorem read_f' (t : Fin cfg0.N) (s : Fin 8) (r : Fin 512) : iblk m c 4 t (ix2 s r) = fOf m c (ix2 (rowAt (colB t.val) r) (⟨s.val, by omega⟩ : Fin 128)) := by
  obtain ⟨h1, h2, h3, -⟩ := facts t
  blk_point [iblk, V, idx t]

/-! ## The scores are real -/

/-- Every entry is a real number. -/
def Real' {s : Shape} (x : s.Idx → EReal) : Prop := ∀ i, x i = ((x i).toReal : EReal)

/-- The head of a point's pair. -/
abbrev headOfPoint (t : ℕ) (g : ℕ) : Fin 8 := ⟨(2 * (t / 36) + g) % 8, Nat.mod_lt _ (by norm_num)⟩

/-- The largest gate is real. -/
theorem gateTop_coe {f : S4096x128.Idx → EReal} (hf : Real' f) (h : Fin 8) (J : ℕ) :
    Finset.univ.fold max (⊥ : EReal) (fun r : Fin 512 => f (ix2 (rowAt J r) (⟨h.val, by omega⟩ : Fin 128))) = (gateTop f h J : EReal) := by
  obtain ⟨M, hM⟩ := AttnRow.max_real (ι := Fin 512) (fun _ => True) (fun r => (f (ix2 (rowAt J r) (⟨h.val, by omega⟩ : Fin 128))).toReal) ⟨0, trivial⟩
  have e : (fun r : Fin 512 => AttnRow.logit True (f (ix2 (rowAt J r) (⟨h.val, by omega⟩ : Fin 128))).toReal)
      = fun r : Fin 512 => f (ix2 (rowAt J r) (⟨h.val, by omega⟩ : Fin 128)) := by
    funext r
    unfold AttnRow.logit
    rw [if_pos trivial]
    exact (hf _).symm
  rw [e] at hM
  unfold gateTop
  rw [hM, EReal.toReal_coe]

section Scores
variable {m c} (hq : Real' (qOf m c)) (hk : Real' (kOf m c)) (hf : Real' (fOf m c))

/-- A sum that keeps one term. -/
theorem sum_pick {n : ℕ} (hn : n ≤ 4096) (h : ℕ) (hh : h < n) (X : Fin n → EReal) :
    ∑ l : Fin n, Scalar.select (IntOp.cmpi .eq (BitVec.ofNat 32 l.val) (BitVec.ofNat 32 h)) (X l) 0 = X ⟨h, hh⟩ := by
  rw [Finset.sum_eq_single (⟨h, hh⟩ : Fin n)]
  · rw [select_eq _ _ (by omega) (by omega), if_pos rfl]
  · intro l _ hl
    rw [select_eq _ _ (by omega) (by omega), if_neg fun e => hl (Fin.ext e)]
  · intro hl
    exact absurd (Finset.mem_univ _) hl

/-- A block's score, of real entries. -/
theorem raw_coe (bq bk : S512x256.Idx → EReal) (ft : S512x128.Idx → EReal) (fh : S8x512.Idx → EReal) (w : BitVec 32) (g h : ℕ) (hh : h < 8)
    (hw : headWord w g = BitVec.ofNat 32 h) (r c' : Fin 512) (A B : Fin 128 → ℝ) (T γ : ℝ) (ha : ∀ d, bq (ix2 r (col g d)) = (A d : EReal))
    (hb : ∀ d, bk (ix2 c' (col g d)) = (B d : EReal))
    (ht : Finset.univ.fold max (⊥ : EReal) (fun r' : Fin 512 => ft (ix2 r' (⟨h, by omega⟩ : Fin 128))) = (T : EReal))
    (hγ : fh (ix2 (⟨h, hh⟩ : Fin 8) c') = (γ : EReal)) :
    raw bq bk ft fh w g r c' = (((∑ d, A d * B d) * ((Real.sqrt 128)⁻¹ * (Real.log 2)⁻¹) + (T - γ) * (Real.log 2)⁻¹ : ℝ) : EReal) := by
  unfold raw
  rw [hw, named_log2e, named_scale, minus_inf]
  simp only [ha, hb, sum_pick (show 128 ≤ 4096 by norm_num) h (by omega), sum_pick (show 8 ≤ 4096 by norm_num) h hh]
  rw [ht, hγ]
  simp only [← EReal.coe_mul]
  rw [← AttnRow.coe_sum, ← EReal.coe_mul, ← EReal.coe_sub, ← EReal.coe_mul, ← EReal.coe_add]

include hq hk hf in
/-- A score of a point's block. -/
theorem scores_coe (t : Fin cfg0.N) (g : ℕ) (hg : g < 2) (r c' : Fin 512) :
    scores m c t g r c' = (score (qOf m c) (kOf m c) (fOf m c) (headOfPoint t.val g) (rowAt (rowB t.val) r) (rowAt (colB t.val) c') : EReal) := by
  obtain ⟨h1, h2, h3, h4, -⟩ := facts t
  have eh : (headOfPoint t.val g).val = 2 * (t.val / 36) + g := by simp only; omega
  have ec : ∀ d : Fin 128, (⟨(256 * (t.val / 36) + (col g d).val) % 1024, Nat.mod_lt _ (by norm_num)⟩ : Fin 1024) = hcol (headOfPoint t.val g) d := fun d =>
    Fin.ext (by simp only; omega)
  have er : (rowAt (rowB t.val) r).val / 512 = rowB t.val := by simp only; omega
  rw [score, dot, gateAt, er]
  refine raw_coe _ _ _ _ _ g (2 * (t.val / 36) + g) (by omega) (by rw [h4, head_word _ _ h3 hg]) r c' _ _ _ _ (fun d => ?_) (fun d => ?_) ?_ ?_
  · rw [read_q, ec, ← hq]
  · rw [read_k, ec, ← hk]
  · rw [← gateTop_coe hf]
    refine congrArg (fun z : Fin 512 → EReal => Finset.univ.fold max (⊥ : EReal) z) (funext fun r' => ?_)
    dsimp only
    rw [read_f]
    exact congrArg (fun z => fOf m c (ix2 _ z)) (Fin.ext eh.symm)
  · rw [read_f', ← hf]
    exact congrArg (fun z => fOf m c (ix2 _ z)) (Fin.ext eh.symm)

include hq hk hf in
/-- A score of a point, with the later keys out. -/
theorem scoresAt_eq (t : Fin cfg0.N) (g : ℕ) (hg : g < 2) (r c' : Fin 512) :
    scoresAt m c t g r c' = AttnRow.logit ((rowAt (colB t.val) c').val ≤ (rowAt (rowB t.val) r).val)
      (score (qOf m c) (kOf m c) (fOf m c) (headOfPoint t.val g) (rowAt (rowB t.val) r) (rowAt (colB t.val) c')) := by
  obtain ⟨h1, h2, h3, -, -, h4, -⟩ := facts t
  unfold scoresAt AttnRow.logit
  by_cases hd : OnDiag t
  · have e := h4.mp hd
    have es := scores_coe hq hk hf t g hg r c'
    unfold scores at es
    rw [if_pos hd]
    unfold scoresDiag rawDiag
    rw [es, select_sge _ _ (by omega) (by omega), named_mask]
    have e' : c'.val ≤ r.val ↔ (rowAt (colB t.val) c').val ≤ (rowAt (rowB t.val) r).val := by
      simp only
      omega
    by_cases hc : c'.val ≤ r.val
    · rw [if_pos hc, if_pos (e'.mp hc), add_zero]
    · rw [if_neg hc, if_neg (fun hx => hc (e'.mpr hx)), EReal.add_bot]
  · have e : colB t.val ≠ rowB t.val := fun hx => hd (h4.mpr hx)
    rw [if_neg hd, scores_coe hq hk hf t g hg r c', if_pos (by simp only; omega)]

end Scores

/-! ## The run of a row of blocks -/

/-- The weights of a query in a block of keys, together. -/
abbrev blockWeights (h : Fin 8) (R : Fin 4096) (J : ℕ) : ℝ :=
  ∑ c' : Fin 512, AttnRow.weight ((rowAt J c').val ≤ R.val) (score (qOf m c) (kOf m c) (fOf m c) h R (rowAt J c'))

/-- The weighted sum of a block's values. -/
abbrev blockValues (h : Fin 8) (R : Fin 4096) (J : ℕ) (d : Fin 128) : EReal :=
  ∑ c' : Fin 512, (AttnRow.weight ((rowAt J c').val ≤ R.val) (score (qOf m c) (kOf m c) (fOf m c) h R (rowAt J c')) : EReal) * vOf m c (ix2 (rowAt J c') (hcol h d))

section Run
variable {m c} (hq : Real' (qOf m c)) (hk : Real' (kOf m c)) (hf : Real' (fOf m c))

/-- The score of a point, masked. -/
abbrev masked (t : Fin cfg0.N) (g : ℕ) (r c' : Fin 512) : EReal :=
  AttnRow.logit ((rowAt (colB t.val) c').val ≤ (rowAt (rowB t.val) r).val)
    (score (qOf m c) (kOf m c) (fOf m c) (headOfPoint t.val g) (rowAt (rowB t.val) r) (rowAt (colB t.val) c'))

include hq hk hf in
theorem newM_at (t : Fin cfg0.N) (M0 : S2x512x1.Idx → EReal) (g : Fin 2) (r : Fin 512) :
    newM (scoresAt m c t) M0 (ix3 g r (0 : Fin 1))
      = max (M0 (ix3 g r (0 : Fin 1))) (Finset.univ.fold max (⊥ : EReal) fun c' => masked (m := m) (c := c) t g.val r c') := by
  show max (M0 (ix3 g r (0 : Fin 1))) (Finset.univ.fold max (Ideal.ofBits .f32 0xFF800000#32) fun c' : Fin 512 => scoresAt m c t g.val r c') = _
  rw [minus_inf]
  simp only [scoresAt_eq hq hk hf t g.val g.isLt]

include hq hk hf in
theorem newL_at (t : Fin cfg0.N) (M0 L0 : S2x512x1.Idx → EReal) (g : Fin 2) (r : Fin 512) :
    newL (scoresAt m c t) M0 L0 (ix3 g r (0 : Fin 1))
      = Ideal.exp2 (M0 (ix3 g r (0 : Fin 1)) - newM (scoresAt m c t) M0 (ix3 g r (0 : Fin 1))) * L0 (ix3 g r (0 : Fin 1))
        + ∑ c', Ideal.exp2 (masked (m := m) (c := c) t g.val r c' - newM (scoresAt m c t) M0 (ix3 g r (0 : Fin 1))) := by
  show Ideal.exp2 (M0 (ix3 g r (0 : Fin 1)) - newM (scoresAt m c t) M0 (ix3 g r (0 : Fin 1))) * L0 (ix3 g r (0 : Fin 1))
        + ∑ c' : Fin 512, Ideal.exp2 (scoresAt m c t g.val r c' - newM (scoresAt m c t) M0 (ix3 g r (0 : Fin 1))) = _
  simp only [scoresAt_eq hq hk hf t g.val g.isLt]

include hq hk hf in
theorem newA_at (t : Fin cfg0.N) (M0 : S2x512x1.Idx → EReal) (A0 : S512x256.Idx → EReal) (g : Fin 2) (r : Fin 512) (d : Fin 128) :
    newA (iblk m c 2 t) (scoresAt m c t) M0 A0 (ix2 r (col g.val d))
      = Ideal.exp2 (M0 (ix3 g r (0 : Fin 1)) - newM (scoresAt m c t) M0 (ix3 g r (0 : Fin 1))) * A0 (ix2 r (col g.val d))
        + ∑ c', Ideal.exp2 (masked (m := m) (c := c) t g.val r c' - newM (scoresAt m c t) M0 (ix3 g r (0 : Fin 1)))
          * vOf m c (ix2 (rowAt (colB t.val) c') (hcol (headOfPoint t.val g.val) d)) := by
  obtain ⟨h1, h2, h3, -⟩ := facts t
  have hg := g.isLt
  have eg : headAt (col g.val d) = g := Fin.ext (by simp only; omega)
  have ec : (⟨(256 * (t.val / 36) + (col g.val d).val) % 1024, Nat.mod_lt _ (by norm_num)⟩ : Fin 1024) = hcol (headOfPoint t.val g.val) d :=
    Fin.ext (by simp only; omega)
  show Ideal.exp2 (M0 (ix3 (headAt (col g.val d)) r (0 : Fin 1)) - newM (scoresAt m c t) M0 (ix3 (headAt (col g.val d)) r (0 : Fin 1))) * A0 (ix2 r (col g.val d))
        + ∑ c' : Fin 512, Ideal.exp2 (scoresAt m c t (headAt (col g.val d)).val r c' - newM (scoresAt m c t) M0 (ix3 (headAt (col g.val d)) r (0 : Fin 1)))
          * iblk m c 2 t (ix2 c' (col g.val d)) = _
  rw [eg]
  simp only [scoresAt_eq hq hk hf t g.val g.isLt, read_v, ec]

include hq hk hf in
/-- What stands after a point: the weights and weighted values of the row's blocks so far. -/
theorem after_point : ∀ (n : ℕ) (hn : n < cfg0.N) (g : Fin 2) (r : Fin 512),
    AttnRow.Holds ((outsAt0 m c n hn).2.2.1 (ix3 g r (0 : Fin 1))) ((outsAt0 m c n hn).2.2.2.1 (ix3 g r (0 : Fin 1)))
      (fun d : Fin 128 => (outsAt0 m c n hn).2.2.2.2 (ix2 r (col g.val d)))
      (∑ J ∈ Finset.range (colB n + 1), blockWeights m c (headOfPoint n g.val) (rowAt (rowB n) r) J)
      (fun d => ∑ J ∈ Finset.range (colB n + 1), blockValues m c (headOfPoint n g.val) (rowAt (rowB n) r) J d) := by
  intro n
  induction n using Nat.strong_induction_on with
  | _ n ih =>
  intro hn g r
  obtain ⟨h1, h2, h3, -, h5, -, h7⟩ := facts ⟨n, hn⟩
  dsimp only at h1 h2 h3 h5 h7
  have hok : ∃ c' : Fin 512, (rowAt (colB n) c').val ≤ (rowAt (rowB n) r).val := ⟨0, by simp only [Fin.val_zero]; omega⟩
  have em := max_after m c ⟨n, hn⟩
  have es := sum_after m c ⟨n, hn⟩
  have ea := acc_after m c ⟨n, hn⟩
  dsimp only at em es ea
  rw [em, es, ea, newL_at hq hk hf ⟨n, hn⟩]
  simp only [newA_at hq hk hf ⟨n, hn⟩]
  by_cases hs : Starts ⟨n, hn⟩
  · have e0 := h5.mp hs
    have H := AttnRow.Holds.first (fun c' : Fin 512 => (rowAt (colB n) c').val ≤ (rowAt (rowB n) r).val)
      (fun c' => score (qOf m c) (kOf m c) (fOf m c) (headOfPoint n g.val) (rowAt (rowB n) r) (rowAt (colB n) c'))
      (fun c' (d : Fin 128) => vOf m c (ix2 (rowAt (colB n) c') (hcol (headOfPoint n g.val) d))) hok _
      (newM_at hq hk hf ⟨n, hn⟩ (fun _ => (⊥ : EReal)) g r)
    have er : Finset.range (colB n + 1) = {colB n} := by rw [e0]; rfl
    simp only [er, Finset.sum_singleton]
    unfold maxBefore sumBefore accBefore
    rw [if_pos hs, if_pos hs, if_pos hs, named_mask]
    exact H
  · obtain ⟨e1, e2, e3⟩ := h7 hs
    have hlt : n - 1 < n := by
      rcases Nat.eq_zero_or_pos n with rfl | hp
      · exact absurd (Or.inl rfl) hs
      · omega
    have P := ih (n - 1) hlt (lt_trans hlt hn) g r
    have eh : headOfPoint (n - 1) g.val = headOfPoint n g.val := Fin.ext (by simp only; rw [e3])
    rw [e1, e2, eh] at P
    have H := AttnRow.Holds.next (fun c' : Fin 512 => (rowAt (colB n) c').val ≤ (rowAt (rowB n) r).val)
      (fun c' => score (qOf m c) (kOf m c) (fOf m c) (headOfPoint n g.val) (rowAt (rowB n) r) (rowAt (colB n) c'))
      (fun c' (d : Fin 128) => vOf m c (ix2 (rowAt (colB n) c') (hcol (headOfPoint n g.val) d))) P
      (Finset.sum_nonneg fun J _ => Finset.sum_nonneg fun c' _ => AttnRow.weight_nonneg _ _) hok _
      (newM_at hq hk hf ⟨n, hn⟩ _ g r)
    simp only [Finset.sum_range_succ _ (colB n)]
    unfold maxBefore sumBefore accBefore
    rw [if_neg hs, if_neg hs, if_neg hs]
    exact H

end Run

/-! ## The arrays -/

section Arrays
variable {m c} (hq : Real' (qOf m c)) (hk : Real' (kOf m c)) (hf : Real' (fOf m c))

/-- A sum over the blocks up to a row's own of terms that vanish at later keys is the sum over all keys. -/
theorem sum_blocks {α : Type} [AddCommMonoid α] (R : Fin 4096) (I : ℕ) (hI : R.val / 512 = I) (φ : Fin 4096 → α) (h0 : ∀ j : Fin 4096, R.val < j.val → φ j = 0) :
    ∑ J ∈ Finset.range (I + 1), ∑ c' : Fin 512, φ (rowAt J c') = ∑ j : Fin 4096, φ j := by
  have e1 : ∑ J ∈ Finset.range (I + 1), ∑ c' : Fin 512, φ (rowAt J c') = ∑ J ∈ Finset.range 8, ∑ c' : Fin 512, φ (rowAt J c') := by
    refine Finset.sum_subset (fun J hJ => ?_) (fun J hJ hJ' => Finset.sum_eq_zero fun c' _ => h0 _ ?_)
    · rw [Finset.mem_range] at hJ ⊢
      omega
    · rw [Finset.mem_range] at hJ hJ'
      simp only
      omega
  rw [e1, Finset.sum_range]
  refine Fin.sum_mul_add_congr fun s k hl => ?_
  exact congrArg φ (Fin.ext (by simp only; omega))

include hq hk hf in
/-- What stands after a point on the diagonal: all the weights and weighted values of the row. -/
theorem after_diag (t : Fin cfg0.N) (hd : OnDiag t) (g : Fin 2) (r : Fin 512) :
    AttnRow.Holds ((outsAt0 m c t.val t.isLt).2.2.1 (ix3 g r (0 : Fin 1))) ((outsAt0 m c t.val t.isLt).2.2.2.1 (ix3 g r (0 : Fin 1)))
      (fun d : Fin 128 => (outsAt0 m c t.val t.isLt).2.2.2.2 (ix2 r (col g.val d)))
      (total (qOf m c) (kOf m c) (fOf m c) (headOfPoint t.val g.val) (rowAt (rowB t.val) r))
      (fun d => ∑ j : Fin 4096, (wt (qOf m c) (kOf m c) (fOf m c) (headOfPoint t.val g.val) (rowAt (rowB t.val) r) j : EReal)
        * vOf m c (ix2 j (hcol (headOfPoint t.val g.val) d))) := by
  obtain ⟨h1, h2, h3, -, -, h5, -⟩ := facts t
  have H := after_point hq hk hf t.val t.isLt g r
  have e : colB t.val = rowB t.val := h5.mp hd
  have eI : (rowAt (rowB t.val) r).val / 512 = rowB t.val := by simp only; omega
  have hz : ∀ j : Fin 4096, (rowAt (rowB t.val) r).val < j.val → wt (qOf m c) (kOf m c) (fOf m c) (headOfPoint t.val g.val) (rowAt (rowB t.val) r) j = 0 := by
    intro j hj
    unfold wt AttnRow.weight
    rw [if_neg (by omega)]
  rw [e] at H
  have ew := sum_blocks (rowAt (rowB t.val) r) _ eI (fun j => wt (qOf m c) (kOf m c) (fOf m c) (headOfPoint t.val g.val) (rowAt (rowB t.val) r) j) hz
  have ev : (fun d : Fin 128 => ∑ J ∈ Finset.range (rowB t.val + 1), blockValues m c (headOfPoint t.val g.val) (rowAt (rowB t.val) r) J d)
      = fun d : Fin 128 => ∑ j : Fin 4096, (wt (qOf m c) (kOf m c) (fOf m c) (headOfPoint t.val g.val) (rowAt (rowB t.val) r) j : EReal)
        * vOf m c (ix2 j (hcol (headOfPoint t.val g.val) d)) := by
    funext d
    exact sum_blocks (rowAt (rowB t.val) r) _ eI (fun j => (wt (qOf m c) (kOf m c) (fOf m c) (headOfPoint t.val g.val) (rowAt (rowB t.val) r) j : EReal)
        * vOf m c (ix2 j (hcol (headOfPoint t.val g.val) d))) fun j hj => by rw [hz j hj, EReal.coe_zero, zero_mul]
  unfold total
  rw [← ev, ← ew]
  exact H

/-- A query's weights together are positive: its own key counts. -/
theorem total_pos (q k : S4096x1024.Idx → EReal) (f : S4096x128.Idx → EReal) (h : Fin 8) (R : Fin 4096) : 0 < total q k f h R :=
  Finset.sum_pos' (fun j _ => AttnRow.weight_nonneg _ _) ⟨R, Finset.mem_univ R, AttnRow.weight_pos le_rfl _⟩

/-- The points that write back are those on the diagonal. -/
theorem flush_diag : ∀ t : Fin cfg0.N, ((cfg0.win 5).flush t = true → OnDiag t) ∧ ((cfg0.win 6).flush t = true → OnDiag t) :=
  (by decide +kernel : ∀ t : Fin grid0.N, _)

/-- The element of the arrays that a point's block holds at an index. -/
theorem emb_out (t : Fin cfg0.N) (y : S512x256.Idx) (X : S4096x1024.Idx → EReal) :
    X ((win0_5.blk t).view.emb y) = X (ix2 (rowAt (rowB t.val) (y 0)) (hcol (headOfPoint t.val (headAt (y 1)).val) ⟨(y 1).val % 128, Nat.mod_lt _ (by norm_num)⟩))
    ∧ X ((win0_6.blk t).view.emb y) = X (ix2 (rowAt (rowB t.val) (y 0)) (hcol (headOfPoint t.val (headAt (y 1)).val) ⟨(y 1).val % 128, Nat.mod_lt _ (by norm_num)⟩)) := by
  obtain ⟨h1, h2, h3, -⟩ := facts t
  constructor <;> blk_point [idx t]

/-- The head and the lane of a column of a point's block. -/
theorem headOf_hcol (h : Fin 8) (d : Fin 128) : headOf (hcol h d) = h := Fin.ext (by simp only; omega)

/-- A column of a pair of heads by its head and its lane. -/
theorem col_headAt (x : Fin 256) : col (headAt x).val ⟨x.val % 128, Nat.mod_lt _ (by norm_num)⟩ = x := Fin.ext (by simp only; omega)

/-- The weighted means at a head's column. -/
theorem attended_at (q k v : S4096x1024.Idx → EReal) (f : S4096x128.Idx → EReal) (R : Fin 4096) (h : Fin 8) (d : Fin 128) :
    attended q k v f (ix2 R (hcol h d)) = ((1 / total q k f h R : ℝ) : EReal) * ∑ j : Fin 4096, (wt q k f h R j : EReal) * v (ix2 j (hcol h d)) := by
  show ((1 / total q k f (headOf (hcol h d)) R : ℝ) : EReal) * ∑ j : Fin 4096, (wt q k f (headOf (hcol h d)) R j : EReal) * v (ix2 j (hcol h d)) = _
  rw [headOf_hcol]

/-- The logarithms at a head's column. -/
theorem logTotal_at (q k : S4096x1024.Idx → EReal) (f : S4096x128.Idx → EReal) (R : Fin 4096) (h : Fin 8) (d : Fin 128) :
    logTotal q k f (ix2 R (hcol h d)) = ((Real.log (total q k f h R) * (Real.log 2)⁻¹ : ℝ) : EReal) := by
  show ((Real.log (total q k f (headOf (hcol h d)) R) * (Real.log 2)⁻¹ : ℝ) : EReal) = _
  rw [headOf_hcol]

include hq hk hf in
/-- The array of the weighted means when the grid is done. -/
theorem final_means : (dats m 0 c).arrAt 5 cfg0.N = attended (qOf m c) (kOf m c) (vOf m c) (fOf m c) := by
  refine (dats m 0 c).arrAt_eq_of_covers 5 _ (by decide +kernel) fun t hf' y => ?_
  have hd := (flush_diag t).1 hf'
  blk_simp
  rw [after0_5, out_after m c t hd]
  refine Eq.trans ?_ (emb_out t y _).1.symm
  rw [attended_at]
  have H := (after_diag hq hk hf t hd (headAt (y 1)) (y 0)).mean (total_pos _ _ _ _ _) ⟨(y 1).val % 128, Nat.mod_lt _ (by norm_num)⟩
  have e : ix2 (y 0) (col (headAt (y 1)).val ⟨(y 1).val % 128, Nat.mod_lt _ (by norm_num)⟩) = y := by
    rw [show col (headAt (y 1)).val ⟨(y 1).val % 128, Nat.mod_lt _ (by norm_num)⟩ = y 1 from col_headAt (y 1)]
    exact ix2_eta y
  exact (congrArg (fun z => Ideal.div ((outsAt0 m c t.val t.isLt).2.2.2.2 z) ((outsAt0 m c t.val t.isLt).2.2.2.1 (ix3 (headAt (y 1)) (y 0) 0))) e.symm).trans H

include hq hk hf in
/-- The array of the logarithms when the grid is done. -/
theorem final_logs : (dats m 0 c).arrAt 6 cfg0.N = logTotal (qOf m c) (kOf m c) (fOf m c) := by
  refine (dats m 0 c).arrAt_eq_of_covers 6 _ (by decide +kernel) fun t hf' y => ?_
  have hd := (flush_diag t).2 hf'
  blk_simp
  rw [after0_6, lse_after m c t hd]
  refine Eq.trans ?_ (emb_out t y _).2.symm
  rw [logTotal_at]
  have H := (after_diag hq hk hf t hd (headAt (y 1)) (y 0)).logsum (total_pos _ _ _ _ _)
  simp only [named_log2e]
  exact H

end Arrays

end Cert.AttnFwdIdeal.Product

end
-- ==== Proof.AttnSame.lean ====
/- Causal attention with a gate on every row and key: the reference takes all of a row's keys at once, under the natural exponential and the
   row's true maximum. Here it is shown to be the weighted means and the logarithms that the kernel's grid leaves. -/
module

public import proofs.«01_k».proof.Proof.ValAttnFwd
public import proofs.«01_k».proof.Proof.PoolPre
public import proofs.«01_k».proof.Pre_attention_finite
public import proofs.«01_k».proof.Defs

@[expose] public section

set_option maxRecDepth 16384

noncomputable section

/-- The shapes of the precondition's operations fit. -/
theorem Cert.Pre_attention_finite.shapes_fit : Cert.Pre_attention_finite.Facts where
  bitsLt_bf16_f32 := by decide
  bcast_S_S4096x1024 := by decide
  reducesTo_S4096x1024_S_d0_1 := by decide
  h_S_ := by decide
  bcast_S_S4096x128 := by decide
  reducesTo_S4096x128_S_d0_1 := by decide

namespace Cert.AttnFwdIdeal.Product

open Idealize.ShloMosaic Idealize.ShloMosaic.TcCoe Idealize.SL.Sem
open Cert.AttnFwdIdeal Cert.AttnFwdIdeal.Gen
open scoped BigOperators
open Cert.KernelIdeal.PoolValue (IsReal isReal_of_lt)

/-! ## The reference -/

section Reference
open Cert.AttnFwdRefIdeal.Read
variable (q k v : S4096x1024.Idx → EReal) (f : S4096x128.Idx → EReal) (hq : Real' q) (hk : Real' k) (hf : Real' f)

/-- A key's logit for a query, to the base e and without the block's gate. -/
def natLogit (h : Fin 8) (R j : Fin 4096) : ℝ := dot q k h R j * (Real.sqrt 128)⁻¹ + (gateAt f h R - gateAt f h j)

/-- What the base-two scores have more than the reference's. -/
def gateGap (h : Fin 8) (R : Fin 4096) : ℝ := gateTop f h (R.val / 512) - gateAt f h R

/-- A base-two score of a natural one. -/
theorem score_eq (h : Fin 8) (R j : Fin 4096) : score q k f h R j = (natLogit q k f h R j + gateGap f h R) * (Real.log 2)⁻¹ := by
  unfold score natLogit gateGap
  ring

/-- The root of the head's width. -/
theorem sqrt_128 : Ideal.sqrt (Ideal.ofBits .f32 0x43000000#32) = ((Real.sqrt 128 : ℝ) : EReal) := by
  rw [show Ideal.ofBits .f32 0x43000000#32 = ((128 : ℝ) : EReal) by simp [Ideal.ofBits, Ideal.ieee, -EReal.coe_mul]; norm_num, Ideal.sqrt_coe, if_neg (by norm_num)]

/-- The logarithm of two. -/
theorem log_2 : Ideal.log (Ideal.ofBits .f32 0x40000000#32) = ((Real.log 2 : ℝ) : EReal) := by
  rw [show Ideal.ofBits .f32 0x40000000#32 = ((2 : ℝ) : EReal) by simp [Ideal.ofBits, Ideal.ieee, -EReal.coe_mul]; norm_num, Ideal.log_coe, if_neg (by norm_num)]

include hq hk hf in
/-- The reference's masked logits. -/
theorem reference_logits (h : Fin 8) (R j : Fin 4096) :
    val_main_v22 (F := Ideal) q k f (ix3 h R j) = AttnRow.logit (j.val ≤ R.val) (natLogit q k f h R j) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_cst, val_main_cst_0, val_main_call0_v0, val_main_call0_v1, val_main_call0_v2]
  rw [select_sge _ _ R.isLt j.isLt]
  unfold AttnRow.logit
  split
  · rw [sqrt_128, Ideal.div_coe (Real.sqrt_pos.mpr (by norm_num)).ne', one_div]
    have e : (∑ x : Fin 128, q (ix2 R ⟨h.val * 128 + x.val, by omega⟩) * k (ix2 j ⟨h.val * 128 + x.val, by omega⟩)) = ((dot q k h R j : ℝ) : EReal) := by
      unfold dot
      rw [AttnRow.coe_sum]
      refine Finset.sum_congr rfl fun x _ => ?_
      rw [EReal.coe_mul, ← hq, ← hk, show (⟨h.val * 128 + x.val, by omega⟩ : Fin 1024) = hcol h x from Fin.ext (by simp only; omega)]
    have e1 : f (ix2 R ⟨h.val, by omega⟩) = ((gateAt f h R : ℝ) : EReal) := hf _
    have e2 : f (ix2 j ⟨h.val, by omega⟩) = ((gateAt f h j : ℝ) : EReal) := hf _
    rw [e, e1, e2, ← EReal.coe_mul, ← EReal.coe_sub, ← EReal.coe_add]
    rfl
  · exact minus_inf

include hq hk hf in
/-- The reference's largest logit is real, and its exponentials are the weights but for one factor. -/
theorem reference_row (h : Fin 8) (R : Fin 4096) : ∃ T : ℝ, val_main_v23 (F := Ideal) q k f (ix2 h R) = (T : EReal) ∧
    (∀ j, Ideal.exp (val_main_v22 (F := Ideal) q k f (ix3 h R j) - val_main_v23 (F := Ideal) q k f (ix2 h R))
      = ((Real.exp (-T - gateGap f h R) * wt q k f h R j : ℝ) : EReal)) ∧
    val_main_v28 (F := Ideal) q k f (ix2 h R) = ((Real.exp (-T - gateGap f h R) * total q k f h R : ℝ) : EReal) := by
  obtain ⟨T, hT⟩ := AttnRow.max_real (fun j : Fin 4096 => j.val ≤ R.val) (natLogit q k f h R) ⟨R, le_rfl⟩
  have top : val_main_v23 (F := Ideal) q k f (ix2 h R) = (T : EReal) := by
    pointwise [val_main_v23, val_main_cst_1]
    rw [minus_inf]
    simp only [reference_logits q k f hq hk hf]
    exact hT
  have key : ∀ j, Ideal.exp (val_main_v22 (F := Ideal) q k f (ix3 h R j) - val_main_v23 (F := Ideal) q k f (ix2 h R))
      = ((Real.exp (-T - gateGap f h R) * wt q k f h R j : ℝ) : EReal) := fun j => by
    rw [top, reference_logits q k f hq hk hf, AttnRow.exp_logit _ _ _ (gateGap f h R)]
    unfold wt
    rw [score_eq]
  refine ⟨T, top, key, ?_⟩
  pointwise [val_main_v24, val_main_v25, val_main_v26, val_main_v27, val_main_v28, val_main_cst_2]
  simp only [key]
  rw [← AttnRow.coe_sum, ← Finset.mul_sum]
  rfl

include hq hk hf in
/-- The reference's weighted means. -/
theorem reference_means : val_main_v36 (F := Ideal) q k v f = attended q k v f := by
  funext i
  obtain ⟨R, x, rfl⟩ : ∃ R x, i = ix2 R x := ⟨i 0, i 1, (ix2_eta i).symm⟩
  obtain ⟨T, -, key, sum⟩ := reference_row q k f hq hk hf (headOf x) R
  pointwise [val_main_v29, val_main_v30, val_main_v31, val_main_v32, val_main_v33, val_main_v34, val_main_v35, val_main_v36, val_main_v24, val_main_v25, val_main_v26, val_main_v27]
  have ht := total_pos q k f (headOf x) R
  show _ = ((1 / total q k f (headOf x) R : ℝ) : EReal) * ∑ j : Fin 4096, (wt q k f (headOf x) R j : EReal) * v (ix2 j x)
  rw [AttnRow.coe_mul_sum _ (one_div_pos.mpr ht).le]
  refine Finset.sum_congr rfl fun j _ => ?_
  rw [key j, sum, Ideal.div_coe (mul_pos (Real.exp_pos _) ht).ne', ← EReal.coe_mul, ← mul_assoc, ← EReal.coe_mul, mul_comm]
  congr 2
  have hT := (Real.exp_pos (-T - gateGap f (headOf x) R)).ne'
  field_simp

include hq hk hf in
/-- The reference's logarithms. -/
theorem reference_lse : val_main_v53 (F := Ideal) q k f = logTotal q k f := by
  funext i
  obtain ⟨R, x, rfl⟩ : ∃ R x, i = ix2 R x := ⟨i 0, i 1, (ix2_eta i).symm⟩
  obtain ⟨T, top, -, sum⟩ := reference_row q k f hq hk hf (headOf x) R
  pointwise [val_main_v37, val_main_v38, val_main_v39, val_main_v40, val_main_v41, val_main_v42, val_main_v43, val_main_v44, val_main_v45, val_main_v46, val_main_v47, val_main_v48, val_main_v49, val_main_v50, val_main_v51, val_main_v52, val_main_v53, val_main_v24, val_main_v29, val_main_v0, val_main_cst_3, val_main_cst_4]
  have ht := total_pos q k f (headOf x) R
  have e1 : f (ix2 R ⟨(headOf x).val, by omega⟩) = ((gateAt f (headOf x) R : ℝ) : EReal) := hf _
  have e2 : (fun r : Fin 512 => f (ix2 ⟨R.val / 512 * 512 + r.val, by omega⟩ ⟨x.val / 128, by omega⟩))
      = fun r : Fin 512 => f (ix2 (rowAt (R.val / 512) r) ⟨(headOf x).val, by omega⟩) := by
    funext r
    rw [show (⟨R.val / 512 * 512 + r.val, by omega⟩ : Fin 4096) = rowAt (R.val / 512) r from Fin.ext (by simp only; omega)]
  have e3 := (congrArg₂ (fun (b : EReal) (z : Fin 512 → EReal) => Finset.univ.fold max b z) minus_inf e2).trans (gateTop_coe hf (headOf x) (R.val / 512))
  exact (congrArg₂ Ideal.div (congrArg₂ (· + ·) (congrArg₂ (· - ·) (congrArg₂ (· + ·) (congrArg Ideal.log sum) top) e1) e3) log_2).trans
    (AttnRow.natural_log ht T _ _)

/-- One index. -/
instance : Subsingleton Cert.Pre_attention_finite.S_.Idx := ⟨fun a b => funext fun k => k.elim0⟩

/-- The precondition makes the queries, the keys and the gates real numbers. -/
theorem entries_real [Cert.Pre_attention_finite.Facts] (h : Cert.Pre_attention_finite.fn (F := Ideal) q k v f = fun _ => 1#1) :
    Real' q ∧ Real' k ∧ Real' f := by
  have h0 := congrFun h (fun k => k.elim0)
  unfold Cert.Pre_attention_finite.fn at h0
  dsimp only at h0
  obtain ⟨h12, h3⟩ := IntOp.andi_eq_one.mp h0
  obtain ⟨h1, h2⟩ := IntOp.andi_eq_one.mp h12
  have real : ∀ {x : EReal}, IsReal x → x = (x.toReal : EReal) := fun ⟨r, e⟩ => by rw [e, EReal.toReal_coe]
  exact ⟨fun i => real (isReal_of_lt _ (Host.reduce_andi_all _ _ _ _ _ h1 i)), fun i => real (isReal_of_lt _ (Host.reduce_andi_all _ _ _ _ _ h2 i)),
    fun i => real (isReal_of_lt _ (Host.reduce_andi_all _ _ _ _ _ h3 i))⟩

end Reference

/-- Under the precondition the arguments' queries, keys and gates are real numbers. -/
theorem attention_real (m : (ℓ : Loc nD τ sig) → Buf (Elt Ideal) ℓ) (c : Dev nD)
    (h : (haveI := Cert.Pre_attention_finite.shapes_fit; Cert.Pre_attention_finite.fn (F := Ideal) (qOf m c) (kOf m c) (vOf m c) (fOf m c)) = fun _ => 1#1) :
    Real' (qOf m c) ∧ Real' (kOf m c) ∧ Real' (fOf m c) :=
  haveI := Cert.Pre_attention_finite.shapes_fit
  entries_real _ _ _ _ h

/-- Each named constant's pattern is the one of its value. -/
theorem constants_named : Cert.preserves_AttnFwd_AttnFwdIdeal := ⟨IdealRules.named_const.statement κ "mask" .f32 _ _ rfl,
  IdealRules.named_const.statement κ "scale_log2e" .f32 _ _ rfl,
  IdealRules.named_const.statement κ "log2e" .f32 _ _ rfl⟩

end Cert.AttnFwdIdeal.Product

end
-- ==== Proof.ValNorm3Bwd.lean ====
/- The gradient of the last normalisation and of its conditioning, with the branch below. The grid is that of the mixer's normalisation;
   the branch below takes the whole of the rows' gradient times the gate. -/
module

public import proofs.«01_k».proof.Proof.Gen.Norm3BwdIdeal.Value
public import proofs.«01_k».proof.Proof.Gen.Norm3BwdRefIdeal.Read
public import proofs.«01_k».proof.Proof.ValNorm1Bwd

@[expose] public section

set_option maxRecDepth 16384

noncomputable section

namespace Cert.Norm3BwdIdeal.Product

open Idealize.ShloMosaic Idealize.ShloMosaic.TcCoe Idealize.SL.Sem
open Cert.Norm3BwdIdeal Cert.Norm3BwdIdeal.Gen
open Cert.Norm1BwdIdeal.Product (rstd reach rowsGrad shiftGrad scaleGrad weightGrad)
open scoped BigOperators

/-- The gradient of the branch below: the gate times the rows' gradient. -/
def branchGrad (dx : S4096x2048.Idx → EReal) (gate : S1x2048.Idx → EReal) : S4096x2048.Idx → EReal :=
  fun i => gate (ix2 (0 : Fin 1) (i 1 : Fin 2048)) * dx (ix2 (i 0 : Fin 4096) (i 1 : Fin 2048))

/-- The gate's gradient: the branch's output against the rows' gradient. -/
def gateGrad (dx f : S4096x2048.Idx → EReal) : S1x2048.Idx → EReal := fun i =>
  ∑ r : Fin 4096, f (ix2 r (i 1 : Fin 2048)) * dx (ix2 r (i 1 : Fin 2048))

variable (m : (ℓ : Loc nD τ sig) → Buf (Elt Ideal) ℓ) (c : Dev nD)

/-- The stream in memory. -/
abbrev inOf : S4096x2048.Idx → EReal := m ((c : Thread nD τ).loc main_arg0)
/-- The incoming gradient in memory. -/
abbrev gradOf : S4096x2048.Idx → EReal := m ((c : Thread nD τ).loc main_arg1)
/-- The gradient that comes past the branch, in memory. -/
abbrev pastOf : S4096x2048.Idx → EReal := m ((c : Thread nD τ).loc main_arg2)
/-- The output of the branch below, in memory. -/
abbrev branchOf : S4096x2048.Idx → EReal := m ((c : Thread nD τ).loc main_arg3)
/-- The normalisation's weights in memory. -/
abbrev wOf : S1x2048.Idx → EReal := m ((c : Thread nD τ).loc main_arg4)
/-- The conditioning's scale in memory. -/
abbrev scaleOf : S1x2048.Idx → EReal := m ((c : Thread nD τ).loc main_arg5)
/-- The gate of the branch below, in memory. -/
abbrev gateOf : S1x2048.Idx → EReal := m ((c : Thread nD τ).loc main_arg6)
/-- The rows' gradient of the arguments in memory. -/
abbrev rowsOf : S4096x2048.Idx → EReal := rowsGrad (inOf m c) (gradOf m c) (pastOf m c) (wOf m c) (scaleOf m c)

/-- Which blocks a grid point reads and writes. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] ∧ win0_8.index t = ![t.val, 0] ∧ win0_9.index t = ![0, 0] ∧ win0_10.index t = ![0, 0]
    ∧ win0_11.index t = ![0, 0] ∧ win0_12.index t = ![0, 0] :=
  (by decide +kernel : ∀ t : Fin grid0.N, _)

/-- The grid has sixteen points. -/
theorem point_lt (t : Fin cfg0.N) : t.val < 16 := lt_of_lt_of_eq t.isLt N_0

/-- A grid point's block of the rows' gradient. -/
abbrev rowsBlk (t : Fin cfg0.N) : S256x2048.Idx → EReal :=
  k0_pay7 (F := Ideal) (iblk m c 0 t) (iblk m c 1 t) (iblk m c 2 t) (iblk m c 4 t) (iblk m c 5 t)

/-- What a grid point leaves in its two blocks of rows, whether it is the first or a later one. -/
theorem rows_at (t : Fin cfg0.N) : (outsAt0 m c t.val t.isLt).1 = rowsBlk m c t
    ∧ (outsAt0 m c t.val t.isLt).2.1 = k0_pay12 (F := Ideal) (iblk m c 6 t) (rowsBlk m c t) := by
  have ht := point_lt t
  by_cases h : t.val % 16 = 0
  · have h1 : ¬1 ≤ t.val := by omega
    rw [outsAt0_A m c t h h1 h h1 h h1 h h1]
    constructor <;> frame_out
  · have h1 : 1 ≤ t.val := by omega
    rw [outsAt0_B m c t h h1 h h1 h h1 h h1]
    constructor <;> frame_out

/-- The array of rows when the grid is done. -/
theorem final_rows : (dats m 0 c).arrAt 7 cfg0.N = rowsOf m c := by
  refine (dats m 0 c).arrAt_eq_of_covers 7 _ (by decide +kernel) fun t _ y => ?_
  blk_simp
  rw [after0_7, (rows_at m c t).1]
  unfold rowsBlk
  open_payloads
  pointwise [rowsGrad, reach, rstd]
  blk_point [iblk, V, idx t]

/-- The array of the branch's gradient when the grid is done. -/
theorem final_branch : (dats m 0 c).arrAt 8 cfg0.N = branchGrad (rowsOf m c) (gateOf m c) := by
  refine (dats m 0 c).arrAt_eq_of_covers 8 _ (by decide +kernel) fun t _ y => ?_
  blk_simp
  rw [after0_8, (rows_at m c t).2]
  unfold rowsBlk
  open_payloads
  pointwise [branchGrad, rowsGrad, reach, rstd]
  blk_point [iblk, V, idx t]

/-- The array of the shift's gradient when the grid is done. -/
theorem final_shift : (dats m 0 c).arrAt 9 cfg0.N = shiftGrad (gradOf m c) := by
  refine (dats m 0 c).arrAt_eq_of_covers 9 _ (by decide +kernel) fun t hf y => ?_
  blk_simp
  rw [after0_9, Pipeline.eq_sum_fin_of_reset_step_apply_of_flush (fun n h => (outsAt0 m c n h).2.2.1) 16 (fun _ => 0)
    (fun t => k0_pay8 (F := Ideal) (iblk m c 1 t))
    (fun t h j => by
      have h1 : ¬1 ≤ t.val := by have := point_lt t; omega
      rw [outsAt0_A m c t h h1 h h1 h h1 h h1]; frame_out
      exact (zero_add _).symm)
    (fun t h j => by
      have h1 : 1 ≤ t.val := by omega
      rw [outsAt0_B m c t h h1 h h1 h h1 h h1]; frame_out
      pointwise [k0_pay13])
    t ((flush0_9 t).mp hf) _, zero_add]
  open_payloads
  pointwise [shiftGrad]
  refine Fin.sum_mul_add_congr fun s k hl => ?_
  blk_point [iblk, V, idx t, idx ⟨_, Pipeline.run_point_lt_of_flush t ((flush0_9 t).mp hf) s⟩]

/-- The array of the scale's gradient when the grid is done. -/
theorem final_scale : (dats m 0 c).arrAt 10 cfg0.N = scaleGrad (inOf m c) (gradOf m c) (wOf m c) := by
  refine (dats m 0 c).arrAt_eq_of_covers 10 _ (by decide +kernel) fun t hf y => ?_
  blk_simp
  rw [after0_10, Pipeline.eq_sum_fin_of_reset_step_apply_of_flush (fun n h => (outsAt0 m c n h).2.2.2.1) 16 (fun _ => 0)
    (fun t => k0_pay9 (F := Ideal) (iblk m c 1 t) (k0_pay5 (F := Ideal) (iblk m c 0 t) (iblk m c 4 t)))
    (fun t h j => by
      have h1 : ¬1 ≤ t.val := by have := point_lt t; omega
      rw [outsAt0_A m c t h h1 h h1 h h1 h h1]; frame_out
      exact (zero_add _).symm)
    (fun t h j => by
      have h1 : 1 ≤ t.val := by omega
      rw [outsAt0_B m c t h h1 h h1 h h1 h h1]; frame_out
      pointwise [k0_pay14])
    t ((flush0_10 t).mp hf) _, zero_add]
  open_payloads
  pointwise [scaleGrad, rstd]
  refine Fin.sum_mul_add_congr fun s k hl => ?_
  blk_point [iblk, V, idx t, idx ⟨_, Pipeline.run_point_lt_of_flush t ((flush0_10 t).mp hf) s⟩]

/-- The array of the weights' gradient when the grid is done. -/
theorem final_weight : (dats m 0 c).arrAt 11 cfg0.N = weightGrad (inOf m c) (gradOf m c) (scaleOf m c) := by
  refine (dats m 0 c).arrAt_eq_of_covers 11 _ (by decide +kernel) fun t hf y => ?_
  blk_simp
  rw [after0_11, Pipeline.eq_sum_fin_of_reset_step_apply_of_flush (fun n h => (outsAt0 m c n h).2.2.2.2.1) 16 (fun _ => 0)
    (fun t => k0_pay10 (F := Ideal) (k0_pay4 (F := Ideal) (iblk m c 0 t)) (k0_pay6 (F := Ideal) (iblk m c 1 t) (iblk m c 5 t)))
    (fun t h j => by
      have h1 : ¬1 ≤ t.val := by have := point_lt t; omega
      rw [outsAt0_A m c t h h1 h h1 h h1 h h1]; frame_out
      exact (zero_add _).symm)
    (fun t h j => by
      have h1 : 1 ≤ t.val := by omega
      rw [outsAt0_B m c t h h1 h h1 h h1 h h1]; frame_out
      pointwise [k0_pay1])
    t ((flush0_11 t).mp hf) _, zero_add]
  open_payloads
  pointwise [weightGrad, rstd]
  refine Fin.sum_mul_add_congr fun s k hl => ?_
  blk_point [iblk, V, idx t, idx ⟨_, Pipeline.run_point_lt_of_flush t ((flush0_11 t).mp hf) s⟩]

/-- The array of the gate's gradient when the grid is done. -/
theorem final_gate : (dats m 0 c).arrAt 12 cfg0.N = gateGrad (rowsOf m c) (branchOf m c) := by
  refine (dats m 0 c).arrAt_eq_of_covers 12 _ (by decide +kernel) fun t hf y => ?_
  blk_simp
  rw [after0_12, Pipeline.eq_sum_fin_of_reset_step_apply_of_flush (fun n h => (outsAt0 m c n h).2.2.2.2.2) 16 (fun _ => 0)
    (fun t => k0_pay11 (F := Ideal) (iblk m c 3 t) (rowsBlk m c t))
    (fun t h j => by
      have h1 : ¬1 ≤ t.val := by have := point_lt t; omega
      rw [outsAt0_A m c t h h1 h h1 h h1 h h1]; frame_out
      exact (zero_add _).symm)
    (fun t h j => by
      have h1 : 1 ≤ t.val := by omega
      rw [outsAt0_B m c t h h1 h h1 h h1 h h1]; frame_out
      pointwise [k0_pay2])
    t ((flush0_12 t).mp hf) _, zero_add]
  unfold rowsBlk
  open_payloads
  pointwise [gateGrad, rowsGrad, reach, rstd]
  refine Fin.sum_mul_add_congr fun s k hl => ?_
  blk_point [iblk, V, idx t, idx ⟨_, Pipeline.run_point_lt_of_flush t ((flush0_12 t).mp hf) s⟩]

section Reference
open Cert.Norm3BwdRefIdeal.Read
variable (x dh dres f : S4096x2048.Idx → EReal) (g sc gate : S1x2048.Idx → EReal)

/-- The reference's shift gradient. -/
theorem reference_shift : val_main_v24 (F := Ideal) dh = shiftGrad dh :=
  Cert.Norm1BwdIdeal.Product.reference_shift dh

/-- The reference's scale gradient. -/
theorem reference_scale : val_main_v27 (F := Ideal) x dh g = scaleGrad x dh g :=
  Cert.Norm1BwdIdeal.Product.reference_scale x dh g

/-- The reference's weight gradient. -/
theorem reference_weight : val_main_v32 (F := Ideal) x dh sc = weightGrad x dh sc :=
  Cert.Norm1BwdIdeal.Product.reference_weight x dh sc

/-- The reference's gradient of the rows. -/
theorem reference_rows : val_main_v49 (F := Ideal) x dh dres g sc = rowsGrad x dh dres g sc :=
  Cert.Norm1BwdIdeal.Product.reference_rows x dh dres g sc

/-- The reference's gradient of the branch below. -/
theorem reference_branch : val_main_v57 (F := Ideal) x dh dres g sc gate = branchGrad (rowsGrad x dh dres g sc) gate := by
  unfold val_main_v57 val_main_v53
  rw [reference_rows]
  generalize rowsGrad x dh dres g sc = dx
  funext i
  pointwise [val_main_v52, branchGrad]

/-- The reference's gradient of the gate. -/
theorem reference_gate : val_main_v56 (F := Ideal) x dh dres f g sc = gateGrad (rowsGrad x dh dres g sc) f := by
  unfold val_main_v56 val_main_v55 val_main_v54
  rw [reference_rows]
  generalize rowsGrad x dh dres g sc = dx
  funext i
  pointwise [val_main_cst_11, gateGrad]
  exact Finset.sum_congr rfl fun r _ => mul_comm _ _

end Reference

end Cert.Norm3BwdIdeal.Product

end
-- ==== Proof.ValQkNormFwd.lean ====
/- The normalisation of the queries and keys: each of the sixteen grid points normalises 256 rows of eight heads, and passes the values
   on. Here the three arrays the grid leaves are shown to hold those rows, and the reference to be the same. -/
module

public import proofs.«01_k».proof.Proof.Gen.QkNormFwdIdeal.Value
public import proofs.«01_k».proof.Proof.Gen.QkNormFwdRefIdeal.Read
public import proofs.«01_k».proof.Proof.ValQkNormBwd

@[expose] public section

set_option maxRecDepth 16384

noncomputable section

namespace Cert.QkNormFwdIdeal.Product

open Idealize.ShloMosaic Idealize.ShloMosaic.TcCoe Idealize.SL.Sem
open Cert.QkNormFwdIdeal Cert.QkNormFwdIdeal.Gen
open Cert.QkNormBwdIdeal.Product (rstd lane headOf laneOf queryCol keyCol queries keys)
open scoped BigOperators

/-- The rows normalised head by head. -/
def normed (x : S4096x1024.Idx → EReal) (g : S1x128.Idx → EReal) : S4096x1024.Idx → EReal := fun i =>
  x i * rstd (fun k => x (ix2 (i 0 : Fin 4096) (lane (headOf (i 1 : Fin 1024)) k))) * g (ix2 (0 : Fin 1) (laneOf (i 1 : Fin 1024)))

/-- A value column among the projection's. -/
abbrev valueCol (k : Fin 1024) : Fin 4224 := ⟨2048 + k.val, by omega⟩

/-- The values among the projection's columns. -/
def values (p : S4096x4224.Idx → EReal) : S4096x1024.Idx → EReal := fun i =>
  p (ix2 (i 0 : Fin 4096) (valueCol (i 1 : Fin 1024)))

/-- A block's rows normalised head by head. -/
def blockNormed (x : S256x1024.Idx → EReal) (g : S1x128.Idx → EReal) : S256x1024.Idx → EReal := fun y =>
  x (ix2 (y 0 : Fin 256) (y 1 : Fin 1024)) * rstd (fun k => x (ix2 (y 0 : Fin 256) (lane (headOf (y 1 : Fin 1024)) k))) * g (ix2 (0 : Fin 1) (laneOf (y 1 : Fin 1024)))

/-! ## A block of 256 rows -/

section Block
variable (x : S256x1024.Idx → EReal) (g : S1x128.Idx → EReal)

/-- What the kernel leaves for the queries' block. -/
abbrev queryPay : S256x1024.Idx → EReal :=
  k0_pay1 (F := Ideal) (k0_pay14 (F := Ideal) x g (k0_pay4 (F := Ideal) x g) (k0_pay5 (F := Ideal) x g) (k0_pay8 (F := Ideal) g (k0_pay6 (F := Ideal) x) (k0_pay7 (F := Ideal) x))
    (k0_pay9 (F := Ideal) x g) (k0_pay10 (F := Ideal) x g) (k0_pay11 (F := Ideal) x g) (k0_pay12 (F := Ideal) x) (k0_pay13 (F := Ideal) x))

/-- What the kernel leaves for the keys' block. -/
abbrev keyPay : S256x1024.Idx → EReal :=
  k0_pay2 (F := Ideal) x g (k0_pay15 (F := Ideal) x g) (k0_pay16 (F := Ideal) x g) (k0_pay19 (F := Ideal) g (k0_pay17 (F := Ideal) x) (k0_pay18 (F := Ideal) x))
    (k0_pay20 (F := Ideal) x g) (k0_pay21 (F := Ideal) x g) (k0_pay22 (F := Ideal) x) (k0_pay23 (F := Ideal) g)

/-- The queries' block holds the normalised rows. -/
theorem query_pay : queryPay x g = blockNormed x g := by
  funext y
  unfold queryPay
  open_payloads
  pointwise [blockNormed, rstd]
  blk_point []

/-- The keys' block holds the normalised rows. -/
theorem key_pay : keyPay x g = blockNormed x g := by
  funext y
  unfold keyPay
  open_payloads
  pointwise [blockNormed, rstd]
  blk_point []

end Block

/-! ## What the grid leaves -/

section Final
variable (m : (ℓ : Loc nD τ sig) → Buf (Elt Ideal) ℓ) (c : Dev nD)

/-- The projection in memory. -/
abbrev projOf : S4096x4224.Idx → EReal := m ((c : Thread nD τ).loc main_arg0)
/-- The queries' weights in memory. -/
abbrev gqOf : S1x128.Idx → EReal := m ((c : Thread nD τ).loc main_arg1)
/-- The keys' weights in memory. -/
abbrev gkOf : S1x128.Idx → EReal := m ((c : Thread nD τ).loc main_arg2)

/-- Which blocks a grid point reads and writes. -/
theorem idx : ∀ t : Fin cfg0.N, win0_0.index t = ![t.val, 0] ∧ win0_1.index t = ![t.val, 1] ∧ win0_2.index t = ![t.val, 2]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

/-- The grid has sixteen points. -/
theorem point_lt (t : Fin cfg0.N) : t.val < 16 := lt_of_lt_of_eq t.isLt N_0

/-- Row `r` of a grid point's block, in the array. -/
abbrev rowOf (t : Fin cfg0.N) (r : Fin 256) : Fin 4096 := ⟨t.val * 256 + r.val, by have := point_lt t; omega⟩

/-- A grid point's rows of queries. -/
theorem read_queries (t : Fin cfg0.N) (y : S256x1024.Idx) : X0_0 m c t y = queries (projOf m c) (ix2 (rowOf t (y 0 : Fin 256)) (y 1 : Fin 1024)) := by
  unfold X0_0 Pipeline.Window.fill
  rw [dif_pos (moved0_0 t _)]
  pointwise [queries]
  blk_point [iblk, V, idx t]

/-- A grid point's rows of keys. -/
theorem read_keys (t : Fin cfg0.N) (y : S256x1024.Idx) : X0_1 m c t y = keys (projOf m c) (ix2 (rowOf t (y 0 : Fin 256)) (y 1 : Fin 1024)) := by
  unfold X0_1 Pipeline.Window.fill
  rw [dif_pos (moved0_1 t _)]
  pointwise [keys]
  blk_point [iblk, V, idx t]

/-- A grid point's rows of values. -/
theorem read_values (t : Fin cfg0.N) (y : S256x1024.Idx) : X0_2 m c t y = values (projOf m c) (ix2 (rowOf t (y 0 : Fin 256)) (y 1 : Fin 1024)) := by
  unfold X0_2 Pipeline.Window.fill
  rw [dif_pos (moved0_2 t _)]
  pointwise [values]
  blk_point [iblk, V, idx t]

/-- What a grid point leaves in the block of queries. -/
theorem queries_at (t : Fin cfg0.N) : (outsAt0 m c t).1 = blockNormed (X0_0 m c t) (iblk m c 3 t) := by
  rw [← query_pay]; unfold outsAt0; dsimp only; frame_out

/-- What a grid point leaves in the block of keys. -/
theorem keys_at (t : Fin cfg0.N) : (outsAt0 m c t).2.1 = blockNormed (X0_1 m c t) (iblk m c 4 t) := by
  rw [← key_pay]; unfold outsAt0; dsimp only; frame_out

/-- What a grid point leaves in the block of values. -/
theorem values_at (t : Fin cfg0.N) : (outsAt0 m c t).2.2 = X0_2 m c t := by
  have h : (outsAt0 m c t).2.2 = k0_pay3 (F := Ideal) (X0_2 m c t) := by unfold outsAt0; dsimp only; frame_out
  rw [h]; rfl

/-- The array of the queries when the grid is done. -/
theorem final_queries : (dats m 0 c).arrAt 5 cfg0.N = normed (queries (projOf m c)) (gqOf m c) := by
  refine (dats m 0 c).arrAt_eq_of_covers 5 _ (by decide +kernel) fun t _ y => ?_
  have hz : ((((View.whole main_v0_0).slice (win0_5.rect t)).emb y 1 : Fin 1024) : ℕ) = (y 1 : ℕ) := by blk_simp [idx t]
  blk_simp
  rw [after0_5, queries_at]
  pointwise [blockNormed, normed, rstd, read_queries, queries]
  blk_point [iblk, V, idx t]
  all_goals rw [hz]

/-- The array of the keys when the grid is done. -/
theorem final_keys : (dats m 0 c).arrAt 6 cfg0.N = normed (keys (projOf m c)) (gkOf m c) := by
  refine (dats m 0 c).arrAt_eq_of_covers 6 _ (by decide +kernel) fun t _ y => ?_
  have hz : ((((View.whole main_v0_1).slice (win0_6.rect t)).emb y 1 : Fin 1024) : ℕ) = (y 1 : ℕ) := by blk_simp [idx t]
  blk_simp
  rw [after0_6, keys_at]
  pointwise [blockNormed, normed, rstd, read_keys, keys]
  blk_point [iblk, V, idx t]
  all_goals rw [hz]

/-- The array of the values when the grid is done. -/
theorem final_values : (dats m 0 c).arrAt 7 cfg0.N = values (projOf m c) := by
  refine (dats m 0 c).arrAt_eq_of_covers 7 _ (by decide +kernel) fun t _ y => ?_
  have hz : ((((View.whole main_v0_2).slice (win0_7.rect t)).emb y 1 : Fin 1024) : ℕ) = (y 1 : ℕ) := by blk_simp [idx t]
  blk_simp
  rw [after0_7, values_at]
  pointwise [read_values, values]
  blk_point [iblk, V, idx t]
  all_goals rw [hz]

end Final

/-! ## The reference -/

section Reference
open Cert.QkNormFwdRefIdeal.Read Cert.QkNormFwdRefIdeal.Gen
variable (p : S4096x4224.Idx → EReal) (g : S1x128.Idx → EReal)

/-- The reference's queries. -/
theorem reference_queries : val_main_v32 (F := Ideal) p g = normed (queries p) g := by
  funext i
  pointwise [val_main_v0, val_main_v1, val_main_v2, val_main_cst, val_main_v3, val_main_v4, val_main_cst_0, val_main_v5, val_main_v6, val_main_cst_1,
    val_main_v7, val_main_v8, val_main_v9, val_main_v10, val_main_v11, val_main_v12, val_main_v13, val_main_v14, val_main_v15, val_main_v32,
    normed, queries, rstd]

/-- The reference's keys. -/
theorem reference_keys : val_main_v33 (F := Ideal) p g = normed (keys p) g := by
  funext i
  pointwise [val_main_v16, val_main_v17, val_main_v18, val_main_cst_2, val_main_v19, val_main_v20, val_main_cst_3, val_main_v21, val_main_v22, val_main_cst_4,
    val_main_v23, val_main_v24, val_main_v25, val_main_v26, val_main_v27, val_main_v28, val_main_v29, val_main_v30, val_main_v31, val_main_v33,
    normed, keys, rstd]

/-- The reference's values. -/
theorem reference_values : val_main_v35 (F := Ideal) p = values p := by
  funext i
  pointwise [val_main_v34, val_main_v35, values]

end Reference

end Cert.QkNormFwdIdeal.Product

end
-- ==== Proof.ValFinalLoss.lean ====
/- The loss and the gradients at the last normalisation. Sixteen grid points take 256 rows each: they leave the rows' gradient and the
   branch's, and add up the loss and the gradients of the weights and of the gate. Here the five arrays are shown to hold the sums
   over all 4096 rows, and the reference to be the same. -/
module

public import proofs.«01_k».proof.Proof.Gen.FinalLossIdeal.Value
public import proofs.«01_k».proof.Proof.Gen.FinalLossRefIdeal.Read
public import proofs.«01_k».proof.Proof.ValNorm2Bwd

@[expose] public section

set_option maxRecDepth 16384

noncomputable section

namespace Cert.FinalLossIdeal.Product

open Idealize.ShloMosaic Idealize.ShloMosaic.TcCoe Idealize.SL.Sem
open Cert.FinalLossIdeal Cert.FinalLossIdeal.Gen
open Cert.Norm1BwdIdeal.Product (rstd)
open Cert.Norm2BwdIdeal.Product (branchGrad gateGrad)
open scoped BigOperators

section Spec
variable (x tgt : S4096x2048.Idx → EReal) (g : S1x2048.Idx → EReal)

/-- How far the normalised rows lie from their targets. -/
def err (r : Fin 4096) (j : Fin 2048) : EReal := x (ix2 r j) * rstd x r * g (ix2 (0 : Fin 1) j) - tgt (ix2 r j)

/-- The loss's gradient at the normalised and weighted rows. -/
def errGrad (r : Fin 4096) (j : Fin 2048) : EReal := err x tgt g r j * Ideal.ofBits .f32 0x3A000000#32

/-- The loss's gradient at the rows. -/
def rowsGrad : S4096x2048.Idx → EReal := fun i =>
  rstd x (i 0 : Fin 4096) * (errGrad x tgt g (i 0 : Fin 4096) (i 1 : Fin 2048) * g (ix2 (0 : Fin 1) (i 1 : Fin 2048))
    - x (ix2 (i 0 : Fin 4096) (i 1 : Fin 2048)) * rstd x (i 0 : Fin 4096)
      * Ideal.div (∑ k : Fin 2048, errGrad x tgt g (i 0 : Fin 4096) k * g (ix2 (0 : Fin 1) k) * (x (ix2 (i 0 : Fin 4096) k) * rstd x (i 0 : Fin 4096)))
          (Ideal.ofBits .f32 0x45000000#32))

/-- The loss's gradient at the weights. -/
def weightGrad : S1x2048.Idx → EReal := fun i =>
  ∑ r : Fin 4096, errGrad x tgt g r (i 1 : Fin 2048) * (x (ix2 r (i 1 : Fin 2048)) * rstd x r)

/-- The loss: half of each row's mean square error, over all rows. -/
def loss : S1x128.Idx → EReal := fun _ =>
  ∑ r : Fin 4096, Ideal.ofBits .f32 0x3F000000#32 * Ideal.div (∑ k : Fin 2048, err x tgt g r k * err x tgt g r k) (Ideal.ofBits .f32 0x45000000#32)

end Spec

/-- The constant one half goes into a sum. -/
theorem half_sum {ι : Type} (s : Finset ι) (f : ι → EReal) :
    Ideal.ofBits .f32 0x3F000000#32 * ∑ k ∈ s, f k = ∑ k ∈ s, Ideal.ofBits .f32 0x3F000000#32 * f k := by
  rw [RmsGrad.ofBits_half]; exact RmsGrad.mul_sum s _ (by norm_num) f

/-- The constant 1/2048. -/
theorem ofBits_mean : Ideal.ofBits .f32 0x3A000000#32 = ((1 / 2048 : ℝ) : EReal) := by
  simp [Ideal.ofBits, Ideal.ieee, -EReal.coe_mul]; norm_num

variable (m : (ℓ : Loc nD τ sig) → Buf (Elt Ideal) ℓ) (c : Dev nD)

/-- The stream in memory. -/
abbrev inOf : S4096x2048.Idx → EReal := m ((c : Thread nD τ).loc main_arg0)
/-- The targets in memory. -/
abbrev tgtOf : S4096x2048.Idx → EReal := m ((c : Thread nD τ).loc main_arg1)
/-- The output of the branch below, in memory. -/
abbrev branchOf : S4096x2048.Idx → EReal := m ((c : Thread nD τ).loc main_arg2)
/-- The normalisation's weights in memory. -/
abbrev wOf : S1x2048.Idx → EReal := m ((c : Thread nD τ).loc main_arg3)
/-- The gate of the branch below, in memory. -/
abbrev gateOf : S1x2048.Idx → EReal := m ((c : Thread nD τ).loc main_arg4)
/-- The rows' gradient of the arguments in memory. -/
abbrev rowsOf : S4096x2048.Idx → EReal := rowsGrad (inOf m c) (tgtOf m c) (wOf m c)

/-- Which blocks a grid point reads and writes. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![0, 0] ∧ win0_8.index t = ![0, 0] ∧ win0_9.index t = ![0, 0] :=
  (by decide +kernel : ∀ t : Fin grid0.N, _)

/-- The grid has sixteen points. -/
theorem point_lt (t : Fin cfg0.N) : t.val < 16 := lt_of_lt_of_eq t.isLt N_0

/-- A grid point's reciprocal roots. -/
abbrev rstdBlk (t : Fin cfg0.N) : S256x1.Idx → EReal := k0_pay2 (F := Ideal) (iblk m c 0 t)

/-- A grid point's gradient before the last factor. -/
abbrev innerBlk (t : Fin cfg0.N) : S256x2048.Idx → EReal := k0_pay7 (F := Ideal) (iblk m c 0 t) (iblk m c 1 t) (iblk m c 3 t)

/-- What a grid point leaves in its two blocks of rows, whether it is the first or a later one. -/
theorem rows_at (t : Fin cfg0.N) : (outsAt0 m c t.val t.isLt).1 = k0_pay8 (F := Ideal) (rstdBlk m c t) (innerBlk m c t)
    ∧ (outsAt0 m c t.val t.isLt).2.1 = k0_pay12 (F := Ideal) (iblk m c 4 t) (rstdBlk m c t) (innerBlk m c t) := by
  have ht := point_lt t
  by_cases h : t.val % 16 = 0
  · have h1 : ¬1 ≤ t.val := by omega
    rw [outsAt0_A m c t h h1 h h1 h h1]
    constructor <;> frame_out
  · have h1 : 1 ≤ t.val := by omega
    rw [outsAt0_B m c t h h1 h h1 h h1]
    constructor <;> frame_out

/-- The array of rows when the grid is done. -/
theorem final_rows : (dats m 0 c).arrAt 5 cfg0.N = rowsOf m c := by
  refine (dats m 0 c).arrAt_eq_of_covers 5 _ (by decide +kernel) fun t _ y => ?_
  blk_simp
  rw [after0_5, (rows_at m c t).1]
  unfold rstdBlk innerBlk
  open_payloads
  pointwise [rowsGrad, errGrad, err, rstd]
  blk_point [iblk, V, idx t]

/-- The array of the branch's gradient when the grid is done. -/
theorem final_branch : (dats m 0 c).arrAt 6 cfg0.N = branchGrad (rowsOf m c) (gateOf m c) := by
  refine (dats m 0 c).arrAt_eq_of_covers 6 _ (by decide +kernel) fun t _ y => ?_
  blk_simp
  rw [after0_6, (rows_at m c t).2]
  unfold rstdBlk innerBlk
  open_payloads
  pointwise [branchGrad, rowsGrad, errGrad, err, rstd]
  blk_point [iblk, V, idx t]

/-- The array of the weights' gradient when the grid is done. -/
theorem final_weight : (dats m 0 c).arrAt 7 cfg0.N = weightGrad (inOf m c) (tgtOf m c) (wOf m c) := by
  refine (dats m 0 c).arrAt_eq_of_covers 7 _ (by decide +kernel) fun t hf y => ?_
  blk_simp
  rw [after0_7, Pipeline.eq_sum_fin_of_reset_step_apply_of_flush (fun n h => (outsAt0 m c n h).2.2.1) 16 (fun _ => 0)
    (fun t => k0_pay10 (F := Ideal) (k0_pay3 (F := Ideal) (iblk m c 0 t)) (k0_pay6 (F := Ideal) (iblk m c 0 t) (iblk m c 1 t) (iblk m c 3 t)))
    (fun t h j => by
      have h1 : ¬1 ≤ t.val := by have := point_lt t; omega
      rw [outsAt0_A m c t h h1 h h1 h h1]; frame_out
      exact (zero_add _).symm)
    (fun t h j => by
      have h1 : 1 ≤ t.val := by omega
      rw [outsAt0_B m c t h h1 h h1 h h1]; frame_out
      pointwise [k0_pay13])
    t ((flush0_7 t).mp hf) _, zero_add]
  open_payloads
  pointwise [weightGrad, errGrad, err, rstd]
  refine Fin.sum_mul_add_congr fun s k hl => ?_
  blk_point [iblk, V, idx t, idx ⟨_, Pipeline.run_point_lt_of_flush t ((flush0_7 t).mp hf) s⟩]

/-- The array of the loss when the grid is done. -/
theorem final_loss : (dats m 0 c).arrAt 8 cfg0.N = loss (inOf m c) (tgtOf m c) (wOf m c) := by
  refine (dats m 0 c).arrAt_eq_of_covers 8 _ (by decide +kernel) fun t hf y => ?_
  blk_simp
  rw [after0_8, Pipeline.eq_sum_fin_of_reset_step_apply_of_flush (fun n h => (outsAt0 m c n h).2.2.2.1) 16 (fun _ => 0)
    (fun t => k0_pay11 (F := Ideal) (k0_pay5 (F := Ideal) (iblk m c 0 t) (iblk m c 1 t) (iblk m c 3 t)))
    (fun t h j => by
      have h1 : ¬1 ≤ t.val := by have := point_lt t; omega
      rw [outsAt0_A m c t h h1 h h1 h h1]; frame_out
      exact (zero_add _).symm)
    (fun t h j => by
      have h1 : 1 ≤ t.val := by omega
      rw [outsAt0_B m c t h h1 h h1 h h1]; frame_out
      pointwise [k0_pay14])
    t ((flush0_8 t).mp hf) _, zero_add]
  open_payloads
  pointwise [loss, err, rstd]
  simp only [half_sum]
  refine Fin.sum_mul_add_congr fun s k hl => ?_
  blk_point [iblk, V, idx t, idx ⟨_, Pipeline.run_point_lt_of_flush t ((flush0_8 t).mp hf) s⟩]

/-- The array of the gate's gradient when the grid is done. -/
theorem final_gate : (dats m 0 c).arrAt 9 cfg0.N = gateGrad (rowsOf m c) (branchOf m c) := by
  refine (dats m 0 c).arrAt_eq_of_covers 9 _ (by decide +kernel) fun t hf y => ?_
  blk_simp
  rw [after0_9, Pipeline.eq_sum_fin_of_reset_step_apply_of_flush (fun n h => (outsAt0 m c n h).2.2.2.2) 16 (fun _ => 0)
    (fun t => k0_pay9 (F := Ideal) (iblk m c 2 t) (rstdBlk m c t) (innerBlk m c t))
    (fun t h j => by
      have h1 : ¬1 ≤ t.val := by have := point_lt t; omega
      rw [outsAt0_A m c t h h1 h h1 h h1]; frame_out
      exact (zero_add _).symm)
    (fun t h j => by
      have h1 : 1 ≤ t.val := by omega
      rw [outsAt0_B m c t h h1 h h1 h h1]; frame_out
      pointwise [k0_pay1])
    t ((flush0_9 t).mp hf) _, zero_add]
  unfold rstdBlk innerBlk
  open_payloads
  pointwise [gateGrad, rowsGrad, errGrad, err, rstd]
  refine Fin.sum_mul_add_congr fun s k hl => ?_
  blk_point [iblk, V, idx t, idx ⟨_, Pipeline.run_point_lt_of_flush t ((flush0_9 t).mp hf) s⟩]

section Reference
open Cert.FinalLossRefIdeal.Read
variable (x tgt f : S4096x2048.Idx → EReal) (g gate : S1x2048.Idx → EReal)

/-- A number's two products with half of a mean's factor are its product with the factor. -/
theorem twice (e : EReal) : e * Ideal.div (Ideal.ofBits .f32 0x3F000000#32) (Ideal.ofBits .f32 0x45000000#32)
    + Ideal.div (Ideal.ofBits .f32 0x3F000000#32) (Ideal.ofBits .f32 0x45000000#32) * e = e * Ideal.ofBits .f32 0x3A000000#32 := by
  rw [ofBits_mean, RmsGrad.ofBits_half, RmsGrad.ofBits_2048, Ideal.div_coe (by norm_num), ← EReal.coe_mul, mul_comm e, mul_comm e,
    ← RmsGrad.add_mul_coe _ _ (by norm_num) (by norm_num)]
  norm_num

/-- The reference's error. -/
theorem reference_err : val_main_v15 (F := Ideal) x tgt g = fun i => err x tgt g (i 0 : Fin 4096) (i 1 : Fin 2048) := by
  funext i
  pointwise [val_main_v0, val_main_cst, val_main_v1, val_main_v2, val_main_cst_0, val_main_v3, val_main_v4, val_main_cst_1, val_main_v5, val_main_v6,
    val_main_v7, val_main_v11, val_main_v12, val_main_v13, val_main_v14, val_main_v15, err, rstd]

/-- The reference's gradient at the normalised and weighted rows. -/
theorem reference_err_grad : val_main_v29 (F := Ideal) x tgt g = fun i => errGrad x tgt g (i 0 : Fin 4096) (i 1 : Fin 2048) := by
  funext i
  pointwise [val_main_cst_7, val_main_cst_8, val_main_v22, val_main_v23, val_main_cst_9, val_main_v24, val_main_v25, val_main_v26, val_main_v27,
    val_main_v28, val_main_v29, reference_err, errGrad]
  exact twice _

/-- The reference's loss. -/
theorem reference_loss : val_main_v61 (F := Ideal) x tgt g = loss x tgt g := by
  funext i
  pointwise [val_main_v16, val_main_cst_3, val_main_v17, val_main_cst_4, val_main_v18, val_main_v19, val_main_cst_5, val_main_v20, val_main_cst_6,
    val_main_v21, val_main_v61, reference_err, loss]
  exact half_sum _ _

/-- The reference's gradient of the weights. -/
theorem reference_weight : val_main_v32 (F := Ideal) x tgt g = weightGrad x tgt g := by
  funext i
  pointwise [val_main_v0, val_main_cst, val_main_v1, val_main_v2, val_main_cst_0, val_main_v3, val_main_v4, val_main_cst_1, val_main_v5, val_main_v6,
    val_main_v7, val_main_v11, val_main_v12, val_main_v30, val_main_cst_10, val_main_v31, val_main_v32, reference_err_grad, weightGrad, rstd]
  exact Finset.sum_congr rfl fun r _ => mul_comm _ _

/-- The reference's gradient of the rows. -/
theorem reference_rows : val_main_v48 (F := Ideal) x tgt g = rowsGrad x tgt g := by
  funext i
  pointwise [val_main_v0, val_main_cst, val_main_v1, val_main_v2, val_main_cst_0, val_main_v3, val_main_v4, val_main_cst_1, val_main_v5, val_main_v6,
    val_main_v7, val_main_v8, val_main_cst_2, val_main_v9, val_main_v10, val_main_v33, val_main_v34, val_main_v35, val_main_cst_11, val_main_v36,
    val_main_v37, val_main_v38, val_main_v39, val_main_v40, val_main_cst_12, val_main_v41, val_main_v42, val_main_cst_13, val_main_v43,
    val_main_v44, val_main_v45, val_main_v46, val_main_v47, val_main_v48, reference_err_grad, rowsGrad, rstd]
  refine RmsGrad.grad_const _ 2048 RmsGrad.ofBits_2048 (by norm_num) (fun k : Fin 2048 => x (ix2 (i 0 : Fin 4096) k))
    (fun k => errGrad x tgt g (i 0 : Fin 4096) k * g (ix2 (0 : Fin 1) k)) (i 1 : Fin 2048) _ _ ?_ ?_ _ rfl
  · blk_point []
  · rfl

/-- The reference's gradient of the branch below. -/
theorem reference_branch : val_main_v60 (F := Ideal) x tgt g gate = branchGrad (rowsGrad x tgt g) gate := by
  unfold val_main_v60 val_main_v54
  rw [reference_rows]
  generalize rowsGrad x tgt g = dx
  funext i
  pointwise [val_main_v53, val_main_v50, val_main_v49, val_main_cst_14, branchGrad]

/-- The reference's gradient of the gate. -/
theorem reference_gate : val_main_v59 (F := Ideal) x tgt f g = gateGrad (rowsGrad x tgt g) f := by
  unfold val_main_v59 val_main_v57 val_main_v56 val_main_v55
  rw [reference_rows]
  generalize rowsGrad x tgt g = dx
  funext i
  pointwise [val_main_v58, val_main_cst_15, val_main_cst_16, gateGrad]
  rw [half_sum]
  exact Finset.sum_congr rfl fun r _ => by rw [mul_comm (dx _), mul_assoc]

end Reference

end Cert.FinalLossIdeal.Product

end
-- ==== Proof.ValAdaBwd.lean ====
/- The gradient of the conditioning's weights: each of the three grid points multiplies silu of the conditioning vectors,
   transposed, with 768 columns of the incoming gradient. Here the array the grid leaves is shown to be the product's gradient
   by its weights, and the reference to be the same. -/
module

public import proofs.«01_k».proof.Proof.Gen.AdaBwdIdeal.Value
public import proofs.«01_k».proof.Proof.Gen.AdaBwdRefIdeal.Read
public import proofs.«01_k».proof.Proof.ValFfnUp

@[expose] public section

set_option maxRecDepth 16384

noncomputable section

namespace Cert.AdaBwdIdeal.Product

open Idealize.ShloMosaic Idealize.ShloMosaic.TcCoe Idealize.SL.Sem
open Cert.AdaBwdIdeal Cert.AdaBwdIdeal.Gen
open Cert.FfnUpIdeal.Product (sigm)
open scoped BigOperators

/-- The gradient of the conditioning's weights: silu of the vectors times the incoming gradient, summed over the vectors. -/
def weightGrad (v : S8x2048.Idx → EReal) (d : S8x2304.Idx → EReal) : S2048x2304.Idx → EReal :=
  fun i => ∑ s : Fin 8, v (ix2 s (i 0 : Fin 2048)) * sigm (v (ix2 s (i 0 : Fin 2048))) * d (ix2 s (i 1 : Fin 2304))

variable (m : (ℓ : Loc nD τ sig) → Buf (Elt Ideal) ℓ) (c : Dev nD)

/-- The conditioning vectors in memory. -/
abbrev vecOf : S8x2048.Idx → EReal := m ((c : Thread nD τ).loc main_arg0)
/-- The incoming gradient in memory. -/
abbrev gradOf : S8x2304.Idx → EReal := m ((c : Thread nD τ).loc main_arg1)

/-- Which blocks a grid point reads and writes. -/
theorem idx : ∀ t : Fin cfg0.N, win0_0.index t = ![0, 0] ∧ win0_1.index t = ![0, t.val] ∧ win0_2.index t = ![0, t.val] :=
  (by decide +kernel : ∀ t : Fin grid0.N, _)

/-- The array of the gradient when the grid is done. -/
theorem final : (dats m 0 c).arrAt 2 cfg0.N = weightGrad (vecOf m c) (gradOf m c) := by
  refine (dats m 0 c).arrAt_eq_of_covers 2 _ (by decide +kernel) fun t _ y => ?_
  blk_simp
  rw [after0_2]; frame_out
  open_payloads; pointwise [weightGrad, sigm]; blk_point [iblk, V, idx t]

open Cert.AdaBwdRefIdeal.Read in
/-- The reference's gradient. -/
theorem reference (v : S8x2048.Idx → EReal) (d : S8x2304.Idx → EReal) : val_main_v4 (F := Ideal) v d = weightGrad v d := by
  funext i
  pointwise [val_main_call0_v0, val_main_call0_v1, val_main_call0_cst, val_main_call0_v2, val_main_call0_v3, val_main_call0_cst_0, val_main_call0_v4, val_main_call0_v5, val_main_v1, val_main_v3, val_main_v4, weightGrad, sigm]
  simp only [zero_sub, mul_comm (d _)]

end Cert.AdaBwdIdeal.Product

end
-- ==== Proof.ValAdaFwd.lean ====
/- The conditioning's product: each of the three grid points takes silu of the conditioning vectors, multiplies it with 768
   columns of the weights and adds the bias. Here the array the grid leaves is shown to be the conditioning of every vector,
   and the reference to be the same. -/
module

public import proofs.«01_k».proof.Proof.Gen.AdaFwdIdeal.Value
public import proofs.«01_k».proof.Proof.Gen.AdaFwdRefIdeal.Read
public import proofs.«01_k».proof.Proof.ValFfnUp

@[expose] public section

set_option maxRecDepth 16384

noncomputable section

namespace Cert.AdaFwdIdeal.Product

open Idealize.ShloMosaic Idealize.ShloMosaic.TcCoe Idealize.SL.Sem
open Cert.AdaFwdIdeal Cert.AdaFwdIdeal.Gen
open Cert.FfnUpIdeal.Product (sigm)
open scoped BigOperators

/-- The conditioning of every vector: the product of its silu with the weights, and the bias. -/
def conditioned (v : S8x2048.Idx → EReal) (w : S2048x2304.Idx → EReal) (b : S1x2304.Idx → EReal) : S8x2304.Idx → EReal :=
  fun i => (∑ d : Fin 2048, v (ix2 (i 0 : Fin 8) d) * sigm (v (ix2 (i 0 : Fin 8) d)) * w (ix2 d (i 1 : Fin 2304)))
    + b (ix2 (0 : Fin 1) (i 1 : Fin 2304))

variable (m : (ℓ : Loc nD τ sig) → Buf (Elt Ideal) ℓ) (c : Dev nD)

/-- The conditioning vectors in memory. -/
abbrev vecOf : S8x2048.Idx → EReal := m ((c : Thread nD τ).loc main_arg0)
/-- The weights in memory. -/
abbrev wOf : S2048x2304.Idx → EReal := m ((c : Thread nD τ).loc main_arg1)
/-- The bias in memory. -/
abbrev biasOf : S1x2304.Idx → EReal := m ((c : Thread nD τ).loc main_arg2)

/-- Which blocks a grid point reads and writes. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- The array of the conditioning when the grid is done. -/
theorem final : (dats m 0 c).arrAt 3 cfg0.N = conditioned (vecOf m c) (wOf m c) (biasOf m c) := by
  refine (dats m 0 c).arrAt_eq_of_covers 3 _ (by decide +kernel) fun t _ y => ?_
  blk_simp
  rw [after0_3]; frame_out
  open_payloads; pointwise [conditioned, sigm]; blk_point [iblk, V, idx t]

open Cert.AdaFwdRefIdeal.Read in
/-- The reference's conditioning. -/
theorem reference (v : S8x2048.Idx → EReal) (w : S2048x2304.Idx → EReal) (b : S1x2304.Idx → EReal) :
    val_main_v3 (F := Ideal) v w b = conditioned v w b := by
  funext i
  pointwise [val_main_call0_v0, val_main_call0_v1, val_main_call0_cst, val_main_call0_v2, val_main_call0_v3, val_main_call0_cst_0, val_main_call0_v4, val_main_call0_v5, val_main_v0, val_main_v1, val_main_v2, val_main_v3, conditioned, sigm]
  simp only [zero_sub]

end Cert.AdaFwdIdeal.Product

end
-- ==== Proof.AdamStep.lean ====
/- The optimiser's step on one number. The calls of the optimiser differ in how many parts of a gradient they add and in the
   shapes; the formulas are the same and stand here once. -/
module

public import Idealize.ShloMosaic.Lib.Pipeline.ValueKit

@[expose] public section

noncomputable section

namespace AdamStep

open Idealize.ShloMosaic

/-- The new first moment: the old one and the gradient, weighted. -/
def first (g a : EReal) : EReal :=
  FloatOps.addf (F := Ideal) (φ := .f32)
    (FloatOps.mulf (F := Ideal) (φ := .f32) (Ideal.ofBits .f32 0x3F666666#32) a)
    (FloatOps.mulf (F := Ideal) (φ := .f32) (Ideal.ofBits .f32 0x3DCCCCCD#32) g)
/-- The new second moment: the old one and the gradient's square, weighted. -/
def second (g b : EReal) : EReal :=
  FloatOps.addf (F := Ideal) (φ := .f32)
    (FloatOps.mulf (F := Ideal) (φ := .f32) (Ideal.ofBits .f32 0x3F7FBE77#32) b)
    (FloatOps.mulf (F := Ideal) (φ := .f32) (Ideal.ofBits .f32 0x3A83126F#32) (FloatOps.mulf (F := Ideal) (φ := .f32) g g))
/-- The change of the weight: the corrected first moment over the root of the corrected second, and the decay. -/
def change (g w a b : EReal) : EReal :=
  FloatOps.mulf (F := Ideal) (φ := .f32) (Ideal.ofBits .f32 0xBA83126F#32)
    (FloatOps.addf (F := Ideal) (φ := .f32)
      (FloatOps.divf (F := Ideal) (φ := .f32)
        (FloatOps.divf (F := Ideal) (φ := .f32) (first g a) (Ideal.ofBits .f32 0x3F26BD02#32))
        (FloatOps.addf (F := Ideal) (φ := .f32)
          (FloatOps.sqrt (F := Ideal) (φ := .f32)
            (FloatOps.divf (F := Ideal) (φ := .f32) (second g b) (Ideal.ofBits .f32 0x3C231ACC#32)))
          (Ideal.ofBits .f32 0x322BCC77#32)))
      (FloatOps.mulf (F := Ideal) (φ := .f32) (Ideal.ofBits .f32 0x3C23D70A#32) w))

end AdamStep

end
-- ==== Proof.ValAdamW.lean ====
/- The optimiser's step: each of the sixteen grid points reads 128 rows of the gradient, the weights and the two moments, and
   writes the gradient, the change of the weights and the two new moments. Here the four arrays the grid leaves are shown to be
   those of the optimiser's formulas entry by entry, and the reference to be the same. -/
module

public import proofs.«01_k».proof.Proof.Gen.AdamWIdeal.Value
public import proofs.«01_k».proof.Proof.Gen.AdamWRefIdeal.Read
public import proofs.«01_k».proof.Proof.AdamStep

@[expose] public section

set_option maxRecDepth 16384

noncomputable section

namespace Cert.AdamWIdeal.Product

open Idealize.ShloMosaic Idealize.ShloMosaic.TcCoe Idealize.SL.Sem
open Cert.AdamWIdeal Cert.AdamWIdeal.Gen
open scoped BigOperators

/-- The gradient, as a matrix. -/
def gradient (g : S1x2048x2304.Idx → EReal) : S2048x2304.Idx → EReal :=
  fun i => g (ix3 (0 : Fin 1) (i 0 : Fin 2048) (i 1 : Fin 2304))
/-- The new first moment. -/
def first (g : S1x2048x2304.Idx → EReal) (a : S2048x2304.Idx → EReal) : S2048x2304.Idx → EReal :=
  fun i => AdamStep.first (gradient g i) (a i)
/-- The new second moment. -/
def second (g : S1x2048x2304.Idx → EReal) (b : S2048x2304.Idx → EReal) : S2048x2304.Idx → EReal :=
  fun i => AdamStep.second (gradient g i) (b i)
/-- The change of the weights. -/
def change (g : S1x2048x2304.Idx → EReal) (w a b : S2048x2304.Idx → EReal) : S2048x2304.Idx → EReal :=
  fun i => AdamStep.change (gradient g i) (w i) (a i) (b i)

variable (m : (ℓ : Loc nD τ sig) → Buf (Elt Ideal) ℓ) (c : Dev nD)

/-- The gradient in memory. -/
abbrev gradOf : S1x2048x2304.Idx → EReal := m ((c : Thread nD τ).loc main_arg0)
/-- The weights in memory. -/
abbrev wOf : S2048x2304.Idx → EReal := m ((c : Thread nD τ).loc main_arg1)
/-- The first moment in memory. -/
abbrev firstOf : S2048x2304.Idx → EReal := m ((c : Thread nD τ).loc main_arg2)
/-- The second moment in memory. -/
abbrev secondOf : S2048x2304.Idx → EReal := m ((c : Thread nD τ).loc main_arg3)

/-- Which blocks a grid point reads and writes. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The array of the gradient when the grid is done. -/
theorem final_gradient : (dats m 0 c).arrAt 4 cfg0.N = gradient (gradOf m c) := by
  refine (dats m 0 c).arrAt_eq_of_covers 4 _ (by decide +kernel) fun t _ y => ?_
  blk_simp
  rw [after0_4]; frame_out
  open_payloads; pointwise [gradient]; blk_point [iblk, V, idx t]

/-- The array of the weights' change when the grid is done. -/
theorem final_change : (dats m 0 c).arrAt 5 cfg0.N = change (gradOf m c) (wOf m c) (firstOf m c) (secondOf m c) := by
  refine (dats m 0 c).arrAt_eq_of_covers 5 _ (by decide +kernel) fun t _ y => ?_
  blk_simp
  rw [after0_5]; frame_out
  open_payloads; pointwise [change, AdamStep.change, AdamStep.first, AdamStep.second, gradient]; blk_point [iblk, V, idx t]

/-- The array of the first moment when the grid is done. -/
theorem final_first : (dats m 0 c).arrAt 6 cfg0.N = first (gradOf m c) (firstOf m c) := by
  refine (dats m 0 c).arrAt_eq_of_covers 6 _ (by decide +kernel) fun t _ y => ?_
  blk_simp
  rw [after0_6]; frame_out
  open_payloads; pointwise [first, AdamStep.first, gradient]; blk_point [iblk, V, idx t]

/-- The array of the second moment when the grid is done. -/
theorem final_second : (dats m 0 c).arrAt 7 cfg0.N = second (gradOf m c) (secondOf m c) := by
  refine (dats m 0 c).arrAt_eq_of_covers 7 _ (by decide +kernel) fun t _ y => ?_
  blk_simp
  rw [after0_7]; frame_out
  open_payloads; pointwise [second, AdamStep.second, gradient]; blk_point [iblk, V, idx t]

open Cert.AdamWRefIdeal.Read in
/-- The reference's gradient. -/
theorem reference_gradient (g : S1x2048x2304.Idx → EReal) : val_main_v0 (F := Ideal) g = gradient g := by
  funext i
  pointwise [val_main_v0, gradient]

open Cert.AdamWRefIdeal.Read in
/-- The reference's first moment. -/
theorem reference_first (g : S1x2048x2304.Idx → EReal) (a : S2048x2304.Idx → EReal) : val_main_v5 (F := Ideal) g a = first g a := by
  funext i
  pointwise [reference_gradient, val_main_cst, val_main_v1, val_main_v2, val_main_cst_0, val_main_v3, val_main_v4, val_main_v5, first, AdamStep.first]

open Cert.AdamWRefIdeal.Read in
/-- The reference's second moment. -/
theorem reference_second (g : S1x2048x2304.Idx → EReal) (b : S2048x2304.Idx → EReal) : val_main_v11 (F := Ideal) g b = second g b := by
  funext i
  pointwise [reference_gradient, val_main_cst_1, val_main_v6, val_main_v7, val_main_v8, val_main_cst_2, val_main_v9, val_main_v10, val_main_v11, second, AdamStep.second]

open Cert.AdamWRefIdeal.Read in
/-- The reference's change of the weights. -/
theorem reference_change (g : S1x2048x2304.Idx → EReal) (w a b : S2048x2304.Idx → EReal) :
    val_main_v24 (F := Ideal) g w a b = change g w a b := by
  funext i
  pointwise [reference_first, reference_second, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, first, second, change, AdamStep.change]

end Cert.AdamWIdeal.Product

end
-- ==== Proof.ValAdamFfnIn.lean ====
/- The optimiser's step on a feed-forward layer's input weights: each of the eight grid points adds four parts of the gradient on
   688 rows and 512 columns. Here the four arrays the grid leaves are shown to be the added gradient and the optimiser's formulas
   of it entry by entry, and the reference to be the same. -/
module

public import proofs.«01_k».proof.Proof.Gen.AdamFfnInIdeal.Value
public import proofs.«01_k».proof.Proof.Gen.AdamFfnInRefIdeal.Read
public import proofs.«01_k».proof.Proof.AdamStep

@[expose] public section

set_option maxRecDepth 16384

noncomputable section

namespace Cert.AdamFfnInIdeal.Product

open Idealize.ShloMosaic Idealize.ShloMosaic.TcCoe Idealize.SL.Sem
open Cert.AdamFfnInIdeal Cert.AdamFfnInIdeal.Gen
open scoped BigOperators

/-- The gradient: its four parts added. -/
def gradient (p : S4x1376x2048.Idx → EReal) : S1376x2048.Idx → EReal :=
  fun i => ∑ s : Fin 4, p (ix3 s (i 0 : Fin 1376) (i 1 : Fin 2048))
/-- The new first moment. -/
def first (p : S4x1376x2048.Idx → EReal) (a : S1376x2048.Idx → EReal) : S1376x2048.Idx → EReal :=
  fun i => AdamStep.first (gradient p i) (a i)
/-- The new second moment. -/
def second (p : S4x1376x2048.Idx → EReal) (b : S1376x2048.Idx → EReal) : S1376x2048.Idx → EReal :=
  fun i => AdamStep.second (gradient p i) (b i)
/-- The change of the weights. -/
def change (p : S4x1376x2048.Idx → EReal) (w a b : S1376x2048.Idx → EReal) : S1376x2048.Idx → EReal :=
  fun i => AdamStep.change (gradient p i) (w i) (a i) (b i)

variable (m : (ℓ : Loc nD τ sig) → Buf (Elt Ideal) ℓ) (c : Dev nD)

/-- The gradient's parts in memory. -/
abbrev partsOf : S4x1376x2048.Idx → EReal := m ((c : Thread nD τ).loc main_arg0)
/-- The weights in memory. -/
abbrev wOf : S1376x2048.Idx → EReal := m ((c : Thread nD τ).loc main_arg1)
/-- The first moment in memory. -/
abbrev firstOf : S1376x2048.Idx → EReal := m ((c : Thread nD τ).loc main_arg2)
/-- The second moment in memory. -/
abbrev secondOf : S1376x2048.Idx → EReal := m ((c : Thread nD τ).loc main_arg3)

/-- Which blocks a grid point reads and writes. -/
theorem idx : ∀ t : Fin cfg0.N, win0_0.index t = ![0, t.val / 4, t.val % 4] ∧ win0_1.index t = ![t.val / 4, t.val % 4]
    ∧ win0_2.index t = ![t.val / 4, t.val % 4] ∧ win0_3.index t = ![t.val / 4, t.val % 4] ∧ win0_4.index t = ![t.val / 4, t.val % 4]
    ∧ win0_5.index t = ![t.val / 4, t.val % 4] ∧ win0_6.index t = ![t.val / 4, t.val % 4] ∧ win0_7.index t = ![t.val / 4, t.val % 4] :=
  (by decide +kernel : ∀ t : Fin grid0.N, _)

/-- The array of the gradient when the grid is done. -/
theorem final_gradient : (dats m 0 c).arrAt 4 cfg0.N = gradient (partsOf m c) := by
  refine (dats m 0 c).arrAt_eq_of_covers 4 _ (by decide +kernel) fun t _ y => ?_
  blk_simp
  rw [after0_4]; frame_out
  open_payloads; pointwise [gradient, Fin.sum_univ_four]; blk_point [iblk, V, idx t]

/-- The array of the weights' change when the grid is done. -/
theorem final_change : (dats m 0 c).arrAt 5 cfg0.N = change (partsOf m c) (wOf m c) (firstOf m c) (secondOf m c) := by
  refine (dats m 0 c).arrAt_eq_of_covers 5 _ (by decide +kernel) fun t _ y => ?_
  blk_simp
  rw [after0_5]; frame_out
  open_payloads
  pointwise [change, AdamStep.change, AdamStep.first, AdamStep.second, gradient, Fin.sum_univ_four]; blk_point [iblk, V, idx t]

/-- The array of the first moment when the grid is done. -/
theorem final_first : (dats m 0 c).arrAt 6 cfg0.N = first (partsOf m c) (firstOf m c) := by
  refine (dats m 0 c).arrAt_eq_of_covers 6 _ (by decide +kernel) fun t _ y => ?_
  blk_simp
  rw [after0_6]; frame_out
  open_payloads; pointwise [first, AdamStep.first, gradient, Fin.sum_univ_four]; blk_point [iblk, V, idx t]

/-- The array of the second moment when the grid is done. -/
theorem final_second : (dats m 0 c).arrAt 7 cfg0.N = second (partsOf m c) (secondOf m c) := by
  refine (dats m 0 c).arrAt_eq_of_covers 7 _ (by decide +kernel) fun t _ y => ?_
  blk_simp
  rw [after0_7]; frame_out
  open_payloads; pointwise [second, AdamStep.second, gradient, Fin.sum_univ_four]; blk_point [iblk, V, idx t]

open Cert.AdamFfnInRefIdeal.Read in
/-- The reference's gradient. -/
theorem reference_gradient (p : S4x1376x2048.Idx → EReal) : val_main_v1 (F := Ideal) p = gradient p := by
  funext i
  pointwise [val_main_v0, val_main_cst, val_main_v1, gradient]

open Cert.AdamFfnInRefIdeal.Read in
/-- The reference's first moment. -/
theorem reference_first (p : S4x1376x2048.Idx → EReal) (a : S1376x2048.Idx → EReal) : val_main_v6 (F := Ideal) p a = first p a := by
  funext i
  pointwise [reference_gradient, val_main_cst_0, val_main_v2, val_main_v3, val_main_cst_1, val_main_v4, val_main_v5, val_main_v6, first, AdamStep.first]

open Cert.AdamFfnInRefIdeal.Read in
/-- The reference's second moment. -/
theorem reference_second (p : S4x1376x2048.Idx → EReal) (b : S1376x2048.Idx → EReal) : val_main_v12 (F := Ideal) p b = second p b := by
  funext i
  pointwise [reference_gradient, val_main_cst_2, val_main_v7, val_main_v8, val_main_v9, val_main_cst_3, val_main_v10, val_main_v11, val_main_v12, second, AdamStep.second]

open Cert.AdamFfnInRefIdeal.Read in
/-- The reference's change of the weights. -/
theorem reference_change (p : S4x1376x2048.Idx → EReal) (w a b : S1376x2048.Idx → EReal) :
    val_main_v25 (F := Ideal) p w a b = change p w a b := by
  funext i
  pointwise [reference_first, reference_second, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25, first, second, change, AdamStep.change]

end Cert.AdamFfnInIdeal.Product

end
-- ==== Proof.ValAdamFfnOut.lean ====
/- The optimiser's step on a feed-forward layer's output weights: each of the forty-three grid points adds four parts of the gradient on
   16 rows.
   Here the four arrays the grid leaves are shown to be the added gradient and the optimiser's formulas of it entry by entry,
   and the reference to be the same. -/
module

public import proofs.«01_k».proof.Proof.Gen.AdamFfnOutIdeal.Value
public import proofs.«01_k».proof.Proof.Gen.AdamFfnOutRefIdeal.Read
public import proofs.«01_k».proof.Proof.AdamStep

@[expose] public section

set_option maxRecDepth 16384

noncomputable section

namespace Cert.AdamFfnOutIdeal.Product

open Idealize.ShloMosaic Idealize.ShloMosaic.TcCoe Idealize.SL.Sem
open Cert.AdamFfnOutIdeal Cert.AdamFfnOutIdeal.Gen
open scoped BigOperators

/-- The gradient: its four parts added. -/
def gradient (p : S4x688x2048.Idx → EReal) : S688x2048.Idx → EReal :=
  fun i => ∑ s : Fin 4, p (ix3 s (i 0 : Fin 688) (i 1 : Fin 2048))
/-- The new first moment. -/
def first (p : S4x688x2048.Idx → EReal) (a : S688x2048.Idx → EReal) : S688x2048.Idx → EReal :=
  fun i => AdamStep.first (gradient p i) (a i)
/-- The new second moment. -/
def second (p : S4x688x2048.Idx → EReal) (b : S688x2048.Idx → EReal) : S688x2048.Idx → EReal :=
  fun i => AdamStep.second (gradient p i) (b i)
/-- The change of the weights. -/
def change (p : S4x688x2048.Idx → EReal) (w a b : S688x2048.Idx → EReal) : S688x2048.Idx → EReal :=
  fun i => AdamStep.change (gradient p i) (w i) (a i) (b i)

variable (m : (ℓ : Loc nD τ sig) → Buf (Elt Ideal) ℓ) (c : Dev nD)

/-- The gradient's parts in memory. -/
abbrev partsOf : S4x688x2048.Idx → EReal := m ((c : Thread nD τ).loc main_arg0)
/-- The weights in memory. -/
abbrev wOf : S688x2048.Idx → EReal := m ((c : Thread nD τ).loc main_arg1)
/-- The first moment in memory. -/
abbrev firstOf : S688x2048.Idx → EReal := m ((c : Thread nD τ).loc main_arg2)
/-- The second moment in memory. -/
abbrev secondOf : S688x2048.Idx → EReal := m ((c : Thread nD τ).loc main_arg3)

/-- Which blocks a grid point reads and writes. -/
theorem idx : ∀ t : Fin cfg0.N, win0_0.index t = ![0, t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

/-- The array of the gradient when the grid is done. -/
theorem final_gradient : (dats m 0 c).arrAt 4 cfg0.N = gradient (partsOf m c) := by
  refine (dats m 0 c).arrAt_eq_of_covers 4 _ (by decide +kernel) fun t _ y => ?_
  blk_simp
  rw [after0_4]; frame_out
  open_payloads; pointwise [gradient, Fin.sum_univ_four]; blk_point [iblk, V, idx t]

/-- The array of the weights' change when the grid is done. -/
theorem final_change : (dats m 0 c).arrAt 5 cfg0.N = change (partsOf m c) (wOf m c) (firstOf m c) (secondOf m c) := by
  refine (dats m 0 c).arrAt_eq_of_covers 5 _ (by decide +kernel) fun t _ y => ?_
  blk_simp
  rw [after0_5]; frame_out
  open_payloads
  pointwise [change, AdamStep.change, AdamStep.first, AdamStep.second, gradient, Fin.sum_univ_four]; blk_point [iblk, V, idx t]

/-- The array of the first moment when the grid is done. -/
theorem final_first : (dats m 0 c).arrAt 6 cfg0.N = first (partsOf m c) (firstOf m c) := by
  refine (dats m 0 c).arrAt_eq_of_covers 6 _ (by decide +kernel) fun t _ y => ?_
  blk_simp
  rw [after0_6]; frame_out
  open_payloads; pointwise [first, AdamStep.first, gradient, Fin.sum_univ_four]; blk_point [iblk, V, idx t]

/-- The array of the second moment when the grid is done. -/
theorem final_second : (dats m 0 c).arrAt 7 cfg0.N = second (partsOf m c) (secondOf m c) := by
  refine (dats m 0 c).arrAt_eq_of_covers 7 _ (by decide +kernel) fun t _ y => ?_
  blk_simp
  rw [after0_7]; frame_out
  open_payloads; pointwise [second, AdamStep.second, gradient, Fin.sum_univ_four]; blk_point [iblk, V, idx t]

open Cert.AdamFfnOutRefIdeal.Read in
/-- The reference's gradient. -/
theorem reference_gradient (p : S4x688x2048.Idx → EReal) : val_main_v1 (F := Ideal) p = gradient p := by
  funext i
  pointwise [val_main_v0, val_main_cst, val_main_v1, gradient]

open Cert.AdamFfnOutRefIdeal.Read in
/-- The reference's first moment. -/
theorem reference_first (p : S4x688x2048.Idx → EReal) (a : S688x2048.Idx → EReal) : val_main_v6 (F := Ideal) p a = first p a := by
  funext i
  pointwise [reference_gradient, val_main_cst_0, val_main_v2, val_main_v3, val_main_cst_1, val_main_v4, val_main_v5, val_main_v6, first, AdamStep.first]

open Cert.AdamFfnOutRefIdeal.Read in
/-- The reference's second moment. -/
theorem reference_second (p : S4x688x2048.Idx → EReal) (b : S688x2048.Idx → EReal) : val_main_v12 (F := Ideal) p b = second p b := by
  funext i
  pointwise [reference_gradient, val_main_cst_2, val_main_v7, val_main_v8, val_main_v9, val_main_cst_3, val_main_v10, val_main_v11, val_main_v12, second, AdamStep.second]

open Cert.AdamFfnOutRefIdeal.Read in
/-- The reference's change of the weights. -/
theorem reference_change (p : S4x688x2048.Idx → EReal) (w a b : S688x2048.Idx → EReal) :
    val_main_v25 (F := Ideal) p w a b = change p w a b := by
  funext i
  pointwise [reference_first, reference_second, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25, first, second, change, AdamStep.change]

end Cert.AdamFfnOutIdeal.Product

end
-- ==== Proof.ValAdamMixIn.lean ====
/- The optimiser's step on the mixer's input weights: each of the four grid points adds four parts of the gradient on 512 columns.
   Here the four arrays the grid leaves are shown to be the added gradient and the optimiser's formulas of it entry by entry,
   and the reference to be the same. -/
module

public import proofs.«01_k».proof.Proof.Gen.AdamMixInIdeal.Value
public import proofs.«01_k».proof.Proof.Gen.AdamMixInRefIdeal.Read
public import proofs.«01_k».proof.Proof.AdamStep

@[expose] public section

set_option maxRecDepth 16384

noncomputable section

namespace Cert.AdamMixInIdeal.Product

open Idealize.ShloMosaic Idealize.ShloMosaic.TcCoe Idealize.SL.Sem
open Cert.AdamMixInIdeal Cert.AdamMixInIdeal.Gen
open scoped BigOperators

/-- The gradient: its four parts added. -/
def gradient (p : S4x513x2048.Idx → EReal) : S513x2048.Idx → EReal :=
  fun i => ∑ s : Fin 4, p (ix3 s (i 0 : Fin 513) (i 1 : Fin 2048))
/-- The new first moment. -/
def first (p : S4x513x2048.Idx → EReal) (a : S513x2048.Idx → EReal) : S513x2048.Idx → EReal :=
  fun i => AdamStep.first (gradient p i) (a i)
/-- The new second moment. -/
def second (p : S4x513x2048.Idx → EReal) (b : S513x2048.Idx → EReal) : S513x2048.Idx → EReal :=
  fun i => AdamStep.second (gradient p i) (b i)
/-- The change of the weights. -/
def change (p : S4x513x2048.Idx → EReal) (w a b : S513x2048.Idx → EReal) : S513x2048.Idx → EReal :=
  fun i => AdamStep.change (gradient p i) (w i) (a i) (b i)

variable (m : (ℓ : Loc nD τ sig) → Buf (Elt Ideal) ℓ) (c : Dev nD)

/-- The gradient's parts in memory. -/
abbrev partsOf : S4x513x2048.Idx → EReal := m ((c : Thread nD τ).loc main_arg0)
/-- The weights in memory. -/
abbrev wOf : S513x2048.Idx → EReal := m ((c : Thread nD τ).loc main_arg1)
/-- The first moment in memory. -/
abbrev firstOf : S513x2048.Idx → EReal := m ((c : Thread nD τ).loc main_arg2)
/-- The second moment in memory. -/
abbrev secondOf : S513x2048.Idx → EReal := m ((c : Thread nD τ).loc main_arg3)

/-- Which blocks a grid point reads and writes. -/
theorem idx : ∀ t : Fin cfg0.N, win0_0.index t = ![0, 0, t.val] ∧ win0_1.index t = ![0, t.val]
    ∧ win0_2.index t = ![0, t.val] ∧ win0_3.index t = ![0, t.val] ∧ win0_4.index t = ![0, t.val]
    ∧ win0_5.index t = ![0, t.val] ∧ win0_6.index t = ![0, t.val] ∧ win0_7.index t = ![0, t.val] :=
  (by decide +kernel : ∀ t : Fin grid0.N, _)

/-- The array of the gradient when the grid is done. -/
theorem final_gradient : (dats m 0 c).arrAt 4 cfg0.N = gradient (partsOf m c) := by
  refine (dats m 0 c).arrAt_eq_of_covers 4 _ (by decide +kernel) fun t _ y => ?_
  blk_simp
  rw [after0_4]; frame_out
  open_payloads; pointwise [gradient, Fin.sum_univ_four]; blk_point [iblk, V, idx t]

/-- The array of the weights' change when the grid is done. -/
theorem final_change : (dats m 0 c).arrAt 5 cfg0.N = change (partsOf m c) (wOf m c) (firstOf m c) (secondOf m c) := by
  refine (dats m 0 c).arrAt_eq_of_covers 5 _ (by decide +kernel) fun t _ y => ?_
  blk_simp
  rw [after0_5]; frame_out
  open_payloads
  pointwise [change, AdamStep.change, AdamStep.first, AdamStep.second, gradient, Fin.sum_univ_four]; blk_point [iblk, V, idx t]

/-- The array of the first moment when the grid is done. -/
theorem final_first : (dats m 0 c).arrAt 6 cfg0.N = first (partsOf m c) (firstOf m c) := by
  refine (dats m 0 c).arrAt_eq_of_covers 6 _ (by decide +kernel) fun t _ y => ?_
  blk_simp
  rw [after0_6]; frame_out
  open_payloads; pointwise [first, AdamStep.first, gradient, Fin.sum_univ_four]; blk_point [iblk, V, idx t]

/-- The array of the second moment when the grid is done. -/
theorem final_second : (dats m 0 c).arrAt 7 cfg0.N = second (partsOf m c) (secondOf m c) := by
  refine (dats m 0 c).arrAt_eq_of_covers 7 _ (by decide +kernel) fun t _ y => ?_
  blk_simp
  rw [after0_7]; frame_out
  open_payloads; pointwise [second, AdamStep.second, gradient, Fin.sum_univ_four]; blk_point [iblk, V, idx t]

open Cert.AdamMixInRefIdeal.Read in
/-- The reference's gradient. -/
theorem reference_gradient (p : S4x513x2048.Idx → EReal) : val_main_v1 (F := Ideal) p = gradient p := by
  funext i
  pointwise [val_main_v0, val_main_cst, val_main_v1, gradient]

open Cert.AdamMixInRefIdeal.Read in
/-- The reference's first moment. -/
theorem reference_first (p : S4x513x2048.Idx → EReal) (a : S513x2048.Idx → EReal) : val_main_v6 (F := Ideal) p a = first p a := by
  funext i
  pointwise [reference_gradient, val_main_cst_0, val_main_v2, val_main_v3, val_main_cst_1, val_main_v4, val_main_v5, val_main_v6, first, AdamStep.first]

open Cert.AdamMixInRefIdeal.Read in
/-- The reference's second moment. -/
theorem reference_second (p : S4x513x2048.Idx → EReal) (b : S513x2048.Idx → EReal) : val_main_v12 (F := Ideal) p b = second p b := by
  funext i
  pointwise [reference_gradient, val_main_cst_2, val_main_v7, val_main_v8, val_main_v9, val_main_cst_3, val_main_v10, val_main_v11, val_main_v12, second, AdamStep.second]

open Cert.AdamMixInRefIdeal.Read in
/-- The reference's change of the weights. -/
theorem reference_change (p : S4x513x2048.Idx → EReal) (w a b : S513x2048.Idx → EReal) :
    val_main_v25 (F := Ideal) p w a b = change p w a b := by
  funext i
  pointwise [reference_first, reference_second, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25, first, second, change, AdamStep.change]

end Cert.AdamMixInIdeal.Product

end
-- ==== Proof.ValAdamMixOut.lean ====
/- The optimiser's step on the mixer's output weights: each of the four grid points adds four parts of the gradient on 64 rows.
   Here the four arrays the grid leaves are shown to be the added gradient and the optimiser's formulas of it entry by entry,
   and the reference to be the same. -/
module

public import proofs.«01_k».proof.Proof.Gen.AdamMixOutIdeal.Value
public import proofs.«01_k».proof.Proof.Gen.AdamMixOutRefIdeal.Read
public import proofs.«01_k».proof.Proof.AdamStep

@[expose] public section

set_option maxRecDepth 16384

noncomputable section

namespace Cert.AdamMixOutIdeal.Product

open Idealize.ShloMosaic Idealize.ShloMosaic.TcCoe Idealize.SL.Sem
open Cert.AdamMixOutIdeal Cert.AdamMixOutIdeal.Gen
open scoped BigOperators

/-- The gradient: its four parts added. -/
def gradient (p : S4x256x2048.Idx → EReal) : S256x2048.Idx → EReal :=
  fun i => ∑ s : Fin 4, p (ix3 s (i 0 : Fin 256) (i 1 : Fin 2048))
/-- The new first moment. -/
def first (p : S4x256x2048.Idx → EReal) (a : S256x2048.Idx → EReal) : S256x2048.Idx → EReal :=
  fun i => AdamStep.first (gradient p i) (a i)
/-- The new second moment. -/
def second (p : S4x256x2048.Idx → EReal) (b : S256x2048.Idx → EReal) : S256x2048.Idx → EReal :=
  fun i => AdamStep.second (gradient p i) (b i)
/-- The change of the weights. -/
def change (p : S4x256x2048.Idx → EReal) (w a b : S256x2048.Idx → EReal) : S256x2048.Idx → EReal :=
  fun i => AdamStep.change (gradient p i) (w i) (a i) (b i)

variable (m : (ℓ : Loc nD τ sig) → Buf (Elt Ideal) ℓ) (c : Dev nD)

/-- The gradient's parts in memory. -/
abbrev partsOf : S4x256x2048.Idx → EReal := m ((c : Thread nD τ).loc main_arg0)
/-- The weights in memory. -/
abbrev wOf : S256x2048.Idx → EReal := m ((c : Thread nD τ).loc main_arg1)
/-- The first moment in memory. -/
abbrev firstOf : S256x2048.Idx → EReal := m ((c : Thread nD τ).loc main_arg2)
/-- The second moment in memory. -/
abbrev secondOf : S256x2048.Idx → EReal := m ((c : Thread nD τ).loc main_arg3)

/-- Which blocks a grid point reads and writes. -/
theorem idx : ∀ t : Fin cfg0.N, win0_0.index t = ![0, t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

/-- The array of the gradient when the grid is done. -/
theorem final_gradient : (dats m 0 c).arrAt 4 cfg0.N = gradient (partsOf m c) := by
  refine (dats m 0 c).arrAt_eq_of_covers 4 _ (by decide +kernel) fun t _ y => ?_
  blk_simp
  rw [after0_4]; frame_out
  open_payloads; pointwise [gradient, Fin.sum_univ_four]; blk_point [iblk, V, idx t]

/-- The array of the weights' change when the grid is done. -/
theorem final_change : (dats m 0 c).arrAt 5 cfg0.N = change (partsOf m c) (wOf m c) (firstOf m c) (secondOf m c) := by
  refine (dats m 0 c).arrAt_eq_of_covers 5 _ (by decide +kernel) fun t _ y => ?_
  blk_simp
  rw [after0_5]; frame_out
  open_payloads
  pointwise [change, AdamStep.change, AdamStep.first, AdamStep.second, gradient, Fin.sum_univ_four]; blk_point [iblk, V, idx t]

/-- The array of the first moment when the grid is done. -/
theorem final_first : (dats m 0 c).arrAt 6 cfg0.N = first (partsOf m c) (firstOf m c) := by
  refine (dats m 0 c).arrAt_eq_of_covers 6 _ (by decide +kernel) fun t _ y => ?_
  blk_simp
  rw [after0_6]; frame_out
  open_payloads; pointwise [first, AdamStep.first, gradient, Fin.sum_univ_four]; blk_point [iblk, V, idx t]

/-- The array of the second moment when the grid is done. -/
theorem final_second : (dats m 0 c).arrAt 7 cfg0.N = second (partsOf m c) (secondOf m c) := by
  refine (dats m 0 c).arrAt_eq_of_covers 7 _ (by decide +kernel) fun t _ y => ?_
  blk_simp
  rw [after0_7]; frame_out
  open_payloads; pointwise [second, AdamStep.second, gradient, Fin.sum_univ_four]; blk_point [iblk, V, idx t]

open Cert.AdamMixOutRefIdeal.Read in
/-- The reference's gradient. -/
theorem reference_gradient (p : S4x256x2048.Idx → EReal) : val_main_v1 (F := Ideal) p = gradient p := by
  funext i
  pointwise [val_main_v0, val_main_cst, val_main_v1, gradient]

open Cert.AdamMixOutRefIdeal.Read in
/-- The reference's first moment. -/
theorem reference_first (p : S4x256x2048.Idx → EReal) (a : S256x2048.Idx → EReal) : val_main_v6 (F := Ideal) p a = first p a := by
  funext i
  pointwise [reference_gradient, val_main_cst_0, val_main_v2, val_main_v3, val_main_cst_1, val_main_v4, val_main_v5, val_main_v6, first, AdamStep.first]

open Cert.AdamMixOutRefIdeal.Read in
/-- The reference's second moment. -/
theorem reference_second (p : S4x256x2048.Idx → EReal) (b : S256x2048.Idx → EReal) : val_main_v12 (F := Ideal) p b = second p b := by
  funext i
  pointwise [reference_gradient, val_main_cst_2, val_main_v7, val_main_v8, val_main_v9, val_main_cst_3, val_main_v10, val_main_v11, val_main_v12, second, AdamStep.second]

open Cert.AdamMixOutRefIdeal.Read in
/-- The reference's change of the weights. -/
theorem reference_change (p : S4x256x2048.Idx → EReal) (w a b : S256x2048.Idx → EReal) :
    val_main_v25 (F := Ideal) p w a b = change p w a b := by
  funext i
  pointwise [reference_first, reference_second, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25, first, second, change, AdamStep.change]

end Cert.AdamMixOutIdeal.Product

end
-- ==== Proof.ValAdamPool.lean ====
/- The optimiser's step on the pool's weights: the one grid point adds four parts of the gradient.
   Here the four arrays the grid leaves are shown to be the added gradient and the optimiser's formulas of it entry by entry,
   and the reference to be the same. -/
module

public import proofs.«01_k».proof.Proof.Gen.AdamPoolIdeal.Value
public import proofs.«01_k».proof.Proof.Gen.AdamPoolRefIdeal.Read
public import proofs.«01_k».proof.Proof.AdamStep

@[expose] public section

set_option maxRecDepth 16384

noncomputable section

namespace Cert.AdamPoolIdeal.Product

open Idealize.ShloMosaic Idealize.ShloMosaic.TcCoe Idealize.SL.Sem
open Cert.AdamPoolIdeal Cert.AdamPoolIdeal.Gen
open scoped BigOperators

/-- The gradient: its four parts added. -/
def gradient (p : S4x128x256.Idx → EReal) : S128x256.Idx → EReal :=
  fun i => ∑ s : Fin 4, p (ix3 s (i 0 : Fin 128) (i 1 : Fin 256))
/-- The new first moment. -/
def first (p : S4x128x256.Idx → EReal) (a : S128x256.Idx → EReal) : S128x256.Idx → EReal :=
  fun i => AdamStep.first (gradient p i) (a i)
/-- The new second moment. -/
def second (p : S4x128x256.Idx → EReal) (b : S128x256.Idx → EReal) : S128x256.Idx → EReal :=
  fun i => AdamStep.second (gradient p i) (b i)
/-- The change of the weights. -/
def change (p : S4x128x256.Idx → EReal) (w a b : S128x256.Idx → EReal) : S128x256.Idx → EReal :=
  fun i => AdamStep.change (gradient p i) (w i) (a i) (b i)

variable (m : (ℓ : Loc nD τ sig) → Buf (Elt Ideal) ℓ) (c : Dev nD)

/-- The gradient's parts in memory. -/
abbrev partsOf : S4x128x256.Idx → EReal := m ((c : Thread nD τ).loc main_arg0)
/-- The weights in memory. -/
abbrev wOf : S128x256.Idx → EReal := m ((c : Thread nD τ).loc main_arg1)
/-- The first moment in memory. -/
abbrev firstOf : S128x256.Idx → EReal := m ((c : Thread nD τ).loc main_arg2)
/-- The second moment in memory. -/
abbrev secondOf : S128x256.Idx → EReal := m ((c : Thread nD τ).loc main_arg3)

/-- Which blocks a grid point reads and writes. -/
theorem idx : ∀ t : Fin cfg0.N, win0_0.index t = ![0, 0, 0] ∧ win0_1.index t = ![0, 0]
    ∧ win0_2.index t = ![0, 0] ∧ win0_3.index t = ![0, 0] ∧ win0_4.index t = ![0, 0]
    ∧ win0_5.index t = ![0, 0] ∧ win0_6.index t = ![0, 0] ∧ win0_7.index t = ![0, 0] :=
  (by decide +kernel : ∀ t : Fin grid0.N, _)

/-- The array of the gradient when the grid is done. -/
theorem final_gradient : (dats m 0 c).arrAt 4 cfg0.N = gradient (partsOf m c) := by
  refine (dats m 0 c).arrAt_eq_of_covers 4 _ (by decide +kernel) fun t _ y => ?_
  blk_simp
  rw [after0_4]; frame_out
  open_payloads; pointwise [gradient, Fin.sum_univ_four]; blk_point [iblk, V, idx t]

/-- The array of the weights' change when the grid is done. -/
theorem final_change : (dats m 0 c).arrAt 5 cfg0.N = change (partsOf m c) (wOf m c) (firstOf m c) (secondOf m c) := by
  refine (dats m 0 c).arrAt_eq_of_covers 5 _ (by decide +kernel) fun t _ y => ?_
  blk_simp
  rw [after0_5]; frame_out
  open_payloads
  pointwise [change, AdamStep.change, AdamStep.first, AdamStep.second, gradient, Fin.sum_univ_four]; blk_point [iblk, V, idx t]

/-- The array of the first moment when the grid is done. -/
theorem final_first : (dats m 0 c).arrAt 6 cfg0.N = first (partsOf m c) (firstOf m c) := by
  refine (dats m 0 c).arrAt_eq_of_covers 6 _ (by decide +kernel) fun t _ y => ?_
  blk_simp
  rw [after0_6]; frame_out
  open_payloads; pointwise [first, AdamStep.first, gradient, Fin.sum_univ_four]; blk_point [iblk, V, idx t]

/-- The array of the second moment when the grid is done. -/
theorem final_second : (dats m 0 c).arrAt 7 cfg0.N = second (partsOf m c) (secondOf m c) := by
  refine (dats m 0 c).arrAt_eq_of_covers 7 _ (by decide +kernel) fun t _ y => ?_
  blk_simp
  rw [after0_7]; frame_out
  open_payloads; pointwise [second, AdamStep.second, gradient, Fin.sum_univ_four]; blk_point [iblk, V, idx t]

open Cert.AdamPoolRefIdeal.Read in
/-- The reference's gradient. -/
theorem reference_gradient (p : S4x128x256.Idx → EReal) : val_main_v1 (F := Ideal) p = gradient p := by
  funext i
  pointwise [val_main_v0, val_main_cst, val_main_v1, gradient]

open Cert.AdamPoolRefIdeal.Read in
/-- The reference's first moment. -/
theorem reference_first (p : S4x128x256.Idx → EReal) (a : S128x256.Idx → EReal) : val_main_v6 (F := Ideal) p a = first p a := by
  funext i
  pointwise [reference_gradient, val_main_cst_0, val_main_v2, val_main_v3, val_main_cst_1, val_main_v4, val_main_v5, val_main_v6, first, AdamStep.first]

open Cert.AdamPoolRefIdeal.Read in
/-- The reference's second moment. -/
theorem reference_second (p : S4x128x256.Idx → EReal) (b : S128x256.Idx → EReal) : val_main_v12 (F := Ideal) p b = second p b := by
  funext i
  pointwise [reference_gradient, val_main_cst_2, val_main_v7, val_main_v8, val_main_v9, val_main_cst_3, val_main_v10, val_main_v11, val_main_v12, second, AdamStep.second]

open Cert.AdamPoolRefIdeal.Read in
/-- The reference's change of the weights. -/
theorem reference_change (p : S4x128x256.Idx → EReal) (w a b : S128x256.Idx → EReal) :
    val_main_v25 (F := Ideal) p w a b = change p w a b := by
  funext i
  pointwise [reference_first, reference_second, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25, first, second, change, AdamStep.change]

end Cert.AdamPoolIdeal.Product

end
-- ==== Proof.ValAdamSmall.lean ====
/- The optimiser's step on the small weights, which the host packs into one array: the one grid point adds eight parts of
   the gradient.
   Here the four arrays the grid leaves are shown to be the added gradient and the optimiser's formulas of it entry by entry,
   and the reference to be the same. -/
module

public import proofs.«01_k».proof.Proof.Gen.AdamSmallIdeal.Value
public import proofs.«01_k».proof.Proof.Gen.AdamSmallRefIdeal.Read
public import proofs.«01_k».proof.Proof.AdamStep

@[expose] public section

set_option maxRecDepth 16384

noncomputable section

namespace Cert.AdamSmallIdeal.Product

open Idealize.ShloMosaic Idealize.ShloMosaic.TcCoe Idealize.SL.Sem
open Cert.AdamSmallIdeal Cert.AdamSmallIdeal.Gen
open scoped BigOperators

/-- The gradient: its eight parts added. -/
def gradient (p : S8x8x3584.Idx → EReal) : S8x3584.Idx → EReal :=
  fun i => ∑ s : Fin 8, p (ix3 s (i 0 : Fin 8) (i 1 : Fin 3584))
/-- The new first moment. -/
def first (p : S8x8x3584.Idx → EReal) (a : S8x3584.Idx → EReal) : S8x3584.Idx → EReal :=
  fun i => AdamStep.first (gradient p i) (a i)
/-- The new second moment. -/
def second (p : S8x8x3584.Idx → EReal) (b : S8x3584.Idx → EReal) : S8x3584.Idx → EReal :=
  fun i => AdamStep.second (gradient p i) (b i)
/-- The change of the weights. -/
def change (p : S8x8x3584.Idx → EReal) (w a b : S8x3584.Idx → EReal) : S8x3584.Idx → EReal :=
  fun i => AdamStep.change (gradient p i) (w i) (a i) (b i)

variable (m : (ℓ : Loc nD τ sig) → Buf (Elt Ideal) ℓ) (c : Dev nD)

/-- The gradient's parts in memory. -/
abbrev partsOf : S8x8x3584.Idx → EReal := m ((c : Thread nD τ).loc main_arg0)
/-- The weights in memory. -/
abbrev wOf : S8x3584.Idx → EReal := m ((c : Thread nD τ).loc main_arg1)
/-- The first moment in memory. -/
abbrev firstOf : S8x3584.Idx → EReal := m ((c : Thread nD τ).loc main_arg2)
/-- The second moment in memory. -/
abbrev secondOf : S8x3584.Idx → EReal := m ((c : Thread nD τ).loc main_arg3)

/-- Which blocks a grid point reads and writes. -/
theorem idx : ∀ t : Fin cfg0.N, win0_0.index t = ![0, 0, 0] ∧ win0_1.index t = ![0, 0]
    ∧ win0_2.index t = ![0, 0] ∧ win0_3.index t = ![0, 0] ∧ win0_4.index t = ![0, 0]
    ∧ win0_5.index t = ![0, 0] ∧ win0_6.index t = ![0, 0] ∧ win0_7.index t = ![0, 0] :=
  (by decide +kernel : ∀ t : Fin grid0.N, _)

/-- The array of the gradient when the grid is done. -/
theorem final_gradient : (dats m 0 c).arrAt 4 cfg0.N = gradient (partsOf m c) := by
  refine (dats m 0 c).arrAt_eq_of_covers 4 _ (by decide +kernel) fun t _ y => ?_
  blk_simp
  rw [after0_4]; frame_out
  open_payloads; pointwise [gradient, Fin.sum_univ_eight]; blk_point [iblk, V, idx t]

/-- The array of the weights' change when the grid is done. -/
theorem final_change : (dats m 0 c).arrAt 5 cfg0.N = change (partsOf m c) (wOf m c) (firstOf m c) (secondOf m c) := by
  refine (dats m 0 c).arrAt_eq_of_covers 5 _ (by decide +kernel) fun t _ y => ?_
  blk_simp
  rw [after0_5]; frame_out
  open_payloads
  pointwise [change, AdamStep.change, AdamStep.first, AdamStep.second, gradient, Fin.sum_univ_eight]; blk_point [iblk, V, idx t]

/-- The array of the first moment when the grid is done. -/
theorem final_first : (dats m 0 c).arrAt 6 cfg0.N = first (partsOf m c) (firstOf m c) := by
  refine (dats m 0 c).arrAt_eq_of_covers 6 _ (by decide +kernel) fun t _ y => ?_
  blk_simp
  rw [after0_6]; frame_out
  open_payloads; pointwise [first, AdamStep.first, gradient, Fin.sum_univ_eight]; blk_point [iblk, V, idx t]

/-- The array of the second moment when the grid is done. -/
theorem final_second : (dats m 0 c).arrAt 7 cfg0.N = second (partsOf m c) (secondOf m c) := by
  refine (dats m 0 c).arrAt_eq_of_covers 7 _ (by decide +kernel) fun t _ y => ?_
  blk_simp
  rw [after0_7]; frame_out
  open_payloads; pointwise [second, AdamStep.second, gradient, Fin.sum_univ_eight]; blk_point [iblk, V, idx t]

open Cert.AdamSmallRefIdeal.Read in
/-- The reference's gradient. -/
theorem reference_gradient (p : S8x8x3584.Idx → EReal) : val_main_v0 (F := Ideal) p = gradient p := by
  funext i
  pointwise [val_main_cst, val_main_v0, gradient]

open Cert.AdamSmallRefIdeal.Read in
/-- The reference's first moment. -/
theorem reference_first (p : S8x8x3584.Idx → EReal) (a : S8x3584.Idx → EReal) : val_main_v5 (F := Ideal) p a = first p a := by
  funext i
  pointwise [reference_gradient, val_main_cst_0, val_main_v1, val_main_v2, val_main_cst_1, val_main_v3, val_main_v4, val_main_v5, first, AdamStep.first]

open Cert.AdamSmallRefIdeal.Read in
/-- The reference's second moment. -/
theorem reference_second (p : S8x8x3584.Idx → EReal) (b : S8x3584.Idx → EReal) : val_main_v11 (F := Ideal) p b = second p b := by
  funext i
  pointwise [reference_gradient, val_main_cst_2, val_main_v6, val_main_v7, val_main_v8, val_main_cst_3, val_main_v9, val_main_v10, val_main_v11, second, AdamStep.second]

open Cert.AdamSmallRefIdeal.Read in
/-- The reference's change of the weights. -/
theorem reference_change (p : S8x8x3584.Idx → EReal) (w a b : S8x3584.Idx → EReal) :
    val_main_v24 (F := Ideal) p w a b = change p w a b := by
  funext i
  pointwise [reference_first, reference_second, val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24, first, second, change, AdamStep.change]

end Cert.AdamSmallIdeal.Product

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.FfnDwo
public import proofs.«01_k».proof.Proof.Gen.FfnDwo.Skeleton
public import proofs.«01_k».proof.Proof.Gen.FfnDwo.Launch
public import proofs.«01_k».proof.Proof.Gen.FfnDwo.Points
public import proofs.«01_k».proof.Proof.Gen.FfnDwo.Frame
public import proofs.«01_k».proof.Proof.Gen.FfnDwoIdeal
public import proofs.«01_k».proof.Proof.Gen.FfnDwoIdeal.Value
public import proofs.«01_k».proof.Proof.Gen.FfnDwoIdeal.Skeleton
public import proofs.«01_k».proof.Proof.Gen.FfnDwoIdeal.Launch
public import proofs.«01_k».proof.Proof.Gen.FfnDwoIdeal.Points
public import proofs.«01_k».proof.Proof.Gen.FfnDwoIdeal.Frame
public import proofs.«01_k».proof.Proof.Gen.FfnDwoRefIdeal
public import proofs.«01_k».proof.Proof.Gen.FfnDwoRefIdeal.Run
public import proofs.«01_k».proof.Proof.Gen.FfnDwoRefIdeal.Read
public import proofs.«01_k».proof.Proof.Gen.FfnDownBwd
public import proofs.«01_k».proof.Proof.Gen.FfnDownBwd.Skeleton
public import proofs.«01_k».proof.Proof.Gen.FfnDownBwd.Launch
public import proofs.«01_k».proof.Proof.Gen.FfnDownBwd.Points
public import proofs.«01_k».proof.Proof.Gen.FfnDownBwd.Frame
public import proofs.«01_k».proof.Proof.Gen.FfnDownBwdIdeal
public import proofs.«01_k».proof.Proof.Gen.FfnDownBwdIdeal.Value
public import proofs.«01_k».proof.Proof.Gen.FfnDownBwdIdeal.Skeleton
public import proofs.«01_k».proof.Proof.Gen.FfnDownBwdIdeal.Launch
public import proofs.«01_k».proof.Proof.Gen.FfnDownBwdIdeal.Points
public import proofs.«01_k».proof.Proof.Gen.FfnDownBwdIdeal.Frame
public import proofs.«01_k».proof.Proof.Gen.FfnDownBwdRefIdeal
public import proofs.«01_k».proof.Proof.Gen.FfnDownBwdRefIdeal.Run
public import proofs.«01_k».proof.Proof.Gen.FfnDownBwdRefIdeal.Read
public import proofs.«01_k».proof.Proof.Gen.FfnDwi
public import proofs.«01_k».proof.Proof.Gen.FfnDwi.Skeleton
public import proofs.«01_k».proof.Proof.Gen.FfnDwi.Launch
public import proofs.«01_k».proof.Proof.Gen.FfnDwi.Points
public import proofs.«01_k».proof.Proof.Gen.FfnDwi.Frame
public import proofs.«01_k».proof.Proof.Gen.FfnDwiIdeal
public import proofs.«01_k».proof.Proof.Gen.FfnDwiIdeal.Value
public import proofs.«01_k».proof.Proof.Gen.FfnDwiIdeal.Skeleton
public import proofs.«01_k».proof.Proof.Gen.FfnDwiIdeal.Launch
public import proofs.«01_k».proof.Proof.Gen.FfnDwiIdeal.Points
public import proofs.«01_k».proof.Proof.Gen.FfnDwiIdeal.Frame
public import proofs.«01_k».proof.Proof.Gen.FfnDwiRefIdeal
public import proofs.«01_k».proof.Proof.Gen.FfnDwiRefIdeal.Run
public import proofs.«01_k».proof.Proof.Gen.FfnDwiRefIdeal.Read
public import proofs.«01_k».proof.Proof.Gen.FfnDhm
public import proofs.«01_k».proof.Proof.Gen.FfnDhm.Skeleton
public import proofs.«01_k».proof.Proof.Gen.FfnDhm.Launch
public import proofs.«01_k».proof.Proof.Gen.FfnDhm.Points
public import proofs.«01_k».proof.Proof.Gen.FfnDhm.Frame
public import proofs.«01_k».proof.Proof.Gen.FfnDhmIdeal
public import proofs.«01_k».proof.Proof.Gen.FfnDhmIdeal.Value
public import proofs.«01_k».proof.Proof.Gen.FfnDhmIdeal.Skeleton
public import proofs.«01_k».proof.Proof.Gen.FfnDhmIdeal.Launch
public import proofs.«01_k».proof.Proof.Gen.FfnDhmIdeal.Points
public import proofs.«01_k».proof.Proof.Gen.FfnDhmIdeal.Frame
public import proofs.«01_k».proof.Proof.Gen.FfnDhmRefIdeal
public import proofs.«01_k».proof.Proof.Gen.FfnDhmRefIdeal.Run
public import proofs.«01_k».proof.Proof.Gen.FfnDhmRefIdeal.Read
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Value
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpRefIdeal
public import proofs.«01_k».proof.Proof.Gen.FfnUpRefIdeal.Run
public import proofs.«01_k».proof.Proof.Gen.FfnUpRefIdeal.Read
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Value
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownRefIdeal
public import proofs.«01_k».proof.Proof.Gen.FfnDownRefIdeal.Run
public import proofs.«01_k».proof.Proof.Gen.FfnDownRefIdeal.Read
public import proofs.«01_k».proof.Proof.Gen.MixDwOut
public import proofs.«01_k».proof.Proof.Gen.MixDwOut.Skeleton
public import proofs.«01_k».proof.Proof.Gen.MixDwOut.Launch
public import proofs.«01_k».proof.Proof.Gen.MixDwOut.Points
public import proofs.«01_k».proof.Proof.Gen.MixDwOut.Frame
public import proofs.«01_k».proof.Proof.Gen.MixDwOutIdeal
public import proofs.«01_k».proof.Proof.Gen.MixDwOutIdeal.Value
public import proofs.«01_k».proof.Proof.Gen.MixDwOutIdeal.Skeleton
public import proofs.«01_k».proof.Proof.Gen.MixDwOutIdeal.Launch
public import proofs.«01_k».proof.Proof.Gen.MixDwOutIdeal.Points
public import proofs.«01_k».proof.Proof.Gen.MixDwOutIdeal.Frame
public import proofs.«01_k».proof.Proof.Gen.MixDwOutRefIdeal
public import proofs.«01_k».proof.Proof.Gen.MixDwOutRefIdeal.Run
public import proofs.«01_k».proof.Proof.Gen.MixDwOutRefIdeal.Read
public import proofs.«01_k».proof.Proof.Gen.MixOutBwd
public import proofs.«01_k».proof.Proof.Gen.MixOutBwd.Skeleton
public import proofs.«01_k».proof.Proof.Gen.MixOutBwd.Launch
public import proofs.«01_k».proof.Proof.Gen.MixOutBwd.Points
public import proofs.«01_k».proof.Proof.Gen.MixOutBwd.Frame
public import proofs.«01_k».proof.Proof.Gen.MixOutBwdIdeal
public import proofs.«01_k».proof.Proof.Gen.MixOutBwdIdeal.Value
public import proofs.«01_k».proof.Proof.Gen.MixOutBwdIdeal.Skeleton
public import proofs.«01_k».proof.Proof.Gen.MixOutBwdIdeal.Launch
public import proofs.«01_k».proof.Proof.Gen.MixOutBwdIdeal.Points
public import proofs.«01_k».proof.Proof.Gen.MixOutBwdIdeal.Frame
public import proofs.«01_k».proof.Proof.Gen.MixOutBwdRefIdeal
public import proofs.«01_k».proof.Proof.Gen.MixOutBwdRefIdeal.Run
public import proofs.«01_k».proof.Proof.Gen.MixOutBwdRefIdeal.Read
public import proofs.«01_k».proof.Proof.Gen.MixDwIn
public import proofs.«01_k».proof.Proof.Gen.MixDwIn.Skeleton
public import proofs.«01_k».proof.Proof.Gen.MixDwIn.Launch
public import proofs.«01_k».proof.Proof.Gen.MixDwIn.Points
public import proofs.«01_k».proof.Proof.Gen.MixDwIn.Frame
public import proofs.«01_k».proof.Proof.Gen.MixDwInIdeal
public import proofs.«01_k».proof.Proof.Gen.MixDwInIdeal.Value
public import proofs.«01_k».proof.Proof.Gen.MixDwInIdeal.Skeleton
public import proofs.«01_k».proof.Proof.Gen.MixDwInIdeal.Launch
public import proofs.«01_k».proof.Proof.Gen.MixDwInIdeal.Points
public import proofs.«01_k».proof.Proof.Gen.MixDwInIdeal.Frame
public import proofs.«01_k».proof.Proof.Gen.MixDwInRefIdeal
public import proofs.«01_k».proof.Proof.Gen.MixDwInRefIdeal.Run
public import proofs.«01_k».proof.Proof.Gen.MixDwInRefIdeal.Read
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Value
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutRefIdeal
public import proofs.«01_k».proof.Proof.Gen.MixOutRefIdeal.Run
public import proofs.«01_k».proof.Proof.Gen.MixOutRefIdeal.Read
public import proofs.«01_k».proof.Proof.Gen.MixProj
public import proofs.«01_k».proof.Proof.Gen.MixProj.Skeleton
public import proofs.«01_k».proof.Proof.Gen.MixProj.Launch
public import proofs.«01_k».proof.Proof.Gen.MixProj.Points
public import proofs.«01_k».proof.Proof.Gen.MixProj.Frame
public import proofs.«01_k».proof.Proof.Gen.MixProjIdeal
public import proofs.«01_k».proof.Proof.Gen.MixProjIdeal.Value
public import proofs.«01_k».proof.Proof.Gen.MixProjIdeal.Skeleton
public import proofs.«01_k».proof.Proof.Gen.MixProjIdeal.Launch
public import proofs.«01_k».proof.Proof.Gen.MixProjIdeal.Points
public import proofs.«01_k».proof.Proof.Gen.MixProjIdeal.Frame
public import proofs.«01_k».proof.Proof.Gen.MixProjRefIdeal
public import proofs.«01_k».proof.Proof.Gen.MixProjRefIdeal.Run
public import proofs.«01_k».proof.Proof.Gen.MixProjRefIdeal.Read
public import proofs.«01_k».proof.Proof.Gen.MixProjBwd
public import proofs.«01_k».proof.Proof.Gen.MixProjBwd.Skeleton
public import proofs.«01_k».proof.Proof.Gen.MixProjBwd.Launch
public import proofs.«01_k».proof.Proof.Gen.MixProjBwd.Points
public import proofs.«01_k».proof.Proof.Gen.MixProjBwd.Frame
public import proofs.«01_k».proof.Proof.Gen.MixProjBwdIdeal
public import proofs.«01_k».proof.Proof.Gen.MixProjBwdIdeal.Value
public import proofs.«01_k».proof.Proof.Gen.MixProjBwdIdeal.Skeleton
public import proofs.«01_k».proof.Proof.Gen.MixProjBwdIdeal.Launch
public import proofs.«01_k».proof.Proof.Gen.MixProjBwdIdeal.Points
public import proofs.«01_k».proof.Proof.Gen.MixProjBwdIdeal.Frame
public import proofs.«01_k».proof.Proof.Gen.MixProjBwdRefIdeal
public import proofs.«01_k».proof.Proof.Gen.MixProjBwdRefIdeal.Run
public import proofs.«01_k».proof.Proof.Gen.MixProjBwdRefIdeal.Read
public import Idealize.ShloMosaic.Adequacy
public import Idealize.ShloMosaic.Init
public import proofs.«01_k».proof.Proof.PoolPre
public import proofs.«01_k».proof.Proof.ValFfnDwo
public import proofs.«01_k».proof.Proof.ValFfnDownBwd
public import proofs.«01_k».proof.Proof.ValFfnDwi
public import proofs.«01_k».proof.Proof.ValFfnDhm
public import proofs.«01_k».proof.Proof.ValFfnUp
public import proofs.«01_k».proof.Proof.ValFfnDown
public import proofs.«01_k».proof.Proof.ValMixDwOut
public import proofs.«01_k».proof.Proof.ValMixOutBwd
public import proofs.«01_k».proof.Proof.ValMixDwIn
public import proofs.«01_k».proof.Proof.ValMixOut
public import proofs.«01_k».proof.Proof.ValMixProj
public import proofs.«01_k».proof.Proof.ValMixProjBwd
public import proofs.«01_k».proof.Proof.ValQkNormBwd
public import proofs.«01_k».proof.Proof.ValAttnDelta
public import proofs.«01_k».proof.Proof.ValNorm1Bwd
public import proofs.«01_k».proof.Proof.ValNorm2Bwd
public import proofs.«01_k».proof.Proof.ValNormFwd
public import proofs.«01_k».proof.Proof.AttnSame
public import proofs.«01_k».proof.Proof.ValNorm3Bwd
public import proofs.«01_k».proof.Proof.ValQkNormFwd
public import proofs.«01_k».proof.Proof.ValFinalLoss
public import proofs.«01_k».proof.Proof.ValAdaBwd
public import proofs.«01_k».proof.Proof.ValAdaFwd
public import proofs.«01_k».proof.Proof.ValAdamW
public import proofs.«01_k».proof.Proof.ValAdamFfnIn
public import proofs.«01_k».proof.Proof.ValAdamFfnOut
public import proofs.«01_k».proof.Proof.ValAdamMixIn
public import proofs.«01_k».proof.Proof.ValAdamMixOut
public import proofs.«01_k».proof.Proof.ValAdamPool
public import proofs.«01_k».proof.Proof.ValAdamSmall
public import proofs.«01_k».proof.Proof.Gen.AdaBwdRefIdeal.Run
public import proofs.«01_k».proof.Proof.Gen.AdaBwdRefIdeal.Read
public import proofs.«01_k».proof.Proof.Gen.AdaBwd.Frame
public import proofs.«01_k».proof.Proof.Gen.AdaFwdIdeal.Value
public import proofs.«01_k».proof.Proof.Gen.AdaFwdRefIdeal.Run
public import proofs.«01_k».proof.Proof.Gen.AdaFwdRefIdeal.Read
public import proofs.«01_k».proof.Proof.Gen.AdaFwd.Frame
public import proofs.«01_k».proof.Proof.Gen.AdamWIdeal.Value
public import proofs.«01_k».proof.Proof.Gen.AdamWRefIdeal.Run
public import proofs.«01_k».proof.Proof.Gen.AdamWRefIdeal.Read
public import proofs.«01_k».proof.Proof.Gen.AdamW.Frame
public import proofs.«01_k».proof.Proof.Gen.AdamFfnInIdeal.Value
public import proofs.«01_k».proof.Proof.Gen.AdamFfnInRefIdeal.Run
public import proofs.«01_k».proof.Proof.Gen.AdamFfnInRefIdeal.Read
public import proofs.«01_k».proof.Proof.Gen.AdamFfnIn.Frame
public import proofs.«01_k».proof.Proof.Gen.AdamFfnOutIdeal.Value
public import proofs.«01_k».proof.Proof.Gen.AdamFfnOutRefIdeal.Run
public import proofs.«01_k».proof.Proof.Gen.AdamFfnOutRefIdeal.Read
public import proofs.«01_k».proof.Proof.Gen.AdamFfnOut.Frame
public import proofs.«01_k».proof.Proof.Gen.AdamMixInIdeal.Value
public import proofs.«01_k».proof.Proof.Gen.AdamMixInRefIdeal.Run
public import proofs.«01_k».proof.Proof.Gen.AdamMixInRefIdeal.Read
public import proofs.«01_k».proof.Proof.Gen.AdamMixIn.Frame
public import proofs.«01_k».proof.Proof.Gen.AdamMixOutIdeal.Value
public import proofs.«01_k».proof.Proof.Gen.AdamMixOutRefIdeal.Run
public import proofs.«01_k».proof.Proof.Gen.AdamMixOutRefIdeal.Read
public import proofs.«01_k».proof.Proof.Gen.AdamMixOut.Frame
public import proofs.«01_k».proof.Proof.Gen.AdamPoolIdeal.Value
public import proofs.«01_k».proof.Proof.Gen.AdamPoolRefIdeal.Run
public import proofs.«01_k».proof.Proof.Gen.AdamPoolRefIdeal.Read
public import proofs.«01_k».proof.Proof.Gen.AdamPool.Frame
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.Gen.AdamSmall.Frame
public import proofs.«01_k».proof.Proof.ValFfnDwo
public import proofs.«01_k».proof.Proof.ValFfnDownBwd
public import proofs.«01_k».proof.Proof.ValFfnDwi
public import proofs.«01_k».proof.Proof.ValFfnDhm
public import proofs.«01_k».proof.Proof.ValFfnUp
public import proofs.«01_k».proof.Proof.ValFfnDown
public import proofs.«01_k».proof.Proof.ValMixDwOut
public import proofs.«01_k».proof.Proof.ValMixOutBwd
public import proofs.«01_k».proof.Proof.ValMixDwIn
public import proofs.«01_k».proof.Proof.ValMixOut
public import proofs.«01_k».proof.Proof.ValMixProj
public import proofs.«01_k».proof.Proof.ValMixProjBwd
public import proofs.«01_k».proof.Proof.ValQkNormBwd
public import proofs.«01_k».proof.Proof.ValAttnDelta
public import proofs.«01_k».proof.Proof.ValNorm1Bwd
public import proofs.«01_k».proof.Proof.ValNorm2Bwd
public import proofs.«01_k».proof.Proof.ValNormFwd
public import proofs.«01_k».proof.Proof.AttnSame
public import proofs.«01_k».proof.Proof.ValNorm3Bwd
public import proofs.«01_k».proof.Proof.ValQkNormFwd
public import proofs.«01_k».proof.Proof.ValFinalLoss
public import proofs.«01_k».proof.Proof.Gen.QkNormBwdRefIdeal.Run
public import proofs.«01_k».proof.Proof.Gen.QkNormBwdRefIdeal.Read
public import proofs.«01_k».proof.Proof.Gen.QkNormBwd.Frame
public import proofs.«01_k».proof.Proof.Gen.AttnDeltaIdeal.Value
public import proofs.«01_k».proof.Proof.Gen.AttnDeltaRefIdeal.Run
public import proofs.«01_k».proof.Proof.Gen.AttnDeltaRefIdeal.Read
public import proofs.«01_k».proof.Proof.Gen.AttnDelta.Frame
public import proofs.«01_k».proof.Proof.Gen.Norm1BwdIdeal.Value
public import proofs.«01_k».proof.Proof.Gen.Norm1BwdRefIdeal.Run
public import proofs.«01_k».proof.Proof.Gen.Norm1BwdRefIdeal.Read
public import proofs.«01_k».proof.Proof.Gen.Norm1Bwd.Frame
public import proofs.«01_k».proof.Proof.Gen.Norm2BwdIdeal.Value
public import proofs.«01_k».proof.Proof.Gen.Norm2BwdRefIdeal.Run
public import proofs.«01_k».proof.Proof.Gen.Norm2BwdRefIdeal.Read
public import proofs.«01_k».proof.Proof.Gen.Norm2Bwd.Frame
public import proofs.«01_k».proof.Proof.Gen.NormFwdIdeal.Value
public import proofs.«01_k».proof.Proof.Gen.NormFwdRefIdeal.Run
public import proofs.«01_k».proof.Proof.Gen.NormFwdRefIdeal.Read
public import proofs.«01_k».proof.Proof.Gen.NormFwd.Frame
public import proofs.«01_k».proof.Proof.Gen.AttnFwdIdeal.Value
public import proofs.«01_k».proof.Proof.Gen.AttnFwdRefIdeal.Run
public import proofs.«01_k».proof.Proof.Gen.AttnFwdRefIdeal.Read
public import proofs.«01_k».proof.Proof.Gen.AttnFwd.Frame
public import proofs.«01_k».proof.Proof.Gen.Norm3BwdIdeal.Value
public import proofs.«01_k».proof.Proof.Gen.Norm3BwdRefIdeal.Run
public import proofs.«01_k».proof.Proof.Gen.Norm3BwdRefIdeal.Read
public import proofs.«01_k».proof.Proof.Gen.Norm3Bwd.Frame
public import proofs.«01_k».proof.Proof.Gen.QkNormFwdIdeal.Value
public import proofs.«01_k».proof.Proof.Gen.QkNormFwdRefIdeal.Run
public import proofs.«01_k».proof.Proof.Gen.QkNormFwdRefIdeal.Read
public import proofs.«01_k».proof.Proof.Gen.QkNormFwd.Frame
public import proofs.«01_k».proof.Proof.Gen.FinalLossIdeal.Value
public import proofs.«01_k».proof.Proof.Gen.FinalLossRefIdeal.Run
public import proofs.«01_k».proof.Proof.Gen.FinalLossRefIdeal.Read
public import proofs.«01_k».proof.Proof.Gen.FinalLoss.Frame

@[expose] public section

set_option maxRecDepth 16384

noncomputable section

namespace Cert.Proof

open Idealize.ShloMosaic Idealize.ShloMosaic.TcCoe Idealize.ShloMosaic.StableHlo Idealize.SL.Sem Cert.KernelIdeal.PoolValue

/-- The reference leaves its arguments as they were. -/
theorem pool_reference_kept : Cert.quiescent_ReferenceIdeal (hReferenceIdeal := Cert.ReferenceIdeal.Gen.facts) := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

section Pool
variable (m : (ℓ : Loc Cert.KernelIdeal.nD Cert.KernelIdeal.τ Cert.KernelIdeal.sig) → Buf (Elt Ideal) ℓ) (c : Dev Cert.KernelIdeal.nD)

/-- The weights in memory. -/
abbrev poolW : FVec Ideal Cert.KernelIdeal.S4x256x256 .f32 := m ((c : Thread Cert.KernelIdeal.nD Cert.KernelIdeal.τ).loc Cert.KernelIdeal.main_arg1)
/-- The scale in memory. -/
abbrev poolS : FVec Ideal Cert.KernelIdeal.S1x1024 .f32 := m ((c : Thread Cert.KernelIdeal.nD Cert.KernelIdeal.τ).loc Cert.KernelIdeal.main_arg2)
/-- The incoming gradient in memory. -/
abbrev poolCt : FVec Ideal Cert.KernelIdeal.S4096x2048 .f32 := m ((c : Thread Cert.KernelIdeal.nD Cert.KernelIdeal.τ).loc Cert.KernelIdeal.main_arg3)
/-- The pooled inputs of the projection in memory. -/
abbrev poolX : Cert.KernelIdeal.S4096x1024.Idx → EReal := pooled (m ((c : Thread Cert.KernelIdeal.nD Cert.KernelIdeal.τ).loc Cert.KernelIdeal.main_arg0))

/-- The kernel leaves the three gradients of the arguments in memory. -/
theorem pool_kernel_blocks :
    (Cert.KernelIdeal.Gen.dats m 0 c).arrAt 5 Cert.KernelIdeal.cfg0.N = duArr (poolCt m c) (poolW m c) (poolS m c)
    ∧ (Cert.KernelIdeal.Gen.dats m 0 c).arrAt 6 Cert.KernelIdeal.cfg0.N = dwArr (poolCt m c) (poolX m c) (poolS m c)
    ∧ (Cert.KernelIdeal.Gen.dats m 0 c).arrAt 7 Cert.KernelIdeal.cfg0.N = dsArr (poolCt m c) (poolX m c) (poolW m c) := by
  have hw := V_weights m c
  have hx : poolOf m c = poolX m c := by
    unfold poolOf poolX pooled
    exact V_pooled m c
  have hs := V_scale m c
  have hc := V_incoming m c
  refine ⟨(final5 m c).trans ?_, (final6 m c).trans ?_, (final7 m c).trans ?_⟩
  · unfold ctOf pwOf psOf; rw [hw, hs, hc]
  · rw [hx]; unfold ctOf psOf; rw [hs, hc]
  · rw [hx]; unfold ctOf pwOf; rw [hw, hc]

end Pool

/-- The kernel's three gradients are the reference's. -/
theorem pool_algebraic : Cert.algebraic_KernelIdeal_ReferenceIdeal_pre_gradients_finite (hKernelIdeal := Cert.KernelIdeal.Gen.facts)
    (hReferenceIdeal := Cert.ReferenceIdeal.Gen.facts) (hPre_gradients_finite := Cert.Pre_gradients_finite.shapes_fit) := by
  intro m ρ m' ρ' hpre hag
  refine ⟨fun c => duArr (poolCt m c) (poolW m c) (poolS m c), fun c => dwArr (poolCt m c) (poolX m c) (poolS m c),
    fun c => dsArr (poolCt m c) (poolX m c) (poolW m c), ?_, ?_⟩
  · exact (θ_run Cert.KernelIdeal.defs _ _).mono (fun _ h c => ⟨(h c).1.trans (pool_kernel_blocks m c).1,
      (h c).2.1.trans (pool_kernel_blocks m c).2.1, (h c).2.2.1.trans (pool_kernel_blocks m c).2.2, (h c).2.2.2⟩)
      (Cert.KernelIdeal.Value.run_blocks (F := Ideal) m ρ)
  · refine (θ_run Cert.ReferenceIdeal.defs _ _).mono (fun _ h c => ?_) (Cert.ReferenceIdeal.Value.run (F := Ideal) m' ρ')
    obtain ⟨a0, a1, a2, a3⟩ := hag c
    have e0 : launchContents m' c (Proc.devRef .tc Cert.ReferenceIdeal.main_arg0)
        = m ((c : Thread Cert.KernelIdeal.nD Cert.KernelIdeal.τ).loc Cert.KernelIdeal.main_arg0) := (launchContents_devRef ..).trans a0
    have e1 : launchContents m' c (Proc.devRef .tc Cert.ReferenceIdeal.main_arg1)
        = m ((c : Thread Cert.KernelIdeal.nD Cert.KernelIdeal.τ).loc Cert.KernelIdeal.main_arg1) := (launchContents_devRef ..).trans a1
    have e2 : launchContents m' c (Proc.devRef .tc Cert.ReferenceIdeal.main_arg2)
        = m ((c : Thread Cert.KernelIdeal.nD Cert.KernelIdeal.τ).loc Cert.KernelIdeal.main_arg2) := (launchContents_devRef ..).trans a2
    have e3 : launchContents m' c (Proc.devRef .tc Cert.ReferenceIdeal.main_arg3)
        = m ((c : Thread Cert.KernelIdeal.nD Cert.KernelIdeal.τ).loc Cert.KernelIdeal.main_arg3) := (launchContents_devRef ..).trans a3
    refine ⟨(h c).1.trans ?_, (h c).2.1.trans ?_, (h c).2.2.1.trans ?_, (h c).2.2.2⟩
    · refine (Cert.ReferenceIdeal.Read.val_main_v187_eq (launchContents m' c)).trans ?_
      rw [e1, e2, e3]
      haveI := Cert.Pre_gradients_finite.shapes_fit
      exact ref_du _ _ _ (quotients_real _ _ _ _ (hpre c))
    · refine (Cert.ReferenceIdeal.Read.val_main_v113_eq (launchContents m' c)).trans ?_
      rw [e0, e2, e3]
      exact ref_dw _ _ _
    · refine (Cert.ReferenceIdeal.Read.val_main_v107_eq (launchContents m' c)).trans ?_
      rw [e0, e1, e3]
      exact ref_ds _ _ _

/-- The reference of the down projection's weight gradient leaves its arguments as they were. -/
theorem ffn_dwo_reference_kept : Cert.quiescent_FfnDwoRefIdeal (hFfnDwoRefIdeal := Cert.FfnDwoRefIdeal.Gen.facts) := fun m ρ _ =>
  (θ_run Cert.FfnDwoRefIdeal.defs _ _).mono (fun r h => ⟨fun c => (h c).2, Idealize.ShloMosaic.sem_eq_zero_of_no_sems (by decide) r.2⟩)
    (Cert.FfnDwoRefIdeal.Value.run (F := Ideal) m ρ)

open Cert.FfnDwoIdeal.Product in
/-- The kernel's down projection's weight gradient is the reference's. -/
theorem ffn_dwo_algebraic : Cert.algebraic_FfnDwoIdeal_FfnDwoRefIdeal (hFfnDwoIdeal := Cert.FfnDwoIdeal.Gen.facts)
    (hFfnDwoRefIdeal := Cert.FfnDwoRefIdeal.Gen.facts) := by
  intro m ρ m' ρ' hpre hag
  refine ⟨fun c => prod (lhsOf m c) (rhsOf m c), ?_, ?_⟩
  · exact (θ_run Cert.FfnDwoIdeal.defs _ _).mono (fun _ h c => ⟨(h c).1.trans (final m c), (h c).2⟩)
      (Cert.FfnDwoIdeal.Value.run_blocks (F := Ideal) m ρ)
  · refine (θ_run Cert.FfnDwoRefIdeal.defs _ _).mono (fun _ h c => ?_) (Cert.FfnDwoRefIdeal.Value.run (F := Ideal) m' ρ')
    obtain ⟨a0, a1⟩ := hag c
    refine ⟨(h c).1.trans ((Cert.FfnDwoRefIdeal.Read.val_main_v6_eq _ _).trans ?_), (h c).2⟩
    · rw [a0, a1]
      exact reference _ _

/-- The reference of the down projection's and gate's gradient leaves its arguments as they were. -/
theorem ffn_down_bwd_reference_kept : Cert.quiescent_FfnDownBwdRefIdeal (hFfnDownBwdRefIdeal := Cert.FfnDownBwdRefIdeal.Gen.facts) := fun m ρ _ =>
  (θ_run Cert.FfnDownBwdRefIdeal.defs _ _).mono (fun r h => ⟨fun c => (h c).2, Idealize.ShloMosaic.sem_eq_zero_of_no_sems (by decide) r.2⟩)
    (Cert.FfnDownBwdRefIdeal.Value.run (F := Ideal) m ρ)

open Cert.FfnDownBwdIdeal.Product in
/-- The kernel's down projection's and gate's gradient is the reference's. -/
theorem ffn_down_bwd_algebraic : Cert.algebraic_FfnDownBwdIdeal_FfnDownBwdRefIdeal_pre_activations_finite (hFfnDownBwdIdeal := Cert.FfnDownBwdIdeal.Gen.facts)
    (hFfnDownBwdRefIdeal := Cert.FfnDownBwdRefIdeal.Gen.facts) (hPre_activations_finite := Cert.Pre_activations_finite.shapes_fit) := by
  intro m ρ m' ρ' hpre hag
  refine ⟨fun c => both (gradOf m c) (wOf m c) (aOf m c) (bOf m c), ?_, ?_⟩
  · exact (θ_run Cert.FfnDownBwdIdeal.defs _ _).mono (fun _ h c => ⟨(h c).1.trans (final m c), (h c).2⟩)
      (Cert.FfnDownBwdIdeal.Value.run_blocks (F := Ideal) m ρ)
  · refine (θ_run Cert.FfnDownBwdRefIdeal.defs _ _).mono (fun _ h c => ?_) (Cert.FfnDownBwdRefIdeal.Value.run (F := Ideal) m' ρ')
    obtain ⟨a0, a1, a2, a3⟩ := hag c
    refine ⟨(h c).1.trans ((Cert.FfnDownBwdRefIdeal.Read.val_main_v15_eq _ _ _ _).trans ?_), (h c).2⟩
    · rw [a0, a1, a2, a3]
      haveI := Cert.Pre_activations_finite.shapes_fit
      exact reference _ _ _ _ (factors_real _ _ _ _ (hpre c))

/-- The reference of the up projection's weight gradient leaves its arguments as they were. -/
theorem ffn_dwi_reference_kept : Cert.quiescent_FfnDwiRefIdeal (hFfnDwiRefIdeal := Cert.FfnDwiRefIdeal.Gen.facts) := fun m ρ _ =>
  (θ_run Cert.FfnDwiRefIdeal.defs _ _).mono (fun r h => ⟨fun c => (h c).2, Idealize.ShloMosaic.sem_eq_zero_of_no_sems (by decide) r.2⟩)
    (Cert.FfnDwiRefIdeal.Value.run (F := Ideal) m ρ)

open Cert.FfnDwiIdeal.Product in
/-- The kernel's up projection's weight gradient is the reference's. -/
theorem ffn_dwi_algebraic : Cert.algebraic_FfnDwiIdeal_FfnDwiRefIdeal (hFfnDwiIdeal := Cert.FfnDwiIdeal.Gen.facts)
    (hFfnDwiRefIdeal := Cert.FfnDwiRefIdeal.Gen.facts) := by
  intro m ρ m' ρ' hpre hag
  refine ⟨fun c => prod (lhsOf m c) (rhsOf m c), ?_, ?_⟩
  · exact (θ_run Cert.FfnDwiIdeal.defs _ _).mono (fun _ h c => ⟨(h c).1.trans (final m c), (h c).2⟩)
      (Cert.FfnDwiIdeal.Value.run_blocks (F := Ideal) m ρ)
  · refine (θ_run Cert.FfnDwiRefIdeal.defs _ _).mono (fun _ h c => ?_) (Cert.FfnDwiRefIdeal.Value.run (F := Ideal) m' ρ')
    obtain ⟨a0, a1⟩ := hag c
    refine ⟨(h c).1.trans ((Cert.FfnDwiRefIdeal.Read.val_main_v7_eq _ _).trans ?_), (h c).2⟩
    · rw [a0, a1]
      exact reference _ _

/-- The reference of the up projection's input gradient leaves its arguments as they were. -/
theorem ffn_dhm_reference_kept : Cert.quiescent_FfnDhmRefIdeal (hFfnDhmRefIdeal := Cert.FfnDhmRefIdeal.Gen.facts) := fun m ρ _ =>
  (θ_run Cert.FfnDhmRefIdeal.defs _ _).mono (fun r h => ⟨fun c => (h c).2, Idealize.ShloMosaic.sem_eq_zero_of_no_sems (by decide) r.2⟩)
    (Cert.FfnDhmRefIdeal.Value.run (F := Ideal) m ρ)

open Cert.FfnDhmIdeal.Product in
/-- The kernel's up projection's input gradient is the reference's. -/
theorem ffn_dhm_algebraic : Cert.algebraic_FfnDhmIdeal_FfnDhmRefIdeal (hFfnDhmIdeal := Cert.FfnDhmIdeal.Gen.facts)
    (hFfnDhmRefIdeal := Cert.FfnDhmRefIdeal.Gen.facts) := by
  intro m ρ m' ρ' hpre hag
  refine ⟨fun c => prod (lhsOf m c) (rhsOf m c), ?_, ?_⟩
  · exact (θ_run Cert.FfnDhmIdeal.defs _ _).mono (fun _ h c => ⟨(h c).1.trans (final m c), (h c).2⟩)
      (Cert.FfnDhmIdeal.Value.run_blocks (F := Ideal) m ρ)
  · refine (θ_run Cert.FfnDhmRefIdeal.defs _ _).mono (fun _ h c => ?_) (Cert.FfnDhmRefIdeal.Value.run (F := Ideal) m' ρ')
    obtain ⟨a0, a1⟩ := hag c
    refine ⟨(h c).1.trans ((Cert.FfnDhmRefIdeal.Read.val_main_v6_eq _ _).trans ?_), (h c).2⟩
    · rw [a0, a1]
      exact reference _ _

/-- The reference of the up projection leaves its arguments as they were. -/
theorem ffn_up_reference_kept : Cert.quiescent_FfnUpRefIdeal (hFfnUpRefIdeal := Cert.FfnUpRefIdeal.Gen.facts) := fun m ρ _ =>
  (θ_run Cert.FfnUpRefIdeal.defs _ _).mono (fun r h => ⟨fun c => (h c).2.2.2, Idealize.ShloMosaic.sem_eq_zero_of_no_sems (by decide) r.2⟩)
    (Cert.FfnUpRefIdeal.Value.run (F := Ideal) m ρ)

open Cert.FfnUpIdeal.Product in
/-- The kernel's up projection is the reference's. -/
theorem ffn_up_algebraic : Cert.algebraic_FfnUpIdeal_FfnUpRefIdeal (hFfnUpIdeal := Cert.FfnUpIdeal.Gen.facts)
    (hFfnUpRefIdeal := Cert.FfnUpRefIdeal.Gen.facts) := by
  intro m ρ m' ρ' hpre hag
  refine ⟨fun c => gatePart (inOf m c) (wOf m c), fun c => linearPart (inOf m c) (wOf m c), fun c => hidden (inOf m c) (wOf m c), ?_, ?_⟩
  · exact (θ_run Cert.FfnUpIdeal.defs _ _).mono (fun _ h c => ⟨(h c).1.trans (final3 m c), (h c).2.1.trans (final4 m c), (h c).2.2.1.trans (final5 m c), (h c).2.2.2⟩)
      (Cert.FfnUpIdeal.Value.run_blocks (F := Ideal) m ρ)
  · refine (θ_run Cert.FfnUpRefIdeal.defs _ _).mono (fun _ h c => ?_) (Cert.FfnUpRefIdeal.Value.run (F := Ideal) m' ρ')
    obtain ⟨a0, a1⟩ := hag c
    refine ⟨(h c).1.trans ((Cert.FfnUpRefIdeal.Read.val_main_v6_eq _ _).trans ?_), (h c).2.1.trans ((Cert.FfnUpRefIdeal.Read.val_main_v7_eq _ _).trans ?_), (h c).2.2.1.trans ((Cert.FfnUpRefIdeal.Read.val_main_v10_eq _ _).trans ?_), (h c).2.2.2⟩
    · rw [a0, a1]
      exact reference_gate_out _ _
    · rw [a0, a1]
      exact reference_linear_out _ _
    · rw [a0, a1]
      exact reference_hidden _ _

/-- The reference of the down projection leaves its arguments as they were. -/
theorem ffn_down_reference_kept : Cert.quiescent_FfnDownRefIdeal (hFfnDownRefIdeal := Cert.FfnDownRefIdeal.Gen.facts) := fun m ρ _ =>
  (θ_run Cert.FfnDownRefIdeal.defs _ _).mono (fun r h => ⟨fun c => (h c).2.2, Idealize.ShloMosaic.sem_eq_zero_of_no_sems (by decide) r.2⟩)
    (Cert.FfnDownRefIdeal.Value.run (F := Ideal) m ρ)

open Cert.FfnDownIdeal.Product in
/-- The kernel's down projection is the reference's. -/
theorem ffn_down_algebraic : Cert.algebraic_FfnDownIdeal_FfnDownRefIdeal (hFfnDownIdeal := Cert.FfnDownIdeal.Gen.facts)
    (hFfnDownRefIdeal := Cert.FfnDownRefIdeal.Gen.facts) := by
  intro m ρ m' ρ' hpre hag
  refine ⟨fun c => prod (lhsOf m c) (rhsOf m c), fun c => stepped (lhsOf m c) (rhsOf m c) (streamOf m c) (gateOf m c), ?_, ?_⟩
  · exact (θ_run Cert.FfnDownIdeal.defs _ _).mono (fun _ h c => ⟨(h c).1.trans (final m c), (h c).2.1.trans (final_stream m c), (h c).2.2⟩)
      (Cert.FfnDownIdeal.Value.run_blocks (F := Ideal) m ρ)
  · refine (θ_run Cert.FfnDownRefIdeal.defs _ _).mono (fun _ h c => ?_) (Cert.FfnDownRefIdeal.Value.run (F := Ideal) m' ρ')
    obtain ⟨a0, a1, a2, a3⟩ := hag c
    refine ⟨(h c).1.trans ((Cert.FfnDownRefIdeal.Read.val_main_v2_eq _ _).trans ?_), (h c).2.1.trans ((Cert.FfnDownRefIdeal.Read.val_main_v7_eq _ _ _ _).trans ?_), (h c).2.2⟩
    · rw [a0, a1]
      exact reference _ _
    · rw [a0, a1, a2, a3]
      exact reference_stream _ _ _ _

/-- The reference of the output projection's weight gradient leaves its arguments as they were. -/
theorem mix_dw_out_reference_kept : Cert.quiescent_MixDwOutRefIdeal (hMixDwOutRefIdeal := Cert.MixDwOutRefIdeal.Gen.facts) := fun m ρ _ =>
  (θ_run Cert.MixDwOutRefIdeal.defs _ _).mono (fun r h => ⟨fun c => (h c).2, Idealize.ShloMosaic.sem_eq_zero_of_no_sems (by decide) r.2⟩)
    (Cert.MixDwOutRefIdeal.Value.run (F := Ideal) m ρ)

open Cert.MixDwOutIdeal.Product in
/-- The kernel's output projection's weight gradient is the reference's. -/
theorem mix_dw_out_algebraic : Cert.algebraic_MixDwOutIdeal_MixDwOutRefIdeal (hMixDwOutIdeal := Cert.MixDwOutIdeal.Gen.facts)
    (hMixDwOutRefIdeal := Cert.MixDwOutRefIdeal.Gen.facts) := by
  intro m ρ m' ρ' hpre hag
  refine ⟨fun c => prod (lhsOf m c) (rhsOf m c), ?_, ?_⟩
  · exact (θ_run Cert.MixDwOutIdeal.defs _ _).mono (fun _ h c => ⟨(h c).1.trans (final m c), (h c).2⟩)
      (Cert.MixDwOutIdeal.Value.run_blocks (F := Ideal) m ρ)
  · refine (θ_run Cert.MixDwOutRefIdeal.defs _ _).mono (fun _ h c => ?_) (Cert.MixDwOutRefIdeal.Value.run (F := Ideal) m' ρ')
    obtain ⟨a0, a1⟩ := hag c
    refine ⟨(h c).1.trans ((Cert.MixDwOutRefIdeal.Read.val_main_v6_eq _ _).trans ?_), (h c).2⟩
    · rw [a0, a1]
      exact reference _ _

/-- The reference of the output projection's input gradient leaves its arguments as they were. -/
theorem mix_out_bwd_reference_kept : Cert.quiescent_MixOutBwdRefIdeal (hMixOutBwdRefIdeal := Cert.MixOutBwdRefIdeal.Gen.facts) := fun m ρ _ =>
  (θ_run Cert.MixOutBwdRefIdeal.defs _ _).mono (fun r h => ⟨fun c => (h c).2, Idealize.ShloMosaic.sem_eq_zero_of_no_sems (by decide) r.2⟩)
    (Cert.MixOutBwdRefIdeal.Value.run (F := Ideal) m ρ)

open Cert.MixOutBwdIdeal.Product in
/-- The kernel's output projection's input gradient is the reference's. -/
theorem mix_out_bwd_algebraic : Cert.algebraic_MixOutBwdIdeal_MixOutBwdRefIdeal (hMixOutBwdIdeal := Cert.MixOutBwdIdeal.Gen.facts)
    (hMixOutBwdRefIdeal := Cert.MixOutBwdRefIdeal.Gen.facts) := by
  intro m ρ m' ρ' hpre hag
  refine ⟨fun c => prod (lhsOf m c) (rhsOf m c), ?_, ?_⟩
  · exact (θ_run Cert.MixOutBwdIdeal.defs _ _).mono (fun _ h c => ⟨(h c).1.trans (final m c), (h c).2⟩)
      (Cert.MixOutBwdIdeal.Value.run_blocks (F := Ideal) m ρ)
  · refine (θ_run Cert.MixOutBwdRefIdeal.defs _ _).mono (fun _ h c => ?_) (Cert.MixOutBwdRefIdeal.Value.run (F := Ideal) m' ρ')
    obtain ⟨a0, a1⟩ := hag c
    refine ⟨(h c).1.trans ((Cert.MixOutBwdRefIdeal.Read.val_main_v4_eq _ _).trans ?_), (h c).2⟩
    · rw [a0, a1]
      exact reference _ _

/-- The reference of the input projection's weight gradient leaves its arguments as they were. -/
theorem mix_dw_in_reference_kept : Cert.quiescent_MixDwInRefIdeal (hMixDwInRefIdeal := Cert.MixDwInRefIdeal.Gen.facts) := fun m ρ _ =>
  (θ_run Cert.MixDwInRefIdeal.defs _ _).mono (fun r h => ⟨fun c => (h c).2, Idealize.ShloMosaic.sem_eq_zero_of_no_sems (by decide) r.2⟩)
    (Cert.MixDwInRefIdeal.Value.run (F := Ideal) m ρ)

open Cert.MixDwInIdeal.Product in
/-- The kernel's input projection's weight gradient is the reference's. -/
theorem mix_dw_in_algebraic : Cert.algebraic_MixDwInIdeal_MixDwInRefIdeal (hMixDwInIdeal := Cert.MixDwInIdeal.Gen.facts)
    (hMixDwInRefIdeal := Cert.MixDwInRefIdeal.Gen.facts) := by
  intro m ρ m' ρ' hpre hag
  refine ⟨fun c => prod (lhsOf m c) (rhsOf m c), ?_, ?_⟩
  · exact (θ_run Cert.MixDwInIdeal.defs _ _).mono (fun _ h c => ⟨(h c).1.trans (final m c), (h c).2⟩)
      (Cert.MixDwInIdeal.Value.run_blocks (F := Ideal) m ρ)
  · refine (θ_run Cert.MixDwInRefIdeal.defs _ _).mono (fun _ h c => ?_) (Cert.MixDwInRefIdeal.Value.run (F := Ideal) m' ρ')
    obtain ⟨a0, a1⟩ := hag c
    refine ⟨(h c).1.trans ((Cert.MixDwInRefIdeal.Read.val_main_v8_eq _ _).trans ?_), (h c).2⟩
    · rw [a0, a1]
      exact reference _ _

/-- The reference of the output projection leaves its arguments as they were. -/
theorem mix_out_reference_kept : Cert.quiescent_MixOutRefIdeal (hMixOutRefIdeal := Cert.MixOutRefIdeal.Gen.facts) := fun m ρ _ =>
  (θ_run Cert.MixOutRefIdeal.defs _ _).mono (fun r h => ⟨fun c => (h c).2.2, Idealize.ShloMosaic.sem_eq_zero_of_no_sems (by decide) r.2⟩)
    (Cert.MixOutRefIdeal.Value.run (F := Ideal) m ρ)

open Cert.MixOutIdeal.Product in
/-- The kernel's output projection is the reference's. -/
theorem mix_out_algebraic : Cert.algebraic_MixOutIdeal_MixOutRefIdeal (hMixOutIdeal := Cert.MixOutIdeal.Gen.facts)
    (hMixOutRefIdeal := Cert.MixOutRefIdeal.Gen.facts) := by
  intro m ρ m' ρ' hpre hag
  refine ⟨fun c => prod (lhsOf m c) (rhsOf m c), fun c => stepped (lhsOf m c) (rhsOf m c) (streamOf m c) (gateOf m c), ?_, ?_⟩
  · exact (θ_run Cert.MixOutIdeal.defs _ _).mono (fun _ h c => ⟨(h c).1.trans (final m c), (h c).2.1.trans (final_stream m c), (h c).2.2⟩)
      (Cert.MixOutIdeal.Value.run_blocks (F := Ideal) m ρ)
  · refine (θ_run Cert.MixOutRefIdeal.defs _ _).mono (fun _ h c => ?_) (Cert.MixOutRefIdeal.Value.run (F := Ideal) m' ρ')
    obtain ⟨a0, a1, a2, a3⟩ := hag c
    refine ⟨(h c).1.trans ((Cert.MixOutRefIdeal.Read.val_main_v2_eq _ _).trans ?_), (h c).2.1.trans ((Cert.MixOutRefIdeal.Read.val_main_v5_eq _ _ _ _).trans ?_), (h c).2.2⟩
    · rw [a0, a1]
      exact reference _ _
    · rw [a0, a1, a2, a3]
      exact reference_stream _ _ _ _

/-- The reference of the input projection leaves its arguments as they were. -/
theorem mix_proj_reference_kept : Cert.quiescent_MixProjRefIdeal (hMixProjRefIdeal := Cert.MixProjRefIdeal.Gen.facts) := fun m ρ _ =>
  (θ_run Cert.MixProjRefIdeal.defs _ _).mono (fun r h => ⟨fun c => (h c).2, Idealize.ShloMosaic.sem_eq_zero_of_no_sems (by decide) r.2⟩)
    (Cert.MixProjRefIdeal.Value.run (F := Ideal) m ρ)

open Cert.MixProjIdeal.Product in
/-- The kernel's input projection is the reference's. -/
theorem mix_proj_algebraic : Cert.algebraic_MixProjIdeal_MixProjRefIdeal (hMixProjIdeal := Cert.MixProjIdeal.Gen.facts)
    (hMixProjRefIdeal := Cert.MixProjRefIdeal.Gen.facts) := by
  intro m ρ m' ρ' hpre hag
  refine ⟨fun c => prod (lhsOf m c) (rhsOf m c), ?_, ?_⟩
  · exact (θ_run Cert.MixProjIdeal.defs _ _).mono (fun _ h c => ⟨(h c).1.trans (final m c), (h c).2⟩)
      (Cert.MixProjIdeal.Value.run_blocks (F := Ideal) m ρ)
  · refine (θ_run Cert.MixProjRefIdeal.defs _ _).mono (fun _ h c => ?_) (Cert.MixProjRefIdeal.Value.run (F := Ideal) m' ρ')
    obtain ⟨a0, a1⟩ := hag c
    refine ⟨(h c).1.trans ((Cert.MixProjRefIdeal.Read.val_main_v3_eq _ _).trans ?_), (h c).2⟩
    · rw [a0, a1]
      exact reference _ _

/-- The reference of the input projection's input gradient leaves its arguments as they were. -/
theorem mix_proj_bwd_reference_kept : Cert.quiescent_MixProjBwdRefIdeal (hMixProjBwdRefIdeal := Cert.MixProjBwdRefIdeal.Gen.facts) := fun m ρ _ =>
  (θ_run Cert.MixProjBwdRefIdeal.defs _ _).mono (fun r h => ⟨fun c => (h c).2, Idealize.ShloMosaic.sem_eq_zero_of_no_sems (by decide) r.2⟩)
    (Cert.MixProjBwdRefIdeal.Value.run (F := Ideal) m ρ)

open Cert.MixProjBwdIdeal.Product in
/-- The kernel's input projection's input gradient is the reference's. -/
theorem mix_proj_bwd_algebraic : Cert.algebraic_MixProjBwdIdeal_MixProjBwdRefIdeal (hMixProjBwdIdeal := Cert.MixProjBwdIdeal.Gen.facts)
    (hMixProjBwdRefIdeal := Cert.MixProjBwdRefIdeal.Gen.facts) := by
  intro m ρ m' ρ' hpre hag
  refine ⟨fun c => prod (lhsOf m c) (rhsOf m c), ?_, ?_⟩
  · exact (θ_run Cert.MixProjBwdIdeal.defs _ _).mono (fun _ h c => ⟨(h c).1.trans (final m c), (h c).2⟩)
      (Cert.MixProjBwdIdeal.Value.run_blocks (F := Ideal) m ρ)
  · refine (θ_run Cert.MixProjBwdRefIdeal.defs _ _).mono (fun _ h c => ?_) (Cert.MixProjBwdRefIdeal.Value.run (F := Ideal) m' ρ')
    obtain ⟨a0, a1⟩ := hag c
    refine ⟨(h c).1.trans ((Cert.MixProjBwdRefIdeal.Read.val_main_v5_eq _ _).trans ?_), (h c).2⟩
    · rw [a0, a1]
      exact reference _ _

/-- The reference of the gradient of the queries' and keys' normalisation leaves its arguments as they were. -/
theorem qk_norm_bwd_reference_kept : Cert.quiescent_QkNormBwdRefIdeal (hQkNormBwdRefIdeal := Cert.QkNormBwdRefIdeal.Gen.facts) := fun m ρ _ =>
  (θ_run Cert.QkNormBwdRefIdeal.defs _ _).mono (fun r h => ⟨fun c => (h c).2.2.2.2, Idealize.ShloMosaic.sem_eq_zero_of_no_sems (by decide) r.2⟩)
    (Cert.QkNormBwdRefIdeal.Value.run (F := Ideal) m ρ)

open Cert.QkNormBwdIdeal.Product in
/-- The kernel's gradient of the queries' and keys' normalisation is the reference's. -/
theorem qk_norm_bwd_algebraic : Cert.algebraic_QkNormBwdIdeal_QkNormBwdRefIdeal (hQkNormBwdIdeal := Cert.QkNormBwdIdeal.Gen.facts)
    (hQkNormBwdRefIdeal := Cert.QkNormBwdRefIdeal.Gen.facts) := by
  intro m ρ m' ρ' hpre hag
  refine ⟨fun c => rowsGrad (queries (projOf m c)) (dqnOf m c) (gqOf m c), fun c => rowsGrad (keys (projOf m c)) (dknOf m c) (gkOf m c), fun c => weightGrad (queries (projOf m c)) (dqnOf m c), fun c => weightGrad (keys (projOf m c)) (dknOf m c), ?_, ?_⟩
  · exact (θ_run Cert.QkNormBwdIdeal.defs _ _).mono (fun _ h c => ⟨(h c).1.trans (final_queries m c), (h c).2.1.trans (final_keys m c), (h c).2.2.1.trans (final_query_weight m c), (h c).2.2.2.1.trans (final_key_weight m c), (h c).2.2.2.2⟩)
      (Cert.QkNormBwdIdeal.Value.run_blocks (F := Ideal) m ρ)
  · refine (θ_run Cert.QkNormBwdRefIdeal.defs _ _).mono (fun _ h c => ?_) (Cert.QkNormBwdRefIdeal.Value.run (F := Ideal) m' ρ')
    obtain ⟨a0, a1, a2, a3, a4⟩ := hag c
    refine ⟨(h c).1.trans ((Cert.QkNormBwdRefIdeal.Read.val_main_v84_eq _ _).trans ?_), (h c).2.1.trans ((Cert.QkNormBwdRefIdeal.Read.val_main_v85_eq _ _).trans ?_), (h c).2.2.1.trans ((Cert.QkNormBwdRefIdeal.Read.val_main_v68_eq _ _).trans ?_), (h c).2.2.2.1.trans ((Cert.QkNormBwdRefIdeal.Read.val_main_v45_eq _ _).trans ?_), (h c).2.2.2.2⟩
    · rw [a0, a1, a3]
      exact reference_queries _ _ _
    · rw [a0, a2, a4]
      exact reference_keys _ _ _
    · rw [a0, a1]
      exact reference_query_weight _ _
    · rw [a0, a2]
      exact reference_key_weight _ _

/-- The reference of the attention gradient's row sums leaves its arguments as they were. -/
theorem attn_delta_reference_kept : Cert.quiescent_AttnDeltaRefIdeal (hAttnDeltaRefIdeal := Cert.AttnDeltaRefIdeal.Gen.facts) := fun m ρ _ =>
  (θ_run Cert.AttnDeltaRefIdeal.defs _ _).mono (fun r h => ⟨fun c => (h c).2, Idealize.ShloMosaic.sem_eq_zero_of_no_sems (by decide) r.2⟩)
    (Cert.AttnDeltaRefIdeal.Value.run (F := Ideal) m ρ)

open Cert.AttnDeltaIdeal.Product in
/-- The kernel's attention gradient's row sums is the reference's. -/
theorem attn_delta_algebraic : Cert.algebraic_AttnDeltaIdeal_AttnDeltaRefIdeal (hAttnDeltaIdeal := Cert.AttnDeltaIdeal.Gen.facts)
    (hAttnDeltaRefIdeal := Cert.AttnDeltaRefIdeal.Gen.facts) := by
  intro m ρ m' ρ' hpre hag
  refine ⟨fun c => delta (outOf m c) (gradOf m c), ?_, ?_⟩
  · exact (θ_run Cert.AttnDeltaIdeal.defs _ _).mono (fun _ h c => ⟨(h c).1.trans (final m c), (h c).2⟩)
      (Cert.AttnDeltaIdeal.Value.run_blocks (F := Ideal) m ρ)
  · refine (θ_run Cert.AttnDeltaRefIdeal.defs _ _).mono (fun _ h c => ?_) (Cert.AttnDeltaRefIdeal.Value.run (F := Ideal) m' ρ')
    obtain ⟨a0, a1⟩ := hag c
    refine ⟨(h c).1.trans ((Cert.AttnDeltaRefIdeal.Read.val_main_v7_eq _ _).trans ?_), (h c).2⟩
    · rw [a0, a1]
      exact reference _ _

/-- The reference of the gradient of the first normalisation leaves its arguments as they were. -/
theorem norm1_bwd_reference_kept : Cert.quiescent_Norm1BwdRefIdeal (hNorm1BwdRefIdeal := Cert.Norm1BwdRefIdeal.Gen.facts) := fun m ρ _ =>
  (θ_run Cert.Norm1BwdRefIdeal.defs _ _).mono (fun r h => ⟨fun c => (h c).2.2.2.2, Idealize.ShloMosaic.sem_eq_zero_of_no_sems (by decide) r.2⟩)
    (Cert.Norm1BwdRefIdeal.Value.run (F := Ideal) m ρ)

open Cert.Norm1BwdIdeal.Product in
/-- The kernel's gradient of the first normalisation is the reference's. -/
theorem norm1_bwd_algebraic : Cert.algebraic_Norm1BwdIdeal_Norm1BwdRefIdeal (hNorm1BwdIdeal := Cert.Norm1BwdIdeal.Gen.facts)
    (hNorm1BwdRefIdeal := Cert.Norm1BwdRefIdeal.Gen.facts) := by
  intro m ρ m' ρ' hpre hag
  refine ⟨fun c => rowsGrad (inOf m c) (gradOf m c) (pastOf m c) (wOf m c) (scaleOf m c), fun c => shiftGrad (gradOf m c), fun c => scaleGrad (inOf m c) (gradOf m c) (wOf m c), fun c => weightGrad (inOf m c) (gradOf m c) (scaleOf m c), ?_, ?_⟩
  · exact (θ_run Cert.Norm1BwdIdeal.defs _ _).mono (fun _ h c => ⟨(h c).1.trans (final_rows m c), (h c).2.1.trans (final_shift m c), (h c).2.2.1.trans (final_scale m c), (h c).2.2.2.1.trans (final_weight m c), (h c).2.2.2.2⟩)
      (Cert.Norm1BwdIdeal.Value.run_blocks (F := Ideal) m ρ)
  · refine (θ_run Cert.Norm1BwdRefIdeal.defs _ _).mono (fun _ h c => ?_) (Cert.Norm1BwdRefIdeal.Value.run (F := Ideal) m' ρ')
    obtain ⟨a0, a1, a2, a3, a4⟩ := hag c
    refine ⟨(h c).1.trans ((Cert.Norm1BwdRefIdeal.Read.val_main_v49_eq _ _).trans ?_), (h c).2.1.trans ((Cert.Norm1BwdRefIdeal.Read.val_main_v24_eq _).trans ?_), (h c).2.2.1.trans ((Cert.Norm1BwdRefIdeal.Read.val_main_v27_eq _ _ _).trans ?_), (h c).2.2.2.1.trans ((Cert.Norm1BwdRefIdeal.Read.val_main_v32_eq _ _ _).trans ?_), (h c).2.2.2.2⟩
    · rw [a0, a1, a2, a3, a4]
      exact reference_rows _ _ _ _ _
    · rw [a1]
      exact reference_shift _
    · rw [a0, a1, a3]
      exact reference_scale _ _ _
    · rw [a0, a1, a4]
      exact reference_weight _ _ _

/-- The reference of the gradient of a later normalisation leaves its arguments as they were. -/
theorem norm2_bwd_reference_kept : Cert.quiescent_Norm2BwdRefIdeal (hNorm2BwdRefIdeal := Cert.Norm2BwdRefIdeal.Gen.facts) := fun m ρ _ =>
  (θ_run Cert.Norm2BwdRefIdeal.defs _ _).mono (fun r h => ⟨fun c => (h c).2.2.2.2.2.2, Idealize.ShloMosaic.sem_eq_zero_of_no_sems (by decide) r.2⟩)
    (Cert.Norm2BwdRefIdeal.Value.run (F := Ideal) m ρ)

open Cert.Norm2BwdIdeal.Product in
/-- The kernel's gradient of a later normalisation is the reference's. -/
theorem norm2_bwd_algebraic : Cert.algebraic_Norm2BwdIdeal_Norm2BwdRefIdeal (hNorm2BwdIdeal := Cert.Norm2BwdIdeal.Gen.facts)
    (hNorm2BwdRefIdeal := Cert.Norm2BwdRefIdeal.Gen.facts) := by
  intro m ρ m' ρ' hpre hag
  refine ⟨fun c => rowsOf m c, fun c => branchGrad (rowsOf m c) (gateOf m c), fun c => Cert.Norm1BwdIdeal.Product.shiftGrad (gradOf m c), fun c => Cert.Norm1BwdIdeal.Product.scaleGrad (inOf m c) (gradOf m c) (wOf m c), fun c => Cert.Norm1BwdIdeal.Product.weightGrad (inOf m c) (gradOf m c) (scaleOf m c), fun c => gateGrad (rowsOf m c) (branchOf m c), ?_, ?_⟩
  · exact (θ_run Cert.Norm2BwdIdeal.defs _ _).mono (fun _ h c => ⟨(h c).1.trans (final_rows m c), (h c).2.1.trans (final_branch m c), (h c).2.2.1.trans (final_shift m c), (h c).2.2.2.1.trans (final_scale m c), (h c).2.2.2.2.1.trans (final_weight m c), (h c).2.2.2.2.2.1.trans (final_gate m c), (h c).2.2.2.2.2.2⟩)
      (Cert.Norm2BwdIdeal.Value.run_blocks (F := Ideal) m ρ)
  · refine (θ_run Cert.Norm2BwdRefIdeal.defs _ _).mono (fun _ h c => ?_) (Cert.Norm2BwdRefIdeal.Value.run (F := Ideal) m' ρ')
    obtain ⟨a0, a1, a2, a3, a4, a5, a6⟩ := hag c
    refine ⟨(h c).1.trans ((Cert.Norm2BwdRefIdeal.Read.val_main_v49_eq _ _).trans ?_), (h c).2.1.trans ((Cert.Norm2BwdRefIdeal.Read.val_main_v61_eq _ _).trans ?_), (h c).2.2.1.trans ((Cert.Norm2BwdRefIdeal.Read.val_main_v24_eq _).trans ?_), (h c).2.2.2.1.trans ((Cert.Norm2BwdRefIdeal.Read.val_main_v27_eq _ _ _).trans ?_), (h c).2.2.2.2.1.trans ((Cert.Norm2BwdRefIdeal.Read.val_main_v32_eq _ _ _).trans ?_), (h c).2.2.2.2.2.1.trans ((Cert.Norm2BwdRefIdeal.Read.val_main_v60_eq _ _).trans ?_), (h c).2.2.2.2.2.2⟩
    · rw [a0, a1, a2, a4, a5]
      exact reference_rows _ _ _ _ _
    · rw [a0, a1, a2, a4, a5, a6]
      exact reference_branch _ _ _ _ _ _
    · rw [a1]
      exact reference_shift _
    · rw [a0, a1, a4]
      exact reference_scale _ _ _
    · rw [a0, a1, a5]
      exact reference_weight _ _ _
    · rw [a0, a1, a2, a3, a4, a5]
      exact reference_gate _ _ _ _ _ _

/-- The reference of the normalisation leaves its arguments as they were. -/
theorem norm_fwd_reference_kept : Cert.quiescent_NormFwdRefIdeal (hNormFwdRefIdeal := Cert.NormFwdRefIdeal.Gen.facts) := fun m ρ _ =>
  (θ_run Cert.NormFwdRefIdeal.defs _ _).mono (fun r h => ⟨fun c => (h c).2, Idealize.ShloMosaic.sem_eq_zero_of_no_sems (by decide) r.2⟩)
    (Cert.NormFwdRefIdeal.Value.run (F := Ideal) m ρ)

open Cert.NormFwdIdeal.Product in
/-- The kernel's normalisation is the reference's. -/
theorem norm_fwd_algebraic : Cert.algebraic_NormFwdIdeal_NormFwdRefIdeal (hNormFwdIdeal := Cert.NormFwdIdeal.Gen.facts)
    (hNormFwdRefIdeal := Cert.NormFwdRefIdeal.Gen.facts) := by
  intro m ρ m' ρ' hpre hag
  refine ⟨fun c => normed (inOf m c) (wOf m c) (scaleOf m c) (shiftOf m c), ?_, ?_⟩
  · exact (θ_run Cert.NormFwdIdeal.defs _ _).mono (fun _ h c => ⟨(h c).1.trans (final m c), (h c).2⟩)
      (Cert.NormFwdIdeal.Value.run_blocks (F := Ideal) m ρ)
  · refine (θ_run Cert.NormFwdRefIdeal.defs _ _).mono (fun _ h c => ?_) (Cert.NormFwdRefIdeal.Value.run (F := Ideal) m' ρ')
    obtain ⟨a0, a1, a2, a3⟩ := hag c
    refine ⟨(h c).1.trans ((Cert.NormFwdRefIdeal.Read.val_main_v18_eq _ _ _ _).trans ?_), (h c).2⟩
    · rw [a0, a1, a2, a3]
      exact reference _ _ _ _

/-- The reference of the forward attention leaves its arguments as they were. -/
theorem attn_fwd_reference_kept : Cert.quiescent_AttnFwdRefIdeal (hAttnFwdRefIdeal := Cert.AttnFwdRefIdeal.Gen.facts) := fun m ρ _ =>
  (θ_run Cert.AttnFwdRefIdeal.defs _ _).mono (fun r h => ⟨fun c => (h c).2.2, Idealize.ShloMosaic.sem_eq_zero_of_no_sems (by decide) r.2⟩)
    (Cert.AttnFwdRefIdeal.Value.run (F := Ideal) m ρ)

open Cert.AttnFwdIdeal.Product in
/-- The kernel's forward attention is the reference's. -/
theorem attn_fwd_algebraic : Cert.algebraic_AttnFwdIdeal_AttnFwdRefIdeal_pre_attention_finite (hAttnFwdIdeal := Cert.AttnFwdIdeal.Gen.facts)
    (hAttnFwdRefIdeal := Cert.AttnFwdRefIdeal.Gen.facts) (hPre_attention_finite := Cert.Pre_attention_finite.shapes_fit) := by
  intro m ρ m' ρ' hpre hag
  refine ⟨fun c => attended (qOf m c) (kOf m c) (vOf m c) (fOf m c), fun c => logTotal (qOf m c) (kOf m c) (fOf m c), ?_, ?_⟩
  · exact (θ_run Cert.AttnFwdIdeal.defs _ _).mono (fun _ h c => ⟨(h c).1.trans (final_means (attention_real m c (hpre c)).1 (attention_real m c (hpre c)).2.1 (attention_real m c (hpre c)).2.2), (h c).2.1.trans (final_logs (attention_real m c (hpre c)).1 (attention_real m c (hpre c)).2.1 (attention_real m c (hpre c)).2.2), (h c).2.2⟩)
      (Cert.AttnFwdIdeal.Value.run_blocks (F := Ideal) m ρ)
  · refine (θ_run Cert.AttnFwdRefIdeal.defs _ _).mono (fun _ h c => ?_) (Cert.AttnFwdRefIdeal.Value.run (F := Ideal) m' ρ')
    obtain ⟨a0, a1, a2, a3⟩ := hag c
    refine ⟨(h c).1.trans ((Cert.AttnFwdRefIdeal.Read.val_main_v36_eq _ _).trans ?_), (h c).2.1.trans ((Cert.AttnFwdRefIdeal.Read.val_main_v53_eq _ _).trans ?_), (h c).2.2⟩
    · rw [a0, a1, a2, a3]
      haveI := Cert.Pre_attention_finite.shapes_fit
      exact reference_means _ _ _ _ (attention_real m c (hpre c)).1 (attention_real m c (hpre c)).2.1 (attention_real m c (hpre c)).2.2
    · rw [a0, a1, a3]
      haveI := Cert.Pre_attention_finite.shapes_fit
      exact reference_lse _ _ _ (attention_real m c (hpre c)).1 (attention_real m c (hpre c)).2.1 (attention_real m c (hpre c)).2.2

/-- The reference of the gradient of the last normalisation leaves its arguments as they were. -/
theorem norm3_bwd_reference_kept : Cert.quiescent_Norm3BwdRefIdeal (hNorm3BwdRefIdeal := Cert.Norm3BwdRefIdeal.Gen.facts) := fun m ρ _ =>
  (θ_run Cert.Norm3BwdRefIdeal.defs _ _).mono (fun r h => ⟨fun c => (h c).2.2.2.2.2.2, Idealize.ShloMosaic.sem_eq_zero_of_no_sems (by decide) r.2⟩)
    (Cert.Norm3BwdRefIdeal.Value.run (F := Ideal) m ρ)

open Cert.Norm3BwdIdeal.Product in
/-- The kernel's gradient of the last normalisation is the reference's. -/
theorem norm3_bwd_algebraic : Cert.algebraic_Norm3BwdIdeal_Norm3BwdRefIdeal (hNorm3BwdIdeal := Cert.Norm3BwdIdeal.Gen.facts)
    (hNorm3BwdRefIdeal := Cert.Norm3BwdRefIdeal.Gen.facts) := by
  intro m ρ m' ρ' hpre hag
  refine ⟨fun c => rowsOf m c, fun c => branchGrad (rowsOf m c) (gateOf m c), fun c => Cert.Norm1BwdIdeal.Product.shiftGrad (gradOf m c), fun c => Cert.Norm1BwdIdeal.Product.scaleGrad (inOf m c) (gradOf m c) (wOf m c), fun c => Cert.Norm1BwdIdeal.Product.weightGrad (inOf m c) (gradOf m c) (scaleOf m c), fun c => gateGrad (rowsOf m c) (branchOf m c), ?_, ?_⟩
  · exact (θ_run Cert.Norm3BwdIdeal.defs _ _).mono (fun _ h c => ⟨(h c).1.trans (final_rows m c), (h c).2.1.trans (final_branch m c), (h c).2.2.1.trans (final_shift m c), (h c).2.2.2.1.trans (final_scale m c), (h c).2.2.2.2.1.trans (final_weight m c), (h c).2.2.2.2.2.1.trans (final_gate m c), (h c).2.2.2.2.2.2⟩)
      (Cert.Norm3BwdIdeal.Value.run_blocks (F := Ideal) m ρ)
  · refine (θ_run Cert.Norm3BwdRefIdeal.defs _ _).mono (fun _ h c => ?_) (Cert.Norm3BwdRefIdeal.Value.run (F := Ideal) m' ρ')
    obtain ⟨a0, a1, a2, a3, a4, a5, a6⟩ := hag c
    refine ⟨(h c).1.trans ((Cert.Norm3BwdRefIdeal.Read.val_main_v49_eq _ _).trans ?_), (h c).2.1.trans ((Cert.Norm3BwdRefIdeal.Read.val_main_v57_eq _ _).trans ?_), (h c).2.2.1.trans ((Cert.Norm3BwdRefIdeal.Read.val_main_v24_eq _).trans ?_), (h c).2.2.2.1.trans ((Cert.Norm3BwdRefIdeal.Read.val_main_v27_eq _ _ _).trans ?_), (h c).2.2.2.2.1.trans ((Cert.Norm3BwdRefIdeal.Read.val_main_v32_eq _ _ _).trans ?_), (h c).2.2.2.2.2.1.trans ((Cert.Norm3BwdRefIdeal.Read.val_main_v56_eq _ _).trans ?_), (h c).2.2.2.2.2.2⟩
    · rw [a0, a1, a2, a4, a5]
      exact reference_rows _ _ _ _ _
    · rw [a0, a1, a2, a4, a5, a6]
      exact reference_branch _ _ _ _ _ _
    · rw [a1]
      exact reference_shift _
    · rw [a0, a1, a4]
      exact reference_scale _ _ _
    · rw [a0, a1, a5]
      exact reference_weight _ _ _
    · rw [a0, a1, a2, a3, a4, a5]
      exact reference_gate _ _ _ _ _ _

/-- The reference of the queries' and keys' normalisation leaves its arguments as they were. -/
theorem qk_norm_fwd_reference_kept : Cert.quiescent_QkNormFwdRefIdeal (hQkNormFwdRefIdeal := Cert.QkNormFwdRefIdeal.Gen.facts) := fun m ρ _ =>
  (θ_run Cert.QkNormFwdRefIdeal.defs _ _).mono (fun r h => ⟨fun c => (h c).2.2.2, Idealize.ShloMosaic.sem_eq_zero_of_no_sems (by decide) r.2⟩)
    (Cert.QkNormFwdRefIdeal.Value.run (F := Ideal) m ρ)

open Cert.QkNormFwdIdeal.Product in
/-- The kernel's queries' and keys' normalisation is the reference's. -/
theorem qk_norm_fwd_algebraic : Cert.algebraic_QkNormFwdIdeal_QkNormFwdRefIdeal (hQkNormFwdIdeal := Cert.QkNormFwdIdeal.Gen.facts)
    (hQkNormFwdRefIdeal := Cert.QkNormFwdRefIdeal.Gen.facts) := by
  intro m ρ m' ρ' hpre hag
  refine ⟨fun c => normed (Cert.QkNormBwdIdeal.Product.queries (projOf m c)) (gqOf m c), fun c => normed (Cert.QkNormBwdIdeal.Product.keys (projOf m c)) (gkOf m c), fun c => values (projOf m c), ?_, ?_⟩
  · exact (θ_run Cert.QkNormFwdIdeal.defs _ _).mono (fun _ h c => ⟨(h c).1.trans (final_queries m c), (h c).2.1.trans (final_keys m c), (h c).2.2.1.trans (final_values m c), (h c).2.2.2⟩)
      (Cert.QkNormFwdIdeal.Value.run_blocks (F := Ideal) m ρ)
  · refine (θ_run Cert.QkNormFwdRefIdeal.defs _ _).mono (fun _ h c => ?_) (Cert.QkNormFwdRefIdeal.Value.run (F := Ideal) m' ρ')
    obtain ⟨a0, a1, a2⟩ := hag c
    refine ⟨(h c).1.trans ((Cert.QkNormFwdRefIdeal.Read.val_main_v32_eq _ _).trans ?_), (h c).2.1.trans ((Cert.QkNormFwdRefIdeal.Read.val_main_v33_eq _ _).trans ?_), (h c).2.2.1.trans ((Cert.QkNormFwdRefIdeal.Read.val_main_v35_eq _).trans ?_), (h c).2.2.2⟩
    · rw [a0, a1]
      exact reference_queries _ _
    · rw [a0, a2]
      exact reference_keys _ _
    · rw [a0]
      exact reference_values _

/-- The reference of the loss and its gradient leaves its arguments as they were. -/
theorem final_loss_reference_kept : Cert.quiescent_FinalLossRefIdeal (hFinalLossRefIdeal := Cert.FinalLossRefIdeal.Gen.facts) := fun m ρ _ =>
  (θ_run Cert.FinalLossRefIdeal.defs _ _).mono (fun r h => ⟨fun c => (h c).2.2.2.2.2, Idealize.ShloMosaic.sem_eq_zero_of_no_sems (by decide) r.2⟩)
    (Cert.FinalLossRefIdeal.Value.run (F := Ideal) m ρ)

open Cert.FinalLossIdeal.Product in
/-- The kernel's loss and its gradient is the reference's. -/
theorem final_loss_algebraic : Cert.algebraic_FinalLossIdeal_FinalLossRefIdeal (hFinalLossIdeal := Cert.FinalLossIdeal.Gen.facts)
    (hFinalLossRefIdeal := Cert.FinalLossRefIdeal.Gen.facts) := by
  intro m ρ m' ρ' hpre hag
  refine ⟨fun c => rowsOf m c, fun c => Cert.Norm2BwdIdeal.Product.branchGrad (rowsOf m c) (gateOf m c), fun c => weightGrad (inOf m c) (tgtOf m c) (wOf m c), fun c => loss (inOf m c) (tgtOf m c) (wOf m c), fun c => Cert.Norm2BwdIdeal.Product.gateGrad (rowsOf m c) (branchOf m c), ?_, ?_⟩
  · exact (θ_run Cert.FinalLossIdeal.defs _ _).mono (fun _ h c => ⟨(h c).1.trans (final_rows m c), (h c).2.1.trans (final_branch m c), (h c).2.2.1.trans (final_weight m c), (h c).2.2.2.1.trans (final_loss m c), (h c).2.2.2.2.1.trans (final_gate m c), (h c).2.2.2.2.2⟩)
      (Cert.FinalLossIdeal.Value.run_blocks (F := Ideal) m ρ)
  · refine (θ_run Cert.FinalLossRefIdeal.defs _ _).mono (fun _ h c => ?_) (Cert.FinalLossRefIdeal.Value.run (F := Ideal) m' ρ')
    obtain ⟨a0, a1, a2, a3, a4⟩ := hag c
    refine ⟨(h c).1.trans ((Cert.FinalLossRefIdeal.Read.val_main_v48_eq _ _).trans ?_), (h c).2.1.trans ((Cert.FinalLossRefIdeal.Read.val_main_v60_eq _ _).trans ?_), (h c).2.2.1.trans ((Cert.FinalLossRefIdeal.Read.val_main_v32_eq _ _ _).trans ?_), (h c).2.2.2.1.trans ((Cert.FinalLossRefIdeal.Read.val_main_v61_eq _ _ _).trans ?_), (h c).2.2.2.2.1.trans ((Cert.FinalLossRefIdeal.Read.val_main_v59_eq _ _).trans ?_), (h c).2.2.2.2.2⟩
    · rw [a0, a1, a3]
      exact reference_rows _ _ _
    · rw [a0, a1, a3, a4]
      exact reference_branch _ _ _ _
    · rw [a0, a1, a3]
      exact reference_weight _ _ _
    · rw [a0, a1, a3]
      exact reference_loss _ _ _
    · rw [a0, a1, a2, a3]
      exact reference_gate _ _ _ _

/-- The reference of the gradient of the conditioning's weights leaves its arguments as they were. -/
theorem ada_bwd_reference_kept : Cert.quiescent_AdaBwdRefIdeal (hAdaBwdRefIdeal := Cert.AdaBwdRefIdeal.Gen.facts) := fun m ρ _ =>
  (θ_run Cert.AdaBwdRefIdeal.defs _ _).mono (fun r h => ⟨fun c => (h c).2, Idealize.ShloMosaic.sem_eq_zero_of_no_sems (by decide) r.2⟩)
    (Cert.AdaBwdRefIdeal.Value.run (F := Ideal) m ρ)

open Cert.AdaBwdIdeal.Product in
/-- The kernel's gradient of the conditioning's weights is the reference's. -/
theorem ada_bwd_algebraic : Cert.algebraic_AdaBwdIdeal_AdaBwdRefIdeal (hAdaBwdIdeal := Cert.AdaBwdIdeal.Gen.facts)
    (hAdaBwdRefIdeal := Cert.AdaBwdRefIdeal.Gen.facts) := by
  intro m ρ m' ρ' hpre hag
  refine ⟨fun c => weightGrad (vecOf m c) (gradOf m c), ?_, ?_⟩
  · exact (θ_run Cert.AdaBwdIdeal.defs _ _).mono (fun _ h c => ⟨(h c).1.trans (final m c), (h c).2⟩)
      (Cert.AdaBwdIdeal.Value.run_blocks (F := Ideal) m ρ)
  · refine (θ_run Cert.AdaBwdRefIdeal.defs _ _).mono (fun _ h c => ?_) (Cert.AdaBwdRefIdeal.Value.run (F := Ideal) m' ρ')
    obtain ⟨a0, a1⟩ := hag c
    refine ⟨(h c).1.trans ((Cert.AdaBwdRefIdeal.Read.val_main_v4_eq _ _).trans ?_), (h c).2⟩
    · rw [a0, a1]
      exact reference _ _

/-- The reference of the conditioning leaves its arguments as they were. -/
theorem ada_fwd_reference_kept : Cert.quiescent_AdaFwdRefIdeal (hAdaFwdRefIdeal := Cert.AdaFwdRefIdeal.Gen.facts) := fun m ρ _ =>
  (θ_run Cert.AdaFwdRefIdeal.defs _ _).mono (fun r h => ⟨fun c => (h c).2, Idealize.ShloMosaic.sem_eq_zero_of_no_sems (by decide) r.2⟩)
    (Cert.AdaFwdRefIdeal.Value.run (F := Ideal) m ρ)

open Cert.AdaFwdIdeal.Product in
/-- The kernel's conditioning is the reference's. -/
theorem ada_fwd_algebraic : Cert.algebraic_AdaFwdIdeal_AdaFwdRefIdeal (hAdaFwdIdeal := Cert.AdaFwdIdeal.Gen.facts)
    (hAdaFwdRefIdeal := Cert.AdaFwdRefIdeal.Gen.facts) := by
  intro m ρ m' ρ' hpre hag
  refine ⟨fun c => conditioned (vecOf m c) (wOf m c) (biasOf m c), ?_, ?_⟩
  · exact (θ_run Cert.AdaFwdIdeal.defs _ _).mono (fun _ h c => ⟨(h c).1.trans (final m c), (h c).2⟩)
      (Cert.AdaFwdIdeal.Value.run_blocks (F := Ideal) m ρ)
  · refine (θ_run Cert.AdaFwdRefIdeal.defs _ _).mono (fun _ h c => ?_) (Cert.AdaFwdRefIdeal.Value.run (F := Ideal) m' ρ')
    obtain ⟨a0, a1, a2⟩ := hag c
    refine ⟨(h c).1.trans ((Cert.AdaFwdRefIdeal.Read.val_main_v3_eq _ _ _).trans ?_), (h c).2⟩
    · rw [a0, a1, a2]
      exact reference _ _ _

/-- The reference of the optimiser's step on the conditioning weights leaves its arguments as they were. -/
theorem adam_w_reference_kept : Cert.quiescent_AdamWRefIdeal (hAdamWRefIdeal := Cert.AdamWRefIdeal.Gen.facts) := fun m ρ _ =>
  (θ_run Cert.AdamWRefIdeal.defs _ _).mono (fun r h => ⟨fun c => (h c).2.2.2.2, Idealize.ShloMosaic.sem_eq_zero_of_no_sems (by decide) r.2⟩)
    (Cert.AdamWRefIdeal.Value.run (F := Ideal) m ρ)

open Cert.AdamWIdeal.Product in
/-- The kernel's optimiser's step on the conditioning weights is the reference's. -/
theorem adam_w_algebraic : Cert.algebraic_AdamWIdeal_AdamWRefIdeal (hAdamWIdeal := Cert.AdamWIdeal.Gen.facts)
    (hAdamWRefIdeal := Cert.AdamWRefIdeal.Gen.facts) := by
  intro m ρ m' ρ' hpre hag
  refine ⟨fun c => gradient (gradOf m c), fun c => change (gradOf m c) (wOf m c) (firstOf m c) (secondOf m c), fun c => first (gradOf m c) (firstOf m c), fun c => second (gradOf m c) (secondOf m c), ?_, ?_⟩
  · exact (θ_run Cert.AdamWIdeal.defs _ _).mono (fun _ h c => ⟨(h c).1.trans (final_gradient m c), (h c).2.1.trans (final_change m c), (h c).2.2.1.trans (final_first m c), (h c).2.2.2.1.trans (final_second m c), (h c).2.2.2.2⟩)
      (Cert.AdamWIdeal.Value.run_blocks (F := Ideal) m ρ)
  · refine (θ_run Cert.AdamWRefIdeal.defs _ _).mono (fun _ h c => ?_) (Cert.AdamWRefIdeal.Value.run (F := Ideal) m' ρ')
    obtain ⟨a0, a1, a2, a3⟩ := hag c
    refine ⟨(h c).1.trans ((Cert.AdamWRefIdeal.Read.val_main_v0_eq _).trans ?_), (h c).2.1.trans ((Cert.AdamWRefIdeal.Read.val_main_v24_eq _ _ _ _).trans ?_), (h c).2.2.1.trans ((Cert.AdamWRefIdeal.Read.val_main_v5_eq _ _).trans ?_), (h c).2.2.2.1.trans ((Cert.AdamWRefIdeal.Read.val_main_v11_eq _ _).trans ?_), (h c).2.2.2.2⟩
    · rw [a0]
      exact reference_gradient _
    · rw [a0, a1, a2, a3]
      exact reference_change _ _ _ _
    · rw [a0, a2]
      exact reference_first _ _
    · rw [a0, a3]
      exact reference_second _ _

/-- The reference of the optimiser's step on the feed-forward input weights leaves its arguments as they were. -/
theorem adam_ffn_in_reference_kept : Cert.quiescent_AdamFfnInRefIdeal (hAdamFfnInRefIdeal := Cert.AdamFfnInRefIdeal.Gen.facts) := fun m ρ _ =>
  (θ_run Cert.AdamFfnInRefIdeal.defs _ _).mono (fun r h => ⟨fun c => (h c).2.2.2.2, Idealize.ShloMosaic.sem_eq_zero_of_no_sems (by decide) r.2⟩)
    (Cert.AdamFfnInRefIdeal.Value.run (F := Ideal) m ρ)

open Cert.AdamFfnInIdeal.Product in
/-- The kernel's optimiser's step on the feed-forward input weights is the reference's. -/
theorem adam_ffn_in_algebraic : Cert.algebraic_AdamFfnInIdeal_AdamFfnInRefIdeal (hAdamFfnInIdeal := Cert.AdamFfnInIdeal.Gen.facts)
    (hAdamFfnInRefIdeal := Cert.AdamFfnInRefIdeal.Gen.facts) := by
  intro m ρ m' ρ' hpre hag
  refine ⟨fun c => gradient (partsOf m c), fun c => change (partsOf m c) (wOf m c) (firstOf m c) (secondOf m c), fun c => first (partsOf m c) (firstOf m c), fun c => second (partsOf m c) (secondOf m c), ?_, ?_⟩
  · exact (θ_run Cert.AdamFfnInIdeal.defs _ _).mono (fun _ h c => ⟨(h c).1.trans (final_gradient m c), (h c).2.1.trans (final_change m c), (h c).2.2.1.trans (final_first m c), (h c).2.2.2.1.trans (final_second m c), (h c).2.2.2.2⟩)
      (Cert.AdamFfnInIdeal.Value.run_blocks (F := Ideal) m ρ)
  · refine (θ_run Cert.AdamFfnInRefIdeal.defs _ _).mono (fun _ h c => ?_) (Cert.AdamFfnInRefIdeal.Value.run (F := Ideal) m' ρ')
    obtain ⟨a0, a1, a2, a3⟩ := hag c
    refine ⟨(h c).1.trans ((Cert.AdamFfnInRefIdeal.Read.val_main_v1_eq _).trans ?_), (h c).2.1.trans ((Cert.AdamFfnInRefIdeal.Read.val_main_v25_eq _ _ _ _).trans ?_), (h c).2.2.1.trans ((Cert.AdamFfnInRefIdeal.Read.val_main_v6_eq _ _).trans ?_), (h c).2.2.2.1.trans ((Cert.AdamFfnInRefIdeal.Read.val_main_v12_eq _ _).trans ?_), (h c).2.2.2.2⟩
    · rw [a0]
      exact reference_gradient _
    · rw [a0, a1, a2, a3]
      exact reference_change _ _ _ _
    · rw [a0, a2]
      exact reference_first _ _
    · rw [a0, a3]
      exact reference_second _ _

/-- The reference of the optimiser's step on the feed-forward output weights leaves its arguments as they were. -/
theorem adam_ffn_out_reference_kept : Cert.quiescent_AdamFfnOutRefIdeal (hAdamFfnOutRefIdeal := Cert.AdamFfnOutRefIdeal.Gen.facts) := fun m ρ _ =>
  (θ_run Cert.AdamFfnOutRefIdeal.defs _ _).mono (fun r h => ⟨fun c => (h c).2.2.2.2, Idealize.ShloMosaic.sem_eq_zero_of_no_sems (by decide) r.2⟩)
    (Cert.AdamFfnOutRefIdeal.Value.run (F := Ideal) m ρ)

open Cert.AdamFfnOutIdeal.Product in
/-- The kernel's optimiser's step on the feed-forward output weights is the reference's. -/
theorem adam_ffn_out_algebraic : Cert.algebraic_AdamFfnOutIdeal_AdamFfnOutRefIdeal (hAdamFfnOutIdeal := Cert.AdamFfnOutIdeal.Gen.facts)
    (hAdamFfnOutRefIdeal := Cert.AdamFfnOutRefIdeal.Gen.facts) := by
  intro m ρ m' ρ' hpre hag
  refine ⟨fun c => gradient (partsOf m c), fun c => change (partsOf m c) (wOf m c) (firstOf m c) (secondOf m c), fun c => first (partsOf m c) (firstOf m c), fun c => second (partsOf m c) (secondOf m c), ?_, ?_⟩
  · exact (θ_run Cert.AdamFfnOutIdeal.defs _ _).mono (fun _ h c => ⟨(h c).1.trans (final_gradient m c), (h c).2.1.trans (final_change m c), (h c).2.2.1.trans (final_first m c), (h c).2.2.2.1.trans (final_second m c), (h c).2.2.2.2⟩)
      (Cert.AdamFfnOutIdeal.Value.run_blocks (F := Ideal) m ρ)
  · refine (θ_run Cert.AdamFfnOutRefIdeal.defs _ _).mono (fun _ h c => ?_) (Cert.AdamFfnOutRefIdeal.Value.run (F := Ideal) m' ρ')
    obtain ⟨a0, a1, a2, a3⟩ := hag c
    refine ⟨(h c).1.trans ((Cert.AdamFfnOutRefIdeal.Read.val_main_v1_eq _).trans ?_), (h c).2.1.trans ((Cert.AdamFfnOutRefIdeal.Read.val_main_v25_eq _ _ _ _).trans ?_), (h c).2.2.1.trans ((Cert.AdamFfnOutRefIdeal.Read.val_main_v6_eq _ _).trans ?_), (h c).2.2.2.1.trans ((Cert.AdamFfnOutRefIdeal.Read.val_main_v12_eq _ _).trans ?_), (h c).2.2.2.2⟩
    · rw [a0]
      exact reference_gradient _
    · rw [a0, a1, a2, a3]
      exact reference_change _ _ _ _
    · rw [a0, a2]
      exact reference_first _ _
    · rw [a0, a3]
      exact reference_second _ _

/-- The reference of the optimiser's step on the mixer input weights leaves its arguments as they were. -/
theorem adam_mix_in_reference_kept : Cert.quiescent_AdamMixInRefIdeal (hAdamMixInRefIdeal := Cert.AdamMixInRefIdeal.Gen.facts) := fun m ρ _ =>
  (θ_run Cert.AdamMixInRefIdeal.defs _ _).mono (fun r h => ⟨fun c => (h c).2.2.2.2, Idealize.ShloMosaic.sem_eq_zero_of_no_sems (by decide) r.2⟩)
    (Cert.AdamMixInRefIdeal.Value.run (F := Ideal) m ρ)

open Cert.AdamMixInIdeal.Product in
/-- The kernel's optimiser's step on the mixer input weights is the reference's. -/
theorem adam_mix_in_algebraic : Cert.algebraic_AdamMixInIdeal_AdamMixInRefIdeal (hAdamMixInIdeal := Cert.AdamMixInIdeal.Gen.facts)
    (hAdamMixInRefIdeal := Cert.AdamMixInRefIdeal.Gen.facts) := by
  intro m ρ m' ρ' hpre hag
  refine ⟨fun c => gradient (partsOf m c), fun c => change (partsOf m c) (wOf m c) (firstOf m c) (secondOf m c), fun c => first (partsOf m c) (firstOf m c), fun c => second (partsOf m c) (secondOf m c), ?_, ?_⟩
  · exact (θ_run Cert.AdamMixInIdeal.defs _ _).mono (fun _ h c => ⟨(h c).1.trans (final_gradient m c), (h c).2.1.trans (final_change m c), (h c).2.2.1.trans (final_first m c), (h c).2.2.2.1.trans (final_second m c), (h c).2.2.2.2⟩)
      (Cert.AdamMixInIdeal.Value.run_blocks (F := Ideal) m ρ)
  · refine (θ_run Cert.AdamMixInRefIdeal.defs _ _).mono (fun _ h c => ?_) (Cert.AdamMixInRefIdeal.Value.run (F := Ideal) m' ρ')
    obtain ⟨a0, a1, a2, a3⟩ := hag c
    refine ⟨(h c).1.trans ((Cert.AdamMixInRefIdeal.Read.val_main_v1_eq _).trans ?_), (h c).2.1.trans ((Cert.AdamMixInRefIdeal.Read.val_main_v25_eq _ _ _ _).trans ?_), (h c).2.2.1.trans ((Cert.AdamMixInRefIdeal.Read.val_main_v6_eq _ _).trans ?_), (h c).2.2.2.1.trans ((Cert.AdamMixInRefIdeal.Read.val_main_v12_eq _ _).trans ?_), (h c).2.2.2.2⟩
    · rw [a0]
      exact reference_gradient _
    · rw [a0, a1, a2, a3]
      exact reference_change _ _ _ _
    · rw [a0, a2]
      exact reference_first _ _
    · rw [a0, a3]
      exact reference_second _ _

/-- The reference of the optimiser's step on the mixer output weights leaves its arguments as they were. -/
theorem adam_mix_out_reference_kept : Cert.quiescent_AdamMixOutRefIdeal (hAdamMixOutRefIdeal := Cert.AdamMixOutRefIdeal.Gen.facts) := fun m ρ _ =>
  (θ_run Cert.AdamMixOutRefIdeal.defs _ _).mono (fun r h => ⟨fun c => (h c).2.2.2.2, Idealize.ShloMosaic.sem_eq_zero_of_no_sems (by decide) r.2⟩)
    (Cert.AdamMixOutRefIdeal.Value.run (F := Ideal) m ρ)

open Cert.AdamMixOutIdeal.Product in
/-- The kernel's optimiser's step on the mixer output weights is the reference's. -/
theorem adam_mix_out_algebraic : Cert.algebraic_AdamMixOutIdeal_AdamMixOutRefIdeal (hAdamMixOutIdeal := Cert.AdamMixOutIdeal.Gen.facts)
    (hAdamMixOutRefIdeal := Cert.AdamMixOutRefIdeal.Gen.facts) := by
  intro m ρ m' ρ' hpre hag
  refine ⟨fun c => gradient (partsOf m c), fun c => change (partsOf m c) (wOf m c) (firstOf m c) (secondOf m c), fun c => first (partsOf m c) (firstOf m c), fun c => second (partsOf m c) (secondOf m c), ?_, ?_⟩
  · exact (θ_run Cert.AdamMixOutIdeal.defs _ _).mono (fun _ h c => ⟨(h c).1.trans (final_gradient m c), (h c).2.1.trans (final_change m c), (h c).2.2.1.trans (final_first m c), (h c).2.2.2.1.trans (final_second m c), (h c).2.2.2.2⟩)
      (Cert.AdamMixOutIdeal.Value.run_blocks (F := Ideal) m ρ)
  · refine (θ_run Cert.AdamMixOutRefIdeal.defs _ _).mono (fun _ h c => ?_) (Cert.AdamMixOutRefIdeal.Value.run (F := Ideal) m' ρ')
    obtain ⟨a0, a1, a2, a3⟩ := hag c
    refine ⟨(h c).1.trans ((Cert.AdamMixOutRefIdeal.Read.val_main_v1_eq _).trans ?_), (h c).2.1.trans ((Cert.AdamMixOutRefIdeal.Read.val_main_v25_eq _ _ _ _).trans ?_), (h c).2.2.1.trans ((Cert.AdamMixOutRefIdeal.Read.val_main_v6_eq _ _).trans ?_), (h c).2.2.2.1.trans ((Cert.AdamMixOutRefIdeal.Read.val_main_v12_eq _ _).trans ?_), (h c).2.2.2.2⟩
    · rw [a0]
      exact reference_gradient _
    · rw [a0, a1, a2, a3]
      exact reference_change _ _ _ _
    · rw [a0, a2]
      exact reference_first _ _
    · rw [a0, a3]
      exact reference_second _ _

/-- The reference of the optimiser's step on the pool's weights leaves its arguments as they were. -/
theorem adam_pool_reference_kept : Cert.quiescent_AdamPoolRefIdeal (hAdamPoolRefIdeal := Cert.AdamPoolRefIdeal.Gen.facts) := fun m ρ _ =>
  (θ_run Cert.AdamPoolRefIdeal.defs _ _).mono (fun r h => ⟨fun c => (h c).2.2.2.2, Idealize.ShloMosaic.sem_eq_zero_of_no_sems (by decide) r.2⟩)
    (Cert.AdamPoolRefIdeal.Value.run (F := Ideal) m ρ)

open Cert.AdamPoolIdeal.Product in
/-- The kernel's optimiser's step on the pool's weights is the reference's. -/
theorem adam_pool_algebraic : Cert.algebraic_AdamPoolIdeal_AdamPoolRefIdeal (hAdamPoolIdeal := Cert.AdamPoolIdeal.Gen.facts)
    (hAdamPoolRefIdeal := Cert.AdamPoolRefIdeal.Gen.facts) := by
  intro m ρ m' ρ' hpre hag
  refine ⟨fun c => gradient (partsOf m c), fun c => change (partsOf m c) (wOf m c) (firstOf m c) (secondOf m c), fun c => first (partsOf m c) (firstOf m c), fun c => second (partsOf m c) (secondOf m c), ?_, ?_⟩
  · exact (θ_run Cert.AdamPoolIdeal.defs _ _).mono (fun _ h c => ⟨(h c).1.trans (final_gradient m c), (h c).2.1.trans (final_change m c), (h c).2.2.1.trans (final_first m c), (h c).2.2.2.1.trans (final_second m c), (h c).2.2.2.2⟩)
      (Cert.AdamPoolIdeal.Value.run_blocks (F := Ideal) m ρ)
  · refine (θ_run Cert.AdamPoolRefIdeal.defs _ _).mono (fun _ h c => ?_) (Cert.AdamPoolRefIdeal.Value.run (F := Ideal) m' ρ')
    obtain ⟨a0, a1, a2, a3⟩ := hag c
    refine ⟨(h c).1.trans ((Cert.AdamPoolRefIdeal.Read.val_main_v1_eq _).trans ?_), (h c).2.1.trans ((Cert.AdamPoolRefIdeal.Read.val_main_v25_eq _ _ _ _).trans ?_), (h c).2.2.1.trans ((Cert.AdamPoolRefIdeal.Read.val_main_v6_eq _ _).trans ?_), (h c).2.2.2.1.trans ((Cert.AdamPoolRefIdeal.Read.val_main_v12_eq _ _).trans ?_), (h c).2.2.2.2⟩
    · rw [a0]
      exact reference_gradient _
    · rw [a0, a1, a2, a3]
      exact reference_change _ _ _ _
    · rw [a0, a2]
      exact reference_first _ _
    · rw [a0, a3]
      exact reference_second _ _

/-- The reference of the optimiser's step on the small weights leaves its arguments as they were. -/
theorem adam_small_reference_kept : Cert.quiescent_AdamSmallRefIdeal (hAdamSmallRefIdeal := Cert.AdamSmallRefIdeal.Gen.facts) := fun m ρ _ =>
  (θ_run Cert.AdamSmallRefIdeal.defs _ _).mono (fun r h => ⟨fun c => (h c).2.2.2.2, Idealize.ShloMosaic.sem_eq_zero_of_no_sems (by decide) r.2⟩)
    (Cert.AdamSmallRefIdeal.Value.run (F := Ideal) m ρ)

open Cert.AdamSmallIdeal.Product in
/-- The kernel's optimiser's step on the small weights is the reference's. -/
theorem adam_small_algebraic : Cert.algebraic_AdamSmallIdeal_AdamSmallRefIdeal (hAdamSmallIdeal := Cert.AdamSmallIdeal.Gen.facts)
    (hAdamSmallRefIdeal := Cert.AdamSmallRefIdeal.Gen.facts) := by
  intro m ρ m' ρ' hpre hag
  refine ⟨fun c => gradient (partsOf m c), fun c => change (partsOf m c) (wOf m c) (firstOf m c) (secondOf m c), fun c => first (partsOf m c) (firstOf m c), fun c => second (partsOf m c) (secondOf m c), ?_, ?_⟩
  · exact (θ_run Cert.AdamSmallIdeal.defs _ _).mono (fun _ h c => ⟨(h c).1.trans (final_gradient m c), (h c).2.1.trans (final_change m c), (h c).2.2.1.trans (final_first m c), (h c).2.2.2.1.trans (final_second m c), (h c).2.2.2.2⟩)
      (Cert.AdamSmallIdeal.Value.run_blocks (F := Ideal) m ρ)
  · refine (θ_run Cert.AdamSmallRefIdeal.defs _ _).mono (fun _ h c => ?_) (Cert.AdamSmallRefIdeal.Value.run (F := Ideal) m' ρ')
    obtain ⟨a0, a1, a2, a3⟩ := hag c
    refine ⟨(h c).1.trans ((Cert.AdamSmallRefIdeal.Read.val_main_v0_eq _).trans ?_), (h c).2.1.trans ((Cert.AdamSmallRefIdeal.Read.val_main_v24_eq _ _ _ _).trans ?_), (h c).2.2.1.trans ((Cert.AdamSmallRefIdeal.Read.val_main_v5_eq _ _).trans ?_), (h c).2.2.2.1.trans ((Cert.AdamSmallRefIdeal.Read.val_main_v11_eq _ _).trans ?_), (h c).2.2.2.2⟩
    · rw [a0]
      exact reference_gradient _
    · rw [a0, a1, a2, a3]
      exact reference_change _ _ _ _
    · rw [a0, a2]
      exact reference_first _ _
    · rw [a0, a3]
      exact reference_second _ _

/-- The certificate's claims. -/
theorem claim : Cert.Claim :=
  ⟨Cert.Kernel.Gen.facts, Cert.KernelIdeal.Gen.facts, Cert.ReferenceIdeal.Gen.facts,
    Cert.FfnDwo.Gen.facts, Cert.FfnDwoIdeal.Gen.facts, Cert.FfnDwoRefIdeal.Gen.facts, Cert.FfnDownBwd.Gen.facts, Cert.FfnDownBwdIdeal.Gen.facts, Cert.FfnDownBwdRefIdeal.Gen.facts, Cert.FfnDwi.Gen.facts, Cert.FfnDwiIdeal.Gen.facts, Cert.FfnDwiRefIdeal.Gen.facts, Cert.FfnDhm.Gen.facts, Cert.FfnDhmIdeal.Gen.facts, Cert.FfnDhmRefIdeal.Gen.facts, Cert.FfnUp.Gen.facts, Cert.FfnUpIdeal.Gen.facts, Cert.FfnUpRefIdeal.Gen.facts, Cert.FfnDown.Gen.facts, Cert.FfnDownIdeal.Gen.facts, Cert.FfnDownRefIdeal.Gen.facts, Cert.MixDwOut.Gen.facts, Cert.MixDwOutIdeal.Gen.facts, Cert.MixDwOutRefIdeal.Gen.facts, Cert.MixOutBwd.Gen.facts, Cert.MixOutBwdIdeal.Gen.facts, Cert.MixOutBwdRefIdeal.Gen.facts, Cert.MixDwIn.Gen.facts, Cert.MixDwInIdeal.Gen.facts, Cert.MixDwInRefIdeal.Gen.facts, Cert.MixOut.Gen.facts, Cert.MixOutIdeal.Gen.facts, Cert.MixOutRefIdeal.Gen.facts, Cert.MixProj.Gen.facts, Cert.MixProjIdeal.Gen.facts, Cert.MixProjRefIdeal.Gen.facts, Cert.MixProjBwd.Gen.facts, Cert.MixProjBwdIdeal.Gen.facts, Cert.MixProjBwdRefIdeal.Gen.facts, Cert.QkNormBwd.Gen.facts, Cert.QkNormBwdIdeal.Gen.facts, Cert.QkNormBwdRefIdeal.Gen.facts, Cert.AttnDelta.Gen.facts, Cert.AttnDeltaIdeal.Gen.facts, Cert.AttnDeltaRefIdeal.Gen.facts, Cert.Norm1Bwd.Gen.facts, Cert.Norm1BwdIdeal.Gen.facts, Cert.Norm1BwdRefIdeal.Gen.facts, Cert.Norm2Bwd.Gen.facts, Cert.Norm2BwdIdeal.Gen.facts, Cert.Norm2BwdRefIdeal.Gen.facts, Cert.NormFwd.Gen.facts, Cert.NormFwdIdeal.Gen.facts, Cert.NormFwdRefIdeal.Gen.facts, Cert.AttnFwd.Gen.facts, Cert.AttnFwdIdeal.Gen.facts, Cert.AttnFwdRefIdeal.Gen.facts, Cert.Norm3Bwd.Gen.facts, Cert.Norm3BwdIdeal.Gen.facts, Cert.Norm3BwdRefIdeal.Gen.facts, Cert.QkNormFwd.Gen.facts, Cert.QkNormFwdIdeal.Gen.facts, Cert.QkNormFwdRefIdeal.Gen.facts, Cert.FinalLoss.Gen.facts, Cert.FinalLossIdeal.Gen.facts, Cert.FinalLossRefIdeal.Gen.facts, Cert.AdaBwd.Gen.facts, Cert.AdaBwdIdeal.Gen.facts, Cert.AdaBwdRefIdeal.Gen.facts, Cert.AdaFwd.Gen.facts, Cert.AdaFwdIdeal.Gen.facts, Cert.AdaFwdRefIdeal.Gen.facts, Cert.AdamW.Gen.facts, Cert.AdamWIdeal.Gen.facts, Cert.AdamWRefIdeal.Gen.facts, Cert.AdamFfnIn.Gen.facts, Cert.AdamFfnInIdeal.Gen.facts, Cert.AdamFfnInRefIdeal.Gen.facts, Cert.AdamFfnOut.Gen.facts, Cert.AdamFfnOutIdeal.Gen.facts, Cert.AdamFfnOutRefIdeal.Gen.facts, Cert.AdamMixIn.Gen.facts, Cert.AdamMixInIdeal.Gen.facts, Cert.AdamMixInRefIdeal.Gen.facts, Cert.AdamMixOut.Gen.facts, Cert.AdamMixOutIdeal.Gen.facts, Cert.AdamMixOutRefIdeal.Gen.facts, Cert.AdamPool.Gen.facts, Cert.AdamPoolIdeal.Gen.facts, Cert.AdamPoolRefIdeal.Gen.facts, Cert.AdamSmall.Gen.facts, Cert.AdamSmallIdeal.Gen.facts, Cert.AdamSmallRefIdeal.Gen.facts,
    Cert.Pre_gradients_finite.shapes_fit, Cert.Pre_activations_finite.shapes_fit, Cert.Pre_attention_finite.shapes_fit,
    fun m ρ _ => Cert.Kernel.Gen.frame m ρ, fun m ρ _ => Cert.KernelIdeal.Gen.frame m ρ, fun m ρ _ => Cert.KernelIdeal.Gen.frame m ρ,
    pool_reference_kept, fun m ρ _ => pool_reference_kept m ρ trivial,
    fun m ρ _ => Cert.FfnDwo.Gen.frame m ρ, fun m ρ _ => Cert.FfnDwoIdeal.Gen.frame m ρ, ffn_dwo_reference_kept,
    fun m ρ _ => Cert.FfnDownBwd.Gen.frame m ρ, fun m ρ _ => Cert.FfnDownBwdIdeal.Gen.frame m ρ, fun m ρ _ => Cert.FfnDownBwdIdeal.Gen.frame m ρ, ffn_down_bwd_reference_kept, fun m ρ _ => ffn_down_bwd_reference_kept m ρ trivial,
    fun m ρ _ => Cert.FfnDwi.Gen.frame m ρ, fun m ρ _ => Cert.FfnDwiIdeal.Gen.frame m ρ, ffn_dwi_reference_kept,
    fun m ρ _ => Cert.FfnDhm.Gen.frame m ρ, fun m ρ _ => Cert.FfnDhmIdeal.Gen.frame m ρ, ffn_dhm_reference_kept,
    fun m ρ _ => Cert.FfnUp.Gen.frame m ρ, fun m ρ _ => Cert.FfnUpIdeal.Gen.frame m ρ, ffn_up_reference_kept,
    fun m ρ _ => Cert.FfnDown.Gen.frame m ρ, fun m ρ _ => Cert.FfnDownIdeal.Gen.frame m ρ, ffn_down_reference_kept,
    fun m ρ _ => Cert.MixDwOut.Gen.frame m ρ, fun m ρ _ => Cert.MixDwOutIdeal.Gen.frame m ρ, mix_dw_out_reference_kept,
    fun m ρ _ => Cert.MixOutBwd.Gen.frame m ρ, fun m ρ _ => Cert.MixOutBwdIdeal.Gen.frame m ρ, mix_out_bwd_reference_kept,
    fun m ρ _ => Cert.MixDwIn.Gen.frame m ρ, fun m ρ _ => Cert.MixDwInIdeal.Gen.frame m ρ, mix_dw_in_reference_kept,
    fun m ρ _ => Cert.MixOut.Gen.frame m ρ, fun m ρ _ => Cert.MixOutIdeal.Gen.frame m ρ, mix_out_reference_kept,
    fun m ρ _ => Cert.MixProj.Gen.frame m ρ, fun m ρ _ => Cert.MixProjIdeal.Gen.frame m ρ, mix_proj_reference_kept,
    fun m ρ _ => Cert.MixProjBwd.Gen.frame m ρ, fun m ρ _ => Cert.MixProjBwdIdeal.Gen.frame m ρ, mix_proj_bwd_reference_kept,
    fun m ρ _ => Cert.QkNormBwd.Gen.frame m ρ, fun m ρ _ => Cert.QkNormBwdIdeal.Gen.frame m ρ, qk_norm_bwd_reference_kept,
    fun m ρ _ => Cert.AttnDelta.Gen.frame m ρ, fun m ρ _ => Cert.AttnDeltaIdeal.Gen.frame m ρ, attn_delta_reference_kept,
    fun m ρ _ => Cert.Norm1Bwd.Gen.frame m ρ, fun m ρ _ => Cert.Norm1BwdIdeal.Gen.frame m ρ, norm1_bwd_reference_kept,
    fun m ρ _ => Cert.Norm2Bwd.Gen.frame m ρ, fun m ρ _ => Cert.Norm2BwdIdeal.Gen.frame m ρ, norm2_bwd_reference_kept,
    fun m ρ _ => Cert.NormFwd.Gen.frame m ρ, fun m ρ _ => Cert.NormFwdIdeal.Gen.frame m ρ, norm_fwd_reference_kept,
    fun m ρ _ => Cert.AttnFwd.Gen.frame m ρ, fun m ρ _ => Cert.AttnFwdIdeal.Gen.frame m ρ, fun m ρ _ => Cert.AttnFwdIdeal.Gen.frame m ρ, attn_fwd_reference_kept, fun m ρ _ => attn_fwd_reference_kept m ρ trivial,
    fun m ρ _ => Cert.Norm3Bwd.Gen.frame m ρ, fun m ρ _ => Cert.Norm3BwdIdeal.Gen.frame m ρ, norm3_bwd_reference_kept,
    fun m ρ _ => Cert.QkNormFwd.Gen.frame m ρ, fun m ρ _ => Cert.QkNormFwdIdeal.Gen.frame m ρ, qk_norm_fwd_reference_kept,
    fun m ρ _ => Cert.FinalLoss.Gen.frame m ρ, fun m ρ _ => Cert.FinalLossIdeal.Gen.frame m ρ, final_loss_reference_kept,
    fun m ρ _ => Cert.AdaBwd.Gen.frame m ρ, fun m ρ _ => Cert.AdaBwdIdeal.Gen.frame m ρ, ada_bwd_reference_kept,
    fun m ρ _ => Cert.AdaFwd.Gen.frame m ρ, fun m ρ _ => Cert.AdaFwdIdeal.Gen.frame m ρ, ada_fwd_reference_kept,
    fun m ρ _ => Cert.AdamW.Gen.frame m ρ, fun m ρ _ => Cert.AdamWIdeal.Gen.frame m ρ, adam_w_reference_kept,
    fun m ρ _ => Cert.AdamFfnIn.Gen.frame m ρ, fun m ρ _ => Cert.AdamFfnInIdeal.Gen.frame m ρ, adam_ffn_in_reference_kept,
    fun m ρ _ => Cert.AdamFfnOut.Gen.frame m ρ, fun m ρ _ => Cert.AdamFfnOutIdeal.Gen.frame m ρ, adam_ffn_out_reference_kept,
    fun m ρ _ => Cert.AdamMixIn.Gen.frame m ρ, fun m ρ _ => Cert.AdamMixInIdeal.Gen.frame m ρ, adam_mix_in_reference_kept,
    fun m ρ _ => Cert.AdamMixOut.Gen.frame m ρ, fun m ρ _ => Cert.AdamMixOutIdeal.Gen.frame m ρ, adam_mix_out_reference_kept,
    fun m ρ _ => Cert.AdamPool.Gen.frame m ρ, fun m ρ _ => Cert.AdamPoolIdeal.Gen.frame m ρ, adam_pool_reference_kept,
    fun m ρ _ => Cert.AdamSmall.Gen.frame m ρ, fun m ρ _ => Cert.AdamSmallIdeal.Gen.frame m ρ, adam_small_reference_kept,
    trivial, pool_algebraic,
    trivial, ffn_dwo_algebraic, trivial, ffn_down_bwd_algebraic, trivial, ffn_dwi_algebraic, trivial, ffn_dhm_algebraic, trivial, ffn_up_algebraic, trivial, ffn_down_algebraic, trivial, mix_dw_out_algebraic, trivial, mix_out_bwd_algebraic, trivial, mix_dw_in_algebraic, trivial, mix_out_algebraic, trivial, mix_proj_algebraic, trivial, mix_proj_bwd_algebraic, trivial, qk_norm_bwd_algebraic, trivial, attn_delta_algebraic, trivial, norm1_bwd_algebraic, trivial, norm2_bwd_algebraic, trivial, norm_fwd_algebraic, Cert.AttnFwdIdeal.Product.constants_named, attn_fwd_algebraic, trivial, norm3_bwd_algebraic, trivial, qk_norm_fwd_algebraic, trivial, final_loss_algebraic, trivial, ada_bwd_algebraic, trivial, ada_fwd_algebraic, trivial, adam_w_algebraic, trivial, adam_ffn_in_algebraic, trivial, adam_ffn_out_algebraic, trivial, adam_mix_in_algebraic, trivial, adam_mix_out_algebraic, trivial, adam_pool_algebraic, trivial, adam_small_algebraic⟩

end Cert.Proof

end
